-- ==== Defs.lean ====
def Pre_Lb (m : (ℓ : Loc Cert.Lb.nD Cert.Lb.τ Cert.Lb.sig) → Buf (Elt Bits) ℓ) : Prop :=
  True

def Pre_LbIdeal (m : (ℓ : Loc Cert.LbIdeal.nD Cert.LbIdeal.τ Cert.LbIdeal.sig) → Buf (Elt Ideal) ℓ) : Prop :=
  True

def Pre_LbIdeal_lb_finite [hPre_lb_finite : Cert.Pre_lb_finite.Facts] (m : (ℓ : Loc Cert.LbIdeal.nD Cert.LbIdeal.τ Cert.LbIdeal.sig) → Buf (Elt Ideal) ℓ) : Prop :=
  ∀ c : Dev Cert.LbIdeal.nD,
    (Cert.Pre_lb_finite.fn (F := Ideal) (m ((c.tc : Thread Cert.LbIdeal.nD Cert.LbIdeal.τ).loc Cert.LbIdeal.main_arg0)) (m ((c.tc : Thread Cert.LbIdeal.nD Cert.LbIdeal.τ).loc Cert.LbIdeal.main_arg1))).1 = (fun _ => 1#1)
    ∧ (Cert.Pre_lb_finite.fn (F := Ideal) (m ((c.tc : Thread Cert.LbIdeal.nD Cert.LbIdeal.τ).loc Cert.LbIdeal.main_arg0)) (m ((c.tc : Thread Cert.LbIdeal.nD Cert.LbIdeal.τ).loc Cert.LbIdeal.main_arg1))).2 = (fun _ => 1#1)

def Pre_LbRefIdeal (m : (ℓ : Loc Cert.LbRefIdeal.nD Cert.LbRefIdeal.τ Cert.LbRefIdeal.sig) → Buf (Elt Ideal) ℓ) : Prop :=
  True

def Pre_LbRefIdeal_lb_finite [hPre_lb_finite : Cert.Pre_lb_finite.Facts] (m : (ℓ : Loc Cert.LbRefIdeal.nD Cert.LbRefIdeal.τ Cert.LbRefIdeal.sig) → Buf (Elt Ideal) ℓ) : Prop :=
  ∀ c : Dev Cert.LbRefIdeal.nD,
    (Cert.Pre_lb_finite.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1))).1 = (fun _ => 1#1)
    ∧ (Cert.Pre_lb_finite.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1))).2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_out_finite [hPre_out_finite : Cert.Pre_out_finite.Facts] (m : (ℓ : Loc Cert.OutIdeal.nD Cert.OutIdeal.τ Cert.OutIdeal.sig) → Buf (Elt Ideal) ℓ) : Prop :=
  ∀ c : Dev Cert.OutIdeal.nD,
    (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2))).1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2))).2.1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2))).2.2 = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_out_finite [hPre_out_finite : Cert.Pre_out_finite.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2))).1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2))).2.1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2))).2.2 = (fun _ => 1#1)

def Pre_Dup (m : (ℓ : Loc Cert.Dup.nD Cert.Dup.τ Cert.Dup.sig) → Buf (Elt Bits) ℓ) : Prop :=
  True

def Pre_DupIdeal (m : (ℓ : Loc Cert.DupIdeal.nD Cert.DupIdeal.τ Cert.DupIdeal.sig) → Buf (Elt Ideal) ℓ) : Prop :=
  True

def Pre_DupIdeal_dup_finite [hPre_dup_finite : Cert.Pre_dup_finite.Facts] (m : (ℓ : Loc Cert.DupIdeal.nD Cert.DupIdeal.τ Cert.DupIdeal.sig) → Buf (Elt Ideal) ℓ) : Prop :=
  ∀ c : Dev Cert.DupIdeal.nD,
    (Cert.Pre_dup_finite.fn (F := Ideal) (m ((c.tc : Thread Cert.DupIdeal.nD Cert.DupIdeal.τ).loc Cert.DupIdeal.main_arg0)) (m ((c.tc : Thread Cert.DupIdeal.nD Cert.DupIdeal.τ).loc Cert.DupIdeal.main_arg1)) (m ((c.tc : Thread Cert.DupIdeal.nD Cert.DupIdeal.τ).loc Cert.DupIdeal.main_arg2)) (m ((c.tc : Thread Cert.DupIdeal.nD Cert.DupIdeal.τ).loc Cert.DupIdeal.main_arg3)) (m ((c.tc : Thread Cert.DupIdeal.nD Cert.DupIdeal.τ).loc Cert.DupIdeal.main_arg4))).1 = (fun _ => 1#1)
    ∧ (Cert.Pre_dup_finite.fn (F := Ideal) (m ((c.tc : Thread Cert.DupIdeal.nD Cert.DupIdeal.τ).loc Cert.DupIdeal.main_arg0)) (m ((c.tc : Thread Cert.DupIdeal.nD Cert.DupIdeal.τ).loc Cert.DupIdeal.main_arg1)) (m ((c.tc : Thread Cert.DupIdeal.nD Cert.DupIdeal.τ).loc Cert.DupIdeal.main_arg2)) (m ((c.tc : Thread Cert.DupIdeal.nD Cert.DupIdeal.τ).loc Cert.DupIdeal.main_arg3)) (m ((c.tc : Thread Cert.DupIdeal.nD Cert.DupIdeal.τ).loc Cert.DupIdeal.main_arg4))).2.1 = (fun _ => 1#1)
    ∧ (Cert.Pre_dup_finite.fn (F := Ideal) (m ((c.tc : Thread Cert.DupIdeal.nD Cert.DupIdeal.τ).loc Cert.DupIdeal.main_arg0)) (m ((c.tc : Thread Cert.DupIdeal.nD Cert.DupIdeal.τ).loc Cert.DupIdeal.main_arg1)) (m ((c.tc : Thread Cert.DupIdeal.nD Cert.DupIdeal.τ).loc Cert.DupIdeal.main_arg2)) (m ((c.tc : Thread Cert.DupIdeal.nD Cert.DupIdeal.τ).loc Cert.DupIdeal.main_arg3)) (m ((c.tc : Thread Cert.DupIdeal.nD Cert.DupIdeal.τ).loc Cert.DupIdeal.main_arg4))).2.2.1 = (fun _ => 1#1)
    ∧ (Cert.Pre_dup_finite.fn (F := Ideal) (m ((c.tc : Thread Cert.DupIdeal.nD Cert.DupIdeal.τ).loc Cert.DupIdeal.main_arg0)) (m ((c.tc : Thread Cert.DupIdeal.nD Cert.DupIdeal.τ).loc Cert.DupIdeal.main_arg1)) (m ((c.tc : Thread Cert.DupIdeal.nD Cert.DupIdeal.τ).loc Cert.DupIdeal.main_arg2)) (m ((c.tc : Thread Cert.DupIdeal.nD Cert.DupIdeal.τ).loc Cert.DupIdeal.main_arg3)) (m ((c.tc : Thread Cert.DupIdeal.nD Cert.DupIdeal.τ).loc Cert.DupIdeal.main_arg4))).2.2.2.1 = (fun _ => 1#1)
    ∧ (Cert.Pre_dup_finite.fn (F := Ideal) (m ((c.tc : Thread Cert.DupIdeal.nD Cert.DupIdeal.τ).loc Cert.DupIdeal.main_arg0)) (m ((c.tc : Thread Cert.DupIdeal.nD Cert.DupIdeal.τ).loc Cert.DupIdeal.main_arg1)) (m ((c.tc : Thread Cert.DupIdeal.nD Cert.DupIdeal.τ).loc Cert.DupIdeal.main_arg2)) (m ((c.tc : Thread Cert.DupIdeal.nD Cert.DupIdeal.τ).loc Cert.DupIdeal.main_arg3)) (m ((c.tc : Thread Cert.DupIdeal.nD Cert.DupIdeal.τ).loc Cert.DupIdeal.main_arg4))).2.2.2.2 = (fun _ => 1#1)

def Pre_DupRefIdeal (m : (ℓ : Loc Cert.DupRefIdeal.nD Cert.DupRefIdeal.τ Cert.DupRefIdeal.sig) → Buf (Elt Ideal) ℓ) : Prop :=
  True

def Pre_DupRefIdeal_dup_finite [hPre_dup_finite : Cert.Pre_dup_finite.Facts] (m : (ℓ : Loc Cert.DupRefIdeal.nD Cert.DupRefIdeal.τ Cert.DupRefIdeal.sig) → Buf (Elt Ideal) ℓ) : Prop :=
  ∀ c : Dev Cert.DupRefIdeal.nD,
    (Cert.Pre_dup_finite.fn (F := Ideal) (m ((c.tc : Thread Cert.DupRefIdeal.nD Cert.DupRefIdeal.τ).loc Cert.DupRefIdeal.main_arg0)) (m ((c.tc : Thread Cert.DupRefIdeal.nD Cert.DupRefIdeal.τ).loc Cert.DupRefIdeal.main_arg1)) (m ((c.tc : Thread Cert.DupRefIdeal.nD Cert.DupRefIdeal.τ).loc Cert.DupRefIdeal.main_arg2)) (m ((c.tc : Thread Cert.DupRefIdeal.nD Cert.DupRefIdeal.τ).loc Cert.DupRefIdeal.main_arg3)) (m ((c.tc : Thread Cert.DupRefIdeal.nD Cert.DupRefIdeal.τ).loc Cert.DupRefIdeal.main_arg4))).1 = (fun _ => 1#1)
    ∧ (Cert.Pre_dup_finite.fn (F := Ideal) (m ((c.tc : Thread Cert.DupRefIdeal.nD Cert.DupRefIdeal.τ).loc Cert.DupRefIdeal.main_arg0)) (m ((c.tc : Thread Cert.DupRefIdeal.nD Cert.DupRefIdeal.τ).loc Cert.DupRefIdeal.main_arg1)) (m ((c.tc : Thread Cert.DupRefIdeal.nD Cert.DupRefIdeal.τ).loc Cert.DupRefIdeal.main_arg2)) (m ((c.tc : Thread Cert.DupRefIdeal.nD Cert.DupRefIdeal.τ).loc Cert.DupRefIdeal.main_arg3)) (m ((c.tc : Thread Cert.DupRefIdeal.nD Cert.DupRefIdeal.τ).loc Cert.DupRefIdeal.main_arg4))).2.1 = (fun _ => 1#1)
    ∧ (Cert.Pre_dup_finite.fn (F := Ideal) (m ((c.tc : Thread Cert.DupRefIdeal.nD Cert.DupRefIdeal.τ).loc Cert.DupRefIdeal.main_arg0)) (m ((c.tc : Thread Cert.DupRefIdeal.nD Cert.DupRefIdeal.τ).loc Cert.DupRefIdeal.main_arg1)) (m ((c.tc : Thread Cert.DupRefIdeal.nD Cert.DupRefIdeal.τ).loc Cert.DupRefIdeal.main_arg2)) (m ((c.tc : Thread Cert.DupRefIdeal.nD Cert.DupRefIdeal.τ).loc Cert.DupRefIdeal.main_arg3)) (m ((c.tc : Thread Cert.DupRefIdeal.nD Cert.DupRefIdeal.τ).loc Cert.DupRefIdeal.main_arg4))).2.2.1 = (fun _ => 1#1)
    ∧ (Cert.Pre_dup_finite.fn (F := Ideal) (m ((c.tc : Thread Cert.DupRefIdeal.nD Cert.DupRefIdeal.τ).loc Cert.DupRefIdeal.main_arg0)) (m ((c.tc : Thread Cert.DupRefIdeal.nD Cert.DupRefIdeal.τ).loc Cert.DupRefIdeal.main_arg1)) (m ((c.tc : Thread Cert.DupRefIdeal.nD Cert.DupRefIdeal.τ).loc Cert.DupRefIdeal.main_arg2)) (m ((c.tc : Thread Cert.DupRefIdeal.nD Cert.DupRefIdeal.τ).loc Cert.DupRefIdeal.main_arg3)) (m ((c.tc : Thread Cert.DupRefIdeal.nD Cert.DupRefIdeal.τ).loc Cert.DupRefIdeal.main_arg4))).2.2.2.1 = (fun _ => 1#1)
    ∧ (Cert.Pre_dup_finite.fn (F := Ideal) (m ((c.tc : Thread Cert.DupRefIdeal.nD Cert.DupRefIdeal.τ).loc Cert.DupRefIdeal.main_arg0)) (m ((c.tc : Thread Cert.DupRefIdeal.nD Cert.DupRefIdeal.τ).loc Cert.DupRefIdeal.main_arg1)) (m ((c.tc : Thread Cert.DupRefIdeal.nD Cert.DupRefIdeal.τ).loc Cert.DupRefIdeal.main_arg2)) (m ((c.tc : Thread Cert.DupRefIdeal.nD Cert.DupRefIdeal.τ).loc Cert.DupRefIdeal.main_arg3)) (m ((c.tc : Thread Cert.DupRefIdeal.nD Cert.DupRefIdeal.τ).loc Cert.DupRefIdeal.main_arg4))).2.2.2.2 = (fun _ => 1#1)

def Pre_Din (m : (ℓ : Loc Cert.Din.nD Cert.Din.τ Cert.Din.sig) → Buf (Elt Bits) ℓ) : Prop :=
  True

def Pre_DinIdeal (m : (ℓ : Loc Cert.DinIdeal.nD Cert.DinIdeal.τ Cert.DinIdeal.sig) → Buf (Elt Ideal) ℓ) : Prop :=
  True

def Pre_DinIdeal_din_finite [hPre_din_finite : Cert.Pre_din_finite.Facts] (m : (ℓ : Loc Cert.DinIdeal.nD Cert.DinIdeal.τ Cert.DinIdeal.sig) → Buf (Elt Ideal) ℓ) : Prop :=
  ∀ c : Dev Cert.DinIdeal.nD,
    (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4))).1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4))).2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4))).2.2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4))).2.2.2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4))).2.2.2.2 = (fun _ => 1#1)

def Pre_DinRefIdeal (m : (ℓ : Loc Cert.DinRefIdeal.nD Cert.DinRefIdeal.τ Cert.DinRefIdeal.sig) → Buf (Elt Ideal) ℓ) : Prop :=
  True

def Pre_DinRefIdeal_din_finite [hPre_din_finite : Cert.Pre_din_finite.Facts] (m : (ℓ : Loc Cert.DinRefIdeal.nD Cert.DinRefIdeal.τ Cert.DinRefIdeal.sig) → Buf (Elt Ideal) ℓ) : Prop :=
  ∀ c : Dev Cert.DinRefIdeal.nD,
    (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4))).1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4))).2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4))).2.2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4))).2.2.2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4))).2.2.2.2 = (fun _ => 1#1)

def Pre_Ddown (m : (ℓ : Loc Cert.Ddown.nD Cert.Ddown.τ Cert.Ddown.sig) → Buf (Elt Bits) ℓ) : Prop :=
  True

def Pre_DdownIdeal (m : (ℓ : Loc Cert.DdownIdeal.nD Cert.DdownIdeal.τ Cert.DdownIdeal.sig) → Buf (Elt Ideal) ℓ) : Prop :=
  True

def Pre_DdownIdeal_ddown_finite [hPre_ddown_finite : Cert.Pre_ddown_finite.Facts] (m : (ℓ : Loc Cert.DdownIdeal.nD Cert.DdownIdeal.τ Cert.DdownIdeal.sig) → Buf (Elt Ideal) ℓ) : Prop :=
  ∀ c : Dev Cert.DdownIdeal.nD,
    (Cert.Pre_ddown_finite.fn (F := Ideal) (m ((c.tc : Thread Cert.DdownIdeal.nD Cert.DdownIdeal.τ).loc Cert.DdownIdeal.main_arg0)) (m ((c.tc : Thread Cert.DdownIdeal.nD Cert.DdownIdeal.τ).loc Cert.DdownIdeal.main_arg1)) (m ((c.tc : Thread Cert.DdownIdeal.nD Cert.DdownIdeal.τ).loc Cert.DdownIdeal.main_arg2)) (m ((c.tc : Thread Cert.DdownIdeal.nD Cert.DdownIdeal.τ).loc Cert.DdownIdeal.main_arg3))).1 = (fun _ => 1#1)
    ∧ (Cert.Pre_ddown_finite.fn (F := Ideal) (m ((c.tc : Thread Cert.DdownIdeal.nD Cert.DdownIdeal.τ).loc Cert.DdownIdeal.main_arg0)) (m ((c.tc : Thread Cert.DdownIdeal.nD Cert.DdownIdeal.τ).loc Cert.DdownIdeal.main_arg1)) (m ((c.tc : Thread Cert.DdownIdeal.nD Cert.DdownIdeal.τ).loc Cert.DdownIdeal.main_arg2)) (m ((c.tc : Thread Cert.DdownIdeal.nD Cert.DdownIdeal.τ).loc Cert.DdownIdeal.main_arg3))).2.1 = (fun _ => 1#1)
    ∧ (Cert.Pre_ddown_finite.fn (F := Ideal) (m ((c.tc : Thread Cert.DdownIdeal.nD Cert.DdownIdeal.τ).loc Cert.DdownIdeal.main_arg0)) (m ((c.tc : Thread Cert.DdownIdeal.nD Cert.DdownIdeal.τ).loc Cert.DdownIdeal.main_arg1)) (m ((c.tc : Thread Cert.DdownIdeal.nD Cert.DdownIdeal.τ).loc Cert.DdownIdeal.main_arg2)) (m ((c.tc : Thread Cert.DdownIdeal.nD Cert.DdownIdeal.τ).loc Cert.DdownIdeal.main_arg3))).2.2.1 = (fun _ => 1#1)
    ∧ (Cert.Pre_ddown_finite.fn (F := Ideal) (m ((c.tc : Thread Cert.DdownIdeal.nD Cert.DdownIdeal.τ).loc Cert.DdownIdeal.main_arg0)) (m ((c.tc : Thread Cert.DdownIdeal.nD Cert.DdownIdeal.τ).loc Cert.DdownIdeal.main_arg1)) (m ((c.tc : Thread Cert.DdownIdeal.nD Cert.DdownIdeal.τ).loc Cert.DdownIdeal.main_arg2)) (m ((c.tc : Thread Cert.DdownIdeal.nD Cert.DdownIdeal.τ).loc Cert.DdownIdeal.main_arg3))).2.2.2 = (fun _ => 1#1)

def Pre_DdownRefIdeal (m : (ℓ : Loc Cert.DdownRefIdeal.nD Cert.DdownRefIdeal.τ Cert.DdownRefIdeal.sig) → Buf (Elt Ideal) ℓ) : Prop :=
  True

def Pre_DdownRefIdeal_ddown_finite [hPre_ddown_finite : Cert.Pre_ddown_finite.Facts] (m : (ℓ : Loc Cert.DdownRefIdeal.nD Cert.DdownRefIdeal.τ Cert.DdownRefIdeal.sig) → Buf (Elt Ideal) ℓ) : Prop :=
  ∀ c : Dev Cert.DdownRefIdeal.nD,
    (Cert.Pre_ddown_finite.fn (F := Ideal) (m ((c.tc : Thread Cert.DdownRefIdeal.nD Cert.DdownRefIdeal.τ).loc Cert.DdownRefIdeal.main_arg0)) (m ((c.tc : Thread Cert.DdownRefIdeal.nD Cert.DdownRefIdeal.τ).loc Cert.DdownRefIdeal.main_arg1)) (m ((c.tc : Thread Cert.DdownRefIdeal.nD Cert.DdownRefIdeal.τ).loc Cert.DdownRefIdeal.main_arg2)) (m ((c.tc : Thread Cert.DdownRefIdeal.nD Cert.DdownRefIdeal.τ).loc Cert.DdownRefIdeal.main_arg3))).1 = (fun _ => 1#1)
    ∧ (Cert.Pre_ddown_finite.fn (F := Ideal) (m ((c.tc : Thread Cert.DdownRefIdeal.nD Cert.DdownRefIdeal.τ).loc Cert.DdownRefIdeal.main_arg0)) (m ((c.tc : Thread Cert.DdownRefIdeal.nD Cert.DdownRefIdeal.τ).loc Cert.DdownRefIdeal.main_arg1)) (m ((c.tc : Thread Cert.DdownRefIdeal.nD Cert.DdownRefIdeal.τ).loc Cert.DdownRefIdeal.main_arg2)) (m ((c.tc : Thread Cert.DdownRefIdeal.nD Cert.DdownRefIdeal.τ).loc Cert.DdownRefIdeal.main_arg3))).2.1 = (fun _ => 1#1)
    ∧ (Cert.Pre_ddown_finite.fn (F := Ideal) (m ((c.tc : Thread Cert.DdownRefIdeal.nD Cert.DdownRefIdeal.τ).loc Cert.DdownRefIdeal.main_arg0)) (m ((c.tc : Thread Cert.DdownRefIdeal.nD Cert.DdownRefIdeal.τ).loc Cert.DdownRefIdeal.main_arg1)) (m ((c.tc : Thread Cert.DdownRefIdeal.nD Cert.DdownRefIdeal.τ).loc Cert.DdownRefIdeal.main_arg2)) (m ((c.tc : Thread Cert.DdownRefIdeal.nD Cert.DdownRefIdeal.τ).loc Cert.DdownRefIdeal.main_arg3))).2.2.1 = (fun _ => 1#1)
    ∧ (Cert.Pre_ddown_finite.fn (F := Ideal) (m ((c.tc : Thread Cert.DdownRefIdeal.nD Cert.DdownRefIdeal.τ).loc Cert.DdownRefIdeal.main_arg0)) (m ((c.tc : Thread Cert.DdownRefIdeal.nD Cert.DdownRefIdeal.τ).loc Cert.DdownRefIdeal.main_arg1)) (m ((c.tc : Thread Cert.DdownRefIdeal.nD Cert.DdownRefIdeal.τ).loc Cert.DdownRefIdeal.main_arg2)) (m ((c.tc : Thread Cert.DdownRefIdeal.nD Cert.DdownRefIdeal.τ).loc Cert.DdownRefIdeal.main_arg3))).2.2.2 = (fun _ => 1#1)

def Pre_Mlado (m : (ℓ : Loc Cert.Mlado.nD Cert.Mlado.τ Cert.Mlado.sig) → Buf (Elt Bits) ℓ) : Prop :=
  True

def Pre_MladoIdeal (m : (ℓ : Loc Cert.MladoIdeal.nD Cert.MladoIdeal.τ Cert.MladoIdeal.sig) → Buf (Elt Ideal) ℓ) : Prop :=
  True

def Pre_MladoIdeal_mlado_finite [hPre_mlado_finite : Cert.Pre_mlado_finite.Facts] (m : (ℓ : Loc Cert.MladoIdeal.nD Cert.MladoIdeal.τ Cert.MladoIdeal.sig) → Buf (Elt Ideal) ℓ) : Prop :=
  ∀ c : Dev Cert.MladoIdeal.nD,
    (Cert.Pre_mlado_finite.fn (F := Ideal) (m ((c.tc : Thread Cert.MladoIdeal.nD Cert.MladoIdeal.τ).loc Cert.MladoIdeal.main_arg0)) (m ((c.tc : Thread Cert.MladoIdeal.nD Cert.MladoIdeal.τ).loc Cert.MladoIdeal.main_arg1)) (m ((c.tc : Thread Cert.MladoIdeal.nD Cert.MladoIdeal.τ).loc Cert.MladoIdeal.main_arg2)) (m ((c.tc : Thread Cert.MladoIdeal.nD Cert.MladoIdeal.τ).loc Cert.MladoIdeal.main_arg3))).1 = (fun _ => 1#1)
    ∧ (Cert.Pre_mlado_finite.fn (F := Ideal) (m ((c.tc : Thread Cert.MladoIdeal.nD Cert.MladoIdeal.τ).loc Cert.MladoIdeal.main_arg0)) (m ((c.tc : Thread Cert.MladoIdeal.nD Cert.MladoIdeal.τ).loc Cert.MladoIdeal.main_arg1)) (m ((c.tc : Thread Cert.MladoIdeal.nD Cert.MladoIdeal.τ).loc Cert.MladoIdeal.main_arg2)) (m ((c.tc : Thread Cert.MladoIdeal.nD Cert.MladoIdeal.τ).loc Cert.MladoIdeal.main_arg3))).2.1 = (fun _ => 1#1)
    ∧ (Cert.Pre_mlado_finite.fn (F := Ideal) (m ((c.tc : Thread Cert.MladoIdeal.nD Cert.MladoIdeal.τ).loc Cert.MladoIdeal.main_arg0)) (m ((c.tc : Thread Cert.MladoIdeal.nD Cert.MladoIdeal.τ).loc Cert.MladoIdeal.main_arg1)) (m ((c.tc : Thread Cert.MladoIdeal.nD Cert.MladoIdeal.τ).loc Cert.MladoIdeal.main_arg2)) (m ((c.tc : Thread Cert.MladoIdeal.nD Cert.MladoIdeal.τ).loc Cert.MladoIdeal.main_arg3))).2.2.1 = (fun _ => 1#1)
    ∧ (Cert.Pre_mlado_finite.fn (F := Ideal) (m ((c.tc : Thread Cert.MladoIdeal.nD Cert.MladoIdeal.τ).loc Cert.MladoIdeal.main_arg0)) (m ((c.tc : Thread Cert.MladoIdeal.nD Cert.MladoIdeal.τ).loc Cert.MladoIdeal.main_arg1)) (m ((c.tc : Thread Cert.MladoIdeal.nD Cert.MladoIdeal.τ).loc Cert.MladoIdeal.main_arg2)) (m ((c.tc : Thread Cert.MladoIdeal.nD Cert.MladoIdeal.τ).loc Cert.MladoIdeal.main_arg3))).2.2.2 = (fun _ => 1#1)

def Pre_MladoRefIdeal (m : (ℓ : Loc Cert.MladoRefIdeal.nD Cert.MladoRefIdeal.τ Cert.MladoRefIdeal.sig) → Buf (Elt Ideal) ℓ) : Prop :=
  True

def Pre_MladoRefIdeal_mlado_finite [hPre_mlado_finite : Cert.Pre_mlado_finite.Facts] (m : (ℓ : Loc Cert.MladoRefIdeal.nD Cert.MladoRefIdeal.τ Cert.MladoRefIdeal.sig) → Buf (Elt Ideal) ℓ) : Prop :=
  ∀ c : Dev Cert.MladoRefIdeal.nD,
    (Cert.Pre_mlado_finite.fn (F := Ideal) (m ((c.tc : Thread Cert.MladoRefIdeal.nD Cert.MladoRefIdeal.τ).loc Cert.MladoRefIdeal.main_arg0)) (m ((c.tc : Thread Cert.MladoRefIdeal.nD Cert.MladoRefIdeal.τ).loc Cert.MladoRefIdeal.main_arg1)) (m ((c.tc : Thread Cert.MladoRefIdeal.nD Cert.MladoRefIdeal.τ).loc Cert.MladoRefIdeal.main_arg2)) (m ((c.tc : Thread Cert.MladoRefIdeal.nD Cert.MladoRefIdeal.τ).loc Cert.MladoRefIdeal.main_arg3))).1 = (fun _ => 1#1)
    ∧ (Cert.Pre_mlado_finite.fn (F := Ideal) (m ((c.tc : Thread Cert.MladoRefIdeal.nD Cert.MladoRefIdeal.τ).loc Cert.MladoRefIdeal.main_arg0)) (m ((c.tc : Thread Cert.MladoRefIdeal.nD Cert.MladoRefIdeal.τ).loc Cert.MladoRefIdeal.main_arg1)) (m ((c.tc : Thread Cert.MladoRefIdeal.nD Cert.MladoRefIdeal.τ).loc Cert.MladoRefIdeal.main_arg2)) (m ((c.tc : Thread Cert.MladoRefIdeal.nD Cert.MladoRefIdeal.τ).loc Cert.MladoRefIdeal.main_arg3))).2.1 = (fun _ => 1#1)
    ∧ (Cert.Pre_mlado_finite.fn (F := Ideal) (m ((c.tc : Thread Cert.MladoRefIdeal.nD Cert.MladoRefIdeal.τ).loc Cert.MladoRefIdeal.main_arg0)) (m ((c.tc : Thread Cert.MladoRefIdeal.nD Cert.MladoRefIdeal.τ).loc Cert.MladoRefIdeal.main_arg1)) (m ((c.tc : Thread Cert.MladoRefIdeal.nD Cert.MladoRefIdeal.τ).loc Cert.MladoRefIdeal.main_arg2)) (m ((c.tc : Thread Cert.MladoRefIdeal.nD Cert.MladoRefIdeal.τ).loc Cert.MladoRefIdeal.main_arg3))).2.2.1 = (fun _ => 1#1)
    ∧ (Cert.Pre_mlado_finite.fn (F := Ideal) (m ((c.tc : Thread Cert.MladoRefIdeal.nD Cert.MladoRefIdeal.τ).loc Cert.MladoRefIdeal.main_arg0)) (m ((c.tc : Thread Cert.MladoRefIdeal.nD Cert.MladoRefIdeal.τ).loc Cert.MladoRefIdeal.main_arg1)) (m ((c.tc : Thread Cert.MladoRefIdeal.nD Cert.MladoRefIdeal.τ).loc Cert.MladoRefIdeal.main_arg2)) (m ((c.tc : Thread Cert.MladoRefIdeal.nD Cert.MladoRefIdeal.τ).loc Cert.MladoRefIdeal.main_arg3))).2.2.2 = (fun _ => 1#1)

def Pre_Hgdo (m : (ℓ : Loc Cert.Hgdo.nD Cert.Hgdo.τ Cert.Hgdo.sig) → Buf (Elt Bits) ℓ) : Prop :=
  True

def Pre_HgdoIdeal (m : (ℓ : Loc Cert.HgdoIdeal.nD Cert.HgdoIdeal.τ Cert.HgdoIdeal.sig) → Buf (Elt Ideal) ℓ) : Prop :=
  True

def Pre_HgdoIdeal_hgdo_finite [hPre_hgdo_finite : Cert.Pre_hgdo_finite.Facts] (m : (ℓ : Loc Cert.HgdoIdeal.nD Cert.HgdoIdeal.τ Cert.HgdoIdeal.sig) → Buf (Elt Ideal) ℓ) : Prop :=
  ∀ c : Dev Cert.HgdoIdeal.nD,
    (Cert.Pre_hgdo_finite.fn (F := Ideal) (m ((c.tc : Thread Cert.HgdoIdeal.nD Cert.HgdoIdeal.τ).loc Cert.HgdoIdeal.main_arg0)) (m ((c.tc : Thread Cert.HgdoIdeal.nD Cert.HgdoIdeal.τ).loc Cert.HgdoIdeal.main_arg1)) (m ((c.tc : Thread Cert.HgdoIdeal.nD Cert.HgdoIdeal.τ).loc Cert.HgdoIdeal.main_arg2)) (m ((c.tc : Thread Cert.HgdoIdeal.nD Cert.HgdoIdeal.τ).loc Cert.HgdoIdeal.main_arg3))).1 = (fun _ => 1#1)
    ∧ (Cert.Pre_hgdo_finite.fn (F := Ideal) (m ((c.tc : Thread Cert.HgdoIdeal.nD Cert.HgdoIdeal.τ).loc Cert.HgdoIdeal.main_arg0)) (m ((c.tc : Thread Cert.HgdoIdeal.nD Cert.HgdoIdeal.τ).loc Cert.HgdoIdeal.main_arg1)) (m ((c.tc : Thread Cert.HgdoIdeal.nD Cert.HgdoIdeal.τ).loc Cert.HgdoIdeal.main_arg2)) (m ((c.tc : Thread Cert.HgdoIdeal.nD Cert.HgdoIdeal.τ).loc Cert.HgdoIdeal.main_arg3))).2.1 = (fun _ => 1#1)
    ∧ (Cert.Pre_hgdo_finite.fn (F := Ideal) (m ((c.tc : Thread Cert.HgdoIdeal.nD Cert.HgdoIdeal.τ).loc Cert.HgdoIdeal.main_arg0)) (m ((c.tc : Thread Cert.HgdoIdeal.nD Cert.HgdoIdeal.τ).loc Cert.HgdoIdeal.main_arg1)) (m ((c.tc : Thread Cert.HgdoIdeal.nD Cert.HgdoIdeal.τ).loc Cert.HgdoIdeal.main_arg2)) (m ((c.tc : Thread Cert.HgdoIdeal.nD Cert.HgdoIdeal.τ).loc Cert.HgdoIdeal.main_arg3))).2.2.1 = (fun _ => 1#1)
    ∧ (Cert.Pre_hgdo_finite.fn (F := Ideal) (m ((c.tc : Thread Cert.HgdoIdeal.nD Cert.HgdoIdeal.τ).loc Cert.HgdoIdeal.main_arg0)) (m ((c.tc : Thread Cert.HgdoIdeal.nD Cert.HgdoIdeal.τ).loc Cert.HgdoIdeal.main_arg1)) (m ((c.tc : Thread Cert.HgdoIdeal.nD Cert.HgdoIdeal.τ).loc Cert.HgdoIdeal.main_arg2)) (m ((c.tc : Thread Cert.HgdoIdeal.nD Cert.HgdoIdeal.τ).loc Cert.HgdoIdeal.main_arg3))).2.2.2 = (fun _ => 1#1)

def Pre_HgdoRefIdeal (m : (ℓ : Loc Cert.HgdoRefIdeal.nD Cert.HgdoRefIdeal.τ Cert.HgdoRefIdeal.sig) → Buf (Elt Ideal) ℓ) : Prop :=
  True

def Pre_HgdoRefIdeal_hgdo_finite [hPre_hgdo_finite : Cert.Pre_hgdo_finite.Facts] (m : (ℓ : Loc Cert.HgdoRefIdeal.nD Cert.HgdoRefIdeal.τ Cert.HgdoRefIdeal.sig) → Buf (Elt Ideal) ℓ) : Prop :=
  ∀ c : Dev Cert.HgdoRefIdeal.nD,
    (Cert.Pre_hgdo_finite.fn (F := Ideal) (m ((c.tc : Thread Cert.HgdoRefIdeal.nD Cert.HgdoRefIdeal.τ).loc Cert.HgdoRefIdeal.main_arg0)) (m ((c.tc : Thread Cert.HgdoRefIdeal.nD Cert.HgdoRefIdeal.τ).loc Cert.HgdoRefIdeal.main_arg1)) (m ((c.tc : Thread Cert.HgdoRefIdeal.nD Cert.HgdoRefIdeal.τ).loc Cert.HgdoRefIdeal.main_arg2)) (m ((c.tc : Thread Cert.HgdoRefIdeal.nD Cert.HgdoRefIdeal.τ).loc Cert.HgdoRefIdeal.main_arg3))).1 = (fun _ => 1#1)
    ∧ (Cert.Pre_hgdo_finite.fn (F := Ideal) (m ((c.tc : Thread Cert.HgdoRefIdeal.nD Cert.HgdoRefIdeal.τ).loc Cert.HgdoRefIdeal.main_arg0)) (m ((c.tc : Thread Cert.HgdoRefIdeal.nD Cert.HgdoRefIdeal.τ).loc Cert.HgdoRefIdeal.main_arg1)) (m ((c.tc : Thread Cert.HgdoRefIdeal.nD Cert.HgdoRefIdeal.τ).loc Cert.HgdoRefIdeal.main_arg2)) (m ((c.tc : Thread Cert.HgdoRefIdeal.nD Cert.HgdoRefIdeal.τ).loc Cert.HgdoRefIdeal.main_arg3))).2.1 = (fun _ => 1#1)
    ∧ (Cert.Pre_hgdo_finite.fn (F := Ideal) (m ((c.tc : Thread Cert.HgdoRefIdeal.nD Cert.HgdoRefIdeal.τ).loc Cert.HgdoRefIdeal.main_arg0)) (m ((c.tc : Thread Cert.HgdoRefIdeal.nD Cert.HgdoRefIdeal.τ).loc Cert.HgdoRefIdeal.main_arg1)) (m ((c.tc : Thread Cert.HgdoRefIdeal.nD Cert.HgdoRefIdeal.τ).loc Cert.HgdoRefIdeal.main_arg2)) (m ((c.tc : Thread Cert.HgdoRefIdeal.nD Cert.HgdoRefIdeal.τ).loc Cert.HgdoRefIdeal.main_arg3))).2.2.1 = (fun _ => 1#1)
    ∧ (Cert.Pre_hgdo_finite.fn (F := Ideal) (m ((c.tc : Thread Cert.HgdoRefIdeal.nD Cert.HgdoRefIdeal.τ).loc Cert.HgdoRefIdeal.main_arg0)) (m ((c.tc : Thread Cert.HgdoRefIdeal.nD Cert.HgdoRefIdeal.τ).loc Cert.HgdoRefIdeal.main_arg1)) (m ((c.tc : Thread Cert.HgdoRefIdeal.nD Cert.HgdoRefIdeal.τ).loc Cert.HgdoRefIdeal.main_arg2)) (m ((c.tc : Thread Cert.HgdoRefIdeal.nD Cert.HgdoRefIdeal.τ).loc Cert.HgdoRefIdeal.main_arg3))).2.2.2 = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_mid_finite [hPre_mid_finite : Cert.Pre_mid_finite.Facts] (m : (ℓ : Loc Cert.MidIdeal.nD Cert.MidIdeal.τ Cert.MidIdeal.sig) → Buf (Elt Ideal) ℓ) : Prop :=
  ∀ c : Dev Cert.MidIdeal.nD,
    (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.2.2.2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_mid_finite [hPre_mid_finite : Cert.Pre_mid_finite.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Bounds (m : (ℓ : Loc Cert.Bounds.nD Cert.Bounds.τ Cert.Bounds.sig) → Buf (Elt Bits) ℓ) : Prop :=
  True

def Pre_BoundsIdeal (m : (ℓ : Loc Cert.BoundsIdeal.nD Cert.BoundsIdeal.τ Cert.BoundsIdeal.sig) → Buf (Elt Ideal) ℓ) : Prop :=
  True

def Pre_BoundsIdeal_bounds_finite [hPre_bounds_finite : Cert.Pre_bounds_finite.Facts] (m : (ℓ : Loc Cert.BoundsIdeal.nD Cert.BoundsIdeal.τ Cert.BoundsIdeal.sig) → Buf (Elt Ideal) ℓ) : Prop :=
  ∀ c : Dev Cert.BoundsIdeal.nD,
    (Cert.Pre_bounds_finite.fn (F := Ideal) (m ((c.tc : Thread Cert.BoundsIdeal.nD Cert.BoundsIdeal.τ).loc Cert.BoundsIdeal.main_arg0))) = (fun _ => 1#1)

def Pre_BoundsRefIdeal (m : (ℓ : Loc Cert.BoundsRefIdeal.nD Cert.BoundsRefIdeal.τ Cert.BoundsRefIdeal.sig) → Buf (Elt Ideal) ℓ) : Prop :=
  True

def Pre_BoundsRefIdeal_bounds_finite [hPre_bounds_finite : Cert.Pre_bounds_finite.Facts] (m : (ℓ : Loc Cert.BoundsRefIdeal.nD Cert.BoundsRefIdeal.τ Cert.BoundsRefIdeal.sig) → Buf (Elt Ideal) ℓ) : Prop :=
  ∀ c : Dev Cert.BoundsRefIdeal.nD,
    (Cert.Pre_bounds_finite.fn (F := Ideal) (m ((c.tc : Thread Cert.BoundsRefIdeal.nD Cert.BoundsRefIdeal.τ).loc Cert.BoundsRefIdeal.main_arg0))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Min (m : (ℓ : Loc Cert.Min.nD Cert.Min.τ Cert.Min.sig) → Buf (Elt Bits) ℓ) : Prop :=
  True

def Pre_MinIdeal (m : (ℓ : Loc Cert.MinIdeal.nD Cert.MinIdeal.τ Cert.MinIdeal.sig) → Buf (Elt Ideal) ℓ) : Prop :=
  True

def Pre_MinRefIdeal (m : (ℓ : Loc Cert.MinRefIdeal.nD Cert.MinRefIdeal.τ Cert.MinRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def quiescent_Lb [hLb : Cert.Lb.Facts] : Prop :=
  ∀ (m : (ℓ : Loc Cert.Lb.nD Cert.Lb.τ Cert.Lb.sig) → Buf (Elt Bits) ℓ) (g : Dev Cert.Lb.nD → PrngReg), Pre_Lb m →
    θ_run (Cert.Lb.defs (F := Bits)) (onTc (τ := Cert.Lb.τ) (Cert.Lb.main (F := Bits))) ⟨m, fun _ => 0, g⟩ (fun r => (∀ c : Dev Cert.Lb.nD,
      r.2.mem ((c.tc : Thread Cert.Lb.nD Cert.Lb.τ).loc Cert.Lb.main_arg0) = m ((c.tc : Thread Cert.Lb.nD Cert.Lb.τ).loc Cert.Lb.main_arg0)
      ∧ r.2.mem ((c.tc : Thread Cert.Lb.nD Cert.Lb.τ).loc Cert.Lb.main_arg1) = m ((c.tc : Thread Cert.Lb.nD Cert.Lb.τ).loc Cert.Lb.main_arg1))
      ∧ r.2.sem = fun _ => 0)

def quiescent_LbIdeal [hLbIdeal : Cert.LbIdeal.Facts] : Prop :=
  ∀ (m : (ℓ : Loc Cert.LbIdeal.nD Cert.LbIdeal.τ Cert.LbIdeal.sig) → Buf (Elt Ideal) ℓ) (g : Dev Cert.LbIdeal.nD → PrngReg), Pre_LbIdeal m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0)
      ∧ r.2.mem ((c.tc : Thread Cert.LbIdeal.nD Cert.LbIdeal.τ).loc Cert.LbIdeal.main_arg1) = m ((c.tc : Thread Cert.LbIdeal.nD Cert.LbIdeal.τ).loc Cert.LbIdeal.main_arg1))
      ∧ r.2.sem = fun _ => 0)

def quiescent_LbIdeal_pre_lb_finite [hLbIdeal : Cert.LbIdeal.Facts] [hPre_lb_finite : Cert.Pre_lb_finite.Facts] : Prop :=
  ∀ (m : (ℓ : Loc Cert.LbIdeal.nD Cert.LbIdeal.τ Cert.LbIdeal.sig) → Buf (Elt Ideal) ℓ) (g : Dev Cert.LbIdeal.nD → PrngReg), Pre_LbIdeal_lb_finite m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0)
      ∧ r.2.mem ((c.tc : Thread Cert.LbIdeal.nD Cert.LbIdeal.τ).loc Cert.LbIdeal.main_arg1) = m ((c.tc : Thread Cert.LbIdeal.nD Cert.LbIdeal.τ).loc Cert.LbIdeal.main_arg1))
      ∧ r.2.sem = fun _ => 0)

def quiescent_LbRefIdeal [hLbRefIdeal : Cert.LbRefIdeal.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0)
      ∧ r.2.mem ((c.tc : Thread Cert.LbRefIdeal.nD Cert.LbRefIdeal.τ).loc Cert.LbRefIdeal.main_arg1) = m ((c.tc : Thread Cert.LbRefIdeal.nD Cert.LbRefIdeal.τ).loc Cert.LbRefIdeal.main_arg1))
      ∧ r.2.sem = fun _ => 0)

def quiescent_LbRefIdeal_pre_lb_finite [hLbRefIdeal : Cert.LbRefIdeal.Facts] [hPre_lb_finite : Cert.Pre_lb_finite.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal_lb_finite m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0)
      ∧ r.2.mem ((c.tc : Thread Cert.LbRefIdeal.nD Cert.LbRefIdeal.τ).loc Cert.LbRefIdeal.main_arg1) = m ((c.tc : Thread Cert.LbRefIdeal.nD Cert.LbRefIdeal.τ).loc Cert.LbRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutIdeal_pre_out_finite [hOutIdeal : Cert.OutIdeal.Facts] [hPre_out_finite : Cert.Pre_out_finite.Facts] : Prop :=
  ∀ (m : (ℓ : Loc Cert.OutIdeal.nD Cert.OutIdeal.τ Cert.OutIdeal.sig) → Buf (Elt Ideal) ℓ) (g : Dev Cert.OutIdeal.nD → PrngReg), Pre_OutIdeal_out_finite m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutRefIdeal_pre_out_finite [hOutRefIdeal : Cert.OutRefIdeal.Facts] [hPre_out_finite : Cert.Pre_out_finite.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_out_finite m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Dup [hDup : Cert.Dup.Facts] : Prop :=
  ∀ (m : (ℓ : Loc Cert.Dup.nD Cert.Dup.τ Cert.Dup.sig) → Buf (Elt Bits) ℓ) (g : Dev Cert.Dup.nD → PrngReg), Pre_Dup m →
    θ_run (Cert.Dup.defs (F := Bits)) (onTc (τ := Cert.Dup.τ) (Cert.Dup.main (F := Bits))) ⟨m, fun _ => 0, g⟩ (fun r => (∀ c : Dev Cert.Dup.nD,
      r.2.mem ((c.tc : Thread Cert.Dup.nD Cert.Dup.τ).loc Cert.Dup.main_arg0) = m ((c.tc : Thread Cert.Dup.nD Cert.Dup.τ).loc Cert.Dup.main_arg0)
      ∧ r.2.mem ((c.tc : Thread Cert.Dup.nD Cert.Dup.τ).loc Cert.Dup.main_arg1) = m ((c.tc : Thread Cert.Dup.nD Cert.Dup.τ).loc Cert.Dup.main_arg1)
      ∧ r.2.mem ((c.tc : Thread Cert.Dup.nD Cert.Dup.τ).loc Cert.Dup.main_arg2) = m ((c.tc : Thread Cert.Dup.nD Cert.Dup.τ).loc Cert.Dup.main_arg2)
      ∧ r.2.mem ((c.tc : Thread Cert.Dup.nD Cert.Dup.τ).loc Cert.Dup.main_arg3) = m ((c.tc : Thread Cert.Dup.nD Cert.Dup.τ).loc Cert.Dup.main_arg3)
      ∧ r.2.mem ((c.tc : Thread Cert.Dup.nD Cert.Dup.τ).loc Cert.Dup.main_arg4) = m ((c.tc : Thread Cert.Dup.nD Cert.Dup.τ).loc Cert.Dup.main_arg4))
      ∧ r.2.sem = fun _ => 0)

def quiescent_DupIdeal [hDupIdeal : Cert.DupIdeal.Facts] : Prop :=
  ∀ (m : (ℓ : Loc Cert.DupIdeal.nD Cert.DupIdeal.τ Cert.DupIdeal.sig) → Buf (Elt Ideal) ℓ) (g : Dev Cert.DupIdeal.nD → PrngReg), Pre_DupIdeal m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
      ∧ r.2.mem ((c.tc : Thread Cert.DupIdeal.nD Cert.DupIdeal.τ).loc Cert.DupIdeal.main_arg2) = m ((c.tc : Thread Cert.DupIdeal.nD Cert.DupIdeal.τ).loc Cert.DupIdeal.main_arg2)
      ∧ r.2.mem ((c.tc : Thread Cert.DupIdeal.nD Cert.DupIdeal.τ).loc Cert.DupIdeal.main_arg3) = m ((c.tc : Thread Cert.DupIdeal.nD Cert.DupIdeal.τ).loc Cert.DupIdeal.main_arg3)
      ∧ r.2.mem ((c.tc : Thread Cert.DupIdeal.nD Cert.DupIdeal.τ).loc Cert.DupIdeal.main_arg4) = m ((c.tc : Thread Cert.DupIdeal.nD Cert.DupIdeal.τ).loc Cert.DupIdeal.main_arg4))
      ∧ r.2.sem = fun _ => 0)

def quiescent_DupIdeal_pre_dup_finite [hDupIdeal : Cert.DupIdeal.Facts] [hPre_dup_finite : Cert.Pre_dup_finite.Facts] : Prop :=
  ∀ (m : (ℓ : Loc Cert.DupIdeal.nD Cert.DupIdeal.τ Cert.DupIdeal.sig) → Buf (Elt Ideal) ℓ) (g : Dev Cert.DupIdeal.nD → PrngReg), Pre_DupIdeal_dup_finite m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
      ∧ r.2.mem ((c.tc : Thread Cert.DupIdeal.nD Cert.DupIdeal.τ).loc Cert.DupIdeal.main_arg2) = m ((c.tc : Thread Cert.DupIdeal.nD Cert.DupIdeal.τ).loc Cert.DupIdeal.main_arg2)
      ∧ r.2.mem ((c.tc : Thread Cert.DupIdeal.nD Cert.DupIdeal.τ).loc Cert.DupIdeal.main_arg3) = m ((c.tc : Thread Cert.DupIdeal.nD Cert.DupIdeal.τ).loc Cert.DupIdeal.main_arg3)
      ∧ r.2.mem ((c.tc : Thread Cert.DupIdeal.nD Cert.DupIdeal.τ).loc Cert.DupIdeal.main_arg4) = m ((c.tc : Thread Cert.DupIdeal.nD Cert.DupIdeal.τ).loc Cert.DupIdeal.main_arg4))
      ∧ r.2.sem = fun _ => 0)

def quiescent_DupRefIdeal [hDupRefIdeal : Cert.DupRefIdeal.Facts] : Prop :=
  ∀ (m : (ℓ : Loc Cert.DupRefIdeal.nD Cert.DupRefIdeal.τ Cert.DupRefIdeal.sig) → Buf (Elt Ideal) ℓ) (g : Dev Cert.DupRefIdeal.nD → PrngReg), Pre_DupRefIdeal m →
    θ_run (Cert.DupRefIdeal.defs (F := Ideal)) (onTc (τ := Cert.DupRefIdeal.τ) (Cert.DupRefIdeal.main (F := Ideal))) ⟨m, fun _ => 0, g⟩ (fun r => (∀ c : Dev Cert.DupRefIdeal.nD,
      r.2.mem ((c.tc : Thread Cert.DupRefIdeal.nD Cert.DupRefIdeal.τ).loc Cert.DupRefIdeal.main_arg0) = m ((c.tc : Thread Cert.DupRefIdeal.nD Cert.DupRefIdeal.τ).loc Cert.DupRefIdeal.main_arg0)
      ∧ r.2.mem ((c.tc : Thread Cert.DupRefIdeal.nD Cert.DupRefIdeal.τ).loc Cert.DupRefIdeal.main_arg1) = m ((c.tc : Thread Cert.DupRefIdeal.nD Cert.DupRefIdeal.τ).loc Cert.DupRefIdeal.main_arg1)
      ∧ r.2.mem ((c.tc : Thread Cert.DupRefIdeal.nD Cert.DupRefIdeal.τ).loc Cert.DupRefIdeal.main_arg2) = m ((c.tc : Thread Cert.DupRefIdeal.nD Cert.DupRefIdeal.τ).loc Cert.DupRefIdeal.main_arg2)
      ∧ r.2.mem ((c.tc : Thread Cert.DupRefIdeal.nD Cert.DupRefIdeal.τ).loc Cert.DupRefIdeal.main_arg3) = m ((c.tc : Thread Cert.DupRefIdeal.nD Cert.DupRefIdeal.τ).loc Cert.DupRefIdeal.main_arg3)
      ∧ r.2.mem ((c.tc : Thread Cert.DupRefIdeal.nD Cert.DupRefIdeal.τ).loc Cert.DupRefIdeal.main_arg4) = m ((c.tc : Thread Cert.DupRefIdeal.nD Cert.DupRefIdeal.τ).loc Cert.DupRefIdeal.main_arg4))
      ∧ r.2.sem = fun _ => 0)

def quiescent_DupRefIdeal_pre_dup_finite [hDupRefIdeal : Cert.DupRefIdeal.Facts] [hPre_dup_finite : Cert.Pre_dup_finite.Facts] : Prop :=
  ∀ (m : (ℓ : Loc Cert.DupRefIdeal.nD Cert.DupRefIdeal.τ Cert.DupRefIdeal.sig) → Buf (Elt Ideal) ℓ) (g : Dev Cert.DupRefIdeal.nD → PrngReg), Pre_DupRefIdeal_dup_finite m →
    θ_run (Cert.DupRefIdeal.defs (F := Ideal)) (onTc (τ := Cert.DupRefIdeal.τ) (Cert.DupRefIdeal.main (F := Ideal))) ⟨m, fun _ => 0, g⟩ (fun r => (∀ c : Dev Cert.DupRefIdeal.nD,
      r.2.mem ((c.tc : Thread Cert.DupRefIdeal.nD Cert.DupRefIdeal.τ).loc Cert.DupRefIdeal.main_arg0) = m ((c.tc : Thread Cert.DupRefIdeal.nD Cert.DupRefIdeal.τ).loc Cert.DupRefIdeal.main_arg0)
      ∧ r.2.mem ((c.tc : Thread Cert.DupRefIdeal.nD Cert.DupRefIdeal.τ).loc Cert.DupRefIdeal.main_arg1) = m ((c.tc : Thread Cert.DupRefIdeal.nD Cert.DupRefIdeal.τ).loc Cert.DupRefIdeal.main_arg1)
      ∧ r.2.mem ((c.tc : Thread Cert.DupRefIdeal.nD Cert.DupRefIdeal.τ).loc Cert.DupRefIdeal.main_arg2) = m ((c.tc : Thread Cert.DupRefIdeal.nD Cert.DupRefIdeal.τ).loc Cert.DupRefIdeal.main_arg2)
      ∧ r.2.mem ((c.tc : Thread Cert.DupRefIdeal.nD Cert.DupRefIdeal.τ).loc Cert.DupRefIdeal.main_arg3) = m ((c.tc : Thread Cert.DupRefIdeal.nD Cert.DupRefIdeal.τ).loc Cert.DupRefIdeal.main_arg3)
      ∧ r.2.mem ((c.tc : Thread Cert.DupRefIdeal.nD Cert.DupRefIdeal.τ).loc Cert.DupRefIdeal.main_arg4) = m ((c.tc : Thread Cert.DupRefIdeal.nD Cert.DupRefIdeal.τ).loc Cert.DupRefIdeal.main_arg4))
      ∧ r.2.sem = fun _ => 0)

def quiescent_Din [hDin : Cert.Din.Facts] : Prop :=
  ∀ (m : (ℓ : Loc Cert.Din.nD Cert.Din.τ Cert.Din.sig) → Buf (Elt Bits) ℓ) (g : Dev Cert.Din.nD → PrngReg), Pre_Din m →
    θ_run (Cert.Din.defs (F := Bits)) (onTc (τ := Cert.Din.τ) (Cert.Din.main (F := Bits))) ⟨m, fun _ => 0, g⟩ (fun r => (∀ c : Dev Cert.Din.nD,
      r.2.mem ((c.tc : Thread Cert.Din.nD Cert.Din.τ).loc Cert.Din.main_arg0) = m ((c.tc : Thread Cert.Din.nD Cert.Din.τ).loc Cert.Din.main_arg0)
      ∧ r.2.mem ((c.tc : Thread Cert.Din.nD Cert.Din.τ).loc Cert.Din.main_arg1) = m ((c.tc : Thread Cert.Din.nD Cert.Din.τ).loc Cert.Din.main_arg1)
      ∧ r.2.mem ((c.tc : Thread Cert.Din.nD Cert.Din.τ).loc Cert.Din.main_arg2) = m ((c.tc : Thread Cert.Din.nD Cert.Din.τ).loc Cert.Din.main_arg2)
      ∧ r.2.mem ((c.tc : Thread Cert.Din.nD Cert.Din.τ).loc Cert.Din.main_arg3) = m ((c.tc : Thread Cert.Din.nD Cert.Din.τ).loc Cert.Din.main_arg3)
      ∧ r.2.mem ((c.tc : Thread Cert.Din.nD Cert.Din.τ).loc Cert.Din.main_arg4) = m ((c.tc : Thread Cert.Din.nD Cert.Din.τ).loc Cert.Din.main_arg4))
      ∧ r.2.sem = fun _ => 0)

def quiescent_DinIdeal [hDinIdeal : Cert.DinIdeal.Facts] : Prop :=
  ∀ (m : (ℓ : Loc Cert.DinIdeal.nD Cert.DinIdeal.τ Cert.DinIdeal.sig) → Buf (Elt Ideal) ℓ) (g : Dev Cert.DinIdeal.nD → PrngReg), Pre_DinIdeal m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
      ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
      ∧ r.2.mem ((c.tc : Thread Cert.DinIdeal.nD Cert.DinIdeal.τ).loc Cert.DinIdeal.main_arg4) = m ((c.tc : Thread Cert.DinIdeal.nD Cert.DinIdeal.τ).loc Cert.DinIdeal.main_arg4))
      ∧ r.2.sem = fun _ => 0)

def quiescent_DinIdeal_pre_din_finite [hDinIdeal : Cert.DinIdeal.Facts] [hPre_din_finite : Cert.Pre_din_finite.Facts] : Prop :=
  ∀ (m : (ℓ : Loc Cert.DinIdeal.nD Cert.DinIdeal.τ Cert.DinIdeal.sig) → Buf (Elt Ideal) ℓ) (g : Dev Cert.DinIdeal.nD → PrngReg), Pre_DinIdeal_din_finite m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
      ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
      ∧ r.2.mem ((c.tc : Thread Cert.DinIdeal.nD Cert.DinIdeal.τ).loc Cert.DinIdeal.main_arg4) = m ((c.tc : Thread Cert.DinIdeal.nD Cert.DinIdeal.τ).loc Cert.DinIdeal.main_arg4))
      ∧ r.2.sem = fun _ => 0)

def quiescent_DinRefIdeal [hDinRefIdeal : Cert.DinRefIdeal.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1)
      ∧ r.2.mem ((c.tc : Thread Cert.DinRefIdeal.nD Cert.DinRefIdeal.τ).loc Cert.DinRefIdeal.main_arg2) = m ((c.tc : Thread Cert.DinRefIdeal.nD Cert.DinRefIdeal.τ).loc Cert.DinRefIdeal.main_arg2)
      ∧ r.2.mem ((c.tc : Thread Cert.DinRefIdeal.nD Cert.DinRefIdeal.τ).loc Cert.DinRefIdeal.main_arg3) = m ((c.tc : Thread Cert.DinRefIdeal.nD Cert.DinRefIdeal.τ).loc Cert.DinRefIdeal.main_arg3)
      ∧ r.2.mem ((c.tc : Thread Cert.DinRefIdeal.nD Cert.DinRefIdeal.τ).loc Cert.DinRefIdeal.main_arg4) = m ((c.tc : Thread Cert.DinRefIdeal.nD Cert.DinRefIdeal.τ).loc Cert.DinRefIdeal.main_arg4))
      ∧ r.2.sem = fun _ => 0)

def quiescent_DinRefIdeal_pre_din_finite [hDinRefIdeal : Cert.DinRefIdeal.Facts] [hPre_din_finite : Cert.Pre_din_finite.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal_din_finite m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1)
      ∧ r.2.mem ((c.tc : Thread Cert.DinRefIdeal.nD Cert.DinRefIdeal.τ).loc Cert.DinRefIdeal.main_arg2) = m ((c.tc : Thread Cert.DinRefIdeal.nD Cert.DinRefIdeal.τ).loc Cert.DinRefIdeal.main_arg2)
      ∧ r.2.mem ((c.tc : Thread Cert.DinRefIdeal.nD Cert.DinRefIdeal.τ).loc Cert.DinRefIdeal.main_arg3) = m ((c.tc : Thread Cert.DinRefIdeal.nD Cert.DinRefIdeal.τ).loc Cert.DinRefIdeal.main_arg3)
      ∧ r.2.mem ((c.tc : Thread Cert.DinRefIdeal.nD Cert.DinRefIdeal.τ).loc Cert.DinRefIdeal.main_arg4) = m ((c.tc : Thread Cert.DinRefIdeal.nD Cert.DinRefIdeal.τ).loc Cert.DinRefIdeal.main_arg4))
      ∧ r.2.sem = fun _ => 0)

def quiescent_Ddown [hDdown : Cert.Ddown.Facts] : Prop :=
  ∀ (m : (ℓ : Loc Cert.Ddown.nD Cert.Ddown.τ Cert.Ddown.sig) → Buf (Elt Bits) ℓ) (g : Dev Cert.Ddown.nD → PrngReg), Pre_Ddown m →
    θ_run (Cert.Ddown.defs (F := Bits)) (onTc (τ := Cert.Ddown.τ) (Cert.Ddown.main (F := Bits))) ⟨m, fun _ => 0, g⟩ (fun r => (∀ c : Dev Cert.Ddown.nD,
      r.2.mem ((c.tc : Thread Cert.Ddown.nD Cert.Ddown.τ).loc Cert.Ddown.main_arg0) = m ((c.tc : Thread Cert.Ddown.nD Cert.Ddown.τ).loc Cert.Ddown.main_arg0)
      ∧ r.2.mem ((c.tc : Thread Cert.Ddown.nD Cert.Ddown.τ).loc Cert.Ddown.main_arg1) = m ((c.tc : Thread Cert.Ddown.nD Cert.Ddown.τ).loc Cert.Ddown.main_arg1)
      ∧ r.2.mem ((c.tc : Thread Cert.Ddown.nD Cert.Ddown.τ).loc Cert.Ddown.main_arg2) = m ((c.tc : Thread Cert.Ddown.nD Cert.Ddown.τ).loc Cert.Ddown.main_arg2)
      ∧ r.2.mem ((c.tc : Thread Cert.Ddown.nD Cert.Ddown.τ).loc Cert.Ddown.main_arg3) = m ((c.tc : Thread Cert.Ddown.nD Cert.Ddown.τ).loc Cert.Ddown.main_arg3))
      ∧ r.2.sem = fun _ => 0)

def quiescent_DdownIdeal [hDdownIdeal : Cert.DdownIdeal.Facts] : Prop :=
  ∀ (m : (ℓ : Loc Cert.DdownIdeal.nD Cert.DdownIdeal.τ Cert.DdownIdeal.sig) → Buf (Elt Ideal) ℓ) (g : Dev Cert.DdownIdeal.nD → PrngReg), Pre_DdownIdeal m →
    θ_run (Cert.DdownIdeal.defs (F := Ideal)) (onTc (τ := Cert.DdownIdeal.τ) (Cert.DdownIdeal.main (F := Ideal))) ⟨m, fun _ => 0, g⟩ (fun r => (∀ c : Dev Cert.DdownIdeal.nD,
      r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
      ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1)
      ∧ r.2.mem ((c.tc : Thread Cert.DdownIdeal.nD Cert.DdownIdeal.τ).loc Cert.DdownIdeal.main_arg2) = m ((c.tc : Thread Cert.DdownIdeal.nD Cert.DdownIdeal.τ).loc Cert.DdownIdeal.main_arg2)
      ∧ r.2.mem ((c.tc : Thread Cert.DdownIdeal.nD Cert.DdownIdeal.τ).loc Cert.DdownIdeal.main_arg3) = m ((c.tc : Thread Cert.DdownIdeal.nD Cert.DdownIdeal.τ).loc Cert.DdownIdeal.main_arg3))
      ∧ r.2.sem = fun _ => 0)

def quiescent_DdownIdeal_pre_ddown_finite [hDdownIdeal : Cert.DdownIdeal.Facts] [hPre_ddown_finite : Cert.Pre_ddown_finite.Facts] : Prop :=
  ∀ (m : (ℓ : Loc Cert.DdownIdeal.nD Cert.DdownIdeal.τ Cert.DdownIdeal.sig) → Buf (Elt Ideal) ℓ) (g : Dev Cert.DdownIdeal.nD → PrngReg), Pre_DdownIdeal_ddown_finite m →
    θ_run (Cert.DdownIdeal.defs (F := Ideal)) (onTc (τ := Cert.DdownIdeal.τ) (Cert.DdownIdeal.main (F := Ideal))) ⟨m, fun _ => 0, g⟩ (fun r => (∀ c : Dev Cert.DdownIdeal.nD,
      r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
      ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1)
      ∧ r.2.mem ((c.tc : Thread Cert.DdownIdeal.nD Cert.DdownIdeal.τ).loc Cert.DdownIdeal.main_arg2) = m ((c.tc : Thread Cert.DdownIdeal.nD Cert.DdownIdeal.τ).loc Cert.DdownIdeal.main_arg2)
      ∧ r.2.mem ((c.tc : Thread Cert.DdownIdeal.nD Cert.DdownIdeal.τ).loc Cert.DdownIdeal.main_arg3) = m ((c.tc : Thread Cert.DdownIdeal.nD Cert.DdownIdeal.τ).loc Cert.DdownIdeal.main_arg3))
      ∧ r.2.sem = fun _ => 0)

def quiescent_DdownRefIdeal [hDdownRefIdeal : Cert.DdownRefIdeal.Facts] : Prop :=
  ∀ (m : (ℓ : Loc Cert.DdownRefIdeal.nD Cert.DdownRefIdeal.τ Cert.DdownRefIdeal.sig) → Buf (Elt Ideal) ℓ) (g : Dev Cert.DdownRefIdeal.nD → PrngReg), Pre_DdownRefIdeal m →
    θ_run (Cert.DdownRefIdeal.defs (F := Ideal)) (onTc (τ := Cert.DdownRefIdeal.τ) (Cert.DdownRefIdeal.main (F := Ideal))) ⟨m, fun _ => 0, g⟩ (fun r => (∀ c : Dev Cert.DdownRefIdeal.nD,
      r.2.mem ((c.tc : Thread Cert.DdownRefIdeal.nD Cert.DdownRefIdeal.τ).loc Cert.DdownRefIdeal.main_arg0) = m ((c.tc : Thread Cert.DdownRefIdeal.nD Cert.DdownRefIdeal.τ).loc Cert.DdownRefIdeal.main_arg0)
      ∧ r.2.mem ((c.tc : Thread Cert.DdownRefIdeal.nD Cert.DdownRefIdeal.τ).loc Cert.DdownRefIdeal.main_arg1) = m ((c.tc : Thread Cert.DdownRefIdeal.nD Cert.DdownRefIdeal.τ).loc Cert.DdownRefIdeal.main_arg1)
      ∧ r.2.mem ((c.tc : Thread Cert.DdownRefIdeal.nD Cert.DdownRefIdeal.τ).loc Cert.DdownRefIdeal.main_arg2) = m ((c.tc : Thread Cert.DdownRefIdeal.nD Cert.DdownRefIdeal.τ).loc Cert.DdownRefIdeal.main_arg2)
      ∧ r.2.mem ((c.tc : Thread Cert.DdownRefIdeal.nD Cert.DdownRefIdeal.τ).loc Cert.DdownRefIdeal.main_arg3) = m ((c.tc : Thread Cert.DdownRefIdeal.nD Cert.DdownRefIdeal.τ).loc Cert.DdownRefIdeal.main_arg3))
      ∧ r.2.sem = fun _ => 0)

def quiescent_DdownRefIdeal_pre_ddown_finite [hDdownRefIdeal : Cert.DdownRefIdeal.Facts] [hPre_ddown_finite : Cert.Pre_ddown_finite.Facts] : Prop :=
  ∀ (m : (ℓ : Loc Cert.DdownRefIdeal.nD Cert.DdownRefIdeal.τ Cert.DdownRefIdeal.sig) → Buf (Elt Ideal) ℓ) (g : Dev Cert.DdownRefIdeal.nD → PrngReg), Pre_DdownRefIdeal_ddown_finite m →
    θ_run (Cert.DdownRefIdeal.defs (F := Ideal)) (onTc (τ := Cert.DdownRefIdeal.τ) (Cert.DdownRefIdeal.main (F := Ideal))) ⟨m, fun _ => 0, g⟩ (fun r => (∀ c : Dev Cert.DdownRefIdeal.nD,
      r.2.mem ((c.tc : Thread Cert.DdownRefIdeal.nD Cert.DdownRefIdeal.τ).loc Cert.DdownRefIdeal.main_arg0) = m ((c.tc : Thread Cert.DdownRefIdeal.nD Cert.DdownRefIdeal.τ).loc Cert.DdownRefIdeal.main_arg0)
      ∧ r.2.mem ((c.tc : Thread Cert.DdownRefIdeal.nD Cert.DdownRefIdeal.τ).loc Cert.DdownRefIdeal.main_arg1) = m ((c.tc : Thread Cert.DdownRefIdeal.nD Cert.DdownRefIdeal.τ).loc Cert.DdownRefIdeal.main_arg1)
      ∧ r.2.mem ((c.tc : Thread Cert.DdownRefIdeal.nD Cert.DdownRefIdeal.τ).loc Cert.DdownRefIdeal.main_arg2) = m ((c.tc : Thread Cert.DdownRefIdeal.nD Cert.DdownRefIdeal.τ).loc Cert.DdownRefIdeal.main_arg2)
      ∧ r.2.mem ((c.tc : Thread Cert.DdownRefIdeal.nD Cert.DdownRefIdeal.τ).loc Cert.DdownRefIdeal.main_arg3) = m ((c.tc : Thread Cert.DdownRefIdeal.nD Cert.DdownRefIdeal.τ).loc Cert.DdownRefIdeal.main_arg3))
      ∧ r.2.sem = fun _ => 0)

def quiescent_Mlado [hMlado : Cert.Mlado.Facts] : Prop :=
  ∀ (m : (ℓ : Loc Cert.Mlado.nD Cert.Mlado.τ Cert.Mlado.sig) → Buf (Elt Bits) ℓ) (g : Dev Cert.Mlado.nD → PrngReg), Pre_Mlado m →
    θ_run (Cert.Mlado.defs (F := Bits)) (onTc (τ := Cert.Mlado.τ) (Cert.Mlado.main (F := Bits))) ⟨m, fun _ => 0, g⟩ (fun r => (∀ c : Dev Cert.Mlado.nD,
      r.2.mem ((c.tc : Thread Cert.Mlado.nD Cert.Mlado.τ).loc Cert.Mlado.main_arg0) = m ((c.tc : Thread Cert.Mlado.nD Cert.Mlado.τ).loc Cert.Mlado.main_arg0)
      ∧ r.2.mem ((c.tc : Thread Cert.Mlado.nD Cert.Mlado.τ).loc Cert.Mlado.main_arg1) = m ((c.tc : Thread Cert.Mlado.nD Cert.Mlado.τ).loc Cert.Mlado.main_arg1)
      ∧ r.2.mem ((c.tc : Thread Cert.Mlado.nD Cert.Mlado.τ).loc Cert.Mlado.main_arg2) = m ((c.tc : Thread Cert.Mlado.nD Cert.Mlado.τ).loc Cert.Mlado.main_arg2)
      ∧ r.2.mem ((c.tc : Thread Cert.Mlado.nD Cert.Mlado.τ).loc Cert.Mlado.main_arg3) = m ((c.tc : Thread Cert.Mlado.nD Cert.Mlado.τ).loc Cert.Mlado.main_arg3))
      ∧ r.2.sem = fun _ => 0)

def quiescent_MladoIdeal [hMladoIdeal : Cert.MladoIdeal.Facts] : Prop :=
  ∀ (m : (ℓ : Loc Cert.MladoIdeal.nD Cert.MladoIdeal.τ Cert.MladoIdeal.sig) → Buf (Elt Ideal) ℓ) (g : Dev Cert.MladoIdeal.nD → PrngReg), Pre_MladoIdeal m →
    θ_run (Cert.MladoIdeal.defs (F := Ideal)) (onTc (τ := Cert.MladoIdeal.τ) (Cert.MladoIdeal.main (F := Ideal))) ⟨m, fun _ => 0, g⟩ (fun r => (∀ c : Dev Cert.MladoIdeal.nD,
      r.2.mem ((c.tc : Thread Cert.MladoIdeal.nD Cert.MladoIdeal.τ).loc Cert.MladoIdeal.main_arg0) = m ((c.tc : Thread Cert.MladoIdeal.nD Cert.MladoIdeal.τ).loc Cert.MladoIdeal.main_arg0)
      ∧ r.2.mem ((c.tc : Thread Cert.MladoIdeal.nD Cert.MladoIdeal.τ).loc Cert.MladoIdeal.main_arg1) = m ((c.tc : Thread Cert.MladoIdeal.nD Cert.MladoIdeal.τ).loc Cert.MladoIdeal.main_arg1)
      ∧ r.2.mem ((c.tc : Thread Cert.MladoIdeal.nD Cert.MladoIdeal.τ).loc Cert.MladoIdeal.main_arg2) = m ((c.tc : Thread Cert.MladoIdeal.nD Cert.MladoIdeal.τ).loc Cert.MladoIdeal.main_arg2)
      ∧ r.2.mem ((c.tc : Thread Cert.MladoIdeal.nD Cert.MladoIdeal.τ).loc Cert.MladoIdeal.main_arg3) = m ((c.tc : Thread Cert.MladoIdeal.nD Cert.MladoIdeal.τ).loc Cert.MladoIdeal.main_arg3))
      ∧ r.2.sem = fun _ => 0)

def quiescent_MladoIdeal_pre_mlado_finite [hMladoIdeal : Cert.MladoIdeal.Facts] [hPre_mlado_finite : Cert.Pre_mlado_finite.Facts] : Prop :=
  ∀ (m : (ℓ : Loc Cert.MladoIdeal.nD Cert.MladoIdeal.τ Cert.MladoIdeal.sig) → Buf (Elt Ideal) ℓ) (g : Dev Cert.MladoIdeal.nD → PrngReg), Pre_MladoIdeal_mlado_finite m →
    θ_run (Cert.MladoIdeal.defs (F := Ideal)) (onTc (τ := Cert.MladoIdeal.τ) (Cert.MladoIdeal.main (F := Ideal))) ⟨m, fun _ => 0, g⟩ (fun r => (∀ c : Dev Cert.MladoIdeal.nD,
      r.2.mem ((c.tc : Thread Cert.MladoIdeal.nD Cert.MladoIdeal.τ).loc Cert.MladoIdeal.main_arg0) = m ((c.tc : Thread Cert.MladoIdeal.nD Cert.MladoIdeal.τ).loc Cert.MladoIdeal.main_arg0)
      ∧ r.2.mem ((c.tc : Thread Cert.MladoIdeal.nD Cert.MladoIdeal.τ).loc Cert.MladoIdeal.main_arg1) = m ((c.tc : Thread Cert.MladoIdeal.nD Cert.MladoIdeal.τ).loc Cert.MladoIdeal.main_arg1)
      ∧ r.2.mem ((c.tc : Thread Cert.MladoIdeal.nD Cert.MladoIdeal.τ).loc Cert.MladoIdeal.main_arg2) = m ((c.tc : Thread Cert.MladoIdeal.nD Cert.MladoIdeal.τ).loc Cert.MladoIdeal.main_arg2)
      ∧ r.2.mem ((c.tc : Thread Cert.MladoIdeal.nD Cert.MladoIdeal.τ).loc Cert.MladoIdeal.main_arg3) = m ((c.tc : Thread Cert.MladoIdeal.nD Cert.MladoIdeal.τ).loc Cert.MladoIdeal.main_arg3))
      ∧ r.2.sem = fun _ => 0)

def quiescent_MladoRefIdeal [hMladoRefIdeal : Cert.MladoRefIdeal.Facts] : Prop :=
  ∀ (m : (ℓ : Loc Cert.MladoRefIdeal.nD Cert.MladoRefIdeal.τ Cert.MladoRefIdeal.sig) → Buf (Elt Ideal) ℓ) (g : Dev Cert.MladoRefIdeal.nD → PrngReg), Pre_MladoRefIdeal m →
    θ_run (Cert.MladoRefIdeal.defs (F := Ideal)) (onTc (τ := Cert.MladoRefIdeal.τ) (Cert.MladoRefIdeal.main (F := Ideal))) ⟨m, fun _ => 0, g⟩ (fun r => (∀ c : Dev Cert.MladoRefIdeal.nD,
      r.2.mem ((c.tc : Thread Cert.MladoRefIdeal.nD Cert.MladoRefIdeal.τ).loc Cert.MladoRefIdeal.main_arg0) = m ((c.tc : Thread Cert.MladoRefIdeal.nD Cert.MladoRefIdeal.τ).loc Cert.MladoRefIdeal.main_arg0)
      ∧ r.2.mem ((c.tc : Thread Cert.MladoRefIdeal.nD Cert.MladoRefIdeal.τ).loc Cert.MladoRefIdeal.main_arg1) = m ((c.tc : Thread Cert.MladoRefIdeal.nD Cert.MladoRefIdeal.τ).loc Cert.MladoRefIdeal.main_arg1)
      ∧ r.2.mem ((c.tc : Thread Cert.MladoRefIdeal.nD Cert.MladoRefIdeal.τ).loc Cert.MladoRefIdeal.main_arg2) = m ((c.tc : Thread Cert.MladoRefIdeal.nD Cert.MladoRefIdeal.τ).loc Cert.MladoRefIdeal.main_arg2)
      ∧ r.2.mem ((c.tc : Thread Cert.MladoRefIdeal.nD Cert.MladoRefIdeal.τ).loc Cert.MladoRefIdeal.main_arg3) = m ((c.tc : Thread Cert.MladoRefIdeal.nD Cert.MladoRefIdeal.τ).loc Cert.MladoRefIdeal.main_arg3))
      ∧ r.2.sem = fun _ => 0)

def quiescent_MladoRefIdeal_pre_mlado_finite [hMladoRefIdeal : Cert.MladoRefIdeal.Facts] [hPre_mlado_finite : Cert.Pre_mlado_finite.Facts] : Prop :=
  ∀ (m : (ℓ : Loc Cert.MladoRefIdeal.nD Cert.MladoRefIdeal.τ Cert.MladoRefIdeal.sig) → Buf (Elt Ideal) ℓ) (g : Dev Cert.MladoRefIdeal.nD → PrngReg), Pre_MladoRefIdeal_mlado_finite m →
    θ_run (Cert.MladoRefIdeal.defs (F := Ideal)) (onTc (τ := Cert.MladoRefIdeal.τ) (Cert.MladoRefIdeal.main (F := Ideal))) ⟨m, fun _ => 0, g⟩ (fun r => (∀ c : Dev Cert.MladoRefIdeal.nD,
      r.2.mem ((c.tc : Thread Cert.MladoRefIdeal.nD Cert.MladoRefIdeal.τ).loc Cert.MladoRefIdeal.main_arg0) = m ((c.tc : Thread Cert.MladoRefIdeal.nD Cert.MladoRefIdeal.τ).loc Cert.MladoRefIdeal.main_arg0)
      ∧ r.2.mem ((c.tc : Thread Cert.MladoRefIdeal.nD Cert.MladoRefIdeal.τ).loc Cert.MladoRefIdeal.main_arg1) = m ((c.tc : Thread Cert.MladoRefIdeal.nD Cert.MladoRefIdeal.τ).loc Cert.MladoRefIdeal.main_arg1)
      ∧ r.2.mem ((c.tc : Thread Cert.MladoRefIdeal.nD Cert.MladoRefIdeal.τ).loc Cert.MladoRefIdeal.main_arg2) = m ((c.tc : Thread Cert.MladoRefIdeal.nD Cert.MladoRefIdeal.τ).loc Cert.MladoRefIdeal.main_arg2)
      ∧ r.2.mem ((c.tc : Thread Cert.MladoRefIdeal.nD Cert.MladoRefIdeal.τ).loc Cert.MladoRefIdeal.main_arg3) = m ((c.tc : Thread Cert.MladoRefIdeal.nD Cert.MladoRefIdeal.τ).loc Cert.MladoRefIdeal.main_arg3))
      ∧ r.2.sem = fun _ => 0)

def quiescent_Hgdo [hHgdo : Cert.Hgdo.Facts] : Prop :=
  ∀ (m : (ℓ : Loc Cert.Hgdo.nD Cert.Hgdo.τ Cert.Hgdo.sig) → Buf (Elt Bits) ℓ) (g : Dev Cert.Hgdo.nD → PrngReg), Pre_Hgdo m →
    θ_run (Cert.Hgdo.defs (F := Bits)) (onTc (τ := Cert.Hgdo.τ) (Cert.Hgdo.main (F := Bits))) ⟨m, fun _ => 0, g⟩ (fun r => (∀ c : Dev Cert.Hgdo.nD,
      r.2.mem ((c.tc : Thread Cert.Hgdo.nD Cert.Hgdo.τ).loc Cert.Hgdo.main_arg0) = m ((c.tc : Thread Cert.Hgdo.nD Cert.Hgdo.τ).loc Cert.Hgdo.main_arg0)
      ∧ r.2.mem ((c.tc : Thread Cert.Hgdo.nD Cert.Hgdo.τ).loc Cert.Hgdo.main_arg1) = m ((c.tc : Thread Cert.Hgdo.nD Cert.Hgdo.τ).loc Cert.Hgdo.main_arg1)
      ∧ r.2.mem ((c.tc : Thread Cert.Hgdo.nD Cert.Hgdo.τ).loc Cert.Hgdo.main_arg2) = m ((c.tc : Thread Cert.Hgdo.nD Cert.Hgdo.τ).loc Cert.Hgdo.main_arg2)
      ∧ r.2.mem ((c.tc : Thread Cert.Hgdo.nD Cert.Hgdo.τ).loc Cert.Hgdo.main_arg3) = m ((c.tc : Thread Cert.Hgdo.nD Cert.Hgdo.τ).loc Cert.Hgdo.main_arg3))
      ∧ r.2.sem = fun _ => 0)

def quiescent_HgdoIdeal [hHgdoIdeal : Cert.HgdoIdeal.Facts] : Prop :=
  ∀ (m : (ℓ : Loc Cert.HgdoIdeal.nD Cert.HgdoIdeal.τ Cert.HgdoIdeal.sig) → Buf (Elt Ideal) ℓ) (g : Dev Cert.HgdoIdeal.nD → PrngReg), Pre_HgdoIdeal m →
    θ_run (Cert.HgdoIdeal.defs (F := Ideal)) (onTc (τ := Cert.HgdoIdeal.τ) (Cert.HgdoIdeal.main (F := Ideal))) ⟨m, fun _ => 0, g⟩ (fun r => (∀ c : Dev Cert.HgdoIdeal.nD,
      r.2.mem ((c.tc : Thread Cert.HgdoIdeal.nD Cert.HgdoIdeal.τ).loc Cert.HgdoIdeal.main_arg0) = m ((c.tc : Thread Cert.HgdoIdeal.nD Cert.HgdoIdeal.τ).loc Cert.HgdoIdeal.main_arg0)
      ∧ r.2.mem ((c.tc : Thread Cert.HgdoIdeal.nD Cert.HgdoIdeal.τ).loc Cert.HgdoIdeal.main_arg1) = m ((c.tc : Thread Cert.HgdoIdeal.nD Cert.HgdoIdeal.τ).loc Cert.HgdoIdeal.main_arg1)
      ∧ r.2.mem ((c.tc : Thread Cert.HgdoIdeal.nD Cert.HgdoIdeal.τ).loc Cert.HgdoIdeal.main_arg2) = m ((c.tc : Thread Cert.HgdoIdeal.nD Cert.HgdoIdeal.τ).loc Cert.HgdoIdeal.main_arg2)
      ∧ r.2.mem ((c.tc : Thread Cert.HgdoIdeal.nD Cert.HgdoIdeal.τ).loc Cert.HgdoIdeal.main_arg3) = m ((c.tc : Thread Cert.HgdoIdeal.nD Cert.HgdoIdeal.τ).loc Cert.HgdoIdeal.main_arg3))
      ∧ r.2.sem = fun _ => 0)

def quiescent_HgdoIdeal_pre_hgdo_finite [hHgdoIdeal : Cert.HgdoIdeal.Facts] [hPre_hgdo_finite : Cert.Pre_hgdo_finite.Facts] : Prop :=
  ∀ (m : (ℓ : Loc Cert.HgdoIdeal.nD Cert.HgdoIdeal.τ Cert.HgdoIdeal.sig) → Buf (Elt Ideal) ℓ) (g : Dev Cert.HgdoIdeal.nD → PrngReg), Pre_HgdoIdeal_hgdo_finite m →
    θ_run (Cert.HgdoIdeal.defs (F := Ideal)) (onTc (τ := Cert.HgdoIdeal.τ) (Cert.HgdoIdeal.main (F := Ideal))) ⟨m, fun _ => 0, g⟩ (fun r => (∀ c : Dev Cert.HgdoIdeal.nD,
      r.2.mem ((c.tc : Thread Cert.HgdoIdeal.nD Cert.HgdoIdeal.τ).loc Cert.HgdoIdeal.main_arg0) = m ((c.tc : Thread Cert.HgdoIdeal.nD Cert.HgdoIdeal.τ).loc Cert.HgdoIdeal.main_arg0)
      ∧ r.2.mem ((c.tc : Thread Cert.HgdoIdeal.nD Cert.HgdoIdeal.τ).loc Cert.HgdoIdeal.main_arg1) = m ((c.tc : Thread Cert.HgdoIdeal.nD Cert.HgdoIdeal.τ).loc Cert.HgdoIdeal.main_arg1)
      ∧ r.2.mem ((c.tc : Thread Cert.HgdoIdeal.nD Cert.HgdoIdeal.τ).loc Cert.HgdoIdeal.main_arg2) = m ((c.tc : Thread Cert.HgdoIdeal.nD Cert.HgdoIdeal.τ).loc Cert.HgdoIdeal.main_arg2)
      ∧ r.2.mem ((c.tc : Thread Cert.HgdoIdeal.nD Cert.HgdoIdeal.τ).loc Cert.HgdoIdeal.main_arg3) = m ((c.tc : Thread Cert.HgdoIdeal.nD Cert.HgdoIdeal.τ).loc Cert.HgdoIdeal.main_arg3))
      ∧ r.2.sem = fun _ => 0)

def quiescent_HgdoRefIdeal [hHgdoRefIdeal : Cert.HgdoRefIdeal.Facts] : Prop :=
  ∀ (m : (ℓ : Loc Cert.HgdoRefIdeal.nD Cert.HgdoRefIdeal.τ Cert.HgdoRefIdeal.sig) → Buf (Elt Ideal) ℓ) (g : Dev Cert.HgdoRefIdeal.nD → PrngReg), Pre_HgdoRefIdeal m →
    θ_run (Cert.HgdoRefIdeal.defs (F := Ideal)) (onTc (τ := Cert.HgdoRefIdeal.τ) (Cert.HgdoRefIdeal.main (F := Ideal))) ⟨m, fun _ => 0, g⟩ (fun r => (∀ c : Dev Cert.HgdoRefIdeal.nD,
      r.2.mem ((c.tc : Thread Cert.HgdoRefIdeal.nD Cert.HgdoRefIdeal.τ).loc Cert.HgdoRefIdeal.main_arg0) = m ((c.tc : Thread Cert.HgdoRefIdeal.nD Cert.HgdoRefIdeal.τ).loc Cert.HgdoRefIdeal.main_arg0)
      ∧ r.2.mem ((c.tc : Thread Cert.HgdoRefIdeal.nD Cert.HgdoRefIdeal.τ).loc Cert.HgdoRefIdeal.main_arg1) = m ((c.tc : Thread Cert.HgdoRefIdeal.nD Cert.HgdoRefIdeal.τ).loc Cert.HgdoRefIdeal.main_arg1)
      ∧ r.2.mem ((c.tc : Thread Cert.HgdoRefIdeal.nD Cert.HgdoRefIdeal.τ).loc Cert.HgdoRefIdeal.main_arg2) = m ((c.tc : Thread Cert.HgdoRefIdeal.nD Cert.HgdoRefIdeal.τ).loc Cert.HgdoRefIdeal.main_arg2)
      ∧ r.2.mem ((c.tc : Thread Cert.HgdoRefIdeal.nD Cert.HgdoRefIdeal.τ).loc Cert.HgdoRefIdeal.main_arg3) = m ((c.tc : Thread Cert.HgdoRefIdeal.nD Cert.HgdoRefIdeal.τ).loc Cert.HgdoRefIdeal.main_arg3))
      ∧ r.2.sem = fun _ => 0)

def quiescent_HgdoRefIdeal_pre_hgdo_finite [hHgdoRefIdeal : Cert.HgdoRefIdeal.Facts] [hPre_hgdo_finite : Cert.Pre_hgdo_finite.Facts] : Prop :=
  ∀ (m : (ℓ : Loc Cert.HgdoRefIdeal.nD Cert.HgdoRefIdeal.τ Cert.HgdoRefIdeal.sig) → Buf (Elt Ideal) ℓ) (g : Dev Cert.HgdoRefIdeal.nD → PrngReg), Pre_HgdoRefIdeal_hgdo_finite m →
    θ_run (Cert.HgdoRefIdeal.defs (F := Ideal)) (onTc (τ := Cert.HgdoRefIdeal.τ) (Cert.HgdoRefIdeal.main (F := Ideal))) ⟨m, fun _ => 0, g⟩ (fun r => (∀ c : Dev Cert.HgdoRefIdeal.nD,
      r.2.mem ((c.tc : Thread Cert.HgdoRefIdeal.nD Cert.HgdoRefIdeal.τ).loc Cert.HgdoRefIdeal.main_arg0) = m ((c.tc : Thread Cert.HgdoRefIdeal.nD Cert.HgdoRefIdeal.τ).loc Cert.HgdoRefIdeal.main_arg0)
      ∧ r.2.mem ((c.tc : Thread Cert.HgdoRefIdeal.nD Cert.HgdoRefIdeal.τ).loc Cert.HgdoRefIdeal.main_arg1) = m ((c.tc : Thread Cert.HgdoRefIdeal.nD Cert.HgdoRefIdeal.τ).loc Cert.HgdoRefIdeal.main_arg1)
      ∧ r.2.mem ((c.tc : Thread Cert.HgdoRefIdeal.nD Cert.HgdoRefIdeal.τ).loc Cert.HgdoRefIdeal.main_arg2) = m ((c.tc : Thread Cert.HgdoRefIdeal.nD Cert.HgdoRefIdeal.τ).loc Cert.HgdoRefIdeal.main_arg2)
      ∧ r.2.mem ((c.tc : Thread Cert.HgdoRefIdeal.nD Cert.HgdoRefIdeal.τ).loc Cert.HgdoRefIdeal.main_arg3) = m ((c.tc : Thread Cert.HgdoRefIdeal.nD Cert.HgdoRefIdeal.τ).loc Cert.HgdoRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidIdeal_pre_mid_finite [hMidIdeal : Cert.MidIdeal.Facts] [hPre_mid_finite : Cert.Pre_mid_finite.Facts] : Prop :=
  ∀ (m : (ℓ : Loc Cert.MidIdeal.nD Cert.MidIdeal.τ Cert.MidIdeal.sig) → Buf (Elt Ideal) ℓ) (g : Dev Cert.MidIdeal.nD → PrngReg), Pre_MidIdeal_mid_finite m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def quiescent_MidRefIdeal_pre_mid_finite [hMidRefIdeal : Cert.MidRefIdeal.Facts] [hPre_mid_finite : Cert.Pre_mid_finite.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_mid_finite m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Bounds [hBounds : Cert.Bounds.Facts] : Prop :=
  ∀ (m : (ℓ : Loc Cert.Bounds.nD Cert.Bounds.τ Cert.Bounds.sig) → Buf (Elt Bits) ℓ) (g : Dev Cert.Bounds.nD → PrngReg), Pre_Bounds m →
    θ_run (Cert.Bounds.defs (F := Bits)) (onTc (τ := Cert.Bounds.τ) (Cert.Bounds.main (F := Bits))) ⟨m, fun _ => 0, g⟩ (fun r => (∀ c : Dev Cert.Bounds.nD,
      r.2.mem ((c.tc : Thread Cert.Bounds.nD Cert.Bounds.τ).loc Cert.Bounds.main_arg0) = m ((c.tc : Thread Cert.Bounds.nD Cert.Bounds.τ).loc Cert.Bounds.main_arg0))
      ∧ r.2.sem = fun _ => 0)

def quiescent_BoundsIdeal [hBoundsIdeal : Cert.BoundsIdeal.Facts] : Prop :=
  ∀ (m : (ℓ : Loc Cert.BoundsIdeal.nD Cert.BoundsIdeal.τ Cert.BoundsIdeal.sig) → Buf (Elt Ideal) ℓ) (g : Dev Cert.BoundsIdeal.nD → PrngReg), Pre_BoundsIdeal m →
    θ_run (Cert.BoundsIdeal.defs (F := Ideal)) (onTc (τ := Cert.BoundsIdeal.τ) (Cert.BoundsIdeal.main (F := Ideal))) ⟨m, fun _ => 0, g⟩ (fun r => (∀ c : Dev Cert.BoundsIdeal.nD,
      r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ r.2.sem = fun _ => 0)

def quiescent_BoundsIdeal_pre_bounds_finite [hBoundsIdeal : Cert.BoundsIdeal.Facts] [hPre_bounds_finite : Cert.Pre_bounds_finite.Facts] : Prop :=
  ∀ (m : (ℓ : Loc Cert.BoundsIdeal.nD Cert.BoundsIdeal.τ Cert.BoundsIdeal.sig) → Buf (Elt Ideal) ℓ) (g : Dev Cert.BoundsIdeal.nD → PrngReg), Pre_BoundsIdeal_bounds_finite m →
    θ_run (Cert.BoundsIdeal.defs (F := Ideal)) (onTc (τ := Cert.BoundsIdeal.τ) (Cert.BoundsIdeal.main (F := Ideal))) ⟨m, fun _ => 0, g⟩ (fun r => (∀ c : Dev Cert.BoundsIdeal.nD,
      r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ r.2.sem = fun _ => 0)

def quiescent_BoundsRefIdeal [hBoundsRefIdeal : Cert.BoundsRefIdeal.Facts] : Prop :=
  ∀ (m : (ℓ : Loc Cert.BoundsRefIdeal.nD Cert.BoundsRefIdeal.τ Cert.BoundsRefIdeal.sig) → Buf (Elt Ideal) ℓ) (g : Dev Cert.BoundsRefIdeal.nD → PrngReg), Pre_BoundsRefIdeal m →
    θ_run (Cert.BoundsRefIdeal.defs (F := Ideal)) (onTc (τ := Cert.BoundsRefIdeal.τ) (Cert.BoundsRefIdeal.main (F := Ideal))) ⟨m, fun _ => 0, g⟩ (fun r => (∀ c : Dev Cert.BoundsRefIdeal.nD,
      r.2.mem ((c.tc : Thread Cert.BoundsRefIdeal.nD Cert.BoundsRefIdeal.τ).loc Cert.BoundsRefIdeal.main_arg0) = m ((c.tc : Thread Cert.BoundsRefIdeal.nD Cert.BoundsRefIdeal.τ).loc Cert.BoundsRefIdeal.main_arg0))
      ∧ r.2.sem = fun _ => 0)

def quiescent_BoundsRefIdeal_pre_bounds_finite [hBoundsRefIdeal : Cert.BoundsRefIdeal.Facts] [hPre_bounds_finite : Cert.Pre_bounds_finite.Facts] : Prop :=
  ∀ (m : (ℓ : Loc Cert.BoundsRefIdeal.nD Cert.BoundsRefIdeal.τ Cert.BoundsRefIdeal.sig) → Buf (Elt Ideal) ℓ) (g : Dev Cert.BoundsRefIdeal.nD → PrngReg), Pre_BoundsRefIdeal_bounds_finite m →
    θ_run (Cert.BoundsRefIdeal.defs (F := Ideal)) (onTc (τ := Cert.BoundsRefIdeal.τ) (Cert.BoundsRefIdeal.main (F := Ideal))) ⟨m, fun _ => 0, g⟩ (fun r => (∀ c : Dev Cert.BoundsRefIdeal.nD,
      r.2.mem ((c.tc : Thread Cert.BoundsRefIdeal.nD Cert.BoundsRefIdeal.τ).loc Cert.BoundsRefIdeal.main_arg0) = m ((c.tc : Thread Cert.BoundsRefIdeal.nD Cert.BoundsRefIdeal.τ).loc Cert.BoundsRefIdeal.main_arg0))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_Min [hMin : Cert.Min.Facts] : Prop :=
  ∀ (m : (ℓ : Loc Cert.Min.nD Cert.Min.τ Cert.Min.sig) → Buf (Elt Bits) ℓ) (g : Dev Cert.Min.nD → PrngReg), Pre_Min m →
    θ_run (Cert.Min.defs (F := Bits)) (onTc (τ := Cert.Min.τ) (Cert.Min.main (F := Bits))) ⟨m, fun _ => 0, g⟩ (fun r => (∀ c : Dev Cert.Min.nD,
      r.2.mem ((c.tc : Thread Cert.Min.nD Cert.Min.τ).loc Cert.Min.main_arg0) = m ((c.tc : Thread Cert.Min.nD Cert.Min.τ).loc Cert.Min.main_arg0)
      ∧ r.2.mem ((c.tc : Thread Cert.Min.nD Cert.Min.τ).loc Cert.Min.main_arg1) = m ((c.tc : Thread Cert.Min.nD Cert.Min.τ).loc Cert.Min.main_arg1)
      ∧ r.2.mem ((c.tc : Thread Cert.Min.nD Cert.Min.τ).loc Cert.Min.main_arg2) = m ((c.tc : Thread Cert.Min.nD Cert.Min.τ).loc Cert.Min.main_arg2))
      ∧ r.2.sem = fun _ => 0)

def quiescent_MinIdeal [hMinIdeal : Cert.MinIdeal.Facts] : Prop :=
  ∀ (m : (ℓ : Loc Cert.MinIdeal.nD Cert.MinIdeal.τ Cert.MinIdeal.sig) → Buf (Elt Ideal) ℓ) (g : Dev Cert.MinIdeal.nD → PrngReg), Pre_MinIdeal m →
    θ_run (Cert.MinIdeal.defs (F := Ideal)) (onTc (τ := Cert.MinIdeal.τ) (Cert.MinIdeal.main (F := Ideal))) ⟨m, fun _ => 0, g⟩ (fun r => (∀ c : Dev Cert.MinIdeal.nD,
      r.2.mem ((c.tc : Thread Cert.MinIdeal.nD Cert.MinIdeal.τ).loc Cert.MinIdeal.main_arg0) = m ((c.tc : Thread Cert.MinIdeal.nD Cert.MinIdeal.τ).loc Cert.MinIdeal.main_arg0)
      ∧ r.2.mem ((c.tc : Thread Cert.MinIdeal.nD Cert.MinIdeal.τ).loc Cert.MinIdeal.main_arg1) = m ((c.tc : Thread Cert.MinIdeal.nD Cert.MinIdeal.τ).loc Cert.MinIdeal.main_arg1)
      ∧ r.2.mem ((c.tc : Thread Cert.MinIdeal.nD Cert.MinIdeal.τ).loc Cert.MinIdeal.main_arg2) = m ((c.tc : Thread Cert.MinIdeal.nD Cert.MinIdeal.τ).loc Cert.MinIdeal.main_arg2))
      ∧ r.2.sem = fun _ => 0)

def quiescent_MinRefIdeal [hMinRefIdeal : Cert.MinRefIdeal.Facts] : Prop :=
  ∀ (m : (ℓ : Loc Cert.MinRefIdeal.nD Cert.MinRefIdeal.τ Cert.MinRefIdeal.sig) → Buf (Elt Ideal) ℓ) (g : Dev Cert.MinRefIdeal.nD → PrngReg), Pre_MinRefIdeal m →
    θ_run (Cert.MinRefIdeal.defs (F := Ideal)) (onTc (τ := Cert.MinRefIdeal.τ) (Cert.MinRefIdeal.main (F := Ideal))) ⟨m, fun _ => 0, g⟩ (fun r => (∀ c : Dev Cert.MinRefIdeal.nD,
      r.2.mem ((c.tc : Thread Cert.MinRefIdeal.nD Cert.MinRefIdeal.τ).loc Cert.MinRefIdeal.main_arg0) = m ((c.tc : Thread Cert.MinRefIdeal.nD Cert.MinRefIdeal.τ).loc Cert.MinRefIdeal.main_arg0)
      ∧ r.2.mem ((c.tc : Thread Cert.MinRefIdeal.nD Cert.MinRefIdeal.τ).loc Cert.MinRefIdeal.main_arg1) = m ((c.tc : Thread Cert.MinRefIdeal.nD Cert.MinRefIdeal.τ).loc Cert.MinRefIdeal.main_arg1)
      ∧ r.2.mem ((c.tc : Thread Cert.MinRefIdeal.nD Cert.MinRefIdeal.τ).loc Cert.MinRefIdeal.main_arg2) = m ((c.tc : Thread Cert.MinRefIdeal.nD Cert.MinRefIdeal.τ).loc Cert.MinRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def preserves_Lb_LbIdeal : Prop :=
  True

def algebraic_LbIdeal_LbRefIdeal_pre_lb_finite [hLbIdeal : Cert.LbIdeal.Facts] [hLbRefIdeal : Cert.LbRefIdeal.Facts] [hPre_lb_finite : Cert.Pre_lb_finite.Facts] : Prop :=
  ∀ (m : (ℓ : Loc Cert.LbIdeal.nD Cert.LbIdeal.τ Cert.LbIdeal.sig) → Buf (Elt Ideal) ℓ) (g : Dev Cert.LbIdeal.nD → PrngReg)
    (m' : (ℓ : Loc Cert.LbRefIdeal.nD Cert.LbRefIdeal.τ Cert.LbRefIdeal.sig) → Buf (Elt Ideal) ℓ) (g' : Dev Cert.LbRefIdeal.nD → PrngReg), Pre_LbIdeal_lb_finite m →
    (∀ c : Dev Cert.LbIdeal.nD,
      m' ((c.tc : Thread Cert.LbRefIdeal.nD Cert.LbRefIdeal.τ).loc Cert.LbRefIdeal.main_arg0) = m ((c.tc : Thread Cert.LbIdeal.nD Cert.LbIdeal.τ).loc Cert.LbIdeal.main_arg0)
      ∧ m' ((c.tc : Thread Cert.LbRefIdeal.nD Cert.LbRefIdeal.τ).loc Cert.LbRefIdeal.main_arg1) = m ((c.tc : Thread Cert.LbIdeal.nD Cert.LbIdeal.τ).loc Cert.LbIdeal.main_arg1)) →
    ∃ (v0 : (c : Dev Cert.LbIdeal.nD) → Buf (Elt Ideal) ((c.tc : Thread Cert.LbIdeal.nD Cert.LbIdeal.τ).loc Cert.LbIdeal.main_v0)),
      θ_run (Cert.LbIdeal.defs (F := Ideal)) (onTc (τ := Cert.LbIdeal.τ) (Cert.LbIdeal.main (F := Ideal))) ⟨m, fun _ => 0, g⟩ (fun r => ∀ c : Dev Cert.LbIdeal.nD,
          r.2.mem ((c.tc : Thread Cert.LbIdeal.nD Cert.LbIdeal.τ).loc Cert.LbIdeal.main_v0) = v0 c
          ∧ r.2.mem ((c.tc : Thread Cert.LbIdeal.nD Cert.LbIdeal.τ).loc Cert.LbIdeal.main_arg0) = m ((c.tc : Thread Cert.LbIdeal.nD Cert.LbIdeal.τ).loc Cert.LbIdeal.main_arg0)
          ∧ r.2.mem ((c.tc : Thread Cert.LbIdeal.nD Cert.LbIdeal.τ).loc Cert.LbIdeal.main_arg1) = m ((c.tc : Thread Cert.LbIdeal.nD Cert.LbIdeal.τ).loc Cert.LbIdeal.main_arg1))
      ∧ θ_run (Cert.LbRefIdeal.defs (F := Ideal)) (onTc (τ := Cert.LbRefIdeal.τ) (Cert.LbRefIdeal.main (F := Ideal))) ⟨m', fun _ => 0, g'⟩ (fun r => ∀ c : Dev Cert.LbRefIdeal.nD,
          r.2.mem ((c.tc : Thread Cert.LbRefIdeal.nD Cert.LbRefIdeal.τ).loc Cert.LbRefIdeal.main_v54) = v0 c
          ∧ r.2.mem ((c.tc : Thread Cert.LbRefIdeal.nD Cert.LbRefIdeal.τ).loc Cert.LbRefIdeal.main_arg0) = m' ((c.tc : Thread Cert.LbRefIdeal.nD Cert.LbRefIdeal.τ).loc Cert.LbRefIdeal.main_arg0)
          ∧ r.2.mem ((c.tc : Thread Cert.LbRefIdeal.nD Cert.LbRefIdeal.τ).loc Cert.LbRefIdeal.main_arg1) = m' ((c.tc : Thread Cert.LbRefIdeal.nD Cert.LbRefIdeal.τ).loc Cert.LbRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Attn_AttnIdeal : Prop :=
  IdealRules.named_const.Statement Cert.AttnIdeal.κ "log2e" .f32 0x3FB8AA3B#32 (((Real.log 2)⁻¹ : ℝ) : EReal)
  ∧ IdealRules.named_const.Statement Cert.AttnIdeal.κ "scale_log2e" .f32 0x3DD53B95#32 (((Real.sqrt 192)⁻¹ * (Real.log 2)⁻¹ : ℝ) : EReal)
  ∧ IdealRules.named_const.Statement Cert.AttnIdeal.κ "scale" .f32 0x3D93CD3A#32 (((Real.sqrt 192)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v35_0)) (v1 : (c : Dev Cert.AttnIdeal.nD) → Buf (Elt Ideal) ((c.tc : Thread Cert.AttnIdeal.nD Cert.AttnIdeal.τ).loc Cert.AttnIdeal.main_v35_1)) (v2 : (c : Dev Cert.AttnIdeal.nD) → Buf (Elt Ideal) ((c.tc : Thread Cert.AttnIdeal.nD Cert.AttnIdeal.τ).loc Cert.AttnIdeal.main_v35_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v35_0) = v0 c
          ∧ r.2.mem ((c.tc : Thread Cert.AttnIdeal.nD Cert.AttnIdeal.τ).loc Cert.AttnIdeal.main_v35_1) = v1 c
          ∧ r.2.mem ((c.tc : Thread Cert.AttnIdeal.nD Cert.AttnIdeal.τ).loc Cert.AttnIdeal.main_v35_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v64) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v66) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Out_OutIdeal : Prop :=
  IdealRules.named_const.Statement Cert.OutIdeal.κ "scale_log2e" .f32 0x3DD53B95#32 (((Real.sqrt 192)⁻¹ * (Real.log 2)⁻¹ : ℝ) : EReal)
  ∧ IdealRules.named_const.Statement Cert.OutIdeal.κ "scale" .f32 0x3D93CD3A#32 (((Real.sqrt 192)⁻¹ : ℝ) : EReal)

def algebraic_OutIdeal_OutRefIdeal_pre_out_finite [hOutIdeal : Cert.OutIdeal.Facts] [hOutRefIdeal : Cert.OutRefIdeal.Facts] [hPre_out_finite : Cert.Pre_out_finite.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_out_finite m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v24) = v0 c
          ∧ r.2.mem ((c.tc : Thread Cert.OutRefIdeal.nD Cert.OutRefIdeal.τ).loc Cert.OutRefIdeal.main_v33) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Dup_DupIdeal : Prop :=
  True

def algebraic_DupIdeal_DupRefIdeal_pre_dup_finite [hDupIdeal : Cert.DupIdeal.Facts] [hDupRefIdeal : Cert.DupRefIdeal.Facts] [hPre_dup_finite : Cert.Pre_dup_finite.Facts] : Prop :=
  ∀ (m : (ℓ : Loc Cert.DupIdeal.nD Cert.DupIdeal.τ Cert.DupIdeal.sig) → Buf (Elt Ideal) ℓ) (g : Dev Cert.DupIdeal.nD → PrngReg)
    (m' : (ℓ : Loc Cert.DupRefIdeal.nD Cert.DupRefIdeal.τ Cert.DupRefIdeal.sig) → Buf (Elt Ideal) ℓ) (g' : Dev Cert.DupRefIdeal.nD → PrngReg), Pre_DupIdeal_dup_finite m →
    (∀ c : Dev Cert.DupIdeal.nD,
      m' ((c.tc : Thread Cert.DupRefIdeal.nD Cert.DupRefIdeal.τ).loc Cert.DupRefIdeal.main_arg0) = m ((c.tc : Thread Cert.DupIdeal.nD Cert.DupIdeal.τ).loc Cert.DupIdeal.main_arg0)
      ∧ m' ((c.tc : Thread Cert.DupRefIdeal.nD Cert.DupRefIdeal.τ).loc Cert.DupRefIdeal.main_arg1) = m ((c.tc : Thread Cert.DupIdeal.nD Cert.DupIdeal.τ).loc Cert.DupIdeal.main_arg1)
      ∧ m' ((c.tc : Thread Cert.DupRefIdeal.nD Cert.DupRefIdeal.τ).loc Cert.DupRefIdeal.main_arg2) = m ((c.tc : Thread Cert.DupIdeal.nD Cert.DupIdeal.τ).loc Cert.DupIdeal.main_arg2)
      ∧ m' ((c.tc : Thread Cert.DupRefIdeal.nD Cert.DupRefIdeal.τ).loc Cert.DupRefIdeal.main_arg3) = m ((c.tc : Thread Cert.DupIdeal.nD Cert.DupIdeal.τ).loc Cert.DupIdeal.main_arg3)
      ∧ m' ((c.tc : Thread Cert.DupRefIdeal.nD Cert.DupRefIdeal.τ).loc Cert.DupRefIdeal.main_arg4) = m ((c.tc : Thread Cert.DupIdeal.nD Cert.DupIdeal.τ).loc Cert.DupIdeal.main_arg4)) →
    ∃ (v0 : (c : Dev Cert.DupIdeal.nD) → Buf (Elt Ideal) ((c.tc : Thread Cert.DupIdeal.nD Cert.DupIdeal.τ).loc Cert.DupIdeal.main_v3_0)) (v1 : (c : Dev Cert.DupIdeal.nD) → Buf (Elt Ideal) ((c.tc : Thread Cert.DupIdeal.nD Cert.DupIdeal.τ).loc Cert.DupIdeal.main_v3_1)),
      θ_run (Cert.DupIdeal.defs (F := Ideal)) (onTc (τ := Cert.DupIdeal.τ) (Cert.DupIdeal.main (F := Ideal))) ⟨m, fun _ => 0, g⟩ (fun r => ∀ c : Dev Cert.DupIdeal.nD,
          r.2.mem ((c.tc : Thread Cert.DupIdeal.nD Cert.DupIdeal.τ).loc Cert.DupIdeal.main_v3_0) = v0 c
          ∧ r.2.mem ((c.tc : Thread Cert.DupIdeal.nD Cert.DupIdeal.τ).loc Cert.DupIdeal.main_v3_1) = v1 c
          ∧ r.2.mem ((c.tc : Thread Cert.DupIdeal.nD Cert.DupIdeal.τ).loc Cert.DupIdeal.main_arg0) = m ((c.tc : Thread Cert.DupIdeal.nD Cert.DupIdeal.τ).loc Cert.DupIdeal.main_arg0)
          ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
          ∧ r.2.mem ((c.tc : Thread Cert.DupIdeal.nD Cert.DupIdeal.τ).loc Cert.DupIdeal.main_arg2) = m ((c.tc : Thread Cert.DupIdeal.nD Cert.DupIdeal.τ).loc Cert.DupIdeal.main_arg2)
          ∧ r.2.mem ((c.tc : Thread Cert.DupIdeal.nD Cert.DupIdeal.τ).loc Cert.DupIdeal.main_arg3) = m ((c.tc : Thread Cert.DupIdeal.nD Cert.DupIdeal.τ).loc Cert.DupIdeal.main_arg3)
          ∧ r.2.mem ((c.tc : Thread Cert.DupIdeal.nD Cert.DupIdeal.τ).loc Cert.DupIdeal.main_arg4) = m ((c.tc : Thread Cert.DupIdeal.nD Cert.DupIdeal.τ).loc Cert.DupIdeal.main_arg4))
      ∧ θ_run (Cert.DupRefIdeal.defs (F := Ideal)) (onTc (τ := Cert.DupRefIdeal.τ) (Cert.DupRefIdeal.main (F := Ideal))) ⟨m', fun _ => 0, g'⟩ (fun r => ∀ c : Dev Cert.DupRefIdeal.nD,
          r.2.mem ((c.tc : Thread Cert.DupRefIdeal.nD Cert.DupRefIdeal.τ).loc Cert.DupRefIdeal.main_v38) = v0 c
          ∧ r.2.mem ((c.tc : Thread Cert.DupRefIdeal.nD Cert.DupRefIdeal.τ).loc Cert.DupRefIdeal.main_v39) = v1 c
          ∧ r.2.mem ((c.tc : Thread Cert.DupRefIdeal.nD Cert.DupRefIdeal.τ).loc Cert.DupRefIdeal.main_arg0) = m' ((c.tc : Thread Cert.DupRefIdeal.nD Cert.DupRefIdeal.τ).loc Cert.DupRefIdeal.main_arg0)
          ∧ r.2.mem ((c.tc : Thread Cert.DupRefIdeal.nD Cert.DupRefIdeal.τ).loc Cert.DupRefIdeal.main_arg1) = m' ((c.tc : Thread Cert.DupRefIdeal.nD Cert.DupRefIdeal.τ).loc Cert.DupRefIdeal.main_arg1)
          ∧ r.2.mem ((c.tc : Thread Cert.DupRefIdeal.nD Cert.DupRefIdeal.τ).loc Cert.DupRefIdeal.main_arg2) = m' ((c.tc : Thread Cert.DupRefIdeal.nD Cert.DupRefIdeal.τ).loc Cert.DupRefIdeal.main_arg2)
          ∧ r.2.mem ((c.tc : Thread Cert.DupRefIdeal.nD Cert.DupRefIdeal.τ).loc Cert.DupRefIdeal.main_arg3) = m' ((c.tc : Thread Cert.DupRefIdeal.nD Cert.DupRefIdeal.τ).loc Cert.DupRefIdeal.main_arg3)
          ∧ r.2.mem ((c.tc : Thread Cert.DupRefIdeal.nD Cert.DupRefIdeal.τ).loc Cert.DupRefIdeal.main_arg4) = m' ((c.tc : Thread Cert.DupRefIdeal.nD Cert.DupRefIdeal.τ).loc Cert.DupRefIdeal.main_arg4))

def preserves_Din_DinIdeal : Prop :=
  True

def algebraic_DinIdeal_DinRefIdeal_pre_din_finite [hDinIdeal : Cert.DinIdeal.Facts] [hDinRefIdeal : Cert.DinRefIdeal.Facts] [hPre_din_finite : Cert.Pre_din_finite.Facts] : Prop :=
  ∀ (m : (ℓ : Loc Cert.DinIdeal.nD Cert.DinIdeal.τ Cert.DinIdeal.sig) → Buf (Elt Ideal) ℓ) (g : Dev Cert.DinIdeal.nD → PrngReg)
    (m' : (ℓ : Loc Cert.DinRefIdeal.nD Cert.DinRefIdeal.τ Cert.DinRefIdeal.sig) → Buf (Elt Ideal) ℓ) (g' : Dev Cert.DinRefIdeal.nD → PrngReg), Pre_DinIdeal_din_finite m →
    (∀ c : Dev Cert.DinIdeal.nD,
      m' ((c.tc : Thread Cert.DinRefIdeal.nD Cert.DinRefIdeal.τ).loc Cert.DinRefIdeal.main_arg0) = m ((c.tc : Thread Cert.DinIdeal.nD Cert.DinIdeal.τ).loc Cert.DinIdeal.main_arg0)
      ∧ m' ((c.tc : Thread Cert.DinRefIdeal.nD Cert.DinRefIdeal.τ).loc Cert.DinRefIdeal.main_arg1) = m ((c.tc : Thread Cert.DinIdeal.nD Cert.DinIdeal.τ).loc Cert.DinIdeal.main_arg1)
      ∧ m' ((c.tc : Thread Cert.DinRefIdeal.nD Cert.DinRefIdeal.τ).loc Cert.DinRefIdeal.main_arg2) = m ((c.tc : Thread Cert.DinIdeal.nD Cert.DinIdeal.τ).loc Cert.DinIdeal.main_arg2)
      ∧ m' ((c.tc : Thread Cert.DinRefIdeal.nD Cert.DinRefIdeal.τ).loc Cert.DinRefIdeal.main_arg3) = m ((c.tc : Thread Cert.DinIdeal.nD Cert.DinIdeal.τ).loc Cert.DinIdeal.main_arg3)
      ∧ m' ((c.tc : Thread Cert.DinRefIdeal.nD Cert.DinRefIdeal.τ).loc Cert.DinRefIdeal.main_arg4) = m ((c.tc : Thread Cert.DinIdeal.nD Cert.DinIdeal.τ).loc Cert.DinIdeal.main_arg4)) →
    ∃ (v0 : (c : Dev Cert.DinIdeal.nD) → Buf (Elt Ideal) ((c.tc : Thread Cert.DinIdeal.nD Cert.DinIdeal.τ).loc Cert.DinIdeal.main_v3_0)) (v1 : (c : Dev Cert.DinIdeal.nD) → Buf (Elt Ideal) ((c.tc : Thread Cert.DinIdeal.nD Cert.DinIdeal.τ).loc Cert.DinIdeal.main_v3_1)),
      θ_run (Cert.DinIdeal.defs (F := Ideal)) (onTc (τ := Cert.DinIdeal.τ) (Cert.DinIdeal.main (F := Ideal))) ⟨m, fun _ => 0, g⟩ (fun r => ∀ c : Dev Cert.DinIdeal.nD,
          r.2.mem ((c.tc : Thread Cert.DinIdeal.nD Cert.DinIdeal.τ).loc Cert.DinIdeal.main_v3_0) = v0 c
          ∧ r.2.mem ((c.tc : Thread Cert.DinIdeal.nD Cert.DinIdeal.τ).loc Cert.DinIdeal.main_v3_1) = v1 c
          ∧ r.2.mem ((c.tc : Thread Cert.DinIdeal.nD Cert.DinIdeal.τ).loc Cert.DinIdeal.main_arg0) = m ((c.tc : Thread Cert.DinIdeal.nD Cert.DinIdeal.τ).loc Cert.DinIdeal.main_arg0)
          ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
          ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
          ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
          ∧ r.2.mem ((c.tc : Thread Cert.DinIdeal.nD Cert.DinIdeal.τ).loc Cert.DinIdeal.main_arg4) = m ((c.tc : Thread Cert.DinIdeal.nD Cert.DinIdeal.τ).loc Cert.DinIdeal.main_arg4))
      ∧ θ_run (Cert.DinRefIdeal.defs (F := Ideal)) (onTc (τ := Cert.DinRefIdeal.τ) (Cert.DinRefIdeal.main (F := Ideal))) ⟨m', fun _ => 0, g'⟩ (fun r => ∀ c : Dev Cert.DinRefIdeal.nD,
          r.2.mem ((c.tc : Thread Cert.DinRefIdeal.nD Cert.DinRefIdeal.τ).loc Cert.DinRefIdeal.main_v38) = v0 c
          ∧ r.2.mem ((c.tc : Thread Cert.DinRefIdeal.nD Cert.DinRefIdeal.τ).loc Cert.DinRefIdeal.main_v39) = v1 c
          ∧ r.2.mem ((c.tc : Thread Cert.DinRefIdeal.nD Cert.DinRefIdeal.τ).loc Cert.DinRefIdeal.main_arg0) = m' ((c.tc : Thread Cert.DinRefIdeal.nD Cert.DinRefIdeal.τ).loc Cert.DinRefIdeal.main_arg0)
          ∧ r.2.mem ((c.tc : Thread Cert.DinRefIdeal.nD Cert.DinRefIdeal.τ).loc Cert.DinRefIdeal.main_arg1) = m' ((c.tc : Thread Cert.DinRefIdeal.nD Cert.DinRefIdeal.τ).loc Cert.DinRefIdeal.main_arg1)
          ∧ r.2.mem ((c.tc : Thread Cert.DinRefIdeal.nD Cert.DinRefIdeal.τ).loc Cert.DinRefIdeal.main_arg2) = m' ((c.tc : Thread Cert.DinRefIdeal.nD Cert.DinRefIdeal.τ).loc Cert.DinRefIdeal.main_arg2)
          ∧ r.2.mem ((c.tc : Thread Cert.DinRefIdeal.nD Cert.DinRefIdeal.τ).loc Cert.DinRefIdeal.main_arg3) = m' ((c.tc : Thread Cert.DinRefIdeal.nD Cert.DinRefIdeal.τ).loc Cert.DinRefIdeal.main_arg3)
          ∧ r.2.mem ((c.tc : Thread Cert.DinRefIdeal.nD Cert.DinRefIdeal.τ).loc Cert.DinRefIdeal.main_arg4) = m' ((c.tc : Thread Cert.DinRefIdeal.nD Cert.DinRefIdeal.τ).loc Cert.DinRefIdeal.main_arg4))

def preserves_Ddown_DdownIdeal : Prop :=
  True

def algebraic_DdownIdeal_DdownRefIdeal_pre_ddown_finite [hDdownIdeal : Cert.DdownIdeal.Facts] [hDdownRefIdeal : Cert.DdownRefIdeal.Facts] [hPre_ddown_finite : Cert.Pre_ddown_finite.Facts] : Prop :=
  ∀ (m : (ℓ : Loc Cert.DdownIdeal.nD Cert.DdownIdeal.τ Cert.DdownIdeal.sig) → Buf (Elt Ideal) ℓ) (g : Dev Cert.DdownIdeal.nD → PrngReg)
    (m' : (ℓ : Loc Cert.DdownRefIdeal.nD Cert.DdownRefIdeal.τ Cert.DdownRefIdeal.sig) → Buf (Elt Ideal) ℓ) (g' : Dev Cert.DdownRefIdeal.nD → PrngReg), Pre_DdownIdeal_ddown_finite m →
    (∀ c : Dev Cert.DdownIdeal.nD,
      m' ((c.tc : Thread Cert.DdownRefIdeal.nD Cert.DdownRefIdeal.τ).loc Cert.DdownRefIdeal.main_arg0) = m ((c.tc : Thread Cert.DdownIdeal.nD Cert.DdownIdeal.τ).loc Cert.DdownIdeal.main_arg0)
      ∧ m' ((c.tc : Thread Cert.DdownRefIdeal.nD Cert.DdownRefIdeal.τ).loc Cert.DdownRefIdeal.main_arg1) = m ((c.tc : Thread Cert.DdownIdeal.nD Cert.DdownIdeal.τ).loc Cert.DdownIdeal.main_arg1)
      ∧ m' ((c.tc : Thread Cert.DdownRefIdeal.nD Cert.DdownRefIdeal.τ).loc Cert.DdownRefIdeal.main_arg2) = m ((c.tc : Thread Cert.DdownIdeal.nD Cert.DdownIdeal.τ).loc Cert.DdownIdeal.main_arg2)
      ∧ m' ((c.tc : Thread Cert.DdownRefIdeal.nD Cert.DdownRefIdeal.τ).loc Cert.DdownRefIdeal.main_arg3) = m ((c.tc : Thread Cert.DdownIdeal.nD Cert.DdownIdeal.τ).loc Cert.DdownIdeal.main_arg3)) →
    ∃ (v0 : (c : Dev Cert.DdownIdeal.nD) → Buf (Elt Ideal) ((c.tc : Thread Cert.DdownIdeal.nD Cert.DdownIdeal.τ).loc Cert.DdownIdeal.main_v8_0)) (v1 : (c : Dev Cert.DdownIdeal.nD) → Buf (Elt Ideal) ((c.tc : Thread Cert.DdownIdeal.nD Cert.DdownIdeal.τ).loc Cert.DdownIdeal.main_v8_1)) (v2 : (c : Dev Cert.DdownIdeal.nD) → Buf (Elt Ideal) ((c.tc : Thread Cert.DdownIdeal.nD Cert.DdownIdeal.τ).loc Cert.DdownIdeal.main_v8_2)),
      θ_run (Cert.DdownIdeal.defs (F := Ideal)) (onTc (τ := Cert.DdownIdeal.τ) (Cert.DdownIdeal.main (F := Ideal))) ⟨m, fun _ => 0, g⟩ (fun r => ∀ c : Dev Cert.DdownIdeal.nD,
          r.2.mem ((c.tc : Thread Cert.DdownIdeal.nD Cert.DdownIdeal.τ).loc Cert.DdownIdeal.main_v8_0) = v0 c
          ∧ r.2.mem ((c.tc : Thread Cert.DdownIdeal.nD Cert.DdownIdeal.τ).loc Cert.DdownIdeal.main_v8_1) = v1 c
          ∧ r.2.mem ((c.tc : Thread Cert.DdownIdeal.nD Cert.DdownIdeal.τ).loc Cert.DdownIdeal.main_v8_2) = v2 c
          ∧ r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
          ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1)
          ∧ r.2.mem ((c.tc : Thread Cert.DdownIdeal.nD Cert.DdownIdeal.τ).loc Cert.DdownIdeal.main_arg2) = m ((c.tc : Thread Cert.DdownIdeal.nD Cert.DdownIdeal.τ).loc Cert.DdownIdeal.main_arg2)
          ∧ r.2.mem ((c.tc : Thread Cert.DdownIdeal.nD Cert.DdownIdeal.τ).loc Cert.DdownIdeal.main_arg3) = m ((c.tc : Thread Cert.DdownIdeal.nD Cert.DdownIdeal.τ).loc Cert.DdownIdeal.main_arg3))
      ∧ θ_run (Cert.DdownRefIdeal.defs (F := Ideal)) (onTc (τ := Cert.DdownRefIdeal.τ) (Cert.DdownRefIdeal.main (F := Ideal))) ⟨m', fun _ => 0, g'⟩ (fun r => ∀ c : Dev Cert.DdownRefIdeal.nD,
          r.2.mem ((c.tc : Thread Cert.DdownRefIdeal.nD Cert.DdownRefIdeal.τ).loc Cert.DdownRefIdeal.main_v42) = v0 c
          ∧ r.2.mem ((c.tc : Thread Cert.DdownRefIdeal.nD Cert.DdownRefIdeal.τ).loc Cert.DdownRefIdeal.main_v43) = v1 c
          ∧ r.2.mem ((c.tc : Thread Cert.DdownRefIdeal.nD Cert.DdownRefIdeal.τ).loc Cert.DdownRefIdeal.main_v50) = v2 c
          ∧ r.2.mem ((c.tc : Thread Cert.DdownRefIdeal.nD Cert.DdownRefIdeal.τ).loc Cert.DdownRefIdeal.main_arg0) = m' ((c.tc : Thread Cert.DdownRefIdeal.nD Cert.DdownRefIdeal.τ).loc Cert.DdownRefIdeal.main_arg0)
          ∧ r.2.mem ((c.tc : Thread Cert.DdownRefIdeal.nD Cert.DdownRefIdeal.τ).loc Cert.DdownRefIdeal.main_arg1) = m' ((c.tc : Thread Cert.DdownRefIdeal.nD Cert.DdownRefIdeal.τ).loc Cert.DdownRefIdeal.main_arg1)
          ∧ r.2.mem ((c.tc : Thread Cert.DdownRefIdeal.nD Cert.DdownRefIdeal.τ).loc Cert.DdownRefIdeal.main_arg2) = m' ((c.tc : Thread Cert.DdownRefIdeal.nD Cert.DdownRefIdeal.τ).loc Cert.DdownRefIdeal.main_arg2)
          ∧ r.2.mem ((c.tc : Thread Cert.DdownRefIdeal.nD Cert.DdownRefIdeal.τ).loc Cert.DdownRefIdeal.main_arg3) = m' ((c.tc : Thread Cert.DdownRefIdeal.nD Cert.DdownRefIdeal.τ).loc Cert.DdownRefIdeal.main_arg3))

def preserves_Mlado_MladoIdeal : Prop :=
  True

def algebraic_MladoIdeal_MladoRefIdeal_pre_mlado_finite [hMladoIdeal : Cert.MladoIdeal.Facts] [hMladoRefIdeal : Cert.MladoRefIdeal.Facts] [hPre_mlado_finite : Cert.Pre_mlado_finite.Facts] : Prop :=
  ∀ (m : (ℓ : Loc Cert.MladoIdeal.nD Cert.MladoIdeal.τ Cert.MladoIdeal.sig) → Buf (Elt Ideal) ℓ) (g : Dev Cert.MladoIdeal.nD → PrngReg)
    (m' : (ℓ : Loc Cert.MladoRefIdeal.nD Cert.MladoRefIdeal.τ Cert.MladoRefIdeal.sig) → Buf (Elt Ideal) ℓ) (g' : Dev Cert.MladoRefIdeal.nD → PrngReg), Pre_MladoIdeal_mlado_finite m →
    (∀ c : Dev Cert.MladoIdeal.nD,
      m' ((c.tc : Thread Cert.MladoRefIdeal.nD Cert.MladoRefIdeal.τ).loc Cert.MladoRefIdeal.main_arg0) = m ((c.tc : Thread Cert.MladoIdeal.nD Cert.MladoIdeal.τ).loc Cert.MladoIdeal.main_arg0)
      ∧ m' ((c.tc : Thread Cert.MladoRefIdeal.nD Cert.MladoRefIdeal.τ).loc Cert.MladoRefIdeal.main_arg1) = m ((c.tc : Thread Cert.MladoIdeal.nD Cert.MladoIdeal.τ).loc Cert.MladoIdeal.main_arg1)
      ∧ m' ((c.tc : Thread Cert.MladoRefIdeal.nD Cert.MladoRefIdeal.τ).loc Cert.MladoRefIdeal.main_arg2) = m ((c.tc : Thread Cert.MladoIdeal.nD Cert.MladoIdeal.τ).loc Cert.MladoIdeal.main_arg2)
      ∧ m' ((c.tc : Thread Cert.MladoRefIdeal.nD Cert.MladoRefIdeal.τ).loc Cert.MladoRefIdeal.main_arg3) = m ((c.tc : Thread Cert.MladoIdeal.nD Cert.MladoIdeal.τ).loc Cert.MladoIdeal.main_arg3)) →
    ∃ (v0 : (c : Dev Cert.MladoIdeal.nD) → Buf (Elt Ideal) ((c.tc : Thread Cert.MladoIdeal.nD Cert.MladoIdeal.τ).loc Cert.MladoIdeal.main_v5_0)) (v1 : (c : Dev Cert.MladoIdeal.nD) → Buf (Elt Ideal) ((c.tc : Thread Cert.MladoIdeal.nD Cert.MladoIdeal.τ).loc Cert.MladoIdeal.main_v5_1)) (v2 : (c : Dev Cert.MladoIdeal.nD) → Buf (Elt Ideal) ((c.tc : Thread Cert.MladoIdeal.nD Cert.MladoIdeal.τ).loc Cert.MladoIdeal.main_v5_2)) (v3 : (c : Dev Cert.MladoIdeal.nD) → Buf (Elt Ideal) ((c.tc : Thread Cert.MladoIdeal.nD Cert.MladoIdeal.τ).loc Cert.MladoIdeal.main_v5_3)),
      θ_run (Cert.MladoIdeal.defs (F := Ideal)) (onTc (τ := Cert.MladoIdeal.τ) (Cert.MladoIdeal.main (F := Ideal))) ⟨m, fun _ => 0, g⟩ (fun r => ∀ c : Dev Cert.MladoIdeal.nD,
          r.2.mem ((c.tc : Thread Cert.MladoIdeal.nD Cert.MladoIdeal.τ).loc Cert.MladoIdeal.main_v5_0) = v0 c
          ∧ r.2.mem ((c.tc : Thread Cert.MladoIdeal.nD Cert.MladoIdeal.τ).loc Cert.MladoIdeal.main_v5_1) = v1 c
          ∧ r.2.mem ((c.tc : Thread Cert.MladoIdeal.nD Cert.MladoIdeal.τ).loc Cert.MladoIdeal.main_v5_2) = v2 c
          ∧ r.2.mem ((c.tc : Thread Cert.MladoIdeal.nD Cert.MladoIdeal.τ).loc Cert.MladoIdeal.main_v5_3) = v3 c
          ∧ r.2.mem ((c.tc : Thread Cert.MladoIdeal.nD Cert.MladoIdeal.τ).loc Cert.MladoIdeal.main_arg0) = m ((c.tc : Thread Cert.MladoIdeal.nD Cert.MladoIdeal.τ).loc Cert.MladoIdeal.main_arg0)
          ∧ r.2.mem ((c.tc : Thread Cert.MladoIdeal.nD Cert.MladoIdeal.τ).loc Cert.MladoIdeal.main_arg1) = m ((c.tc : Thread Cert.MladoIdeal.nD Cert.MladoIdeal.τ).loc Cert.MladoIdeal.main_arg1)
          ∧ r.2.mem ((c.tc : Thread Cert.MladoIdeal.nD Cert.MladoIdeal.τ).loc Cert.MladoIdeal.main_arg2) = m ((c.tc : Thread Cert.MladoIdeal.nD Cert.MladoIdeal.τ).loc Cert.MladoIdeal.main_arg2)
          ∧ r.2.mem ((c.tc : Thread Cert.MladoIdeal.nD Cert.MladoIdeal.τ).loc Cert.MladoIdeal.main_arg3) = m ((c.tc : Thread Cert.MladoIdeal.nD Cert.MladoIdeal.τ).loc Cert.MladoIdeal.main_arg3))
      ∧ θ_run (Cert.MladoRefIdeal.defs (F := Ideal)) (onTc (τ := Cert.MladoRefIdeal.τ) (Cert.MladoRefIdeal.main (F := Ideal))) ⟨m', fun _ => 0, g'⟩ (fun r => ∀ c : Dev Cert.MladoRefIdeal.nD,
          r.2.mem ((c.tc : Thread Cert.MladoRefIdeal.nD Cert.MladoRefIdeal.τ).loc Cert.MladoRefIdeal.main_v42) = v0 c
          ∧ r.2.mem ((c.tc : Thread Cert.MladoRefIdeal.nD Cert.MladoRefIdeal.τ).loc Cert.MladoRefIdeal.main_v43) = v1 c
          ∧ r.2.mem ((c.tc : Thread Cert.MladoRefIdeal.nD Cert.MladoRefIdeal.τ).loc Cert.MladoRefIdeal.main_v37) = v2 c
          ∧ r.2.mem ((c.tc : Thread Cert.MladoRefIdeal.nD Cert.MladoRefIdeal.τ).loc Cert.MladoRefIdeal.main_v41) = v3 c
          ∧ r.2.mem ((c.tc : Thread Cert.MladoRefIdeal.nD Cert.MladoRefIdeal.τ).loc Cert.MladoRefIdeal.main_arg0) = m' ((c.tc : Thread Cert.MladoRefIdeal.nD Cert.MladoRefIdeal.τ).loc Cert.MladoRefIdeal.main_arg0)
          ∧ r.2.mem ((c.tc : Thread Cert.MladoRefIdeal.nD Cert.MladoRefIdeal.τ).loc Cert.MladoRefIdeal.main_arg1) = m' ((c.tc : Thread Cert.MladoRefIdeal.nD Cert.MladoRefIdeal.τ).loc Cert.MladoRefIdeal.main_arg1)
          ∧ r.2.mem ((c.tc : Thread Cert.MladoRefIdeal.nD Cert.MladoRefIdeal.τ).loc Cert.MladoRefIdeal.main_arg2) = m' ((c.tc : Thread Cert.MladoRefIdeal.nD Cert.MladoRefIdeal.τ).loc Cert.MladoRefIdeal.main_arg2)
          ∧ r.2.mem ((c.tc : Thread Cert.MladoRefIdeal.nD Cert.MladoRefIdeal.τ).loc Cert.MladoRefIdeal.main_arg3) = m' ((c.tc : Thread Cert.MladoRefIdeal.nD Cert.MladoRefIdeal.τ).loc Cert.MladoRefIdeal.main_arg3))

def preserves_Hgdo_HgdoIdeal : Prop :=
  True

def algebraic_HgdoIdeal_HgdoRefIdeal_pre_hgdo_finite [hHgdoIdeal : Cert.HgdoIdeal.Facts] [hHgdoRefIdeal : Cert.HgdoRefIdeal.Facts] [hPre_hgdo_finite : Cert.Pre_hgdo_finite.Facts] : Prop :=
  ∀ (m : (ℓ : Loc Cert.HgdoIdeal.nD Cert.HgdoIdeal.τ Cert.HgdoIdeal.sig) → Buf (Elt Ideal) ℓ) (g : Dev Cert.HgdoIdeal.nD → PrngReg)
    (m' : (ℓ : Loc Cert.HgdoRefIdeal.nD Cert.HgdoRefIdeal.τ Cert.HgdoRefIdeal.sig) → Buf (Elt Ideal) ℓ) (g' : Dev Cert.HgdoRefIdeal.nD → PrngReg), Pre_HgdoIdeal_hgdo_finite m →
    (∀ c : Dev Cert.HgdoIdeal.nD,
      m' ((c.tc : Thread Cert.HgdoRefIdeal.nD Cert.HgdoRefIdeal.τ).loc Cert.HgdoRefIdeal.main_arg0) = m ((c.tc : Thread Cert.HgdoIdeal.nD Cert.HgdoIdeal.τ).loc Cert.HgdoIdeal.main_arg0)
      ∧ m' ((c.tc : Thread Cert.HgdoRefIdeal.nD Cert.HgdoRefIdeal.τ).loc Cert.HgdoRefIdeal.main_arg1) = m ((c.tc : Thread Cert.HgdoIdeal.nD Cert.HgdoIdeal.τ).loc Cert.HgdoIdeal.main_arg1)
      ∧ m' ((c.tc : Thread Cert.HgdoRefIdeal.nD Cert.HgdoRefIdeal.τ).loc Cert.HgdoRefIdeal.main_arg2) = m ((c.tc : Thread Cert.HgdoIdeal.nD Cert.HgdoIdeal.τ).loc Cert.HgdoIdeal.main_arg2)
      ∧ m' ((c.tc : Thread Cert.HgdoRefIdeal.nD Cert.HgdoRefIdeal.τ).loc Cert.HgdoRefIdeal.main_arg3) = m ((c.tc : Thread Cert.HgdoIdeal.nD Cert.HgdoIdeal.τ).loc Cert.HgdoIdeal.main_arg3)) →
    ∃ (v0 : (c : Dev Cert.HgdoIdeal.nD) → Buf (Elt Ideal) ((c.tc : Thread Cert.HgdoIdeal.nD Cert.HgdoIdeal.τ).loc Cert.HgdoIdeal.main_v5_0)) (v1 : (c : Dev Cert.HgdoIdeal.nD) → Buf (Elt Ideal) ((c.tc : Thread Cert.HgdoIdeal.nD Cert.HgdoIdeal.τ).loc Cert.HgdoIdeal.main_v5_1)) (v2 : (c : Dev Cert.HgdoIdeal.nD) → Buf (Elt Ideal) ((c.tc : Thread Cert.HgdoIdeal.nD Cert.HgdoIdeal.τ).loc Cert.HgdoIdeal.main_v5_2)),
      θ_run (Cert.HgdoIdeal.defs (F := Ideal)) (onTc (τ := Cert.HgdoIdeal.τ) (Cert.HgdoIdeal.main (F := Ideal))) ⟨m, fun _ => 0, g⟩ (fun r => ∀ c : Dev Cert.HgdoIdeal.nD,
          r.2.mem ((c.tc : Thread Cert.HgdoIdeal.nD Cert.HgdoIdeal.τ).loc Cert.HgdoIdeal.main_v5_0) = v0 c
          ∧ r.2.mem ((c.tc : Thread Cert.HgdoIdeal.nD Cert.HgdoIdeal.τ).loc Cert.HgdoIdeal.main_v5_1) = v1 c
          ∧ r.2.mem ((c.tc : Thread Cert.HgdoIdeal.nD Cert.HgdoIdeal.τ).loc Cert.HgdoIdeal.main_v5_2) = v2 c
          ∧ r.2.mem ((c.tc : Thread Cert.HgdoIdeal.nD Cert.HgdoIdeal.τ).loc Cert.HgdoIdeal.main_arg0) = m ((c.tc : Thread Cert.HgdoIdeal.nD Cert.HgdoIdeal.τ).loc Cert.HgdoIdeal.main_arg0)
          ∧ r.2.mem ((c.tc : Thread Cert.HgdoIdeal.nD Cert.HgdoIdeal.τ).loc Cert.HgdoIdeal.main_arg1) = m ((c.tc : Thread Cert.HgdoIdeal.nD Cert.HgdoIdeal.τ).loc Cert.HgdoIdeal.main_arg1)
          ∧ r.2.mem ((c.tc : Thread Cert.HgdoIdeal.nD Cert.HgdoIdeal.τ).loc Cert.HgdoIdeal.main_arg2) = m ((c.tc : Thread Cert.HgdoIdeal.nD Cert.HgdoIdeal.τ).loc Cert.HgdoIdeal.main_arg2)
          ∧ r.2.mem ((c.tc : Thread Cert.HgdoIdeal.nD Cert.HgdoIdeal.τ).loc Cert.HgdoIdeal.main_arg3) = m ((c.tc : Thread Cert.HgdoIdeal.nD Cert.HgdoIdeal.τ).loc Cert.HgdoIdeal.main_arg3))
      ∧ θ_run (Cert.HgdoRefIdeal.defs (F := Ideal)) (onTc (τ := Cert.HgdoRefIdeal.τ) (Cert.HgdoRefIdeal.main (F := Ideal))) ⟨m', fun _ => 0, g'⟩ (fun r => ∀ c : Dev Cert.HgdoRefIdeal.nD,
          r.2.mem ((c.tc : Thread Cert.HgdoRefIdeal.nD Cert.HgdoRefIdeal.τ).loc Cert.HgdoRefIdeal.main_v38) = v0 c
          ∧ r.2.mem ((c.tc : Thread Cert.HgdoRefIdeal.nD Cert.HgdoRefIdeal.τ).loc Cert.HgdoRefIdeal.main_v39) = v1 c
          ∧ r.2.mem ((c.tc : Thread Cert.HgdoRefIdeal.nD Cert.HgdoRefIdeal.τ).loc Cert.HgdoRefIdeal.main_v37) = v2 c
          ∧ r.2.mem ((c.tc : Thread Cert.HgdoRefIdeal.nD Cert.HgdoRefIdeal.τ).loc Cert.HgdoRefIdeal.main_arg0) = m' ((c.tc : Thread Cert.HgdoRefIdeal.nD Cert.HgdoRefIdeal.τ).loc Cert.HgdoRefIdeal.main_arg0)
          ∧ r.2.mem ((c.tc : Thread Cert.HgdoRefIdeal.nD Cert.HgdoRefIdeal.τ).loc Cert.HgdoRefIdeal.main_arg1) = m' ((c.tc : Thread Cert.HgdoRefIdeal.nD Cert.HgdoRefIdeal.τ).loc Cert.HgdoRefIdeal.main_arg1)
          ∧ r.2.mem ((c.tc : Thread Cert.HgdoRefIdeal.nD Cert.HgdoRefIdeal.τ).loc Cert.HgdoRefIdeal.main_arg2) = m' ((c.tc : Thread Cert.HgdoRefIdeal.nD Cert.HgdoRefIdeal.τ).loc Cert.HgdoRefIdeal.main_arg2)
          ∧ r.2.mem ((c.tc : Thread Cert.HgdoRefIdeal.nD Cert.HgdoRefIdeal.τ).loc Cert.HgdoRefIdeal.main_arg3) = m' ((c.tc : Thread Cert.HgdoRefIdeal.nD Cert.HgdoRefIdeal.τ).loc Cert.HgdoRefIdeal.main_arg3))

def preserves_Mid_MidIdeal : Prop :=
  True

def algebraic_MidIdeal_MidRefIdeal_pre_mid_finite [hMidIdeal : Cert.MidIdeal.Facts] [hMidRefIdeal : Cert.MidRefIdeal.Facts] [hPre_mid_finite : Cert.Pre_mid_finite.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_mid_finite m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v25_0)) (v1 : (c : Dev Cert.MidIdeal.nD) → Buf (Elt Ideal) ((c.tc : Thread Cert.MidIdeal.nD Cert.MidIdeal.τ).loc Cert.MidIdeal.main_v25_1)) (v2 : (c : Dev Cert.MidIdeal.nD) → Buf (Elt Ideal) ((c.tc : Thread Cert.MidIdeal.nD Cert.MidIdeal.τ).loc Cert.MidIdeal.main_v25_2)) (v3 : (c : Dev Cert.MidIdeal.nD) → Buf (Elt Ideal) ((c.tc : Thread Cert.MidIdeal.nD Cert.MidIdeal.τ).loc Cert.MidIdeal.main_v25_3)) (v4 : (c : Dev Cert.MidIdeal.nD) → Buf (Elt Ideal) ((c.tc : Thread Cert.MidIdeal.nD Cert.MidIdeal.τ).loc Cert.MidIdeal.main_v25_4)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v25_0) = v0 c
          ∧ r.2.mem ((c.tc : Thread Cert.MidIdeal.nD Cert.MidIdeal.τ).loc Cert.MidIdeal.main_v25_1) = v1 c
          ∧ r.2.mem ((c.tc : Thread Cert.MidIdeal.nD Cert.MidIdeal.τ).loc Cert.MidIdeal.main_v25_2) = v2 c
          ∧ r.2.mem ((c.tc : Thread Cert.MidIdeal.nD Cert.MidIdeal.τ).loc Cert.MidIdeal.main_v25_3) = v3 c
          ∧ r.2.mem ((c.tc : Thread Cert.MidIdeal.nD Cert.MidIdeal.τ).loc Cert.MidIdeal.main_v25_4) = v4 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v177) = v0 c
          ∧ r.2.mem ((c.tc : Thread Cert.MidRefIdeal.nD Cert.MidRefIdeal.τ).loc Cert.MidRefIdeal.main_v178) = v1 c
          ∧ r.2.mem ((c.tc : Thread Cert.MidRefIdeal.nD Cert.MidRefIdeal.τ).loc Cert.MidRefIdeal.main_v179) = v2 c
          ∧ r.2.mem ((c.tc : Thread Cert.MidRefIdeal.nD Cert.MidRefIdeal.τ).loc Cert.MidRefIdeal.main_v180) = v3 c
          ∧ r.2.mem ((c.tc : Thread Cert.MidRefIdeal.nD Cert.MidRefIdeal.τ).loc Cert.MidRefIdeal.main_v181) = v4 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v15) = v0 c
          ∧ r.2.mem ((c.tc : Thread Cert.UpRefIdeal.nD Cert.UpRefIdeal.τ).loc Cert.UpRefIdeal.main_v17) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v6_0)) (v1 : (c : Dev Cert.DownIdeal.nD) → Buf (Elt Ideal) ((c.tc : Thread Cert.DownIdeal.nD Cert.DownIdeal.τ).loc Cert.DownIdeal.main_v6_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6_0) = v0 c
          ∧ r.2.mem ((c.tc : Thread Cert.DownIdeal.nD Cert.DownIdeal.τ).loc Cert.DownIdeal.main_v6_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_v16) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Bounds_BoundsIdeal : Prop :=
  True

def algebraic_BoundsIdeal_BoundsRefIdeal_pre_bounds_finite [hBoundsIdeal : Cert.BoundsIdeal.Facts] [hBoundsRefIdeal : Cert.BoundsRefIdeal.Facts] [hPre_bounds_finite : Cert.Pre_bounds_finite.Facts] : Prop :=
  ∀ (m : (ℓ : Loc Cert.BoundsIdeal.nD Cert.BoundsIdeal.τ Cert.BoundsIdeal.sig) → Buf (Elt Ideal) ℓ) (g : Dev Cert.BoundsIdeal.nD → PrngReg)
    (m' : (ℓ : Loc Cert.BoundsRefIdeal.nD Cert.BoundsRefIdeal.τ Cert.BoundsRefIdeal.sig) → Buf (Elt Ideal) ℓ) (g' : Dev Cert.BoundsRefIdeal.nD → PrngReg), Pre_BoundsIdeal_bounds_finite m →
    (∀ c : Dev Cert.BoundsIdeal.nD,
      m' ((c.tc : Thread Cert.BoundsRefIdeal.nD Cert.BoundsRefIdeal.τ).loc Cert.BoundsRefIdeal.main_arg0) = m ((c.tc : Thread Cert.BoundsIdeal.nD Cert.BoundsIdeal.τ).loc Cert.BoundsIdeal.main_arg0)) →
    ∃ (v0 : (c : Dev Cert.BoundsIdeal.nD) → Buf (Elt Ideal) ((c.tc : Thread Cert.BoundsIdeal.nD Cert.BoundsIdeal.τ).loc Cert.BoundsIdeal.main_v0)),
      θ_run (Cert.BoundsIdeal.defs (F := Ideal)) (onTc (τ := Cert.BoundsIdeal.τ) (Cert.BoundsIdeal.main (F := Ideal))) ⟨m, fun _ => 0, g⟩ (fun r => ∀ c : Dev Cert.BoundsIdeal.nD,
          r.2.mem ((c.tc : Thread Cert.BoundsIdeal.nD Cert.BoundsIdeal.τ).loc Cert.BoundsIdeal.main_v0) = v0 c
          ∧ r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ θ_run (Cert.BoundsRefIdeal.defs (F := Ideal)) (onTc (τ := Cert.BoundsRefIdeal.τ) (Cert.BoundsRefIdeal.main (F := Ideal))) ⟨m', fun _ => 0, g'⟩ (fun r => ∀ c : Dev Cert.BoundsRefIdeal.nD,
          r.2.mem ((c.tc : Thread Cert.BoundsRefIdeal.nD Cert.BoundsRefIdeal.τ).loc Cert.BoundsRefIdeal.main_v16) = v0 c
          ∧ r.2.mem ((c.tc : Thread Cert.BoundsRefIdeal.nD Cert.BoundsRefIdeal.τ).loc Cert.BoundsRefIdeal.main_arg0) = m' ((c.tc : Thread Cert.BoundsRefIdeal.nD Cert.BoundsRefIdeal.τ).loc Cert.BoundsRefIdeal.main_arg0))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v3_0)) (v1 : (c : Dev Cert.PostIdeal.nD) → Buf (Elt Ideal) ((c.tc : Thread Cert.PostIdeal.nD Cert.PostIdeal.τ).loc Cert.PostIdeal.main_v3_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v3_0) = v0 c
          ∧ r.2.mem ((c.tc : Thread Cert.PostIdeal.nD Cert.PostIdeal.τ).loc Cert.PostIdeal.main_v3_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v0) = v0 c
          ∧ r.2.mem ((c.tc : Thread Cert.PostRefIdeal.nD Cert.PostRefIdeal.τ).loc Cert.PostRefIdeal.main_v14) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_Min_MinIdeal : Prop :=
  True

def algebraic_MinIdeal_MinRefIdeal [hMinIdeal : Cert.MinIdeal.Facts] [hMinRefIdeal : Cert.MinRefIdeal.Facts] : Prop :=
  ∀ (m : (ℓ : Loc Cert.MinIdeal.nD Cert.MinIdeal.τ Cert.MinIdeal.sig) → Buf (Elt Ideal) ℓ) (g : Dev Cert.MinIdeal.nD → PrngReg)
    (m' : (ℓ : Loc Cert.MinRefIdeal.nD Cert.MinRefIdeal.τ Cert.MinRefIdeal.sig) → Buf (Elt Ideal) ℓ) (g' : Dev Cert.MinRefIdeal.nD → PrngReg), Pre_MinIdeal m →
    (∀ c : Dev Cert.MinIdeal.nD,
      m' ((c.tc : Thread Cert.MinRefIdeal.nD Cert.MinRefIdeal.τ).loc Cert.MinRefIdeal.main_arg0) = m ((c.tc : Thread Cert.MinIdeal.nD Cert.MinIdeal.τ).loc Cert.MinIdeal.main_arg0)
      ∧ m' ((c.tc : Thread Cert.MinRefIdeal.nD Cert.MinRefIdeal.τ).loc Cert.MinRefIdeal.main_arg1) = m ((c.tc : Thread Cert.MinIdeal.nD Cert.MinIdeal.τ).loc Cert.MinIdeal.main_arg1)
      ∧ m' ((c.tc : Thread Cert.MinRefIdeal.nD Cert.MinRefIdeal.τ).loc Cert.MinRefIdeal.main_arg2) = m ((c.tc : Thread Cert.MinIdeal.nD Cert.MinIdeal.τ).loc Cert.MinIdeal.main_arg2)) →
    ∃ (v0 : (c : Dev Cert.MinIdeal.nD) → Buf (Elt Ideal) ((c.tc : Thread Cert.MinIdeal.nD Cert.MinIdeal.τ).loc Cert.MinIdeal.main_v2_0)) (v1 : (c : Dev Cert.MinIdeal.nD) → Buf (Elt Ideal) ((c.tc : Thread Cert.MinIdeal.nD Cert.MinIdeal.τ).loc Cert.MinIdeal.main_v2_1)),
      θ_run (Cert.MinIdeal.defs (F := Ideal)) (onTc (τ := Cert.MinIdeal.τ) (Cert.MinIdeal.main (F := Ideal))) ⟨m, fun _ => 0, g⟩ (fun r => ∀ c : Dev Cert.MinIdeal.nD,
          r.2.mem ((c.tc : Thread Cert.MinIdeal.nD Cert.MinIdeal.τ).loc Cert.MinIdeal.main_v2_0) = v0 c
          ∧ r.2.mem ((c.tc : Thread Cert.MinIdeal.nD Cert.MinIdeal.τ).loc Cert.MinIdeal.main_v2_1) = v1 c
          ∧ r.2.mem ((c.tc : Thread Cert.MinIdeal.nD Cert.MinIdeal.τ).loc Cert.MinIdeal.main_arg0) = m ((c.tc : Thread Cert.MinIdeal.nD Cert.MinIdeal.τ).loc Cert.MinIdeal.main_arg0)
          ∧ r.2.mem ((c.tc : Thread Cert.MinIdeal.nD Cert.MinIdeal.τ).loc Cert.MinIdeal.main_arg1) = m ((c.tc : Thread Cert.MinIdeal.nD Cert.MinIdeal.τ).loc Cert.MinIdeal.main_arg1)
          ∧ r.2.mem ((c.tc : Thread Cert.MinIdeal.nD Cert.MinIdeal.τ).loc Cert.MinIdeal.main_arg2) = m ((c.tc : Thread Cert.MinIdeal.nD Cert.MinIdeal.τ).loc Cert.MinIdeal.main_arg2))
      ∧ θ_run (Cert.MinRefIdeal.defs (F := Ideal)) (onTc (τ := Cert.MinRefIdeal.τ) (Cert.MinRefIdeal.main (F := Ideal))) ⟨m', fun _ => 0, g'⟩ (fun r => ∀ c : Dev Cert.MinRefIdeal.nD,
          r.2.mem ((c.tc : Thread Cert.MinRefIdeal.nD Cert.MinRefIdeal.τ).loc Cert.MinRefIdeal.main_v13) = v0 c
          ∧ r.2.mem ((c.tc : Thread Cert.MinRefIdeal.nD Cert.MinRefIdeal.τ).loc Cert.MinRefIdeal.main_v14) = v1 c
          ∧ r.2.mem ((c.tc : Thread Cert.MinRefIdeal.nD Cert.MinRefIdeal.τ).loc Cert.MinRefIdeal.main_arg0) = m' ((c.tc : Thread Cert.MinRefIdeal.nD Cert.MinRefIdeal.τ).loc Cert.MinRefIdeal.main_arg0)
          ∧ r.2.mem ((c.tc : Thread Cert.MinRefIdeal.nD Cert.MinRefIdeal.τ).loc Cert.MinRefIdeal.main_arg1) = m' ((c.tc : Thread Cert.MinRefIdeal.nD Cert.MinRefIdeal.τ).loc Cert.MinRefIdeal.main_arg1)
          ∧ r.2.mem ((c.tc : Thread Cert.MinRefIdeal.nD Cert.MinRefIdeal.τ).loc Cert.MinRefIdeal.main_arg2) = m' ((c.tc : Thread Cert.MinRefIdeal.nD Cert.MinRefIdeal.τ).loc Cert.MinRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v22_0)) (v1 : (c : Dev Cert.QkvIdeal.nD) → Buf (Elt Ideal) ((c.tc : Thread Cert.QkvIdeal.nD Cert.QkvIdeal.τ).loc Cert.QkvIdeal.main_v22_1)) (v2 : (c : Dev Cert.QkvIdeal.nD) → Buf (Elt Ideal) ((c.tc : Thread Cert.QkvIdeal.nD Cert.QkvIdeal.τ).loc Cert.QkvIdeal.main_v22_2)) (v3 : (c : Dev Cert.QkvIdeal.nD) → Buf (Elt Ideal) ((c.tc : Thread Cert.QkvIdeal.nD Cert.QkvIdeal.τ).loc Cert.QkvIdeal.main_v22_3)) (v4 : (c : Dev Cert.QkvIdeal.nD) → Buf (Elt Ideal) ((c.tc : Thread Cert.QkvIdeal.nD Cert.QkvIdeal.τ).loc Cert.QkvIdeal.main_v22_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v22_0) = v0 c
          ∧ r.2.mem ((c.tc : Thread Cert.QkvIdeal.nD Cert.QkvIdeal.τ).loc Cert.QkvIdeal.main_v22_1) = v1 c
          ∧ r.2.mem ((c.tc : Thread Cert.QkvIdeal.nD Cert.QkvIdeal.τ).loc Cert.QkvIdeal.main_v22_2) = v2 c
          ∧ r.2.mem ((c.tc : Thread Cert.QkvIdeal.nD Cert.QkvIdeal.τ).loc Cert.QkvIdeal.main_v22_3) = v3 c
          ∧ r.2.mem ((c.tc : Thread Cert.QkvIdeal.nD Cert.QkvIdeal.τ).loc Cert.QkvIdeal.main_v22_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v86) = v0 c
          ∧ r.2.mem ((c.tc : Thread Cert.QkvRefIdeal.nD Cert.QkvRefIdeal.τ).loc Cert.QkvRefIdeal.main_v87) = v1 c
          ∧ r.2.mem ((c.tc : Thread Cert.QkvRefIdeal.nD Cert.QkvRefIdeal.τ).loc Cert.QkvRefIdeal.main_v88) = v2 c
          ∧ r.2.mem ((c.tc : Thread Cert.QkvRefIdeal.nD Cert.QkvRefIdeal.τ).loc Cert.QkvRefIdeal.main_v89) = v3 c
          ∧ r.2.mem ((c.tc : Thread Cert.QkvRefIdeal.nD Cert.QkvRefIdeal.τ).loc Cert.QkvRefIdeal.main_v90) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v6) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def Claim : Prop :=
  ∃ (hLb : Cert.Lb.Facts) (hLbIdeal : Cert.LbIdeal.Facts) (hLbRefIdeal : Cert.LbRefIdeal.Facts) (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hOut : Cert.Out.Facts) (hOutIdeal : Cert.OutIdeal.Facts) (hOutRefIdeal : Cert.OutRefIdeal.Facts) (hDup : Cert.Dup.Facts) (hDupIdeal : Cert.DupIdeal.Facts) (hDupRefIdeal : Cert.DupRefIdeal.Facts) (hDin : Cert.Din.Facts) (hDinIdeal : Cert.DinIdeal.Facts) (hDinRefIdeal : Cert.DinRefIdeal.Facts) (hDdown : Cert.Ddown.Facts) (hDdownIdeal : Cert.DdownIdeal.Facts) (hDdownRefIdeal : Cert.DdownRefIdeal.Facts) (hMlado : Cert.Mlado.Facts) (hMladoIdeal : Cert.MladoIdeal.Facts) (hMladoRefIdeal : Cert.MladoRefIdeal.Facts) (hHgdo : Cert.Hgdo.Facts) (hHgdoIdeal : Cert.HgdoIdeal.Facts) (hHgdoRefIdeal : Cert.HgdoRefIdeal.Facts) (hMid : Cert.Mid.Facts) (hMidIdeal : Cert.MidIdeal.Facts) (hMidRefIdeal : Cert.MidRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hBounds : Cert.Bounds.Facts) (hBoundsIdeal : Cert.BoundsIdeal.Facts) (hBoundsRefIdeal : Cert.BoundsRefIdeal.Facts) (hPost : Cert.Post.Facts) (hPostIdeal : Cert.PostIdeal.Facts) (hPostRefIdeal : Cert.PostRefIdeal.Facts) (hMin : Cert.Min.Facts) (hMinIdeal : Cert.MinIdeal.Facts) (hMinRefIdeal : Cert.MinRefIdeal.Facts) (hQkv : Cert.Qkv.Facts) (hQkvIdeal : Cert.QkvIdeal.Facts) (hQkvRefIdeal : Cert.QkvRefIdeal.Facts) (hDw : Cert.Dw.Facts) (hDwIdeal : Cert.DwIdeal.Facts) (hDwRefIdeal : Cert.DwRefIdeal.Facts) (hPre_lb_finite : Cert.Pre_lb_finite.Facts) (hPre_attn_finite : Cert.Pre_attn_finite.Facts) (hPre_out_finite : Cert.Pre_out_finite.Facts) (hPre_dup_finite : Cert.Pre_dup_finite.Facts) (hPre_din_finite : Cert.Pre_din_finite.Facts) (hPre_ddown_finite : Cert.Pre_ddown_finite.Facts) (hPre_mlado_finite : Cert.Pre_mlado_finite.Facts) (hPre_hgdo_finite : Cert.Pre_hgdo_finite.Facts) (hPre_mid_finite : Cert.Pre_mid_finite.Facts) (hPre_bounds_finite : Cert.Pre_bounds_finite.Facts),
    quiescent_Lb (hLb := hLb)
    ∧ quiescent_LbIdeal (hLbIdeal := hLbIdeal)
    ∧ quiescent_LbIdeal_pre_lb_finite (hLbIdeal := hLbIdeal) (hPre_lb_finite := hPre_lb_finite)
    ∧ quiescent_LbRefIdeal (hLbRefIdeal := hLbRefIdeal)
    ∧ quiescent_LbRefIdeal_pre_lb_finite (hLbRefIdeal := hLbRefIdeal) (hPre_lb_finite := hPre_lb_finite)
    ∧ quiescent_Loss (hLoss := hLoss)
    ∧ quiescent_LossIdeal (hLossIdeal := hLossIdeal)
    ∧ quiescent_LossRefIdeal (hLossRefIdeal := hLossRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Out (hOut := hOut)
    ∧ quiescent_OutIdeal (hOutIdeal := hOutIdeal)
    ∧ quiescent_OutIdeal_pre_out_finite (hOutIdeal := hOutIdeal) (hPre_out_finite := hPre_out_finite)
    ∧ quiescent_OutRefIdeal (hOutRefIdeal := hOutRefIdeal)
    ∧ quiescent_OutRefIdeal_pre_out_finite (hOutRefIdeal := hOutRefIdeal) (hPre_out_finite := hPre_out_finite)
    ∧ quiescent_Dup (hDup := hDup)
    ∧ quiescent_DupIdeal (hDupIdeal := hDupIdeal)
    ∧ quiescent_DupIdeal_pre_dup_finite (hDupIdeal := hDupIdeal) (hPre_dup_finite := hPre_dup_finite)
    ∧ quiescent_DupRefIdeal (hDupRefIdeal := hDupRefIdeal)
    ∧ quiescent_DupRefIdeal_pre_dup_finite (hDupRefIdeal := hDupRefIdeal) (hPre_dup_finite := hPre_dup_finite)
    ∧ quiescent_Din (hDin := hDin)
    ∧ quiescent_DinIdeal (hDinIdeal := hDinIdeal)
    ∧ quiescent_DinIdeal_pre_din_finite (hDinIdeal := hDinIdeal) (hPre_din_finite := hPre_din_finite)
    ∧ quiescent_DinRefIdeal (hDinRefIdeal := hDinRefIdeal)
    ∧ quiescent_DinRefIdeal_pre_din_finite (hDinRefIdeal := hDinRefIdeal) (hPre_din_finite := hPre_din_finite)
    ∧ quiescent_Ddown (hDdown := hDdown)
    ∧ quiescent_DdownIdeal (hDdownIdeal := hDdownIdeal)
    ∧ quiescent_DdownIdeal_pre_ddown_finite (hDdownIdeal := hDdownIdeal) (hPre_ddown_finite := hPre_ddown_finite)
    ∧ quiescent_DdownRefIdeal (hDdownRefIdeal := hDdownRefIdeal)
    ∧ quiescent_DdownRefIdeal_pre_ddown_finite (hDdownRefIdeal := hDdownRefIdeal) (hPre_ddown_finite := hPre_ddown_finite)
    ∧ quiescent_Mlado (hMlado := hMlado)
    ∧ quiescent_MladoIdeal (hMladoIdeal := hMladoIdeal)
    ∧ quiescent_MladoIdeal_pre_mlado_finite (hMladoIdeal := hMladoIdeal) (hPre_mlado_finite := hPre_mlado_finite)
    ∧ quiescent_MladoRefIdeal (hMladoRefIdeal := hMladoRefIdeal)
    ∧ quiescent_MladoRefIdeal_pre_mlado_finite (hMladoRefIdeal := hMladoRefIdeal) (hPre_mlado_finite := hPre_mlado_finite)
    ∧ quiescent_Hgdo (hHgdo := hHgdo)
    ∧ quiescent_HgdoIdeal (hHgdoIdeal := hHgdoIdeal)
    ∧ quiescent_HgdoIdeal_pre_hgdo_finite (hHgdoIdeal := hHgdoIdeal) (hPre_hgdo_finite := hPre_hgdo_finite)
    ∧ quiescent_HgdoRefIdeal (hHgdoRefIdeal := hHgdoRefIdeal)
    ∧ quiescent_HgdoRefIdeal_pre_hgdo_finite (hHgdoRefIdeal := hHgdoRefIdeal) (hPre_hgdo_finite := hPre_hgdo_finite)
    ∧ quiescent_Mid (hMid := hMid)
    ∧ quiescent_MidIdeal (hMidIdeal := hMidIdeal)
    ∧ quiescent_MidIdeal_pre_mid_finite (hMidIdeal := hMidIdeal) (hPre_mid_finite := hPre_mid_finite)
    ∧ quiescent_MidRefIdeal (hMidRefIdeal := hMidRefIdeal)
    ∧ quiescent_MidRefIdeal_pre_mid_finite (hMidRefIdeal := hMidRefIdeal) (hPre_mid_finite := hPre_mid_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Bounds (hBounds := hBounds)
    ∧ quiescent_BoundsIdeal (hBoundsIdeal := hBoundsIdeal)
    ∧ quiescent_BoundsIdeal_pre_bounds_finite (hBoundsIdeal := hBoundsIdeal) (hPre_bounds_finite := hPre_bounds_finite)
    ∧ quiescent_BoundsRefIdeal (hBoundsRefIdeal := hBoundsRefIdeal)
    ∧ quiescent_BoundsRefIdeal_pre_bounds_finite (hBoundsRefIdeal := hBoundsRefIdeal) (hPre_bounds_finite := hPre_bounds_finite)
    ∧ quiescent_Post (hPost := hPost)
    ∧ quiescent_PostIdeal (hPostIdeal := hPostIdeal)
    ∧ quiescent_PostRefIdeal (hPostRefIdeal := hPostRefIdeal)
    ∧ quiescent_Min (hMin := hMin)
    ∧ quiescent_MinIdeal (hMinIdeal := hMinIdeal)
    ∧ quiescent_MinRefIdeal (hMinRefIdeal := hMinRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Dw (hDw := hDw)
    ∧ quiescent_DwIdeal (hDwIdeal := hDwIdeal)
    ∧ quiescent_DwRefIdeal (hDwRefIdeal := hDwRefIdeal)
    ∧ preserves_Lb_LbIdeal
    ∧ algebraic_LbIdeal_LbRefIdeal_pre_lb_finite (hLbIdeal := hLbIdeal) (hLbRefIdeal := hLbRefIdeal) (hPre_lb_finite := hPre_lb_finite)
    ∧ preserves_Loss_LossIdeal
    ∧ algebraic_LossIdeal_LossRefIdeal (hLossIdeal := hLossIdeal) (hLossRefIdeal := hLossRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Out_OutIdeal
    ∧ algebraic_OutIdeal_OutRefIdeal_pre_out_finite (hOutIdeal := hOutIdeal) (hOutRefIdeal := hOutRefIdeal) (hPre_out_finite := hPre_out_finite)
    ∧ preserves_Dup_DupIdeal
    ∧ algebraic_DupIdeal_DupRefIdeal_pre_dup_finite (hDupIdeal := hDupIdeal) (hDupRefIdeal := hDupRefIdeal) (hPre_dup_finite := hPre_dup_finite)
    ∧ preserves_Din_DinIdeal
    ∧ algebraic_DinIdeal_DinRefIdeal_pre_din_finite (hDinIdeal := hDinIdeal) (hDinRefIdeal := hDinRefIdeal) (hPre_din_finite := hPre_din_finite)
    ∧ preserves_Ddown_DdownIdeal
    ∧ algebraic_DdownIdeal_DdownRefIdeal_pre_ddown_finite (hDdownIdeal := hDdownIdeal) (hDdownRefIdeal := hDdownRefIdeal) (hPre_ddown_finite := hPre_ddown_finite)
    ∧ preserves_Mlado_MladoIdeal
    ∧ algebraic_MladoIdeal_MladoRefIdeal_pre_mlado_finite (hMladoIdeal := hMladoIdeal) (hMladoRefIdeal := hMladoRefIdeal) (hPre_mlado_finite := hPre_mlado_finite)
    ∧ preserves_Hgdo_HgdoIdeal
    ∧ algebraic_HgdoIdeal_HgdoRefIdeal_pre_hgdo_finite (hHgdoIdeal := hHgdoIdeal) (hHgdoRefIdeal := hHgdoRefIdeal) (hPre_hgdo_finite := hPre_hgdo_finite)
    ∧ preserves_Mid_MidIdeal
    ∧ algebraic_MidIdeal_MidRefIdeal_pre_mid_finite (hMidIdeal := hMidIdeal) (hMidRefIdeal := hMidRefIdeal) (hPre_mid_finite := hPre_mid_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Bounds_BoundsIdeal
    ∧ algebraic_BoundsIdeal_BoundsRefIdeal_pre_bounds_finite (hBoundsIdeal := hBoundsIdeal) (hBoundsRefIdeal := hBoundsRefIdeal) (hPre_bounds_finite := hPre_bounds_finite)
    ∧ preserves_Post_PostIdeal
    ∧ algebraic_PostIdeal_PostRefIdeal (hPostIdeal := hPostIdeal) (hPostRefIdeal := hPostRefIdeal)
    ∧ preserves_Min_MinIdeal
    ∧ algebraic_MinIdeal_MinRefIdeal (hMinIdeal := hMinIdeal) (hMinRefIdeal := hMinRefIdeal)
    ∧ preserves_Qkv_QkvIdeal
    ∧ algebraic_QkvIdeal_QkvRefIdeal (hQkvIdeal := hQkvIdeal) (hQkvRefIdeal := hQkvRefIdeal)
    ∧ preserves_Dw_DwIdeal
    ∧ algebraic_DwIdeal_DwRefIdeal (hDwIdeal := hDwIdeal) (hDwRefIdeal := hDwRefIdeal)
-- ==== Pre_attn_finite.lean ====
abbrev S8x4096x192 : Shape := ⟨3, ![8, 4096, 192]⟩
abbrev S8x4096x128 : Shape := ⟨3, ![8, 4096, 128]⟩
abbrev S4096x1024 : Shape := ⟨2, ![4096, 1024]⟩
abbrev S_ : Shape := ⟨0, ![]⟩

class Facts : Prop where
  bcast_S_S8x4096x192 : S_.BroadcastsInDim S8x4096x192 (![] : Fin 0 → Fin S8x4096x192.rank)
  bcast_S_S8x4096x128 : S_.BroadcastsInDim S8x4096x128 (![] : Fin 0 → Fin S8x4096x128.rank)
  bcast_S_S4096x1024 : S_.BroadcastsInDim S4096x1024 (![] : Fin 0 → Fin S4096x1024.rank)

variable [Facts]

def fn {F : FTy → Type} [FloatOps F] (main_arg0 : FVec F S8x4096x192 .f32) (main_arg1 : FVec F S8x4096x192 .f32) (main_arg2 : FVec F S8x4096x128 .f32) (main_arg3 : FVec F S4096x1024 .f32) : IVec S8x4096x192 1 × IVec S8x4096x192 1 × IVec S8x4096x128 1 × IVec S4096x1024 1 :=
  let main_v0 : FVec F S8x4096x192 .f32 := Host.absf main_arg0
  let main_cst : FVec F S_ .f32 := constant S_ .f32 0x7F800000#32
  let main_v1 : FVec F S8x4096x192 .f32 := broadcastInDim S8x4096x192 ![] bcast_S_S8x4096x192 main_cst
  let main_v2 : IVec S8x4096x192 1 := cmpf .olt main_v0 main_v1
  let main_v3 : FVec F S8x4096x192 .f32 := Host.absf main_arg1
  let main_cst_0 : FVec F S_ .f32 := constant S_ .f32 0x7F800000#32
  let main_v4 : FVec F S8x4096x192 .f32 := broadcastInDim S8x4096x192 ![] bcast_S_S8x4096x192 main_cst_0
  let main_v5 : IVec S8x4096x192 1 := cmpf .olt main_v3 main_v4
  let main_v6 : FVec F S8x4096x128 .f32 := Host.absf main_arg2
  let main_cst_1 : FVec F S_ .f32 := constant S_ .f32 0x7F800000#32
  let main_v7 : FVec F S8x4096x128 .f32 := broadcastInDim S8x4096x128 ![] bcast_S_S8x4096x128 main_cst_1
  let main_v8 : IVec S8x4096x128 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_bounds_finite.lean ====
abbrev S4x1024 : Shape := ⟨2, ![4, 1024]⟩
abbrev S_ : Shape := ⟨0, ![]⟩

class Facts : Prop where
  bcast_S_S4x1024 : S_.BroadcastsInDim S4x1024 (![] : Fin 0 → Fin S4x1024.rank)

variable [Facts]

def fn {F : FTy → Type} [FloatOps F] (main_arg0 : FVec F S4x1024 .f32) : IVec S4x1024 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  main_v2
-- ==== Pre_ddown_finite.lean ====
abbrev S4096x4096 : Shape := ⟨2, ![4096, 4096]⟩
abbrev S1024 : Shape := ⟨1, ![1024]⟩
abbrev S4096x1024 : Shape := ⟨2, ![4096, 1024]⟩
abbrev S_ : Shape := ⟨0, ![]⟩

class Facts : Prop where
  bcast_S_S4096x4096 : S_.BroadcastsInDim S4096x4096 (![] : Fin 0 → Fin S4096x4096.rank)
  bcast_S_S1024 : S_.BroadcastsInDim S1024 (![] : Fin 0 → Fin S1024.rank)
  bcast_S_S4096x1024 : S_.BroadcastsInDim S4096x1024 (![] : Fin 0 → Fin S4096x1024.rank)

variable [Facts]

def fn {F : FTy → Type} [FloatOps F] (main_arg0 : FVec F S4096x4096 .f32) (main_arg1 : FVec F S1024 .f32) (main_arg2 : FVec F S4096x1024 .f32) (main_arg3 : FVec F S4096x1024 .f32) : IVec S4096x4096 1 × IVec S1024 1 × IVec S4096x1024 1 × IVec S4096x1024 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_din_finite.lean ====
abbrev S4096x1024 : Shape := ⟨2, ![4096, 1024]⟩
abbrev S1024 : Shape := ⟨1, ![1024]⟩
abbrev S1024x832 : Shape := ⟨2, ![1024, 832]⟩
abbrev S4096x832 : Shape := ⟨2, ![4096, 832]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x832 : S_.BroadcastsInDim S1024x832 (![] : Fin 0 → Fin S1024x832.rank)
  bcast_S_S4096x832 : S_.BroadcastsInDim S4096x832 (![] : Fin 0 → Fin S4096x832.rank)

variable [Facts]

def fn {F : FTy → Type} [FloatOps F] (main_arg0 : FVec F S4096x1024 .f32) (main_arg1 : FVec F S1024 .f32) (main_arg2 : FVec F S1024x832 .f32) (main_arg3 : FVec F S4096x1024 .f32) (main_arg4 : FVec F S4096x832 .f32) : IVec S4096x1024 1 × IVec S1024 1 × IVec S1024x832 1 × IVec S4096x1024 1 × IVec S4096x832 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x832 .f32 := Host.absf main_arg2
  let main_cst_1 : FVec F S_ .f32 := constant S_ .f32 0x7F800000#32
  let main_v7 : FVec F S1024x832 .f32 := broadcastInDim S1024x832 ![] bcast_S_S1024x832 main_cst_1
  let main_v8 : IVec S1024x832 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x832 .f32 := Host.absf main_arg4
  let main_cst_3 : FVec F S_ .f32 := constant S_ .f32 0x7F800000#32
  let main_v13 : FVec F S4096x832 .f32 := broadcastInDim S4096x832 ![] bcast_S_S4096x832 main_cst_3
  let main_v14 : IVec S4096x832 1 := cmpf .olt main_v12 main_v13
  (main_v2, main_v5, main_v8, main_v11, main_v14)
-- ==== Pre_dup_finite.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x4096 : S_.BroadcastsInDim S4096x4096 (![] : Fin 0 → Fin S4096x4096.rank)

variable [Facts]

def fn {F : FTy → Type} [FloatOps F] (main_arg0 : FVec F S4096x1024 .f32) (main_arg1 : FVec F S1024 .f32) (main_arg2 : FVec F S1024x4096 .f32) (main_arg3 : FVec F S4096x1024 .f32) (main_arg4 : FVec F S4096x4096 .f32) : IVec S4096x1024 1 × IVec S1024 1 × IVec S1024x4096 1 × IVec S4096x1024 1 × IVec S4096x4096 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x4096 .f32 := Host.absf main_arg4
  let main_cst_3 : FVec F S_ .f32 := constant S_ .f32 0x7F800000#32
  let main_v13 : FVec F S4096x4096 .f32 := broadcastInDim S4096x4096 ![] bcast_S_S4096x4096 main_cst_3
  let main_v14 : IVec S4096x4096 1 := cmpf .olt main_v12 main_v13
  (main_v2, main_v5, main_v8, main_v11, main_v14)
-- ==== Pre_hgdo_finite.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S4096x1024 .f32) (main_arg1 : FVec F S1024 .f32) (main_arg2 : FVec F S1024x1024 .f32) (main_arg3 : FVec F S4096x1024 .f32) : IVec S4096x1024 1 × IVec S1024 1 × IVec S1024x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_lb_finite.lean ====
abbrev S4x1024 : Shape := ⟨2, ![4, 1024]⟩
abbrev S_ : Shape := ⟨0, ![]⟩

class Facts : Prop where
  bcast_S_S4x1024 : S_.BroadcastsInDim S4x1024 (![] : Fin 0 → Fin S4x1024.rank)

variable [Facts]

def fn {F : FTy → Type} [FloatOps F] (main_arg0 : FVec F S4x1024 .f32) (main_arg1 : FVec F S4x1024 .f32) : IVec S4x1024 1 × IVec S4x1024 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_v3 : FVec F S4x1024 .f32 := Host.absf main_arg1
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  (main_v2, main_v5)
-- ==== Pre_mid_finite.lean ====
abbrev S4096 : Shape := ⟨1, ![4096]⟩
abbrev S4096x832 : Shape := ⟨2, ![4096, 832]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S8x4096x192 : Shape := ⟨3, ![8, 4096, 192]⟩
abbrev S8x4096x128 : Shape := ⟨3, ![8, 4096, 128]⟩
abbrev S_ : Shape := ⟨0, ![]⟩

class Facts : Prop where
  bcast_S_S4096x832 : S_.BroadcastsInDim S4096x832 (![] : Fin 0 → Fin S4096x832.rank)
  bcast_S_S512 : S_.BroadcastsInDim S512 (![] : Fin 0 → Fin S512.rank)
  bcast_S_S256 : S_.BroadcastsInDim S256 (![] : Fin 0 → Fin S256.rank)
  bcast_S_S512x1536 : S_.BroadcastsInDim S512x1536 (![] : Fin 0 → Fin S512x1536.rank)
  bcast_S_S256x2048 : S_.BroadcastsInDim S256x2048 (![] : Fin 0 → Fin S256x2048.rank)
  bcast_S_S8x4096x192 : S_.BroadcastsInDim S8x4096x192 (![] : Fin 0 → Fin S8x4096x192.rank)
  bcast_S_S8x4096x128 : S_.BroadcastsInDim S8x4096x128 (![] : Fin 0 → Fin S8x4096x128.rank)

variable [Facts]

def fn_part1 {F : FTy → Type} [FloatOps F] (main_arg7 : FVec F S8x4096x192 .f32) (main_arg8 : FVec F S8x4096x128 .f32) (main_v2 : IVec S4096x832 1) (main_v5 : IVec S512 1) (main_v8 : IVec S256 1) (main_v11 : IVec S512x1536 1) (main_v14 : IVec S256x2048 1) (main_v17 : IVec S8x4096x192 1) : IVec S4096x832 1 × IVec S512 1 × IVec S256 1 × IVec S512x1536 1 × IVec S256x2048 1 × IVec S8x4096x192 1 × IVec S8x4096x192 1 × IVec S8x4096x128 1 :=
  let main_v18 : FVec F S8x4096x192 .f32 := Host.absf main_arg7
  let main_cst_5 : FVec F S_ .f32 := constant S_ .f32 0x7F800000#32
  let main_v19 : FVec F S8x4096x192 .f32 := broadcastInDim S8x4096x192 ![] bcast_S_S8x4096x192 main_cst_5
  let main_v20 : IVec S8x4096x192 1 := cmpf .olt main_v18 main_v19
  let main_v21 : FVec F S8x4096x128 .f32 := Host.absf main_arg8
  let main_cst_6 : FVec F S_ .f32 := constant S_ .f32 0x7F800000#32
  let main_v22 : FVec F S8x4096x128 .f32 := broadcastInDim S8x4096x128 ![] bcast_S_S8x4096x128 main_cst_6
  let main_v23 : IVec S8x4096x128 1 := cmpf .olt main_v21 main_v22
  (main_v2, main_v5, main_v8, main_v11, main_v14, main_v17, main_v20, main_v23)

def fn {F : FTy → Type} [FloatOps F] (main_arg0 : IVec S4096 32) (main_arg1 : FVec F S4096x832 .f32) (main_arg2 : FVec F S512 .f32) (main_arg3 : FVec F S256 .f32) (main_arg4 : FVec F S512x1536 .f32) (main_arg5 : FVec F S256x2048 .f32) (main_arg6 : FVec F S8x4096x192 .f32) (main_arg7 : FVec F S8x4096x192 .f32) (main_arg8 : FVec F S8x4096x128 .f32) : IVec S4096x832 1 × IVec S512 1 × IVec S256 1 × IVec S512x1536 1 × IVec S256x2048 1 × IVec S8x4096x192 1 × IVec S8x4096x192 1 × IVec S8x4096x128 1 :=
  let main_v0 : FVec F S4096x832 .f32 := Host.absf main_arg1
  let main_cst : FVec F S_ .f32 := constant S_ .f32 0x7F800000#32
  let main_v1 : FVec F S4096x832 .f32 := broadcastInDim S4096x832 ![] bcast_S_S4096x832 main_cst
  let main_v2 : IVec S4096x832 1 := cmpf .olt main_v0 main_v1
  let main_v3 : FVec F S512 .f32 := Host.absf main_arg2
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S256 .f32 := Host.absf main_arg3
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S512x1536 .f32 := Host.absf main_arg4
  let main_cst_2 : FVec F S_ .f32 := constant S_ .f32 0x7F800000#32
  let main_v10 : FVec F S512x1536 .f32 := broadcastInDim S512x1536 ![] bcast_S_S512x1536 main_cst_2
  let main_v11 : IVec S512x1536 1 := cmpf .olt main_v9 main_v10
  let main_v12 : FVec F S256x2048 .f32 := Host.absf main_arg5
  let main_cst_3 : FVec F S_ .f32 := constant S_ .f32 0x7F800000#32
  let main_v13 : FVec F S256x2048 .f32 := broadcastInDim S256x2048 ![] bcast_S_S256x2048 main_cst_3
  let main_v14 : IVec S256x2048 1 := cmpf .olt main_v12 main_v13
  let main_v15 : FVec F S8x4096x192 .f32 := Host.absf main_arg6
  let main_cst_4 : FVec F S_ .f32 := constant S_ .f32 0x7F800000#32
  let main_v16 : FVec F S8x4096x192 .f32 := broadcastInDim S8x4096x192 ![] bcast_S_S8x4096x192 main_cst_4
  let main_v17 : IVec S8x4096x192 1 := cmpf .olt main_v15 main_v16
  fn_part1 (F := F) main_arg7 main_arg8 main_v2 main_v5 main_v8 main_v11 main_v14 main_v17
-- ==== Pre_mlado_finite.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S4096x1024 .f32) (main_arg1 : FVec F S1024 .f32) (main_arg2 : FVec F S1024x1024 .f32) (main_arg3 : FVec F S4096x1024 .f32) : IVec S4096x1024 1 × IVec S1024 1 × IVec S1024x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_out_finite.lean ====
abbrev S8x4096x192 : Shape := ⟨3, ![8, 4096, 192]⟩
abbrev S8x4096x128 : Shape := ⟨3, ![8, 4096, 128]⟩
abbrev S_ : Shape := ⟨0, ![]⟩

class Facts : Prop where
  bcast_S_S8x4096x192 : S_.BroadcastsInDim S8x4096x192 (![] : Fin 0 → Fin S8x4096x192.rank)
  bcast_S_S8x4096x128 : S_.BroadcastsInDim S8x4096x128 (![] : Fin 0 → Fin S8x4096x128.rank)

variable [Facts]

def fn {F : FTy → Type} [FloatOps F] (main_arg0 : FVec F S8x4096x192 .f32) (main_arg1 : FVec F S8x4096x192 .f32) (main_arg2 : FVec F S8x4096x128 .f32) : IVec S8x4096x192 1 × IVec S8x4096x192 1 × IVec S8x4096x128 1 :=
  let main_v0 : FVec F S8x4096x192 .f32 := Host.absf main_arg0
  let main_cst : FVec F S_ .f32 := constant S_ .f32 0x7F800000#32
  let main_v1 : FVec F S8x4096x192 .f32 := broadcastInDim S8x4096x192 ![] bcast_S_S8x4096x192 main_cst
  let main_v2 : IVec S8x4096x192 1 := cmpf .olt main_v0 main_v1
  let main_v3 : FVec F S8x4096x192 .f32 := Host.absf main_arg1
  let main_cst_0 : FVec F S_ .f32 := constant S_ .f32 0x7F800000#32
  let main_v4 : FVec F S8x4096x192 .f32 := broadcastInDim S8x4096x192 ![] bcast_S_S8x4096x192 main_cst_0
  let main_v5 : IVec S8x4096x192 1 := cmpf .olt main_v3 main_v4
  let main_v6 : FVec F S8x4096x128 .f32 := Host.absf main_arg2
  let main_cst_1 : FVec F S_ .f32 := constant S_ .f32 0x7F800000#32
  let main_v7 : FVec F S8x4096x128 .f32 := broadcastInDim S8x4096x128 ![] bcast_S_S8x4096x128 main_cst_1
  let main_v8 : IVec S8x4096x128 1 := cmpf .olt main_v6 main_v7
  (main_v2, main_v5, main_v8)
-- ==== Lb.lean ====
abbrev S4x1024 : Shape := ⟨2, ![4, 1024]⟩
abbrev S1024 : Shape := ⟨1, ![1024]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbRefIdeal.lean ====
abbrev S4x1024 : Shape := ⟨2, ![4, 1024]⟩
abbrev S_ : Shape := ⟨0, ![]⟩
abbrev S1024 : Shape := ⟨1, ![1024]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S4x1024, .f32⟩
  | .hbm, ⟨6, _⟩ => ⟨S4x1024, .i1⟩
  | .hbm, ⟨7, _⟩ => ⟨S4x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .i1⟩
  | .hbm, ⟨16, _⟩ => ⟨S_, .f32⟩
  | .hbm, ⟨17, _⟩ => ⟨S1024, .f32⟩
  | .hbm, ⟨18, _⟩ => ⟨S1024, .i1⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S4x1024, .f32⟩
  | .hbm, ⟨29, _⟩ => ⟨S4x1024, .f32⟩
  | .hbm, ⟨30, _⟩ => ⟨S4x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4x1024, .f32⟩
  | .hbm, ⟨35, _⟩ => ⟨S4x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S_, .f32⟩
  | .hbm, ⟨42, _⟩ => ⟨S4x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S4x1024, .f32⟩
  | .hbm, ⟨47, _⟩ => ⟨S4x1024, .f32⟩
  | .hbm, ⟨48, _⟩ => ⟨S4x1024, .f32⟩
  | .hbm, ⟨49, _⟩ => ⟨S4x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S4x1024, .f32⟩
  | .hbm, ⟨58, _⟩ => ⟨S_, .f32⟩
  | .hbm, ⟨59, _⟩ => ⟨S_, .f32⟩
  | .hbm, ⟨60, _⟩ => ⟨S4x1024, .f32⟩
  | .hbm, ⟨61, _⟩ => ⟨S4x1024, .f32⟩
  | .hbm, ⟨62, _⟩ => ⟨S4x1024, .f32⟩
  | .hbm, ⟨63, _⟩ => ⟨S4x1024, .f32⟩
  | .hbm, ⟨64, _⟩ => ⟨S4x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S1x1024, .f32⟩
  | .hbm, ⟨69, _⟩ => ⟨S4x1024, .f32⟩
  | .hbm, ⟨70, _⟩ => ⟨S4x1024, .f32⟩
  | .hbm, ⟨71, _⟩ => ⟨S_, .f32⟩
  | .hbm, ⟨72, _⟩ => ⟨S1024, .f32⟩
  | .hbm, ⟨73, _⟩ => ⟨S4x1024, .f32⟩
  | .hbm, ⟨74, _⟩ => ⟨S4x1024, .f32⟩
  | .hbm, ⟨75, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_call1_call0_cst : Ref sig .tc := ⟨.hbm, 58, rfl⟩
abbrev main_call1_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Loss.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Attn.lean ====
abbrev S8x4096x192 : Shape := ⟨3, ![8, 4096, 192]⟩
abbrev S8x4096x128 : Shape := ⟨3, ![8, 4096, 128]⟩
abbrev S4096x1024 : Shape := ⟨2, ![4096, 1024]⟩
abbrev S3 : Shape := ⟨1, ![3]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8x128 : Shape := ⟨3, ![4096, 8, 128]⟩
abbrev S4096x8 : Shape := ⟨2, ![4096, 8]⟩
abbrev S8x1x4096 : Shape := ⟨3, ![8, 1, 4096]⟩
abbrev S1x2048x192 : Shape := ⟨3, ![1, 2048, 192]⟩
abbrev S1 : Shape := ⟨1, ![1]⟩
abbrev S1x2048x128 : Shape := ⟨3, ![1, 2048, 128]⟩
abbrev S2048x128 : Shape := ⟨2, ![2048, 128]⟩
abbrev S1x1x2048 : Shape := ⟨3, ![1, 1, 2048]⟩
abbrev S8x2048 : Shape := ⟨2, ![8, 2048]⟩
abbrev S1x4096x192 : Shape := ⟨3, ![1, 4096, 192]⟩
abbrev S4096x192 : Shape := ⟨2, ![4096, 192]⟩
abbrev S2048x192 : Shape := ⟨2, ![2048, 192]⟩
abbrev S1x512x192 : Shape := ⟨3, ![1, 512, 192]⟩
abbrev S512x192 : Shape := ⟨2, ![512, 192]⟩
abbrev S512x128 : Shape := ⟨2, ![512, 128]⟩
abbrev S1x1x512 : Shape := ⟨3, ![1, 1, 512]⟩
abbrev S1x512 : Shape := ⟨2, ![1, 512]⟩
abbrev S1x512x128 : Shape := ⟨3, ![1, 512, 128]⟩
abbrev S512x512 : Shape := ⟨2, ![512, 512]⟩

abbrev nBuf : Space → Nat
  | .hbm => 47
  | .vmem => 21
  | .smem => 2
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S4096x1024, .f32⟩
  | .hbm, ⟨4, _⟩ => ⟨S8x4096x4096, .f32⟩
  | .hbm, ⟨5, _⟩ => ⟨S_, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S4096, .i32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S8x4096x4096, .i1⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S8x4096x4096, .f32⟩
  | .hbm, ⟨29, _⟩ => ⟨S8x4096x4096, .f32⟩
  | .hbm, ⟨30, _⟩ => ⟨S8x128x4096, .f32⟩
  | .hbm, ⟨31, _⟩ => ⟨S4096x8x128, .f32⟩
  | .hbm, ⟨32, _⟩ => ⟨S4096x1024, .f32⟩
  | .hbm, ⟨33, _⟩ => ⟨S8x4096x1, .f32⟩
  | .hbm, ⟨34, _⟩ => ⟨S8x4096x1, .f32⟩
  | .hbm, ⟨35, _⟩ => ⟨S4096x1024, .f32⟩
  | .hbm, ⟨36, _⟩ => ⟨S4096x8x128, .f32⟩
  | .hbm, ⟨37, _⟩ => ⟨S_, .f32⟩
  | .hbm, ⟨38, _⟩ => ⟨S4096x8, .f32⟩
  | .hbm, ⟨39, _⟩ => ⟨S8x4096, .f32⟩
  | .hbm, ⟨40, _⟩ => ⟨S8x4096x192, .bf16⟩
  | .hbm, ⟨41, _⟩ => ⟨S8x4096x192, .bf16⟩
  | .hbm, ⟨42, _⟩ => ⟨S8x4096x128, .bf16⟩
  | .hbm, ⟨43, _⟩ => ⟨S8x1x4096, .f32⟩
  | .hbm, ⟨44, _⟩ => ⟨S8x4096x192, .bf16⟩
  | .hbm, ⟨45, _⟩ => ⟨S8x4096x192, .bf16⟩
  | .hbm, ⟨46, _⟩ => ⟨S8x4096x128, .bf16⟩
  | .local _ .vmem, ⟨0, _⟩ => ⟨S1x2048x192, .bf16⟩
  | .local _ .vmem, ⟨1, _⟩ => ⟨S1x2048x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .f32⟩
  | .local _ .vmem, ⟨7, _⟩ => ⟨S2048x128, .f32⟩
  | .local _ .vmem, ⟨8, _⟩ => ⟨S1x1x2048, .f32⟩
  | .local _ .vmem, ⟨9, _⟩ => ⟨S1x1x2048, .f32⟩
  | .local _ .vmem, ⟨10, _⟩ => ⟨S8x2048, .f32⟩
  | .local _ .vmem, ⟨11, _⟩ => ⟨S8x2048, .f32⟩
  | .local _ .vmem, ⟨12, _⟩ => ⟨S1x4096x192, .bf16⟩
  | .local _ .vmem, ⟨13, _⟩ => ⟨S1x4096x192, .bf16⟩
  | .local _ .vmem, ⟨14, _⟩ => ⟨S1x2048x192, .bf16⟩
  | .local _ .vmem, ⟨15, _⟩ => ⟨S1x2048x192, .bf16⟩
  | .local _ .vmem, ⟨16, _⟩ => ⟨S1x2048x128, .bf16⟩
  | .local _ .vmem, ⟨17, _⟩ => ⟨S1x2048x128, .bf16⟩
  | .local _ .vmem, ⟨18, _⟩ => ⟨S4096x192, .f32⟩
  | .local _ .vmem, ⟨19, _⟩ => ⟨S2048x192, .f32⟩
  | .local _ .vmem, ⟨20, _⟩ => ⟨S2048x128, .f32⟩
  | .local _ .smem, ⟨0, _⟩ => ⟨S3, .i32⟩
  | .local _ .smem, ⟨1, _⟩ => ⟨S3, .i32⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev main_v35_2 : Ref sig .tc := ⟨.hbm, 46, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 3], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 2 → Nat :=
  let arg0 : BitVec 32 := BitVec.ofNat 32 (i 0).val
  let v35 : Index := Scalar.indexCast arg0
  let c0_18 : Index := 0#32
  ![v35.toNat, 0]
def k0_mult1 (v1 : BitVec 32) : BitVec 32 :=
  let c2048_i32 : BitVec 32 := 2048#32
  let v78 : BitVec 32 := Scalar.muli v1 c2048_i32
  let c0_i32_43 : BitVec 32 := 0#32
  let v79 : BitVec 32 := Scalar.addi v78 c0_i32_43
  v79
def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def k0_off3 (v1 : BitVec 32) (c0_i32_43 : BitVec 32) : Fin 2 → Nat :=
  let c2048_i32 : BitVec 32 := 2048#32
  let v78 : BitVec 32 := Scalar.muli v1 c2048_i32
  let v79 : BitVec 32 := Scalar.addi v78 c0_i32_43
  let v80 : BitVec 32 := v79
  let v81 : Index := Scalar.indexCast v80
  let c0_44 : Index := 0#32
  ![v81.toNat, 0]
def k0_off4 (i : grid0.Coords) : Fin 2 → Nat :=
  let arg0 : BitVec 32 := BitVec.ofNat 32 (i 0).val
  let v96 : Index := Scalar.indexCast arg0
  let c512_54 : Index := 512#32
  ![v96.toNat, 512]
def k0_mult2 (v1 : BitVec 32) : BitVec 32 :=
  let c2048_i32_99 : BitVec 32 := 2048#32
  let v171 : BitVec 32 := Scalar.muli v1 c2048_i32_99
  let c512_i32_100 : BitVec 32 := 512#32
  let v172 : BitVec 32 := Scalar.addi v171 c512_i32_100
  v172
def k0_off5 (i : grid0.Coords) : Fin 2 → Nat :=
  let arg0 : BitVec 32 := BitVec.ofNat 32 (i 0).val
  let v189 : Index := Scalar.indexCast arg0
  let c1024_111 : Index := 1024#32
  ![v189.toNat, 1024]
def k0_mult3 (v1 : BitVec 32) : BitVec 32 :=
  let c2048_i32_177 : BitVec 32 := 2048#32
  let v296 : BitVec 32 := Scalar.muli v1 c2048_i32_177
  let c1024_i32_178 : BitVec 32 := 1024#32
  let v297 : BitVec 32 := Scalar.addi v296 c1024_i32_178
  v297
def k0_off6 (i : grid0.Coords) : Fin 2 → Nat :=
  let arg0 : BitVec 32 := BitVec.ofNat 32 (i 0).val
  let v314 : Index := Scalar.indexCast arg0
  let c1536_189 : Index := 1536#32
  ![v314.toNat, 1536]
def k0_mult4 (v1 : BitVec 32) : BitVec 32 :=
  let c2048_i32_276 : BitVec 32 := 2048#32
  let v453 : BitVec 32 := Scalar.muli v1 c2048_i32_276
  let c1536_i32_277 : BitVec 32 := 1536#32
  let v454 : BitVec 32 := Scalar.addi v453 c1536_i32_277
  v454
def k0_off7 (i : grid0.Coords) : Fin 2 → Nat :=
  let arg0 : BitVec 32 := BitVec.ofNat 32 (i 0).val
  let v27 : Index := Scalar.indexCast arg0
  let c0_12 : Index := 0#32
  ![v27.toNat, 0]
def k0_mult5 (v1 : BitVec 32) : BitVec 32 :=
  let c2048_i32 : BitVec 32 := 2048#32
  let v157 : BitVec 32 := Scalar.muli v1 c2048_i32
  let c0_i32_94 : BitVec 32 := 0#32
  let v158 : BitVec 32 := Scalar.addi v157 c0_i32_94
  v158
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off8 (v1 : BitVec 32) (c0_i32_94 : BitVec 32) : Fin 2 → Nat :=
  let c2048_i32 : BitVec 32 := 2048#32
  let v157 : BitVec 32 := Scalar.muli v1 c2048_i32
  let v158 : BitVec 32 := Scalar.addi v157 c0_i32_94
  let v159 : BitVec 32 := v158
  let v160 : Index := Scalar.indexCast v159
  let c0_95 : Index := 0#32
  ![v160.toNat, 0]
def k0_off9 (i : grid0.Coords) : Fin 2 → Nat :=
  let arg0 : BitVec 32 := BitVec.ofNat 32 (i 0).val
  let v175 : Index := Scalar.indexCast arg0
  let c512_106 : Index := 512#32
  ![v175.toNat, 512]
def k0_mult6 (v1 : BitVec 32) : BitVec 32 :=
  let c2048_i32_191 : BitVec 32 := 2048#32
  let v305 : BitVec 32 := Scalar.muli v1 c2048_i32_191
  let c512_i32 : BitVec 32 := 512#32
  let v306 : BitVec 32 := Scalar.addi v305 c512_i32
  v306
def k0_off10 (i : grid0.Coords) : Fin 2 → Nat :=
  let arg0 : BitVec 32 := BitVec.ofNat 32 (i 0).val
  let v323 : Index := Scalar.indexCast arg0
  let c1024_203 : Index := 1024#32
  ![v323.toNat, 1024]
def k0_mult7 (v1 : BitVec 32) : BitVec 32 :=
  let c2048_i32_288 : BitVec 32 := 2048#32
  let v453 : BitVec 32 := Scalar.muli v1 c2048_i32_288
  let c1024_i32 : BitVec 32 := 1024#32
  let v454 : BitVec 32 := Scalar.addi v453 c1024_i32
  v454
def k0_off11 (i : grid0.Coords) : Fin 2 → Nat :=
  let arg0 : BitVec 32 := BitVec.ofNat 32 (i 0).val
  let v471 : Index := Scalar.indexCast arg0
  let c1536_300 : Index := 1536#32
  ![v471.toNat, 1536]
def k0_mult8 (v1 : BitVec 32) : BitVec 32 :=
  let c2048_i32_385 : BitVec 32 := 2048#32
  let v601 : BitVec 32 := Scalar.muli v1 c2048_i32_385
  let c1536_i32 : BitVec 32 := 1536#32
  let v602 : BitVec 32 := Scalar.addi v601 c1536_i32
  v602

def k0_chk1 (v1 : BitVec 32) (v3 : BitVec 32) : Prop :=
  (∀ (k0_h2 : k0_cond2 v1 v3 = 1#1), 512 ∣ (k0_mult1 v1).toNat) ∧
  (∀ (k0_h2 : k0_cond2 v1 v3 = 1#1), ∀ (r : Fin 4), ∀ a, (k0_off3 v1 (BitVec.ofNat 32 (512 * r.val))) a + S512x192.size a ≤ S4096x192.size a) ∧
  (∀ (k0_h2 : k0_cond2 v1 v3 = 1#1), 512 ∣ (k0_mult2 v1).toNat) ∧
  (∀ (k0_h2 : k0_cond2 v1 v3 = 1#1), 512 ∣ (k0_mult3 v1).toNat) ∧
  (∀ (k0_h2 : k0_cond2 v1 v3 = 1#1), 512 ∣ (k0_mult4 v1).toNat) ∧
  (∀ (k0_h3 : k0_cond3 v1 v3 = 1#1), 512 ∣ (k0_mult5 v1).toNat) ∧
  (∀ (k0_h3 : k0_cond3 v1 v3 = 1#1), ∀ (r : Fin 4), ∀ a, (k0_off8 v1 (BitVec.ofNat 32 (512 * r.val))) a + S512x192.size a ≤ S4096x192.size a) ∧
  (∀ (k0_h3 : k0_cond3 v1 v3 = 1#1), 512 ∣ (k0_mult6 v1).toNat) ∧
  (∀ (k0_h3 : k0_cond3 v1 v3 = 1#1), 512 ∣ (k0_mult7 v1).toNat) ∧
  (∀ (k0_h3 : k0_cond3 v1 v3 = 1#1), 512 ∣ (k0_mult8 v1).toNat)
theorem k0_mult1_dvd : ∀ (v1 : BitVec 32) (v3 : BitVec 32) (k0_hw1 : k0_chk1 v1 v3), ∀ (k0_h2 : k0_cond2 v1 v3 = 1#1), 512 ∣ (k0_mult1 v1).toNat := fun v1 v3 k0_hw1 k0_h2 => k0_hw1.1 k0_h2
theorem k0_off3_inb : ∀ (v1 : BitVec 32) (v3 : BitVec 32) (k0_hw1 : k0_chk1 v1 v3), ∀ (k0_h2 : k0_cond2 v1 v3 = 1#1), ∀ (r : Fin 4), ∀ a, (k0_off3 v1 (BitVec.ofNat 32 (512 * r.val))) a + S512x192.size a ≤ S4096x192.size a := fun v1 v3 k0_hw1 k0_h2 r => k0_hw1.2.1 k0_h2 r
theorem k0_mult2_dvd : ∀ (v1 : BitVec 32) (v3 : BitVec 32) (k0_hw1 : k0_chk1 v1 v3), ∀ (k0_h2 : k0_cond2 v1 v3 = 1#1), 512 ∣ (k0_mult2 v1).toNat := fun v1 v3 k0_hw1 k0_h2 => k0_hw1.2.2.1 k0_h2
theorem k0_mult3_dvd : ∀ (v1 : BitVec 32) (v3 : BitVec 32) (k0_hw1 : k0_chk1 v1 v3), ∀ (k0_h2 : k0_cond2 v1 v3 = 1#1), 512 ∣ (k0_mult3 v1).toNat := fun v1 v3 k0_hw1 k0_h2 => k0_hw1.2.2.2.1 k0_h2
theorem k0_mult4_dvd : ∀ (v1 : BitVec 32) (v3 : BitVec 32) (k0_hw1 : k0_chk1 v1 v3), ∀ (k0_h2 : k0_cond2 v1 v3 = 1#1), 512 ∣ (k0_mult4 v1).toNat := fun v1 v3 k0_hw1 k0_h2 => k0_hw1.2.2.2.2.1 k0_h2
theorem k0_mult5_dvd : ∀ (v1 : BitVec 32) (v3 : BitVec 32) (k0_hw1 : k0_chk1 v1 v3), ∀ (k0_h3 : k0_cond3 v1 v3 = 1#1), 512 ∣ (k0_mult5 v1).toNat := fun v1 v3 k0_hw1 k0_h3 => k0_hw1.2.2.2.2.2.1 k0_h3
theorem k0_off8_inb : ∀ (v1 : BitVec 32) (v3 : BitVec 32) (k0_hw1 : k0_chk1 v1 v3), ∀ (k0_h3 : k0_cond3 v1 v3 = 1#1), ∀ (r : Fin 4), ∀ a, (k0_off8 v1 (BitVec.ofNat 32 (512 * r.val))) a + S512x192.size a ≤ S4096x192.size a := fun v1 v3 k0_hw1 k0_h3 r => k0_hw1.2.2.2.2.2.2.1 k0_h3 r
theorem k0_mult6_dvd : ∀ (v1 : BitVec 32) (v3 : BitVec 32) (k0_hw1 : k0_chk1 v1 v3), ∀ (k0_h3 : k0_cond3 v1 v3 = 1#1), 512 ∣ (k0_mult6 v1).toNat := fun v1 v3 k0_hw1 k0_h3 => k0_hw1.2.2.2.2.2.2.2.1 k0_h3
theorem k0_mult7_dvd : ∀ (v1 : BitVec 32) (v3 : BitVec 32) (k0_hw1 : k0_chk1 v1 v3), ∀ (k0_h3 : k0_cond3 v1 v3 = 1#1), 512 ∣ (k0_mult7 v1).toNat := fun v1 v3 k0_hw1 k0_h3 => k0_hw1.2.2.2.2.2.2.2.2.1 k0_h3
theorem k0_mult8_dvd : ∀ (v1 : BitVec 32) (v3 : BitVec 32) (k0_hw1 : k0_chk1 v1 v3), ∀ (k0_h3 : k0_cond3 v1 v3 = 1#1), 512 ∣ (k0_mult8 v1).toNat := fun v1 v3 k0_hw1 k0_h3 => k0_hw1.2.2.2.2.2.2.2.2.2 k0_h3

def k0_cond5 (i : grid0.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_4 : BitVec 32 := 0#32
  let v18 : BitVec 1 := Scalar.cmpi .ne v17 c0_i32_4
  v18

def k0_cond4 (v1 : BitVec 32) : BitVec 1 :=
  let c1_i32 : BitVec 32 := 1#32
  let v13 : BitVec 1 := Scalar.cmpi .eq v1 c1_i32
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![c0_i32.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4096x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== AttnRefIdeal.lean ====
abbrev S8x4096x192 : Shape := ⟨3, ![8, 4096, 192]⟩
abbrev S8x4096x128 : Shape := ⟨3, ![8, 4096, 128]⟩
abbrev S4096x1024 : Shape := ⟨2, ![4096, 1024]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8x128 : Shape := ⟨3, ![4096, 8, 128]⟩

abbrev nBuf : Space → Nat
  | .hbm => 92
  | .vmem => 0
  | .smem => 0
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S4096x1024, .f32⟩
  | .hbm, ⟨4, _⟩ => ⟨S8x4096x4096, .f32⟩
  | .hbm, ⟨5, _⟩ => ⟨S_, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S4096, .i32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x128x4096, .f32⟩
  | .hbm, ⟨61, _⟩ => ⟨S4096x8x128, .f32⟩
  | .hbm, ⟨62, _⟩ => ⟨S4096x1024, .f32⟩
  | .hbm, ⟨63, _⟩ => ⟨S4096x8x128, .f32⟩
  | .hbm, ⟨64, _⟩ => ⟨S8x128x4096, .f32⟩
  | .hbm, ⟨65, _⟩ => ⟨S8x4096x4096, .f32⟩
  | .hbm, ⟨66, _⟩ => ⟨S8x128x4096, .f32⟩
  | .hbm, ⟨67, _⟩ => ⟨S8x4096x128, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S8x4096x1, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S8x4096x192, .f32⟩
  | .hbm, ⟨88, _⟩ => ⟨S8x4096x192, .f32⟩
  | .hbm, ⟨89, _⟩ => ⟨S8x4096x192, .bf16⟩
  | .hbm, ⟨90, _⟩ => ⟨S8x4096x192, .bf16⟩
  | .hbm, ⟨91, _⟩ => ⟨S8x4096x128, .bf16⟩
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Out.lean ====
abbrev S8x4096x192 : Shape := ⟨3, ![8, 4096, 192]⟩
abbrev S8x4096x128 : Shape := ⟨3, ![8, 4096, 128]⟩
abbrev S3 : Shape := ⟨1, ![3]⟩
abbrev S4096x1024 : Shape := ⟨2, ![4096, 1024]⟩
abbrev S8x4096x1 : Shape := ⟨3, ![8, 4096, 1]⟩
abbrev S1x2048x192 : Shape := ⟨3, ![1, 2048, 192]⟩
abbrev S1 : Shape := ⟨1, ![1]⟩
abbrev S1x2048x128 : Shape := ⟨3, ![1, 2048, 128]⟩
abbrev S2048x128 : Shape := ⟨2, ![2048, 128]⟩
abbrev S1x2048x1 : Shape := ⟨3, ![1, 2048, 1]⟩
abbrev S2048x1 : Shape := ⟨2, ![2048, 1]⟩
abbrev S2048x256 : Shape := ⟨2, ![2048, 256]⟩
abbrev S1x1024x192 : Shape := ⟨3, ![1, 1024, 192]⟩
abbrev S1024x192 : Shape := ⟨2, ![1024, 192]⟩
abbrev S1024x256 : Shape := ⟨2, ![1024, 256]⟩
abbrev S1x256x192 : Shape := ⟨3, ![1, 256, 192]⟩
abbrev S256x192 : Shape := ⟨2, ![256, 192]⟩
abbrev S256x1024 : Shape := ⟨2, ![256, 1024]⟩
abbrev S256x1 : Shape := ⟨2, ![256, 1]⟩
abbrev S256 : Shape := ⟨1, ![256]⟩
abbrev S256x256 : Shape := ⟨2, ![256, 256]⟩

abbrev nBuf : Space → Nat
  | .hbm => 8
  | .vmem => 13
  | .smem => 2
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S8x4096x192, .bf16⟩
  | .hbm, ⟨4, _⟩ => ⟨S8x4096x192, .bf16⟩
  | .hbm, ⟨5, _⟩ => ⟨S8x4096x128, .bf16⟩
  | .hbm, ⟨6, _⟩ => ⟨S4096x1024, .f32⟩
  | .hbm, ⟨7, _⟩ => ⟨S8x4096x1, .f32⟩
  | .local _ .vmem, ⟨0, _⟩ => ⟨S1x2048x192, .bf16⟩
  | .local _ .vmem, ⟨1, _⟩ => ⟨S1x2048x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .f32⟩
  | .local _ .vmem, ⟨7, _⟩ => ⟨S2048x128, .f32⟩
  | .local _ .vmem, ⟨8, _⟩ => ⟨S1x2048x1, .f32⟩
  | .local _ .vmem, ⟨9, _⟩ => ⟨S1x2048x1, .f32⟩
  | .local _ .vmem, ⟨10, _⟩ => ⟨S2048x1, .f32⟩
  | .local _ .vmem, ⟨11, _⟩ => ⟨S2048x256, .f32⟩
  | .local _ .vmem, ⟨12, _⟩ => ⟨S2048x256, .bf16⟩
  | .local _ .smem, ⟨0, _⟩ => ⟨S3, .i32⟩
  | .local _ .smem, ⟨1, _⟩ => ⟨S3, .i32⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== OutRefIdeal.lean ====
abbrev S8x4096x192 : Shape := ⟨3, ![8, 4096, 192]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8x128 : Shape := ⟨3, ![4096, 8, 128]⟩
abbrev S4096x1024 : Shape := ⟨2, ![4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S8x4096x4096, .f32⟩
  | .hbm, ⟨4, _⟩ => ⟨S_, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x128x4096, .f32⟩
  | .hbm, ⟨34, _⟩ => ⟨S4096x8x128, .f32⟩
  | .hbm, ⟨35, _⟩ => ⟨S4096x1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x1, .f32⟩
  | .hbm, ⟨46, _⟩ => ⟨S8x4096x1, .f32⟩
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Dup.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S4096x4096, .bf16⟩
  | .hbm, ⟨6, _⟩ => ⟨S1024x4096, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DupRefIdeal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Din.lean ====
abbrev S4096x1024 : Shape := ⟨2, ![4096, 1024]⟩
abbrev S1024 : Shape := ⟨1, ![1024]⟩
abbrev S1024x832 : Shape := ⟨2, ![1024, 832]⟩
abbrev S4096x832 : Shape := ⟨2, ![4096, 832]⟩
abbrev S1x1024 : Shape := ⟨2, ![1, 1024]⟩
abbrev S512x832 : Shape := ⟨2, ![512, 832]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x832, .f32⟩
  | .hbm, ⟨3, _⟩ => ⟨S4096x1024, .f32⟩
  | .hbm, ⟨4, _⟩ => ⟨S4096x832, .f32⟩
  | .hbm, ⟨5, _⟩ => ⟨S4096x832, .bf16⟩
  | .hbm, ⟨6, _⟩ => ⟨S1024x832, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x832, .bf16⟩
  | .local _ .vmem, ⟨1, _⟩ => ⟨S512x832, .bf16⟩
  | .local _ .vmem, ⟨2, _⟩ => ⟨S1024x832, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x832 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x832 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DinRefIdeal.lean ====
abbrev S4096x1024 : Shape := ⟨2, ![4096, 1024]⟩
abbrev S1024 : Shape := ⟨1, ![1024]⟩
abbrev S1024x832 : Shape := ⟨2, ![1024, 832]⟩
abbrev S4096x832 : Shape := ⟨2, ![4096, 832]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x832, .f32⟩
  | .hbm, ⟨3, _⟩ => ⟨S4096x1024, .f32⟩
  | .hbm, ⟨4, _⟩ => ⟨S4096x832, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x832, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Ddown.lean ====
abbrev S4096x4096 : Shape := ⟨2, ![4096, 4096]⟩
abbrev S1024 : Shape := ⟨1, ![1024]⟩
abbrev S4096x1024 : Shape := ⟨2, ![4096, 1024]⟩
abbrev S_ : Shape := ⟨0, ![]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 16
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S4096x1024, .f32⟩
  | .hbm, ⟨11, _⟩ => ⟨S1x1024, .f32⟩
  | .hbm, ⟨12, _⟩ => ⟨S4096x1024, .bf16⟩
  | .hbm, ⟨13, _⟩ => ⟨S4096x1024, .bf16⟩
  | .hbm, ⟨14, _⟩ => ⟨S1x1024, .f32⟩
  | .hbm, ⟨15, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DdownRefIdeal.lean ====
abbrev S4096x4096 : Shape := ⟨2, ![4096, 4096]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | .hbm, ⟨60, _⟩ => ⟨S1x1024, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Mlado.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S8x4096 : Shape := ⟨2, ![8, 4096]⟩
abbrev S512x1024 : Shape := ⟨2, ![512, 1024]⟩
abbrev S8x512 : Shape := ⟨2, ![8, 512]⟩
abbrev S512 : Shape := ⟨1, ![512]⟩
abbrev S512x1 : Shape := ⟨2, ![512, 1]⟩
abbrev S8x1024 : Shape := ⟨2, ![8, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S1x1024, .f32⟩
  | .hbm, ⟨8, _⟩ => ⟨S1024x1024, .bf16⟩
  | .hbm, ⟨9, _⟩ => ⟨S4096x1024, .bf16⟩
  | .hbm, ⟨10, _⟩ => ⟨S1x1024, .f32⟩
  | .hbm, ⟨11, _⟩ => ⟨S4096x1024, .f32⟩
  | .hbm, ⟨12, _⟩ => ⟨S8x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S8x512, .f32⟩
  | .local _ .vmem, ⟨14, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MladoRefIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x8x128 : Shape := ⟨3, ![4096, 8, 128]⟩
abbrev S4096x8 : Shape := ⟨2, ![4096, 8]⟩
abbrev S8x4096 : Shape := ⟨2, ![8, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x8x128, .f32⟩
  | .hbm, ⟨53, _⟩ => ⟨S_, .f32⟩
  | .hbm, ⟨54, _⟩ => ⟨S4096x8, .f32⟩
  | .hbm, ⟨55, _⟩ => ⟨S8x4096, .f32⟩
  | .hbm, ⟨56, _⟩ => ⟨S4096x1024, .bf16⟩
  | .hbm, ⟨57, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Hgdo.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S1x1024, .f32⟩
  | .hbm, ⟨8, _⟩ => ⟨S1024x1024, .bf16⟩
  | .hbm, ⟨9, _⟩ => ⟨S4096x1024, .bf16⟩
  | .hbm, ⟨10, _⟩ => ⟨S1x1024, .f32⟩
  | .hbm, ⟨11, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HgdoRefIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Mid.lean ====
abbrev S4096 : Shape := ⟨1, ![4096]⟩
abbrev S4096x832 : Shape := ⟨2, ![4096, 832]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S8x4096x192 : Shape := ⟨3, ![8, 4096, 192]⟩
abbrev S8x4096x128 : Shape := ⟨3, ![8, 4096, 128]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x512 : Shape := ⟨2, ![1, 512]⟩
abbrev S1x256 : Shape := ⟨2, ![1, 256]⟩
abbrev S4096x1536 : Shape := ⟨2, ![4096, 1536]⟩
abbrev S4096x2048 : Shape := ⟨2, ![4096, 2048]⟩
abbrev S8x256x192 : Shape := ⟨3, ![8, 256, 192]⟩
abbrev S8x256x128 : Shape := ⟨3, ![8, 256, 128]⟩
abbrev S256x32 : Shape := ⟨2, ![256, 32]⟩
abbrev S256x832 : Shape := ⟨2, ![256, 832]⟩
abbrev S256x1536 : Shape := ⟨2, ![256, 1536]⟩
abbrev S1x256x192 : Shape := ⟨3, ![1, 256, 192]⟩
abbrev S256x192 : Shape := ⟨2, ![256, 192]⟩
abbrev S256x128 : Shape := ⟨2, ![256, 128]⟩
abbrev S1x256x128 : Shape := ⟨3, ![1, 256, 128]⟩
abbrev S256x512 : Shape := ⟨2, ![256, 512]⟩
abbrev S256x256 : Shape := ⟨2, ![256, 256]⟩
abbrev S256x1 : Shape := ⟨2, ![256, 1]⟩

abbrev nBuf : Space → Nat
  | .hbm => 43
  | .vmem => 24
  | .smem => 0
  | _ => 0

abbrev bufTy : (tb : Table) → Fin (tcTables nBuf tb) → BufTy
  | .hbm, ⟨0, _⟩ => ⟨S4096, .i32⟩
  | .hbm, ⟨1, _⟩ => ⟨S4096x832, .f32⟩
  | .hbm, ⟨2, _⟩ => ⟨S512, .f32⟩
  | .hbm, ⟨3, _⟩ => ⟨S256, .f32⟩
  | .hbm, ⟨4, _⟩ => ⟨S512x1536, .f32⟩
  | .hbm, ⟨5, _⟩ => ⟨S256x2048, .f32⟩
  | .hbm, ⟨6, _⟩ => ⟨S8x4096x192, .f32⟩
  | .hbm, ⟨7, _⟩ => ⟨S8x4096x192, .f32⟩
  | .hbm, ⟨8, _⟩ => ⟨S8x4096x128, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S4096, .f32⟩
  | .hbm, ⟨24, _⟩ => ⟨S4096x1, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S8x4096x192, .bf16⟩
  | .hbm, ⟨32, _⟩ => ⟨S8x4096x192, .bf16⟩
  | .hbm, ⟨33, _⟩ => ⟨S8x4096x128, .bf16⟩
  | .hbm, ⟨34, _⟩ => ⟨S1x512, .f32⟩
  | .hbm, ⟨35, _⟩ => ⟨S1x256, .f32⟩
  | .hbm, ⟨36, _⟩ => ⟨S512x1536, .bf16⟩
  | .hbm, ⟨37, _⟩ => ⟨S256x2048, .bf16⟩
  | .hbm, ⟨38, _⟩ => ⟨S4096x1536, .bf16⟩
  | .hbm, ⟨39, _⟩ => ⟨S4096x2048, .bf16⟩
  | .hbm, ⟨40, _⟩ => ⟨S4096x832, .bf16⟩
  | .hbm, ⟨41, _⟩ => ⟨S1x512, .f32⟩
  | .hbm, ⟨42, _⟩ => ⟨S1x256, .f32⟩
  | .local _ .vmem, ⟨0, _⟩ => ⟨S8x256x192, .bf16⟩
  | .local _ .vmem, ⟨1, _⟩ => ⟨S8x256x192, .bf16⟩
  | .local _ .vmem, ⟨2, _⟩ => ⟨S8x256x192, .bf16⟩
  | .local _ .vmem, ⟨3, _⟩ => ⟨S8x256x192, .bf16⟩
  | .local _ .vmem, ⟨4, _⟩ => ⟨S8x256x128, .bf16⟩
  | .local _ .vmem, ⟨5, _⟩ => ⟨S8x256x128, .bf16⟩
  | .local _ .vmem, ⟨6, _⟩ => ⟨S256x32, .f32⟩
  | .local _ .vmem, ⟨7, _⟩ => ⟨S256x32, .f32⟩
  | .local _ .vmem, ⟨8, _⟩ => ⟨S256x32, .f32⟩
  | .local _ .vmem, ⟨9, _⟩ => ⟨S256x32, .f32⟩
  | .local _ .vmem, ⟨10, _⟩ => ⟨S256x832, .f32⟩
  | .local _ .vmem, ⟨11, _⟩ => ⟨S256x832, .f32⟩
  | .local _ .vmem, ⟨12, _⟩ => ⟨S1x512, .f32⟩
  | .local _ .vmem, ⟨13, _⟩ => ⟨S1x256, .f32⟩
  | .local _ .vmem, ⟨14, _⟩ => ⟨S512x1536, .bf16⟩
  | .local _ .vmem, ⟨15, _⟩ => ⟨S256x2048, .bf16⟩
  | .local _ .vmem, ⟨16, _⟩ => ⟨S256x1536, .bf16⟩
  | .local _ .vmem, ⟨17, _⟩ => ⟨S256x1536, .bf16⟩
  | .local _ .vmem, ⟨18, _⟩ => ⟨S256x2048, .bf16⟩
  | .local _ .vmem, ⟨19, _⟩ => ⟨S256x2048, .bf16⟩
  | .local _ .vmem, ⟨20, _⟩ => ⟨S256x832, .bf16⟩
  | .local _ .vmem, ⟨21, _⟩ => ⟨S256x832, .bf16⟩
  | .local _ .vmem, ⟨22, _⟩ => ⟨S1x512, .f32⟩
  | .local _ .vmem, ⟨23, _⟩ => ⟨S1x256, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_v25_3 : Ref sig .tc := ⟨.hbm, 41, rfl⟩
abbrev main_v25_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x832 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MidRefIdeal.lean ====
abbrev S4096 : Shape := ⟨1, ![4096]⟩
abbrev S4096x832 : Shape := ⟨2, ![4096, 832]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S8x4096x192 : Shape := ⟨3, ![8, 4096, 192]⟩
abbrev S8x4096x128 : Shape := ⟨3, ![8, 4096, 128]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x512 : Shape := ⟨2, ![4096, 512]⟩
abbrev S4096x256 : Shape := ⟨2, ![4096, 256]⟩
abbrev S4096x64 : Shape := ⟨2, ![4096, 64]⟩
abbrev S1x512 : Shape := ⟨2, ![1, 512]⟩
abbrev S4096x1536 : Shape := ⟨2, ![4096, 1536]⟩
abbrev S1x256 : Shape := ⟨2, ![1, 256]⟩
abbrev S4096x2048 : Shape := ⟨2, ![4096, 2048]⟩
abbrev S4096x8x192 : Shape := ⟨3, ![4096, 8, 192]⟩
abbrev S4096x8x256 : Shape := ⟨3, ![4096, 8, 256]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x1x64 : Shape := ⟨3, ![4096, 1, 64]⟩
abbrev S4096x8x128 : Shape := ⟨3, ![4096, 8, 128]⟩

abbrev nBuf : Space → Nat
  | .hbm => 219
  | .vmem => 0
  | .smem => 0
  | _ => 0

abbrev hbmTy0_0 (i : Nat) : BufTy := match i % 128 with
  | 0 => ⟨S4096, .i32⟩
  | 1 => ⟨S4096x832, .f32⟩
  | 2 => ⟨S512, .f32⟩
  | 3 => ⟨S256, .f32⟩
  | 4 => ⟨S512x1536, .f32⟩
  | 5 => ⟨S256x2048, .f32⟩
  | 6 => ⟨S8x4096x192, .f32⟩
  | 7 => ⟨S8x4096x192, .f32⟩
  | 8 => ⟨S8x4096x128, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S4096, .f32⟩
  | 24 => ⟨S4096x1, .f32⟩
  | 25 => ⟨S1x32, .f32⟩
  | 26 => ⟨S4096x32, .f32⟩
  | 27 => ⟨S4096x32, .f32⟩
  | 28 => ⟨S4096x32, .f32⟩
  | 29 => ⟨S4096x32, .f32⟩
  | 30 => ⟨S4096x32, .f32⟩
  | 31 => ⟨S4096x512, .f32⟩
  | 32 => ⟨S4096x256, .f32⟩
  | 33 => ⟨S4096x64, .f32⟩
  | 34 => ⟨S4096x512, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x512, .f32⟩
  | 50 => ⟨S4096x512, .f32⟩
  | 51 => ⟨S1x512, .f32⟩
  | 52 => ⟨S4096x512, .f32⟩
  | 53 => ⟨S4096x512, .f32⟩
  | 54 => ⟨S4096x1536, .f32⟩
  | 55 => ⟨S4096x256, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x256, .f32⟩
  | 71 => ⟨S4096x256, .f32⟩
  | 72 => ⟨S1x256, .f32⟩
  | 73 => ⟨S4096x256, .f32⟩
  | 74 => ⟨S4096x256, .f32⟩
  | 75 => ⟨S4096x2048, .f32⟩
  | 76 => ⟨S4096x8x192, .f32⟩
  | 77 => ⟨S4096x8x256, .f32⟩
  | 78 => ⟨S4096x8x64, .f32⟩
  | 79 => ⟨S4096x1x32, .f32⟩
  | 80 => ⟨S4096x1x32, .f32⟩
  | 81 => ⟨S4096x8x32, .f32⟩
  | 82 => ⟨S4096x8x32, .f32⟩
  | 83 => ⟨S4096x8x32, .f32⟩
  | 84 => ⟨S4096x8x32, .f32⟩
  | 85 => ⟨S4096x8x32, .f32⟩
  | 86 => ⟨S4096x8x32, .f32⟩
  | 87 => ⟨S4096x8x32, .f32⟩
  | 88 => ⟨S4096x8x32, .f32⟩
  | 89 => ⟨S4096x8x32, .f32⟩
  | 90 => ⟨S4096x8x32, .f32⟩
  | 91 => ⟨S4096x8x32, .f32⟩
  | 92 => ⟨S4096x8x32, .f32⟩
  | 93 => ⟨S4096x8x64, .f32⟩
  | 94 => ⟨S4096x32, .f32⟩
  | 95 => ⟨S4096x32, .f32⟩
  | 96 => ⟨S4096x32, .f32⟩
  | 97 => ⟨S4096x32, .f32⟩
  | 98 => ⟨S4096x32, .f32⟩
  | 99 => ⟨S4096x32, .f32⟩
  | 100 => ⟨S4096x32, .f32⟩
  | 101 => ⟨S4096x32, .f32⟩
  | 102 => ⟨S4096x64, .f32⟩
  | 103 => ⟨S4096x1x64, .f32⟩
  | 104 => ⟨S4096x8x64, .f32⟩
  | 105 => ⟨S4096x8x128, .f32⟩
  | 106 => ⟨S4096x8x192, .f32⟩
  | 107 => ⟨S4096x8x128, .f32⟩
  | 108 => ⟨S4096x8x192, .f32⟩
  | 109 => ⟨S8x4096x192, .f32⟩
  | 110 => ⟨S8x4096x192, .f32⟩
  | 111 => ⟨S4096x8x128, .f32⟩
  | 112 => ⟨S8x4096x128, .f32⟩
  | 113 => ⟨S4096x8x128, .f32⟩
  | 114 => ⟨S_, .f32⟩
  | 115 => ⟨S4096x8x256, .f32⟩
  | 116 => ⟨S4096x8x192, .f32⟩
  | 117 => ⟨S4096x8x192, .f32⟩
  | 118 => ⟨S4096x8x128, .f32⟩
  | 119 => ⟨S4096x8x64, .f32⟩
  | 120 => ⟨S_, .f32⟩
  | 121 => ⟨S4096x8x256, .f32⟩
  | 122 => ⟨S4096x8x256, .f32⟩
  | 123 => ⟨S4096x8x128, .f32⟩
  | 124 => ⟨S4096x8x64, .f32⟩
  | 125 => ⟨S_, .f32⟩
  | 126 => ⟨S4096x8x192, .f32⟩
  | 127 => ⟨S_, .f32⟩
  | _ => ⟨S4096, .i32⟩

abbrev hbmTy0_1 (i : Nat) : BufTy := match i % 128 with
  | 0 => ⟨S4096x64, .f32⟩
  | 1 => ⟨S4096x1x64, .f32⟩
  | 2 => ⟨S_, .f32⟩
  | 3 => ⟨S4096x64, .f32⟩
  | 4 => ⟨S4096x32, .f32⟩
  | 5 => ⟨S4096x32, .f32⟩
  | 6 => ⟨S4096x32, .f32⟩
  | 7 => ⟨S4096x32, .f32⟩
  | 8 => ⟨S4096x32, .f32⟩
  | 9 => ⟨S4096x32, .f32⟩
  | 10 => ⟨S4096x32, .f32⟩
  | 11 => ⟨S4096x32, .f32⟩
  | 12 => ⟨S4096x32, .f32⟩
  | 13 => ⟨S4096x64, .f32⟩
  | 14 => ⟨S4096x8x32, .f32⟩
  | 15 => ⟨S4096x8x32, .f32⟩
  | 16 => ⟨S4096x8x32, .f32⟩
  | 17 => ⟨S4096x8x32, .f32⟩
  | 18 => ⟨S4096x8x32, .f32⟩
  | 19 => ⟨S4096x8x32, .f32⟩
  | 20 => ⟨S4096x8x32, .f32⟩
  | 21 => ⟨S4096x8x32, .f32⟩
  | 22 => ⟨S4096x8x32, .f32⟩
  | 23 => ⟨S4096x8x32, .f32⟩
  | 24 => ⟨S4096x8x32, .f32⟩
  | 25 => ⟨S4096x8x32, .f32⟩
  | 26 => ⟨S4096x8x32, .f32⟩
  | 27 => ⟨S4096x8x64, .f32⟩
  | 28 => ⟨S_, .f32⟩
  | 29 => ⟨S4096x8x192, .f32⟩
  | 30 => ⟨S4096x8x192, .f32⟩
  | 31 => ⟨S4096x2048, .f32⟩
  | 32 => ⟨S4096x1536, .f32⟩
  | 33 => ⟨S4096x256, .f32⟩
  | 34 => ⟨S4096x256, .f32⟩
  | 35 => ⟨S_, .f32⟩
  | 36 => ⟨S256, .f32⟩
  | 37 => ⟨S1x256, .f32⟩
  | 38 => ⟨S4096x256, .f32⟩
  | 39 => ⟨S4096x256, .f32⟩
  | 40 => ⟨S_, .f32⟩
  | 41 => ⟨S256, .f32⟩
  | 42 => ⟨S4096x256, .f32⟩
  | 43 => ⟨S_, .f32⟩
  | 44 => ⟨S4096, .f32⟩
  | 45 => ⟨S4096x1, .f32⟩
  | 46 => ⟨S4096x256, .f32⟩
  | 47 => ⟨S4096x256, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096, .f32⟩
  | 54 => ⟨S4096x256, .f32⟩
  | 55 => ⟨S4096x256, .f32⟩
  | 56 => ⟨S4096x256, .f32⟩
  | 57 => ⟨S4096x256, .f32⟩
  | 58 => ⟨S4096x256, .f32⟩
  | 59 => ⟨S4096x512, .f32⟩
  | 60 => ⟨S4096x512, .f32⟩
  | 61 => ⟨S_, .f32⟩
  | 62 => ⟨S512, .f32⟩
  | 63 => ⟨S1x512, .f32⟩
  | 64 => ⟨S4096x512, .f32⟩
  | 65 => ⟨S4096x512, .f32⟩
  | 66 => ⟨S_, .f32⟩
  | 67 => ⟨S512, .f32⟩
  | 68 => ⟨S4096x512, .f32⟩
  | 69 => ⟨S_, .f32⟩
  | 70 => ⟨S4096, .f32⟩
  | 71 => ⟨S4096x1, .f32⟩
  | 72 => ⟨S4096x512, .f32⟩
  | 73 => ⟨S4096x512, .f32⟩
  | 74 => ⟨S4096x1, .f32⟩
  | 75 => ⟨S_, .f32⟩
  | 76 => ⟨S4096x1, .f32⟩
  | 77 => ⟨S4096x1, .f32⟩
  | 78 => ⟨S_, .f32⟩
  | 79 => ⟨S4096, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S4096x832, .f32⟩
  | 86 => ⟨S4096x1536, .bf16⟩
  | 87 => ⟨S4096x2048, .bf16⟩
  | 88 => ⟨S4096x832, .bf16⟩
  | 89 => ⟨S1x512, .f32⟩
  | 90 => ⟨S1x256, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_11 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_12 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_13 : Ref sig .tc := ⟨.hbm, 125, rfl⟩
abbrev main_v102 : Ref sig .tc := ⟨.hbm, 126, rfl⟩
abbrev main_cst_14 : Ref sig .tc := ⟨.hbm, 127, rfl⟩
abbrev main_v103 : Ref sig .tc := ⟨.hbm, 128, rfl⟩
abbrev main_v104 : Ref sig .tc := ⟨.hbm, 129, rfl⟩
abbrev main_cst_15 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_cst_16 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_cst_17 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_18 : Ref sig .tc := ⟨.hbm, 168, rfl⟩
abbrev main_v140 : Ref sig .tc := ⟨.hbm, 169, rfl⟩
abbrev main_v141 : Ref sig .tc := ⟨.hbm, 170, rfl⟩
abbrev main_cst_19 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_20 : Ref sig .tc := ⟨.hbm, 177, rfl⟩
abbrev main_v147 : Ref sig .tc := ⟨.hbm, 178, rfl⟩
abbrev main_v148 : Ref sig .tc := ⟨.hbm, 179, rfl⟩
abbrev main_cst_21 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_22 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_cst_23 : Ref sig .tc := ⟨.hbm, 194, rfl⟩
abbrev main_v161 : Ref sig .tc := ⟨.hbm, 195, rfl⟩
abbrev main_v162 : Ref sig .tc := ⟨.hbm, 196, rfl⟩
abbrev main_cst_24 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_cst_25 : Ref sig .tc := ⟨.hbm, 203, rfl⟩
abbrev main_v168 : Ref sig .tc := ⟨.hbm, 204, rfl⟩
abbrev main_v169 : Ref sig .tc := ⟨.hbm, 205, rfl⟩
abbrev main_cst_26 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩

abbrev nD : Nat := 1
abbrev τ : Topo := Topo.v7x

variable {F : FTy → Type} [FloatOps F]
-- ==== Up.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S4096x4096 : Shape := ⟨2, ![4096, 4096]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S4096x4096, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x1024, .bf16⟩
  | .hbm, ⟨24, _⟩ => ⟨S4096x4096, .f32⟩
  | .hbm, ⟨25, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Down.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S1x1024, .f32⟩
  | .hbm, ⟨11, _⟩ => ⟨S4096x1024, .f32⟩
  | .hbm, ⟨12, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Bounds.lean ====
abbrev S4x1024 : Shape := ⟨2, ![4, 1024]⟩
abbrev S1024 : Shape := ⟨1, ![1024]⟩
abbrev S1x1024 : Shape := ⟨2, ![1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .local _ .vmem, ⟨0, _⟩ => ⟨S4x1024, .f32⟩
  | .local _ .vmem, ⟨1, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BoundsRefIdeal.lean ====
abbrev S4x1024 : Shape := ⟨2, ![4, 1024]⟩
abbrev S_ : Shape := ⟨0, ![]⟩
abbrev S1024 : Shape := ⟨1, ![1024]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S_, .f32⟩
  | .hbm, ⟨17, _⟩ => ⟨S4x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S4x1024, .f32⟩
  | .hbm, ⟨22, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Post.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostRefIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Min.lean ====
abbrev S4096x1024 : Shape := ⟨2, ![4096, 1024]⟩
abbrev S1024 : Shape := ⟨1, ![1024]⟩
abbrev S1024x832 : Shape := ⟨2, ![1024, 832]⟩
abbrev S1x1024 : Shape := ⟨2, ![1, 1024]⟩
abbrev S4096x832 : Shape := ⟨2, ![4096, 832]⟩
abbrev S512x1024 : Shape := ⟨2, ![512, 1024]⟩
abbrev S512x832 : Shape := ⟨2, ![512, 832]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x832, .f32⟩
  | .hbm, ⟨3, _⟩ => ⟨S1x1024, .f32⟩
  | .hbm, ⟨4, _⟩ => ⟨S1024x832, .bf16⟩
  | .hbm, ⟨5, _⟩ => ⟨S4096x1024, .bf16⟩
  | .hbm, ⟨6, _⟩ => ⟨S4096x832, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x832, .bf16⟩
  | .local _ .vmem, ⟨4, _⟩ => ⟨S512x1024, .bf16⟩
  | .local _ .vmem, ⟨5, _⟩ => ⟨S512x1024, .bf16⟩
  | .local _ .vmem, ⟨6, _⟩ => ⟨S512x832, .f32⟩
  | .local _ .vmem, ⟨7, _⟩ => ⟨S512x832, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x832 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MinRefIdeal.lean ====
abbrev S4096x1024 : Shape := ⟨2, ![4096, 1024]⟩
abbrev S1024 : Shape := ⟨1, ![1024]⟩
abbrev S1024x832 : Shape := ⟨2, ![1024, 832]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x832 : Shape := ⟨2, ![4096, 832]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x832, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x832, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Qkv.lean ====
abbrev S4096 : Shape := ⟨1, ![4096]⟩
abbrev S4096x832 : Shape := ⟨2, ![4096, 832]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x512 : Shape := ⟨2, ![1, 512]⟩
abbrev S1x256 : Shape := ⟨2, ![1, 256]⟩
abbrev S4096x512 : Shape := ⟨2, ![4096, 512]⟩
abbrev S4096x256 : Shape := ⟨2, ![4096, 256]⟩
abbrev S8x4096x192 : Shape := ⟨3, ![8, 4096, 192]⟩
abbrev S8x4096x128 : Shape := ⟨3, ![8, 4096, 128]⟩
abbrev S256x832 : Shape := ⟨2, ![256, 832]⟩
abbrev S256x32 : Shape := ⟨2, ![256, 32]⟩
abbrev S256x512 : Shape := ⟨2, ![256, 512]⟩
abbrev S256x256 : Shape := ⟨2, ![256, 256]⟩
abbrev S8x256x192 : Shape := ⟨3, ![8, 256, 192]⟩
abbrev S8x256x128 : Shape := ⟨3, ![8, 256, 128]⟩
abbrev S256x64 : Shape := ⟨2, ![256, 64]⟩
abbrev S256x1 : Shape := ⟨2, ![256, 1]⟩
abbrev S256x1536 : Shape := ⟨2, ![256, 1536]⟩
abbrev S256x128 : Shape := ⟨2, ![256, 128]⟩
abbrev S1x256x128 : Shape := ⟨3, ![1, 256, 128]⟩
abbrev S1x256x32 : Shape := ⟨3, ![1, 256, 32]⟩

abbrev nBuf : Space → Nat
  | .hbm => 37
  | .vmem => 20
  | .smem => 0
  | _ => 0

abbrev bufTy : (tb : Table) → Fin (tcTables nBuf tb) → BufTy
  | .hbm, ⟨0, _⟩ => ⟨S4096, .i32⟩
  | .hbm, ⟨1, _⟩ => ⟨S4096x832, .f32⟩
  | .hbm, ⟨2, _⟩ => ⟨S512, .f32⟩
  | .hbm, ⟨3, _⟩ => ⟨S256, .f32⟩
  | .hbm, ⟨4, _⟩ => ⟨S512x1536, .f32⟩
  | .hbm, ⟨5, _⟩ => ⟨S256x2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S1x512, .f32⟩
  | .hbm, ⟨29, _⟩ => ⟨S1x256, .f32⟩
  | .hbm, ⟨30, _⟩ => ⟨S512x1536, .bf16⟩
  | .hbm, ⟨31, _⟩ => ⟨S256x2048, .bf16⟩
  | .hbm, ⟨32, _⟩ => ⟨S4096x512, .bf16⟩
  | .hbm, ⟨33, _⟩ => ⟨S4096x256, .bf16⟩
  | .hbm, ⟨34, _⟩ => ⟨S8x4096x192, .bf16⟩
  | .hbm, ⟨35, _⟩ => ⟨S8x4096x192, .bf16⟩
  | .hbm, ⟨36, _⟩ => ⟨S8x4096x128, .bf16⟩
  | .local _ .vmem, ⟨0, _⟩ => ⟨S256x832, .f32⟩
  | .local _ .vmem, ⟨1, _⟩ => ⟨S256x832, .f32⟩
  | .local _ .vmem, ⟨2, _⟩ => ⟨S1x512, .f32⟩
  | .local _ .vmem, ⟨3, _⟩ => ⟨S1x256, .f32⟩
  | .local _ .vmem, ⟨4, _⟩ => ⟨S512x1536, .bf16⟩
  | .local _ .vmem, ⟨5, _⟩ => ⟨S256x2048, .bf16⟩
  | .local _ .vmem, ⟨6, _⟩ => ⟨S256x32, .f32⟩
  | .local _ .vmem, ⟨7, _⟩ => ⟨S256x32, .f32⟩
  | .local _ .vmem, ⟨8, _⟩ => ⟨S256x32, .f32⟩
  | .local _ .vmem, ⟨9, _⟩ => ⟨S256x32, .f32⟩
  | .local _ .vmem, ⟨10, _⟩ => ⟨S256x512, .bf16⟩
  | .local _ .vmem, ⟨11, _⟩ => ⟨S256x512, .bf16⟩
  | .local _ .vmem, ⟨12, _⟩ => ⟨S256x256, .bf16⟩
  | .local _ .vmem, ⟨13, _⟩ => ⟨S256x256, .bf16⟩
  | .local _ .vmem, ⟨14, _⟩ => ⟨S8x256x192, .bf16⟩
  | .local _ .vmem, ⟨15, _⟩ => ⟨S8x256x192, .bf16⟩
  | .local _ .vmem, ⟨16, _⟩ => ⟨S8x256x192, .bf16⟩
  | .local _ .vmem, ⟨17, _⟩ => ⟨S8x256x192, .bf16⟩
  | .local _ .vmem, ⟨18, _⟩ => ⟨S8x256x128, .bf16⟩
  | .local _ .vmem, ⟨19, _⟩ => ⟨S8x256x128, .bf16⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== QkvRefIdeal.lean ====
abbrev S4096 : Shape := ⟨1, ![4096]⟩
abbrev S4096x832 : Shape := ⟨2, ![4096, 832]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x512 : Shape := ⟨2, ![4096, 512]⟩
abbrev S4096x256 : Shape := ⟨2, ![4096, 256]⟩
abbrev S4096x64 : Shape := ⟨2, ![4096, 64]⟩
abbrev S1x512 : Shape := ⟨2, ![1, 512]⟩
abbrev S1x256 : Shape := ⟨2, ![1, 256]⟩
abbrev S4096x1536 : Shape := ⟨2, ![4096, 1536]⟩
abbrev S4096x8x192 : Shape := ⟨3, ![4096, 8, 192]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x2048 : Shape := ⟨2, ![4096, 2048]⟩
abbrev S4096x8x256 : Shape := ⟨3, ![4096, 8, 256]⟩
abbrev S4096x1x64 : Shape := ⟨3, ![4096, 1, 64]⟩
abbrev S4096x8x128 : Shape := ⟨3, ![4096, 8, 128]⟩
abbrev S8x4096x192 : Shape := ⟨3, ![8, 4096, 192]⟩
abbrev S8x4096x128 : Shape := ⟨3, ![8, 4096, 128]⟩

abbrev nBuf : Space → Nat
  | .hbm => 107
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x832, .f32⟩
  | .hbm, ⟨2, _⟩ => ⟨S512, .f32⟩
  | .hbm, ⟨3, _⟩ => ⟨S256, .f32⟩
  | .hbm, ⟨4, _⟩ => ⟨S512x1536, .f32⟩
  | .hbm, ⟨5, _⟩ => ⟨S256x2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x512, .f32⟩
  | .hbm, ⟨29, _⟩ => ⟨S4096x256, .f32⟩
  | .hbm, ⟨30, _⟩ => ⟨S4096x64, .f32⟩
  | .hbm, ⟨31, _⟩ => ⟨S4096x512, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x512, .f32⟩
  | .hbm, ⟨43, _⟩ => ⟨S4096x512, .f32⟩
  | .hbm, ⟨44, _⟩ => ⟨S1x512, .f32⟩
  | .hbm, ⟨45, _⟩ => ⟨S4096x512, .f32⟩
  | .hbm, ⟨46, _⟩ => ⟨S4096x512, .f32⟩
  | .hbm, ⟨47, _⟩ => ⟨S4096x256, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x256, .f32⟩
  | .hbm, ⟨59, _⟩ => ⟨S4096x256, .f32⟩
  | .hbm, ⟨60, _⟩ => ⟨S1x256, .f32⟩
  | .hbm, ⟨61, _⟩ => ⟨S4096x256, .f32⟩
  | .hbm, ⟨62, _⟩ => ⟨S4096x256, .f32⟩
  | .hbm, ⟨63, _⟩ => ⟨S4096x1536, .f32⟩
  | .hbm, ⟨64, _⟩ => ⟨S4096x8x192, .f32⟩
  | .hbm, ⟨65, _⟩ => ⟨S4096x8x64, .f32⟩
  | .hbm, ⟨66, _⟩ => ⟨S4096x1x32, .f32⟩
  | .hbm, ⟨67, _⟩ => ⟨S4096x1x32, .f32⟩
  | .hbm, ⟨68, _⟩ => ⟨S4096x8x32, .f32⟩
  | .hbm, ⟨69, _⟩ => ⟨S4096x8x32, .f32⟩
  | .hbm, ⟨70, _⟩ => ⟨S4096x8x32, .f32⟩
  | .hbm, ⟨71, _⟩ => ⟨S4096x8x32, .f32⟩
  | .hbm, ⟨72, _⟩ => ⟨S4096x8x32, .f32⟩
  | .hbm, ⟨73, _⟩ => ⟨S4096x8x32, .f32⟩
  | .hbm, ⟨74, _⟩ => ⟨S4096x8x32, .f32⟩
  | .hbm, ⟨75, _⟩ => ⟨S4096x8x32, .f32⟩
  | .hbm, ⟨76, _⟩ => ⟨S4096x8x32, .f32⟩
  | .hbm, ⟨77, _⟩ => ⟨S4096x8x32, .f32⟩
  | .hbm, ⟨78, _⟩ => ⟨S4096x8x32, .f32⟩
  | .hbm, ⟨79, _⟩ => ⟨S4096x8x32, .f32⟩
  | .hbm, ⟨80, _⟩ => ⟨S4096x8x64, .f32⟩
  | .hbm, ⟨81, _⟩ => ⟨S4096x2048, .f32⟩
  | .hbm, ⟨82, _⟩ => ⟨S4096x8x256, .f32⟩
  | .hbm, ⟨83, _⟩ => ⟨S4096x32, .f32⟩
  | .hbm, ⟨84, _⟩ => ⟨S4096x32, .f32⟩
  | .hbm, ⟨85, _⟩ => ⟨S4096x32, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S4096x32, .f32⟩
  | .hbm, ⟨90, _⟩ => ⟨S4096x32, .f32⟩
  | .hbm, ⟨91, _⟩ => ⟨S4096x64, .f32⟩
  | .hbm, ⟨92, _⟩ => ⟨S4096x1x64, .f32⟩
  | .hbm, ⟨93, _⟩ => ⟨S4096x8x64, .f32⟩
  | .hbm, ⟨94, _⟩ => ⟨S4096x8x128, .f32⟩
  | .hbm, ⟨95, _⟩ => ⟨S4096x8x192, .f32⟩
  | .hbm, ⟨96, _⟩ => ⟨S4096x8x128, .f32⟩
  | .hbm, ⟨97, _⟩ => ⟨S4096x8x192, .f32⟩
  | .hbm, ⟨98, _⟩ => ⟨S4096x8x128, .f32⟩
  | .hbm, ⟨99, _⟩ => ⟨S8x4096x192, .f32⟩
  | .hbm, ⟨100, _⟩ => ⟨S8x4096x192, .f32⟩
  | .hbm, ⟨101, _⟩ => ⟨S8x4096x128, .f32⟩
  | .hbm, ⟨102, _⟩ => ⟨S4096x512, .bf16⟩
  | .hbm, ⟨103, _⟩ => ⟨S4096x256, .bf16⟩
  | .hbm, ⟨104, _⟩ => ⟨S8x4096x192, .bf16⟩
  | .hbm, ⟨105, _⟩ => ⟨S8x4096x192, .bf16⟩
  | .hbm, ⟨106, _⟩ => ⟨S8x4096x128, .bf16⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩

abbrev nD : Nat := 1
abbrev τ : Topo := Topo.v7x

variable {F : FTy → Type} [FloatOps F]
-- ==== Dw.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.AttnRuns.lean ====
module

public import proofs.«01_k».proof.Proof.Gen.Attn.Skeleton
public import proofs.«01_k».proof.Proof.Gen.Attn.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! The body of the attention gradient's call, run once on each of its three paths: the diagonal block of the first
half (`runA`), the block below the diagonal (`runB`) and the diagonal block of the second half (`runC`). -/

@[expose] public section

set_option maxRecDepth 16384
set_option Elab.async false

noncomputable section

namespace Cert.Attn.Gen

open Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources of the proof. -/
abbrev Res := MT nD τ sig Unit (Elt Bits) ℕ (UR sig nD τ) ℕ

/-- The two tables and the three accumulators, whole. -/
abbrev tabI : Memref sig .tc .smem S3 .i32 := Memref.whole main_c
abbrev tabJ : Memref sig .tc .smem S3 .i32 := Memref.whole main_c_0
abbrev accQ : Memref sig .tc .vmem S4096x192 .f32 := Memref.whole cc0_scratch0
abbrev accK : Memref sig .tc .vmem S2048x192 .f32 := Memref.whole cc0_scratch1
abbrev accV : Memref sig .tc .vmem S2048x128 .f32 := Memref.whole cc0_scratch2

/-- What a device's buffers hold. -/
abbrev HoldQ (c : Dev nD) := Buf (Elt Bits) ((c : Thread nD τ).loc cc0_scratch0)
abbrev HoldK (c : Dev nD) := Buf (Elt Bits) ((c : Thread nD τ).loc cc0_scratch1)
abbrev HoldV (c : Dev nD) := Buf (Elt Bits) ((c : Thread nD τ).loc cc0_scratch2)

/-- The words the body reads of the two tables: the row block and the column block of the step. -/
abbrev wordI (i : grid0.Coords) (T : S3.Idx → BitVec 32) : BitVec 32 :=
  View.readAt (Elt Bits) tabI.view (Rect.unit (s := S3) (k0_off1 i) S1.size (k0_off1_inb i)).toLoadRect T
    (Shape.Idx.first (numel1_S1.symm ▸ Nat.one_pos))
abbrev wordJ (i : grid0.Coords) (T : S3.Idx → BitVec 32) : BitVec 32 :=
  View.readAt (Elt Bits) tabJ.view (Rect.unit (s := S3) (k0_off1 i) S1.size (k0_off1_inb i)).toLoadRect T
    (Shape.Idx.first (numel1_S1.symm ▸ Nat.one_pos))

/-- The step's place in its head is the first. -/
abbrev AtStart (i : grid0.Coords) : Prop :=
  (Scalar.cmpi .ne (Scalar.extui (Scalar.cmpi .eq (BitVec.ofNat 32 (i 1).val) 0#32)) 0#32) = 1#1

variable (c : Dev nD) (i : grid0.Coords)
  {a4 : Memref sig .tc .vmem S1x2048x192 .bf16} (h4 : a4.IsWhole)
  {a5 : Memref sig .tc .vmem S1x2048x192 .bf16} (h5 : a5.IsWhole)
  {a6 : Memref sig .tc .vmem S1x2048x128 .bf16} (h6 : a6.IsWhole)
  {a7 : Memref sig .tc .vmem S2048x128 .f32} (h7 : a7.IsWhole)
  {a8 : Memref sig .tc .vmem S1x1x2048 .f32} (h8 : a8.IsWhole)
  {a9 : Memref sig .tc .vmem S8x2048 .f32} (h9 : a9.IsWhole)
  {a10 : Memref sig .tc .vmem S1x4096x192 .bf16} (h10 : a10.IsWhole)
  {a11 : Memref sig .tc .vmem S1x2048x192 .bf16} (h11 : a11.IsWhole)
  {a12 : Memref sig .tc .vmem S1x2048x128 .bf16} (h12 : a12.IsWhole)
  (TI TJ : S3.Idx → BitVec 32)
  (q k : S1x2048x192.Idx → Elt Bits .bf16) (v : S1x2048x128.Idx → Elt Bits .bf16) (o : S2048x128.Idx → Elt Bits .f32)
  (l : S1x1x2048.Idx → Elt Bits .f32) (d : S8x2048.Idx → Elt Bits .f32)

/-- The inputs' blocks and the tables, held. -/
def heldIn (a4 a5 : Memref sig .tc .vmem S1x2048x192 .bf16) (a6 : Memref sig .tc .vmem S1x2048x128 .bf16)
    (a7 : Memref sig .tc .vmem S2048x128 .f32) (a8 : Memref sig .tc .vmem S1x1x2048 .f32)
    (a9 : Memref sig .tc .vmem S8x2048 .f32) : sProp Res :=
  iprop((a4.view.loc (c : Thread nD τ) ↦[a4.view.set]{fullShare} a4.view.rep q)
    ∗ (a5.view.loc (c : Thread nD τ) ↦[a5.view.set]{fullShare} a5.view.rep k)
    ∗ (a6.view.loc (c : Thread nD τ) ↦[a6.view.set]{fullShare} a6.view.rep v)
    ∗ (a7.view.loc (c : Thread nD τ) ↦[a7.view.set]{fullShare} a7.view.rep o)
    ∗ (a8.view.loc (c : Thread nD τ) ↦[a8.view.set]{fullShare} a8.view.rep l)
    ∗ (a9.view.loc (c : Thread nD τ) ↦[a9.view.set]{fullShare} a9.view.rep d)
    ∗ (tabI.view.loc (c : Thread nD τ) ↦{fullShare.right} TI)
    ∗ (tabJ.view.loc (c : Thread nD τ) ↦{fullShare.right} TJ))

/-- The three accumulators, held. -/
def heldAcc (sq : HoldQ c) (sk : HoldK c) (sv : HoldV c) : sProp Res :=
  iprop((accQ.view.loc (c : Thread nD τ) ↦{fullShare} sq) ∗ (accK.view.loc (c : Thread nD τ) ↦{fullShare} sk)
    ∗ (accV.view.loc (c : Thread nD τ) ↦{fullShare} sv))

/-- The body on the step's buffers. -/
abbrev body (h4 : a4.IsWhole) (h5 : a5.IsWhole) (h6 : a6.IsWhole) (h7 : a7.IsWhole) (h8 : a8.IsWhole) (h9 : a9.IsWhole)
    (h10 : a10.IsWhole) (h11 : a11.IsWhole) (h12 : a12.IsWhole) : Prog (TpuEff nD τ sig (Elt Bits) Λ₀ .tc) PUnit :=
  cc0_attn_bwd i tabI (Memref.isWhole_whole _) tabJ (Memref.isWhole_whole _) a4 h4 a5 h5 a6 h6 a7 h7 a8 h8 a9 h9 a10 h10
    a11 h11 a12 h12 accQ (Memref.isWhole_whole _) accK (Memref.isWhole_whole _) accV (Memref.isWhole_whole _)

set_option backward.proofsInPublic true in
set_option maxHeartbeats 8000000 in
/-- The diagonal block of the first half: the accumulators are zeroed and filled, no output is stored. -/
def runA (w : k0_chk1 (wordI i TI) (wordJ i TJ)) (e1 : AtStart i) (e2 : k0_cond2 (wordI i TI) (wordJ i TJ) = 1#1)
    (e3 : ¬(k0_cond3 (wordI i TI) (wordJ i TJ) = 1#1)) (e4 : ¬(k0_cond4 (wordI i TI) = 1#1)) (e5 : ¬(k0_cond5 i = 1#1)) :
    Σ' (rq : HoldQ c) (rk : HoldK c) (rv : HoldV c),
      ∀ (sq : HoldQ c) (sk : HoldK c) (sv : HoldV c) (y10 : S1x4096x192.Idx → Elt Bits .bf16)
        (y11 : S1x2048x192.Idx → Elt Bits .bf16) (y12 : S1x2048x128.Idx → Elt Bits .bf16) (K : PUnit → sProp Res),
      iprop(heldIn c TI TJ q k v o l d a4 a5 a6 a7 a8 a9 ∗ owns (c : Thread nD τ) a10 fullShare y10
          ∗ owns (c : Thread nD τ) a11 fullShare y11 ∗ owns (c : Thread nD τ) a12 fullShare y12 ∗ heldAcc c sq sk sv
          ∗ (iprop(heldIn c TI TJ q k v o l d a4 a5 a6 a7 a8 a9 ∗ owns (c : Thread nD τ) a10 fullShare y10
            ∗ owns (c : Thread nD τ) a11 fullShare y11 ∗ owns (c : Thread nD τ) a12 fullShare y12
            ∗ heldAcc c rq rk rv) -∗ K ⟨⟩))
        ⊢ wp frame (wpE (defs₀ (F := Bits)) Variants.none c none) Set.univ (body i h4 h5 h6 h7 h8 h9 h10 h11 h12) K :=
  ⟨_, _, _, fun sq sk sv y10 y11 y12 K => by
    unfold heldIn heldAcc owns body
    rw [cc0_attn_bwd_eq_skeleton]; unfold cc0_attn_bwd_skel
    iintro ⟨⟨H0, H1, H2, H3, H4, H5, HTI, HTJ⟩, ⟨%f6, %hf6, HO6⟩, ⟨%f7, %hf7, HO7⟩, ⟨%f8, %hf8, HO8⟩, ⟨HS0, HS1, HS2⟩, Hk⟩
    obtain rfl := h10.eq_unread hf6
    obtain rfl := h11.eq_unread hf7
    obtain rfl := h12.eq_unread hf8
    have hS0 : accQ.IsWhole := Memref.isWhole_whole _
    have hS1 : accK.IsWhole := Memref.isWhole_whole _
    have hS2 : accV.IsWhole := Memref.isWhole_whole _
    have hT0 : tabI.IsWhole := Memref.isWhole_whole _
    have hT1 : tabJ.IsWhole := Memref.isWhole_whole _
    sl_exec! (disch := first | (guard_target = k0_chk1 _ _; exact w) | (guard_target = Scalar.cmpi = _; exact e1) | (guard_target = k0_cond2 _ _ = _; exact e2) | (guard_target = ¬(k0_cond3 _ _ = _); exact e3) | (guard_target = ¬(k0_cond4 _ = _); exact e4) | (guard_target = ¬(k0_cond5 _ = _); exact e5))
    sl_step
    iapply Hk
    isplitl [H0 H1 H2 H3 H4 H5 HTI HTJ]
    · isplitl [H0]; · iexact H0
      isplitl [H1]; · iexact H1
      isplitl [H2]; · iexact H2
      isplitl [H3]; · iexact H3
      isplitl [H4]; · iexact H4
      isplitl [H5]; · iexact H5
      isplitl [HTI]; · iexact HTI
      iexact HTJ
    isplitl [HO6]
    · iexists _; isplitr; · ipureintro; exact h10.read_unread _
      iexact HO6
    isplitl [HO7]
    · iexists _; isplitr; · ipureintro; exact h11.read_unread _
      iexact HO7
    isplitl [HO8]
    · iexists _; isplitr; · ipureintro; exact h12.read_unread _
      iexact HO8
    isplitl [HS0]; · iexact HS0
    isplitl [HS1]; · iexact HS1
    iexact HS2⟩

set_option backward.proofsInPublic true in
set_option maxHeartbeats 8000000 in
/-- The block below the diagonal: the accumulators are added to, the column block's two outputs are stored. -/
def runB (sq : HoldQ c) (sk : HoldK c) (sv : HoldV c) (w : k0_chk1 (wordI i TI) (wordJ i TJ)) (e1 : ¬AtStart i)
    (e2 : ¬(k0_cond2 (wordI i TI) (wordJ i TJ) = 1#1)) (e3 : k0_cond3 (wordI i TI) (wordJ i TJ) = 1#1)
    (e4 : k0_cond4 (wordI i TI) = 1#1) (e5 : ¬(k0_cond5 i = 1#1)) :
    Σ' (o11 : List (View.Piece (Elt Bits) S1x2048x192 .bf16)) (o12 : List (View.Piece (Elt Bits) S1x2048x128 .bf16))
        (rq : HoldQ c) (rk : HoldK c) (rv : HoldV c),
      ∀ (y10 : S1x4096x192.Idx → Elt Bits .bf16) (K : PUnit → sProp Res),
      iprop(heldIn c TI TJ q k v o l d a4 a5 a6 a7 a8 a9 ∗ owns (c : Thread nD τ) a10 fullShare y10
          ∗ (∃ y, owns (c : Thread nD τ) a11 fullShare y) ∗ (∃ y, owns (c : Thread nD τ) a12 fullShare y)
          ∗ heldAcc c sq sk sv
          ∗ (iprop(heldIn c TI TJ q k v o l d a4 a5 a6 a7 a8 a9 ∗ owns (c : Thread nD τ) a10 fullShare y10
            ∗ (∃ f, a11.view.loc (c : Thread nD τ) ↦[a11.view.set]{fullShare} a11.view.writes (Elt Bits) f o11)
            ∗ (∃ f, a12.view.loc (c : Thread nD τ) ↦[a12.view.set]{fullShare} a12.view.writes (Elt Bits) f o12)
            ∗ heldAcc c rq rk rv) -∗ K ⟨⟩))
        ⊢ wp frame (wpE (defs₀ (F := Bits)) Variants.none c none) Set.univ (body i h4 h5 h6 h7 h8 h9 h10 h11 h12) K :=
  ⟨_, _, _, _, _, fun y10 K => by
    unfold heldIn heldAcc owns body
    rw [cc0_attn_bwd_eq_skeleton]; unfold cc0_attn_bwd_skel
    iintro ⟨⟨H0, H1, H2, H3, H4, H5, HTI, HTJ⟩, ⟨%f6, %hf6, HO6⟩, ⟨%d7, %f7, -, HO7⟩, ⟨%d8, %f8, -, HO8⟩, ⟨HS0, HS1, HS2⟩, Hk⟩
    obtain rfl := h10.eq_unread hf6
    have hS0 : accQ.IsWhole := Memref.isWhole_whole _
    have hS1 : accK.IsWhole := Memref.isWhole_whole _
    have hS2 : accV.IsWhole := Memref.isWhole_whole _
    have hT0 : tabI.IsWhole := Memref.isWhole_whole _
    have hT1 : tabJ.IsWhole := Memref.isWhole_whole _
    sl_exec! (disch := first | (guard_target = k0_chk1 _ _; exact w) | (guard_target = ¬(Scalar.cmpi = _); exact e1) | (guard_target = ¬(k0_cond2 _ _ = _); exact e2) | (guard_target = k0_cond3 _ _ = _; exact e3) | (guard_target = k0_cond4 _ = _; exact e4) | (guard_target = ¬(k0_cond5 _ = _); exact e5))
    sl_step
    iapply Hk
    isplitl [H0 H1 H2 H3 H4 H5 HTI HTJ]
    · isplitl [H0]; · iexact H0
      isplitl [H1]; · iexact H1
      isplitl [H2]; · iexact H2
      isplitl [H3]; · iexact H3
      isplitl [H4]; · iexact H4
      isplitl [H5]; · iexact H5
      isplitl [HTI]; · iexact HTI
      iexact HTJ
    isplitl [HO6]
    · iexists _; isplitr; · ipureintro; exact h10.read_unread _
      iexact HO6
    isplitl [HO7]; · iexists _; iexact HO7
    isplitl [HO8]; · iexists _; iexact HO8
    isplitl [HS0]; · iexact HS0
    isplitl [HS1]; · iexact HS1
    iexact HS2⟩

set_option backward.proofsInPublic true in
set_option maxHeartbeats 8000000 in
/-- The diagonal block of the second half: the column accumulators are zeroed and filled, every output is stored. -/
def runC (sq : HoldQ c) (w : k0_chk1 (wordI i TI) (wordJ i TJ)) (e1 : ¬AtStart i)
    (e2 : k0_cond2 (wordI i TI) (wordJ i TJ) = 1#1) (e3 : ¬(k0_cond3 (wordI i TI) (wordJ i TJ) = 1#1))
    (e4 : k0_cond4 (wordI i TI) = 1#1) (e5 : k0_cond5 i = 1#1) :
    Σ' (o10 : List (View.Piece (Elt Bits) S1x4096x192 .bf16)) (o11 : List (View.Piece (Elt Bits) S1x2048x192 .bf16))
        (o12 : List (View.Piece (Elt Bits) S1x2048x128 .bf16)) (rq : HoldQ c) (rk : HoldK c) (rv : HoldV c),
      ∀ (sk : HoldK c) (sv : HoldV c) (K : PUnit → sProp Res),
      iprop(heldIn c TI TJ q k v o l d a4 a5 a6 a7 a8 a9 ∗ (∃ y, owns (c : Thread nD τ) a10 fullShare y)
          ∗ (∃ y, owns (c : Thread nD τ) a11 fullShare y) ∗ (∃ y, owns (c : Thread nD τ) a12 fullShare y)
          ∗ heldAcc c sq sk sv
          ∗ (iprop(heldIn c TI TJ q k v o l d a4 a5 a6 a7 a8 a9
            ∗ (∃ f, a10.view.loc (c : Thread nD τ) ↦[a10.view.set]{fullShare} a10.view.writes (Elt Bits) f o10)
            ∗ (∃ f, a11.view.loc (c : Thread nD τ) ↦[a11.view.set]{fullShare} a11.view.writes (Elt Bits) f o11)
            ∗ (∃ f, a12.view.loc (c : Thread nD τ) ↦[a12.view.set]{fullShare} a12.view.writes (Elt Bits) f o12)
            ∗ heldAcc c rq rk rv) -∗ K ⟨⟩))
        ⊢ wp frame (wpE (defs₀ (F := Bits)) Variants.none c none) Set.univ (body i h4 h5 h6 h7 h8 h9 h10 h11 h12) K :=
  ⟨_, _, _, _, _, _, fun sk sv K => by
    unfold heldIn heldAcc owns body
    rw [cc0_attn_bwd_eq_skeleton]; unfold cc0_attn_bwd_skel
    iintro ⟨⟨H0, H1, H2, H3, H4, H5, HTI, HTJ⟩, ⟨%d6, %f6, -, HO6⟩, ⟨%d7, %f7, -, HO7⟩, ⟨%d8, %f8, -, HO8⟩, ⟨HS0, HS1, HS2⟩, Hk⟩
    have hS0 : accQ.IsWhole := Memref.isWhole_whole _
    have hS1 : accK.IsWhole := Memref.isWhole_whole _
    have hS2 : accV.IsWhole := Memref.isWhole_whole _
    have hT0 : tabI.IsWhole := Memref.isWhole_whole _
    have hT1 : tabJ.IsWhole := Memref.isWhole_whole _
    sl_exec! (disch := first | (guard_target = k0_chk1 _ _; exact w) | (guard_target = ¬(Scalar.cmpi = _); exact e1) | (guard_target = k0_cond2 _ _ = _; exact e2) | (guard_target = ¬(k0_cond3 _ _ = _); exact e3) | (guard_target = k0_cond4 _ = _; exact e4) | (guard_target = k0_cond5 _ = _; exact e5))
    sl_step
    iapply Hk
    isplitl [H0 H1 H2 H3 H4 H5 HTI HTJ]
    · isplitl [H0]; · iexact H0
      isplitl [H1]; · iexact H1
      isplitl [H2]; · iexact H2
      isplitl [H3]; · iexact H3
      isplitl [H4]; · iexact H4
      isplitl [H5]; · iexact H5
      isplitl [HTI]; · iexact HTI
      iexact HTJ
    isplitl [HO6]; · iexists _; iexact HO6
    isplitl [HO7]; · iexists _; iexact HO7
    isplitl [HO8]; · iexists _; iexact HO8
    isplitl [HS0]; · iexact HS0
    isplitl [HS1]; · iexact HS1
    iexact HS2⟩

end Cert.Attn.Gen

end
-- ==== Proof.AttnIdealRuns.lean ====
module

public import proofs.«01_k».proof.Proof.Gen.AttnIdeal.Skeleton
public import proofs.«01_k».proof.Proof.Gen.AttnIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! The body of the attention gradient's call, run once on each of its three paths: the diagonal block of the first
half (`runA`), the block below the diagonal (`runB`) and the diagonal block of the second half (`runC`). -/

@[expose] public section

set_option maxRecDepth 16384
set_option Elab.async false

noncomputable section

namespace Cert.AttnIdeal.Gen

open Cert.AttnIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources of the proof. -/
abbrev Res := MT nD τ sig Unit (Elt Ideal) ℕ (UR sig nD τ) ℕ

/-- The two tables and the three accumulators, whole. -/
abbrev tabI : Memref sig .tc .smem S3 .i32 := Memref.whole main_c
abbrev tabJ : Memref sig .tc .smem S3 .i32 := Memref.whole main_c_0
abbrev accQ : Memref sig .tc .vmem S4096x192 .f32 := Memref.whole cc0_scratch0
abbrev accK : Memref sig .tc .vmem S2048x192 .f32 := Memref.whole cc0_scratch1
abbrev accV : Memref sig .tc .vmem S2048x128 .f32 := Memref.whole cc0_scratch2

/-- What a device's buffers hold. -/
abbrev HoldQ (c : Dev nD) := Buf (Elt Ideal) ((c : Thread nD τ).loc cc0_scratch0)
abbrev HoldK (c : Dev nD) := Buf (Elt Ideal) ((c : Thread nD τ).loc cc0_scratch1)
abbrev HoldV (c : Dev nD) := Buf (Elt Ideal) ((c : Thread nD τ).loc cc0_scratch2)

/-- The words the body reads of the two tables: the row block and the column block of the step. -/
abbrev wordI (i : grid0.Coords) (T : S3.Idx → BitVec 32) : BitVec 32 :=
  View.readAt (Elt Ideal) tabI.view (Rect.unit (s := S3) (k0_off1 i) S1.size (k0_off1_inb i)).toLoadRect T
    (Shape.Idx.first (numel1_S1.symm ▸ Nat.one_pos))
abbrev wordJ (i : grid0.Coords) (T : S3.Idx → BitVec 32) : BitVec 32 :=
  View.readAt (Elt Ideal) tabJ.view (Rect.unit (s := S3) (k0_off1 i) S1.size (k0_off1_inb i)).toLoadRect T
    (Shape.Idx.first (numel1_S1.symm ▸ Nat.one_pos))

/-- The step's place in its head is the first. -/
abbrev AtStart (i : grid0.Coords) : Prop :=
  (Scalar.cmpi .ne (Scalar.extui (Scalar.cmpi .eq (BitVec.ofNat 32 (i 1).val) 0#32)) 0#32) = 1#1

variable (c : Dev nD) (i : grid0.Coords)
  {a4 : Memref sig .tc .vmem S1x2048x192 .bf16} (h4 : a4.IsWhole)
  {a5 : Memref sig .tc .vmem S1x2048x192 .bf16} (h5 : a5.IsWhole)
  {a6 : Memref sig .tc .vmem S1x2048x128 .bf16} (h6 : a6.IsWhole)
  {a7 : Memref sig .tc .vmem S2048x128 .f32} (h7 : a7.IsWhole)
  {a8 : Memref sig .tc .vmem S1x1x2048 .f32} (h8 : a8.IsWhole)
  {a9 : Memref sig .tc .vmem S8x2048 .f32} (h9 : a9.IsWhole)
  {a10 : Memref sig .tc .vmem S1x4096x192 .bf16} (h10 : a10.IsWhole)
  {a11 : Memref sig .tc .vmem S1x2048x192 .bf16} (h11 : a11.IsWhole)
  {a12 : Memref sig .tc .vmem S1x2048x128 .bf16} (h12 : a12.IsWhole)
  (TI TJ : S3.Idx → BitVec 32)
  (q k : S1x2048x192.Idx → Elt Ideal .bf16) (v : S1x2048x128.Idx → Elt Ideal .bf16) (o : S2048x128.Idx → Elt Ideal .f32)
  (l : S1x1x2048.Idx → Elt Ideal .f32) (d : S8x2048.Idx → Elt Ideal .f32)

/-- The inputs' blocks and the tables, held. -/
def heldIn (a4 a5 : Memref sig .tc .vmem S1x2048x192 .bf16) (a6 : Memref sig .tc .vmem S1x2048x128 .bf16)
    (a7 : Memref sig .tc .vmem S2048x128 .f32) (a8 : Memref sig .tc .vmem S1x1x2048 .f32)
    (a9 : Memref sig .tc .vmem S8x2048 .f32) : sProp Res :=
  iprop((a4.view.loc (c : Thread nD τ) ↦[a4.view.set]{fullShare} a4.view.rep q)
    ∗ (a5.view.loc (c : Thread nD τ) ↦[a5.view.set]{fullShare} a5.view.rep k)
    ∗ (a6.view.loc (c : Thread nD τ) ↦[a6.view.set]{fullShare} a6.view.rep v)
    ∗ (a7.view.loc (c : Thread nD τ) ↦[a7.view.set]{fullShare} a7.view.rep o)
    ∗ (a8.view.loc (c : Thread nD τ) ↦[a8.view.set]{fullShare} a8.view.rep l)
    ∗ (a9.view.loc (c : Thread nD τ) ↦[a9.view.set]{fullShare} a9.view.rep d)
    ∗ (tabI.view.loc (c : Thread nD τ) ↦{fullShare.right} TI)
    ∗ (tabJ.view.loc (c : Thread nD τ) ↦{fullShare.right} TJ))

/-- The three accumulators, held. -/
def heldAcc (sq : HoldQ c) (sk : HoldK c) (sv : HoldV c) : sProp Res :=
  iprop((accQ.view.loc (c : Thread nD τ) ↦{fullShare} sq) ∗ (accK.view.loc (c : Thread nD τ) ↦{fullShare} sk)
    ∗ (accV.view.loc (c : Thread nD τ) ↦{fullShare} sv))

/-- The body on the step's buffers. -/
abbrev body (h4 : a4.IsWhole) (h5 : a5.IsWhole) (h6 : a6.IsWhole) (h7 : a7.IsWhole) (h8 : a8.IsWhole) (h9 : a9.IsWhole)
    (h10 : a10.IsWhole) (h11 : a11.IsWhole) (h12 : a12.IsWhole) : Prog (TpuEff nD τ sig (Elt Ideal) Λ₀ .tc) PUnit :=
  cc0_attn_bwd i tabI (Memref.isWhole_whole _) tabJ (Memref.isWhole_whole _) a4 h4 a5 h5 a6 h6 a7 h7 a8 h8 a9 h9 a10 h10
    a11 h11 a12 h12 accQ (Memref.isWhole_whole _) accK (Memref.isWhole_whole _) accV (Memref.isWhole_whole _)

set_option backward.proofsInPublic true in
set_option maxHeartbeats 8000000 in
/-- The diagonal block of the first half: the accumulators are zeroed and filled, no output is stored. -/
def runA (w : k0_chk1 (wordI i TI) (wordJ i TJ)) (e1 : AtStart i) (e2 : k0_cond2 (wordI i TI) (wordJ i TJ) = 1#1)
    (e3 : ¬(k0_cond3 (wordI i TI) (wordJ i TJ) = 1#1)) (e4 : ¬(k0_cond4 (wordI i TI) = 1#1)) (e5 : ¬(k0_cond5 i = 1#1)) :
    Σ' (rq : HoldQ c) (rk : HoldK c) (rv : HoldV c),
      ∀ (sq : HoldQ c) (sk : HoldK c) (sv : HoldV c) (y10 : S1x4096x192.Idx → Elt Ideal .bf16)
        (y11 : S1x2048x192.Idx → Elt Ideal .bf16) (y12 : S1x2048x128.Idx → Elt Ideal .bf16) (K : PUnit → sProp Res),
      iprop(heldIn c TI TJ q k v o l d a4 a5 a6 a7 a8 a9 ∗ owns (c : Thread nD τ) a10 fullShare y10
          ∗ owns (c : Thread nD τ) a11 fullShare y11 ∗ owns (c : Thread nD τ) a12 fullShare y12 ∗ heldAcc c sq sk sv
          ∗ (iprop(heldIn c TI TJ q k v o l d a4 a5 a6 a7 a8 a9 ∗ owns (c : Thread nD τ) a10 fullShare y10
            ∗ owns (c : Thread nD τ) a11 fullShare y11 ∗ owns (c : Thread nD τ) a12 fullShare y12
            ∗ heldAcc c rq rk rv) -∗ K ⟨⟩))
        ⊢ wp frame (wpE (defs₀ (F := Ideal)) Variants.none c none) Set.univ (body i h4 h5 h6 h7 h8 h9 h10 h11 h12) K :=
  ⟨_, _, _, fun sq sk sv y10 y11 y12 K => by
    unfold heldIn heldAcc owns body
    rw [cc0_attn_bwd_eq_skeleton]; unfold cc0_attn_bwd_skel
    iintro ⟨⟨H0, H1, H2, H3, H4, H5, HTI, HTJ⟩, ⟨%f6, %hf6, HO6⟩, ⟨%f7, %hf7, HO7⟩, ⟨%f8, %hf8, HO8⟩, ⟨HS0, HS1, HS2⟩, Hk⟩
    obtain rfl := h10.eq_unread hf6
    obtain rfl := h11.eq_unread hf7
    obtain rfl := h12.eq_unread hf8
    have hS0 : accQ.IsWhole := Memref.isWhole_whole _
    have hS1 : accK.IsWhole := Memref.isWhole_whole _
    have hS2 : accV.IsWhole := Memref.isWhole_whole _
    have hT0 : tabI.IsWhole := Memref.isWhole_whole _
    have hT1 : tabJ.IsWhole := Memref.isWhole_whole _
    sl_exec! (disch := first | (guard_target = k0_chk1 _ _; exact w) | (guard_target = Scalar.cmpi = _; exact e1) | (guard_target = k0_cond2 _ _ = _; exact e2) | (guard_target = ¬(k0_cond3 _ _ = _); exact e3) | (guard_target = ¬(k0_cond4 _ = _); exact e4) | (guard_target = ¬(k0_cond5 _ = _); exact e5))
    sl_step
    iapply Hk
    isplitl [H0 H1 H2 H3 H4 H5 HTI HTJ]
    · isplitl [H0]; · iexact H0
      isplitl [H1]; · iexact H1
      isplitl [H2]; · iexact H2
      isplitl [H3]; · iexact H3
      isplitl [H4]; · iexact H4
      isplitl [H5]; · iexact H5
      isplitl [HTI]; · iexact HTI
      iexact HTJ
    isplitl [HO6]
    · iexists _; isplitr; · ipureintro; exact h10.read_unread _
      iexact HO6
    isplitl [HO7]
    · iexists _; isplitr; · ipureintro; exact h11.read_unread _
      iexact HO7
    isplitl [HO8]
    · iexists _; isplitr; · ipureintro; exact h12.read_unread _
      iexact HO8
    isplitl [HS0]; · iexact HS0
    isplitl [HS1]; · iexact HS1
    iexact HS2⟩

set_option backward.proofsInPublic true in
set_option maxHeartbeats 8000000 in
/-- The block below the diagonal: the accumulators are added to, the column block's two outputs are stored. -/
def runB (sq : HoldQ c) (sk : HoldK c) (sv : HoldV c) (w : k0_chk1 (wordI i TI) (wordJ i TJ)) (e1 : ¬AtStart i)
    (e2 : ¬(k0_cond2 (wordI i TI) (wordJ i TJ) = 1#1)) (e3 : k0_cond3 (wordI i TI) (wordJ i TJ) = 1#1)
    (e4 : k0_cond4 (wordI i TI) = 1#1) (e5 : ¬(k0_cond5 i = 1#1)) :
    Σ' (o11 : List (View.Piece (Elt Ideal) S1x2048x192 .bf16)) (o12 : List (View.Piece (Elt Ideal) S1x2048x128 .bf16))
        (rq : HoldQ c) (rk : HoldK c) (rv : HoldV c),
      ∀ (y10 : S1x4096x192.Idx → Elt Ideal .bf16) (K : PUnit → sProp Res),
      iprop(heldIn c TI TJ q k v o l d a4 a5 a6 a7 a8 a9 ∗ owns (c : Thread nD τ) a10 fullShare y10
          ∗ (∃ y, owns (c : Thread nD τ) a11 fullShare y) ∗ (∃ y, owns (c : Thread nD τ) a12 fullShare y)
          ∗ heldAcc c sq sk sv
          ∗ (iprop(heldIn c TI TJ q k v o l d a4 a5 a6 a7 a8 a9 ∗ owns (c : Thread nD τ) a10 fullShare y10
            ∗ (∃ f, a11.view.loc (c : Thread nD τ) ↦[a11.view.set]{fullShare} a11.view.writes (Elt Ideal) f o11)
            ∗ (∃ f, a12.view.loc (c : Thread nD τ) ↦[a12.view.set]{fullShare} a12.view.writes (Elt Ideal) f o12)
            ∗ heldAcc c rq rk rv) -∗ K ⟨⟩))
        ⊢ wp frame (wpE (defs₀ (F := Ideal)) Variants.none c none) Set.univ (body i h4 h5 h6 h7 h8 h9 h10 h11 h12) K :=
  ⟨_, _, _, _, _, fun y10 K => by
    unfold heldIn heldAcc owns body
    rw [cc0_attn_bwd_eq_skeleton]; unfold cc0_attn_bwd_skel
    iintro ⟨⟨H0, H1, H2, H3, H4, H5, HTI, HTJ⟩, ⟨%f6, %hf6, HO6⟩, ⟨%d7, %f7, -, HO7⟩, ⟨%d8, %f8, -, HO8⟩, ⟨HS0, HS1, HS2⟩, Hk⟩
    obtain rfl := h10.eq_unread hf6
    have hS0 : accQ.IsWhole := Memref.isWhole_whole _
    have hS1 : accK.IsWhole := Memref.isWhole_whole _
    have hS2 : accV.IsWhole := Memref.isWhole_whole _
    have hT0 : tabI.IsWhole := Memref.isWhole_whole _
    have hT1 : tabJ.IsWhole := Memref.isWhole_whole _
    sl_exec! (disch := first | (guard_target = k0_chk1 _ _; exact w) | (guard_target = ¬(Scalar.cmpi = _); exact e1) | (guard_target = ¬(k0_cond2 _ _ = _); exact e2) | (guard_target = k0_cond3 _ _ = _; exact e3) | (guard_target = k0_cond4 _ = _; exact e4) | (guard_target = ¬(k0_cond5 _ = _); exact e5))
    sl_step
    iapply Hk
    isplitl [H0 H1 H2 H3 H4 H5 HTI HTJ]
    · isplitl [H0]; · iexact H0
      isplitl [H1]; · iexact H1
      isplitl [H2]; · iexact H2
      isplitl [H3]; · iexact H3
      isplitl [H4]; · iexact H4
      isplitl [H5]; · iexact H5
      isplitl [HTI]; · iexact HTI
      iexact HTJ
    isplitl [HO6]
    · iexists _; isplitr; · ipureintro; exact h10.read_unread _
      iexact HO6
    isplitl [HO7]; · iexists _; iexact HO7
    isplitl [HO8]; · iexists _; iexact HO8
    isplitl [HS0]; · iexact HS0
    isplitl [HS1]; · iexact HS1
    iexact HS2⟩

set_option backward.proofsInPublic true in
set_option maxHeartbeats 8000000 in
/-- The diagonal block of the second half: the column accumulators are zeroed and filled, every output is stored. -/
def runC (sq : HoldQ c) (w : k0_chk1 (wordI i TI) (wordJ i TJ)) (e1 : ¬AtStart i)
    (e2 : k0_cond2 (wordI i TI) (wordJ i TJ) = 1#1) (e3 : ¬(k0_cond3 (wordI i TI) (wordJ i TJ) = 1#1))
    (e4 : k0_cond4 (wordI i TI) = 1#1) (e5 : k0_cond5 i = 1#1) :
    Σ' (o10 : List (View.Piece (Elt Ideal) S1x4096x192 .bf16)) (o11 : List (View.Piece (Elt Ideal) S1x2048x192 .bf16))
        (o12 : List (View.Piece (Elt Ideal) S1x2048x128 .bf16)) (rq : HoldQ c) (rk : HoldK c) (rv : HoldV c),
      ∀ (sk : HoldK c) (sv : HoldV c) (K : PUnit → sProp Res),
      iprop(heldIn c TI TJ q k v o l d a4 a5 a6 a7 a8 a9 ∗ (∃ y, owns (c : Thread nD τ) a10 fullShare y)
          ∗ (∃ y, owns (c : Thread nD τ) a11 fullShare y) ∗ (∃ y, owns (c : Thread nD τ) a12 fullShare y)
          ∗ heldAcc c sq sk sv
          ∗ (iprop(heldIn c TI TJ q k v o l d a4 a5 a6 a7 a8 a9
            ∗ (∃ f, a10.view.loc (c : Thread nD τ) ↦[a10.view.set]{fullShare} a10.view.writes (Elt Ideal) f o10)
            ∗ (∃ f, a11.view.loc (c : Thread nD τ) ↦[a11.view.set]{fullShare} a11.view.writes (Elt Ideal) f o11)
            ∗ (∃ f, a12.view.loc (c : Thread nD τ) ↦[a12.view.set]{fullShare} a12.view.writes (Elt Ideal) f o12)
            ∗ heldAcc c rq rk rv) -∗ K ⟨⟩))
        ⊢ wp frame (wpE (defs₀ (F := Ideal)) Variants.none c none) Set.univ (body i h4 h5 h6 h7 h8 h9 h10 h11 h12) K :=
  ⟨_, _, _, _, _, _, fun sk sv K => by
    unfold heldIn heldAcc owns body
    rw [cc0_attn_bwd_eq_skeleton]; unfold cc0_attn_bwd_skel
    iintro ⟨⟨H0, H1, H2, H3, H4, H5, HTI, HTJ⟩, ⟨%d6, %f6, -, HO6⟩, ⟨%d7, %f7, -, HO7⟩, ⟨%d8, %f8, -, HO8⟩, ⟨HS0, HS1, HS2⟩, Hk⟩
    have hS0 : accQ.IsWhole := Memref.isWhole_whole _
    have hS1 : accK.IsWhole := Memref.isWhole_whole _
    have hS2 : accV.IsWhole := Memref.isWhole_whole _
    have hT0 : tabI.IsWhole := Memref.isWhole_whole _
    have hT1 : tabJ.IsWhole := Memref.isWhole_whole _
    sl_exec! (disch := first | (guard_target = k0_chk1 _ _; exact w) | (guard_target = ¬(Scalar.cmpi = _); exact e1) | (guard_target = k0_cond2 _ _ = _; exact e2) | (guard_target = ¬(k0_cond3 _ _ = _); exact e3) | (guard_target = k0_cond4 _ = _; exact e4) | (guard_target = k0_cond5 _ = _; exact e5))
    sl_step
    iapply Hk
    isplitl [H0 H1 H2 H3 H4 H5 HTI HTJ]
    · isplitl [H0]; · iexact H0
      isplitl [H1]; · iexact H1
      isplitl [H2]; · iexact H2
      isplitl [H3]; · iexact H3
      isplitl [H4]; · iexact H4
      isplitl [H5]; · iexact H5
      isplitl [HTI]; · iexact HTI
      iexact HTJ
    isplitl [HO6]; · iexists _; iexact HO6
    isplitl [HO7]; · iexists _; iexact HO7
    isplitl [HO8]; · iexists _; iexact HO8
    isplitl [HS0]; · iexact HS0
    isplitl [HS1]; · iexact HS1
    iexact HS2⟩

end Cert.AttnIdeal.Gen

end
-- ==== Proof.AttnIdealTiles.lean ====
module

public import proofs.«01_k».proof.Proof.AttnIdealRuns
import all proofs.«01_k».proof.Proof.AttnIdealRuns
public import Idealize.ShloMosaic.Lib.Pipeline.ValueKit
public import Idealize.ShloMosaic.Lib.Pointwise
public import Idealize.ShloMosaic.Lib.IdealHost

/-! The tiles of the attention gradient's body as functions of their place: each path's stores are the same few
functions of 512 queries and 512 keys, so what a path leaves in the three accumulators is told once for a tile. -/

@[expose] public section

set_option maxRecDepth 16384

noncomputable section

namespace Cert.AttnIdeal.Gen.Tile

open Cert.AttnIdeal Cert.AttnIdeal.Gen
open Idealize.ShloMosaic Idealize.ShloMosaic.TcCoe Idealize.ShloMosaic.Tactic

/-! ### One tile -/

/-- A block of one head's rows without its leading axis. -/
abbrev flat192 (x : Vec Ideal S1x512x192 .bf16) : FVec Ideal S512x192 .bf16 := shapeCast S512x192 x shapeCasts_S1x512x192_S512x192
abbrev flat128 (x : Vec Ideal S1x512x128 .bf16) : FVec Ideal S512x128 .bf16 := shapeCast S512x128 x shapeCasts_S1x512x128_S512x128
abbrev flat1 (x : Vec Ideal S1x1x512 .f32) : FVec Ideal S1x512 .f32 := shapeCast S1x512 x shapeCasts_S1x1x512_S1x512
abbrev same1 (x : Vec Ideal S1x512 .f32) : FVec Ideal S1x512 .f32 := shapeCast S1x512 x shapeCasts_S1x512_S1x512
abbrev narrow (x : Vec Ideal S512x128 .f32) : FVec Ideal S512x128 .bf16 := truncf .bf16 (x : FVec Ideal S512x128 .f32) bitsLt_bf16_f32

section Cell

variable (q k : Fin 4 → Vec Ideal S1x512x192 .bf16) (v : Fin 4 → Vec Ideal S1x512x128 .bf16) (o : Fin 4 → Vec Ideal S512x128 .f32)
  (l : Fin 4 → Vec Ideal S1x1x512 .f32) (d : Fin 4 → Vec Ideal S1x512 .f32)

/-- The weights of a tile, keys by queries. -/
def weight (q0 k0 : Fin 4) : FVec Ideal S512x512 .f32 :=
  exp2 (subf (mulf (matmul dot_S512x192_S512x192_S512x512_1_1_0_0_n_n none
      (flat192 (k k0)) (flat192 (q q0))
      (constant S512x512 .f32 0x00000000#32))
    (broadcast S512x512 (Named.named κ "scale_log2e" 0x3DD53B95#32 : Ideal .f32)))
    (broadcastTo S512x512 (mulf (flat1 (l q0))
      (broadcast S1x512 (Named.named κ "log2e" 0x3FB8AA3B#32 : Ideal .f32))) broadcasts_S1x512_S512x512))

/-- The weights with the later keys of a tile on the diagonal left out. -/
def cut (j : Fin 4) (x : FVec Ideal S512x512 .f32) : FVec Ideal S512x512 .f32 :=
  select (cmpi .sge (addi (broadcast S512x512 (BitVec.ofNat 32 (512 * j.val))) (iota .tc S512x512 32 [1] iota_S512x512_d1_w32))
    (addi (broadcast S512x512 (BitVec.ofNat 32 (512 * j.val))) (iota .tc S512x512 32 [0] iota_S512x512_d0_w32)))
    x (broadcast S512x512 (Scalar.ofBits .f32 0x00000000#32 : Ideal .f32))

/-- The weights as a path uses them: on the diagonal block `tri` holds. -/
def cell (tri : Bool) (q0 k0 : Fin 4) : FVec Ideal S512x512 .f32 :=
  bif tri && (q0.val == k0.val) then cut q0 (weight q k l q0 k0) else weight q k l q0 k0

/-- The gradient with respect to a tile's scores. -/
def grad (tri : Bool) (q0 k0 : Fin 4) : FVec Ideal S512x512 .bf16 :=
  truncf .bf16 (mulf (mulf (cell q k l tri q0 k0)
    (subf (matmul dot_S512x128_S512x128_S512x512_1_1_0_0_n_n none (flat128 (v k0))
      (narrow (o q0)) (constant S512x512 .f32 0x00000000#32))
      (broadcastTo S512x512 (same1 (d q0)) broadcasts_S1x512_S512x512)))
    (broadcast S512x512 (Named.named κ "scale" 0x3D93CD3A#32 : Ideal .f32))) bitsLt_bf16_f32

/-- A tile's share of the values' gradient, added to what is there. -/
def addV (tri : Bool) (q0 k0 : Fin 4) (x : Vec Ideal S512x128 .f32) : FVec Ideal S512x128 .f32 :=
  shapeCast S512x128 (addf x (matmul dot_S512x512_S512x128_S512x128_1_0_0_1_n_n none
    (truncf .bf16 (cell q k l tri q0 k0) bitsLt_bf16_f32) (narrow (o q0))
    (constant S512x128 .f32 0x00000000#32))) shapeCasts_S512x128_S512x128

/-- A tile's share of the keys' gradient, added to what is there. -/
def addK (tri : Bool) (q0 k0 : Fin 4) (x : Vec Ideal S512x192 .f32) : FVec Ideal S512x192 .f32 :=
  shapeCast S512x192 (addf x (matmul dot_S512x512_S512x192_S512x192_1_0_0_1_n_n none
    (grad q k v o l d tri q0 k0) (flat192 (q q0))
    (constant S512x192 .f32 0x00000000#32))) shapeCasts_S512x192_S512x192

/-- A tile's share of the queries' gradient. -/
def partQ (tri : Bool) (q0 k0 : Fin 4) : FVec Ideal S512x192 .f32 :=
  matmul dot_S512x512_S512x192_S512x192_0_0_1_1_n_n none (grad q k v o l d tri q0 k0)
    (flat192 (k k0)) (constant S512x192 .f32 0x00000000#32)

/-- The shares of `n + 1` tiles of a row of tiles, first to last. -/
def sumQ (tri : Bool) (q0 : Fin 4) : ℕ → FVec Ideal S512x192 .f32
  | 0 => partQ q k v o l d tri q0 0
  | n + 1 => addf (sumQ tri q0 n) (partQ q k v o l d tri q0 (Fin.ofNat 4 (n + 1)))

/-- A row of tiles' share of the queries' gradient, added to what is there. -/
def addQ (tri : Bool) (q0 : Fin 4) (n : ℕ) (x : Vec Ideal S512x192 .f32) : FVec Ideal S512x192 .f32 :=
  shapeCast S512x192 (addf x (sumQ q k v o l d tri q0 n)) shapeCasts_S512x192_S512x192

end Cell

/-! ### The stores, one after another -/

/-- The rows of a tile in the values' and in the keys' accumulator. -/
abbrev rowsV (j : Fin 4) : Rect S2048x128 := Rect.unit (s := S2048x128) ![512 * j.val, 0] S512x128.size
  (by intro a; have := j.isLt; fin_cases a <;> simp <;> omega)
abbrev rowsK (j : Fin 4) : Rect S2048x192 := Rect.unit (s := S2048x192) ![512 * j.val, 0] S512x192.size
  (by intro a; have := j.isLt; fin_cases a <;> simp <;> omega)

section Steps

variable (q k : Fin 4 → Vec Ideal S1x512x192 .bf16) (v : Fin 4 → Vec Ideal S1x512x128 .bf16) (o : Fin 4 → Vec Ideal S512x128 .f32)
  (l : Fin 4 → Vec Ideal S1x1x512 .f32) (d : Fin 4 → Vec Ideal S1x512 .f32)

abbrev PieceV := View.Piece (Elt Ideal) S2048x128 .f32
abbrev PieceK := View.Piece (Elt Ideal) S2048x192 .f32
abbrev PieceQ := View.Piece (Elt Ideal) S4096x192 .f32

def stepV (tri : Bool) (q0 k0 : Fin 4) (L : List PieceV) : List PieceV :=
  ⟨rowsV k0, addV q k o l tri q0 k0 (accV.view.readCov L (rowsV k0).toLoadRect)⟩ :: L

def stepK (tri : Bool) (q0 k0 : Fin 4) (L : List PieceK) : List PieceK :=
  ⟨rowsK k0, addK q k v o l d tri q0 k0 (accK.view.readCov L (rowsK k0).toLoadRect)⟩ :: L

/-- The ten tiles of a diagonal block. -/
def triV : List PieceV :=
  stepV q k o l true 3 3 (stepV q k o l true 3 2 (stepV q k o l true 3 1 (stepV q k o l true 3 0
    (stepV q k o l true 2 2 (stepV q k o l true 2 1 (stepV q k o l true 2 0
      (stepV q k o l true 1 1 (stepV q k o l true 1 0 (stepV q k o l true 0 0
        [⟨Rect.unit ![0, 0] S2048x128.size inb_S2048x128_S2048x128_0_0, (k0_pay9 : FVec Ideal S2048x128 .f32)⟩])))))))))

def triK : List PieceK :=
  stepK q k v o l d true 3 3 (stepK q k v o l d true 3 2 (stepK q k v o l d true 3 1 (stepK q k v o l d true 3 0
    (stepK q k v o l d true 2 2 (stepK q k v o l d true 2 1 (stepK q k v o l d true 2 0
      (stepK q k v o l d true 1 1 (stepK q k v o l d true 1 0 (stepK q k v o l d true 0 0
        [⟨Rect.unit ![0, 0] S2048x192.size inb_S2048x192_S2048x192_0_0, (k0_pay8 : FVec Ideal S2048x192 .f32)⟩])))))))))

/-- The first row of tiles of a full block, over what the earlier block left. -/
def firstV {c : Dev nD} (sv : HoldV c) : List PieceV :=
  [⟨rowsV 3, addV q k o l false 0 3 (View.readAt (Elt Ideal) accV.view (rowsV 3).toLoadRect sv)⟩,
   ⟨rowsV 2, addV q k o l false 0 2 (View.readAt (Elt Ideal) accV.view (rowsV 2).toLoadRect sv)⟩,
   ⟨rowsV 1, addV q k o l false 0 1 (View.readAt (Elt Ideal) accV.view (rowsV 1).toLoadRect sv)⟩,
   ⟨rowsV 0, addV q k o l false 0 0 (View.readAt (Elt Ideal) accV.view (rowsV 0).toLoadRect sv)⟩]

def firstK {c : Dev nD} (sk : HoldK c) : List PieceK :=
  [⟨rowsK 3, addK q k v o l d false 0 3 (View.readAt (Elt Ideal) accK.view (rowsK 3).toLoadRect sk)⟩,
   ⟨rowsK 2, addK q k v o l d false 0 2 (View.readAt (Elt Ideal) accK.view (rowsK 2).toLoadRect sk)⟩,
   ⟨rowsK 1, addK q k v o l d false 0 1 (View.readAt (Elt Ideal) accK.view (rowsK 1).toLoadRect sk)⟩,
   ⟨rowsK 0, addK q k v o l d false 0 0 (View.readAt (Elt Ideal) accK.view (rowsK 0).toLoadRect sk)⟩]

/-- A further row of tiles of a full block. -/
def fullV (q0 : Fin 4) (L : List PieceV) : List PieceV :=
  stepV q k o l false q0 3 (stepV q k o l false q0 2 (stepV q k o l false q0 1 (stepV q k o l false q0 0 L)))

def fullK (q0 : Fin 4) (L : List PieceK) : List PieceK :=
  stepK q k v o l d false q0 3 (stepK q k v o l d false q0 2 (stepK q k v o l d false q0 1 (stepK q k v o l d false q0 0 L)))

/-- A row of tiles in the queries' accumulator, over the contents `f`, at the rows from `off` on. -/
def stepQ {c : Dev nD} (f : HoldQ c) (tri : Bool) (q0 : Fin 4) (n : ℕ) (off : Fin 2 → ℕ)
    (inb : ∀ a, off a + S512x192.size a ≤ S4096x192.size a) (L : List PieceQ) : List PieceQ :=
  ⟨Rect.unit (s := S4096x192) off S512x192.size inb, addQ q k v o l d tri q0 n
    (View.readAt (Elt Ideal) accQ.view (Rect.unit (s := S4096x192) off S512x192.size inb).toLoadRect
      (accQ.view.writes (Elt Ideal) f L))⟩ :: L

end Steps

/-! ### The three paths -/

section Paths

variable (c : Dev nD) (i : grid0.Coords)
  {a4 : Memref sig .tc .vmem S1x2048x192 .bf16} (h4 : a4.IsWhole)
  {a5 : Memref sig .tc .vmem S1x2048x192 .bf16} (h5 : a5.IsWhole)
  {a6 : Memref sig .tc .vmem S1x2048x128 .bf16} (h6 : a6.IsWhole)
  {a7 : Memref sig .tc .vmem S2048x128 .f32} (h7 : a7.IsWhole)
  {a8 : Memref sig .tc .vmem S1x1x2048 .f32} (h8 : a8.IsWhole)
  {a9 : Memref sig .tc .vmem S8x2048 .f32} (h9 : a9.IsWhole)
  {a10 : Memref sig .tc .vmem S1x4096x192 .bf16} (h10 : a10.IsWhole)
  {a11 : Memref sig .tc .vmem S1x2048x192 .bf16} (h11 : a11.IsWhole)
  {a12 : Memref sig .tc .vmem S1x2048x128 .bf16} (h12 : a12.IsWhole)
  (TI TJ : S3.Idx → BitVec 32)
  (q k : S1x2048x192.Idx → Elt Ideal .bf16) (v : S1x2048x128.Idx → Elt Ideal .bf16) (o : S2048x128.Idx → Elt Ideal .f32)
  (l : S1x1x2048.Idx → Elt Ideal .f32) (d : S8x2048.Idx → Elt Ideal .f32)

/-- The loads of a tile's operands from the blocks. -/
def get192 (a : Memref sig .tc .vmem S1x2048x192 .bf16) (x : S1x2048x192.Idx → Elt Ideal .bf16) (j : Fin 4) : Vec Ideal S1x512x192 .bf16 :=
  View.readAt (Elt Ideal) a.view (Rect.unit (s := S1x2048x192) ![0, 512 * j.val, 0] S1x512x192.size
    (by intro a; have := j.isLt; fin_cases a <;> simp <;> omega)).toLoadRect (a.view.rep x)
def get128 (a : Memref sig .tc .vmem S1x2048x128 .bf16) (x : S1x2048x128.Idx → Elt Ideal .bf16) (j : Fin 4) : Vec Ideal S1x512x128 .bf16 :=
  View.readAt (Elt Ideal) a.view (Rect.unit (s := S1x2048x128) ![0, 512 * j.val, 0] S1x512x128.size
    (by intro a; have := j.isLt; fin_cases a <;> simp <;> omega)).toLoadRect (a.view.rep x)
def getO (a : Memref sig .tc .vmem S2048x128 .f32) (x : S2048x128.Idx → Elt Ideal .f32) (j : Fin 4) : Vec Ideal S512x128 .f32 :=
  View.readAt (Elt Ideal) a.view (rowsV j).toLoadRect (a.view.rep x)
def getL (a : Memref sig .tc .vmem S1x1x2048 .f32) (x : S1x1x2048.Idx → Elt Ideal .f32) (j : Fin 4) : Vec Ideal S1x1x512 .f32 :=
  View.readAt (Elt Ideal) a.view (Rect.unit (s := S1x1x2048) ![0, 0, 512 * j.val] S1x1x512.size
    (by intro a; have := j.isLt; fin_cases a <;> simp <;> omega)).toLoadRect (a.view.rep x)

/-- The offsets at which a path loads the rows' sums. -/
def offA : Fin 4 → Fin 2 → ℕ
  | 0 => k0_off2 i | 1 => k0_off4 i | 2 => k0_off5 i | 3 => k0_off6 i
def offB : Fin 4 → Fin 2 → ℕ
  | 0 => k0_off7 i | 1 => k0_off9 i | 2 => k0_off10 i | 3 => k0_off11 i
theorem offA_eq : ∀ (i : grid0.Coords) (j : Fin 4), offA i j = ![(i 0).val, 512 * j.val] := by decide +kernel
theorem offB_eq : ∀ (i : grid0.Coords) (j : Fin 4), offB i j = ![(i 0).val, 512 * j.val] := by decide +kernel

def getD (off : Fin 4 → Fin 2 → ℕ) (inb : ∀ j a, off j a + S1x512.size a ≤ S8x2048.size a) (a : Memref sig .tc .vmem S8x2048 .f32)
    (x : S8x2048.Idx → Elt Ideal .f32) (j : Fin 4) : Vec Ideal S1x512 .f32 :=
  View.readAt (Elt Ideal) a.view (Rect.unit (s := S8x2048) (off j) S1x512.size (inb j)).toLoadRect (a.view.rep x)

theorem offA_inb (j : Fin 4) (a : Fin 2) : offA i j a + S1x512.size a ≤ S8x2048.size a := by
  rw [offA_eq]; have := j.isLt; have : (i 0).val < 8 := (i 0).isLt; fin_cases a <;> simp <;> omega
theorem offB_inb (j : Fin 4) (a : Fin 2) : offB i j a + S1x512.size a ≤ S8x2048.size a := by
  rw [offB_eq]; have := j.isLt; have : (i 0).val < 8 := (i 0).isLt; fin_cases a <;> simp <;> omega

section A

variable (w : k0_chk1 (wordI i TI) (wordJ i TJ)) (e1 : AtStart i) (e2 : k0_cond2 (wordI i TI) (wordJ i TJ) = 1#1)
    (e3 : ¬(k0_cond3 (wordI i TI) (wordJ i TJ) = 1#1)) (e4 : ¬(k0_cond4 (wordI i TI) = 1#1)) (e5 : ¬(k0_cond5 i = 1#1))

theorem runA_v : (runA c i h4 h5 h6 h7 h8 h9 h10 h11 h12 TI TJ q k v o l d w e1 e2 e3 e4 e5).2.2.1
    = accV.view.writes (Elt Ideal) accV.view.junk (triV (get192 a4 q) (get192 a5 k) (getO a7 o) (getL a8 l)) := by sl_kernel_rfl

theorem runA_k : (runA c i h4 h5 h6 h7 h8 h9 h10 h11 h12 TI TJ q k v o l d w e1 e2 e3 e4 e5).2.1
    = accK.view.writes (Elt Ideal) accK.view.junk
        (triK (get192 a4 q) (get192 a5 k) (get128 a6 v) (getO a7 o) (getL a8 l) (getD (offA i) (offA_inb i) a9 d)) := by sl_kernel_rfl

theorem runA_q : (runA c i h4 h5 h6 h7 h8 h9 h10 h11 h12 TI TJ q k v o l d w e1 e2 e3 e4 e5).1
    = accQ.view.writes (Elt Ideal) accQ.view.junk
      (stepQ (get192 a4 q) (get192 a5 k) (get128 a6 v) (getO a7 o) (getL a8 l) (getD (offA i) (offA_inb i) a9 d)
        (c := c) accQ.view.junk true 3 3 (k0_off3 (wordI i TI) (BitVec.ofNat 32 (512 * (3 : Fin 4).val))) (k0_off3_inb (wordI i TI) (wordJ i TJ) w e2 3) (stepQ (get192 a4 q) (get192 a5 k) (get128 a6 v) (getO a7 o) (getL a8 l) (getD (offA i) (offA_inb i) a9 d)
        (c := c) accQ.view.junk true 2 2 (k0_off3 (wordI i TI) (BitVec.ofNat 32 (512 * (2 : Fin 4).val))) (k0_off3_inb (wordI i TI) (wordJ i TJ) w e2 2) (stepQ (get192 a4 q) (get192 a5 k) (get128 a6 v) (getO a7 o) (getL a8 l) (getD (offA i) (offA_inb i) a9 d)
        (c := c) accQ.view.junk true 1 1 (k0_off3 (wordI i TI) (BitVec.ofNat 32 (512 * (1 : Fin 4).val))) (k0_off3_inb (wordI i TI) (wordJ i TJ) w e2 1) (stepQ (get192 a4 q) (get192 a5 k) (get128 a6 v) (getO a7 o) (getL a8 l) (getD (offA i) (offA_inb i) a9 d)
        (c := c) accQ.view.junk true 0 0 (k0_off3 (wordI i TI) (BitVec.ofNat 32 (512 * (0 : Fin 4).val))) (k0_off3_inb (wordI i TI) (wordJ i TJ) w e2 0) [⟨Rect.unit ![0, 0] S4096x192.size inb_S4096x192_S4096x192_0_0, (k0_pay1 : FVec Ideal S4096x192 .f32)⟩])))) := by sl_kernel_rfl

end A

section B

variable (sq : HoldQ c) (sk : HoldK c) (sv : HoldV c)
    (w : k0_chk1 (wordI i TI) (wordJ i TJ)) (e1 : ¬ AtStart i) (e2 : ¬(k0_cond2 (wordI i TI) (wordJ i TJ) = 1#1))
    (e3 : k0_cond3 (wordI i TI) (wordJ i TJ) = 1#1) (e4 : k0_cond4 (wordI i TI) = 1#1) (e5 : ¬(k0_cond5 i = 1#1))

/-- All the tiles of a full block. -/
abbrev allV (q k : Fin 4 → Vec Ideal S1x512x192 .bf16) (o : Fin 4 → Vec Ideal S512x128 .f32) (l : Fin 4 → Vec Ideal S1x1x512 .f32) : List PieceV :=
  fullV q k o l 3 (fullV q k o l 2 (fullV q k o l 1 (firstV q k o l sv)))
abbrev allK (q k : Fin 4 → Vec Ideal S1x512x192 .bf16) (v : Fin 4 → Vec Ideal S1x512x128 .bf16) (o : Fin 4 → Vec Ideal S512x128 .f32)
    (l : Fin 4 → Vec Ideal S1x1x512 .f32) (d : Fin 4 → Vec Ideal S1x512 .f32) : List PieceK :=
  fullK q k v o l d 3 (fullK q k v o l d 2 (fullK q k v o l d 1 (firstK q k v o l d sk)))

theorem runB_v : (runB c i h4 h5 h6 h7 h8 h9 h10 h11 h12 TI TJ q k v o l d sq sk sv w e1 e2 e3 e4 e5).2.1
    = [⟨Rect.unit ![0, 0, 0] S1x2048x128.size inb_S1x2048x128_S1x2048x128_0_0_0, k0_pay6 (accV.view.readCov (allV c sv (get192 a4 q) (get192 a5 k) (getO a7 o) (getL a8 l)) (Rect.unit ![0, 0] S2048x128.size inb_S2048x128_S2048x128_0_0).toLoadRect)⟩] := by sl_kernel_rfl

theorem runB_k : (runB c i h4 h5 h6 h7 h8 h9 h10 h11 h12 TI TJ q k v o l d sq sk sv w e1 e2 e3 e4 e5).1
    = [⟨Rect.unit ![0, 0, 0] S1x2048x192.size inb_S1x2048x192_S1x2048x192_0_0_0, k0_pay5 (accK.view.readCov (allK c sk (get192 a4 q) (get192 a5 k) (get128 a6 v) (getO a7 o) (getL a8 l) (getD (offB i) (offB_inb i) a9 d)) (Rect.unit ![0, 0] S2048x192.size inb_S2048x192_S2048x192_0_0).toLoadRect)⟩] := by sl_kernel_rfl

theorem runB_q : (runB c i h4 h5 h6 h7 h8 h9 h10 h11 h12 TI TJ q k v o l d sq sk sv w e1 e2 e3 e4 e5).2.2.1
    = accQ.view.writes (Elt Ideal) sq
      (stepQ (get192 a4 q) (get192 a5 k) (get128 a6 v) (getO a7 o) (getL a8 l) (getD (offB i) (offB_inb i) a9 d)
        (c := c) sq false 3 3 (k0_off8 (wordI i TI) (BitVec.ofNat 32 (512 * (3 : Fin 4).val))) (k0_off8_inb (wordI i TI) (wordJ i TJ) w e3 3) (stepQ (get192 a4 q) (get192 a5 k) (get128 a6 v) (getO a7 o) (getL a8 l) (getD (offB i) (offB_inb i) a9 d)
        (c := c) sq false 2 3 (k0_off8 (wordI i TI) (BitVec.ofNat 32 (512 * (2 : Fin 4).val))) (k0_off8_inb (wordI i TI) (wordJ i TJ) w e3 2) (stepQ (get192 a4 q) (get192 a5 k) (get128 a6 v) (getO a7 o) (getL a8 l) (getD (offB i) (offB_inb i) a9 d)
        (c := c) sq false 1 3 (k0_off8 (wordI i TI) (BitVec.ofNat 32 (512 * (1 : Fin 4).val))) (k0_off8_inb (wordI i TI) (wordJ i TJ) w e3 1) (stepQ (get192 a4 q) (get192 a5 k) (get128 a6 v) (getO a7 o) (getL a8 l) (getD (offB i) (offB_inb i) a9 d)
        (c := c) sq false 0 3 (k0_off8 (wordI i TI) (BitVec.ofNat 32 (512 * (0 : Fin 4).val))) (k0_off8_inb (wordI i TI) (wordJ i TJ) w e3 0) [])))) := by sl_kernel_rfl

end B

section C

variable (sq : HoldQ c)
    (w : k0_chk1 (wordI i TI) (wordJ i TJ)) (e1 : ¬ AtStart i) (e2 : k0_cond2 (wordI i TI) (wordJ i TJ) = 1#1)
    (e3 : ¬(k0_cond3 (wordI i TI) (wordJ i TJ) = 1#1)) (e4 : k0_cond4 (wordI i TI) = 1#1) (e5 : k0_cond5 i = 1#1)

/-- The queries' accumulator after the last block. -/
abbrev lastQ : List PieceQ :=
      (stepQ (get192 a4 q) (get192 a5 k) (get128 a6 v) (getO a7 o) (getL a8 l) (getD (offA i) (offA_inb i) a9 d)
        (c := c) sq true 3 3 (k0_off3 (wordI i TI) (BitVec.ofNat 32 (512 * (3 : Fin 4).val))) (k0_off3_inb (wordI i TI) (wordJ i TJ) w e2 3) (stepQ (get192 a4 q) (get192 a5 k) (get128 a6 v) (getO a7 o) (getL a8 l) (getD (offA i) (offA_inb i) a9 d)
        (c := c) sq true 2 2 (k0_off3 (wordI i TI) (BitVec.ofNat 32 (512 * (2 : Fin 4).val))) (k0_off3_inb (wordI i TI) (wordJ i TJ) w e2 2) (stepQ (get192 a4 q) (get192 a5 k) (get128 a6 v) (getO a7 o) (getL a8 l) (getD (offA i) (offA_inb i) a9 d)
        (c := c) sq true 1 1 (k0_off3 (wordI i TI) (BitVec.ofNat 32 (512 * (1 : Fin 4).val))) (k0_off3_inb (wordI i TI) (wordJ i TJ) w e2 1) (stepQ (get192 a4 q) (get192 a5 k) (get128 a6 v) (getO a7 o) (getL a8 l) (getD (offA i) (offA_inb i) a9 d)
        (c := c) sq true 0 0 (k0_off3 (wordI i TI) (BitVec.ofNat 32 (512 * (0 : Fin 4).val))) (k0_off3_inb (wordI i TI) (wordJ i TJ) w e2 0) []))))

theorem runC_q : (runC c i h4 h5 h6 h7 h8 h9 h10 h11 h12 TI TJ q k v o l d sq w e1 e2 e3 e4 e5).1
    = [⟨Rect.unit ![0, 0, 0] S1x4096x192.size inb_S1x4096x192_S1x4096x192_0_0_0, k0_pay7 (View.readAt (Elt Ideal) accQ.view
      (Rect.unit ![0, 0] S4096x192.size inb_S4096x192_S4096x192_0_0).toLoadRect (accQ.view.writes (Elt Ideal) sq (lastQ c i (a4 := a4) (a5 := a5) (a6 := a6) (a7 := a7) (a8 := a8) (a9 := a9) TI TJ q k v o l d sq w e2)))⟩] := by sl_kernel_rfl

theorem runC_k : (runC c i h4 h5 h6 h7 h8 h9 h10 h11 h12 TI TJ q k v o l d sq w e1 e2 e3 e4 e5).2.1
    = [⟨Rect.unit ![0, 0, 0] S1x2048x192.size inb_S1x2048x192_S1x2048x192_0_0_0, k0_pay5 (accK.view.readCov (triK (get192 a4 q) (get192 a5 k) (get128 a6 v) (getO a7 o) (getL a8 l) (getD (offA i) (offA_inb i) a9 d)) (Rect.unit ![0, 0] S2048x192.size inb_S2048x192_S2048x192_0_0).toLoadRect)⟩] := by sl_kernel_rfl

theorem runC_v : (runC c i h4 h5 h6 h7 h8 h9 h10 h11 h12 TI TJ q k v o l d sq w e1 e2 e3 e4 e5).2.2.1
    = [⟨Rect.unit ![0, 0, 0] S1x2048x128.size inb_S1x2048x128_S1x2048x128_0_0_0, k0_pay6 (accV.view.readCov (triV (get192 a4 q) (get192 a5 k) (getO a7 o) (getL a8 l)) (Rect.unit ![0, 0] S2048x128.size inb_S2048x128_S2048x128_0_0).toLoadRect)⟩] := by sl_kernel_rfl

end C

end Paths

end Cert.AttnIdeal.Gen.Tile
-- ==== Proof.AttnIdealSums.lean ====
module

public import proofs.«01_k».proof.Proof.AttnIdealTiles
public import Idealize.ShloMosaic.Lib.WordCmp

/-! What the tiles leave, entry by entry. -/

@[expose] public section

set_option maxRecDepth 16384

noncomputable section

namespace Cert.AttnIdeal.Gen.Tile

open Cert.AttnIdeal Cert.AttnIdeal.Gen
open Idealize.ShloMosaic Idealize.ShloMosaic.TcCoe Idealize.ShloMosaic.Tactic

/-- The row of a block by its tile and its place there. -/
def row (j : Fin 4) (a : Fin 512) : Fin 2048 := ⟨512 * j.val + a.val, by have := j.isLt; have := a.isLt; omega⟩

/-- The kernel's three named constants. -/
abbrev scaleLog : EReal := (Named.named κ "scale_log2e" 0x3DD53B95#32 : Ideal .f32)
abbrev logE : EReal := (Named.named κ "log2e" 0x3FB8AA3B#32 : Ideal .f32)
abbrev scale : EReal := (Named.named κ "scale" 0x3D93CD3A#32 : Ideal .f32)

section

variable (q k : Fin 4 → Vec Ideal S1x512x192 .bf16) (v : Fin 4 → Vec Ideal S1x512x128 .bf16) (o : Fin 4 → Vec Ideal S512x128 .f32)
  (l : Fin 4 → Vec Ideal S1x1x512 .f32) (d : Fin 4 → Vec Ideal S1x512 .f32)

theorem weight_apply (q0 k0 : Fin 4) (a b : Fin 512) : weight q k l q0 k0 (ix2 a b)
    = Ideal.exp2 ((∑ x : Fin 192, k k0 (ix3 0 a x) * q q0 (ix3 0 b x)) * scaleLog - l q0 (ix3 0 0 b) * logE) := by
  unfold weight
  pointwise
  rfl

theorem cut_apply (j : Fin 4) (x : FVec Ideal S512x512 .f32) (a b : Fin 512) :
    cut j x (ix2 a b) = if a.val ≤ b.val then x (ix2 a b) else 0 := by
  have hj := j.isLt
  have ha := a.isLt
  have hb := b.isLt
  unfold cut
  pointwise
  simp only [IntOp.addi, ← BitVec.ofNat_add]
  simp (disch := word_cmp_side) only [hlo_ix]
  simp only [Fin.val_fin_le, add_le_add_iff_left]

/-- A tile's weights as a path uses them. -/
theorem cell_apply (tri : Bool) (q0 k0 : Fin 4) (a b : Fin 512) : cell q k l tri q0 k0 (ix2 a b)
    = if tri = true ∧ q0 = k0 ∧ b.val < a.val then 0 else weight q k l q0 k0 (ix2 a b) := by
  unfold cell
  by_cases h : q0 = k0
  · subst h
    cases tri
    · simp
    · simp only [beq_self_eq_true, Bool.and_self, cond_true, cut_apply, true_and, ← not_le]
      by_cases hab : a.val ≤ b.val <;> simp [hab]
  · have h' : (q0.val == k0.val) = false := by simpa [Fin.ext_iff] using h
    simp [h, h']

theorem addV_apply (tri : Bool) (q0 k0 : Fin 4) (x : Vec Ideal S512x128 .f32) (a : Fin 512) (e : Fin 128) :
    addV q k o l tri q0 k0 x (ix2 a e) = x (ix2 a e) + ∑ b : Fin 512, cell q k l tri q0 k0 (ix2 a b) * o q0 (ix2 b e) := by
  unfold addV
  pointwise

theorem grad_apply (tri : Bool) (q0 k0 : Fin 4) (a b : Fin 512) :
    grad q k v o l d tri q0 k0 (ix2 a b) = cell q k l tri q0 k0 (ix2 a b)
      * ((∑ x : Fin 128, v k0 (ix3 0 a x) * o q0 (ix2 b x)) - d q0 (ix2 0 b)) * scale := by
  unfold grad
  pointwise

theorem addK_apply (tri : Bool) (q0 k0 : Fin 4) (x : Vec Ideal S512x192 .f32) (a : Fin 512) (e : Fin 192) :
    addK q k v o l d tri q0 k0 x (ix2 a e)
      = x (ix2 a e) + ∑ b : Fin 512, grad q k v o l d tri q0 k0 (ix2 a b) * q q0 (ix3 0 b e) := by
  unfold addK
  pointwise

theorem partQ_apply (tri : Bool) (q0 k0 : Fin 4) (b : Fin 512) (e : Fin 192) :
    partQ q k v o l d tri q0 k0 (ix2 b e) = ∑ a : Fin 512, grad q k v o l d tri q0 k0 (ix2 a b) * k k0 (ix3 0 a e) := by
  unfold partQ
  pointwise

end

/-! ### Blocks of rows -/

theorem row_inj {j j' : Fin 4} {a a' : Fin 512} (h : row j a = row j' a') : j = j' ∧ a = a' := by
  have h' := congrArg Fin.val h
  simp only [row] at h'
  have := a.isLt; have := a'.isLt
  exact ⟨Fin.ext (by omega), Fin.ext (by omega)⟩

theorem rowsV_emb (j : Fin 4) (a : Fin 512) (e : Fin 128) : (rowsV j).emb (ix2 a e) = ix2 (row j a) e := by
  funext x; refine Fin.ext ?_
  change (rowsV j).off x + (rowsV j).stride x * _ = _
  fin_cases x <;> simp [row]

theorem rowsK_emb (j : Fin 4) (a : Fin 512) (e : Fin 192) : (rowsK j).emb (ix2 a e) = ix2 (row j a) e := by
  funext x; refine Fin.ext ?_
  change (rowsK j).off x + (rowsK j).stride x * _ = _
  fin_cases x <;> simp [row]

theorem rowsV_out {j j' : Fin 4} (h : j' ≠ j) (a : Fin 512) (e : Fin 128) : (ix2 (row j' a) e : S2048x128.Idx) ∉ (rowsV j).set := by
  intro hm
  have h0 := Rect.mem_set_unit.mp hm 0
  have := a.isLt
  simp [row] at h0
  exact h (Fin.ext (by omega))

theorem rowsK_out {j j' : Fin 4} (h : j' ≠ j) (a : Fin 512) (e : Fin 192) : (ix2 (row j' a) e : S2048x192.Idx) ∉ (rowsK j).set := by
  intro hm
  have h0 := Rect.mem_set_unit.mp hm 0
  have := a.isLt
  simp [row] at h0
  exact h (Fin.ext (by omega))

theorem canonV_cons (j j' : Fin 4) (w : Vec Ideal S512x128 .f32) (L : List PieceV) (a : Fin 512) (e : Fin 128) :
    View.canon (⟨rowsV j, w⟩ :: L) (ix2 (row j' a) e) = if j' = j then w (ix2 a e) else View.canon L (ix2 (row j' a) e) := by
  split
  · next h => subst h; rw [← rowsV_emb]; exact View.canon_cons_emb ..
  · next h => exact View.canon_cons_of_not_mem _ _ (rowsV_out h a e)

theorem canonK_cons (j j' : Fin 4) (w : Vec Ideal S512x192 .f32) (L : List PieceK) (a : Fin 512) (e : Fin 192) :
    View.canon (⟨rowsK j, w⟩ :: L) (ix2 (row j' a) e) = if j' = j then w (ix2 a e) else View.canon L (ix2 (row j' a) e) := by
  split
  · next h => subst h; rw [← rowsK_emb]; exact View.canon_cons_emb ..
  · next h => exact View.canon_cons_of_not_mem _ _ (rowsK_out h a e)

section

variable (q k : Fin 4 → Vec Ideal S1x512x192 .bf16) (v : Fin 4 → Vec Ideal S1x512x128 .bf16) (o : Fin 4 → Vec Ideal S512x128 .f32)
  (l : Fin 4 → Vec Ideal S1x1x512 .f32) (d : Fin 4 → Vec Ideal S1x512 .f32)

/-- A tile's share of one entry of the values', the keys' and the queries' gradient. -/
def shareV (tri : Bool) (q0 k0 : Fin 4) (a : Fin 512) (e : Fin 128) : EReal :=
  ∑ b : Fin 512, cell q k l tri q0 k0 (ix2 a b) * o q0 (ix2 b e)
def shareK (tri : Bool) (q0 k0 : Fin 4) (a : Fin 512) (e : Fin 192) : EReal :=
  ∑ b : Fin 512, grad q k v o l d tri q0 k0 (ix2 a b) * q q0 (ix3 0 b e)

theorem stepV_apply (tri : Bool) (q0 k0 : Fin 4) (L : List PieceV) (j : Fin 4) (a : Fin 512) (e : Fin 128) :
    View.canon (stepV q k o l tri q0 k0 L) (ix2 (row j a) e)
      = View.canon L (ix2 (row j a) e) + if j = k0 then shareV q k o l tri q0 k0 a e else 0 := by
  rw [stepV, canonV_cons]
  split
  · next h =>
    subst h
    rw [addV_apply, View.readCov_eq_canon', shareV]
    congr 1
    exact congrArg (View.canon L) (rowsV_emb j a e)
  · rw [add_zero]

theorem stepK_apply (tri : Bool) (q0 k0 : Fin 4) (L : List PieceK) (j : Fin 4) (a : Fin 512) (e : Fin 192) :
    View.canon (stepK q k v o l d tri q0 k0 L) (ix2 (row j a) e)
      = View.canon L (ix2 (row j a) e) + if j = k0 then shareK q k v o l d tri q0 k0 a e else 0 := by
  rw [stepK, canonK_cons]
  split
  · next h =>
    subst h
    rw [addK_apply, View.readCov_eq_canon', shareK]
    congr 1
    exact congrArg (View.canon L) (rowsK_emb j a e)
  · rw [add_zero]

theorem triV_apply (j : Fin 4) (a : Fin 512) (e : Fin 128) : View.canon (triV q k o l) (ix2 (row j a) e)
    = ∑ q0 : Fin 4, if j ≤ q0 then shareV q k o l true q0 j a e else 0 := by
  unfold triV
  simp only [stepV_apply]
  rw [View.canon_cons_unit_lit _ _ _ (by decide)]
  have hz : (k0_pay9 : FVec Ideal S2048x128 .f32) (ix2 (row j a) e) = 0 := by unfold k0_pay9; pointwise
  rw [hz, Fin.sum_univ_four]
  fin_cases j <;> simp <;> abel

theorem triK_apply (j : Fin 4) (a : Fin 512) (e : Fin 192) : View.canon (triK q k v o l d) (ix2 (row j a) e)
    = ∑ q0 : Fin 4, if j ≤ q0 then shareK q k v o l d true q0 j a e else 0 := by
  unfold triK
  simp only [stepK_apply]
  rw [View.canon_cons_unit_lit _ _ _ (by decide)]
  have hz : (k0_pay8 : FVec Ideal S2048x192 .f32) (ix2 (row j a) e) = 0 := by unfold k0_pay8; pointwise
  rw [hz, Fin.sum_univ_four]
  fin_cases j <;> simp <;> abel

theorem firstV_apply {c : Dev nD} (sv : HoldV c) (j : Fin 4) (a : Fin 512) (e : Fin 128) :
    View.canon (firstV q k o l sv) (ix2 (row j a) e)
      = accV.view.read (Elt Ideal) sv (ix2 (row j a) e) + shareV q k o l false 0 j a e := by
  have h (j : Fin 4) : View.readAt (Elt Ideal) accV.view (rowsV j).toLoadRect sv (ix2 a e)
      = accV.view.read (Elt Ideal) sv (ix2 (row j a) e) := congrArg (accV.view.read (Elt Ideal) sv) (rowsV_emb j a e)
  unfold firstV
  simp only [canonV_cons, addV_apply, h, shareV]
  fin_cases j <;> simp

theorem firstK_apply {c : Dev nD} (sk : HoldK c) (j : Fin 4) (a : Fin 512) (e : Fin 192) :
    View.canon (firstK q k v o l d sk) (ix2 (row j a) e)
      = accK.view.read (Elt Ideal) sk (ix2 (row j a) e) + shareK q k v o l d false 0 j a e := by
  have h (j : Fin 4) : View.readAt (Elt Ideal) accK.view (rowsK j).toLoadRect sk (ix2 a e)
      = accK.view.read (Elt Ideal) sk (ix2 (row j a) e) := congrArg (accK.view.read (Elt Ideal) sk) (rowsK_emb j a e)
  unfold firstK
  simp only [canonK_cons, addK_apply, h, shareK]
  fin_cases j <;> simp

theorem allV_apply {c : Dev nD} (sv : HoldV c) (j : Fin 4) (a : Fin 512) (e : Fin 128) :
    View.canon (allV c sv q k o l) (ix2 (row j a) e)
      = accV.view.read (Elt Ideal) sv (ix2 (row j a) e) + ∑ q0 : Fin 4, shareV q k o l false q0 j a e := by
  unfold allV fullV
  simp only [stepV_apply, firstV_apply]
  rw [Fin.sum_univ_four]
  fin_cases j <;> simp <;> abel

theorem allK_apply {c : Dev nD} (sk : HoldK c) (j : Fin 4) (a : Fin 512) (e : Fin 192) :
    View.canon (allK c sk q k v o l d) (ix2 (row j a) e)
      = accK.view.read (Elt Ideal) sk (ix2 (row j a) e) + ∑ q0 : Fin 4, shareK q k v o l d false q0 j a e := by
  unfold allK fullK
  simp only [stepK_apply, firstK_apply]
  rw [Fin.sum_univ_four]
  fin_cases j <;> simp <;> abel

/-! ### The queries' accumulator -/

/-- A row of the queries' accumulator by its half, its tile and its place there. -/
def rowQ (b : Fin 2) (j : Fin 4) (a : Fin 512) : Fin 4096 :=
  ⟨2048 * b.val + 512 * j.val + a.val, by have := b.isLt; have := j.isLt; have := a.isLt; omega⟩

def shareQ (tri : Bool) (q0 k0 : Fin 4) (b : Fin 512) (e : Fin 192) : EReal :=
  ∑ a : Fin 512, grad q k v o l d tri q0 k0 (ix2 a b) * k k0 (ix3 0 a e)

theorem sumQ_tri (q0 : Fin 4) (b : Fin 512) (e : Fin 192) : sumQ q k v o l d true q0 q0.val (ix2 b e)
    = ∑ k0 : Fin 4, if k0 ≤ q0 then shareQ q k v o l d true q0 k0 b e else 0 := by
  rw [Fin.sum_univ_four]
  have h (k0 : Fin 4) : shareQ q k v o l d true q0 k0 b e = partQ q k v o l d true q0 k0 (ix2 b e) := (partQ_apply ..).symm
  simp only [h]
  fin_cases q0 <;> simp [sumQ, addf_apply] <;> rfl

theorem sumQ_full (q0 : Fin 4) (b : Fin 512) (e : Fin 192) : sumQ q k v o l d false q0 3 (ix2 b e)
    = ∑ k0 : Fin 4, shareQ q k v o l d false q0 k0 b e := by
  rw [Fin.sum_univ_four]
  have h (k0 : Fin 4) : shareQ q k v o l d false q0 k0 b e = partQ q k v o l d false q0 k0 (ix2 b e) := (partQ_apply ..).symm
  simp only [h]
  rfl

theorem stepQ_apply {c : Dev nD} (f : HoldQ c) (tri : Bool) (q0 : Fin 4) (n : ℕ) (off : Fin 2 → ℕ)
    (inb : ∀ a, off a + S512x192.size a ≤ S4096x192.size a) (L : List PieceQ) (h : Fin 2)
    (hoff : off = ![2048 * h.val + 512 * q0.val, 0]) (h' : Fin 2) (j : Fin 4) (a : Fin 512) (e : Fin 192) :
    accQ.view.read (Elt Ideal) (accQ.view.writes (Elt Ideal) f (stepQ q k v o l d f tri q0 n off inb L)) (ix2 (rowQ h' j a) e)
      = accQ.view.read (Elt Ideal) (accQ.view.writes (Elt Ideal) f L) (ix2 (rowQ h' j a) e)
        + if h' = h ∧ j = q0 then sumQ q k v o l d tri q0 n (ix2 a e) else 0 := by
  subst hoff
  have hem : (Rect.unit (s := S4096x192) ![2048 * h.val + 512 * q0.val, 0] S512x192.size inb).emb (ix2 a e) = ix2 (rowQ h q0 a) e := by
    funext x; refine Fin.ext ?_
    change (Rect.unit (s := S4096x192) ![2048 * h.val + 512 * q0.val, 0] S512x192.size inb).off x + 1 * _ = _
    fin_cases x <;> simp [rowQ]
  unfold stepQ
  split
  · next hh =>
    obtain ⟨rfl, rfl⟩ := hh
    rw [← hem, View.read_writes_cons_emb]
    unfold addQ
    pointwise
    rfl
  · next hh =>
    rw [add_zero]
    refine View.read_writes_cons_miss _ _ _ _ _ fun hm => hh ?_
    replace hm : (ix2 (rowQ h' j a) e : S4096x192.Idx) ∈ (Rect.unit (s := S4096x192) ![2048 * h.val + 512 * q0.val, 0] S512x192.size inb).set := hm
    have h0 := Rect.mem_set_unit.mp hm (0 : Fin 2)
    have := a.isLt; have := j.isLt; have := q0.isLt
    simp [rowQ] at h0
    exact ⟨Fin.ext (by omega), Fin.ext (by omega)⟩

end

/-! ### Whole blocks -/

theorem exists_row (r : Fin 2048) : ∃ j a, r = row j a :=
  ⟨⟨r.val / 512, by have := r.isLt; omega⟩, ⟨r.val % 512, by omega⟩, Fin.ext (by simp [row]; omega)⟩

theorem sum_rows (f : Fin 2048 → EReal) : ∑ j : Fin 4, ∑ a : Fin 512, f (row j a) = ∑ r : Fin 2048, f r := by
  rw [← Fin.sum_mul_add_fin 4 512 f]
  refine Finset.sum_congr rfl fun j _ => Finset.sum_congr rfl fun a _ => congrArg f (Fin.ext ?_)
  simp [row, mul_comm]

section Blocks

variable {a4 a5 : Memref sig .tc .vmem S1x2048x192 .bf16} {a6 : Memref sig .tc .vmem S1x2048x128 .bf16}
  {a7 : Memref sig .tc .vmem S2048x128 .f32} {a8 : Memref sig .tc .vmem S1x1x2048 .f32} {a9 : Memref sig .tc .vmem S8x2048 .f32}
  (q k : S1x2048x192.Idx → EReal) (v : S1x2048x128.Idx → EReal) (o : S2048x128.Idx → EReal)
  (l : S1x1x2048.Idx → EReal) (d : S8x2048.Idx → EReal) (hd : Fin 8)

/-- The weight of a key's row for a query's, in a block. -/
def wgt (tri : Bool) (kk qq : Fin 2048) : EReal :=
  if tri = true ∧ qq < kk then 0
  else Ideal.exp2 ((∑ x : Fin 192, k (ix3 0 kk x) * q (ix3 0 qq x)) * scaleLog - l (ix3 0 0 qq) * logE)

/-- The gradient with respect to their score. -/
def gra (tri : Bool) (kk qq : Fin 2048) : EReal :=
  wgt q k l tri kk qq * ((∑ x : Fin 128, v (ix3 0 kk x) * o (ix2 qq x)) - d (ix2 hd qq)) * scale

theorem get192_apply (a : Memref sig .tc .vmem S1x2048x192 .bf16) (j : Fin 4) (b : Fin 512) (e : Fin 192) :
    get192 a q j (ix3 0 b e) = q (ix3 0 (row j b) e) := by
  unfold get192
  rw [View.readAt_rep]
  refine congrArg q (funext fun x => Fin.ext ?_)
  fin_cases x <;> simp [row]

theorem get128_apply (a : Memref sig .tc .vmem S1x2048x128 .bf16) (j : Fin 4) (b : Fin 512) (e : Fin 128) :
    get128 a v j (ix3 0 b e) = v (ix3 0 (row j b) e) := by
  unfold get128
  rw [View.readAt_rep]
  refine congrArg v (funext fun x => Fin.ext ?_)
  fin_cases x <;> simp [row]

theorem getO_apply (a : Memref sig .tc .vmem S2048x128 .f32) (j : Fin 4) (b : Fin 512) (e : Fin 128) :
    getO a o j (ix2 b e) = o (ix2 (row j b) e) := by
  unfold getO
  rw [View.readAt_rep]
  refine congrArg o (funext fun x => Fin.ext ?_)
  fin_cases x <;> simp [row]

theorem getL_apply (a : Memref sig .tc .vmem S1x1x2048 .f32) (j : Fin 4) (b : Fin 512) :
    getL a l j (ix3 0 0 b) = l (ix3 0 0 (row j b)) := by
  unfold getL
  rw [View.readAt_rep]
  refine congrArg l (funext fun x => Fin.ext ?_)
  fin_cases x <;> simp [row]

theorem getD_apply (off : Fin 4 → Fin 2 → ℕ) (inb : ∀ j a, off j a + S1x512.size a ≤ S8x2048.size a)
    (hoff : ∀ j, off j = ![hd.val, 512 * j.val]) (a : Memref sig .tc .vmem S8x2048 .f32) (j : Fin 4) (b : Fin 512) :
    getD off inb a d j (ix2 0 b) = d (ix2 hd (row j b)) := by
  unfold getD
  rw [View.readAt_rep]
  refine congrArg d (funext fun x => Fin.ext ?_)
  have h0 := congrFun (hoff j) 0
  have h1 := congrFun (hoff j) 1
  fin_cases x <;> simp_all [row]

variable (dd : Fin 4 → Vec Ideal S1x512 .f32) (hdd : ∀ j b, dd j (ix2 0 b) = d (ix2 hd (row j b)))

theorem cell_block (tri : Bool) (q0 k0 : Fin 4) (h : tri = false ∨ k0 ≤ q0) (a b : Fin 512) :
    cell (get192 a4 q) (get192 a5 k) (getL a8 l) tri q0 k0 (ix2 a b) = wgt q k l tri (row k0 a) (row q0 b) := by
  rw [cell_apply, weight_apply]
  simp only [get192_apply, getL_apply]
  unfold wgt
  refine if_congr (and_congr_right fun ht => ?_) rfl rfl
  have hk : k0 ≤ q0 := h.resolve_left (by simp [ht])
  have := a.isLt; have := b.isLt
  simp only [row, Fin.lt_def, Fin.le_def, Fin.ext_iff] at hk ⊢
  omega

theorem wgt_below (q0 k0 : Fin 4) (h : ¬ k0 ≤ q0) (a b : Fin 512) : wgt q k l true (row k0 a) (row q0 b) = 0 := by
  unfold wgt
  refine if_pos ⟨rfl, ?_⟩
  have := a.isLt; have := b.isLt
  simp only [row, Fin.lt_def, Fin.le_def] at h ⊢
  omega

include hdd in
theorem grad_block (tri : Bool) (q0 k0 : Fin 4) (h : tri = false ∨ k0 ≤ q0) (a b : Fin 512) :
    grad (get192 a4 q) (get192 a5 k) (get128 a6 v) (getO a7 o) (getL a8 l) dd tri q0 k0 (ix2 a b)
      = gra q k v o l d hd tri (row k0 a) (row q0 b) := by
  rw [grad_apply, cell_block q k l tri q0 k0 h]
  simp only [get128_apply, getO_apply, hdd]
  rfl

theorem triV_block (r : Fin 2048) (e : Fin 128) :
    View.canon (triV (get192 a4 q) (get192 a5 k) (getO a7 o) (getL a8 l)) (ix2 r e)
      = ∑ qq : Fin 2048, wgt q k l true r qq * o (ix2 qq e) := by
  obtain ⟨j, a, rfl⟩ := exists_row r
  rw [triV_apply, ← sum_rows]
  refine Finset.sum_congr rfl fun q0 _ => ?_
  split
  · next h => exact Finset.sum_congr rfl fun b _ => by rw [cell_block q k l true q0 j (.inr h), getO_apply]
  · next h => exact (Finset.sum_eq_zero fun b _ => by rw [wgt_below q k l q0 j h, zero_mul]).symm

theorem allV_block {c : Dev nD} (sv : HoldV c) (r : Fin 2048) (e : Fin 128) :
    View.canon (allV c sv (get192 a4 q) (get192 a5 k) (getO a7 o) (getL a8 l)) (ix2 r e)
      = accV.view.read (Elt Ideal) sv (ix2 r e) + ∑ qq : Fin 2048, wgt q k l false r qq * o (ix2 qq e) := by
  obtain ⟨j, a, rfl⟩ := exists_row r
  rw [allV_apply, ← sum_rows]
  refine congrArg _ (Finset.sum_congr rfl fun q0 _ => Finset.sum_congr rfl fun b _ => ?_)
  rw [cell_block q k l false q0 j (.inl rfl), getO_apply]

include hdd in
theorem triK_block (r : Fin 2048) (e : Fin 192) :
    View.canon (triK (get192 a4 q) (get192 a5 k) (get128 a6 v) (getO a7 o) (getL a8 l) dd) (ix2 r e)
      = ∑ qq : Fin 2048, gra q k v o l d hd true r qq * q (ix3 0 qq e) := by
  obtain ⟨j, a, rfl⟩ := exists_row r
  rw [triK_apply, ← sum_rows]
  refine Finset.sum_congr rfl fun q0 _ => ?_
  split
  · next h => exact Finset.sum_congr rfl fun b _ => by rw [grad_block q k v o l d hd dd hdd true q0 j (.inr h), get192_apply]
  · next h => exact (Finset.sum_eq_zero fun b _ => by rw [gra, wgt_below q k l q0 j h]; simp).symm

include hdd in
theorem allK_block {c : Dev nD} (sk : HoldK c) (r : Fin 2048) (e : Fin 192) :
    View.canon (allK c sk (get192 a4 q) (get192 a5 k) (get128 a6 v) (getO a7 o) (getL a8 l) dd) (ix2 r e)
      = accK.view.read (Elt Ideal) sk (ix2 r e) + ∑ qq : Fin 2048, gra q k v o l d hd false r qq * q (ix3 0 qq e) := by
  obtain ⟨j, a, rfl⟩ := exists_row r
  rw [allK_apply, ← sum_rows]
  refine congrArg _ (Finset.sum_congr rfl fun q0 _ => Finset.sum_congr rfl fun b _ => ?_)
  rw [grad_block q k v o l d hd dd hdd false q0 j (.inl rfl), get192_apply]

include hdd in
theorem sumQ_tri_block (q0 : Fin 4) (b : Fin 512) (e : Fin 192) :
    sumQ (get192 a4 q) (get192 a5 k) (get128 a6 v) (getO a7 o) (getL a8 l) dd true q0 q0.val (ix2 b e)
      = ∑ kk : Fin 2048, gra q k v o l d hd true kk (row q0 b) * k (ix3 0 kk e) := by
  rw [sumQ_tri, ← sum_rows]
  refine Finset.sum_congr rfl fun k0 _ => ?_
  split
  · next h => exact Finset.sum_congr rfl fun a _ => by rw [grad_block q k v o l d hd dd hdd true q0 k0 (.inr h), get192_apply]
  · next h => exact (Finset.sum_eq_zero fun a _ => by rw [gra, wgt_below q k l q0 k0 h]; simp).symm

include hdd in
theorem sumQ_full_block (q0 : Fin 4) (b : Fin 512) (e : Fin 192) :
    sumQ (get192 a4 q) (get192 a5 k) (get128 a6 v) (getO a7 o) (getL a8 l) dd false q0 3 (ix2 b e)
      = ∑ kk : Fin 2048, gra q k v o l d hd false kk (row q0 b) * k (ix3 0 kk e) := by
  rw [sumQ_full, ← sum_rows]
  refine Finset.sum_congr rfl fun k0 _ => Finset.sum_congr rfl fun a _ => ?_
  rw [grad_block q k v o l d hd dd hdd false q0 k0 (.inl rfl), get192_apply]

end Blocks

end Cert.AttnIdeal.Gen.Tile
-- ==== Proof.AttnIdealFacts.lean ====
module

public import proofs.«01_k».proof.Proof.AttnIdealRuns

/-! The schedule of the attention gradient's call at its two tables: eight heads of three steps each, the steps of a head
on the paths `runA`, `runB` and `runC` in turn. -/

@[expose] public section

set_option maxRecDepth 16384
set_option Elab.async false

noncomputable section

namespace Cert.AttnIdeal.Gen

open Cert.AttnIdeal
open Idealize.ShloMosaic Idealize.ShloMosaic.TcCoe Idealize.ShloMosaic.Tactic

/-- The row blocks and the column blocks of a head's three steps. -/
def rows : S3.Idx → BitVec 32 := fun x => ([0#32, 1#32, 1#32] : List (BitVec 32)).getD (x 0).val 0#32
def cols : S3.Idx → BitVec 32 := fun x => ([0#32, 0#32, 1#32] : List (BitVec 32)).getD (x 0).val 0#32

set_option backward.proofsInPublic true in
def tables : pre0.Contents (Elt Ideal) := fun | ⟨0, _⟩ => rows | ⟨1, _⟩ => cols | ⟨_ + 2, h⟩ => absurd h (by simp)

theorem inside0 : ∀ i : grid0.Coords, ∀ a, (cc0_transform_0 k0_off1_inb numel1_S1 tables i a + 1) * S1x2048x192.size a
    ≤ S8x4096x192.size a := by decide +kernel
theorem inside1 : ∀ i : grid0.Coords, ∀ a, (cc0_transform_1 k0_off1_inb numel1_S1 tables i a + 1) * S1x2048x192.size a
    ≤ S8x4096x192.size a := by decide +kernel
theorem inside2 : ∀ i : grid0.Coords, ∀ a, (cc0_transform_2 k0_off1_inb numel1_S1 tables i a + 1) * S1x2048x128.size a
    ≤ S8x4096x128.size a := by decide +kernel
theorem inside3 : ∀ i : grid0.Coords, ∀ a, (cc0_transform_3 k0_off1_inb numel1_S1 tables i a + 1) * S2048x128.size a
    ≤ S4096x1024.size a := by decide +kernel
theorem inside4 : ∀ i : grid0.Coords, ∀ a, (cc0_transform_4 k0_off1_inb numel1_S1 tables i a + 1) * S1x1x2048.size a
    ≤ S8x1x4096.size a := by decide +kernel
theorem inside5 : ∀ i : grid0.Coords, ∀ a, (cc0_transform_5 k0_off1_inb numel1_S1 tables i a + 1) * S8x2048.size a
    ≤ S8x4096.size a := by decide +kernel
theorem inside7 : ∀ i : grid0.Coords, ∀ a, (cc0_transform_7 k0_off1_inb numel1_S1 tables i a + 1) * S1x2048x192.size a
    ≤ S8x4096x192.size a := by decide +kernel
theorem inside8 : ∀ i : grid0.Coords, ∀ a, (cc0_transform_8 k0_off1_inb numel1_S1 tables i a + 1) * S1x2048x128.size a
    ≤ S8x4096x128.size a := by decide +kernel

theorem tables_ok : ok0 (F := Ideal) tables :=
  ⟨fun i => ⟨inside0 i, .inr (Affine.block_words_dvd (s := S8x4096x192) (p := EltTy.packing .bf16) (by decide) (by decide))⟩,
   fun i => ⟨inside1 i, .inr (Affine.block_words_dvd (s := S8x4096x192) (p := EltTy.packing .bf16) (by decide) (by decide))⟩,
   fun i => ⟨inside2 i, .inr (Affine.block_words_dvd (s := S8x4096x128) (p := EltTy.packing .bf16) (by decide) (by decide))⟩,
   fun i => ⟨inside3 i, .inl rfl⟩, fun i => ⟨inside4 i, .inl rfl⟩, fun i => ⟨inside5 i, .inl rfl⟩,
   fun i => ⟨inside7 i, .inr (Affine.block_words_dvd (s := S8x4096x192) (p := EltTy.packing .bf16) (by decide) (by decide))⟩,
   fun i => ⟨inside8 i, .inr (Affine.block_words_dvd (s := S8x4096x128) (p := EltTy.packing .bf16) (by decide) (by decide))⟩⟩

/-- The call at its tables. -/
def adm : (pcfg0 (F := Ideal)).Adm := ⟨tables, tables_ok⟩
abbrev cfgA : Pipeline.Cfg sig Λ₀ := cfg0 (F := Ideal) adm
abbrev pcs : Fin 1 → Pipeline.Cfg sig Λ₀ := Pipeline.pin (pcfgs (F := Ideal)) fun _ => adm
abbrev crd (t : Fin cfgA.N) : cfgA.grid.Coords := cfgA.grid.coords t

/-- Each window's current staging buffer at step `t`. -/
abbrev st0 (t : Fin cfgA.N) : Memref sig .tc .vmem S1x2048x192 .bf16 := spec0_0.stage (cfgA.slots t (0 : Fin 9))
abbrev st1 (t : Fin cfgA.N) : Memref sig .tc .vmem S1x2048x192 .bf16 := spec0_1.stage (cfgA.slots t (1 : Fin 9))
abbrev st2 (t : Fin cfgA.N) : Memref sig .tc .vmem S1x2048x128 .bf16 := spec0_2.stage (cfgA.slots t (2 : Fin 9))
abbrev st3 (t : Fin cfgA.N) : Memref sig .tc .vmem S2048x128 .f32 := spec0_3.stage (cfgA.slots t (3 : Fin 9))
abbrev st4 (t : Fin cfgA.N) : Memref sig .tc .vmem S1x1x2048 .f32 := spec0_4.stage (cfgA.slots t (4 : Fin 9))
abbrev st5 (t : Fin cfgA.N) : Memref sig .tc .vmem S8x2048 .f32 := spec0_5.stage (cfgA.slots t (5 : Fin 9))
abbrev st6 (t : Fin cfgA.N) : Memref sig .tc .vmem S1x4096x192 .bf16 := spec0_6.stage (cfgA.slots t (6 : Fin 9))
abbrev st7 (t : Fin cfgA.N) : Memref sig .tc .vmem S1x2048x192 .bf16 := spec0_7.stage (cfgA.slots t (7 : Fin 9))
abbrev st8 (t : Fin cfgA.N) : Memref sig .tc .vmem S1x2048x128 .bf16 := spec0_8.stage (cfgA.slots t (8 : Fin 9))
abbrev wh0 (t : Fin cfgA.N) : (st0 t).IsWhole := hstage0_0 ((cfgA.slots t (0 : Fin 9)).cast nbuf0_0)
abbrev wh1 (t : Fin cfgA.N) : (st1 t).IsWhole := hstage0_1 ((cfgA.slots t (1 : Fin 9)).cast nbuf0_1)
abbrev wh2 (t : Fin cfgA.N) : (st2 t).IsWhole := hstage0_2 ((cfgA.slots t (2 : Fin 9)).cast nbuf0_2)
abbrev wh3 (t : Fin cfgA.N) : (st3 t).IsWhole := hstage0_3 ((cfgA.slots t (3 : Fin 9)).cast nbuf0_3)
abbrev wh4 (t : Fin cfgA.N) : (st4 t).IsWhole := hstage0_4 ((cfgA.slots t (4 : Fin 9)).cast nbuf0_4)
abbrev wh5 (t : Fin cfgA.N) : (st5 t).IsWhole := hstage0_5 ((cfgA.slots t (5 : Fin 9)).cast nbuf0_5)
abbrev wh6 (t : Fin cfgA.N) : (st6 t).IsWhole := hstage0_6 ((cfgA.slots t (6 : Fin 9)).cast nbuf0_6)
abbrev wh7 (t : Fin cfgA.N) : (st7 t).IsWhole := hstage0_7 ((cfgA.slots t (7 : Fin 9)).cast nbuf0_7)
abbrev wh8 (t : Fin cfgA.N) : (st8 t).IsWhole := hstage0_8 ((cfgA.slots t (8 : Fin 9)).cast nbuf0_8)

/-- The two words in range, at every step. -/
theorem words_ok : ∀ t : Fin cfgA.N, k0_chk1 (wordI (crd t) rows) (wordJ (crd t) cols) := by decide +kernel

/-- The branches a head's first, second and third step take. -/
theorem pathA : ∀ t : Fin cfgA.N, t.val % 3 = 0 → AtStart (crd t) ∧ k0_cond2 (wordI (crd t) rows) (wordJ (crd t) cols) = 1#1
    ∧ ¬(k0_cond3 (wordI (crd t) rows) (wordJ (crd t) cols) = 1#1) ∧ ¬(k0_cond4 (wordI (crd t) rows) = 1#1)
    ∧ ¬(k0_cond5 (crd t) = 1#1) := by decide +kernel
theorem pathB : ∀ t : Fin cfgA.N, t.val % 3 = 1 → ¬AtStart (crd t)
    ∧ ¬(k0_cond2 (wordI (crd t) rows) (wordJ (crd t) cols) = 1#1)
    ∧ k0_cond3 (wordI (crd t) rows) (wordJ (crd t) cols) = 1#1 ∧ k0_cond4 (wordI (crd t) rows) = 1#1
    ∧ ¬(k0_cond5 (crd t) = 1#1) := by decide +kernel
theorem pathC : ∀ t : Fin cfgA.N, t.val % 3 = 2 → ¬AtStart (crd t) ∧ k0_cond2 (wordI (crd t) rows) (wordJ (crd t) cols) = 1#1
    ∧ ¬(k0_cond3 (wordI (crd t) rows) (wordJ (crd t) cols) = 1#1) ∧ k0_cond4 (wordI (crd t) rows) = 1#1
    ∧ k0_cond5 (crd t) = 1#1 := by decide +kernel

/-- Which outputs a step stores, and which it writes back. -/
theorem storesA : ∀ t : Fin cfgA.N, t.val % 3 = 0 →
    cfgA.idle (6 : Fin 9) (crd t) = true ∧ (cfgA.win (6 : Fin 9)).flush t = false
    ∧ cfgA.idle (7 : Fin 9) (crd t) = true ∧ (cfgA.win (7 : Fin 9)).flush t = false
    ∧ cfgA.idle (8 : Fin 9) (crd t) = true ∧ (cfgA.win (8 : Fin 9)).flush t = false := by decide +kernel
theorem storesB : ∀ t : Fin cfgA.N, t.val % 3 = 1 →
    cfgA.idle (6 : Fin 9) (crd t) = true ∧ (cfgA.win (6 : Fin 9)).flush t = false
    ∧ cfgA.idle (7 : Fin 9) (crd t) = false ∧ (cfgA.win (7 : Fin 9)).flush t = true
    ∧ cfgA.idle (8 : Fin 9) (crd t) = false ∧ (cfgA.win (8 : Fin 9)).flush t = true := by decide +kernel
theorem storesC : ∀ t : Fin cfgA.N, t.val % 3 = 2 →
    cfgA.idle (6 : Fin 9) (crd t) = false ∧ (cfgA.win (6 : Fin 9)).flush t = true
    ∧ cfgA.idle (7 : Fin 9) (crd t) = false ∧ (cfgA.win (7 : Fin 9)).flush t = true
    ∧ cfgA.idle (8 : Fin 9) (crd t) = false ∧ (cfgA.win (8 : Fin 9)).flush t = true := by decide +kernel

/-- An output that a step stores is written back by that step. -/
theorem stored_or_idle : ∀ t : Fin cfgA.N, ∀ w : Fin 9, 6 ≤ w.val →
    ((cfgA.win w).flush t || cfgA.idle w (crd t)) = true := by
  intro t w hw
  have h3 : t.val % 3 < 3 := Nat.mod_lt _ (by decide)
  have hs : w = 6 ∨ w = 7 ∨ w = 8 := by omega
  rcases (by omega : t.val % 3 = 0 ∨ t.val % 3 = 1 ∨ t.val % 3 = 2) with h | h | h
  · obtain ⟨a, -, b, -, d, -⟩ := storesA t h
    rcases hs with rfl | rfl | rfl
    · exact Bool.or_eq_true_iff.mpr (.inr a)
    · exact Bool.or_eq_true_iff.mpr (.inr b)
    · exact Bool.or_eq_true_iff.mpr (.inr d)
  · obtain ⟨a, -, -, b, -, d⟩ := storesB t h
    rcases hs with rfl | rfl | rfl
    · exact Bool.or_eq_true_iff.mpr (.inr a)
    · exact Bool.or_eq_true_iff.mpr (.inl b)
    · exact Bool.or_eq_true_iff.mpr (.inl d)
  · obtain ⟨-, a, -, b, -, d⟩ := storesC t h
    rcases hs with rfl | rfl | rfl
    · exact Bool.or_eq_true_iff.mpr (.inl a)
    · exact Bool.or_eq_true_iff.mpr (.inl b)
    · exact Bool.or_eq_true_iff.mpr (.inl d)

theorem fresh_all (w : Fin 9) (hw : 6 ≤ w.val) : ∀ n, n ≤ cfgA.N → cfgA.fresh w n = true
  | 0, _ => Pipeline.Cfg.fresh_zero _ _
  | n + 1, h => by
    rw [Pipeline.Cfg.fresh_succ cfgA w n h, fresh_all w hw n (Nat.le_of_succ_le h), Bool.and_true]
    exact stored_or_idle ⟨n, h⟩ w hw

end Cert.AttnIdeal.Gen

end
-- ==== Proof.AttnIdealFrame.lean ====
module

public import proofs.«01_k».proof.Proof.AttnIdealFacts

/-! The attention gradient's call from launch to end: what its buffers hold after each step, and the run of the whole
program from any memory. -/

@[expose] public section

set_option maxRecDepth 16384
set_option Elab.async false

noncomputable section

namespace Cert.AttnIdeal.Gen

open Cert.AttnIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- What the buffers hold once the host lines before the call have run. -/
def V (c : Dev nD) (b : Ref sig .tc) : Buf (Elt Ideal) ((c : Thread nD τ).loc b) := StableHlo.after hostOps0 (fun b => m (c, b)) b

/-- Window `w`'s block at step `t`. -/
def iblk (c : Dev nD) (w : Fin cfgA.W) (t : Fin cfgA.N) : ((cfgA.win w).xblock (crd t)).Idx → Elt Ideal (cfgA.win w).elt :=
  ((cfgA.win w).blk t).view.read (Elt Ideal) (V m c (Pipeline.arrRef cfgA.spec w))

/-- The three accumulators' contents. -/
structure Acc (c : Dev nD) where
  q : HoldQ c
  k : HoldK c
  v : HoldV c

/-- The body's run at a head's first, second and third step. -/
abbrev atA (c : Dev nD) (t : Fin cfgA.N) (h : t.val % 3 = 0) :=
  runA c (crd t) (wh0 t) (wh1 t) (wh2 t) (wh3 t) (wh4 t) (wh5 t) (wh6 t) (wh7 t) (wh8 t) rows cols (iblk m c (0 : Fin 9) t)
    (iblk m c (1 : Fin 9) t) (iblk m c (2 : Fin 9) t) (iblk m c (3 : Fin 9) t) (iblk m c (4 : Fin 9) t) (iblk m c (5 : Fin 9) t)
    (words_ok t) (pathA t h).1 (pathA t h).2.1 (pathA t h).2.2.1 (pathA t h).2.2.2.1 (pathA t h).2.2.2.2
abbrev atB (c : Dev nD) (t : Fin cfgA.N) (h : t.val % 3 = 1) (p : Acc c) :=
  runB c (crd t) (wh0 t) (wh1 t) (wh2 t) (wh3 t) (wh4 t) (wh5 t) (wh6 t) (wh7 t) (wh8 t) rows cols (iblk m c (0 : Fin 9) t)
    (iblk m c (1 : Fin 9) t) (iblk m c (2 : Fin 9) t) (iblk m c (3 : Fin 9) t) (iblk m c (4 : Fin 9) t) (iblk m c (5 : Fin 9) t)
    p.q p.k p.v (words_ok t) (pathB t h).1 (pathB t h).2.1 (pathB t h).2.2.1 (pathB t h).2.2.2.1 (pathB t h).2.2.2.2
abbrev atC (c : Dev nD) (t : Fin cfgA.N) (h : t.val % 3 = 2) (p : Acc c) :=
  runC c (crd t) (wh0 t) (wh1 t) (wh2 t) (wh3 t) (wh4 t) (wh5 t) (wh6 t) (wh7 t) (wh8 t) rows cols (iblk m c (0 : Fin 9) t)
    (iblk m c (1 : Fin 9) t) (iblk m c (2 : Fin 9) t) (iblk m c (3 : Fin 9) t) (iblk m c (4 : Fin 9) t) (iblk m c (5 : Fin 9) t)
    p.q (words_ok t) (pathC t h).1 (pathC t h).2.1 (pathC t h).2.2.1 (pathC t h).2.2.2.1 (pathC t h).2.2.2.2

/-- The accumulators after step `t`, from those before it. -/
def accStep (c : Dev nD) (t : Fin cfgA.N) (p : Acc c) : Acc c :=
  if h : t.val % 3 = 0 then ⟨(atA m c t h).1, (atA m c t h).2.1, (atA m c t h).2.2.1⟩
  else if h : t.val % 3 = 1 then ⟨(atB m c t h p).2.2.1, (atB m c t h p).2.2.2.1, (atB m c t h p).2.2.2.2.1⟩
  else if h : t.val % 3 = 2 then ⟨(atC m c t h p).2.2.2.1, (atC m c t h p).2.2.2.2.1, (atC m c t h p).2.2.2.2.2.1⟩
  else p

/-- The accumulators before step `n`. -/
def acc (c : Dev nD) : ℕ → Acc c
  | 0 => ⟨accQ.view.junk, accK.view.junk, accV.view.junk⟩
  | n + 1 => if h : n < cfgA.N then accStep m c ⟨n, h⟩ (acc c n) else acc c n

theorem acc_succ (c : Dev nD) (t : Fin cfgA.N) : acc m c (t.val + 1) = accStep m c t (acc m c t.val) := dif_pos t.isLt

theorem accStep_A (c : Dev nD) (t : Fin cfgA.N) (p : Acc c) (h : t.val % 3 = 0) :
    accStep m c t p = ⟨(atA m c t h).1, (atA m c t h).2.1, (atA m c t h).2.2.1⟩ := dif_pos h
theorem accStep_B (c : Dev nD) (t : Fin cfgA.N) (p : Acc c) (h : t.val % 3 = 1) :
    accStep m c t p = ⟨(atB m c t h p).2.2.1, (atB m c t h p).2.2.2.1, (atB m c t h p).2.2.2.2.1⟩ :=
  (dif_neg (by omega)).trans (dif_pos h)
theorem accStep_C (c : Dev nD) (t : Fin cfgA.N) (p : Acc c) (h : t.val % 3 = 2) :
    accStep m c t p = ⟨(atC m c t h p).2.2.2.1, (atC m c t h p).2.2.2.2.1, (atC m c t h p).2.2.2.2.2.1⟩ :=
  (dif_neg (by omega)).trans ((dif_neg (by omega)).trans (dif_pos h))

/-- The three outputs' blocks after step `t`. -/
def out6 (c : Dev nD) (t : Fin cfgA.N) : S1x4096x192.Idx → Elt Ideal .bf16 :=
  if h : t.val % 3 = 2 then View.canon (atC m c t h (acc m c t.val)).1 else View.canon []
def out7 (c : Dev nD) (t : Fin cfgA.N) : S1x2048x192.Idx → Elt Ideal .bf16 :=
  if h : t.val % 3 = 1 then View.canon (atB m c t h (acc m c t.val)).1
  else if h : t.val % 3 = 2 then View.canon (atC m c t h (acc m c t.val)).2.1 else View.canon []
def out8 (c : Dev nD) (t : Fin cfgA.N) : S1x2048x128.Idx → Elt Ideal .bf16 :=
  if h : t.val % 3 = 1 then View.canon (atB m c t h (acc m c t.val)).2.1
  else if h : t.val % 3 = 2 then View.canon (atC m c t h (acc m c t.val)).2.2.1 else View.canon []

theorem out6_C (c : Dev nD) (t : Fin cfgA.N) (h : t.val % 3 = 2) : out6 m c t = View.canon (atC m c t h (acc m c t.val)).1 :=
  dif_pos h
theorem out7_B (c : Dev nD) (t : Fin cfgA.N) (h : t.val % 3 = 1) : out7 m c t = View.canon (atB m c t h (acc m c t.val)).1 :=
  dif_pos h
theorem out7_C (c : Dev nD) (t : Fin cfgA.N) (h : t.val % 3 = 2) : out7 m c t = View.canon (atC m c t h (acc m c t.val)).2.1 :=
  (dif_neg (by omega)).trans (dif_pos h)
theorem out8_B (c : Dev nD) (t : Fin cfgA.N) (h : t.val % 3 = 1) : out8 m c t = View.canon (atB m c t h (acc m c t.val)).2.1 :=
  dif_pos h
theorem out8_C (c : Dev nD) (t : Fin cfgA.N) (h : t.val % 3 = 2) : out8 m c t = View.canon (atC m c t h (acc m c t.val)).2.2.1 :=
  (dif_neg (by omega)).trans (dif_pos h)

/-- An output's stores fill its block. -/
theorem coverB7 (c : Dev nD) (t : Fin cfgA.N) (h : t.val % 3 = 1) (p : Acc c) (y : S1x2048x192.Idx) :
    ∃ s ∈ (atB m c t h p).1, y ∈ s.1.set := View.cover_of_tiledL _ S1x2048x192.size (by sl_kernel_rfl) y
theorem coverB8 (c : Dev nD) (t : Fin cfgA.N) (h : t.val % 3 = 1) (p : Acc c) (y : S1x2048x128.Idx) :
    ∃ s ∈ (atB m c t h p).2.1, y ∈ s.1.set := View.cover_of_tiledL _ S1x2048x128.size (by sl_kernel_rfl) y
theorem coverC6 (c : Dev nD) (t : Fin cfgA.N) (h : t.val % 3 = 2) (p : Acc c) (y : S1x4096x192.Idx) :
    ∃ s ∈ (atC m c t h p).1, y ∈ s.1.set := View.cover_of_tiledL _ S1x4096x192.size (by sl_kernel_rfl) y
theorem coverC7 (c : Dev nD) (t : Fin cfgA.N) (h : t.val % 3 = 2) (p : Acc c) (y : S1x2048x192.Idx) :
    ∃ s ∈ (atC m c t h p).2.1, y ∈ s.1.set := View.cover_of_tiledL _ S1x2048x192.size (by sl_kernel_rfl) y
theorem coverC8 (c : Dev nD) (t : Fin cfgA.N) (h : t.val % 3 = 2) (p : Acc c) (y : S1x2048x128.Idx) :
    ∃ s ∈ (atC m c t h p).2.2.1, y ∈ s.1.set := View.cover_of_tiledL _ S1x2048x128.size (by sl_kernel_rfl) y

/-- Held before step `n`: the accumulators, at their contents once a step has run, the tables and the random state. -/
def Phi (c : Dev nD) (n : ℕ) : sProp Res :=
  iprop((∃ a, ⌜n ≠ 0 → a = (acc m c n).q⌝ ∗ (accQ.view.loc (c : Thread nD τ) ↦{fullShare} a))
    ∗ (∃ a, ⌜n ≠ 0 → a = (acc m c n).k⌝ ∗ (accK.view.loc (c : Thread nD τ) ↦{fullShare} a))
    ∗ (∃ a, ⌜n ≠ 0 → a = (acc m c n).v⌝ ∗ (accV.view.loc (c : Thread nD τ) ↦{fullShare} a))
    ∗ (tabI.view.loc (c : Thread nD τ) ↦{fullShare.right} rows) ∗ (tabJ.view.loc (c : Thread nD τ) ↦{fullShare.right} cols)
    ∗ ∃ r, prngReg c r)

/-- The data of the call's steps. -/
def dats (_ : Fin 1) (c : Dev nD) : Dat τ (Elt Ideal) Unit ℕ (UR sig nD τ) ℕ cfgA c where
  A w := V m c (Pipeline.arrRef cfgA.spec w)
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => iblk m c (4 : Fin 9) t
    | ⟨5, _⟩ => iblk m c (5 : Fin 9) t
    | ⟨6, _⟩ => out6 m c t
    | ⟨7, _⟩ => out7 m c t
    | ⟨8, _⟩ => out8 m c t
  Φ t := Phi m c t.val
  q _ := fullShare
  owed _ := 0

theorem after6 (c : Dev nD) (t : Fin cfgA.N) : (dats m 0 c).after (6 : Fin 9) t = out6 m c t := rfl
theorem after7 (c : Dev nD) (t : Fin cfgA.N) : (dats m 0 c).after (7 : Fin 9) t = out7 m c t := rfl
theorem after8 (c : Dev nD) (t : Fin cfgA.N) : (dats m 0 c).after (8 : Fin 9) t = out8 m c t := rfl
theorem after0 (c : Dev nD) (t : Fin cfgA.N) : (dats m 0 c).after (0 : Fin 9) t = iblk m c (0 : Fin 9) t := rfl
theorem after1 (c : Dev nD) (t : Fin cfgA.N) : (dats m 0 c).after (1 : Fin 9) t = iblk m c (1 : Fin 9) t := rfl
theorem after2 (c : Dev nD) (t : Fin cfgA.N) : (dats m 0 c).after (2 : Fin 9) t = iblk m c (2 : Fin 9) t := rfl
theorem after3 (c : Dev nD) (t : Fin cfgA.N) : (dats m 0 c).after (3 : Fin 9) t = iblk m c (3 : Fin 9) t := rfl
theorem after4 (c : Dev nD) (t : Fin cfgA.N) : (dats m 0 c).after (4 : Fin 9) t = iblk m c (4 : Fin 9) t := rfl
theorem after5 (c : Dev nD) (t : Fin cfgA.N) : (dats m 0 c).after (5 : Fin 9) t = iblk m c (5 : Fin 9) t := rfl

/-- Before a step an input's buffer holds its block. -/
theorem before0 (c : Dev nD) (t : Fin cfgA.N) (d) : (dats m 0 c).before (0 : Fin 9) t d = iblk m c (0 : Fin 9) t :=
  ((dats m 0 c).before_in_eq_fetched (0 : Fin 9) rfl (fun _ => rfl) (fun _ _ _ => rfl)
    (fun t => by rw [after0]; unfold Dat.blockOf iblk; rfl) t d).trans (by unfold Dat.fetched Dat.blockOf iblk; rfl)
theorem before1 (c : Dev nD) (t : Fin cfgA.N) (d) : (dats m 0 c).before (1 : Fin 9) t d = iblk m c (1 : Fin 9) t :=
  ((dats m 0 c).before_in_eq_fetched (1 : Fin 9) rfl (fun _ => rfl) (fun _ _ _ => rfl)
    (fun t => by rw [after1]; unfold Dat.blockOf iblk; rfl) t d).trans (by unfold Dat.fetched Dat.blockOf iblk; rfl)
theorem before2 (c : Dev nD) (t : Fin cfgA.N) (d) : (dats m 0 c).before (2 : Fin 9) t d = iblk m c (2 : Fin 9) t :=
  ((dats m 0 c).before_in_eq_fetched (2 : Fin 9) rfl (fun _ => rfl) (fun _ _ _ => rfl)
    (fun t => by rw [after2]; unfold Dat.blockOf iblk; rfl) t d).trans (by unfold Dat.fetched Dat.blockOf iblk; rfl)
theorem before3 (c : Dev nD) (t : Fin cfgA.N) (d) : (dats m 0 c).before (3 : Fin 9) t d = iblk m c (3 : Fin 9) t :=
  ((dats m 0 c).before_in_eq_fetched (3 : Fin 9) rfl (fun _ => rfl) (fun _ _ _ => rfl)
    (fun t => by rw [after3]; unfold Dat.blockOf iblk; rfl) t d).trans (by unfold Dat.fetched Dat.blockOf iblk; rfl)
theorem before4 (c : Dev nD) (t : Fin cfgA.N) (d) : (dats m 0 c).before (4 : Fin 9) t d = iblk m c (4 : Fin 9) t :=
  ((dats m 0 c).before_in_eq_fetched (4 : Fin 9) rfl (fun _ => rfl) (fun _ _ _ => rfl)
    (fun t => by rw [after4]; unfold Dat.blockOf iblk; rfl) t d).trans (by unfold Dat.fetched Dat.blockOf iblk; rfl)
theorem before5 (c : Dev nD) (t : Fin cfgA.N) (d) : (dats m 0 c).before (5 : Fin 9) t d = iblk m c (5 : Fin 9) t :=
  ((dats m 0 c).before_in_eq_fetched (5 : Fin 9) rfl (fun _ => rfl) (fun _ _ _ => rfl)
    (fun t => by rw [after5]; unfold Dat.blockOf iblk; rfl) t d).trans (by unfold Dat.fetched Dat.blockOf iblk; rfl)

/-- Before a step an output's buffer may hold anything. -/
theorem before_out (c : Dev nD) (w : Fin 9) (hw : 6 ≤ w.val) (ho : (cfgA.win w).isOut = true)
    (hc : ∀ (i : cfgA.grid.Coords) a, (cfgA.win w).clip i a = none) (t : Fin cfgA.N) (d) : (dats m 0 c).before w t d = d := by
  rw [(dats m 0 c).before_out_traj w ho hc (fun t _ _ hf => by
    rw [fresh_all w hw t.val t.isLt.le] at hf; cases hf) t.val t rfl d, if_pos (fresh_all w hw t.val t.isLt.le)]
theorem before6 (c : Dev nD) (t : Fin cfgA.N) (d) : (dats m 0 c).before (6 : Fin 9) t d = d :=
  before_out m c 6 (by decide) rfl (fun _ _ => rfl) t d
theorem before7 (c : Dev nD) (t : Fin cfgA.N) (d) : (dats m 0 c).before (7 : Fin 9) t d = d :=
  before_out m c 7 (by decide) rfl (fun _ _ => rfl) t d
theorem before8 (c : Dev nD) (t : Fin cfgA.N) (d) : (dats m 0 c).before (8 : Fin 9) t d = d :=
  before_out m c 8 (by decide) rfl (fun _ _ => rfl) t d

/-- Held before a step: what is carried and each window's buffer. -/
abbrev stepPre (c : Dev nD) (t : Fin cfgA.N) : sProp Res :=
  iprop((dats m 0 c).Φ t.castSucc ∗ (dats m 0 c).owesAt () t.castSucc
    ∗ (∃ d, owns (c : Thread nD τ) (st0 t) fullShare ((dats m 0 c).before (0 : Fin 9) t d))
    ∗ (∃ d, owns (c : Thread nD τ) (st1 t) fullShare ((dats m 0 c).before (1 : Fin 9) t d))
    ∗ (∃ d, owns (c : Thread nD τ) (st2 t) fullShare ((dats m 0 c).before (2 : Fin 9) t d))
    ∗ (∃ d, owns (c : Thread nD τ) (st3 t) fullShare ((dats m 0 c).before (3 : Fin 9) t d))
    ∗ (∃ d, owns (c : Thread nD τ) (st4 t) fullShare ((dats m 0 c).before (4 : Fin 9) t d))
    ∗ (∃ d, owns (c : Thread nD τ) (st5 t) fullShare ((dats m 0 c).before (5 : Fin 9) t d))
    ∗ (∃ d, owns (c : Thread nD τ) (st6 t) fullShare ((dats m 0 c).before (6 : Fin 9) t d))
    ∗ (∃ d, owns (c : Thread nD τ) (st7 t) fullShare ((dats m 0 c).before (7 : Fin 9) t d))
    ∗ (∃ d, owns (c : Thread nD τ) (st8 t) fullShare ((dats m 0 c).before (8 : Fin 9) t d)))

/-- Held after it. -/
abbrev stepPost (c : Dev nD) (t : Fin cfgA.N) : sProp Res :=
  iprop((dats m 0 c).Φ t.succ ∗ (dats m 0 c).owesAt () t.succ
    ∗ bigSep Finset.univ fun w : Fin cfgA.W =>
        match cfgA.idle w (cfgA.grid.coords t) with
        | true =>
          match (cfgA.win w).flush t with
          | false => iprop(∃ d, owns (c : Thread nD τ) ((cfgA.win w).stage (cfgA.slots t w)) fullShare ((dats m 0 c).before w t d))
          | true => owns (c : Thread nD τ) ((cfgA.win w).stage (cfgA.slots t w)) fullShare ((dats m 0 c).after w t)
        | false => owns (c : Thread nD τ) ((cfgA.win w).stage (cfgA.slots t w)) fullShare ((dats m 0 c).after w t))

/-- A buffer that its stores fill holds what they leave. -/
theorem held_canon (c : Dev nD) {sh : Shape} (a : Memref sig .tc .vmem sh .bf16)
    {L : List (View.Piece (Elt Ideal) sh .bf16)} (hL : ∀ y, ∃ p ∈ L, y ∈ p.1.set) {g} :
    (iprop(a.view.loc (c : Thread nD τ) ↦[a.view.set]{fullShare} a.view.writes (Elt Ideal) g L) : sProp Res)
      ⊢ owns (c : Thread nD τ) a fullShare (View.canon L) := by
  unfold owns
  iintro H
  iexists _; isplitr; swap
  · iexact H
  · ipureintro; exact View.read_writes_eq_canon _ _ _ hL

set_option maxHeartbeats 4800000 in
theorem soundA (c : Dev nD) (t : Fin cfgA.N) (h : t.val % 3 = 0) :
    stepPre m c t ⊢ wp frame (wpE (defs₀ (F := Ideal)) Variants.none c none) Set.univ
      (body (crd t) (wh0 t) (wh1 t) (wh2 t) (wh3 t) (wh4 t) (wh5 t) (wh6 t) (wh7 t) (wh8 t)) fun _ => stepPost m c t := by
  unfold stepPre stepPost
  rw [bigSep_W0]
  obtain ⟨i6, f6, i7, f7, i8, f8⟩ := storesA t h
  rewrite [i6, i7]
  simp only [before0, before1, before2, before3, before4, before5, before6, before7, before8, after0, after1, after2, after3,
    after4, after5, f6, f7, f8]
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  rw [acc_succ, accStep_A m c t _ h]
  simp only [exists_held (Nat.succ_ne_zero t.val)]
  iintro ⟨⟨⟨%s0, -, HS0⟩, ⟨%s1, -, HS1⟩, ⟨%s2, -, HS2⟩, HT0, HT1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atA m c t h).2.2.2 s0 s1 s2 d6 d7 d8)
  unfold heldIn heldAcc
  isplitl [H0 H1 H2 H3 H4 H5 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    iexact HT1
  isplitl [H6]; · iexact H6
  isplitl [H7]; · iexact H7
  isplitl [H8]; · iexact H8
  isplitl [HS0 HS1 HS2]
  · isplitl [HS0]; · iexact HS0
    isplitl [HS1]; · iexact HS1
    iexact HS2
  iintro ⟨⟨H0, H1, H2, H3, H4, H5, HT0, HT1⟩, H6, H7, H8, HS0, HS1, HS2⟩
  isplitl [HS0 HS1 HS2 HT0 HT1 Hr]
  · isplitl [HS0]; · iexact HS0
    isplitl [HS1]; · iexact HS1
    isplitl [HS2]; · iexact HS2
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iexists d6; iexact H6
  isplitl [H7]; · iexists d7; iexact H7
  iexists d8; iexact H8

set_option maxHeartbeats 4800000 in
theorem soundB (c : Dev nD) (t : Fin cfgA.N) (h : t.val % 3 = 1) :
    stepPre m c t ⊢ wp frame (wpE (defs₀ (F := Ideal)) Variants.none c none) Set.univ
      (body (crd t) (wh0 t) (wh1 t) (wh2 t) (wh3 t) (wh4 t) (wh5 t) (wh6 t) (wh7 t) (wh8 t)) fun _ => stepPost m c t := by
  unfold stepPre stepPost
  rw [bigSep_W0]
  obtain ⟨i6, f6, i7, f7, i8, f8⟩ := storesB t h
  have ht : t.val ≠ 0 := fun h0 => by rw [h0] at h; cases h
  rewrite [i6, i7]
  simp only [before0, before1, before2, before3, before4, before5, before6, before7, before8, after0, after1, after2, after3,
    after4, after5, after6, after7, after8, f6, f7, f8]
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  rw [acc_succ, accStep_B m c t _ h, out7_B m c t h, out8_B m c t h]
  simp only [exists_held ht, exists_held (Nat.succ_ne_zero t.val)]
  iintro ⟨⟨HS0, HS1, HS2, HT0, HT1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atB m c t h (acc m c t.val)).2.2.2.2.2 d6)
  unfold heldIn heldAcc
  isplitl [H0 H1 H2 H3 H4 H5 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    iexact HT1
  isplitl [H6]; · iexact H6
  isplitl [H7]; · iexists d7; iexact H7
  isplitl [H8]; · iexists d8; iexact H8
  isplitl [HS0 HS1 HS2]
  · isplitl [HS0]; · iexact HS0
    isplitl [HS1]; · iexact HS1
    iexact HS2
  iintro ⟨⟨H0, H1, H2, H3, H4, H5, HT0, HT1⟩, H6, ⟨%g7, H7⟩, ⟨%g8, H8⟩, HS0, HS1, HS2⟩
  isplitl [HS0 HS1 HS2 HT0 HT1 Hr]
  · isplitl [HS0]; · iexact HS0
    isplitl [HS1]; · iexact HS1
    isplitl [HS2]; · iexact HS2
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iexists d6; iexact H6
  isplitl [H7]
  · iapply (held_canon c (st7 t) (coverB7 m c t h _)); iexact H7
  iapply (held_canon c (st8 t) (coverB8 m c t h _)); iexact H8

set_option maxHeartbeats 4800000 in
theorem soundC (c : Dev nD) (t : Fin cfgA.N) (h : t.val % 3 = 2) :
    stepPre m c t ⊢ wp frame (wpE (defs₀ (F := Ideal)) Variants.none c none) Set.univ
      (body (crd t) (wh0 t) (wh1 t) (wh2 t) (wh3 t) (wh4 t) (wh5 t) (wh6 t) (wh7 t) (wh8 t)) fun _ => stepPost m c t := by
  unfold stepPre stepPost
  rw [bigSep_W0]
  obtain ⟨i6, f6, i7, f7, i8, f8⟩ := storesC t h
  have ht : t.val ≠ 0 := fun h0 => by rw [h0] at h; cases h
  rewrite [i6, i7]
  simp only [before0, before1, before2, before3, before4, before5, before6, before7, before8, after0, after1, after2, after3,
    after4, after5, after6, after7, after8, f6, f7, f8]
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  rw [acc_succ, accStep_C m c t _ h, out6_C m c t h, out7_C m c t h, out8_C m c t h]
  simp only [exists_held ht, exists_held (Nat.succ_ne_zero t.val)]
  iintro ⟨⟨HS0, HS1, HS2, HT0, HT1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atC m c t h (acc m c t.val)).2.2.2.2.2.2 (acc m c t.val).k (acc m c t.val).v)
  unfold heldIn heldAcc
  isplitl [H0 H1 H2 H3 H4 H5 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    iexact HT1
  isplitl [H6]; · iexists d6; iexact H6
  isplitl [H7]; · iexists d7; iexact H7
  isplitl [H8]; · iexists d8; iexact H8
  isplitl [HS0 HS1 HS2]
  · isplitl [HS0]; · iexact HS0
    isplitl [HS1]; · iexact HS1
    iexact HS2
  iintro ⟨⟨H0, H1, H2, H3, H4, H5, HT0, HT1⟩, ⟨%g6, H6⟩, ⟨%g7, H7⟩, ⟨%g8, H8⟩, HS0, HS1, HS2⟩
  isplitl [HS0 HS1 HS2 HT0 HT1 Hr]
  · isplitl [HS0]; · iexact HS0
    isplitl [HS1]; · iexact HS1
    isplitl [HS2]; · iexact HS2
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · iapply (held_canon c (st6 t) (coverC6 m c t h _)); iexact H6
  isplitl [H7]
  · iapply (held_canon c (st7 t) (coverC7 m c t h _)); iexact H7
  iapply (held_canon c (st8 t) (coverC8 m c t h _)); iexact H8

theorem sound_body (c : Dev nD) (t : Fin cfgA.N) :
    stepPre m c t ⊢ wp frame (wpE (defs₀ (F := Ideal)) Variants.none c none) Set.univ
      (body (crd t) (wh0 t) (wh1 t) (wh2 t) (wh3 t) (wh4 t) (wh5 t) (wh6 t) (wh7 t) (wh8 t)) fun _ => stepPost m c t := by
  rcases (by omega : t.val % 3 = 0 ∨ t.val % 3 = 1 ∨ t.val % 3 = 2) with h | h | h
  · exact soundA m c t h
  · exact soundB m c t h
  · exact soundC m c t h

theorem body_step (c : Dev nD) : BodyObligation (dats m 0 c) (defs₀ (F := Ideal)) Variants.none () Set.univ := fun t => by
  rw [bigSep_W0]; exact sound_body m c t

theorem body_obligation (c : Dev nD) : BodyObligationLoose (dats m 0 c) (defs₀ (F := Ideal)) Variants.none () Set.univ :=
  (body_step m c).loose

end Cert.AttnIdeal.Gen

end
-- ==== Proof.AttnIdealWhole.lean ====
module

public import proofs.«01_k».proof.Proof.AttnIdealFrame
public import Idealize.ShloMosaic.Lib.StableHlo.RunRead
public import Idealize.ShloMosaic.Lib.Claim

/-! The attention gradient's whole program: the host lines, then the call, run from any memory. -/

@[expose] public section

set_option maxRecDepth 16384
set_option Elab.async false

noncomputable section

namespace Cert.AttnIdeal.Gen

open Cert.AttnIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The whole program's run -/

/-- The buffers the host lines write, in order. -/
def written : List (Ref sig .tc) :=
  [main_c, main_c_0, main_v0, main_cst, main_v1, main_v2, main_v3, main_v4, main_v5, main_v6, main_v7, main_v8,
   main_v9, main_v10, main_cst_1, main_v11, main_v12, main_cst_2, main_v13, main_v14, main_v15, main_v16, main_v17,
   main_cst_3, main_v18, main_v19, main_v20, main_v21, main_v22, main_v23, main_v24, main_v25, main_v26, main_v27,
   main_v28, main_cst_4, main_v29, main_v30, main_v31, main_v32, main_v33, main_v34]

theorem hostOps0_writes : (hostOps0 : List (HloOp τ sig (Elt Ideal))).map HloOp.writes = written.map fun r => {Proc.devRef (τ := τ) .tc r} := rfl
theorem hostOps0_fresh : (hostOps0 : List (HloOp τ sig (Elt Ideal))).Forall fun op => op.fresh = ∅ :=
  StableHlo.forall_fresh_of_map rfl

/-- A buffer that no host line writes is as it was. -/
theorem V_kept (c : Dev nD) (b : Ref sig .tc) (hb : b ∉ written) : V m c b = m ((c : Thread nD τ).loc b) :=
  StableHlo.after_of_writes_sub hostOps0 _ (StableHlo.forall_writes_sub_of_map hostOps0_writes) hb

theorem V_rows (c : Dev nD) : V m c main_c = rows := by
  have h := StableHlo.after_last_write (ops := (hostOps0 : List (HloOp τ sig (Elt Ideal)))) (i := 0) (written.drop 1) (r := main_c) rfl rfl
    (by decide) (fun b => m (c, b))
  refine h.trans ?_
  refine (StableHlo.nullary_result ..).trans ?_
  funext x; revert x; decide +kernel
theorem V_cols (c : Dev nD) : V m c main_c_0 = cols := by
  have h := StableHlo.after_last_write (ops := (hostOps0 : List (HloOp τ sig (Elt Ideal)))) (i := 1) (written.drop 2) (r := main_c_0) rfl rfl
    (by decide) (fun b => m (c, b))
  refine h.trans ?_
  refine (StableHlo.nullary_result ..).trans ?_
  funext x; revert x; decide +kernel

theorem V_tables (c : Dev nD) : ∀ k : Fin 2, V m c (pre0.ref k) = tables k
  | 0 => V_rows m c
  | 1 => V_cols m c

/-- The two tables as the steps hold them. -/
theorem held_tables (c : Dev nD) : (Pipeline.ΦT (U := UR sig nD τ) pre0 (tables) c : sProp Res)
    = iprop((tabI.view.loc (c : Thread nD τ) ↦{fullShare.right} rows) ∗ (tabJ.view.loc (c : Thread nD τ) ↦{fullShare.right} cols)) := by
  unfold Pipeline.ΦT Pipeline.prefHeld
  rw [show (Finset.univ : Finset (Fin pre0.K)) = insert (0 : Fin 2) {(1 : Fin 2)} from by decide, bigSep_insert (by decide), bigSep_singleton]
  rfl

/-- At the start nothing is said of the accumulators. -/
theorem phi_intro (c : Dev nD) :
    iprop(Pipeline.ΦA (U := UR sig nD τ) (Val := Elt Ideal) cfgA.spec c ∗ Pipeline.ΦT pre0 tables c) ⊢ (dats m 0 c).Φ 0 := by
  rewrite [show (dats m 0 c).Φ 0 = Phi m c 0 from rfl]
  rw [held_tables]
  unfold Pipeline.ΦA Phi
  rw [show Pipeline.scopedRest cfgA.spec c = _ from scopedRest0_eq c]
  iintro ⟨⟨⟨⟨%a, HA⟩, ⟨%b, HB⟩, ⟨%d, HD⟩⟩, Hr⟩, HI, HJ⟩
  isplitl [HA]
  · iexists a; isplitr
    · ipureintro; exact fun h => absurd rfl h
    · iexact HA
  isplitl [HB]
  · iexists b; isplitr
    · ipureintro; exact fun h => absurd rfl h
    · iexact HB
  isplitl [HD]
  · iexists d; isplitr
    · ipureintro; exact fun h => absurd rfl h
    · iexact HD
  isplitl [HI]; · iexact HI
  isplitl [HJ]; · iexact HJ
  iexact Hr

/-- At the end the accumulators' contents are forgotten. -/
theorem phi_exit (c : Dev nD) : (dats m 0 c).Φ (Fin.last cfgA.N) ⊢ Pipeline.ΦA (U := UR sig nD τ) (Val := Elt Ideal) cfgA.spec c := by
  rewrite [show (dats m 0 c).Φ (Fin.last cfgA.N) = Phi m c cfgA.N from rfl]
  unfold Pipeline.ΦA Phi
  rw [show Pipeline.scopedRest cfgA.spec c = _ from scopedRest0_eq c]
  iintro ⟨⟨%a, -, HA⟩, ⟨%b, -, HB⟩, ⟨%d, -, HD⟩, -, -, Hr⟩
  isplitl [HA HB HD]
  · isplitl [HA]; · iexists a; iexact HA
    isplitl [HB]; · iexists b; iexact HB
    iexists d; iexact HD
  iexact Hr

theorem run_main_quiescent : θ_run (defs (F := Ideal)) (onTc (τ := τ) (main (F := Ideal))) (s₀ m ρ)
    (fun r => Pipeline.FramePost pcs (dats m) 0 (V m) r ∧ r.2.sem = fun _ => 0) :=
  Pipeline.θ_run_frameP_track (Q' := _) (pcfgs (F := Ideal)) (fun _ => adm) (dats m) (0 : Fin 1) launch0 defs₀ Variants.none m ρ main
    (hbody := body_obligation m) (hshare := fun c => (dats m 0 c).share_full fun _ => rfl) (howed := fun _ _ => rfl)
    (V := V m) (hmain := Pipeline.hmainP_prefix pcfgs 0 defs₀ Variants.none m main hostOps0 hostOps0_sub hostOps0_fresh main_chain)
    (hA := fun _ _ => rfl) (hpf := V_tables m) (hin := phi_intro m) (hout := phi_exit m)

/-- Every array of the call at what the steps leave, every other buffer as the host lines left it. -/
theorem run_main : θ_run (defs (F := Ideal)) (onTc (τ := τ) (main (F := Ideal))) (s₀ m ρ) (Pipeline.FramePost pcs (dats m) 0 (V m)) :=
  (θ_run defs _ _).mono (fun _ h => h.1) (run_main_quiescent m ρ)

theorem unchanged : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of _ rfl (by decide))).trans (V_kept m c _ (by decide)),
     ((h c).2 main_arg1 (Pipeline.mem_restRefs_of _ rfl (by decide))).trans (V_kept m c _ (by decide)),
     ((h c).2 main_arg2 (Pipeline.mem_restRefs_of _ rfl (by decide))).trans (V_kept m c _ (by decide)),
     ((h c).1 (3 : Fin 9)).trans (((dats m 0 c).arrAt_in (3 : Fin 9) rfl _).trans (V_kept m c main_arg3 (by decide)))⟩) (run_main m ρ)

/-- The program runs to its end from any memory, its arguments unchanged and no signal pending. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.AttnIdeal.Gen

end
-- ==== Proof.AttnIdealValue.lean ====
module

public import proofs.«01_k».proof.Proof.AttnIdealSums
public import proofs.«01_k».proof.Proof.AttnIdealWhole

/-! The three gradients' arrays after the attention gradient's call, from the arrays it reads. -/

@[expose] public section

set_option maxRecDepth 16384

noncomputable section

namespace Cert.AttnIdeal.Gen

open Cert.AttnIdeal Cert.AttnIdeal.Gen.Tile
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- The head, the queries' half and the keys' half of a step. -/
theorem steps : cfgA.N = 24 := by decide +kernel
def headAt (t : Fin cfgA.N) : Fin 8 := ⟨t.val / 3, by have := t.isLt; have := steps; omega⟩
def halfI (t : Fin cfgA.N) : Fin 2 := if t.val % 3 = 0 then 0 else 1
def halfJ (t : Fin cfgA.N) : Fin 2 := if t.val % 3 = 2 then 1 else 0

/-- A row of an array by its half and its place there. -/
def rowH (b : Fin 2) (r : Fin 2048) : Fin 4096 := ⟨2048 * b.val + r.val, by have := b.isLt; have := r.isLt; omega⟩

theorem index0 : ∀ t : Fin cfgA.N, (cfgA.win (0 : Fin 9)).index t = ![(headAt t).val, (halfI t).val, 0] := by decide +kernel
theorem index1 : ∀ t : Fin cfgA.N, (cfgA.win (1 : Fin 9)).index t = ![(headAt t).val, (halfJ t).val, 0] := by decide +kernel
theorem index2 : ∀ t : Fin cfgA.N, (cfgA.win (2 : Fin 9)).index t = ![(headAt t).val, (halfJ t).val, 0] := by decide +kernel
theorem index3 : ∀ t : Fin cfgA.N, (cfgA.win (3 : Fin 9)).index t = ![(halfI t).val, (headAt t).val] := by decide +kernel
theorem index4 : ∀ t : Fin cfgA.N, (cfgA.win (4 : Fin 9)).index t = ![(headAt t).val, 0, (halfI t).val] := by decide +kernel
theorem index5 : ∀ t : Fin cfgA.N, (cfgA.win (5 : Fin 9)).index t = ![0, (halfI t).val] := by decide +kernel
theorem index6 : ∀ t : Fin cfgA.N, (cfgA.win (6 : Fin 9)).index t = ![(headAt t).val, 0, 0] := by decide +kernel
theorem index7 : ∀ t : Fin cfgA.N, (cfgA.win (7 : Fin 9)).index t = ![(headAt t).val, (halfJ t).val, 0] := by decide +kernel
theorem index8 : ∀ t : Fin cfgA.N, (cfgA.win (8 : Fin 9)).index t = ![(headAt t).val, (halfJ t).val, 0] := by decide +kernel

theorem offs3 : ∀ t : Fin cfgA.N, ∀ j : Fin 4, k0_off3 (wordI (crd t) rows) (BitVec.ofNat 32 (512 * j.val))
    = ![2048 * (halfI t).val + 512 * j.val, 0] := by decide +kernel
theorem offs8 : ∀ t : Fin cfgA.N, ∀ j : Fin 4, k0_off8 (wordI (crd t) rows) (BitVec.ofNat 32 (512 * j.val))
    = ![2048 * (halfI t).val + 512 * j.val, 0] := by decide +kernel
theorem head_eq : ∀ t : Fin cfgA.N, (crd t 0).val = (headAt t).val := by decide +kernel

abbrev arrQ : S8x4096x192.Idx → EReal := V m c main_v31
abbrev arrK : S8x4096x192.Idx → EReal := V m c main_v32
abbrev arrV : S8x4096x128.Idx → EReal := V m c main_v33
abbrev arrO : S4096x1024.Idx → EReal := V m c main_arg3
abbrev arrL : S8x1x4096.Idx → EReal := V m c main_v34
abbrev arrD : S8x4096.Idx → EReal := V m c main_v30

/-- A column of the heads' outputs by its head and its place there. -/
def colH (h : Fin 8) (e : Fin 128) : Fin 1024 := ⟨128 * h.val + e.val, by have := h.isLt; have := e.isLt; omega⟩

theorem blkQ (t : Fin cfgA.N) (r : Fin 2048) (e : Fin 192) :
    iblk m c (0 : Fin 9) t (ix3 0 r e) = arrQ m c (ix3 (headAt t) (rowH (halfI t) r) e) := by
  unfold iblk
  blk_simp
  refine congrArg (V m c main_v31) (funext fun x => Fin.ext ?_)
  have h := index0 t
  fin_cases x <;> blk_simp [h] <;> first | (simp [rowH, colH] <;> omega) | simp [rowH, colH]

theorem blkK (t : Fin cfgA.N) (r : Fin 2048) (e : Fin 192) :
    iblk m c (1 : Fin 9) t (ix3 0 r e) = arrK m c (ix3 (headAt t) (rowH (halfJ t) r) e) := by
  unfold iblk
  blk_simp
  refine congrArg (V m c main_v32) (funext fun x => Fin.ext ?_)
  have h := index1 t
  fin_cases x <;> blk_simp [h] <;> first | (simp [rowH, colH] <;> omega) | simp [rowH, colH]

theorem blkV (t : Fin cfgA.N) (r : Fin 2048) (e : Fin 128) :
    iblk m c (2 : Fin 9) t (ix3 0 r e) = arrV m c (ix3 (headAt t) (rowH (halfJ t) r) e) := by
  unfold iblk
  blk_simp
  refine congrArg (V m c main_v33) (funext fun x => Fin.ext ?_)
  have h := index2 t
  fin_cases x <;> blk_simp [h] <;> first | (simp [rowH, colH] <;> omega) | simp [rowH, colH]

theorem blkO (t : Fin cfgA.N) (r : Fin 2048) (e : Fin 128) :
    iblk m c (3 : Fin 9) t (ix2 r e) = arrO m c (ix2 (rowH (halfI t) r) (colH (headAt t) e)) := by
  unfold iblk
  blk_simp
  refine congrArg (V m c main_arg3) (funext fun x => Fin.ext ?_)
  have h := index3 t
  fin_cases x <;> blk_simp [h] <;> first | (simp [rowH, colH] <;> omega) | simp [rowH, colH]

/-- The fifth window's block, of any contents of the arrays. -/
theorem readL (t : Fin cfgA.N) (X : (b : Ref sig .tc) → Buf (Elt Ideal) ((c : Thread nD τ).loc b)) (y : S1x1x2048.Idx) :
    ((cfgA.win (4 : Fin 9)).blk t).view.read (Elt Ideal) (X (Pipeline.arrRef cfgA.spec (4 : Fin 9))) y
      = X main_v34 (((cfgA.win (4 : Fin 9)).blk t).view.emb y) := by
  rfl

theorem blkL (t : Fin cfgA.N) (r : Fin 2048) :
    iblk m c (4 : Fin 9) t (ix3 0 0 r) = arrL m c (ix3 (headAt t) 0 (rowH (halfI t) r)) := by
  refine (readL c t (V m c) _).trans (congrArg (V m c main_v34) (funext fun x => Fin.ext ?_))
  have h := index4 t
  fin_cases x <;> blk_simp [h] <;> first | (simp [rowH, colH] <;> omega) | simp [rowH, colH]

theorem blkD (t : Fin cfgA.N) (h' : Fin 8) (r : Fin 2048) :
    iblk m c (5 : Fin 9) t (ix2 h' r) = arrD m c (ix2 h' (rowH (halfI t) r)) := by
  unfold iblk
  blk_simp
  refine congrArg (V m c main_v30) (funext fun x => Fin.ext ?_)
  have h := index5 t
  fin_cases x <;> blk_simp [h] <;> first | (simp [rowH, colH] <;> omega) | simp [rowH, colH]

/-- The weight of a key's row for a query's, in a head. -/
def WT (h : Fin 8) (kk qq : Fin 4096) : EReal :=
  if qq < kk then 0
  else Ideal.exp2 ((∑ x : Fin 192, arrK m c (ix3 h kk x) * arrQ m c (ix3 h qq x)) * scaleLog - arrL m c (ix3 h 0 qq) * logE)

/-- The gradient with respect to their score. -/
def GR (h : Fin 8) (kk qq : Fin 4096) : EReal :=
  WT m c h kk qq * ((∑ x : Fin 128, arrV m c (ix3 h kk x) * arrO m c (ix2 qq (colH h x))) - arrD m c (ix2 h qq)) * scale

theorem WT_below (h : Fin 8) (a b : Fin 2048) : WT m c h (rowH 1 a) (rowH 0 b) = 0 := by
  unfold WT
  refine if_pos ?_
  have := b.isLt
  simp only [rowH, Fin.lt_def]
  simp
  omega

/-- A step's weights and score gradients, in a head's. -/
theorem wgt_step (t : Fin cfgA.N) (tri : Bool) (ht : tri = decide (halfI t = halfJ t)) (hle : halfJ t ≤ halfI t) (a b : Fin 2048) :
    wgt (iblk m c (0 : Fin 9) t) (iblk m c (1 : Fin 9) t) (iblk m c (4 : Fin 9) t) tri a b
      = WT m c (headAt t) (rowH (halfJ t) a) (rowH (halfI t) b) := by
  unfold wgt WT
  simp only [blkQ, blkK, blkL]
  refine if_congr ?_ rfl rfl
  have := a.isLt
  have := b.isLt
  rw [Fin.lt_def, Fin.lt_def, ht, decide_eq_true_iff]
  simp only [rowH]
  rw [Fin.ext_iff]
  have : (halfJ t).val ≤ (halfI t).val := hle
  omega

theorem gra_step (t : Fin cfgA.N) (tri : Bool) (ht : tri = decide (halfI t = halfJ t)) (hle : halfJ t ≤ halfI t) (a b : Fin 2048) :
    gra (iblk m c (0 : Fin 9) t) (iblk m c (1 : Fin 9) t) (iblk m c (2 : Fin 9) t) (iblk m c (3 : Fin 9) t)
      (iblk m c (4 : Fin 9) t) (iblk m c (5 : Fin 9) t) (headAt t) tri a b
      = GR m c (headAt t) (rowH (halfJ t) a) (rowH (halfI t) b) := by
  unfold gra GR
  rw [wgt_step m c t tri ht hle]
  simp only [blkV, blkO, blkD]

theorem getD_A (t : Fin cfgA.N) (inb) (a : Memref sig .tc .vmem S8x2048 .f32) (x : S8x2048.Idx → EReal) (j : Fin 4) (b : Fin 512) :
    getD (offA (crd t)) inb a x j (ix2 0 b) = x (ix2 (headAt t) (row j b)) :=
  getD_apply x (headAt t) _ inb (fun j => (offA_eq (crd t) j).trans (by rw [head_eq])) a j b
theorem getD_B (t : Fin cfgA.N) (inb) (a : Memref sig .tc .vmem S8x2048 .f32) (x : S8x2048.Idx → EReal) (j : Fin 4) (b : Fin 512) :
    getD (offB (crd t)) inb a x j (ix2 0 b) = x (ix2 (headAt t) (row j b)) :=
  getD_apply x (headAt t) _ inb (fun j => (offB_eq (crd t) j).trans (by rw [head_eq])) a j b

/-! ### The accumulators -/

theorem accA_v (t : Fin cfgA.N) (h : t.val % 3 = 0) (r : Fin 2048) (e : Fin 128) :
    accV.view.read (Elt Ideal) (acc m c (t.val + 1)).v (ix2 r e)
      = ∑ qq : Fin 2048, WT m c (headAt t) (rowH 0 r) (rowH 0 qq) * arrO m c (ix2 (rowH 0 qq) (colH (headAt t) e)) := by
  have hI : halfI t = 0 := if_pos h
  have hJ : halfJ t = 0 := if_neg (by omega)
  rw [acc_succ, accStep_A m c t _ h]
  dsimp only
  rw [runA_v, View.read_writes_junk_eq_canon, triV_block]
  refine Finset.sum_congr rfl fun qq _ => ?_
  rw [wgt_step m c t true (by rw [hI, hJ]; rfl) (by rw [hI, hJ]), blkO, hI, hJ]

theorem accA_k (t : Fin cfgA.N) (h : t.val % 3 = 0) (r : Fin 2048) (e : Fin 192) :
    accK.view.read (Elt Ideal) (acc m c (t.val + 1)).k (ix2 r e)
      = ∑ qq : Fin 2048, GR m c (headAt t) (rowH 0 r) (rowH 0 qq) * arrQ m c (ix3 (headAt t) (rowH 0 qq) e) := by
  have hI : halfI t = 0 := if_pos h
  have hJ : halfJ t = 0 := if_neg (by omega)
  rw [acc_succ, accStep_A m c t _ h]
  dsimp only
  rw [runA_k, View.read_writes_junk_eq_canon,
    triK_block _ _ _ _ _ _ (headAt t) _ (fun j b => getD_A t _ _ _ j b)]
  refine Finset.sum_congr rfl fun qq _ => ?_
  rw [gra_step m c t true (by rw [hI, hJ]; rfl) (by rw [hI, hJ]), blkQ, hI, hJ]

section Rows

variable (q k : Fin 4 → Vec Ideal S1x512x192 .bf16) (v : Fin 4 → Vec Ideal S1x512x128 .bf16) (o : Fin 4 → Vec Ideal S512x128 .f32)
  (l : Fin 4 → Vec Ideal S1x1x512 .f32) (d : Fin 4 → Vec Ideal S1x512 .f32)

/-- The queries' accumulator after a step's four row blocks. -/
theorem stepQ_all (f : HoldQ c) (tri : Bool) (n : Fin 4 → ℕ) (off : Fin 4 → Fin 2 → ℕ)
    (inb : ∀ j a, off j a + S512x192.size a ≤ S4096x192.size a) (L : List PieceQ) (h : Fin 2)
    (hoff : ∀ j, off j = ![2048 * h.val + 512 * j.val, 0]) (h' : Fin 2) (j : Fin 4) (a : Fin 512) (e : Fin 192) :
    accQ.view.read (Elt Ideal) (accQ.view.writes (Elt Ideal) f
        (stepQ q k v o l d f tri 3 (n 3) (off 3) (inb 3) (stepQ q k v o l d f tri 2 (n 2) (off 2) (inb 2)
          (stepQ q k v o l d f tri 1 (n 1) (off 1) (inb 1) (stepQ q k v o l d f tri 0 (n 0) (off 0) (inb 0) L)))))
        (ix2 (rowQ h' j a) e)
      = accQ.view.read (Elt Ideal) (accQ.view.writes (Elt Ideal) f L) (ix2 (rowQ h' j a) e)
        + if h' = h then sumQ q k v o l d tri j (n j) (ix2 a e) else 0 := by
  rw [stepQ_apply _ _ _ _ _ _ f tri 3 _ _ _ _ h (hoff 3), stepQ_apply _ _ _ _ _ _ f tri 2 _ _ _ _ h (hoff 2),
    stepQ_apply _ _ _ _ _ _ f tri 1 _ _ _ _ h (hoff 1), stepQ_apply _ _ _ _ _ _ f tri 0 _ _ _ _ h (hoff 0)]
  by_cases hh : h' = h
  · fin_cases j <;> simp [hh]
  · simp [hh]

end Rows

theorem rowQ_eq (b : Fin 2) (j : Fin 4) (a : Fin 512) : rowQ b j a = rowH b (row j a) := Fin.ext (by simp [rowQ, rowH, row]; omega)

theorem accA_q (t : Fin cfgA.N) (h : t.val % 3 = 0) (b : Fin 2) (r : Fin 2048) (e : Fin 192) :
    accQ.view.read (Elt Ideal) (acc m c (t.val + 1)).q (ix2 (rowH b r) e)
      = if b = 0 then ∑ kk : Fin 2048, GR m c (headAt t) (rowH 0 kk) (rowH 0 r) * arrK m c (ix3 (headAt t) (rowH 0 kk) e) else 0 := by
  have hI : halfI t = 0 := if_pos h
  have hJ : halfJ t = 0 := if_neg (by omega)
  obtain ⟨j, a, rfl⟩ := exists_row r
  rw [acc_succ, accStep_A m c t _ h]
  dsimp only
  rw [runA_q, ← rowQ_eq]
  refine (stepQ_all c _ _ _ _ _ _ _ true (fun j => j.val) _ _ _ (halfI t) (offs3 t) b j a e).trans ?_
  rw [View.read_writes_junk_eq_canon, View.canon_cons_unit_lit _ _ _ (by decide), hI,
    sumQ_tri_block _ _ _ _ _ _ (headAt t) _ (fun j b => getD_A t _ _ _ j b)]
  have hz : (k0_pay1 : FVec Ideal S4096x192 .f32) (ix2 (rowQ b j a) e) = 0 := by unfold k0_pay1; pointwise
  rw [hz, zero_add]
  refine if_congr Iff.rfl (Finset.sum_congr rfl fun kk _ => ?_) rfl
  rw [gra_step m c t true (by rw [hI, hJ]; rfl) (by rw [hI, hJ]), blkK, hI, hJ]

theorem accB_q (t : Fin cfgA.N) (h : t.val % 3 = 1) (b : Fin 2) (r : Fin 2048) (e : Fin 192) :
    accQ.view.read (Elt Ideal) (acc m c (t.val + 1)).q (ix2 (rowH b r) e)
      = accQ.view.read (Elt Ideal) (acc m c t.val).q (ix2 (rowH b r) e)
        + if b = 1 then ∑ kk : Fin 2048, GR m c (headAt t) (rowH 0 kk) (rowH 1 r) * arrK m c (ix3 (headAt t) (rowH 0 kk) e) else 0 := by
  have hI : halfI t = 1 := if_neg (by omega)
  have hJ : halfJ t = 0 := if_neg (by omega)
  obtain ⟨j, a, rfl⟩ := exists_row r
  rw [acc_succ, accStep_B m c t _ h]
  dsimp only
  rw [runB_q, ← rowQ_eq]
  refine (stepQ_all c _ _ _ _ _ _ _ false (fun _ => 3) _ _ _ (halfI t) (offs8 t) b j a e).trans ?_
  rw [hI, sumQ_full_block _ _ _ _ _ _ (headAt t) _ (fun j b => getD_B t _ _ _ j b)]
  refine congrArg₂ (· + ·) rfl (if_congr Iff.rfl (Finset.sum_congr rfl fun kk _ => ?_) rfl)
  rw [gra_step m c t false (by rw [hI, hJ]; rfl) (by rw [hI, hJ]; decide), blkK, hI, hJ]

/-! ### The outputs' blocks -/

theorem idxV (y : S2048x128.Idx) : (Rect.unit ![0, 0] S2048x128.size inb_S2048x128_S2048x128_0_0).toLoadRect.idx y = y := by
  funext x; refine Fin.ext ?_; change ![0, 0] x + 1 * (y x).val = (y x).val; fin_cases x <;> simp
theorem idxK (y : S2048x192.Idx) : (Rect.unit ![0, 0] S2048x192.size inb_S2048x192_S2048x192_0_0).toLoadRect.idx y = y := by
  funext x; refine Fin.ext ?_; change ![0, 0] x + 1 * (y x).val = (y x).val; fin_cases x <;> simp
theorem idxQ (y : S4096x192.Idx) : (Rect.unit ![0, 0] S4096x192.size inb_S4096x192_S4096x192_0_0).toLoadRect.idx y = y := by
  funext x; refine Fin.ext ?_; change ![0, 0] x + 1 * (y x).val = (y x).val; fin_cases x <;> simp

theorem pay6_apply (x : FVec Ideal S2048x128 .f32) (r : Fin 2048) (e : Fin 128) : (k0_pay6 (F := Ideal) x : _ → EReal) (ix3 0 r e) = x (ix2 r e) := by
  unfold k0_pay6; pointwise
theorem pay5_apply (x : FVec Ideal S2048x192 .f32) (r : Fin 2048) (e : Fin 192) : (k0_pay5 (F := Ideal) x : _ → EReal) (ix3 0 r e) = x (ix2 r e) := by
  unfold k0_pay5; pointwise
theorem pay7_apply (x : FVec Ideal S4096x192 .f32) (r : Fin 4096) (e : Fin 192) : (k0_pay7 (F := Ideal) x : _ → EReal) (ix3 0 r e) = x (ix2 r e) := by
  unfold k0_pay7; pointwise

theorem out8B (t : Fin cfgA.N) (h : t.val % 3 = 1) (r : Fin 2048) (e : Fin 128) :
    out8 m c t (ix3 0 r e) = accV.view.read (Elt Ideal) (acc m c t.val).v (ix2 r e)
      + ∑ qq : Fin 2048, WT m c (headAt t) (rowH 0 r) (rowH 1 qq) * arrO m c (ix2 (rowH 1 qq) (colH (headAt t) e)) := by
  have hI : halfI t = 1 := if_neg (by omega)
  have hJ : halfJ t = 0 := if_neg (by omega)
  rw [out8_B m c t h, runB_v, View.canon_cons_unit_lit _ _ _ (by decide), View.readCov_eq_canon', pay6_apply]
  dsimp only
  rw [idxV, allV_block]
  refine congrArg₂ (· + ·) rfl (Finset.sum_congr rfl fun qq _ => ?_)
  rw [wgt_step m c t false (by rw [hI, hJ]; rfl) (by rw [hI, hJ]; decide), blkO, hI, hJ]

theorem out7B (t : Fin cfgA.N) (h : t.val % 3 = 1) (r : Fin 2048) (e : Fin 192) :
    out7 m c t (ix3 0 r e) = accK.view.read (Elt Ideal) (acc m c t.val).k (ix2 r e)
      + ∑ qq : Fin 2048, GR m c (headAt t) (rowH 0 r) (rowH 1 qq) * arrQ m c (ix3 (headAt t) (rowH 1 qq) e) := by
  have hI : halfI t = 1 := if_neg (by omega)
  have hJ : halfJ t = 0 := if_neg (by omega)
  rw [out7_B m c t h, runB_k, View.canon_cons_unit_lit _ _ _ (by decide), View.readCov_eq_canon', pay5_apply]
  dsimp only
  rw [idxK, allK_block _ _ _ _ _ _ (headAt t) _ (fun j b => getD_B t _ _ _ j b)]
  refine congrArg₂ (· + ·) rfl (Finset.sum_congr rfl fun qq _ => ?_)
  rw [gra_step m c t false (by rw [hI, hJ]; rfl) (by rw [hI, hJ]; decide), blkQ, hI, hJ]

theorem out8C (t : Fin cfgA.N) (h : t.val % 3 = 2) (r : Fin 2048) (e : Fin 128) :
    out8 m c t (ix3 0 r e)
      = ∑ qq : Fin 2048, WT m c (headAt t) (rowH 1 r) (rowH 1 qq) * arrO m c (ix2 (rowH 1 qq) (colH (headAt t) e)) := by
  have hI : halfI t = 1 := if_neg (by omega)
  have hJ : halfJ t = 1 := if_pos h
  rw [out8_C m c t h, runC_v, View.canon_cons_unit_lit _ _ _ (by decide), View.readCov_eq_canon', pay6_apply]
  dsimp only
  rw [idxV, triV_block]
  refine Finset.sum_congr rfl fun qq _ => ?_
  rw [wgt_step m c t true (by rw [hI, hJ]; rfl) (by rw [hI, hJ]), blkO, hI, hJ]

theorem out7C (t : Fin cfgA.N) (h : t.val % 3 = 2) (r : Fin 2048) (e : Fin 192) :
    out7 m c t (ix3 0 r e)
      = ∑ qq : Fin 2048, GR m c (headAt t) (rowH 1 r) (rowH 1 qq) * arrQ m c (ix3 (headAt t) (rowH 1 qq) e) := by
  have hI : halfI t = 1 := if_neg (by omega)
  have hJ : halfJ t = 1 := if_pos h
  rw [out7_C m c t h, runC_k, View.canon_cons_unit_lit _ _ _ (by decide), View.readCov_eq_canon', pay5_apply]
  dsimp only
  rw [idxK, triK_block _ _ _ _ _ _ (headAt t) _ (fun j b => getD_A t _ _ _ j b)]
  refine Finset.sum_congr rfl fun qq _ => ?_
  rw [gra_step m c t true (by rw [hI, hJ]; rfl) (by rw [hI, hJ]), blkQ, hI, hJ]

theorem out6C (t : Fin cfgA.N) (h : t.val % 3 = 2) (b : Fin 2) (r : Fin 2048) (e : Fin 192) :
    out6 m c t (ix3 0 (rowH b r) e) = accQ.view.read (Elt Ideal) (acc m c t.val).q (ix2 (rowH b r) e)
      + if b = 1 then ∑ kk : Fin 2048, GR m c (headAt t) (rowH 1 kk) (rowH 1 r) * arrK m c (ix3 (headAt t) (rowH 1 kk) e) else 0 := by
  have hI : halfI t = 1 := if_neg (by omega)
  have hJ : halfJ t = 1 := if_pos h
  obtain ⟨j, a, rfl⟩ := exists_row r
  rw [out6_C m c t h, runC_q, View.canon_cons_unit_lit _ _ _ (by decide), pay7_apply]
  change accQ.view.read (Elt Ideal) _ ((Rect.unit ![0, 0] S4096x192.size inb_S4096x192_S4096x192_0_0).toLoadRect.idx _) = _
  rw [idxQ, ← rowQ_eq]
  refine (stepQ_all c _ _ _ _ _ _ _ true (fun j => j.val) _
    (fun j => k0_off3_inb (wordI (crd t) rows) (wordJ (crd t) cols) (words_ok t) (pathC t h).2.1 j) [] (halfI t) (offs3 t) b j a e).trans ?_
  rw [hI, sumQ_tri_block _ _ _ _ _ _ (headAt t) _ (fun j b => getD_A t _ _ _ j b)]
  refine congrArg₂ (· + ·) rfl (if_congr Iff.rfl (Finset.sum_congr rfl fun kk _ => ?_) rfl)
  rw [gra_step m c t true (by rw [hI, hJ]; rfl) (by rw [hI, hJ]), blkK, hI, hJ]

end Cert.AttnIdeal.Gen
-- ==== Proof.AttnIdealFinal.lean ====
module

public import proofs.«01_k».proof.Proof.AttnIdealValue

/-! The three gradients as sums over a whole row of keys or column of queries. -/

@[expose] public section

set_option maxRecDepth 16384

noncomputable section

namespace Cert.AttnIdeal.Gen

open Cert.AttnIdeal Cert.AttnIdeal.Gen.Tile
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- A sum over all rows is the sum over both halves. -/
theorem sum_halves (f : Fin 4096 → EReal) : ∑ x, f x = ∑ r : Fin 2048, f (rowH 0 r) + ∑ r : Fin 2048, f (rowH 1 r) := by
  rw [← Fin.sum_mul_add_fin 2 2048 f, Fin.sum_univ_two]
  refine congrArg₂ (· + ·) ?_ ?_ <;> refine Finset.sum_congr rfl fun r _ => congrArg f (Fin.ext ?_) <;> simp [rowH] <;> omega

/-- The gradients of the values, the keys and the queries, at an element of a head. -/
def DV (h : Fin 8) (kk : Fin 4096) (e : Fin 128) : EReal := ∑ qq, WT m c h kk qq * arrO m c (ix2 qq (colH h e))
def DK (h : Fin 8) (kk : Fin 4096) (e : Fin 192) : EReal := ∑ qq, GR m c h kk qq * arrQ m c (ix3 h qq e)
def DQ (h : Fin 8) (qq : Fin 4096) (e : Fin 192) : EReal := ∑ kk, GR m c h kk qq * arrK m c (ix3 h kk e)

theorem GR_below (h : Fin 8) (a b : Fin 2048) : GR m c h (rowH 1 a) (rowH 0 b) = 0 := by
  rw [GR, WT_below, zero_mul, zero_mul]

/-- The step before another of the same head. -/
theorem pred_step (t : Fin cfgA.N) (h : t.val % 3 ≠ 0) :
    ∃ s : Fin cfgA.N, s.val + 1 = t.val ∧ s.val % 3 + 1 = t.val % 3 ∧ headAt s = headAt t := by
  refine ⟨⟨t.val - 1, by have := t.isLt; omega⟩, ?_, ?_, Fin.ext ?_⟩ <;> simp only [headAt] <;> omega

theorem out8_eq (t : Fin cfgA.N) (h : t.val % 3 ≠ 0) (r : Fin 2048) (e : Fin 128) :
    out8 m c t (ix3 0 r e) = DV m c (headAt t) (rowH (halfJ t) r) e := by
  rw [DV, sum_halves]
  by_cases h1 : t.val % 3 = 1
  · obtain ⟨s, hs, hm, hh⟩ := pred_step t h
    rw [out8B m c t h1, ← hs, accA_v m c s (by omega), hh, show halfJ t = 0 from if_neg (by omega)]
  · rw [out8C m c t (by omega), show halfJ t = 1 from if_pos (by omega)]
    simp only [WT_below, zero_mul, Finset.sum_const_zero, zero_add]

theorem out7_eq (t : Fin cfgA.N) (h : t.val % 3 ≠ 0) (r : Fin 2048) (e : Fin 192) :
    out7 m c t (ix3 0 r e) = DK m c (headAt t) (rowH (halfJ t) r) e := by
  rw [DK, sum_halves]
  by_cases h1 : t.val % 3 = 1
  · obtain ⟨s, hs, hm, hh⟩ := pred_step t h
    rw [out7B m c t h1, ← hs, accA_k m c s (by omega), hh, show halfJ t = 0 from if_neg (by omega)]
  · rw [out7C m c t (by omega), show halfJ t = 1 from if_pos (by omega)]
    simp only [GR_below, zero_mul, Finset.sum_const_zero, zero_add]

theorem out6_eq (t : Fin cfgA.N) (h : t.val % 3 = 2) (b : Fin 2) (r : Fin 2048) (e : Fin 192) :
    out6 m c t (ix3 0 (rowH b r) e) = DQ m c (headAt t) (rowH b r) e := by
  obtain ⟨s, hs, hm, hh⟩ := pred_step t (by omega)
  obtain ⟨s', hs', hm', hh'⟩ := pred_step s (by omega)
  rw [DQ, sum_halves, out6C m c t h, ← hs, accB_q m c s (by omega), ← hs', accA_q m c s' (by omega), hh', hh]
  fin_cases b
  · simp [GR_below]
  · simp

theorem row_split (x : Fin 4096) : ∃ b r, x = rowH b r :=
  ⟨⟨x.val / 2048, by have := x.isLt; omega⟩, ⟨x.val % 2048, by omega⟩, Fin.ext (by simp [rowH]; omega)⟩

theorem final8 : (dats m 0 c).arrAt (8 : Fin 9) cfgA.N = fun i : S8x4096x128.Idx => DV m c (i 0) (i 1) (i 2) := by
  refine (dats m 0 c).arrAt_eq_of_covers (8 : Fin 9) _ (by decide +kernel) fun t hf y => ?_
  have h : t.val % 3 ≠ 0 := fun h => by rw [(storesA t h).2.2.2.2.2] at hf; cases hf
  blk_simp
  rw [after8]
  obtain ⟨z, r, e, rfl⟩ : ∃ (z : Fin 1) (r : Fin 2048) (e : Fin 128), y = ix3 z r e := ⟨y 0, y 1, y 2, by funext x; fin_cases x <;> rfl⟩
  obtain rfl := Subsingleton.elim 0 z
  refine (out8_eq m c t h r e).trans ?_
  have hx := index8 t
  congr 1
  · refine Fin.ext ?_; blk_simp [hx]; simp
  · refine Fin.ext ?_; blk_simp [hx]; simp [rowH, mul_comm]
  · refine Fin.ext ?_; blk_simp [hx]

theorem final7 : (dats m 0 c).arrAt (7 : Fin 9) cfgA.N = fun i : S8x4096x192.Idx => DK m c (i 0) (i 1) (i 2) := by
  refine (dats m 0 c).arrAt_eq_of_covers (7 : Fin 9) _ (by decide +kernel) fun t hf y => ?_
  have h : t.val % 3 ≠ 0 := fun h => by rw [(storesA t h).2.2.2.1] at hf; cases hf
  blk_simp
  rw [after7]
  obtain ⟨z, r, e, rfl⟩ : ∃ (z : Fin 1) (r : Fin 2048) (e : Fin 192), y = ix3 z r e := ⟨y 0, y 1, y 2, by funext x; fin_cases x <;> rfl⟩
  obtain rfl := Subsingleton.elim 0 z
  refine (out7_eq m c t h r e).trans ?_
  have hx := index7 t
  congr 1
  · refine Fin.ext ?_; blk_simp [hx]; simp
  · refine Fin.ext ?_; blk_simp [hx]; simp [rowH, mul_comm]
  · refine Fin.ext ?_; blk_simp [hx]

theorem final6 : (dats m 0 c).arrAt (6 : Fin 9) cfgA.N = fun i : S8x4096x192.Idx => DQ m c (i 0) (i 1) (i 2) := by
  refine (dats m 0 c).arrAt_eq_of_covers (6 : Fin 9) _ (by decide +kernel) fun t hf y => ?_
  have h : t.val % 3 = 2 := by
    have : t.val % 3 ≠ 0 := fun h => by rw [(storesA t h).2.1] at hf; cases hf
    have : t.val % 3 ≠ 1 := fun h => by rw [(storesB t h).2.1] at hf; cases hf
    omega
  blk_simp
  rw [after6]
  obtain ⟨z, r, e, rfl⟩ : ∃ (z : Fin 1) (r : Fin 4096) (e : Fin 192), y = ix3 z r e := ⟨y 0, y 1, y 2, by funext x; fin_cases x <;> rfl⟩
  obtain rfl := Subsingleton.elim 0 z
  obtain ⟨b, r, rfl⟩ := row_split r
  refine (out6_eq m c t h b r e).trans ?_
  have hx := index6 t
  congr 1
  · refine Fin.ext ?_; blk_simp [hx]; simp
  · refine Fin.ext ?_; blk_simp [hx]
  · refine Fin.ext ?_; blk_simp [hx]

end Cert.AttnIdeal.Gen
-- ==== Proof.Reals.lean ====
module

public import Idealize.ShloMosaic.PureOps
public import Idealize.ShloMosaic.PureOps.Ideal
public import Idealize.ShloMosaic.Lib.IdealHost
public import Idealize.ShloMosaic.Lib.Pointwise

@[expose] public section

/-! Facts about extended reals that are reals, shared by the value proofs. -/

noncomputable section

namespace Cert.Reals

open Idealize.ShloMosaic

/-- The pattern of one half. -/
theorem half_f32 : Ideal.ofBits .f32 0x3F000000#32 = (((1 : ℝ) / 2 : ℝ) : EReal) := by
  simp [Ideal.ofBits, Ideal.ieee, -EReal.coe_mul]; norm_num

/-- The pattern of two. -/
theorem two_f32 : Ideal.ofBits .f32 0x40000000#32 = ((2 : ℝ) : EReal) := by
  simp [Ideal.ofBits, Ideal.ieee, -EReal.coe_mul]; norm_num

/-- The pattern of 1024, a row's length. -/
theorem row_f32 : Ideal.ofBits .f32 0x44800000#32 = ((1024 : ℝ) : EReal) := by
  simp [Ideal.ofBits, Ideal.ieee, -EReal.coe_mul]; norm_num

/-- The pattern of minus infinity. -/
theorem bot_f32 : Ideal.ofBits .f32 0xFF800000#32 = ⊥ := by
  simp [Ideal.ofBits, Ideal.ieee]

/-- The pattern of infinity. -/
theorem top_f32 : Ideal.ofBits .f32 0x7F800000#32 = ⊤ := by
  simp [Ideal.ofBits, Ideal.ieee]

/-- A number whose magnitude is below infinity is a real. -/
theorem real_of_finite (x : EReal) (h : BitVec.ofBool (decide (max x (-x) < ⊤)) = 1#1) : ∃ r : ℝ, x = r := by
  induction x with
  | bot => simp at h
  | top => simp at h
  | coe r => exact ⟨r, rfl⟩

/-- A sum of reals is a real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger of two reals is a real. -/
theorem coe_max (a b : ℝ) : max (a : EReal) b = ((max a b : ℝ) : EReal) :=
  (EReal.coe_strictMono.monotone.map_max (a := a) (b := b)).symm

/-- The largest of finitely many reals is a real. -/
theorem fold_max_real {ι : Type*} [DecidableEq ι] (s : Finset ι) (hs : s.Nonempty) (f : ι → ℝ) :
    ∃ M : ℝ, Finset.fold max (⊥ : EReal) (fun i => (f i : EReal)) s = M := by
  induction hs using Finset.Nonempty.cons_induction with
  | singleton a => exact ⟨f a, by simp⟩
  | cons a s ha _ ih =>
    obtain ⟨M, hM⟩ := ih
    exact ⟨max (f a) M, by rw [Finset.fold_cons, hM, coe_max]⟩

/-- A quotient of reals is a real. -/
theorem div_real (a : ℝ) {b : ℝ} (h : b ≠ 0) : Ideal.div (a : EReal) b = ((a / b : ℝ) : EReal) := by
  rw [Ideal.div_coe h, ← EReal.coe_mul, mul_one_div]

/-- Half of a sum is the sum of the halves, whatever the terms are. -/
theorem half_sum {ι : Type} (s : Finset ι) (f : ι → EReal) :
    (((1 : ℝ) / 2 : ℝ) : EReal) * ∑ i ∈ s, f i = ∑ i ∈ s, (((1 : ℝ) / 2 : ℝ) : EReal) * f i := by
  classical
  induction s using Finset.induction_on with
  | empty => simp
  | insert a s ha ih =>
    rw [Finset.sum_insert ha, Finset.sum_insert ha, ← ih]
    exact EReal.left_distrib_of_nonneg_of_ne_top (by exact_mod_cast (by norm_num : (0 : ℝ) ≤ 1 / 2)) (EReal.coe_ne_top _) _ _

end Cert.Reals

end
-- ==== Proof.AttnIdealHost.lean ====
module

public import proofs.«01_k».proof.Proof.AttnIdealFinal
public import proofs.«01_k».proof.Proof.Reals
public import Idealize.ShloMosaic.Lib.IdealHost
public import Idealize.ShloMosaic.Lib.Tactic.CleanTypes
public import Idealize.ShloMosaic.Lib.WordCmp

/-! The arrays the attention gradient's call reads, from the program's arguments. -/

@[expose] public section

set_option maxRecDepth 16384

noncomputable section

namespace Cert.AttnIdeal.Gen

open Cert.AttnIdeal Cert.AttnIdeal.Gen.Tile Cert.Reals
open Idealize.ShloMosaic Idealize.ShloMosaic.TcCoe Idealize.ShloMosaic.Tactic

variable (m : (ℓ : Loc nD τ sig) → Buf (Elt Ideal) ℓ) (c : Dev nD)

/-! ### The forward lines -/

/-- The scores under the causal mask. -/
def scores (q k : FVec Ideal S8x4096x192 .f32) : FVec Ideal S8x4096x4096 .f32 :=
  select
    (broadcastInDim S8x4096x4096 ![1, 2] bcast_S4096x4096_S8x4096x4096_1_2
      (cmpi CmpIPredicate.sge
        (broadcastInDim S4096x4096 ![0, 1] bcast_S4096x1_S4096x4096_0_1 (broadcastInDim S4096x1 ![0] bcast_S4096_S4096x1_0 (iotaInDim S4096 32 0)))
        (broadcastInDim S4096x4096 ![0, 1] bcast_S1x4096_S4096x4096_0_1 (broadcastInDim S1x4096 ![1] bcast_S4096_S1x4096_1 (iotaInDim S4096 32 0)))))
    (Host.divf (Host.dotGeneral dot_S8x4096x192_S8x4096x192_S8x4096x4096_2_2_1_1_0_0 none q k)
      (broadcastInDim S8x4096x4096 ![] bcast_S_S8x4096x4096 (Host.sqrt (constant S_ FTy.f32 1128267776#32))))
    (broadcastInDim S8x4096x4096 ![] bcast_S_S8x4096x4096 (constant S_ FTy.f32 4286578688#32))

/-- Each row's largest score. -/
def largest (s : FVec Ideal S8x4096x4096 .f32) : FVec Ideal S8x4096x1 .f32 :=
  broadcastInDim S8x4096x1 ![0, 1] bcast_S8x4096_S8x4096x1_0_1
    (Host.reduce FloatOps.maximumf s (constant S_ FTy.f32 4286578688#32) reducesTo_S8x4096x4096_S8x4096_d2 h_S_)

/-- The exponentials of the scores less the row's largest. -/
def exps (s : FVec Ideal S8x4096x4096 .f32) : FVec Ideal S8x4096x4096 .f32 :=
  Host.exp (subf s (broadcastInDim S8x4096x4096 ![0, 1, 2] bcast_S8x4096x1_S8x4096x4096_0_1_2 (largest s)))

/-- Each row's sum. -/
def sums (x : FVec Ideal S8x4096x4096 .f32) : FVec Ideal S8x4096x1 .f32 :=
  broadcastInDim S8x4096x1 ![0, 1] bcast_S8x4096_S8x4096x1_0_1
    (Host.reduceAdd x (constant S_ FTy.f32 0#32) reducesTo_S8x4096x4096_S8x4096_d2 h_S_)

/-- The rows' log sums, laid out as the call reads them. -/
def logSums (s : FVec Ideal S8x4096x4096 .f32) : FVec Ideal S8x1x4096 .f32 :=
  shapeCast S8x1x4096 (addf (largest s) (Host.log (sums (exps s)))) shapeCasts_S8x4096x1_S8x1x4096

set_option Elab.async false in
theorem arrL_eq : arrL m c = logSums (scores (m ((c : Thread nD τ).loc main_arg0)) (m ((c : Thread nD τ).loc main_arg1))) := by
  unfold arrL V
  after_reads_simp
  rfl

/-- The sum of each row of the output times its gradient, laid out as the call reads it. -/
def rowDots (x : FVec Ideal S8x4096x4096 .f32) (v : FVec Ideal S8x4096x128 .f32) (o : FVec Ideal S4096x1024 .f32) : FVec Ideal S8x4096 .f32 :=
  transpose S8x4096 [1, 0]
    (Host.reduceAdd
      (shapeCast S4096x8x128
        (mulf o (shapeCast S4096x1024
          (transpose S4096x8x128 [2, 0, 1] (Host.dotGeneral dot_S8x4096x128_S8x4096x4096_S8x128x4096_1_2_2_1_0_0 none v
            (Host.divf x (broadcastInDim S8x4096x4096 ![0, 1, 2] bcast_S8x4096x1_S8x4096x4096_0_1_2 (sums x))))
            transposes_S8x128x4096_S4096x8x128_2_0_1) shapeCasts_S4096x8x128_S4096x1024)) shapeCasts_S4096x1024_S4096x8x128)
      (constant S_ FTy.f32 0#32) reducesTo_S4096x8x128_S4096x8_d2 h_S_) transposes_S4096x8_S8x4096_1_0

theorem arrD_eq : arrD m c = rowDots (exps (scores (m ((c : Thread nD τ).loc main_arg0)) (m ((c : Thread nD τ).loc main_arg1))))
    (m ((c : Thread nD τ).loc main_arg2)) (m ((c : Thread nD τ).loc main_arg3)) := by
  unfold arrD V
  after_reads_simp
  rfl

theorem arrQ_eq (i) : arrQ m c i = m ((c : Thread nD τ).loc main_arg0) i := by
  unfold arrQ V
  after_reads_simp
  rfl
theorem arrK_eq (i) : arrK m c i = m ((c : Thread nD τ).loc main_arg1) i := by
  unfold arrK V
  after_reads_simp
  rfl
theorem arrV_eq (i) : arrV m c i = m ((c : Thread nD τ).loc main_arg2) i := by
  unfold arrV V
  after_reads_simp
  rfl
theorem arrO_eq : arrO m c = m ((c : Thread nD τ).loc main_arg3) := V_kept m c main_arg3 (by decide)

/-! ### Read at an index -/

theorem scores_apply (q k : FVec Ideal S8x4096x192 .f32) (h : Fin 8) (a b : Fin 4096) :
    scores q k (ix3 h a b) = if b ≤ a then Ideal.div (∑ x : Fin 192, q (ix3 h a x) * k (ix3 h b x)) (Ideal.sqrt (Ideal.ofBits .f32 1128267776#32)) else ⊥ := by
  have ha := a.isLt
  have hb := b.isLt
  unfold scores
  pointwise [bot_f32]
  simp (disch := word_cmp_side) only [hlo_ix]
  simp only [Fin.val_fin_le]

theorem largest_apply (s : FVec Ideal S8x4096x4096 .f32) (h : Fin 8) (a : Fin 4096) :
    largest s (ix3 h a 0) = Finset.fold max (⊥ : EReal) (fun b => s (ix3 h a b)) Finset.univ := by
  unfold largest
  pointwise [bot_f32]

theorem exps_apply (s : FVec Ideal S8x4096x4096 .f32) (h : Fin 8) (a b : Fin 4096) :
    exps s (ix3 h a b) = Ideal.exp (s (ix3 h a b) - largest s (ix3 h a 0)) := by
  unfold exps
  pointwise

theorem sums_apply (x : FVec Ideal S8x4096x4096 .f32) (h : Fin 8) (a : Fin 4096) :
    sums x (ix3 h a 0) = ∑ b, x (ix3 h a b) := by
  unfold sums
  pointwise

theorem log_sum_apply (x y : FVec Ideal S8x4096x1 .f32) (h : Fin 8) (a : Fin 4096) :
    shapeCast S8x1x4096 (addf x (Host.log y)) shapeCasts_S8x4096x1_S8x1x4096 (ix3 h 0 a) = x (ix3 h a 0) + Ideal.log (y (ix3 h a 0)) := by
  pointwise

theorem logSums_apply (s : FVec Ideal S8x4096x4096 .f32) (h : Fin 8) (a : Fin 4096) :
    logSums s (ix3 h 0 a) = largest s (ix3 h a 0) + Ideal.log (sums (exps s) (ix3 h a 0)) :=
  log_sum_apply (largest s) (sums (exps s)) h a

theorem rowDots_apply (x : FVec Ideal S8x4096x4096 .f32) (v : FVec Ideal S8x4096x128 .f32) (o : FVec Ideal S4096x1024 .f32) (h : Fin 8) (a : Fin 4096) :
    rowDots x v o (ix2 h a)
      = ∑ e : Fin 128, o (ix2 a (colH h e)) * ∑ b : Fin 4096, v (ix3 h b e) * Ideal.div (x (ix3 h a b)) (sums x (ix3 h a 0)) := by
  unfold rowDots
  pointwise
  refine Finset.sum_congr rfl fun e _ => congrArg (· * _) (congrArg o (congrArg (ix2 a) (Fin.ext ?_)))
  simp only [colH, mul_comm]

end Cert.AttnIdeal.Gen
-- ==== Proof.AttnMath.lean ====
module

public import proofs.«01_k».proof.Proof.Reals

/-! Causal attention's gradients over the reals, one head: what the kernel's formulas and the reference's come to. -/

@[expose] public section

noncomputable section

namespace Cert.AttnMath

open Idealize.ShloMosaic Cert.Reals

/-- The pattern of 192, the queries' width. -/
theorem width_f32 : Ideal.ofBits .f32 0x43400000#32 = ((192 : ℝ) : EReal) := by
  simp [Ideal.ofBits, Ideal.ieee, -EReal.coe_mul]; norm_num

/-- The largest of terms none of which is infinity and one of which is a real is a real. -/
theorem fold_real {ι : Type*} [Fintype ι] (f : ι → EReal) (h : ∀ i, f i ≠ ⊤) (j : ι) (hj : f j ≠ ⊥) :
    ∃ M : ℝ, Finset.fold max (⊥ : EReal) f Finset.univ = M := by
  have hs : Finset.fold max (⊥ : EReal) f Finset.univ = Finset.univ.sup f := rfl
  rw [hs]
  have hb : Finset.univ.sup f ≠ ⊥ := fun h0 => hj (le_bot_iff.mp (h0 ▸ Finset.le_sup (Finset.mem_univ j)))
  have ht : Finset.univ.sup f ≠ ⊤ := by
    refine ne_of_lt ((Finset.sup_lt_iff (bot_lt_top)).mpr fun i _ => lt_top_iff_ne_top.mpr (h i))
  exact ⟨_, (EReal.coe_toReal ht hb).symm⟩

variable (Q K : Fin 4096 → Fin 192 → ℝ) (W D : Fin 4096 → Fin 128 → ℝ)

/-- A score, and it under the mask. -/
def score (a b : Fin 4096) : ℝ := (∑ x, Q a x * K b x) / Real.sqrt 192
def masked (a b : Fin 4096) : EReal := if b ≤ a then (score Q K a b : EReal) else ⊥

theorem top_exists (a : Fin 4096) : ∃ M : ℝ, Finset.fold max (⊥ : EReal) (masked Q K a) Finset.univ = M := by
  refine fold_real _ (fun b => ?_) a ?_
  · unfold masked; split
    · exact EReal.coe_ne_top _
    · exact bot_ne_top
  · unfold masked; rw [if_pos le_rfl]; exact EReal.coe_ne_bot _

/-- A row's largest score, its exponentials, their sum, and the probabilities. -/
def top (a : Fin 4096) : ℝ := (top_exists Q K a).choose
theorem top_eq (a : Fin 4096) : Finset.fold max (⊥ : EReal) (masked Q K a) Finset.univ = (top Q K a : EReal) := (top_exists Q K a).choose_spec
def expo (a b : Fin 4096) : ℝ := if b ≤ a then Real.exp (score Q K a b - top Q K a) else 0
def total (a : Fin 4096) : ℝ := ∑ b, expo Q K a b
def prob (a b : Fin 4096) : ℝ := expo Q K a b / total Q K a

theorem expo_eq (a b : Fin 4096) : Ideal.exp (masked Q K a b - (top Q K a : EReal)) = (expo Q K a b : EReal) := by
  unfold masked expo
  split
  · rw [← EReal.coe_sub, Ideal.exp_coe]
  · simp

theorem total_pos (a : Fin 4096) : 0 < total Q K a := by
  refine Finset.sum_pos' (fun b _ => ?_) ⟨a, Finset.mem_univ _, ?_⟩
  · unfold expo; split
    · exact (Real.exp_pos _).le
    · exact le_rfl
  · unfold expo; rw [if_pos le_rfl]; exact Real.exp_pos _

/-- The gradient of a probability, and of a score before it is scaled. -/
def dprob (a b : Fin 4096) : ℝ := ∑ x, W b x * D a x
def mean (a : Fin 4096) : ℝ := ∑ b, prob Q K a b * dprob W D a b
def dscore (a b : Fin 4096) : ℝ := prob Q K a b * (dprob W D a b - mean Q K W D a) / Real.sqrt 192

/-- The reference's own form of it. -/
theorem dscore_ref (a b : Fin 4096) :
    dscore Q K W D a b
      = (if b ≤ a then (dprob W D a b / total Q K a + -∑ x, dprob W D a x * (1 / (total Q K a * total Q K a)) * expo Q K a x) * expo Q K a b else 0)
        / Real.sqrt 192 := by
  have h := (total_pos Q K a).ne'
  unfold dscore
  congr 1
  split
  · have : ∑ x, dprob W D a x * (1 / (total Q K a * total Q K a)) * expo Q K a x = mean Q K W D a / total Q K a := by
      unfold mean prob
      rw [Finset.sum_div]
      exact Finset.sum_congr rfl fun x _ => by field_simp
    rw [this]
    unfold prob
    field_simp
    ring
  · next hb => unfold prob expo; rw [if_neg hb]; simp

/-- The kernel's weight: a power of two of the scaled score less the row's log sum. -/
theorem weight_eq (a b : Fin 4096) :
    (if a < b then (0 : EReal) else Ideal.exp2 (((∑ x, K b x * Q a x : ℝ) : EReal) * (((Real.sqrt 192)⁻¹ * (Real.log 2)⁻¹ : ℝ) : EReal)
        - ((top Q K a + Real.log (total Q K a) : ℝ) : EReal) * (((Real.log 2)⁻¹ : ℝ) : EReal))) = (prob Q K a b : EReal) := by
  unfold prob expo
  by_cases h : a < b
  · rw [if_pos h, if_neg (not_le.mpr h)]; simp
  · rw [if_neg h, if_pos (not_lt.mp h), ← EReal.coe_mul, ← EReal.coe_mul, ← EReal.coe_sub, Ideal.exp2_coe]
    congr 1
    have hl : Real.log 2 ≠ 0 := (Real.log_pos one_lt_two).ne'
    have ht := total_pos Q K a
    change (2 : ℝ) ^ (_ : ℝ) = _
    rw [Real.rpow_def_of_pos two_pos]
    have : Real.log 2 * ((∑ x, K b x * Q a x) * ((Real.sqrt 192)⁻¹ * (Real.log 2)⁻¹) - (top Q K a + Real.log (total Q K a)) * (Real.log 2)⁻¹)
        = score Q K a b - top Q K a - Real.log (total Q K a) := by
      unfold score
      rw [show ∑ x, K b x * Q a x = ∑ x, Q a x * K b x from Finset.sum_congr rfl fun x _ => mul_comm _ _]
      field_simp
      ring
    rw [this, Real.exp_sub, Real.exp_log ht]

/-- The kernel's row sums of the output times its gradient. -/
theorem mean_eq (a : Fin 4096) : ∑ x, D a x * ∑ b, W b x * prob Q K a b = mean Q K W D a := by
  unfold mean dprob
  simp only [Finset.mul_sum]
  rw [Finset.sum_comm]
  exact Finset.sum_congr rfl fun b _ => Finset.sum_congr rfl fun x _ => by ring

end Cert.AttnMath
-- ==== Proof.AttnIdealReal.lean ====
module

public import proofs.«01_k».proof.Proof.AttnIdealHost
public import proofs.«01_k».proof.Proof.AttnMath

/-! The three gradients over the reals, where the arguments are real. -/

@[expose] public section

set_option maxRecDepth 16384

noncomputable section

namespace Cert.AttnIdeal.Gen

open Cert.AttnIdeal Cert.AttnIdeal.Gen.Tile Cert.Reals Cert.AttnMath
open Idealize.ShloMosaic Idealize.ShloMosaic.TcCoe Idealize.ShloMosaic.Tactic

/-- The three named constants' values. -/
theorem scaleLog_eq : scaleLog = (((Real.sqrt 192)⁻¹ * (Real.log 2)⁻¹ : ℝ) : EReal) := IdealRules.named_const.ideal_named_scalar κ _ _ _ rfl
theorem logE_eq : logE = (((Real.log 2)⁻¹ : ℝ) : EReal) := IdealRules.named_const.ideal_named_scalar κ _ _ _ rfl
theorem scale_eq : scale = (((Real.sqrt 192)⁻¹ : ℝ) : EReal) := IdealRules.named_const.ideal_named_scalar κ _ _ _ rfl

variable (m : (ℓ : Loc nD τ sig) → Buf (Elt Ideal) ℓ) (c : Dev nD)
variable (Q K : Fin 8 → Fin 4096 → Fin 192 → ℝ) (W D : Fin 8 → Fin 4096 → Fin 128 → ℝ)
  (hQ : ∀ h a x, m ((c : Thread nD τ).loc main_arg0) (ix3 h a x) = (Q h a x : EReal))
  (hK : ∀ h a x, m ((c : Thread nD τ).loc main_arg1) (ix3 h a x) = (K h a x : EReal))
  (hW : ∀ h a x, m ((c : Thread nD τ).loc main_arg2) (ix3 h a x) = (W h a x : EReal))
  (hD : ∀ h a x, m ((c : Thread nD τ).loc main_arg3) (ix2 a (colH h x)) = (D h a x : EReal))

abbrev sc : FVec Ideal S8x4096x4096 .f32 := scores (m ((c : Thread nD τ).loc main_arg0)) (m ((c : Thread nD τ).loc main_arg1))

theorem root_ne : Real.sqrt 192 ≠ 0 := (Real.sqrt_pos.mpr (by norm_num)).ne'

include hQ hK in
theorem scores_real (h : Fin 8) (a b : Fin 4096) : sc m c (ix3 h a b) = masked (Q h) (K h) a b := by
  unfold sc
  rw [scores_apply, width_f32, Ideal.sqrt_coe, if_neg (show ¬ (192 : ℝ) < 0 by norm_num)]
  simp only [hQ, hK, ← EReal.coe_mul, coe_sum, div_real _ root_ne]
  rfl

include hQ hK in
theorem largest_real (h : Fin 8) (a : Fin 4096) : largest (sc m c) (ix3 h a 0) = (top (Q h) (K h) a : EReal) := by
  rw [largest_apply, ← top_eq]
  exact congrArg (fun f => Finset.fold max (⊥ : EReal) f Finset.univ) (funext fun b => scores_real m c Q K hQ hK h a b)

include hQ hK in
theorem exps_real (h : Fin 8) (a b : Fin 4096) : exps (sc m c) (ix3 h a b) = (expo (Q h) (K h) a b : EReal) := by
  rw [exps_apply, scores_real m c Q K hQ hK, largest_real m c Q K hQ hK, expo_eq]

include hQ hK in
theorem sums_real (h : Fin 8) (a : Fin 4096) : sums (exps (sc m c)) (ix3 h a 0) = (total (Q h) (K h) a : EReal) := by
  rw [sums_apply]
  simp only [exps_real m c Q K hQ hK, coe_sum]
  rfl

include hQ hK in
theorem lse_real (h : Fin 8) (a : Fin 4096) : arrL m c (ix3 h 0 a) = ((top (Q h) (K h) a + Real.log (total (Q h) (K h) a) : ℝ) : EReal) := by
  rw [congrFun (arrL_eq m c) (ix3 h 0 a), logSums_apply, largest_real m c Q K hQ hK, sums_real m c Q K hQ hK, Ideal.log_coe,
    if_neg (not_le.mpr (total_pos _ _ _)), EReal.coe_add]

include hQ hK hW hD in
theorem mean_real (h : Fin 8) (a : Fin 4096) : arrD m c (ix2 h a) = (mean (Q h) (K h) (W h) (D h) a : EReal) := by
  rw [congrFun (arrD_eq m c) (ix2 h a), rowDots_apply, ← mean_eq]
  simp only [hD, hW, exps_real m c Q K hQ hK, sums_real m c Q K hQ hK, div_real _ (total_pos _ _ _).ne', ← EReal.coe_mul, coe_sum]
  rfl

include hQ hK in
theorem weight_real (h : Fin 8) (a b : Fin 4096) : WT m c h b a = (prob (Q h) (K h) a b : EReal) := by
  unfold WT
  rw [← weight_eq, lse_real m c Q K hQ hK, scaleLog_eq, logE_eq]
  simp only [arrQ_eq, arrK_eq, hQ, hK, ← EReal.coe_mul, coe_sum]

include hQ hK hW hD in
theorem grad_real (h : Fin 8) (a b : Fin 4096) : GR m c h b a = (dscore (Q h) (K h) (W h) (D h) a b : EReal) := by
  unfold GR
  rw [weight_real m c Q K hQ hK, mean_real m c Q K W D hQ hK hW hD, scale_eq, arrO_eq]
  simp only [arrV_eq, hW, hD, ← EReal.coe_mul, coe_sum, ← EReal.coe_sub]
  rfl

include hQ hK hW hD in
theorem DQ_real (h : Fin 8) (a : Fin 4096) (e : Fin 192) :
    DQ m c h a e = ((∑ b, dscore (Q h) (K h) (W h) (D h) a b * K h b e : ℝ) : EReal) := by
  unfold DQ
  simp only [grad_real m c Q K W D hQ hK hW hD, arrK_eq, hK, ← EReal.coe_mul, coe_sum]

include hQ hK hW hD in
theorem DK_real (h : Fin 8) (b : Fin 4096) (e : Fin 192) :
    DK m c h b e = ((∑ a, dscore (Q h) (K h) (W h) (D h) a b * Q h a e : ℝ) : EReal) := by
  unfold DK
  simp only [grad_real m c Q K W D hQ hK hW hD, arrQ_eq, hQ, ← EReal.coe_mul, coe_sum]

include hQ hK hD in
theorem DV_real (h : Fin 8) (b : Fin 4096) (e : Fin 128) :
    DV m c h b e = ((∑ a, prob (Q h) (K h) a b * D h a e : ℝ) : EReal) := by
  unfold DV
  simp only [weight_real m c Q K hQ hK, arrO_eq, hD, ← EReal.coe_mul, coe_sum]

end Cert.AttnIdeal.Gen
-- ==== Proof.AttnReference.lean ====
module

public import proofs.«01_k».proof.Proof.Gen.AttnRefIdeal.Run
public import proofs.«01_k».proof.Proof.AttnMath
public import Idealize.ShloMosaic.Lib.Pipeline.ValueKit
public import Idealize.ShloMosaic.Lib.Pointwise
public import Idealize.ShloMosaic.Lib.IdealHost
public import Idealize.ShloMosaic.Lib.WordCmp

/-! The reference's three gradients over the reals, where the arguments are real. -/

@[expose] public section

set_option maxRecDepth 16384

noncomputable section

namespace Cert.AttnRefIdeal.Value

open Cert.AttnRefIdeal Cert.AttnRefIdeal.Gen Cert.Reals Cert.AttnMath
open Idealize.ShloMosaic Idealize.ShloMosaic.TcCoe

/-! ### The reference's lines, by name -/

def mask : IVec S8x4096x4096 1 :=
  broadcastInDim S8x4096x4096 ![1, 2] bcast_S4096x4096_S8x4096x4096_1_2
    (cmpi .sge
      (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0))))

def widthRoot : FVec Ideal S8x4096x4096 .f32 :=
  broadcastInDim S8x4096x4096 ![] bcast_S_S8x4096x4096 (Host.sqrt (constant S_ .f32 0x43400000#32))

def maskedScores (q k : FVec Ideal S8x4096x192 .f32) : FVec Ideal S8x4096x4096 .f32 :=
  select mask (Host.divf (Host.dotGeneral dot_S8x4096x192_S8x4096x192_S8x4096x4096_2_2_1_1_0_0 none q k) widthRoot)
    (broadcastInDim S8x4096x4096 ![] bcast_S_S8x4096x4096 (id (constant S_ .f32 0xFF800000#32)))

def rowLargest (s : FVec Ideal S8x4096x4096 .f32) : FVec Ideal S8x4096 .f32 :=
  Host.reduce FloatOps.maximumf s (constant S_ .f32 0xFF800000#32) reducesTo_S8x4096x4096_S8x4096_d2 h_S_

/-- The larger of nothing and a row's largest. -/
def rowTop (s : FVec Ideal S8x4096x4096 .f32) : FVec Ideal S8x4096x1 .f32 :=
  broadcastInDim S8x4096x1 ![0, 1] bcast_S8x4096_S8x4096x1_0_1
    (maximumf (broadcastInDim S8x4096 ![] bcast_S_S8x4096 (constant S_ .f32 0xFF800000#32)) (rowLargest s))

def along (x : FVec Ideal S8x4096x1 .f32) : FVec Ideal S8x4096x4096 .f32 :=
  broadcastInDim S8x4096x4096 ![0, 1, 2] bcast_S8x4096x1_S8x4096x4096_0_1_2 x

def rowExps (s : FVec Ideal S8x4096x4096 .f32) : FVec Ideal S8x4096x4096 .f32 := Host.exp (subf s (along (rowTop s)))

def rowSum (x : FVec Ideal S8x4096x4096 .f32) : FVec Ideal S8x4096x1 .f32 :=
  broadcastInDim S8x4096x1 ![0, 1] bcast_S8x4096_S8x4096x1_0_1
    (Host.reduceAdd x (constant S_ .f32 0x00000000#32) reducesTo_S8x4096x4096_S8x4096_d2 h_S_)

/-- The output's gradient, a head's columns as rows. -/
def heads (o : FVec Ideal S4096x1024 .f32) : FVec Ideal S8x128x4096 .f32 :=
  transpose S8x128x4096 [1, 2, 0] (shapeCast S4096x8x128 o shapeCasts_S4096x1024_S4096x8x128) transposes_S4096x8x128_S8x128x4096_1_2_0

/-- The products of it with the values' rows. -/
def prods (v : FVec Ideal S8x4096x128 .f32) (o : FVec Ideal S4096x1024 .f32) : FVec Ideal S8x4096x4096 .f32 :=
  Host.dotGeneral dot_S8x128x4096_S8x4096x128_S8x4096x4096_1_2_2_1_0_0 none (heads o) v

/-- What the quotient's denominator gets. -/
def below (g x : FVec Ideal S8x4096x4096 .f32) : FVec Ideal S8x4096 .f32 :=
  Host.reduceAdd (Host.negf (shapeCast S8x4096x1
    (Host.reduceAdd
      (mulf (mulf g (along (Host.divf (broadcastInDim S8x4096x1 ![] bcast_S_S8x4096x1 (constant S_ .f32 0x3F800000#32)) (mulf (rowSum x) (rowSum x))))) x)
      (constant S_ .f32 0x00000000#32) reducesTo_S8x4096x4096_S8x4096_d2 h_S_) shapeCasts_S8x4096_S8x4096x1))
    (constant S_ .f32 0x00000000#32) reducesTo_S8x4096x1_S8x4096_d2 h_S_

/-- The products' gradient, before the mask's lines. -/
def inner (g x : FVec Ideal S8x4096x4096 .f32) : FVec Ideal S8x4096x4096 .f32 :=
  mulf (addf (Host.divf g (along (rowSum x))) (broadcastInDim S8x4096x4096 ![0, 1] bcast_S8x4096_S8x4096x4096_0_1 (below g x))) x

/-- The gradient of the scores' products. -/
def scoreGrad (g x : FVec Ideal S8x4096x4096 .f32) : FVec Ideal S8x4096x4096 .f32 :=
  Host.divf (select mask (inner g x) (broadcastInDim S8x4096x4096 ![] bcast_S_S8x4096x4096 (constant S_ .f32 0x00000000#32))) widthRoot

variable (m : (ℓ : Loc nD τ sig) → Buf (Elt Ideal) ℓ) (c : Dev nD)

abbrev xs : FVec Ideal S8x4096x4096 .f32 :=
  rowExps (maskedScores (m ((c.tc : Thread nD τ).loc main_arg0)) (m ((c.tc : Thread nD τ).loc main_arg1)))
abbrev gs : FVec Ideal S8x4096x4096 .f32 := prods (m ((c.tc : Thread nD τ).loc main_arg2)) (m ((c.tc : Thread nD τ).loc main_arg3))

theorem out0_eq : res_out0 m c = truncf .bf16 (Host.dotGeneral (φ₂ := .f32) dot_S8x4096x4096_S8x4096x192_S8x4096x192_2_1_1_2_0_0 none
    (scoreGrad (gs m c) (xs m c)) (m ((c.tc : Thread nD τ).loc main_arg1) : FVec Ideal S8x4096x192 .f32)) bitsLt_bf16_f32 := rfl
theorem out1_eq : res_out1 m c = truncf .bf16 (Host.dotGeneral (φ₂ := .f32) dot_S8x4096x4096_S8x4096x192_S8x4096x192_1_1_2_2_0_0 none
    (scoreGrad (gs m c) (xs m c)) (m ((c.tc : Thread nD τ).loc main_arg0) : FVec Ideal S8x4096x192 .f32)) bitsLt_bf16_f32 := rfl
theorem out2_eq : res_out2 m c = truncf .bf16 (transpose S8x4096x128 [0, 2, 1]
    (Host.dotGeneral dot_S8x128x4096_S8x4096x4096_S8x128x4096_2_1_1_2_0_0 none (heads (m ((c.tc : Thread nD τ).loc main_arg3)))
      (Host.divf (xs m c) (along (rowSum (xs m c))))) transposes_S8x128x4096_S8x4096x128_0_2_1) bitsLt_bf16_f32 := rfl

/-! ### Read at an index -/

/-- A column of the heads' outputs by its head and its place there. -/
def col (h : Fin 8) (e : Fin 128) : Fin 1024 := ⟨128 * h.val + e.val, by have := h.isLt; have := e.isLt; omega⟩

theorem widthRoot_apply (i) : widthRoot i = ((Real.sqrt 192 : ℝ) : EReal) := by
  unfold widthRoot
  pointwise [width_f32]
  rw [Ideal.sqrt_coe, if_neg (show ¬ (192 : ℝ) < 0 by norm_num)]

theorem select_mask (x y : FVec Ideal S8x4096x4096 .f32) (h : Fin 8) (a b : Fin 4096) :
    select mask x y (ix3 h a b) = if b ≤ a then x (ix3 h a b) else y (ix3 h a b) := by
  have ha := a.isLt
  have hb := b.isLt
  unfold mask
  pointwise
  simp (disch := word_cmp_side) only [hlo_ix]
  simp only [Fin.val_fin_le]

theorem maskedScores_apply (q k : FVec Ideal S8x4096x192 .f32) (h : Fin 8) (a b : Fin 4096) :
    maskedScores q k (ix3 h a b) = if b ≤ a then Ideal.div (∑ x : Fin 192, q (ix3 h a x) * k (ix3 h b x)) ((Real.sqrt 192 : ℝ) : EReal) else ⊥ := by
  unfold maskedScores
  rw [select_mask]
  pointwise [widthRoot_apply, id]
  rw [bot_f32]

theorem rowLargest_apply (s : FVec Ideal S8x4096x4096 .f32) (h : Fin 8) (a : Fin 4096) :
    rowLargest s (ix2 h a) = Finset.fold max (⊥ : EReal) (fun b => s (ix3 h a b)) Finset.univ := by
  unfold rowLargest
  pointwise [bot_f32]

theorem column_apply (x : FVec Ideal S8x4096 .f32) (h : Fin 8) (a : Fin 4096) :
    broadcastInDim S8x4096x1 ![0, 1] bcast_S8x4096_S8x4096x1_0_1
      (maximumf (broadcastInDim S8x4096 ![] bcast_S_S8x4096 (constant S_ .f32 0xFF800000#32)) x) (ix3 h a 0) = max (⊥ : EReal) (x (ix2 h a)) := by
  pointwise [bot_f32]

theorem rowTop_apply (s : FVec Ideal S8x4096x4096 .f32) (h : Fin 8) (a : Fin 4096) :
    rowTop s (ix3 h a 0) = Finset.fold max (⊥ : EReal) (fun b => s (ix3 h a b)) Finset.univ := by
  rw [← rowLargest_apply, ← max_eq_right (bot_le (a := rowLargest s (ix2 h a))), ← column_apply]
  rfl

theorem along_apply (x : FVec Ideal S8x4096x1 .f32) (h : Fin 8) (a b : Fin 4096) : along x (ix3 h a b) = x (ix3 h a 0) := by
  unfold along
  pointwise

theorem exp_sub_apply (s t : FVec Ideal S8x4096x4096 .f32) (h : Fin 8) (a b : Fin 4096) :
    Host.exp (subf s t) (ix3 h a b) = Ideal.exp (s (ix3 h a b) - t (ix3 h a b)) := by
  pointwise

theorem rowExps_apply (s : FVec Ideal S8x4096x4096 .f32) (h : Fin 8) (a b : Fin 4096) :
    rowExps s (ix3 h a b) = Ideal.exp (s (ix3 h a b) - rowTop s (ix3 h a 0)) := by
  rw [← along_apply (rowTop s) h a b]
  exact exp_sub_apply _ _ h a b

theorem rowSum_apply (x : FVec Ideal S8x4096x4096 .f32) (h : Fin 8) (a : Fin 4096) : rowSum x (ix3 h a 0) = ∑ b, x (ix3 h a b) := by
  unfold rowSum
  pointwise

theorem heads_apply (o : FVec Ideal S4096x1024 .f32) (h : Fin 8) (e : Fin 128) (a : Fin 4096) : heads o (ix3 h e a) = o (ix2 a (col h e)) := by
  unfold heads
  pointwise
  exact congrArg o (congrArg (ix2 a) (Fin.ext (by simp only [col, mul_comm])))

theorem prods_apply (v : FVec Ideal S8x4096x128 .f32) (o : FVec Ideal S4096x1024 .f32) (h : Fin 8) (a b : Fin 4096) :
    prods v o (ix3 h a b) = ∑ e : Fin 128, o (ix2 a (col h e)) * v (ix3 h b e) := by
  simp only [← heads_apply]
  unfold prods
  pointwise

/-- One quotient, laid along the rows. -/
theorem recip_apply (y : FVec Ideal S8x4096x1 .f32) (h : Fin 8) (a : Fin 4096) :
    Host.divf (broadcastInDim S8x4096x1 ![] bcast_S_S8x4096x1 (constant S_ .f32 0x3F800000#32)) (mulf y y) (ix3 h a 0)
      = Ideal.div ((1 : ℝ) : EReal) (y (ix3 h a 0) * y (ix3 h a 0)) := by
  pointwise
  rw [EReal.coe_one]

theorem neg_sum_apply (z : FVec Ideal S8x4096x4096 .f32) (h : Fin 8) (a : Fin 4096) :
    Host.reduceAdd (Host.negf (shapeCast S8x4096x1
      (Host.reduceAdd z (constant S_ .f32 0x00000000#32) reducesTo_S8x4096x4096_S8x4096_d2 h_S_) shapeCasts_S8x4096_S8x4096x1))
      (constant S_ .f32 0x00000000#32) reducesTo_S8x4096x1_S8x4096_d2 h_S_ (ix2 h a) = -∑ b, z (ix3 h a b) := by
  pointwise
  exact Fin.sum_univ_one _

theorem mul_apply (x y : FVec Ideal S8x4096x4096 .f32) (i) : mulf x y i = x i * y i := by
  pointwise

theorem below_apply (g x : FVec Ideal S8x4096x4096 .f32) (h : Fin 8) (a : Fin 4096) :
    below g x (ix2 h a) = -∑ b, g (ix3 h a b) * Ideal.div ((1 : ℝ) : EReal) (rowSum x (ix3 h a 0) * rowSum x (ix3 h a 0)) * x (ix3 h a b) := by
  refine (neg_sum_apply _ h a).trans ?_
  simp only [mul_apply, along_apply, ← recip_apply]

theorem inner_step (g x y : FVec Ideal S8x4096x4096 .f32) (z : FVec Ideal S8x4096 .f32) (h : Fin 8) (a b : Fin 4096) :
    mulf (addf (Host.divf g y) (broadcastInDim S8x4096x4096 ![0, 1] bcast_S8x4096_S8x4096x4096_0_1 z)) x (ix3 h a b)
      = (Ideal.div (g (ix3 h a b)) (y (ix3 h a b)) + z (ix2 h a)) * x (ix3 h a b) := by
  pointwise

theorem inner_apply (g x : FVec Ideal S8x4096x4096 .f32) (h : Fin 8) (a b : Fin 4096) :
    inner g x (ix3 h a b) = (Ideal.div (g (ix3 h a b)) (rowSum x (ix3 h a 0)) + below g x (ix2 h a)) * x (ix3 h a b) := by
  rw [← along_apply (rowSum x) h a b]
  exact inner_step g x _ _ h a b

theorem quot_apply (x y : FVec Ideal S8x4096x4096 .f32) (i) : Host.divf x y i = Ideal.div (x i) (y i) := by
  pointwise

theorem zeros_apply (i) : broadcastInDim S8x4096x4096 ![] bcast_S_S8x4096x4096 (constant (F := Ideal) S_ .f32 0x00000000#32) i = (0 : EReal) := by
  pointwise

theorem scoreGrad_apply (g x : FVec Ideal S8x4096x4096 .f32) (h : Fin 8) (a b : Fin 4096) :
    scoreGrad g x (ix3 h a b) = Ideal.div (if b ≤ a then inner g x (ix3 h a b) else 0) ((Real.sqrt 192 : ℝ) : EReal) := by
  unfold scoreGrad
  rw [quot_apply, select_mask, widthRoot_apply, zeros_apply]

theorem dotQ_apply (z : FVec Ideal S8x4096x4096 .f32) (k : FVec Ideal S8x4096x192 .f32) (h : Fin 8) (a : Fin 4096) (e : Fin 192) :
    truncf .bf16 (Host.dotGeneral dot_S8x4096x4096_S8x4096x192_S8x4096x192_2_1_1_2_0_0 none z k) bitsLt_bf16_f32 (ix3 h a e)
      = ∑ b, z (ix3 h a b) * k (ix3 h b e) := by
  pointwise

theorem dotK_apply (z : FVec Ideal S8x4096x4096 .f32) (q : FVec Ideal S8x4096x192 .f32) (h : Fin 8) (b : Fin 4096) (e : Fin 192) :
    truncf .bf16 (Host.dotGeneral dot_S8x4096x4096_S8x4096x192_S8x4096x192_1_1_2_2_0_0 none z q) bitsLt_bf16_f32 (ix3 h b e)
      = ∑ a, z (ix3 h a b) * q (ix3 h a e) := by
  pointwise

theorem dotV_apply (o : FVec Ideal S8x128x4096 .f32) (z : FVec Ideal S8x4096x4096 .f32) (h : Fin 8) (b : Fin 4096) (e : Fin 128) :
    truncf .bf16 (transpose S8x4096x128 [0, 2, 1]
      (Host.dotGeneral dot_S8x128x4096_S8x4096x4096_S8x128x4096_2_1_1_2_0_0 none o z) transposes_S8x128x4096_S8x4096x128_0_2_1) bitsLt_bf16_f32 (ix3 h b e)
      = ∑ a, o (ix3 h e a) * z (ix3 h a b) := by
  pointwise

/-! ### Over the reals -/

variable (Q K : Fin 8 → Fin 4096 → Fin 192 → ℝ) (W D : Fin 8 → Fin 4096 → Fin 128 → ℝ)
  (hQ : ∀ h a x, m ((c.tc : Thread nD τ).loc main_arg0) (ix3 h a x) = (Q h a x : EReal))
  (hK : ∀ h a x, m ((c.tc : Thread nD τ).loc main_arg1) (ix3 h a x) = (K h a x : EReal))
  (hW : ∀ h a x, m ((c.tc : Thread nD τ).loc main_arg2) (ix3 h a x) = (W h a x : EReal))
  (hD : ∀ h a x, m ((c.tc : Thread nD τ).loc main_arg3) (ix2 a (col h x)) = (D h a x : EReal))

theorem root_ne : Real.sqrt 192 ≠ 0 := (Real.sqrt_pos.mpr (by norm_num)).ne'

include hQ hK in
theorem scores_real (h : Fin 8) (a b : Fin 4096) :
    maskedScores (m ((c.tc : Thread nD τ).loc main_arg0)) (m ((c.tc : Thread nD τ).loc main_arg1)) (ix3 h a b) = masked (Q h) (K h) a b := by
  rw [maskedScores_apply]
  simp only [hQ, hK, ← EReal.coe_mul, coe_sum, div_real _ root_ne]
  rfl

include hQ hK in
theorem xs_real (h : Fin 8) (a b : Fin 4096) : xs m c (ix3 h a b) = (expo (Q h) (K h) a b : EReal) := by
  unfold xs
  rw [rowExps_apply, scores_real m c Q K hQ hK, rowTop_apply, ← expo_eq, ← top_eq]
  exact congrArg (fun f => Ideal.exp (_ - Finset.fold max (⊥ : EReal) f Finset.univ)) (funext fun b => scores_real m c Q K hQ hK h a b)

include hQ hK in
theorem sums_real (h : Fin 8) (a : Fin 4096) : rowSum (xs m c) (ix3 h a 0) = (total (Q h) (K h) a : EReal) := by
  rw [rowSum_apply]
  simp only [xs_real m c Q K hQ hK, coe_sum]
  rfl

include hW hD in
theorem gs_real (h : Fin 8) (a b : Fin 4096) : gs m c (ix3 h a b) = (dprob (W h) (D h) a b : EReal) := by
  unfold gs
  rw [prods_apply]
  simp only [hW, hD, ← EReal.coe_mul, coe_sum]
  exact congrArg _ (Finset.sum_congr rfl fun e _ => mul_comm _ _)

include hQ hK hW hD in
theorem grad_real (h : Fin 8) (a b : Fin 4096) :
    scoreGrad (gs m c) (xs m c) (ix3 h a b) = (dscore (Q h) (K h) (W h) (D h) a b : EReal) := by
  have ht := (total_pos (Q h) (K h) a).ne'
  rw [scoreGrad_apply, inner_apply, below_apply, dscore_ref]
  simp only [sums_real m c Q K hQ hK, gs_real m c W D hW hD, xs_real m c Q K hQ hK, ← EReal.coe_mul, div_real _ ht, div_real _ (mul_ne_zero ht ht),
    coe_sum, ← EReal.coe_neg, ← EReal.coe_add]
  rw [← div_real _ root_ne]
  split <;> rfl

include hQ hK hW hD in
theorem out0_real (h : Fin 8) (a : Fin 4096) (e : Fin 192) :
    res_out0 m c (ix3 h a e) = ((∑ b, dscore (Q h) (K h) (W h) (D h) a b * K h b e : ℝ) : EReal) := by
  rw [out0_eq, dotQ_apply]
  simp only [grad_real m c Q K W D hQ hK hW hD, hK, ← EReal.coe_mul, coe_sum]

include hQ hK hW hD in
theorem out1_real (h : Fin 8) (b : Fin 4096) (e : Fin 192) :
    res_out1 m c (ix3 h b e) = ((∑ a, dscore (Q h) (K h) (W h) (D h) a b * Q h a e : ℝ) : EReal) := by
  rw [out1_eq, dotK_apply]
  simp only [grad_real m c Q K W D hQ hK hW hD, hQ, ← EReal.coe_mul, coe_sum]

include hQ hK hD in
theorem out2_real (h : Fin 8) (b : Fin 4096) (e : Fin 128) :
    res_out2 m c (ix3 h b e) = ((∑ a, prob (Q h) (K h) a b * D h a e : ℝ) : EReal) := by
  rw [out2_eq, dotV_apply]
  simp only [heads_apply, quot_apply, along_apply, hD, xs_real m c Q K hQ hK, sums_real m c Q K hQ hK, div_real _ (total_pos _ _ _).ne', ← EReal.coe_mul, coe_sum]
  exact congrArg _ (Finset.sum_congr rfl fun a _ => mul_comm _ _)

end Cert.AttnRefIdeal.Value
-- ==== Proof.AttnGrad.lean ====
module

public import proofs.«01_k».proof.Proof.AttnIdealReal
public import proofs.«01_k».proof.Proof.AttnReference
public import proofs.«01_k».proof.Defs
public import Idealize.ShloMosaic.Lib.Claim

/-! The gradients of the attention's arguments: the kernel's are the reference's at finite arguments. -/

@[expose] public section

set_option maxRecDepth 16384

noncomputable section

namespace Cert

open Idealize.ShloMosaic Idealize.ShloMosaic.TcCoe
open Cert.Reals

section
variable (x : FVec Ideal Pre_attn_finite.S8x4096x192 .f32) (y : FVec Ideal Pre_attn_finite.S8x4096x192 .f32)
  (z : FVec Ideal Pre_attn_finite.S8x4096x128 .f32) (w : FVec Ideal Pre_attn_finite.S4096x1024 .f32) [Pre_attn_finite.Facts]

theorem queries_real (p : (Pre_attn_finite.fn (F := Ideal) x y z w).1 = fun _ => 1#1) (h : Fin 8) (a : Fin 4096) (e : Fin 192) :
    ∃ r : ℝ, x (ix3 h a e) = (r : EReal) := by
  refine real_of_finite _ ?_
  have := congrFun p (ix3 h a e)
  unfold Pre_attn_finite.fn at this
  pointwise [top_f32] at this
  exact this

theorem keys_real (p : (Pre_attn_finite.fn (F := Ideal) x y z w).2.1 = fun _ => 1#1) (h : Fin 8) (a : Fin 4096) (e : Fin 192) :
    ∃ r : ℝ, y (ix3 h a e) = (r : EReal) := by
  refine real_of_finite _ ?_
  have := congrFun p (ix3 h a e)
  unfold Pre_attn_finite.fn at this
  pointwise [top_f32] at this
  exact this

theorem values_real (p : (Pre_attn_finite.fn (F := Ideal) x y z w).2.2.1 = fun _ => 1#1) (h : Fin 8) (a : Fin 4096) (e : Fin 128) :
    ∃ r : ℝ, z (ix3 h a e) = (r : EReal) := by
  refine real_of_finite _ ?_
  have := congrFun p (ix3 h a e)
  unfold Pre_attn_finite.fn at this
  pointwise [top_f32] at this
  exact this

theorem grads_real (p : (Pre_attn_finite.fn (F := Ideal) x y z w).2.2.2 = fun _ => 1#1) (a : Fin 4096) (e : Fin 1024) :
    ∃ r : ℝ, w (ix2 a e) = (r : EReal) := by
  refine real_of_finite _ ?_
  have := congrFun p (ix2 a e)
  unfold Pre_attn_finite.fn at this
  pointwise [top_f32] at this
  exact this
end

open Cert.AttnIdeal.Gen in
/-- The kernel's three gradients are the reference's, at finite arguments. -/
theorem attn_algebraic [hPre : Pre_attn_finite.Facts] : algebraic_AttnIdeal_AttnRefIdeal_pre_attn_finite := by
  intro m g m' g' hpre hag
  refine ⟨fun c i => DQ m c (i 0) (i 1) (i 2), fun c i => DK m c (i 0) (i 1) (i 2), fun c i => DV m c (i 0) (i 1) (i 2), ?_, ?_⟩
  · refine (θ_run _ _ _).mono (fun r h c => ?_) (θ_run_and (run_main m g) (unchanged m g))
    obtain ⟨hf, hu⟩ := h
    exact ⟨((hf c).1 6).trans (final6 m c), ((hf c).1 7).trans (final7 m c), ((hf c).1 8).trans (final8 m c), hu c⟩
  · refine (θ_run _ _ _).mono (fun r h c => ?_) (AttnRefIdeal.Value.run m' g')
    obtain ⟨h0, h1, h2, hu⟩ := h c
    obtain ⟨p0, p1, p2, p3⟩ := hpre c
    obtain ⟨e0, e1, e2, e3⟩ := hag c
    choose Q hQ using queries_real _ _ _ _ p0
    choose K hK using keys_real _ _ _ _ p1
    choose W hW using values_real _ _ _ _ p2
    choose D hD using grads_real _ _ _ _ p3
    refine ⟨h0.trans (funext fun i => ?_), h1.trans (funext fun i => ?_), h2.trans (funext fun i => ?_), hu⟩
    · obtain ⟨h, a, e, rfl⟩ : ∃ (h : Fin 8) (a : Fin 4096) (e : Fin 192), i = ix3 h a e := ⟨i 0, i 1, i 2, eq_ix3 i⟩
      refine (AttnRefIdeal.Value.out0_real m' c Q K W (fun h a x => D a (AttnRefIdeal.Value.col h x)) ?_ ?_ ?_ ?_ h a e).trans
        (DQ_real m c Q K W (fun h a x => D a (AttnRefIdeal.Value.col h x)) hQ hK hW (fun h a x => hD a _) h a e).symm
      · rw [e0]; exact hQ
      · rw [e1]; exact hK
      · rw [e2]; exact hW
      · rw [e3]; exact fun h a x => hD a _
    · obtain ⟨h, b, e, rfl⟩ : ∃ (h : Fin 8) (b : Fin 4096) (e : Fin 192), i = ix3 h b e := ⟨i 0, i 1, i 2, eq_ix3 i⟩
      refine (AttnRefIdeal.Value.out1_real m' c Q K W (fun h a x => D a (AttnRefIdeal.Value.col h x)) ?_ ?_ ?_ ?_ h b e).trans
        (DK_real m c Q K W (fun h a x => D a (AttnRefIdeal.Value.col h x)) hQ hK hW (fun h a x => hD a _) h b e).symm
      · rw [e0]; exact hQ
      · rw [e1]; exact hK
      · rw [e2]; exact hW
      · rw [e3]; exact fun h a x => hD a _
    · obtain ⟨h, b, e, rfl⟩ : ∃ (h : Fin 8) (b : Fin 4096) (e : Fin 128), i = ix3 h b e := ⟨i 0, i 1, i 2, eq_ix3 i⟩
      refine (AttnRefIdeal.Value.out2_real m' c Q K (fun h a x => D a (AttnRefIdeal.Value.col h x)) ?_ ?_ ?_ h b e).trans
        (DV_real m c Q K (fun h a x => D a (AttnRefIdeal.Value.col h x)) hQ hK (fun h a x => hD a _) h b e).symm
      · rw [e0]; exact hQ
      · rw [e1]; exact hK
      · rw [e3]; exact fun h a x => hD a _

/-- The kernel's three constants are the named ones. -/
theorem attn_preserves : preserves_Attn_AttnIdeal :=
  ⟨IdealRules.named_const.statement AttnIdeal.κ _ _ _ _ rfl, IdealRules.named_const.statement AttnIdeal.κ _ _ _ _ rfl, IdealRules.named_const.statement AttnIdeal.κ _ _ _ _ rfl⟩

end Cert

end
-- ==== Proof.AttnWhole.lean ====
module

public import proofs.«01_k».proof.Proof.AttnFrame
public import Idealize.ShloMosaic.Lib.StableHlo.RunRead
public import Idealize.ShloMosaic.Lib.Claim

/-! The attention gradient's whole program: the host lines, then the call, run from any memory. -/

@[expose] public section

set_option maxRecDepth 16384
set_option Elab.async false

noncomputable section

namespace Cert.Attn.Gen

open Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Bits) ℓ) (ρ : Dev nD → PrngReg)

/-! ## The whole program's run -/

/-- The buffers the host lines write, in order. -/
def written : List (Ref sig .tc) :=
  [main_c, main_c_0, main_v0, main_cst, main_v1, main_v2, main_v3, main_v4, main_v5, main_v6, main_v7, main_v8,
   main_v9, main_v10, main_cst_1, main_v11, main_v12, main_cst_2, main_v13, main_v14, main_v15, main_v16, main_v17,
   main_cst_3, main_v18, main_v19, main_v20, main_v21, main_v22, main_v23, main_v24, main_v25, main_v26, main_v27,
   main_v28, main_cst_4, main_v29, main_v30, main_v31, main_v32, main_v33, main_v34]

theorem hostOps0_writes : (hostOps0 : List (HloOp τ sig (Elt Bits))).map HloOp.writes = written.map fun r => {Proc.devRef (τ := τ) .tc r} := rfl
theorem hostOps0_fresh : (hostOps0 : List (HloOp τ sig (Elt Bits))).Forall fun op => op.fresh = ∅ :=
  StableHlo.forall_fresh_of_map rfl

/-- A buffer that no host line writes is as it was. -/
theorem V_kept (c : Dev nD) (b : Ref sig .tc) (hb : b ∉ written) : V m c b = m ((c : Thread nD τ).loc b) :=
  StableHlo.after_of_writes_sub hostOps0 _ (StableHlo.forall_writes_sub_of_map hostOps0_writes) hb

theorem V_rows (c : Dev nD) : V m c main_c = rows := by
  have h := StableHlo.after_last_write (ops := (hostOps0 : List (HloOp τ sig (Elt Bits)))) (i := 0) (written.drop 1) (r := main_c) rfl rfl
    (by decide) (fun b => m (c, b))
  refine h.trans ?_
  refine (StableHlo.nullary_result ..).trans ?_
  funext x; revert x; decide +kernel
theorem V_cols (c : Dev nD) : V m c main_c_0 = cols := by
  have h := StableHlo.after_last_write (ops := (hostOps0 : List (HloOp τ sig (Elt Bits)))) (i := 1) (written.drop 2) (r := main_c_0) rfl rfl
    (by decide) (fun b => m (c, b))
  refine h.trans ?_
  refine (StableHlo.nullary_result ..).trans ?_
  funext x; revert x; decide +kernel

theorem V_tables (c : Dev nD) : ∀ k : Fin 2, V m c (pre0.ref k) = tables k
  | 0 => V_rows m c
  | 1 => V_cols m c

/-- The two tables as the steps hold them. -/
theorem held_tables (c : Dev nD) : (Pipeline.ΦT (U := UR sig nD τ) pre0 (tables) c : sProp Res)
    = iprop((tabI.view.loc (c : Thread nD τ) ↦{fullShare.right} rows) ∗ (tabJ.view.loc (c : Thread nD τ) ↦{fullShare.right} cols)) := by
  unfold Pipeline.ΦT Pipeline.prefHeld
  rw [show (Finset.univ : Finset (Fin pre0.K)) = insert (0 : Fin 2) {(1 : Fin 2)} from by decide, bigSep_insert (by decide), bigSep_singleton]
  rfl

/-- At the start nothing is said of the accumulators. -/
theorem phi_intro (c : Dev nD) :
    iprop(Pipeline.ΦA (U := UR sig nD τ) (Val := Elt Bits) cfgA.spec c ∗ Pipeline.ΦT pre0 tables c) ⊢ (dats m 0 c).Φ 0 := by
  rewrite [show (dats m 0 c).Φ 0 = Phi m c 0 from rfl]
  rw [held_tables]
  unfold Pipeline.ΦA Phi
  rw [show Pipeline.scopedRest cfgA.spec c = _ from scopedRest0_eq c]
  iintro ⟨⟨⟨⟨%a, HA⟩, ⟨%b, HB⟩, ⟨%d, HD⟩⟩, Hr⟩, HI, HJ⟩
  isplitl [HA]
  · iexists a; isplitr
    · ipureintro; exact fun h => absurd rfl h
    · iexact HA
  isplitl [HB]
  · iexists b; isplitr
    · ipureintro; exact fun h => absurd rfl h
    · iexact HB
  isplitl [HD]
  · iexists d; isplitr
    · ipureintro; exact fun h => absurd rfl h
    · iexact HD
  isplitl [HI]; · iexact HI
  isplitl [HJ]; · iexact HJ
  iexact Hr

/-- At the end the accumulators' contents are forgotten. -/
theorem phi_exit (c : Dev nD) : (dats m 0 c).Φ (Fin.last cfgA.N) ⊢ Pipeline.ΦA (U := UR sig nD τ) (Val := Elt Bits) cfgA.spec c := by
  rewrite [show (dats m 0 c).Φ (Fin.last cfgA.N) = Phi m c cfgA.N from rfl]
  unfold Pipeline.ΦA Phi
  rw [show Pipeline.scopedRest cfgA.spec c = _ from scopedRest0_eq c]
  iintro ⟨⟨%a, -, HA⟩, ⟨%b, -, HB⟩, ⟨%d, -, HD⟩, -, -, Hr⟩
  isplitl [HA HB HD]
  · isplitl [HA]; · iexists a; iexact HA
    isplitl [HB]; · iexists b; iexact HB
    iexists d; iexact HD
  iexact Hr

theorem run_main_quiescent : θ_run (defs (F := Bits)) (onTc (τ := τ) (main (F := Bits))) (s₀ m ρ)
    (fun r => Pipeline.FramePost pcs (dats m) 0 (V m) r ∧ r.2.sem = fun _ => 0) :=
  Pipeline.θ_run_frameP_track (Q' := _) (pcfgs (F := Bits)) (fun _ => adm) (dats m) (0 : Fin 1) launch0 defs₀ Variants.none m ρ main
    (hbody := body_obligation m) (hshare := fun c => (dats m 0 c).share_full fun _ => rfl) (howed := fun _ _ => rfl)
    (V := V m) (hmain := Pipeline.hmainP_prefix pcfgs 0 defs₀ Variants.none m main hostOps0 hostOps0_sub hostOps0_fresh main_chain)
    (hA := fun _ _ => rfl) (hpf := V_tables m) (hin := phi_intro m) (hout := phi_exit m)

/-- Every array of the call at what the steps leave, every other buffer as the host lines left it. -/
theorem run_main : θ_run (defs (F := Bits)) (onTc (τ := τ) (main (F := Bits))) (s₀ m ρ) (Pipeline.FramePost pcs (dats m) 0 (V m)) :=
  (θ_run defs _ _).mono (fun _ h => h.1) (run_main_quiescent m ρ)

theorem unchanged : θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of _ rfl (by decide))).trans (V_kept m c _ (by decide)),
     ((h c).2 main_arg1 (Pipeline.mem_restRefs_of _ rfl (by decide))).trans (V_kept m c _ (by decide)),
     ((h c).2 main_arg2 (Pipeline.mem_restRefs_of _ rfl (by decide))).trans (V_kept m c _ (by decide)),
     ((h c).1 (3 : Fin 9)).trans (((dats m 0 c).arrAt_in (3 : Fin 9) rfl _).trans (V_kept m c main_arg3 (by decide)))⟩) (run_main m ρ)

/-- The program runs to its end from any memory, its arguments unchanged and no signal pending. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Attn.Gen

end
-- ==== Proof.LowerBound.lean ====
module

public import proofs.«01_k».proof.Proof.Gen.LbIdeal.Value
public import proofs.«01_k».proof.Proof.Gen.LbRefIdeal.Run
public import proofs.«01_k».proof.Proof.Reals
public import proofs.«01_k».proof.Defs
public import Idealize.ShloMosaic.Lib.Pipeline.ValueKit
public import Idealize.ShloMosaic.Lib.Pointwise
public import Idealize.ShloMosaic.Lib.IdealHost
public import Idealize.ShloMosaic.Lib.Tactic.CleanTypes
public import Idealize.ShloMosaic.Lib.Routing.OpsPair

@[expose] public section

set_option maxRecDepth 16384

noncomputable section

open Idealize.ShloMosaic Idealize.ShloMosaic.TcCoe Idealize.SL.Sem

namespace Cert.LbIdeal.Value

open Cert.LbIdeal Cert.LbIdeal.Gen Cert.Reals

/-- A fold that adds one term a step is the start and the terms' sum. -/
theorem foldl_add {ι : Type} (L : List ι) (F : EReal → ι → EReal) (g : ι → EReal) (hF : ∀ acc n, F acc n = acc + g n) (a : EReal) :
    L.foldl F a = a + (L.map g).sum := by
  induction L generalizing a with
  | nil => simp
  | cons n L ih => rw [List.foldl_cons, ih, hF, List.map_cons, List.sum_cons, add_assoc]

/-- The sum of a column's entries from row `r` on. -/
def tail (d : Fin 4 → ℝ) (r : Fin 4) : ℝ := ∑ n : Fin 4, if h : r.val + n.val < 4 then d ⟨r.val + n.val, h⟩ else 0

/-- The reference's running sum from below, read at an index. -/
theorem window_read (x : FVec Ideal LbRefIdeal.S4x1024 .f32) (d : Fin 4 → ℝ) (r : Fin 4) (k : Fin 1024) (hx : ∀ r, x (ix2 r k) = (d r : EReal))
    (v : FVec Ideal LbRefIdeal.S_ .f32) (hv : ∀ i, v i = (0 : EReal)) (h h') :
    Host.reduceWindowAdd (s := LbRefIdeal.S4x1024) (t := LbRefIdeal.S4x1024) ![4, 1] ![1, 1] ![0, 0] ![3, 0] x v h h' (ix2 r k) = ((tail d r : ℝ) : EReal) := by
  unfold Host.reduceWindowAdd
  rw [hv, Ideal.hostReduceWindowAdd_def]
  unfold Ideal.hostReduceWindowAdd Host.reduceWindow
  refine (foldl_add _ _ (fun n => (((if h : r.val + n.val < 4 then d ⟨r.val + n.val, h⟩ else 0 : ℝ)) : EReal)) (fun acc n => congrArg (acc + ·) ?_) (0 : EReal)).trans ?_
  · have hn : n.val < 4 := n.isLt
    have e := Routing.symm22 (A := 4) (B := 1) n (by omega) (by omega)
    have e0 : ((⟨2, ![4, 1]⟩ : Shape).rowMajor.symm n 0).val = n.val := (congrArg (fun i : (⟨2, ![4, 1]⟩ : Shape).Idx => (i 0).val) e).trans (Nat.div_one _)
    have e1 : ((⟨2, ![4, 1]⟩ : Shape).rowMajor.symm n 1).val = 0 := (congrArg (fun i : (⟨2, ![4, 1]⟩ : Shape).Idx => (i 1).val) e).trans (Nat.mod_one _)
    by_cases hr : r.val + n.val < 4
    · rw [dif_pos hr, dif_pos (by
        intro b
        match b with
        | ⟨0, _⟩ => exact ⟨Nat.zero_le _, by show r.val * 1 + ((⟨2, ![4, 1]⟩ : Shape).rowMajor.symm n 0).val - 0 < 4; rw [e0]; omega⟩
        | ⟨1, _⟩ => exact ⟨Nat.zero_le _, by show k.val * 1 + ((⟨2, ![4, 1]⟩ : Shape).rowMajor.symm n 1).val - 0 < 1024; rw [e1]; omega⟩), ← hx]
      refine congrArg x (funext fun b => Fin.ext ?_)
      match b with
      | ⟨0, _⟩ => show r.val * 1 + ((⟨2, ![4, 1]⟩ : Shape).rowMajor.symm n 0).val - 0 = r.val + n.val; rw [e0]; omega
      | ⟨1, _⟩ => show k.val * 1 + ((⟨2, ![4, 1]⟩ : Shape).rowMajor.symm n 1).val - 0 = k.val; rw [e1]; omega
    · rw [dif_neg hr, dif_neg (by
        intro hin
        have := (hin 0).2
        change r.val * 1 + ((⟨2, ![4, 1]⟩ : Shape).rowMajor.symm n 0).val - 0 < 4 at this
        rw [e0] at this
        omega)]
      rfl
  · rw [zero_add, tail, ← coe_sum]
    rfl

/-- A column's exponentials over their sum. -/
def soft (l : Fin 4 → ℝ) (M : ℝ) (r : Fin 4) : ℝ := Real.exp (l r - M) / ∑ i, Real.exp (l i - M)

/-- The gradient of a column, over the reals: the softmax's gradient of the running sums from below, row 0 left out. -/
def grad (l d : Fin 4 → ℝ) (M : ℝ) (r : Fin 4) : ℝ :=
  soft l M r * ((if r = 0 then 0 else tail d r) - ∑ i, soft l M i * (if i = 0 then 0 else tail d i))

/-- The reference's result, read at an index. -/
theorem ref_read (m : (ℓ : Loc LbRefIdeal.nD LbRefIdeal.τ LbRefIdeal.sig) → Buf (Elt Ideal) ℓ) (c : Dev LbRefIdeal.nD) (r : Fin 4) (k : Fin 1024)
    (l d : Fin 4 → ℝ) (hl : ∀ r, m ((c.tc : Thread LbRefIdeal.nD LbRefIdeal.τ).loc LbRefIdeal.main_arg0) (ix2 r k) = (l r : EReal))
    (hd : ∀ r, m ((c.tc : Thread LbRefIdeal.nD LbRefIdeal.τ).loc LbRefIdeal.main_arg1) (ix2 r k) = (d r : EReal)) (M : ℝ)
    (hM : Finset.fold max (⊥ : EReal) (fun i => (l i : EReal)) Finset.univ = M) :
    LbRefIdeal.Value.res_out0 m c (ix2 r k) = ((grad l d M r : ℝ) : EReal) := by
  unfold LbRefIdeal.Value.res_out0
  unfold LbRefIdeal.Value.res_main_v54
  clean_types
  pointwise
  have hw := fun r => window_read (m ((c.tc : Thread LbRefIdeal.nD LbRefIdeal.τ).loc LbRefIdeal.main_arg1)) d r k hd
    (broadcastInDim LbRefIdeal.S_ ![] LbRefIdeal.Gen.bcast_S_S_ (constant LbRefIdeal.S_ FTy.f32 0#32)) (fun i => by pointwise)
    LbRefIdeal.Gen.reduceWindows_S4x1024_S4x1024_w4s1p0_3_w1s1p0_0 LbRefIdeal.Gen.h_S_
  have hpos : (0 : ℝ) < ∑ i, Real.exp (l i - M) := Finset.sum_pos (fun i _ => Real.exp_pos _) ⟨0, Finset.mem_univ _⟩
  have hbot : max (⊥ : EReal) (M : EReal) = M := max_eq_right bot_le
  have one : (1 : EReal) = ((1 : ℝ) : EReal) := rfl
  have zero : (0 : EReal) = ((0 : ℝ) : EReal) := rfl
  have hmul : (∑ i, Real.exp (l i - M)) * (∑ i, Real.exp (l i - M)) ≠ 0 := mul_ne_zero hpos.ne' hpos.ne'
  simp only [hl, hd, hw, bot_f32, hM, hbot, ← EReal.coe_sub, Ideal.exp_coe, coe_sum, ← EReal.coe_neg, ← EReal.coe_add, ← EReal.coe_mul,
    one, div_real _ hmul]
  have hdp : (if h : r.val < 1 then ((∑ x : Fin 1, ∑ x : Fin 4, -d x : ℝ) : EReal) else 0) = (((if r = 0 then ∑ x : Fin 4, -d x else 0) : ℝ) : EReal) := by
    fin_cases r <;> simp
  rw [hdp, ← EReal.coe_add, div_real _ hpos.ne', ← EReal.coe_add, ← EReal.coe_mul]
  congr 1
  have hne := hpos.ne'
  simp only [grad, soft]
  generalize (∑ i, Real.exp (l i - M)) = S at hne ⊢
  fin_cases r <;> simp [tail, Fin.sum_univ_four, Fin.sum_univ_three] <;> field_simp <;> ring

/-- The kernel's result, read at an index. -/
theorem ker_read (x y : FVec Ideal S4x1024 .f32) (r : Fin 4) (k : Fin 1024)
    (l d : Fin 4 → ℝ) (hl : ∀ r, x (ix2 r k) = (l r : EReal)) (hd : ∀ r, y (ix2 r k) = (d r : EReal)) (M : ℝ)
    (hM : Finset.fold max (⊥ : EReal) (fun i => (l i : EReal)) Finset.univ = M) :
    G2 (F := Ideal) x y (ix2 r k) = ((grad l d M r : ℝ) : EReal) := by
  have hpos : (0 : ℝ) < ∑ i, Real.exp (l i - M) := Finset.sum_pos (fun i _ => Real.exp_pos _) ⟨0, Finset.mem_univ _⟩
  have zero : (0 : EReal) = ((0 : ℝ) : EReal) := rfl
  unfold G2
  canon_tiles z h
  all_goals
    unfold_payloads
    pointwise
    have hk : (z 1 : Fin 1024) = k := Fin.ext h1.symm
    rw [hk]
    simp only [hl, hd, bot_f32, hM, ← EReal.coe_sub, Ideal.exp_coe, coe_sum, ← EReal.coe_neg, ← EReal.coe_add, ← EReal.coe_mul,
      zero, div_real _ hpos.ne']
    norm_cast
    change r.val = _ at h0
    fin_cases r
    all_goals first
      | (exfalso; simp only at h0; omega)
      | (congr 1; simp [grad, soft, tail, Fin.sum_univ_four] <;> first | (left; ring1) | ring1)

end Cert.LbIdeal.Value

namespace Cert

open Cert.LbIdeal.Value Cert.Reals in
/-- The kernel's gradient of the lower bounds is the reference's, at finite arguments. -/
theorem lb_algebraic [hPre : Pre_lb_finite.Facts] : algebraic_LbIdeal_LbRefIdeal_pre_lb_finite := by
  intro m g m' g' hpre hag
  refine ⟨fun c => G2 (F := Ideal) (m ((c.tc : Thread LbIdeal.nD LbIdeal.τ).loc LbIdeal.main_arg0)) (m ((c.tc : Thread LbIdeal.nD LbIdeal.τ).loc LbIdeal.main_arg1)), ?_, ?_⟩
  · exact run m g
  · refine (θ_run _ _ _).mono (fun r h c => ?_) (LbRefIdeal.Value.run m' g')
    obtain ⟨h2, ha, hb⟩ := h c
    refine ⟨h2.trans ?_, ha, hb⟩
    obtain ⟨p0, p1⟩ := hpre c
    have hl : ∀ (r : Fin 4) (k : Fin 1024), ∃ x : ℝ, m ((c.tc : Thread LbIdeal.nD LbIdeal.τ).loc LbIdeal.main_arg0) (ix2 r k) = (x : EReal) := fun r k => by
      refine real_of_finite _ ?_
      have := congrFun p0 (ix2 r k)
      unfold Pre_lb_finite.fn at this
      pointwise [top_f32] at this
      exact this
    have hd : ∀ (r : Fin 4) (k : Fin 1024), ∃ x : ℝ, m ((c.tc : Thread LbIdeal.nD LbIdeal.τ).loc LbIdeal.main_arg1) (ix2 r k) = (x : EReal) := fun r k => by
      refine real_of_finite _ ?_
      have := congrFun p1 (ix2 r k)
      unfold Pre_lb_finite.fn at this
      pointwise [top_f32] at this
      exact this
    choose l hl using hl
    choose d hd using hd
    funext j
    obtain ⟨r, k, rfl⟩ : ∃ (r : Fin 4) (k : Fin 1024), j = ix2 r k := ⟨j 0, j 1, eq_ix2 j⟩
    obtain ⟨M, hM⟩ := fold_max_real (Finset.univ : Finset (Fin 4)) ⟨0, Finset.mem_univ _⟩ (fun i => l i k)
    refine (ref_read m' c r k (fun r => l r k) (fun r => d r k) (fun r => ?_) (fun r => ?_) M hM).trans
      (ker_read _ _ r k (fun r => l r k) (fun r => d r k) (fun r => hl r k) (fun r => hd r k) M hM).symm
    · rw [(hag c).1]; exact hl r k
    · rw [(hag c).2]; exact hd r k

end Cert

end
-- ==== Proof.BoundsForward.lean ====
module

public import proofs.«01_k».proof.Proof.Gen.BoundsIdeal.Value
public import proofs.«01_k».proof.Proof.Gen.BoundsRefIdeal.Run
public import proofs.«01_k».proof.Proof.LowerBound
public import proofs.«01_k».proof.Defs
public import Idealize.ShloMosaic.Lib.Pipeline.ValueKit
public import Idealize.ShloMosaic.Lib.Pointwise
public import Idealize.ShloMosaic.Lib.IdealHost
public import Idealize.ShloMosaic.Lib.Claim

/-! The gates' lower bounds, forwards: a column's softmax, added up from row 1 on. -/

@[expose] public section

set_option maxRecDepth 16384

noncomputable section

open Idealize.ShloMosaic Idealize.ShloMosaic.TcCoe Idealize.SL.Sem

namespace Cert.BoundsIdeal.Value

open Cert.BoundsIdeal Cert.BoundsIdeal.Gen Cert.Reals
open Cert.LbIdeal.Value (foldl_add soft)

/-- The sum of a column's entries up to row `r`, in the window's own order. -/
def head (d : Fin 4 → ℝ) (r : Fin 4) : ℝ := ∑ n : Fin 4, if h : 3 ≤ r.val + n.val then d ⟨r.val + n.val - 3, by omega⟩ else 0

/-- The reference's running sum from above, read at an index. -/
theorem running (x : FVec Ideal BoundsRefIdeal.S4x1024 .f32) (d : Fin 4 → ℝ) (r : Fin 4) (k : Fin 1024) (hx : ∀ r, x (ix2 r k) = (d r : EReal))
    (v : FVec Ideal BoundsRefIdeal.S_ .f32) (hv : ∀ i, v i = (0 : EReal)) (h h') :
    Host.reduceWindowAdd (s := BoundsRefIdeal.S4x1024) (t := BoundsRefIdeal.S4x1024) ![4, 1] ![1, 1] ![3, 0] ![0, 0] x v h h' (ix2 r k)
      = ((head d r : ℝ) : EReal) := by
  unfold Host.reduceWindowAdd
  rw [hv, Ideal.hostReduceWindowAdd_def]
  unfold Ideal.hostReduceWindowAdd Host.reduceWindow
  refine (foldl_add _ _ (fun n => (((if h : 3 ≤ r.val + n.val then d ⟨r.val + n.val - 3, by have : n.val < 4 := n.isLt; omega⟩ else 0 : ℝ)) : EReal))
    (fun acc n => congrArg (acc + ·) ?_) (0 : EReal)).trans ?_
  · have hn : n.val < 4 := n.isLt
    have e := Routing.symm22 (A := 4) (B := 1) n (by omega) (by omega)
    have e0 : ((⟨2, ![4, 1]⟩ : Shape).rowMajor.symm n 0).val = n.val := (congrArg (fun i : (⟨2, ![4, 1]⟩ : Shape).Idx => (i 0).val) e).trans (Nat.div_one _)
    have e1 : ((⟨2, ![4, 1]⟩ : Shape).rowMajor.symm n 1).val = 0 := (congrArg (fun i : (⟨2, ![4, 1]⟩ : Shape).Idx => (i 1).val) e).trans (Nat.mod_one _)
    by_cases hr : 3 ≤ r.val + n.val
    · rw [dif_pos hr, dif_pos (by
        intro b
        match b with
        | ⟨0, _⟩ =>
          refine ⟨?_, ?_⟩
          · show 3 ≤ r.val * 1 + ((⟨2, ![4, 1]⟩ : Shape).rowMajor.symm n 0).val; rw [e0]; omega
          · show r.val * 1 + ((⟨2, ![4, 1]⟩ : Shape).rowMajor.symm n 0).val - 3 < 4; rw [e0]; omega
        | ⟨1, _⟩ => exact ⟨Nat.zero_le _, by show k.val * 1 + ((⟨2, ![4, 1]⟩ : Shape).rowMajor.symm n 1).val - 0 < 1024; rw [e1]; omega⟩), ← hx]
      refine congrArg x (funext fun b => Fin.ext ?_)
      match b with
      | ⟨0, _⟩ => show r.val * 1 + ((⟨2, ![4, 1]⟩ : Shape).rowMajor.symm n 0).val - 3 = r.val + n.val - 3; rw [e0]; omega
      | ⟨1, _⟩ => show k.val * 1 + ((⟨2, ![4, 1]⟩ : Shape).rowMajor.symm n 1).val - 0 = k.val; rw [e1]; omega
    · rw [dif_neg hr, dif_neg (by
        intro hin
        have := (hin 0).1
        change 3 ≤ r.val * 1 + ((⟨2, ![4, 1]⟩ : Shape).rowMajor.symm n 0).val at this
        rw [e0] at this
        omega)]
      rfl
  · rw [zero_add, head, ← coe_sum]
    rfl

/-- The bounds of a column, over the reals. -/
def bound (l : Fin 4 → ℝ) (M : ℝ) (r : Fin 4) : ℝ := head (soft l M) r - soft l M 0

/-- The reference's softmax, as its lines write it. -/
def softL (x : FVec Ideal BoundsRefIdeal.S4x1024 .f32) : FVec Ideal BoundsRefIdeal.S4x1024 .f32 :=
  open BoundsRefIdeal BoundsRefIdeal.Gen in
  let e := Host.exp (subf x (broadcastInDim S4x1024 ![0, 1] bcast_S1x1024_S4x1024_0_1 (broadcastInDim S1x1024 ![1] bcast_S1024_S1x1024_1 (maximumf (broadcastInDim S1024 ![] bcast_S_S1024 (constant S_ .f32 0xFF800000#32)) (Host.reduce FloatOps.maximumf x (constant S_ .f32 0xFF800000#32) reducesTo_S4x1024_S1024_d0 h_S_)))))
  Host.divf e (broadcastInDim S4x1024 ![0, 1] bcast_S1x1024_S4x1024_0_1 (broadcastInDim S1x1024 ![1] bcast_S1024_S1x1024_1 (Host.reduceAdd e (constant S_ .f32 0x00000000#32) reducesTo_S4x1024_S1024_d0 h_S_)))

/-- The reference's last line, read at an index. -/
theorem less_first (y z : FVec Ideal BoundsRefIdeal.S4x1024 .f32) (r : Fin 4) (k : Fin 1024) :
    subf y (broadcastInDim BoundsRefIdeal.S4x1024 ![0, 1] BoundsRefIdeal.Gen.bcast_S1x1024_S4x1024_0_1 (broadcastInDim BoundsRefIdeal.S1x1024 ![1] BoundsRefIdeal.Gen.bcast_S1024_S1x1024_1
      (shapeCast BoundsRefIdeal.S1024 (extractStridedSlice BoundsRefIdeal.S1x1024 ![0, 0] z BoundsRefIdeal.Gen.slices_S4x1024_S1x1024_0_0) BoundsRefIdeal.Gen.shapeCasts_S1x1024_S1024))) (ix2 r k)
      = y (ix2 r k) - z (ix2 0 k) := by
  pointwise

section
variable (x : FVec Ideal S4x1024 .f32) (r : Fin 4) (k : Fin 1024)
  (l : Fin 4 → ℝ) (hl : ∀ r, x (ix2 r k) = (l r : EReal)) (M : ℝ) (hM : Finset.fold max (⊥ : EReal) (fun i => (l i : EReal)) Finset.univ = M)

include hl hM

theorem softL_apply : softL x (ix2 r k) = ((soft l M r : ℝ) : EReal) := by
  have hpos : (0 : ℝ) < ∑ i, Real.exp (l i - M) := Finset.sum_pos (fun i _ => Real.exp_pos _) ⟨0, Finset.mem_univ _⟩
  have hbot : max (⊥ : EReal) (M : EReal) = M := max_eq_right bot_le
  unfold softL
  pointwise
  simp only [hl, bot_f32, hM, hbot, ← EReal.coe_sub, Ideal.exp_coe, coe_sum, div_real _ hpos.ne']
  rfl

/-- The kernel's softmax, read at an index. -/
theorem pay1_apply : (k0_pay1 (F := Ideal) x : _ → EReal) (ix2 r k) = ((soft l M r : ℝ) : EReal) := by
  have hpos : (0 : ℝ) < ∑ i, Real.exp (l i - M) := Finset.sum_pos (fun i _ => Real.exp_pos _) ⟨0, Finset.mem_univ _⟩
  unfold k0_pay1
  pointwise
  simp only [hl, bot_f32, hM, ← EReal.coe_sub, Ideal.exp_coe, coe_sum, div_real _ hpos.ne']
  rfl

/-- The kernel's result, read at an index. -/
theorem ker_read : G1 (F := Ideal) x (ix2 r k) = ((bound l M r : ℝ) : EReal) := by
  have zero : (0 : EReal) = ((0 : ℝ) : EReal) := rfl
  unfold G1
  canon_tiles z h
  all_goals
    try unfold k0_pay5
    try unfold k0_pay4
    try unfold k0_pay3
    unfold k0_pay2
    pointwise
    have hk : (z 1 : Fin 1024) = k := Fin.ext h1.symm
    simp only [hk, pay1_apply x _ k l hl M hM, zero, ← EReal.coe_add]
    change r.val = _ at h0
    fin_cases r
    all_goals first
      | (exfalso; simp only at h0; omega)
      | (congr 1; simp [bound, head, Fin.sum_univ_four] <;> ring1)
end

end Cert.BoundsIdeal.Value

namespace Cert

open Cert.BoundsIdeal.Value Cert.Reals in
open Cert.LbIdeal.Value (soft) in
/-- The kernel's lower bounds are the reference's, at finite logits. -/
theorem bounds_algebraic [hPre : Pre_bounds_finite.Facts] : algebraic_BoundsIdeal_BoundsRefIdeal_pre_bounds_finite := by
  intro m g m' g' hpre hag
  let x (c : Dev BoundsIdeal.nD) : FVec Ideal BoundsIdeal.S4x1024 .f32 := m ((c.tc : Thread BoundsIdeal.nD BoundsIdeal.τ).loc BoundsIdeal.main_arg0)
  refine ⟨fun c => G1 (F := Ideal) (x c), run m g, ?_⟩
  refine (θ_run _ _ _).mono (fun r h c => ?_) (BoundsRefIdeal.Value.run m' g')
  obtain ⟨h1, ha⟩ := h c
  refine ⟨h1.trans ?_, ha⟩
  have hl : ∀ (r : Fin 4) (k : Fin 1024), ∃ y : ℝ, x c (ix2 r k) = (y : EReal) := fun r k => by
    refine real_of_finite _ ?_
    have := congrFun (hpre c) (ix2 r k)
    unfold Pre_bounds_finite.fn at this
    pointwise [top_f32] at this
    exact this
  choose l hl using hl
  funext j
  obtain ⟨r, k, rfl⟩ : ∃ (r : Fin 4) (k : Fin 1024), j = ix2 r k := ⟨j 0, j 1, eq_ix2 j⟩
  obtain ⟨M, hM⟩ := fold_max_real (Finset.univ : Finset (Fin 4)) ⟨0, Finset.mem_univ _⟩ (fun i => l i k)
  refine Eq.trans ?_ (ker_read (x c) r k (fun r => l r k) (fun r => hl r k) M hM).symm
  rw [hag c]
  change subf (Host.reduceWindowAdd ![4, 1] ![1, 1] ![3, 0] ![0, 0] (softL (x c)) _ _ _) _ (ix2 r k) = _
  have hs := fun r => softL_apply (x c) r k (fun r => l r k) (fun r => hl r k) M hM
  refine (less_first _ (softL (x c)) r k).trans ?_
  refine (congrArg₂ (fun p q : EReal => p - q) (running (softL (x c)) (soft (fun r => l r k) M) r k hs _ (fun i => by pointwise) _ _) (hs 0)).trans ?_
  exact (EReal.coe_sub _ _).symm

end Cert

end
-- ==== Proof.DdownIdealRun.lean ====
module

public import proofs.«01_k».proof.Proof.Gen.DdownIdeal.Frame
public import proofs.«01_k».proof.Proof.Gen.DdownIdeal.Skeleton
public import Idealize.ShloMosaic.Lib.Pipeline.ValueKit

/-! The body of the call for the norm after the channel mixer, on any buffers: what it leaves in its three outputs at a
row block's first column step, at the very first step and at every other step. -/

@[expose] public section

set_option maxRecDepth 16384
set_option Elab.async false

noncomputable section

namespace Cert.DdownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

abbrev Res {F : FTy → Type} := MT nD τ sig Unit (Elt F) ℕ (UR sig nD τ) ℕ

section
variable (c : Dev nD) (i : grid0.Coords)
  (a0 : Memref sig .tc .vmem S1024x1024 .f32) (h0 : a0.IsWhole) (a1 : Memref sig .tc .vmem S1x1024 .f32) (h1 : a1.IsWhole)
  (a2 : Memref sig .tc .vmem S1024x1024 .f32) (h2 : a2.IsWhole) (a3 : Memref sig .tc .vmem S1024x1024 .bf16) (h3 : a3.IsWhole)
  (a4 : Memref sig .tc .vmem S1024x1024 .bf16) (h4 : a4.IsWhole) (a5 : Memref sig .tc .vmem S1024x1024 .bf16) (h5 : a5.IsWhole)
  (a6 : Memref sig .tc .vmem S1x1024 .f32) (h6 : a6.IsWhole) (a7 : Memref sig .tc .vmem S1024x1024 .bf16) (h7 : a7.IsWhole)
  (x0 : Vec F S1024x1024 .f32) (x1 : Vec F S1x1024 .f32) (x2 : Vec F S1024x1024 .f32) (x3 : Vec F S1024x1024 .bf16)
  (x4 : Vec F S1024x1024 .bf16)

/-- The inputs' buffers, at their blocks. -/
abbrev inputs : sProp (Res (F := F)) :=
  iprop(owns (c : Thread nD τ) a0 fullShare x0 ∗ owns (c : Thread nD τ) a1 fullShare x1 ∗ owns (c : Thread nD τ) a2 fullShare x2
    ∗ owns (c : Thread nD τ) a3 fullShare x3 ∗ owns (c : Thread nD τ) a4 fullShare x4)
/-- The outputs' buffers, at given contents. -/
abbrev outputs (y5 : Vec F S1024x1024 .bf16) (y6 : Vec F S1x1024 .f32) (y7 : Vec F S1024x1024 .bf16) : sProp (Res (F := F)) :=
  iprop(owns (c : Thread nD τ) a5 fullShare y5 ∗ owns (c : Thread nD τ) a6 fullShare y6 ∗ owns (c : Thread nD τ) a7 fullShare y7)

set_option maxHeartbeats 1000000 in
/-- The first step: the gain's sum is reset, the row block's gradient stored. -/
theorem runA (hc0 : k0_cond1 i = 1#1) (hc1 : k0_cond2 i = 1#1) (E : Set ℕ) (K : PUnit → sProp (Res (F := F))) :
    iprop(inputs c a0 a1 a2 a3 a4 x0 x1 x2 x3 x4 ∗ (∃ d, owns (c : Thread nD τ) a5 fullShare d) ∗ (∃ d, owns (c : Thread nD τ) a6 fullShare d) ∗ (∃ d, owns (c : Thread nD τ) a7 fullShare d)
        ∗ (iprop(inputs c a0 a1 a2 a3 a4 x0 x1 x2 x3 x4 ∗ outputs c a5 a6 a7 (k0_pay5 x0 x1 x2) (k0_pay6 x0 x2 (k0_pay1 (F := F))) (k0_pay7 (k0_pay5 x0 x1 x2) x3 x4)) -∗ K ⟨⟩))
      ⊢ wp frame (wpE (defs₀ (F := F)) Variants.none c none) E
        (cc0_ddown i a0 h0 a1 h1 a2 h2 a3 h3 a4 h4 a5 h5 a6 h6 a7 h7) K := by
  simp only [cc0_ddown_eq_skeleton]; unfold cc0_ddown_skel
  unfold inputs outputs owns
  iintro ⟨⟨⟨%f0, %e0, H0⟩, ⟨%f1, %e1, H1⟩, ⟨%f2, %e2, H2⟩, ⟨%f3, %e3, H3⟩, ⟨%f4, %e4, H4⟩⟩, ⟨%d5, %f5, -, H5⟩, ⟨%d6, %f6, -, H6⟩, ⟨%d7, %f7, -, H7⟩, Hk⟩
  obtain rfl := h0.eq_unread e0; obtain rfl := h1.eq_unread e1; obtain rfl := h2.eq_unread e2; obtain rfl := h3.eq_unread e3; obtain rfl := h4.eq_unread e4
  sl_exec (disch := first | sl_exact hc0 | sl_exact hc1)
  sl_step
  iapply Hk
  isplitl [H0 H1 H2 H3 H4]
  · isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; isplitr; · ipureintro; exact h4.read_unread _
    iexact H4
  isplitl [H5]
  · iexists _; isplitr; swap; · iexact H5
    ipureintro
    refine (View.read_writes_eq_canon _ _ _ (fun y => View.cover_of_tiledL _ S1024x1024.size (by sl_kernel_rfl) y)).trans ?_
    frame_out
  isplitl [H6]
  · iexists _; isplitr; swap; · iexact H6
    ipureintro
    refine (View.read_writes_eq_canon _ _ _ (fun y => View.cover_of_tiledL _ S1x1024.size (by sl_kernel_rfl) y)).trans ?_
    frame_out
  iexists _; isplitr; swap; · iexact H7
  ipureintro
  refine (View.read_writes_eq_canon _ _ _ (fun y => View.cover_of_tiledL _ S1024x1024.size (by sl_kernel_rfl) y)).trans ?_
  frame_out

set_option maxHeartbeats 1000000 in
/-- A later row block's first step. -/
theorem runC (hc0 : ¬k0_cond1 i = 1#1) (hc1 : k0_cond2 i = 1#1) (y6 : Vec F S1x1024 .f32) (E : Set ℕ) (K : PUnit → sProp (Res (F := F))) :
    iprop(inputs c a0 a1 a2 a3 a4 x0 x1 x2 x3 x4 ∗ (∃ d, owns (c : Thread nD τ) a5 fullShare d) ∗ owns (c : Thread nD τ) a6 fullShare y6 ∗ (∃ d, owns (c : Thread nD τ) a7 fullShare d)
        ∗ (iprop(inputs c a0 a1 a2 a3 a4 x0 x1 x2 x3 x4 ∗ outputs c a5 a6 a7 (k0_pay5 x0 x1 x2) (k0_pay6 x0 x2 y6) (k0_pay7 (k0_pay5 x0 x1 x2) x3 x4)) -∗ K ⟨⟩))
      ⊢ wp frame (wpE (defs₀ (F := F)) Variants.none c none) E
        (cc0_ddown i a0 h0 a1 h1 a2 h2 a3 h3 a4 h4 a5 h5 a6 h6 a7 h7) K := by
  simp only [cc0_ddown_eq_skeleton]; unfold cc0_ddown_skel
  unfold inputs outputs owns
  iintro ⟨⟨⟨%f0, %e0, H0⟩, ⟨%f1, %e1, H1⟩, ⟨%f2, %e2, H2⟩, ⟨%f3, %e3, H3⟩, ⟨%f4, %e4, H4⟩⟩, ⟨%d5, %f5, -, H5⟩, ⟨%f6, %e6, H6⟩, ⟨%d7, %f7, -, H7⟩, Hk⟩
  obtain rfl := h0.eq_unread e0; obtain rfl := h1.eq_unread e1; obtain rfl := h2.eq_unread e2; obtain rfl := h3.eq_unread e3; obtain rfl := h4.eq_unread e4; obtain rfl := h6.eq_unread e6
  sl_exec (disch := first | sl_exact hc0 | sl_exact hc1)
  sl_step
  iapply Hk
  isplitl [H0 H1 H2 H3 H4]
  · isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; isplitr; · ipureintro; exact h4.read_unread _
    iexact H4
  isplitl [H5]
  · iexists _; isplitr; swap; · iexact H5
    ipureintro
    refine (View.read_writes_eq_canon _ _ _ (fun y => View.cover_of_tiledL _ S1024x1024.size (by sl_kernel_rfl) y)).trans ?_
    frame_out
  isplitl [H6]
  · iexists _; isplitr; swap; · iexact H6
    ipureintro
    refine (View.read_writes_eq_canon _ _ _ (fun y => View.cover_of_tiledL _ S1x1024.size (by sl_kernel_rfl) y)).trans ?_
    frame_out
  iexists _; isplitr; swap; · iexact H7
  ipureintro
  refine (View.read_writes_eq_canon _ _ _ (fun y => View.cover_of_tiledL _ S1024x1024.size (by sl_kernel_rfl) y)).trans ?_
  frame_out

set_option maxHeartbeats 1000000 in
/-- Every other step: only the product is stored. -/
theorem runB (hc0 : ¬k0_cond1 i = 1#1) (hc1 : ¬k0_cond2 i = 1#1) (y5 : Vec F S1024x1024 .bf16) (y6 : Vec F S1x1024 .f32) (E : Set ℕ) (K : PUnit → sProp (Res (F := F))) :
    iprop(inputs c a0 a1 a2 a3 a4 x0 x1 x2 x3 x4 ∗ owns (c : Thread nD τ) a5 fullShare y5 ∗ owns (c : Thread nD τ) a6 fullShare y6 ∗ (∃ d, owns (c : Thread nD τ) a7 fullShare d)
        ∗ (iprop(inputs c a0 a1 a2 a3 a4 x0 x1 x2 x3 x4 ∗ outputs c a5 a6 a7 y5 y6 (k0_pay7 y5 x3 x4)) -∗ K ⟨⟩))
      ⊢ wp frame (wpE (defs₀ (F := F)) Variants.none c none) E
        (cc0_ddown i a0 h0 a1 h1 a2 h2 a3 h3 a4 h4 a5 h5 a6 h6 a7 h7) K := by
  simp only [cc0_ddown_eq_skeleton]; unfold cc0_ddown_skel
  unfold inputs outputs owns
  iintro ⟨⟨⟨%f0, %e0, H0⟩, ⟨%f1, %e1, H1⟩, ⟨%f2, %e2, H2⟩, ⟨%f3, %e3, H3⟩, ⟨%f4, %e4, H4⟩⟩, ⟨%f5, %e5, H5⟩, ⟨%f6, %e6, H6⟩, ⟨%d7, %f7, -, H7⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6
  sl_exec (disch := first | sl_exact hc0 | sl_exact hc1)
  sl_step
  iapply Hk
  isplitl [H0 H1 H2 H3 H4]
  · isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  iexists _; isplitr; swap; · iexact H7
  ipureintro
  refine (View.read_writes_eq_canon _ _ _ (fun y => View.cover_of_tiledL _ S1024x1024.size (by sl_kernel_rfl) y)).trans ?_
  frame_out

end

end Cert.DdownIdeal.Gen

end
-- ==== Proof.DdownIdealFrame.lean ====
module

public import proofs.«01_k».proof.Proof.DdownIdealRun
public import Idealize.ShloMosaic.Lib.Pipeline.TableIdle
public import Idealize.ShloMosaic.Lib.Claim

/-! The call for the norm after the channel mixer from launch to end: what its buffers hold after each step, and the run of
the whole program from any memory. The norm's gradient is stored at a row block's first step and kept for the three after
it; the gain's sum is carried from row block to row block. -/

@[expose] public section

set_option maxRecDepth 16384
set_option Elab.async false

noncomputable section

namespace Cert.DdownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The steps -/

theorem first_step : ∀ t : Fin cfg0.N, k0_cond1 (cfg0.grid.coords t) = 1#1 ↔ t.val = 0 :=
  (by decide +kernel : ∀ t : Fin grid0.N, k0_cond1 (grid0.coords t) = 1#1 ↔ t.val = 0)
theorem row_step : ∀ t : Fin cfg0.N, k0_cond2 (cfg0.grid.coords t) = 1#1 ↔ t.val % 4 = 0 :=
  (by decide +kernel : ∀ t : Fin grid0.N, k0_cond2 (grid0.coords t) = 1#1 ↔ t.val % 4 = 0)
theorem idle5 : ∀ t : Fin cfg0.N, cfg0.idle 5 (cfg0.grid.coords t) = !decide (t.val % 4 = 0) :=
  (by decide +kernel : ∀ t : Fin grid0.N, cfg0.idle 5 (grid0.coords t) = !decide (t.val % 4 = 0))
theorem idle6 : ∀ t : Fin cfg0.N, cfg0.idle 6 (cfg0.grid.coords t) = !decide (t.val % 4 = 0) :=
  (by decide +kernel : ∀ t : Fin grid0.N, cfg0.idle 6 (grid0.coords t) = !decide (t.val % 4 = 0))
theorem fresh5 (t : Fin cfg0.N) : cfg0.fresh 5 t.val = decide (t.val % 4 = 0) :=
  Pipeline.Cfg.fresh_tab cfg0 5 (fun n => decide (n % 4 = 0)) rfl
    (by decide +kernel : ∀ t : Fin cfg0.N, decide ((t.val + 1) % 4 = 0)
      = ((cfg0.win 5).flush t || (cfg0.idle 5 (cfg0.grid.coords t) && decide (t.val % 4 = 0)))) t.val (Nat.le_of_lt t.isLt)
theorem fresh6 (t : Fin cfg0.N) : cfg0.fresh 6 t.val = decide (t.val % 16 = 0) :=
  Pipeline.Cfg.fresh_tab cfg0 6 (fun n => decide (n % 16 = 0)) rfl
    (by decide +kernel : ∀ t : Fin cfg0.N, decide ((t.val + 1) % 16 = 0)
      = ((cfg0.win 6).flush t || (cfg0.idle 6 (cfg0.grid.coords t) && decide (t.val % 16 = 0)))) t.val (Nat.le_of_lt t.isLt)

/-- The first step of row block `n`. -/
def head (n : ℕ) : Fin cfg0.N := ⟨4 * n % 16, lt_of_lt_of_eq (Nat.mod_lt _ (by decide)) N_0.symm⟩

theorem lt16 (t : Fin cfg0.N) : t.val < 16 := lt_of_lt_of_eq t.isLt N_0
theorem head_of (t : Fin cfg0.N) (h : t.val % 4 = 0) : head (t.val / 4) = t := by
  have := lt16 t; apply Fin.ext; show 4 * (t.val / 4) % 16 = t.val; omega

/-! ## What the outputs hold -/

/-- A row block's gradient of the norm. -/
def rowOut (c : Dev nD) (n : ℕ) : Vec F S1024x1024 .bf16 := k0_pay5 (iblk m c 0 (head n)) (iblk m c 1 (head n)) (iblk m c 2 (head n))
/-- The gain's sum over the first `n` row blocks. -/
def gainOut (c : Dev nD) : ℕ → Vec F S1x1024 .f32
  | 0 => k0_pay1 (F := F)
  | n + 1 => k0_pay6 (iblk m c 0 (head n)) (iblk m c 2 (head n)) (gainOut c n)
/-- A step's block of the squares' gradient. -/
def prodOut (c : Dev nD) (t : Fin cfg0.N) : Vec F S1024x1024 .bf16 := k0_pay7 (rowOut m c (t.val / 4)) (iblk m c 3 t) (iblk m c 4 t)

/-- The data of the call's steps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rowOut m c (t.val / 4)
    | ⟨6, _⟩ => gainOut m c (t.val / 4 + 1)
    | ⟨7, _⟩ => prodOut m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = rowOut m c (t.val / 4) := by dsimp only [dats]
theorem after6 (c : Dev nD) (t : Fin cfg0.N) : (dats m 0 c).after 6 t = gainOut m c (t.val / 4 + 1) := by dsimp only [dats]
theorem after7 (c : Dev nD) (t : Fin cfg0.N) : (dats m 0 c).after 7 t = prodOut m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Within a row block the norm's gradient is still there. -/
theorem before5 (c : Dev nD) (t : Fin cfg0.N) (h : t.val % 4 ≠ 0) (d) : (dats m 0 c).before 5 t d = rowOut m c (t.val / 4) := by
  rw [Dat.before_out_traj _ 5 rfl (fun _ _ => rfl) (fun t h0 hi _ => by
      rw [idle5] at hi
      have h4 : t.val % 4 ≠ 0 := by simpa using hi
      rw [after5, after5]; congr 1; show t.val / 4 = (t.val - 1) / 4; omega) t.val t rfl d,
    fresh5, decide_eq_false h, if_neg Bool.false_ne_true, after5]
  congr 1; show (t.val - 1) / 4 = t.val / 4; omega
/-- After the first step the gain's sum is what the step before left. -/
theorem before6 (c : Dev nD) (t : Fin cfg0.N) (h : t.val ≠ 0) (d) : (dats m 0 c).before 6 t d = gainOut m c ((t.val - 1) / 4 + 1) := by
  have := lt16 t
  rw [Dat.before_out_traj _ 6 rfl (fun _ _ => rfl) (fun t h0 hi _ => by
      rw [idle6] at hi
      have h4 : t.val % 4 ≠ 0 := by simpa using hi
      rw [after6, after6]; congr 2; show t.val / 4 = (t.val - 1) / 4; omega) t.val t rfl d,
    fresh6, decide_eq_false (by omega), if_neg Bool.false_ne_true, after6]

/-! ## One step -/

/-- Held before a step. -/
def stepPre (c : Dev nD) (t : Fin cfg0.N) : sProp (Res (F := F)) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- Held after it. -/
def stepPost (c : Dev nD) (t : Fin cfg0.N) : sProp (Res (F := F)) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- The buffers with every window at its recorded contents. -/
def held (c : Dev nD) (t : Fin cfg0.N) : sProp (Res (F := F)) :=
  iprop((dats m 0 c).Φ t.castSucc ∗ (dats m 0 c).owesAt () t.castSucc
    ∗ inputs c (st0_0 t) (st0_1 t) (st0_2 t) (st0_3 t) (st0_4 t) (iblk m c 0 t) (iblk m c 1 t) (iblk m c 2 t) (iblk m c 3 t) (iblk m c 4 t)
    ∗ outputs c (st0_5 t) (st0_6 t) (st0_7 t) (rowOut m c (t.val / 4)) (gainOut m c (t.val / 4 + 1)) (prodOut m c t))

/-- An output's buffer at its recorded contents is what the step owes, stored to or not. -/
theorem leaves5 (c : Dev nD) (t : Fin cfg0.N) : owns (c : Thread nD τ) (st0_5 t) fullShare (rowOut m c (t.val / 4)) ⊢ (dats m 0 c).leavesExact 5 t := by
  by_cases h : t.val % 4 = 0
  · unfold Dat.leavesExact; rw [idle5 t, decide_eq_true h]; exact .of_eq (by rw [← after5]; rfl)
  · cases hf : (cfg0.win 5).flush t with
    | false =>
      rw [Dat.leavesExact_idle _ 5 t (by rw [idle5, decide_eq_false h]; rfl) hf]
      iintro H; iexists (rowOut m c 0); rw [before5 m c t h]; iexact H
    | true => unfold Dat.leavesExact; rw [idle5 t, decide_eq_false h]; simp only [Bool.not_false, hf]; exact .of_eq (by rw [← after5])
theorem leaves6 (c : Dev nD) (t : Fin cfg0.N) : owns (c : Thread nD τ) (st0_6 t) fullShare (gainOut m c (t.val / 4 + 1)) ⊢ (dats m 0 c).leavesExact 6 t := by
  by_cases h : t.val % 4 = 0
  · unfold Dat.leavesExact; rw [idle6 t, decide_eq_true h]; exact .of_eq (by rw [← after6]; rfl)
  · cases hf : (cfg0.win 6).flush t with
    | false =>
      rw [Dat.leavesExact_idle _ 6 t (by rw [idle6, decide_eq_false h]; rfl) hf]
      iintro H; iexists (gainOut m c 0); rw [before6 m c t (by omega), show (t.val - 1) / 4 = t.val / 4 by omega]; iexact H
    | true => unfold Dat.leavesExact; rw [idle6 t, decide_eq_false h]; simp only [Bool.not_false, hf]; exact .of_eq (by rw [← after6])

theorem post_of_held (c : Dev nD) (t : Fin cfg0.N) : held m c t ⊢ stepPost m c t := by
  unfold held stepPost inputs outputs
  rw [show (dats m 0 c).Φ t.succ = (dats m 0 c).Φ t.castSucc from rfl, show (dats m 0 c).owesAt () t.succ = (dats m 0 c).owesAt () t.castSucc from rfl]
  iintro ⟨HΦ, Ho, ⟨H0, H1, H2, H3, H4⟩, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply (leaves5 m c t); iexact H5
  isplitl [H6]; · iapply (leaves6 m c t); iexact H6
  iexact H7

theorem sound_body (c : Dev nD) (t : Fin cfg0.N) :
    stepPre m c t ⊢ wp frame (wpE (defs₀ (F := F)) Variants.none c none) Set.univ (bodyAt0 t) (fun _ => stepPost m c t) := by
  refine BI.BIBase.Entails.trans ?_ ((wp frame (wpE (defs₀ (F := F)) Variants.none c none) Set.univ (bodyAt0 t)).mono fun _ => post_of_held m c t)
  unfold stepPre held bodyAt0
  simp only [before0, before1, before2, before3, before4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h : t.val % 4 = 0
  · have hr : rowOut m c (t.val / 4) = k0_pay5 (iblk m c 0 t) (iblk m c 1 t) (iblk m c 2 t) := by unfold rowOut; rw [head_of t h]
    by_cases h0 : t.val = 0
    · have hg : gainOut m c (t.val / 4 + 1) = k0_pay6 (iblk m c 0 t) (iblk m c 2 t) (k0_pay1 (F := F)) := by
        rw [gainOut, head_of t h, h0]; rfl
      unfold prodOut
      rw [hr, hg]
      iapply (runA c (cfg0.grid.coords t) _ _ _ _ _ _ _ _ _ _ _ _ _ _ _ _ (iblk m c 0 t) (iblk m c 1 t) (iblk m c 2 t) (iblk m c 3 t) (iblk m c 4 t)
        ((first_step t).mpr h0) ((row_step t).mpr h) Set.univ _)
      isplitl [H0 H1 H2 H3 H4]
      · unfold inputs
        isplitl [H0]; · iexact H0
        isplitl [H1]; · iexact H1
        isplitl [H2]; · iexact H2
        isplitl [H3]; · iexact H3
        iexact H4
      isplitl [H5]; · iexists _; iexact H5
      isplitl [H6]; · iexists _; iexact H6
      isplitl [H7]; · iexists _; iexact H7
      iintro ⟨HI, HO⟩
      isplitl [HΦ]; · iexact HΦ
      isplitl [Ho]; · iexact Ho
      isplitl [HI]; · iexact HI
      iexact HO
    · have hg : gainOut m c (t.val / 4 + 1) = k0_pay6 (iblk m c 0 t) (iblk m c 2 t) (gainOut m c ((t.val - 1) / 4 + 1)) := by
        rw [gainOut, head_of t h, show (t.val - 1) / 4 + 1 = t.val / 4 by omega]
      unfold prodOut
      rw [hr, hg, before6 m c t h0]
      iapply (runC c (cfg0.grid.coords t) _ _ _ _ _ _ _ _ _ _ _ _ _ _ _ _ (iblk m c 0 t) (iblk m c 1 t) (iblk m c 2 t) (iblk m c 3 t) (iblk m c 4 t)
        (fun h' => h0 ((first_step t).mp h')) ((row_step t).mpr h) _ Set.univ _)
      isplitl [H0 H1 H2 H3 H4]
      · unfold inputs
        isplitl [H0]; · iexact H0
        isplitl [H1]; · iexact H1
        isplitl [H2]; · iexact H2
        isplitl [H3]; · iexact H3
        iexact H4
      isplitl [H5]; · iexists _; iexact H5
      isplitl [H6]; · iexact H6
      isplitl [H7]; · iexists _; iexact H7
      iintro ⟨HI, HO⟩
      isplitl [HΦ]; · iexact HΦ
      isplitl [Ho]; · iexact Ho
      isplitl [HI]; · iexact HI
      iexact HO
  · have h0 : t.val ≠ 0 := fun e => h (by rw [e])
    unfold prodOut
    rw [before5 m c t h, before6 m c t h0, show (t.val - 1) / 4 = t.val / 4 by omega]
    iapply (runB c (cfg0.grid.coords t) _ _ _ _ _ _ _ _ _ _ _ _ _ _ _ _ (iblk m c 0 t) (iblk m c 1 t) (iblk m c 2 t) (iblk m c 3 t) (iblk m c 4 t)
      (fun h' => h0 ((first_step t).mp h')) (fun h' => h ((row_step t).mp h')) _ _ Set.univ _)
    isplitl [H0 H1 H2 H3 H4]
    · unfold inputs
      isplitl [H0]; · iexact H0
      isplitl [H1]; · iexact H1
      isplitl [H2]; · iexact H2
      isplitl [H3]; · iexact H3
      iexact H4
    isplitl [H5]; · iexact H5
    isplitl [H6]; · iexact H6
    isplitl [H7]; · iexists _; iexact H7
    iintro ⟨HI, HO⟩
    isplitl [HΦ]; · iexact HΦ
    isplitl [Ho]; · iexact Ho
    isplitl [HI]; · iexact HI
    iexact HO

theorem row_of_body (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, row_of_body]
  exact triple_restated (sound_body m c t) rfl .rfl fun _ => .rfl

/-! ## The whole program's run -/

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every array of the call at what the steps leave, every other buffer as the host lines left it. -/
theorem run_main : θ_run defs (onTc (τ := τ) (main (F := F))) (s₀ m ρ) (Pipeline.FramePost cfgs (dats m) 0 (V m)) :=
  (θ_run defs _ _).mono (fun _ h => h.1) (run_main_quiescent m ρ)

/-- The program runs to its end from any memory, its arguments unchanged and no signal pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.DdownIdeal.Gen

end
-- ==== Proof.DdownFrame.lean ====
module

public import proofs.«01_k».proof.Proof.DdownIdealFrame
public import proofs.«01_k».proof.Proof.Gen.Ddown.Launch
public import proofs.«01_k».proof.Defs

/-! The same run over the machine's own floats: the two programs have one text. -/

@[expose] public section

set_option maxRecDepth 16384

namespace Cert.Ddown.Gen

open Idealize.ShloMosaic Idealize.ShloMosaic.TcCoe Idealize.SL.Sem

theorem one_table : Cert.Ddown.defs (F := Bits) = Cert.DdownIdeal.defs (F := Bits) := by sl_kernel_rfl
theorem one_text : Cert.Ddown.main (F := Bits) = Cert.DdownIdeal.main (F := Bits) := by sl_kernel_rfl

/-- The program runs to its end from any memory, its arguments unchanged and no signal pending. -/
theorem frame : Cert.quiescent_Ddown := fun m ρ _ => by
  rw [one_text, one_table]
  exact Cert.DdownIdeal.Gen.frame (F := Bits) m ρ

end Cert.Ddown.Gen
-- ==== Proof.NormMath.lean ====
module

public import proofs.«01_k».proof.Proof.Reals
public import Idealize.ShloMosaic.Lib.IdealHost

/-! A norm's gradient: a row over the root of its squares' mean and a small constant, times a gain. -/

@[expose] public section

noncomputable section

namespace Cert.NormMath

open Idealize.ShloMosaic Cert.Reals

/-- The constant under the root. -/
def eps : ℝ := 8796093 / 8796093022208

theorem eps_pos : 0 < eps := by unfold eps; norm_num

theorem eps_f32 : Ideal.ofBits .f32 0x358637BD#32 = (eps : EReal) := by
  simp [Ideal.ofBits, Ideal.ieee, eps, -EReal.coe_mul]; norm_num

variable {ι : Type} [Fintype ι]

/-- The reciprocal root of a row, and the row's gradient, as the kernel computes them. -/
def root (n : EReal) (X : ι → EReal) : EReal := Ideal.rsqrt (Ideal.div (∑ k, X k * X k) n + (eps : EReal))
def pulled (n : EReal) (X G D : ι → EReal) (k : ι) : EReal :=
  root n X * (D k * G k - X k * root n X * Ideal.div (∑ j, D j * G j * (X j * root n X)) n)

variable (n : ℝ) (hn : 0 < n) (x g d : ι → ℝ)

def under : ℝ := (∑ k, x k * x k) / n + eps
def rootR : ℝ := (Real.sqrt (under n x))⁻¹
def pulledR (k : ι) : ℝ := rootR n x * (d k * g k - x k * rootR n x * ((∑ j, d j * g j * (x j * rootR n x)) / n))

include hn in
theorem under_pos : 0 < under n x :=
  add_pos_of_nonneg_of_pos (div_nonneg (Finset.sum_nonneg fun k _ => mul_self_nonneg _) hn.le) eps_pos

include hn in
theorem root_real : root (n : EReal) (fun k => (x k : EReal)) = (rootR n x : EReal) := by
  unfold root
  simp only [← EReal.coe_mul, coe_sum, div_real _ hn.ne', ← EReal.coe_add]
  rw [Ideal.rsqrt_coe]
  have h : 0 < (∑ k, x k * x k) / n + eps := under_pos n hn x
  rw [if_neg (not_lt.mpr h.le), if_neg h.ne']
  rfl

include hn in
theorem pulled_real (k : ι) : pulled (n : EReal) (fun k => (x k : EReal)) (fun k => (g k : EReal)) (fun k => (d k : EReal)) k = (pulledR n x g d k : EReal) := by
  unfold pulled
  simp only [root_real n hn, ← EReal.coe_mul, coe_sum, div_real _ hn.ne', ← EReal.coe_sub]
  rfl

/-- What the reference gets for the squares of a row. -/
def squareR : ℝ := (∑ j, x j * (d j * g j)) * (-(1 / 2) * (rootR n x / under n x)) / n

include hn in
theorem pulled_ref (k : ι) : d k * g k * rootR n x + x k * squareR n x g d + squareR n x g d * x k = pulledR n x g d k := by
  have h := under_pos n hn x
  have hr : rootR n x * rootR n x = (under n x)⁻¹ := by
    unfold rootR
    rw [← mul_inv, Real.mul_self_sqrt h.le]
  have hs : ∑ j, d j * g j * (x j * rootR n x) = rootR n x * ∑ j, x j * (d j * g j) := by
    rw [Finset.mul_sum]
    exact Finset.sum_congr rfl fun j _ => by ring
  unfold squareR pulledR
  rw [hs, div_eq_mul_inv (rootR n x), ← hr]
  ring

end Cert.NormMath
-- ==== Proof.NormLines.lean ====
module

public import proofs.«01_k».proof.Proof.NormMath
public import Idealize.ShloMosaic.Lib.Pipeline.ValueKit
public import Idealize.ShloMosaic.Lib.Pointwise
public import Idealize.ShloMosaic.Lib.IdealHost

/-! The reference's lines for a norm's gradient over 4096 rows of 1024, read at an index. -/

@[expose] public section

set_option maxRecDepth 16384

noncomputable section

namespace Cert.NormLines

open Idealize.ShloMosaic Cert.Reals Cert.NormMath

abbrev SX : Shape := ⟨2, ![4096, 1024]⟩
abbrev SR : Shape := ⟨1, ![4096]⟩
abbrev SC : Shape := ⟨2, ![4096, 1]⟩
abbrev SG : Shape := ⟨1, ![1024]⟩
abbrev S1G : Shape := ⟨2, ![1, 1024]⟩
abbrev S0 : Shape := ⟨0, ![]⟩

/-- The shapes' side conditions. -/
class Sides : Prop where
  rows : SX.ReducesTo [1] SR
  some_ : 0 < S0.numel
  stand : SR.BroadcastsInDim SC (![0] : Fin 1 → Fin SC.rank)
  fill : S0.BroadcastsInDim SC (![] : Fin 0 → Fin SC.rank)
  along : SC.BroadcastsInDim SX (![0, 1] : Fin 2 → Fin SX.rank)
  lie : SG.BroadcastsInDim S1G (![1] : Fin 1 → Fin S1G.rank)
  down : S1G.BroadcastsInDim SX (![0, 1] : Fin 2 → Fin SX.rank)
  cols : SX.ReducesTo [0] SG
  flat : SG.ShapeCasts S1G
  one : S1G.ReducesTo [0] SG
  tall : SR.ShapeCasts SC
  single : SC.ReducesTo [1] SR
  across : SR.BroadcastsInDim SX (![0] : Fin 1 → Fin SX.rank)

variable [S : Sides]

abbrev zero : FVec Ideal S0 .f32 := constant S0 .f32 0x00000000#32

/-- What is under the root. -/
def underL (h : FVec Ideal SX .f32) : FVec Ideal SC .f32 :=
  addf (Host.divf (broadcastInDim SC ![0] S.stand (Host.reduceAdd (mulf h h) zero S.rows S.some_))
    (broadcastInDim SC ![] S.fill (constant S0 .f32 0x44800000#32))) (broadcastInDim SC ![] S.fill (constant S0 .f32 0x358637BD#32))

def rootL (h : FVec Ideal SX .f32) : FVec Ideal SX .f32 := broadcastInDim SX ![0, 1] S.along (Host.rsqrt (underL h))

/-- The product's gradient with the gain. -/
def gainedL (g : FVec Ideal SG .f32) (d : FVec Ideal SX .f32) : FVec Ideal SX .f32 :=
  mulf d (broadcastInDim SX ![0, 1] S.down (broadcastInDim S1G ![1] S.lie g))

/-- The squares' gradient. -/
def squareL (h e : FVec Ideal SX .f32) : FVec Ideal SX .f32 :=
  broadcastInDim SX ![0] S.across (Host.reduceAdd (Host.divf (mulf (shapeCast SC (Host.reduceAdd (mulf h e) zero S.rows S.some_) S.tall)
    (mulf (broadcastInDim SC ![] S.fill (constant S0 .f32 0xBF000000#32)) (Host.divf (Host.rsqrt (underL h)) (underL h))))
    (broadcastInDim SC ![] S.fill (constant S0 .f32 0x44800000#32))) zero S.single S.some_)

/-- The gain's gradient. -/
def gainL (h d : FVec Ideal SX .f32) : FVec Ideal S1G .f32 :=
  shapeCast S1G (Host.reduceAdd (shapeCast S1G (Host.reduceAdd (mulf (mulf h (rootL h)) d) zero S.cols S.some_) S.flat) zero S.one S.some_) S.flat

theorem minus_half_f32 : Ideal.ofBits .f32 0xBF000000#32 = ((-(1 / 2) : ℝ) : EReal) := by
  simp [Ideal.ofBits, Ideal.ieee, -EReal.coe_mul]; norm_num

theorem underL_apply (h : FVec Ideal SX .f32) (a : Fin 4096) :
    underL h (ix2 a 0) = Ideal.div (∑ k : Fin 1024, h (ix2 a k) * h (ix2 a k)) ((1024 : ℝ) : EReal) + (eps : EReal) := by
  unfold underL
  pointwise [row_f32, eps_f32]

theorem rootL_apply (h : FVec Ideal SX .f32) (a : Fin 4096) (k : Fin 1024) :
    rootL h (ix2 a k) = root ((1024 : ℝ) : EReal) (fun k : Fin 1024 => h (ix2 a k)) := by
  unfold rootL root
  pointwise [underL_apply]

theorem gainedL_apply (g : FVec Ideal SG .f32) (d : FVec Ideal SX .f32) (a : Fin 4096) (k : Fin 1024) :
    gainedL g d (ix2 a k) = d (ix2 a k) * g (ix1 k) := by
  unfold gainedL
  pointwise

theorem squareL_apply (h e : FVec Ideal SX .f32) (a : Fin 4096) (k : Fin 1024) :
    squareL h e (ix2 a k) = Ideal.div ((∑ k : Fin 1024, h (ix2 a k) * e (ix2 a k)) * (((-(1 / 2) : ℝ) : EReal)
      * Ideal.div (Ideal.rsqrt (underL h (ix2 a 0))) (underL h (ix2 a 0)))) ((1024 : ℝ) : EReal) := by
  unfold squareL
  pointwise [row_f32, minus_half_f32]
  exact Fin.sum_univ_one _

theorem gainL_apply (h d : FVec Ideal SX .f32) (k : Fin 1024) :
    gainL h d (ix2 0 k) = ∑ a : Fin 4096, d (ix2 a k) * (h (ix2 a k) * root ((1024 : ℝ) : EReal) (fun k : Fin 1024 => h (ix2 a k))) := by
  unfold gainL
  pointwise [rootL_apply]
  simp only [mul_comm, mul_left_comm, mul_assoc]
  exact Fin.sum_univ_one _

variable (h d : FVec Ideal SX .f32) (g : FVec Ideal SG .f32) (x : Fin 4096 → Fin 1024 → ℝ) (y : Fin 4096 → Fin 1024 → ℝ) (w : Fin 1024 → ℝ)
  (hx : ∀ a k, h (ix2 a k) = (x a k : EReal)) (hy : ∀ a k, d (ix2 a k) = (y a k : EReal)) (hw : ∀ k, g (ix1 k) = (w k : EReal))

include hx in
theorem rootL_real (a : Fin 4096) (k : Fin 1024) : rootL h (ix2 a k) = (rootR 1024 (x a) : EReal) := by
  rw [rootL_apply]
  simp only [hx]
  exact root_real 1024 (by norm_num) (x a)

include hy hw in
theorem gainedL_real (a : Fin 4096) (k : Fin 1024) : gainedL g d (ix2 a k) = ((y a k * w k : ℝ) : EReal) := by
  rw [gainedL_apply, hy, hw, ← EReal.coe_mul]

include hx in
theorem underL_real (a : Fin 4096) : underL h (ix2 a 0) = (under 1024 (x a) : EReal) := by
  rw [underL_apply]
  simp only [hx, ← EReal.coe_mul, coe_sum, div_real _ (show (1024 : ℝ) ≠ 0 by norm_num), ← EReal.coe_add]
  rfl

include hx hy hw in
theorem squareL_real (a : Fin 4096) (k : Fin 1024) : squareL h (gainedL g d) (ix2 a k) = (squareR 1024 (x a) w (y a) : EReal) := by
  have hu := under_pos 1024 (by norm_num) (x a)
  rw [squareL_apply, underL_real h x hx, Ideal.rsqrt_coe, if_neg (not_lt.mpr hu.le), if_neg hu.ne', div_real _ hu.ne']
  simp only [hx, gainedL_real d g y w hy hw, ← EReal.coe_mul, coe_sum, div_real _ (show (1024 : ℝ) ≠ 0 by norm_num)]
  rfl

include hx hy hw in
/-- The three terms that the reference adds are the row's gradient. -/
theorem pulled_lines (a : Fin 4096) (k : Fin 1024) :
    gainedL g d (ix2 a k) * rootL h (ix2 a k) + h (ix2 a k) * squareL h (gainedL g d) (ix2 a k) + squareL h (gainedL g d) (ix2 a k) * h (ix2 a k)
      = pulled ((1024 : ℝ) : EReal) (fun k : Fin 1024 => h (ix2 a k)) (fun k => g (ix1 k)) (fun k => d (ix2 a k)) k := by
  rw [rootL_real h x hx, gainedL_real d g y w hy hw, squareL_real h d g x y w hx hy hw]
  simp only [hx, hy, hw]
  rw [pulled_real 1024 (by norm_num) (x a) w (y a) k, ← pulled_ref 1024 (by norm_num)]
  simp only [← EReal.coe_mul, ← EReal.coe_add]

end Cert.NormLines

end
-- ==== Proof.DdownGrad.lean ====
module

public import proofs.«01_k».proof.Proof.DdownIdealFrame
public import proofs.«01_k».proof.Proof.Gen.DdownRefIdeal.Run
public import proofs.«01_k».proof.Proof.NormLines
public import proofs.«01_k».proof.Defs
public import Idealize.ShloMosaic.Lib.Pipeline.ValueKit
public import Idealize.ShloMosaic.Lib.Pipeline.Value
public import Idealize.ShloMosaic.Lib.Pointwise
public import Idealize.ShloMosaic.Lib.IdealHost
public import Idealize.ShloMosaic.Lib.StableHlo.RunRead
public import Idealize.ShloMosaic.Lib.Claim
public import Idealize.ShloMosaic.Lib.WordCmp

/-! The gradient of the norm after the channel mixer, of its gain, and of the mixer's second product and its squares: what
the call leaves is what the reference's lines leave, at finite arguments. -/

@[expose] public section

set_option maxRecDepth 16384

noncomputable section

open Idealize.ShloMosaic Idealize.ShloMosaic.TcCoe Idealize.SL.Sem
open Idealize.ShloMosaic.Pipeline (Dat)

namespace Cert.DdownIdeal.Value

open Cert.DdownIdeal Cert.DdownIdeal.Gen Cert.Reals Cert.NormMath

variable (m : (ℓ : Loc nD τ sig) → Buf (Elt Ideal) ℓ)

/-- Every window's block index, by the grid point's number. -/
theorem idx : ∀ t : Fin cfg0.N, win0_0.index t = ![t.val / 4, 0] ∧ win0_1.index t = ![0, 0] ∧ win0_2.index t = ![t.val / 4, 0]
    ∧ win0_3.index t = ![t.val % 4, 0] ∧ win0_4.index t = ![t.val / 4, t.val % 4] ∧ win0_5.index t = ![t.val / 4, 0]
    ∧ win0_7.index t = ![t.val / 4, t.val % 4] :=
  (by decide +kernel : ∀ t : Fin grid0.N, _)

/-! ### The mixer's second product, and the results -/

/-- The positive part of an entry. -/
def kept (u : FVec Ideal S4096x4096 .f32) (a x : Fin 4096) : EReal := max (u (ix2 a x)) 0
/-- The product that the norm takes. -/
def mixed (u : FVec Ideal S4096x4096 .f32) (w : FVec Ideal S4096x1024 .f32) (a : Fin 4096) (k : Fin 1024) : EReal :=
  ∑ x : Fin 4096, kept u a x * kept u a x * w (ix2 x k)

section
variable (u : FVec Ideal S4096x4096 .f32) (g : FVec Ideal S1024 .f32) (w d : FVec Ideal S4096x1024 .f32)

/-- One row of the norm's gradient. -/
def normRow (a : Fin 4096) (k : Fin 1024) : EReal := pulled ((1024 : ℝ) : EReal) (mixed u w a) (fun k => g (ix1 k)) (fun k => d (ix2 a k)) k
/-- One row's share of the gain's gradient. -/
def gainRow (a : Fin 4096) (k : Fin 1024) : EReal := d (ix2 a k) * (mixed u w a k * root ((1024 : ℝ) : EReal) (mixed u w a))
/-- One row of the mixer's gradient. -/
def mixRow (a x : Fin 4096) : EReal :=
  (∑ j : Fin 1024, normRow u g w d a j * w (ix2 x j)) * (((2 : ℝ) : EReal) * Ideal.sqrt (kept u a x * kept u a x))

abbrev NORM : FVec Ideal S4096x1024 .f32 := fun i => normRow u g w d (i 0) (i 1)
abbrev GAINS : FVec Ideal S1x1024 .f32 := fun i => ∑ a : Fin 4096, gainRow u w d a (i 1)
abbrev MIX : FVec Ideal S4096x4096 .f32 := fun i => mixRow u g w d (i 0) (i 1)
end

/-! ### The arrays before the call -/

variable (c : Dev nD)

/-- The squares of the positive parts. -/
def squares (u : FVec Ideal S4096x4096 .f32) : FVec Ideal S4096x4096 .bf16 :=
  truncf (F := Ideal) .bf16 (mulf (maximumf u (broadcastInDim S4096x4096 ![] bcast_S_S4096x4096 (constant S_ .f32 0x00000000#32)))
    (maximumf u (broadcastInDim S4096x4096 ![] bcast_S_S4096x4096 (constant S_ .f32 0x00000000#32)))) bitsLt_bf16_f32

theorem squares_apply (u : FVec Ideal S4096x4096 .f32) (a x : Fin 4096) : (squares u : _ → EReal) (ix2 a x) = kept u a x * kept u a x := by
  unfold squares kept
  pointwise

theorem V_v3 : V m c main_v3 = squares (m ((c : Thread nD τ).loc main_arg0)) := by
  unfold V squares; after_reads_simp
theorem V_v5 : V m c main_v5 = Host.dotGeneral (φ₂ := .bf16) dot_S4096x4096_S4096x1024_S4096x1024_1_0_0_1_n_n none
    (squares (m ((c : Thread nD τ).loc main_arg0)))
    (truncf (F := Ideal) .bf16 (m ((c : Thread nD τ).loc main_arg2) : FVec Ideal S4096x1024 .f32) bitsLt_bf16_f32) := by
  unfold V squares; after_reads_simp
theorem V_v6 : V m c main_v6 = shapeCast S1x1024 (m ((c : Thread nD τ).loc main_arg1)) shapeCasts_S1024_S1x1024 := by
  unfold V; after_reads_simp; rfl
theorem V_v7 : V m c main_v7 = truncf (F := Ideal) .bf16 (m ((c : Thread nD τ).loc main_arg2) : FVec Ideal S4096x1024 .f32) bitsLt_bf16_f32 := by
  unfold V; after_reads_simp
theorem V_arg3 : V m c main_arg3 = m ((c : Thread nD τ).loc main_arg3) := by
  unfold V; after_reads_simp

theorem V_v5_apply (a : Fin 4096) (k : Fin 1024) :
    (V m c main_v5 : _ → EReal) (ix2 a k) = mixed (m ((c : Thread nD τ).loc main_arg0)) (m ((c : Thread nD τ).loc main_arg2)) a k := by
  rw [V_v5]
  unfold mixed
  pointwise [squares_apply]

/-! ### The stored values -/

theorem pay3_apply (h : FVec Ideal S1024x1024 .f32) (a : Fin 1024) :
    (k0_pay3 (F := Ideal) h : _ → EReal) (ix2 a 0) = root ((1024 : ℝ) : EReal) (fun k : Fin 1024 => h (ix2 a k)) := by
  unfold k0_pay3 root
  pointwise [row_f32, eps_f32, k0_pay2]

theorem pay4_apply (h : FVec Ideal S1024x1024 .f32) (a : Fin 1024) (k : Fin 1024) :
    (k0_pay4 (F := Ideal) h : _ → EReal) (ix2 a k) = h (ix2 a k) * root ((1024 : ℝ) : EReal) (fun k : Fin 1024 => h (ix2 a k)) := by
  unfold k0_pay4
  pointwise [pay3_apply, k0_pay2]

theorem pay5_apply (h : FVec Ideal S1024x1024 .f32) (g : FVec Ideal S1x1024 .f32) (d : FVec Ideal S1024x1024 .f32) (a : Fin 1024) (k : Fin 1024) :
    (k0_pay5 (F := Ideal) h g d : _ → EReal) (ix2 a k)
      = pulled ((1024 : ℝ) : EReal) (fun k : Fin 1024 => h (ix2 a k)) (fun k => g (ix2 0 k)) (fun k => d (ix2 a k)) k := by
  unfold k0_pay5 pulled
  pointwise [pay3_apply, pay4_apply, row_f32]

theorem pay6_apply (h d : FVec Ideal S1024x1024 .f32) (y : FVec Ideal S1x1024 .f32) (k : Fin 1024) :
    (k0_pay6 (F := Ideal) h d y : _ → EReal) (ix2 0 k)
      = y (ix2 0 k) + ∑ a : Fin 1024, d (ix2 a k) * (h (ix2 a k) * root ((1024 : ℝ) : EReal) (fun k : Fin 1024 => h (ix2 a k))) := by
  unfold k0_pay6
  pointwise [pay4_apply]

theorem pay7_apply (x w r : FVec Ideal S1024x1024 .bf16) (a : Fin 1024) (k : Fin 1024) :
    (k0_pay7 (F := Ideal) x w r : _ → EReal) (ix2 a k)
      = (∑ j : Fin 1024, x (ix2 a j) * w (ix2 k j)) * (((2 : ℝ) : EReal) * Ideal.sqrt (r (ix2 a k))) := by
  unfold k0_pay7
  pointwise [two_f32]

/-! ### The blocks -/

/-- A row of a block as a row of the array. -/
def row (t : Fin cfg0.N) (a : Fin 1024) : Fin 4096 := ⟨t.val / 4 * 1024 + a.val, by have := lt16 t; have := a.isLt; omega⟩
/-- A column of the squares' block as a column of the array. -/
def col (t : Fin cfg0.N) (a : Fin 1024) : Fin 4096 := ⟨t.val % 4 * 1024 + a.val, by have := a.isLt; omega⟩

theorem row_head (t : Fin cfg0.N) (a : Fin 1024) : row (head (t.val / 4)) a = row t a := by
  have := lt16 t
  apply Fin.ext; show 4 * (t.val / 4) % 16 / 4 * 1024 + a.val = t.val / 4 * 1024 + a.val; omega

theorem blk0 (t : Fin cfg0.N) (a : Fin 1024) (k : Fin 1024) : (iblk m c 0 t : _ → EReal) (ix2 a k)
    = mixed (m ((c : Thread nD τ).loc main_arg0)) (m ((c : Thread nD τ).loc main_arg2)) (row t a) k := by
  refine Eq.trans ?_ (V_v5_apply m c (row t a) k)
  blk_point [iblk, idx t, row]
theorem blk1 (t : Fin cfg0.N) (k : Fin 1024) : (iblk m c 1 t : _ → EReal) (ix2 0 k) = m ((c : Thread nD τ).loc main_arg1) (ix1 k) := by
  blk_point [iblk, idx t, row, V_v6]
theorem blk2 (t : Fin cfg0.N) (a : Fin 1024) (k : Fin 1024) : (iblk m c 2 t : _ → EReal) (ix2 a k) = m ((c : Thread nD τ).loc main_arg3) (ix2 (row t a) k) := by
  blk_point [iblk, idx t, row, V_arg3]
theorem blk3 (t : Fin cfg0.N) (x : Fin 1024) (k : Fin 1024) : (iblk m c 3 t : _ → EReal) (ix2 x k) = m ((c : Thread nD τ).loc main_arg2) (ix2 (col t x) k) := by
  blk_point [iblk, idx t, col, V_v7]
theorem blk4 (t : Fin cfg0.N) (a : Fin 1024) (x : Fin 1024) : (iblk m c 4 t : _ → EReal) (ix2 a x)
    = kept (m ((c : Thread nD τ).loc main_arg0)) (row t a) (col t x) * kept (m ((c : Thread nD τ).loc main_arg0)) (row t a) (col t x) := by
  refine Eq.trans (b := (V m c main_v3 : _ → EReal) (ix2 (row t a) (col t x))) ?_ (by rw [V_v3]; exact squares_apply _ _ _)
  blk_point [iblk, idx t, row, col]
theorem blk5 (t : Fin cfg0.N) (a : Fin 1024) (k : Fin 1024) (X : FVec Ideal S4096x1024 .bf16) :
    X (((View.whole main_v8_0).slice (win0_5.rect t)).emb (ix2 a k)) = X (ix2 (row t a) k) := by
  blk_point [idx t, row]
theorem blk7 (t : Fin cfg0.N) (a : Fin 1024) (x : Fin 1024) (X : FVec Ideal S4096x4096 .bf16) :
    X (((View.whole main_v8_2).slice (win0_7.rect t)).emb (ix2 a x)) = X (ix2 (row t a) (col t x)) := by
  blk_point [idx t, row, col]

/-! ### The final arrays -/

/-- The norm's gradient in a row block. -/
theorem rowOut_apply (t : Fin cfg0.N) (a : Fin 1024) (k : Fin 1024) : (rowOut m c (t.val / 4) : _ → EReal) (ix2 a k)
    = normRow (m ((c : Thread nD τ).loc main_arg0)) (m ((c : Thread nD τ).loc main_arg1)) (m ((c : Thread nD τ).loc main_arg2))
      (m ((c : Thread nD τ).loc main_arg3)) (row t a) k := by
  unfold rowOut
  rw [pay5_apply]
  simp only [blk0, blk1, blk2, row_head]
  rfl

/-- The mixer's gradient in a block. -/
theorem prodOut_apply (t : Fin cfg0.N) (a : Fin 1024) (x : Fin 1024) : (prodOut m c t : _ → EReal) (ix2 a x)
    = mixRow (m ((c : Thread nD τ).loc main_arg0)) (m ((c : Thread nD τ).loc main_arg1)) (m ((c : Thread nD τ).loc main_arg2))
      (m ((c : Thread nD τ).loc main_arg3)) (row t a) (col t x) := by
  unfold prodOut
  rw [pay7_apply]
  simp only [rowOut_apply, blk3, blk4]
  rfl

theorem final5 : (dats m 0 c).arrAt 5 cfg0.N
    = NORM (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after5]
  obtain ⟨a, k, rfl⟩ : ∃ (a : Fin 1024) (k : Fin 1024), y = ix2 a k := ⟨y 0, y 1, eq_ix2 y⟩
  exact (rowOut_apply m c t a k).trans (blk5 t a k (NORM (m ((c : Thread nD τ).loc main_arg0)) (m ((c : Thread nD τ).loc main_arg1))
    (m ((c : Thread nD τ).loc main_arg2)) (m ((c : Thread nD τ).loc main_arg3)))).symm

theorem final7 : (dats m 0 c).arrAt 7 cfg0.N
    = MIX (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after7]
  obtain ⟨a, x, rfl⟩ : ∃ (a : Fin 1024) (x : Fin 1024), y = ix2 a x := ⟨y 0, y 1, eq_ix2 y⟩
  exact (prodOut_apply m c t a x).trans (blk7 t a x (MIX (m ((c : Thread nD τ).loc main_arg0)) (m ((c : Thread nD τ).loc main_arg1))
    (m ((c : Thread nD τ).loc main_arg2)) (m ((c : Thread nD τ).loc main_arg3)))).symm

/-- One row block's share of the gain's gradient. -/
def share (n : ℕ) (k : Fin 1024) : EReal :=
  ∑ a : Fin 1024, gainRow (m ((c : Thread nD τ).loc main_arg0)) (m ((c : Thread nD τ).loc main_arg2)) (m ((c : Thread nD τ).loc main_arg3)) (row (head n) a) k

/-- The gain's sum after `n` row blocks. -/
theorem gainOut_apply (k : Fin 1024) : ∀ n, (gainOut m c n : _ → EReal) (ix2 0 k) = ∑ i : Fin n, share m c i.val k
  | 0 => by
    unfold gainOut
    pointwise [k0_pay1]
    rfl
  | n + 1 => by
    rw [Fin.sum_univ_castSucc, gainOut, pay6_apply, gainOut_apply k n]
    simp only [blk0, blk2]
    rfl

theorem final6 : (dats m 0 c).arrAt 6 cfg0.N
    = GAINS (m ((c : Thread nD τ).loc main_arg0)) (m ((c : Thread nD τ).loc main_arg2)) (m ((c : Thread nD τ).loc main_arg3)) := by
  refine (dats m 0 c).arrAt_eq_of_after_last 6 t0_15 (by decide +kernel) _ fun j => ?_
  blk_simp
  rw [after6]
  obtain ⟨k, rfl⟩ : ∃ (k : Fin 1024), j = ix2 0 k := ⟨j 1, by rw [eq_ix2 j]; congr 1; exact Subsingleton.elim _ _⟩
  refine (gainOut_apply m c k 4).trans ?_
  refine (Finset.sum_congr (M := EReal) rfl fun i _ => ?_).trans
    (Fin.sum_mul_add_fin 4 1024 (fun a : Fin 4096 => gainRow (m ((c : Thread nD τ).loc main_arg0)) (m ((c : Thread nD τ).loc main_arg2)) (m ((c : Thread nD τ).loc main_arg3)) a k))
  unfold share
  refine Finset.sum_congr rfl fun a _ => congrArg (fun r => gainRow _ _ _ r k) (Fin.ext ?_)
  show 4 * i.val % 16 / 4 * 1024 + a.val = _
  have := i.isLt
  simp only []
  omega

/-! ### The run -/

theorem run_blocks (ρ : Dev nD → PrngReg) : θ_run defs (onTc (τ := τ) (main (F := Ideal))) ⟨m, fun _ => 0, ρ⟩ fun r => ∀ c : Dev nD,
      r.2.mem ((c : Thread nD τ).loc main_v8_0) = (dats m 0 c).arrAt 5 cfg0.N
      ∧ r.2.mem ((c : Thread nD τ).loc main_v8_1) = (dats m 0 c).arrAt 6 cfg0.N
      ∧ r.2.mem ((c : Thread nD τ).loc main_v8_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 5, (h.1 c).1 6, (h.1 c).1 7, h.2 c⟩)
    (θ_run_and (run_main m ρ) (frame_of m ρ (dats m) (A_eq m) (run_main m ρ)))

end Cert.DdownIdeal.Value

namespace Cert.DdownRefIdeal.Value

open Cert.DdownRefIdeal Cert.DdownRefIdeal.Gen Cert.Reals Cert.NormMath Cert.NormLines
open Cert.DdownIdeal.Value (kept mixed normRow gainRow mixRow)

theorem sides : NormLines.Sides :=
  ⟨reducesTo_S4096x1024_S4096_d1, h_S_, bcast_S4096_S4096x1_0, bcast_S_S4096x1, bcast_S4096x1_S4096x1024_0_1, bcast_S1024_S1x1024_1,
    bcast_S1x1024_S4096x1024_0_1, reducesTo_S4096x1024_S1024_d0, shapeCasts_S1024_S1x1024, reducesTo_S1x1024_S1024_d0, shapeCasts_S4096_S4096x1,
    reducesTo_S4096x1_S4096_d1, bcast_S4096_S4096x1024_0⟩

section
variable (u : FVec Ideal S4096x4096 .f32) (g : FVec Ideal S1024 .f32) (w d : FVec Ideal S4096x1024 .f32)

/-- Zeros, and the positive parts. -/
def zerosL : FVec Ideal S4096x4096 .f32 := broadcastInDim S4096x4096 ![] bcast_S_S4096x4096 (constant (F := Ideal) S_ .f32 0x00000000#32)
def keptL : FVec Ideal S4096x4096 .f32 := maximumf u zerosL
/-- The mixer's second product. -/
def mixedL : FVec Ideal S4096x1024 .f32 := Host.dotGeneral dot_S4096x4096_S4096x1024_S4096x1024_1_0_0_1_n_n none (mulf (keptL u) (keptL u)) w
/-- The norm's gradient. -/
def normL : FVec Ideal S4096x1024 .f32 :=
  have := sides
  addf (addf (mulf (gainedL g d) (rootL (mixedL u w))) (mulf (mixedL u w) (squareL (mixedL u w) (gainedL g d))))
    (mulf (squareL (mixedL u w) (gainedL g d)) (mixedL u w))
/-- The product's gradient, and the squares'. -/
def pullL (x : FVec Ideal S4096x1024 .f32) : FVec Ideal S4096x4096 .f32 := Host.dotGeneral dot_S4096x1024_S4096x1024_S4096x4096_1_1_0_0_n_n none x w
def mixL (x : FVec Ideal S4096x1024 .f32) : FVec Ideal S4096x4096 .f32 :=
  select (cmpf .ogt u zerosL) (addf (mulf (keptL u) (pullL w x)) (mulf (pullL w x) (keptL u))) zerosL

theorem keptL_apply (a x : Fin 4096) : keptL u (ix2 a x) = kept u a x := by
  unfold keptL zerosL kept
  pointwise
theorem mixedL_apply (a : Fin 4096) (k : Fin 1024) : mixedL u w (ix2 a k) = mixed u w a k := by
  unfold mixedL mixed
  pointwise [keptL_apply]
theorem pullL_apply (x : FVec Ideal S4096x1024 .f32) (a y : Fin 4096) : pullL w x (ix2 a y) = ∑ j : Fin 1024, x (ix2 a j) * w (ix2 y j) := by
  unfold pullL
  pointwise

/-- Twice the positive part where it is positive is twice the root of its square. -/
theorem mix_scalar (t p : ℝ) : (if (0 : EReal) < (t : EReal) then max (t : EReal) 0 * (p : EReal) + (p : EReal) * max (t : EReal) 0 else 0)
    = (p : EReal) * (((2 : ℝ) : EReal) * Ideal.sqrt (max (t : EReal) 0 * max (t : EReal) 0)) := by
  have e : max (t : EReal) 0 = ((max t 0 : ℝ) : EReal) := by rw [← EReal.coe_zero, coe_max]
  have n : 0 ≤ max t 0 := le_max_right _ _
  rw [e, ← EReal.coe_mul (max t 0) (max t 0), Ideal.sqrt_coe, Real.sqrt_mul_self n, if_neg (not_lt.mpr (mul_nonneg n n))]
  by_cases h : 0 < t
  · rw [if_pos (by exact_mod_cast h)]
    rw [← EReal.coe_mul, ← EReal.coe_mul, ← EReal.coe_mul, ← EReal.coe_mul, ← EReal.coe_add]
    congr 1; ring
  · rw [if_neg (by exact_mod_cast h), max_eq_right (not_lt.mp h)]
    simp

variable (U : Fin 4096 → Fin 4096 → ℝ) (G : Fin 1024 → ℝ) (W D : Fin 4096 → Fin 1024 → ℝ)
  (hU : ∀ a x, u (ix2 a x) = (U a x : EReal)) (hG : ∀ k, g (ix1 k) = (G k : EReal)) (hW : ∀ x k, w (ix2 x k) = (W x k : EReal))
  (hD : ∀ a k, d (ix2 a k) = (D a k : EReal))

/-- The mixer's second product over the reals. -/
def mixedR (a : Fin 4096) (k : Fin 1024) : ℝ := ∑ x : Fin 4096, max (U a x) 0 * max (U a x) 0 * W x k

include hU hW in
theorem mixed_real (a : Fin 4096) (k : Fin 1024) : mixed u w a k = (mixedR U W a k : EReal) := by
  unfold mixed kept mixedR
  simp only [hU, hW, ← EReal.coe_zero, coe_max, ← EReal.coe_mul, coe_sum]

include hU hG hW hD in
theorem normL_apply (a : Fin 4096) (k : Fin 1024) : normL u g w d (ix2 a k) = normRow u g w d a k := by
  have := sides
  have e : normL u g w d (ix2 a k) = gainedL g d (ix2 a k) * rootL (mixedL u w) (ix2 a k) + mixedL u w (ix2 a k) * squareL (mixedL u w) (gainedL g d) (ix2 a k)
      + squareL (mixedL u w) (gainedL g d) (ix2 a k) * mixedL u w (ix2 a k) := by
    unfold normL
    pointwise
  rw [e, pulled_lines _ _ _ (mixedR U W) D G (fun a k => by rw [mixedL_apply, mixed_real u w U W hU hW]) hD hG]
  simp only [mixedL_apply]
  rfl

include hU hG hW hD in
theorem normRow_real (a : Fin 4096) (k : Fin 1024) : ∃ r : ℝ, normRow u g w d a k = (r : EReal) := by
  unfold normRow
  rw [show mixed u w a = fun k => (mixedR U W a k : EReal) from funext fun k => mixed_real u w U W hU hW a k]
  simp only [hG, hD]
  exact ⟨_, pulled_real 1024 (by norm_num) (mixedR U W a) G (D a) k⟩

include hU hG hW hD in
theorem mixL_apply (a x : Fin 4096) : mixL u w (normL u g w d) (ix2 a x) = mixRow u g w d a x := by
  have e : mixL u w (normL u g w d) (ix2 a x) = if (0 : EReal) < u (ix2 a x) then keptL u (ix2 a x) * pullL w (normL u g w d) (ix2 a x)
      + pullL w (normL u g w d) (ix2 a x) * keptL u (ix2 a x) else 0 := by
    unfold mixL zerosL
    pointwise
  obtain ⟨p, hp⟩ : ∃ p : ℝ, (∑ j : Fin 1024, normRow u g w d a j * w (ix2 x j)) = (p : EReal) := by
    choose r hr using normRow_real u g w d U G W D hU hG hW hD a
    exact ⟨∑ j, r j * W x j, by simp only [hr, hW, ← EReal.coe_mul, coe_sum]⟩
  rw [e, pullL_apply, keptL_apply]
  simp only [normL_apply u g w d U G W D hU hG hW hD]
  unfold mixRow kept
  rw [hp, hU]
  exact mix_scalar _ _
end

end Cert.DdownRefIdeal.Value

namespace Cert

open Cert.DdownIdeal.Value Cert.DdownRefIdeal.Value Cert.Reals Cert.NormMath Cert.NormLines

section
variable (x : FVec Ideal Pre_ddown_finite.S4096x4096 .f32) (y : FVec Ideal Pre_ddown_finite.S1024 .f32) (z v : FVec Ideal Pre_ddown_finite.S4096x1024 .f32)
  [Pre_ddown_finite.Facts]

theorem ddown_real (p : Pre_ddown_finite.fn (F := Ideal) x y z v = (fun _ => 1#1, fun _ => 1#1, fun _ => 1#1, fun _ => 1#1)) :
    (∀ a k : Fin 4096, ∃ r : ℝ, x (ix2 a k) = (r : EReal)) ∧ (∀ k : Fin 1024, ∃ r : ℝ, y (ix1 k) = (r : EReal))
      ∧ (∀ (a : Fin 4096) (k : Fin 1024), ∃ r : ℝ, z (ix2 a k) = (r : EReal)) ∧ ∀ (a : Fin 4096) (k : Fin 1024), ∃ r : ℝ, v (ix2 a k) = (r : EReal) := by
  unfold Pre_ddown_finite.fn at p
  simp only [Prod.mk.injEq] at p
  obtain ⟨p0, p1, p2, p3⟩ := p
  refine ⟨fun a k => real_of_finite _ ?_, fun k => real_of_finite _ ?_, fun a k => real_of_finite _ ?_, fun a k => real_of_finite _ ?_⟩
  · have := congrFun p0 (ix2 a k)
    pointwise [top_f32] at this
    exact this
  · have := congrFun p1 (ix1 k)
    pointwise [top_f32] at this
    exact this
  · have := congrFun p2 (ix2 a k)
    pointwise [top_f32] at this
    exact this
  · have := congrFun p3 (ix2 a k)
    pointwise [top_f32] at this
    exact this
end

/-- The kernel's three results are the reference's, at finite arguments. -/
theorem ddown_algebraic [hPre : Pre_ddown_finite.Facts] : algebraic_DdownIdeal_DdownRefIdeal_pre_ddown_finite := by
  intro m g m' g' hpre hag
  let u (c : Dev DdownIdeal.nD) : FVec Ideal DdownIdeal.S4096x4096 .f32 := m ((c.tc : Thread DdownIdeal.nD DdownIdeal.τ).loc DdownIdeal.main_arg0)
  let y (c : Dev DdownIdeal.nD) : FVec Ideal DdownIdeal.S1024 .f32 := m ((c.tc : Thread DdownIdeal.nD DdownIdeal.τ).loc DdownIdeal.main_arg1)
  let w (c : Dev DdownIdeal.nD) : FVec Ideal DdownIdeal.S4096x1024 .f32 := m ((c.tc : Thread DdownIdeal.nD DdownIdeal.τ).loc DdownIdeal.main_arg2)
  let d (c : Dev DdownIdeal.nD) : FVec Ideal DdownIdeal.S4096x1024 .f32 := m ((c.tc : Thread DdownIdeal.nD DdownIdeal.τ).loc DdownIdeal.main_arg3)
  have real (c : Dev DdownIdeal.nD) := ddown_real (u c) (y c) (w c) (d c) (by
    obtain ⟨p0, p1, p2, p3⟩ := hpre c
    exact Prod.ext p0 (Prod.ext p1 (Prod.ext p2 p3)))
  refine ⟨fun c => NORM (u c) (y c) (w c) (d c), fun c => GAINS (u c) (w c) (d c), fun c => MIX (u c) (y c) (w c) (d c), ?_, ?_⟩
  · refine (θ_run _ _ _).mono (fun r h c => ?_) (DdownIdeal.Value.run_blocks m g)
    obtain ⟨h5, h6, h7, hu⟩ := h c
    exact ⟨h5.trans (final5 m c), h6.trans (final6 m c), h7.trans (final7 m c), hu⟩
  · refine (θ_run _ _ _).mono (fun r h c => ?_) (DdownRefIdeal.Value.run m' g')
    obtain ⟨h0, h1, h2, hu⟩ := h c
    obtain ⟨e0, e1, e2, e3⟩ := hag c
    obtain ⟨r0, r1, r2, r3⟩ := real c
    choose U hU using r0
    choose G hG using r1
    choose W hW using r2
    choose D hD using r3
    have := DdownRefIdeal.Value.sides
    refine ⟨h0.trans (funext fun i => ?_), h1.trans (funext fun i => ?_), h2.trans (funext fun i => ?_), hu⟩
    · obtain ⟨a, k, rfl⟩ : ∃ (a : Fin 4096) (k : Fin 1024), i = ix2 a k := ⟨i 0, i 1, eq_ix2 i⟩
      show normL _ _ _ _ (ix2 a k) = _
      rw [e0, e1, e2, e3]
      exact normL_apply (u c) (y c) (w c) (d c) U G W D hU hG hW hD a k
    · obtain ⟨k, rfl⟩ : ∃ (k : Fin 1024), i = ix2 0 k := ⟨i 1, by rw [eq_ix2 i]; congr 1; exact Subsingleton.elim _ _⟩
      show gainL (mixedL _ _) _ (ix2 0 k) = _
      rw [gainL_apply, e0, e2, e3]
      simp only [mixedL_apply]
      rfl
    · obtain ⟨a, x, rfl⟩ : ∃ (a x : Fin 4096), i = ix2 a x := ⟨i 0, i 1, eq_ix2 i⟩
      show mixL _ _ (normL _ _ _ _) (ix2 a x) = _
      rw [e0, e1, e2, e3]
      exact mixL_apply (u c) (y c) (w c) (d c) U G W D hU hG hW hD a x

end Cert

end
-- ==== Proof.DupGrad.lean ====
module

public import proofs.«01_k».proof.Proof.Gen.DupIdeal.Value
public import proofs.«01_k».proof.Proof.Gen.DupRefIdeal.Run
public import proofs.«01_k».proof.Proof.NormLines
public import proofs.«01_k».proof.Defs
public import Idealize.ShloMosaic.Lib.Pipeline.ValueKit
public import Idealize.ShloMosaic.Lib.Pointwise
public import Idealize.ShloMosaic.Lib.IdealHost
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DupIdeal.Value

open Cert.DupIdeal Cert.DupIdeal.Gen Cert.Reals Cert.NormMath

variable (m : (ℓ : Loc nD τ sig) → Buf (Elt Ideal) ℓ)

/-- Every window's block index, by the grid point's number. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-! ### The arrays before the call -/

variable (c : Dev nD)

theorem V_v0 : V m c main_v0 = truncf (F := Ideal) .bf16 (m ((c : Thread nD τ).loc main_arg4) : FVec Ideal S4096x4096 .f32) bitsLt_bf16_f32 := by
  unfold V; after_reads_simp
theorem V_v1 : V m c main_v1 = truncf (F := Ideal) .bf16 (m ((c : Thread nD τ).loc main_arg2) : FVec Ideal S1024x4096 .f32) bitsLt_bf16_f32 := by
  unfold V; after_reads_simp
theorem V_v2 : V m c main_v2 = shapeCast S1x1024 (m ((c : Thread nD τ).loc main_arg1)) shapeCasts_S1024_S1x1024 := by
  unfold V; after_reads_simp; rfl
theorem V_arg0 : V m c main_arg0 = m ((c : Thread nD τ).loc main_arg0) := by
  unfold V; after_reads_simp
theorem V_arg3 : V m c main_arg3 = m ((c : Thread nD τ).loc main_arg3) := by
  unfold V; after_reads_simp

/-! ### The two results -/

/-- The product's operand's gradient, one row. -/
def grown {n : ℕ} (u : FVec Ideal ⟨2, ![4096, n]⟩ .f32) (w : FVec Ideal ⟨2, ![1024, n]⟩ .f32) (a : Fin 4096) (k : Fin 1024) : EReal :=
  ∑ x : Fin n, u (ix2 a x) * w (ix2 k x)

abbrev ROWS {n : ℕ} (h : FVec Ideal S4096x1024 .f32) (g : FVec Ideal S1024 .f32) (w : FVec Ideal ⟨2, ![1024, n]⟩ .f32) (d : FVec Ideal S4096x1024 .f32)
    (u : FVec Ideal ⟨2, ![4096, n]⟩ .f32) : FVec Ideal S4096x1024 .f32 :=
  fun i => d i + pulled ((1024 : ℝ) : EReal) (fun k : Fin 1024 => h (ix2 (i 0) k)) (fun k => g (ix1 k)) (grown u w (i 0)) (i 1)

/-- One row's share of the gain's gradient. -/
def gainTerm {n : ℕ} (h : FVec Ideal S4096x1024 .f32) (w : FVec Ideal ⟨2, ![1024, n]⟩ .f32) (u : FVec Ideal ⟨2, ![4096, n]⟩ .f32) (a : Fin 4096) (k : Fin 1024) : EReal :=
  grown u w a k * (h (ix2 a k) * root ((1024 : ℝ) : EReal) (fun k : Fin 1024 => h (ix2 a k)))

abbrev GAIN {n : ℕ} (h : FVec Ideal S4096x1024 .f32) (w : FVec Ideal ⟨2, ![1024, n]⟩ .f32) (u : FVec Ideal ⟨2, ![4096, n]⟩ .f32) : FVec Ideal S1x1024 .f32 :=
  fun i => ∑ a : Fin 4096, gainTerm h w u a (i 1)

theorem pay3_apply (u : FVec Ideal S512x4096 .bf16) (w : FVec Ideal S1024x4096 .bf16) (a : Fin 512) (k : Fin 1024) :
    (k0_pay3 (F := Ideal) u w : _ → EReal) (ix2 a k) = ∑ x : Fin 4096, u (ix2 a x) * w (ix2 k x) := by
  unfold k0_pay3
  pointwise

theorem pay4_apply (h : FVec Ideal S512x1024 .f32) (a : Fin 512) :
    (k0_pay4 (F := Ideal) h : _ → EReal) (ix2 a 0) = root ((1024 : ℝ) : EReal) (fun k : Fin 1024 => h (ix2 a k)) := by
  unfold k0_pay4 root
  pointwise [row_f32, eps_f32]

theorem pay5_apply (h : FVec Ideal S512x1024 .f32) (a : Fin 512) (k : Fin 1024) :
    (k0_pay5 (F := Ideal) h : _ → EReal) (ix2 a k) = h (ix2 a k) * root ((1024 : ℝ) : EReal) (fun k : Fin 1024 => h (ix2 a k)) := by
  unfold k0_pay5
  pointwise [pay4_apply]

theorem pay7_apply (u : FVec Ideal S512x4096 .bf16) (w : FVec Ideal S1024x4096 .bf16) (h : FVec Ideal S512x1024 .f32) (g : FVec Ideal S1x1024 .f32)
    (d : FVec Ideal S512x1024 .f32) (a : Fin 512) (k : Fin 1024) :
    (k0_pay7 (F := Ideal) u w h g d : _ → EReal) (ix2 a k)
      = d (ix2 a k) + pulled ((1024 : ℝ) : EReal) (fun k : Fin 1024 => h (ix2 a k)) (fun k => g (ix2 0 k)) (fun k => ∑ x : Fin 4096, u (ix2 a x) * w (ix2 k x)) k := by
  unfold k0_pay7 pulled
  pointwise [pay3_apply, pay4_apply, pay5_apply, row_f32]

theorem pay1_apply (x : FVec Ideal S512x1024 .f32) (y : FVec Ideal S1x1024 .f32) (k : Fin 1024) :
    (k0_pay1 (F := Ideal) x y : _ → EReal) (ix2 0 k) = y (ix2 0 k) + ∑ a : Fin 512, x (ix2 a k) := by
  unfold k0_pay1
  pointwise

theorem pay6_apply (u : FVec Ideal S512x4096 .bf16) (w : FVec Ideal S1024x4096 .bf16) (h : FVec Ideal S512x1024 .f32) (a : Fin 512) (k : Fin 1024) :
    (k0_pay6 (F := Ideal) u w h : _ → EReal) (ix2 a k)
      = (∑ x : Fin 4096, u (ix2 a x) * w (ix2 k x)) * (h (ix2 a k) * root ((1024 : ℝ) : EReal) (fun k : Fin 1024 => h (ix2 a k))) := by
  unfold k0_pay6
  pointwise [pay3_apply, pay5_apply]

/-! ### The blocks -/

/-- A row of a block as a row of the array. -/
def row (t : Fin cfg0.N) (a : Fin 512) : Fin 4096 := ⟨t.val * 512 + a.val, by have := t.isLt; have : cfg0.N = 8 := N_0; have := a.isLt; omega⟩

theorem blk0 (t : Fin cfg0.N) (a : Fin 512) (x : Fin 4096) : (iblk m c 0 t : _ → EReal) (ix2 a x) = m ((c : Thread nD τ).loc main_arg4) (ix2 (row t a) x) := by
  blk_point [iblk, idx t, row, V_v0]
theorem blk1 (t : Fin cfg0.N) (k : Fin 1024) (x : Fin 4096) : (iblk m c 1 t : _ → EReal) (ix2 k x) = m ((c : Thread nD τ).loc main_arg2) (ix2 k x) := by
  blk_point [iblk, idx t, row, V_v1]
theorem blk2 (t : Fin cfg0.N) (a : Fin 512) (k : Fin 1024) : (iblk m c 2 t : _ → EReal) (ix2 a k) = m ((c : Thread nD τ).loc main_arg0) (ix2 (row t a) k) := by
  blk_point [iblk, idx t, row, V_arg0]
theorem blk3 (t : Fin cfg0.N) (k : Fin 1024) : (iblk m c 3 t : _ → EReal) (ix2 0 k) = m ((c : Thread nD τ).loc main_arg1) (ix1 k) := by
  blk_point [iblk, idx t, row, V_v2]
theorem blk4 (t : Fin cfg0.N) (a : Fin 512) (k : Fin 1024) : (iblk m c 4 t : _ → EReal) (ix2 a k) = m ((c : Thread nD τ).loc main_arg3) (ix2 (row t a) k) := by
  blk_point [iblk, idx t, row, V_arg3]

theorem blk5 (t : Fin cfg0.N) (a : Fin 512) (k : Fin 1024) (X : FVec Ideal S4096x1024 .f32) :
    X (((View.whole main_v3_0).slice (win0_5.rect t)).emb (ix2 a k)) = X (ix2 (row t a) k) := by
  blk_point [idx t, row]

theorem final5 : (dats m 0 c).arrAt 5 cfg0.N
    = ROWS (m ((c : Thread nD τ).loc main_arg0)) (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t _ y => ?_
  have h : (outsAt0 m c t.val t.isLt).1 = k0_pay7 (iblk m c 0 t) (iblk m c 1 t) (iblk m c 2 t) (iblk m c 3 t) (iblk m c 4 t) := by
    by_cases h0 : t.val % 8 = 0
    · rw [outsAt0_A m c t h0]; frame_out
    · rw [outsAt0_B m c t h0]; frame_out
  blk_simp
  rw [after0_5, h]
  obtain ⟨a, k, rfl⟩ : ∃ (a : Fin 512) (k : Fin 1024), y = ix2 a k := ⟨y 0, y 1, eq_ix2 y⟩
  rw [pay7_apply]
  simp only [blk0, blk1, blk2, blk3, blk4]
  refine Eq.trans ?_ (blk5 t a k (ROWS (m ((c : Thread nD τ).loc main_arg0)) (m ((c : Thread nD τ).loc main_arg1)) (m ((c : Thread nD τ).loc main_arg2))
    (m ((c : Thread nD τ).loc main_arg3)) (m ((c : Thread nD τ).loc main_arg4)))).symm
  rfl

/-- One block's share of the gain's gradient. -/
def share (t : Fin cfg0.N) (k : Fin 1024) : EReal :=
  ∑ a : Fin 512, gainTerm (m ((c : Thread nD τ).loc main_arg0)) (m ((c : Thread nD τ).loc main_arg2)) (m ((c : Thread nD τ).loc main_arg4)) (row t a) k

theorem final6 : (dats m 0 c).arrAt 6 cfg0.N
    = GAIN (m ((c : Thread nD τ).loc main_arg0)) (m ((c : Thread nD τ).loc main_arg2)) (m ((c : Thread nD τ).loc main_arg4)) := by
  refine (dats m 0 c).arrAt_eq_of_after_last 6 t0_7 (by decide +kernel) _ fun j => ?_
  blk_simp
  rw [after0_6]
  obtain ⟨k, rfl⟩ : ∃ (k : Fin 1024), j = ix2 0 k := ⟨j 1, by rw [eq_ix2 j]; congr 1; exact Subsingleton.elim _ _⟩
  refine (Pipeline.eq_sum_fin_of_reset_step_apply_last (fun n h (k : Fin 1024) => (outsAt0 m c n h).2 (ix2 0 k)) 8 (fun _ => (0 : EReal)) (share m c)
    (fun t h0 k => ?_) (fun t h0 k => ?_) (by decide) t0_7 rfl k).trans ?_
  · show (outsAt0 m c t.val t.isLt).2 (ix2 0 k) = _
    rw [outsAt0_A m c t h0]
    frame_out
    rw [pay1_apply]
    simp only [pay6_apply, blk0, blk1, blk2]
    pointwise [k0_pay2]
    rfl
  · show (outsAt0 m c t.val t.isLt).2 (ix2 0 k) = _
    rw [outsAt0_B m c t h0]
    frame_out
    rw [pay1_apply]
    simp only [pay6_apply, blk0, blk1, blk2]
    rfl
  · rw [zero_add]
    exact Fin.sum_mul_add_fin 8 512 (fun a : Fin 4096 => gainTerm (m ((c : Thread nD τ).loc main_arg0)) (m ((c : Thread nD τ).loc main_arg2)) (m ((c : Thread nD τ).loc main_arg4)) a k)

end Cert.DupIdeal.Value

namespace Cert.DupRefIdeal.Value

open Cert.DupRefIdeal Cert.DupRefIdeal.Gen Cert.Reals Cert.NormMath Cert.NormLines

theorem sides : NormLines.Sides :=
  ⟨reducesTo_S4096x1024_S4096_d1, h_S_, bcast_S4096_S4096x1_0, bcast_S_S4096x1, bcast_S4096x1_S4096x1024_0_1, bcast_S1024_S1x1024_1,
    bcast_S1x1024_S4096x1024_0_1, reducesTo_S4096x1024_S1024_d0, shapeCasts_S1024_S1x1024, reducesTo_S1x1024_S1024_d0, shapeCasts_S4096_S4096x1,
    reducesTo_S4096x1_S4096_d1, bcast_S4096_S4096x1024_0⟩

/-- The product's operand's gradient. -/
def grownL (u : FVec Ideal S4096x4096 .f32) (w : FVec Ideal S1024x4096 .f32) : FVec Ideal S4096x1024 .f32 :=
  Host.dotGeneral dot_S4096x4096_S1024x4096_S4096x1024_1_1_0_0_n_n none u w

theorem grownL_apply (u : FVec Ideal S4096x4096 .f32) (w : FVec Ideal S1024x4096 .f32) (a : Fin 4096) (k : Fin 1024) :
    grownL u w (ix2 a k) = DupIdeal.Value.grown u w a k := by
  unfold grownL DupIdeal.Value.grown
  pointwise

/-- The first result's lines, from the product's operand's gradient `z`. -/
def rowsL (h : FVec Ideal S4096x1024 .f32) (g : FVec Ideal S1024 .f32) (d z : FVec Ideal S4096x1024 .f32) : FVec Ideal S4096x1024 .f32 :=
  have := sides
  addf (addf (addf d (mulf (gainedL g z) (rootL h))) (mulf h (squareL h (gainedL g z)))) (mulf (squareL h (gainedL g z)) h)

theorem sum_apply (d x y z : FVec Ideal S4096x1024 .f32) (i) : addf (addf (addf d x) y) z i = d i + (x i + y i + z i) := by
  pointwise
  rw [add_assoc, add_assoc, add_assoc]

theorem times_apply (x y : FVec Ideal S4096x1024 .f32) (i) : mulf x y i = x i * y i := by
  pointwise

end Cert.DupRefIdeal.Value

namespace Cert

open Cert.DupIdeal.Value Cert.DupRefIdeal.Value Cert.Reals Cert.NormMath Cert.NormLines

section
variable (x : FVec Ideal Pre_dup_finite.S4096x1024 .f32) (y : FVec Ideal Pre_dup_finite.S1024 .f32) (z : FVec Ideal Pre_dup_finite.S1024x4096 .f32)
  (v : FVec Ideal Pre_dup_finite.S4096x1024 .f32) (w : FVec Ideal Pre_dup_finite.S4096x4096 .f32) [Pre_dup_finite.Facts]

theorem dup_rows_real (p : (Pre_dup_finite.fn (F := Ideal) x y z v w).1 = fun _ => 1#1) (a : Fin 4096) (k : Fin 1024) :
    ∃ r : ℝ, x (ix2 a k) = (r : EReal) := by
  refine real_of_finite _ ?_
  have := congrFun p (ix2 a k)
  unfold Pre_dup_finite.fn at this
  pointwise [top_f32] at this
  exact this

theorem dup_gain_real (p : (Pre_dup_finite.fn (F := Ideal) x y z v w).2.1 = fun _ => 1#1) (k : Fin 1024) :
    ∃ r : ℝ, y (ix1 k) = (r : EReal) := by
  refine real_of_finite _ ?_
  have := congrFun p (ix1 k)
  unfold Pre_dup_finite.fn at this
  pointwise [top_f32] at this
  exact this

theorem dup_weight_real (p : (Pre_dup_finite.fn (F := Ideal) x y z v w).2.2.1 = fun _ => 1#1) (k : Fin 1024) (j : Fin 4096) :
    ∃ r : ℝ, z (ix2 k j) = (r : EReal) := by
  refine real_of_finite _ ?_
  have := congrFun p (ix2 k j)
  unfold Pre_dup_finite.fn at this
  pointwise [top_f32] at this
  exact this

theorem dup_grads_real (p : (Pre_dup_finite.fn (F := Ideal) x y z v w).2.2.2.2 = fun _ => 1#1) (a : Fin 4096) (j : Fin 4096) :
    ∃ r : ℝ, w (ix2 a j) = (r : EReal) := by
  refine real_of_finite _ ?_
  have := congrFun p (ix2 a j)
  unfold Pre_dup_finite.fn at this
  pointwise [top_f32] at this
  exact this
end

/-- The kernel's two gradients are the reference's, at finite arguments. -/
theorem dup_algebraic [hPre : Pre_dup_finite.Facts] : algebraic_DupIdeal_DupRefIdeal_pre_dup_finite := by
  intro m g m' g' hpre hag
  refine ⟨fun c => ROWS (m ((c.tc : Thread DupIdeal.nD DupIdeal.τ).loc DupIdeal.main_arg0)) (m ((c.tc : Thread DupIdeal.nD DupIdeal.τ).loc DupIdeal.main_arg1))
      (m ((c.tc : Thread DupIdeal.nD DupIdeal.τ).loc DupIdeal.main_arg2)) (m ((c.tc : Thread DupIdeal.nD DupIdeal.τ).loc DupIdeal.main_arg3))
      (m ((c.tc : Thread DupIdeal.nD DupIdeal.τ).loc DupIdeal.main_arg4)),
    fun c => GAIN (m ((c.tc : Thread DupIdeal.nD DupIdeal.τ).loc DupIdeal.main_arg0)) (m ((c.tc : Thread DupIdeal.nD DupIdeal.τ).loc DupIdeal.main_arg2))
      (m ((c.tc : Thread DupIdeal.nD DupIdeal.τ).loc DupIdeal.main_arg4)), ?_, ?_⟩
  · refine (θ_run _ _ _).mono (fun r h c => ?_) (DupIdeal.Value.run_blocks m g)
    obtain ⟨h5, h6, hu⟩ := h c
    exact ⟨h5.trans (final5 m c), h6.trans (final6 m c), hu⟩
  · refine (θ_run _ _ _).mono (fun r h c => ?_) (DupRefIdeal.Value.run m' g')
    obtain ⟨h0, h1, hu⟩ := h c
    obtain ⟨p0, p1, p2, -, p4⟩ := hpre c
    obtain ⟨e0, e1, e2, e3, e4⟩ := hag c
    choose X hX using dup_rows_real _ _ _ _ _ p0
    choose G hG using dup_gain_real _ _ _ _ _ p1
    choose W hW using dup_weight_real _ _ _ _ _ p2
    choose U hU using dup_grads_real _ _ _ _ _ p4
    have := DupRefIdeal.Value.sides
    refine ⟨h0.trans (funext fun i => ?_), h1.trans (funext fun i => ?_), hu⟩
    · obtain ⟨a, k, rfl⟩ : ∃ (a : Fin 4096) (k : Fin 1024), i = ix2 a k := ⟨i 0, i 1, eq_ix2 i⟩
      show rowsL _ _ _ (grownL _ _) (ix2 a k) = _
      unfold rowsL
      rw [e0, e1, e2, e3, e4, sum_apply]
      simp only [times_apply]
      rw [pulled_lines _ _ _ X (fun a k => ∑ j, U a j * W k j) G hX (fun a k => ?_) hG]
      · simp only [grownL_apply]
        rfl
      · rw [grownL_apply]
        unfold grown
        simp only [hU, hW, ← EReal.coe_mul, coe_sum]
    · obtain ⟨k, rfl⟩ : ∃ (k : Fin 1024), i = ix2 0 k := ⟨i 1, by rw [eq_ix2 i]; congr 1; exact Subsingleton.elim _ _⟩
      show gainL _ (grownL _ _) (ix2 0 k) = _
      rw [gainL_apply, e0, e2, e4]
      exact Finset.sum_congr rfl fun a _ => by rw [grownL_apply]; rfl

end Cert

end
-- ==== Proof.DinGrad.lean ====
module

public import proofs.«01_k».proof.Proof.Gen.DinIdeal.Value
public import proofs.«01_k».proof.Proof.Gen.DinRefIdeal.Run
public import proofs.«01_k».proof.Proof.DupGrad
public import proofs.«01_k».proof.Defs
public import Idealize.ShloMosaic.Lib.Pipeline.ValueKit
public import Idealize.ShloMosaic.Lib.Pointwise
public import Idealize.ShloMosaic.Lib.IdealHost
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DinIdeal.Value

open Cert.DinIdeal Cert.DinIdeal.Gen Cert.Reals Cert.NormMath
open Cert.DupIdeal.Value (grown ROWS gainTerm GAIN)

variable (m : (ℓ : Loc nD τ sig) → Buf (Elt Ideal) ℓ)

/-- Every window's block index, by the grid point's number. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-! ### The arrays before the call -/

variable (c : Dev nD)

theorem V_v0 : V m c main_v0 = truncf (F := Ideal) .bf16 (m ((c : Thread nD τ).loc main_arg4) : FVec Ideal S4096x832 .f32) bitsLt_bf16_f32 := by
  unfold V; after_reads_simp
theorem V_v1 : V m c main_v1 = truncf (F := Ideal) .bf16 (m ((c : Thread nD τ).loc main_arg2) : FVec Ideal S1024x832 .f32) bitsLt_bf16_f32 := by
  unfold V; after_reads_simp
theorem V_v2 : V m c main_v2 = shapeCast S1x1024 (m ((c : Thread nD τ).loc main_arg1)) shapeCasts_S1024_S1x1024 := by
  unfold V; after_reads_simp; rfl
theorem V_arg0 : V m c main_arg0 = m ((c : Thread nD τ).loc main_arg0) := by
  unfold V; after_reads_simp
theorem V_arg3 : V m c main_arg3 = m ((c : Thread nD τ).loc main_arg3) := by
  unfold V; after_reads_simp

theorem pay3_apply (u : FVec Ideal S512x832 .bf16) (w : FVec Ideal S1024x832 .bf16) (a : Fin 512) (k : Fin 1024) :
    (k0_pay3 (F := Ideal) u w : _ → EReal) (ix2 a k) = ∑ x : Fin 832, u (ix2 a x) * w (ix2 k x) := by
  unfold k0_pay3
  pointwise

theorem pay4_apply (h : FVec Ideal S512x1024 .f32) (a : Fin 512) :
    (k0_pay4 (F := Ideal) h : _ → EReal) (ix2 a 0) = root ((1024 : ℝ) : EReal) (fun k : Fin 1024 => h (ix2 a k)) := by
  unfold k0_pay4 root
  pointwise [row_f32, eps_f32]

theorem pay5_apply (h : FVec Ideal S512x1024 .f32) (a : Fin 512) (k : Fin 1024) :
    (k0_pay5 (F := Ideal) h : _ → EReal) (ix2 a k) = h (ix2 a k) * root ((1024 : ℝ) : EReal) (fun k : Fin 1024 => h (ix2 a k)) := by
  unfold k0_pay5
  pointwise [pay4_apply]

theorem pay7_apply (u : FVec Ideal S512x832 .bf16) (w : FVec Ideal S1024x832 .bf16) (h : FVec Ideal S512x1024 .f32) (g : FVec Ideal S1x1024 .f32)
    (d : FVec Ideal S512x1024 .f32) (a : Fin 512) (k : Fin 1024) :
    (k0_pay7 (F := Ideal) u w h g d : _ → EReal) (ix2 a k)
      = d (ix2 a k) + pulled ((1024 : ℝ) : EReal) (fun k : Fin 1024 => h (ix2 a k)) (fun k => g (ix2 0 k)) (fun k => ∑ x : Fin 832, u (ix2 a x) * w (ix2 k x)) k := by
  unfold k0_pay7 pulled
  pointwise [pay3_apply, pay4_apply, pay5_apply, row_f32]

theorem pay1_apply (x : FVec Ideal S512x1024 .f32) (y : FVec Ideal S1x1024 .f32) (k : Fin 1024) :
    (k0_pay1 (F := Ideal) x y : _ → EReal) (ix2 0 k) = y (ix2 0 k) + ∑ a : Fin 512, x (ix2 a k) := by
  unfold k0_pay1
  pointwise

theorem pay6_apply (u : FVec Ideal S512x832 .bf16) (w : FVec Ideal S1024x832 .bf16) (h : FVec Ideal S512x1024 .f32) (a : Fin 512) (k : Fin 1024) :
    (k0_pay6 (F := Ideal) u w h : _ → EReal) (ix2 a k)
      = (∑ x : Fin 832, u (ix2 a x) * w (ix2 k x)) * (h (ix2 a k) * root ((1024 : ℝ) : EReal) (fun k : Fin 1024 => h (ix2 a k))) := by
  unfold k0_pay6
  pointwise [pay3_apply, pay5_apply]

/-! ### The blocks -/

/-- A row of a block as a row of the array. -/
def row (t : Fin cfg0.N) (a : Fin 512) : Fin 4096 := ⟨t.val * 512 + a.val, by have := t.isLt; have : cfg0.N = 8 := N_0; have := a.isLt; omega⟩

theorem blk0 (t : Fin cfg0.N) (a : Fin 512) (x : Fin 832) : (iblk m c 0 t : _ → EReal) (ix2 a x) = m ((c : Thread nD τ).loc main_arg4) (ix2 (row t a) x) := by
  blk_point [iblk, idx t, row, V_v0]
theorem blk1 (t : Fin cfg0.N) (k : Fin 1024) (x : Fin 832) : (iblk m c 1 t : _ → EReal) (ix2 k x) = m ((c : Thread nD τ).loc main_arg2) (ix2 k x) := by
  blk_point [iblk, idx t, row, V_v1]
theorem blk2 (t : Fin cfg0.N) (a : Fin 512) (k : Fin 1024) : (iblk m c 2 t : _ → EReal) (ix2 a k) = m ((c : Thread nD τ).loc main_arg0) (ix2 (row t a) k) := by
  blk_point [iblk, idx t, row, V_arg0]
theorem blk3 (t : Fin cfg0.N) (k : Fin 1024) : (iblk m c 3 t : _ → EReal) (ix2 0 k) = m ((c : Thread nD τ).loc main_arg1) (ix1 k) := by
  blk_point [iblk, idx t, row, V_v2]
theorem blk4 (t : Fin cfg0.N) (a : Fin 512) (k : Fin 1024) : (iblk m c 4 t : _ → EReal) (ix2 a k) = m ((c : Thread nD τ).loc main_arg3) (ix2 (row t a) k) := by
  blk_point [iblk, idx t, row, V_arg3]

theorem blk5 (t : Fin cfg0.N) (a : Fin 512) (k : Fin 1024) (X : FVec Ideal S4096x1024 .f32) :
    X (((View.whole main_v3_0).slice (win0_5.rect t)).emb (ix2 a k)) = X (ix2 (row t a) k) := by
  blk_point [idx t, row]

theorem final5 : (dats m 0 c).arrAt 5 cfg0.N
    = ROWS (m ((c : Thread nD τ).loc main_arg0)) (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t _ y => ?_
  have h : (outsAt0 m c t.val t.isLt).1 = k0_pay7 (iblk m c 0 t) (iblk m c 1 t) (iblk m c 2 t) (iblk m c 3 t) (iblk m c 4 t) := by
    by_cases h0 : t.val % 8 = 0
    · rw [outsAt0_A m c t h0]; frame_out
    · rw [outsAt0_B m c t h0]; frame_out
  blk_simp
  rw [after0_5, h]
  obtain ⟨a, k, rfl⟩ : ∃ (a : Fin 512) (k : Fin 1024), y = ix2 a k := ⟨y 0, y 1, eq_ix2 y⟩
  rw [pay7_apply]
  simp only [blk0, blk1, blk2, blk3, blk4]
  refine Eq.trans ?_ (blk5 t a k (ROWS (m ((c : Thread nD τ).loc main_arg0)) (m ((c : Thread nD τ).loc main_arg1)) (m ((c : Thread nD τ).loc main_arg2))
    (m ((c : Thread nD τ).loc main_arg3)) (m ((c : Thread nD τ).loc main_arg4)))).symm
  rfl

/-- One block's share of the gain's gradient. -/
def share (t : Fin cfg0.N) (k : Fin 1024) : EReal :=
  ∑ a : Fin 512, gainTerm (m ((c : Thread nD τ).loc main_arg0)) (m ((c : Thread nD τ).loc main_arg2)) (m ((c : Thread nD τ).loc main_arg4)) (row t a) k

theorem final6 : (dats m 0 c).arrAt 6 cfg0.N
    = GAIN (m ((c : Thread nD τ).loc main_arg0)) (m ((c : Thread nD τ).loc main_arg2)) (m ((c : Thread nD τ).loc main_arg4)) := by
  refine (dats m 0 c).arrAt_eq_of_after_last 6 t0_7 (by decide +kernel) _ fun j => ?_
  blk_simp
  rw [after0_6]
  obtain ⟨k, rfl⟩ : ∃ (k : Fin 1024), j = ix2 0 k := ⟨j 1, by rw [eq_ix2 j]; congr 1; exact Subsingleton.elim _ _⟩
  refine (Pipeline.eq_sum_fin_of_reset_step_apply_last (fun n h (k : Fin 1024) => (outsAt0 m c n h).2 (ix2 0 k)) 8 (fun _ => (0 : EReal)) (share m c)
    (fun t h0 k => ?_) (fun t h0 k => ?_) (by decide) t0_7 rfl k).trans ?_
  · show (outsAt0 m c t.val t.isLt).2 (ix2 0 k) = _
    rw [outsAt0_A m c t h0]
    frame_out
    rw [pay1_apply]
    simp only [pay6_apply, blk0, blk1, blk2]
    pointwise [k0_pay2]
    rfl
  · show (outsAt0 m c t.val t.isLt).2 (ix2 0 k) = _
    rw [outsAt0_B m c t h0]
    frame_out
    rw [pay1_apply]
    simp only [pay6_apply, blk0, blk1, blk2]
    rfl
  · rw [zero_add]
    exact Fin.sum_mul_add_fin 8 512 (fun a : Fin 4096 => gainTerm (m ((c : Thread nD τ).loc main_arg0)) (m ((c : Thread nD τ).loc main_arg2)) (m ((c : Thread nD τ).loc main_arg4)) a k)

end Cert.DinIdeal.Value

namespace Cert.DinRefIdeal.Value

open Cert.DinRefIdeal Cert.DinRefIdeal.Gen Cert.Reals Cert.NormMath Cert.NormLines

/-- The product's operand's gradient. -/
def grownL (u : FVec Ideal S4096x832 .f32) (w : FVec Ideal S1024x832 .f32) : FVec Ideal S4096x1024 .f32 :=
  Host.dotGeneral dot_S4096x832_S1024x832_S4096x1024_1_1_0_0_n_n none u w

theorem grownL_apply (u : FVec Ideal S4096x832 .f32) (w : FVec Ideal S1024x832 .f32) (a : Fin 4096) (k : Fin 1024) :
    grownL u w (ix2 a k) = DupIdeal.Value.grown u w a k := by
  unfold grownL DupIdeal.Value.grown
  pointwise

end Cert.DinRefIdeal.Value

namespace Cert

open Cert.DinIdeal.Value Cert.DinRefIdeal.Value Cert.Reals Cert.NormMath Cert.NormLines
open Cert.DupIdeal.Value (grown ROWS gainTerm GAIN)
open Cert.DupRefIdeal.Value (rowsL sum_apply times_apply)

section
variable (x : FVec Ideal Pre_din_finite.S4096x1024 .f32) (y : FVec Ideal Pre_din_finite.S1024 .f32) (z : FVec Ideal Pre_din_finite.S1024x832 .f32)
  (v : FVec Ideal Pre_din_finite.S4096x1024 .f32) (w : FVec Ideal Pre_din_finite.S4096x832 .f32) [Pre_din_finite.Facts]

theorem din_rows_real (p : (Pre_din_finite.fn (F := Ideal) x y z v w).1 = fun _ => 1#1) (a : Fin 4096) (k : Fin 1024) :
    ∃ r : ℝ, x (ix2 a k) = (r : EReal) := by
  refine real_of_finite _ ?_
  have := congrFun p (ix2 a k)
  unfold Pre_din_finite.fn at this
  pointwise [top_f32] at this
  exact this

theorem din_gain_real (p : (Pre_din_finite.fn (F := Ideal) x y z v w).2.1 = fun _ => 1#1) (k : Fin 1024) :
    ∃ r : ℝ, y (ix1 k) = (r : EReal) := by
  refine real_of_finite _ ?_
  have := congrFun p (ix1 k)
  unfold Pre_din_finite.fn at this
  pointwise [top_f32] at this
  exact this

theorem din_weight_real (p : (Pre_din_finite.fn (F := Ideal) x y z v w).2.2.1 = fun _ => 1#1) (k : Fin 1024) (j : Fin 832) :
    ∃ r : ℝ, z (ix2 k j) = (r : EReal) := by
  refine real_of_finite _ ?_
  have := congrFun p (ix2 k j)
  unfold Pre_din_finite.fn at this
  pointwise [top_f32] at this
  exact this

theorem din_grads_real (p : (Pre_din_finite.fn (F := Ideal) x y z v w).2.2.2.2 = fun _ => 1#1) (a : Fin 4096) (j : Fin 832) :
    ∃ r : ℝ, w (ix2 a j) = (r : EReal) := by
  refine real_of_finite _ ?_
  have := congrFun p (ix2 a j)
  unfold Pre_din_finite.fn at this
  pointwise [top_f32] at this
  exact this
end

/-- The kernel's two gradients are the reference's, at finite arguments. -/
theorem din_algebraic [hPre : Pre_din_finite.Facts] : algebraic_DinIdeal_DinRefIdeal_pre_din_finite := by
  intro m g m' g' hpre hag
  refine ⟨fun c => ROWS (m ((c.tc : Thread DinIdeal.nD DinIdeal.τ).loc DinIdeal.main_arg0)) (m ((c.tc : Thread DinIdeal.nD DinIdeal.τ).loc DinIdeal.main_arg1))
      (m ((c.tc : Thread DinIdeal.nD DinIdeal.τ).loc DinIdeal.main_arg2)) (m ((c.tc : Thread DinIdeal.nD DinIdeal.τ).loc DinIdeal.main_arg3))
      (m ((c.tc : Thread DinIdeal.nD DinIdeal.τ).loc DinIdeal.main_arg4)),
    fun c => GAIN (m ((c.tc : Thread DinIdeal.nD DinIdeal.τ).loc DinIdeal.main_arg0)) (m ((c.tc : Thread DinIdeal.nD DinIdeal.τ).loc DinIdeal.main_arg2))
      (m ((c.tc : Thread DinIdeal.nD DinIdeal.τ).loc DinIdeal.main_arg4)), ?_, ?_⟩
  · refine (θ_run _ _ _).mono (fun r h c => ?_) (DinIdeal.Value.run_blocks m g)
    obtain ⟨h5, h6, hu⟩ := h c
    exact ⟨h5.trans (final5 m c), h6.trans (final6 m c), hu⟩
  · refine (θ_run _ _ _).mono (fun r h c => ?_) (DinRefIdeal.Value.run m' g')
    obtain ⟨h0, h1, hu⟩ := h c
    obtain ⟨p0, p1, p2, -, p4⟩ := hpre c
    obtain ⟨e0, e1, e2, e3, e4⟩ := hag c
    choose X hX using din_rows_real _ _ _ _ _ p0
    choose G hG using din_gain_real _ _ _ _ _ p1
    choose W hW using din_weight_real _ _ _ _ _ p2
    choose U hU using din_grads_real _ _ _ _ _ p4
    have := DupRefIdeal.Value.sides
    refine ⟨h0.trans (funext fun i => ?_), h1.trans (funext fun i => ?_), hu⟩
    · obtain ⟨a, k, rfl⟩ : ∃ (a : Fin 4096) (k : Fin 1024), i = ix2 a k := ⟨i 0, i 1, eq_ix2 i⟩
      show rowsL _ _ _ (grownL _ _) (ix2 a k) = _
      unfold rowsL
      rw [e0, e1, e2, e3, e4, sum_apply]
      simp only [times_apply]
      rw [pulled_lines _ _ _ X (fun a k => ∑ j, U a j * W k j) G hX (fun a k => ?_) hG]
      · simp only [grownL_apply]
        rfl
      · rw [grownL_apply]
        unfold grown
        simp only [hU, hW, ← EReal.coe_mul, coe_sum]
    · obtain ⟨k, rfl⟩ : ∃ (k : Fin 1024), i = ix2 0 k := ⟨i 1, by rw [eq_ix2 i]; congr 1; exact Subsingleton.elim _ _⟩
      show gainL _ (grownL _ _) (ix2 0 k) = _
      rw [gainL_apply, e0, e2, e4]
      exact Finset.sum_congr rfl fun a _ => by rw [grownL_apply]; rfl

end Cert

end
-- ==== Proof.DownForward.lean ====
module

public import proofs.«01_k».proof.Proof.Gen.DownIdeal.Value
public import proofs.«01_k».proof.Proof.Gen.DownRefIdeal.Run
public import proofs.«01_k».proof.Proof.DdownGrad
public import proofs.«01_k».proof.Defs
public import Idealize.ShloMosaic.Lib.Pipeline.ValueKit
public import Idealize.ShloMosaic.Lib.Pointwise
public import Idealize.ShloMosaic.Lib.IdealHost
public import Idealize.ShloMosaic.Lib.StableHlo.RunRead
public import Idealize.ShloMosaic.Lib.Claim

/-! The mixer's second product with the norm after it and the residual's sum, forwards: both results are the reference's. -/

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen Cert.Reals Cert.NormMath
open Cert.DdownIdeal.Value (kept mixed squares squares_apply)

variable (m : (ℓ : Loc nD τ sig) → Buf (Elt Ideal) ℓ)

/-- Every window's block index, by the grid point's number. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- One row of the sum. -/
def summed (h : FVec Ideal S4096x1024 .f32) (u : FVec Ideal S4096x4096 .f32) (g : FVec Ideal S1024 .f32) (w : FVec Ideal S4096x1024 .f32)
    (a : Fin 4096) (k : Fin 1024) : EReal :=
  h (ix2 a k) + mixed u w a k * root ((1024 : ℝ) : EReal) (mixed u w a) * g (ix1 k)

section
variable (h : FVec Ideal S4096x1024 .f32) (u : FVec Ideal S4096x4096 .f32) (g : FVec Ideal S1024 .f32) (w : FVec Ideal S4096x1024 .f32)
abbrev PROD : FVec Ideal S4096x1024 .f32 := fun i => mixed u w (i 0) (i 1)
abbrev SUMMED : FVec Ideal S4096x1024 .f32 := fun i => summed h u g w (i 0) (i 1)
end

/-! ### The arrays before the call -/

variable (c : Dev nD)

theorem V_v3 : V m c main_v3 = squares (m ((c : Thread nD τ).loc main_arg1)) := by
  unfold V squares; after_reads_simp
theorem V_v4 : V m c main_v4 = truncf (F := Ideal) .bf16 (m ((c : Thread nD τ).loc main_arg3) : FVec Ideal S4096x1024 .f32) bitsLt_bf16_f32 := by
  unfold V; after_reads_simp
theorem V_v5 : V m c main_v5 = shapeCast S1x1024 (m ((c : Thread nD τ).loc main_arg2)) shapeCasts_S1024_S1x1024 := by
  unfold V; after_reads_simp; rfl
theorem V_arg0 : V m c main_arg0 = m ((c : Thread nD τ).loc main_arg0) := by
  unfold V; after_reads_simp

/-! ### The stored values -/

theorem pay1_apply (x : FVec Ideal S512x4096 .bf16) (w : FVec Ideal S4096x1024 .bf16) (a : Fin 512) (k : Fin 1024) :
    (k0_pay1 (F := Ideal) x w : _ → EReal) (ix2 a k) = ∑ j : Fin 4096, x (ix2 a j) * w (ix2 j k) := by
  unfold k0_pay1
  pointwise

theorem pay2_apply (x : FVec Ideal S512x4096 .bf16) (w : FVec Ideal S4096x1024 .bf16) (h : FVec Ideal S512x1024 .f32) (g : FVec Ideal S1x1024 .f32)
    (a : Fin 512) (k : Fin 1024) :
    (k0_pay2 (F := Ideal) x w h g : _ → EReal) (ix2 a k)
      = h (ix2 a k) + (k0_pay1 (F := Ideal) x w : _ → EReal) (ix2 a k)
        * root ((1024 : ℝ) : EReal) (fun k : Fin 1024 => (k0_pay1 (F := Ideal) x w : _ → EReal) (ix2 a k)) * g (ix2 0 k) := by
  unfold k0_pay2 root
  pointwise [row_f32, eps_f32]

/-! ### The blocks -/

/-- A row of a block as a row of the array. -/
def row (t : Fin cfg0.N) (a : Fin 512) : Fin 4096 := ⟨t.val * 512 + a.val, by have := t.isLt; have : cfg0.N = 8 := N_0; have := a.isLt; omega⟩

theorem blk0 (t : Fin cfg0.N) (a : Fin 512) (x : Fin 4096) : (iblk m c 0 t : _ → EReal) (ix2 a x)
    = kept (m ((c : Thread nD τ).loc main_arg1)) (row t a) x * kept (m ((c : Thread nD τ).loc main_arg1)) (row t a) x := by
  refine Eq.trans (b := (V m c main_v3 : _ → EReal) (ix2 (row t a) x)) ?_ (by rw [V_v3]; exact squares_apply _ _ _)
  blk_point [iblk, idx t, row]
theorem blk1 (t : Fin cfg0.N) (x : Fin 4096) (k : Fin 1024) : (iblk m c 1 t : _ → EReal) (ix2 x k) = m ((c : Thread nD τ).loc main_arg3) (ix2 x k) := by
  blk_point [iblk, idx t, V_v4]
theorem blk2 (t : Fin cfg0.N) (k : Fin 1024) : (iblk m c 2 t : _ → EReal) (ix2 0 k) = m ((c : Thread nD τ).loc main_arg2) (ix1 k) := by
  blk_point [iblk, idx t, V_v5]
theorem blk3 (t : Fin cfg0.N) (a : Fin 512) (k : Fin 1024) : (iblk m c 3 t : _ → EReal) (ix2 a k) = m ((c : Thread nD τ).loc main_arg0) (ix2 (row t a) k) := by
  blk_point [iblk, idx t, row, V_arg0]
theorem blk4 (t : Fin cfg0.N) (a : Fin 512) (k : Fin 1024) (X : FVec Ideal S4096x1024 .f32) :
    X (((View.whole main_v6_0).slice (win0_4.rect t)).emb (ix2 a k)) = X (ix2 (row t a) k) := by
  blk_point [idx t, row]
theorem blk5 (t : Fin cfg0.N) (a : Fin 512) (k : Fin 1024) (X : FVec Ideal S4096x1024 .f32) :
    X (((View.whole main_v6_1).slice (win0_5.rect t)).emb (ix2 a k)) = X (ix2 (row t a) k) := by
  blk_point [idx t, row]

/-! ### The final arrays -/

theorem prod_blk (t : Fin cfg0.N) (a : Fin 512) (k : Fin 1024) : (k0_pay1 (F := Ideal) (iblk m c 0 t) (iblk m c 1 t) : _ → EReal) (ix2 a k)
    = mixed (m ((c : Thread nD τ).loc main_arg1)) (m ((c : Thread nD τ).loc main_arg3)) (row t a) k := by
  rw [pay1_apply]
  simp only [blk0, blk1]
  rfl

theorem sum_blk (t : Fin cfg0.N) (a : Fin 512) (k : Fin 1024) :
    (k0_pay2 (F := Ideal) (iblk m c 0 t) (iblk m c 1 t) (iblk m c 3 t) (iblk m c 2 t) : _ → EReal) (ix2 a k)
      = summed (m ((c : Thread nD τ).loc main_arg0)) (m ((c : Thread nD τ).loc main_arg1)) (m ((c : Thread nD τ).loc main_arg2))
        (m ((c : Thread nD τ).loc main_arg3)) (row t a) k := by
  rw [pay2_apply]
  simp only [prod_blk, blk2, blk3]
  rfl

theorem final4 : (dats m 0 c).arrAt 4 cfg0.N = PROD (m ((c : Thread nD τ).loc main_arg1)) (m ((c : Thread nD τ).loc main_arg3)) := by
  refine (dats m 0 c).arrAt_eq_of_covers 4 _ (by decide +kernel) fun t _ y => ?_
  have h : out0_4 (iblk m c 0 t) (iblk m c 1 t) (iblk m c 2 t) (iblk m c 3 t) = k0_pay1 (iblk m c 0 t) (iblk m c 1 t) := by frame_out
  blk_simp
  rw [after0_4, h]
  obtain ⟨a, k, rfl⟩ : ∃ (a : Fin 512) (k : Fin 1024), y = ix2 a k := ⟨y 0, y 1, eq_ix2 y⟩
  exact (prod_blk m c t a k).trans (blk4 t a k (PROD (m ((c : Thread nD τ).loc main_arg1)) (m ((c : Thread nD τ).loc main_arg3)))).symm

theorem final5 : (dats m 0 c).arrAt 5 cfg0.N
    = SUMMED (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have h : out0_5 (iblk m c 0 t) (iblk m c 1 t) (iblk m c 2 t) (iblk m c 3 t) = k0_pay2 (iblk m c 0 t) (iblk m c 1 t) (iblk m c 3 t) (iblk m c 2 t) := by frame_out
  blk_simp
  rw [after0_5, h]
  obtain ⟨a, k, rfl⟩ : ∃ (a : Fin 512) (k : Fin 1024), y = ix2 a k := ⟨y 0, y 1, eq_ix2 y⟩
  exact (sum_blk m c t a k).trans (blk5 t a k (SUMMED (m ((c : Thread nD τ).loc main_arg0)) (m ((c : Thread nD τ).loc main_arg1))
    (m ((c : Thread nD τ).loc main_arg2)) (m ((c : Thread nD τ).loc main_arg3)))).symm

end Cert.DownIdeal.Value

namespace Cert.DownRefIdeal.Value

open Cert.NormLines Cert.DdownRefIdeal.Value

section
variable (h : FVec Ideal SX .f32) (g : FVec Ideal SG .f32)

/-- A norm with its gain, as the reference's lines write it. -/
def normedL : FVec Ideal SX .f32 := have := sides; gainedL g (mulf h (rootL h))

theorem normedL_apply (a : Fin 4096) (k : Fin 1024) :
    normedL h g (ix2 a k) = h (ix2 a k) * NormMath.root ((1024 : ℝ) : EReal) (fun k : Fin 1024 => h (ix2 a k)) * g (ix1 k) := by
  have := sides
  have e : mulf h (rootL h) (ix2 a k) = h (ix2 a k) * rootL h (ix2 a k) := by pointwise
  show gainedL g (mulf h (rootL h)) (ix2 a k) = _
  rw [gainedL_apply, e, rootL_apply]
end

end Cert.DownRefIdeal.Value

namespace Cert

open Cert.DownIdeal.Value Cert.DownRefIdeal.Value Cert.DdownRefIdeal.Value

/-- The kernel's two results are the reference's. -/
theorem down_algebraic : algebraic_DownIdeal_DownRefIdeal := by
  intro m g m' g' _ hag
  let h (c : Dev DownIdeal.nD) : FVec Ideal DownIdeal.S4096x1024 .f32 := m ((c.tc : Thread DownIdeal.nD DownIdeal.τ).loc DownIdeal.main_arg0)
  let u (c : Dev DownIdeal.nD) : FVec Ideal DownIdeal.S4096x4096 .f32 := m ((c.tc : Thread DownIdeal.nD DownIdeal.τ).loc DownIdeal.main_arg1)
  let y (c : Dev DownIdeal.nD) : FVec Ideal DownIdeal.S1024 .f32 := m ((c.tc : Thread DownIdeal.nD DownIdeal.τ).loc DownIdeal.main_arg2)
  let w (c : Dev DownIdeal.nD) : FVec Ideal DownIdeal.S4096x1024 .f32 := m ((c.tc : Thread DownIdeal.nD DownIdeal.τ).loc DownIdeal.main_arg3)
  refine ⟨fun c => PROD (u c) (w c), fun c => SUMMED (h c) (u c) (y c) (w c), ?_, ?_⟩
  · refine (θ_run _ _ _).mono (fun r hr c => ?_) (DownIdeal.Value.run_blocks m g)
    obtain ⟨h4, h5, hu⟩ := hr c
    exact ⟨h4.trans (final4 m c), h5.trans (final5 m c), hu⟩
  · refine (θ_run _ _ _).mono (fun r hr c => ?_) (DownRefIdeal.Value.run m' g')
    obtain ⟨h0, h1, hu⟩ := hr c
    obtain ⟨e0, e1, e2, e3⟩ := hag c
    refine ⟨h0.trans (funext fun i => ?_), h1.trans (funext fun i => ?_), hu⟩
    · obtain ⟨a, k, rfl⟩ : ∃ (a : Fin 4096) (k : Fin 1024), i = ix2 a k := ⟨i 0, i 1, eq_ix2 i⟩
      show mixedL _ _ (ix2 a k) = _
      rw [e1, e3]
      exact mixedL_apply (u c) (w c) a k
    · obtain ⟨a, k, rfl⟩ : ∃ (a : Fin 4096) (k : Fin 1024), i = ix2 a k := ⟨i 0, i 1, eq_ix2 i⟩
      show addf _ (normedL (mixedL _ _) _) (ix2 a k) = _
      rw [e0, e1, e2, e3]
      have e : addf (h c) (normedL (mixedL (u c) (w c)) (y c)) (ix2 a k) = h c (ix2 a k) + normedL (mixedL (u c) (w c)) (y c) (ix2 a k) := by pointwise
      refine e.trans ?_
      rw [normedL_apply]
      simp only [mixedL_apply]
      rfl

end Cert

end
-- ==== Proof.DwGrad.lean ====
module

public import proofs.«01_k».proof.Proof.Gen.DwIdeal.Value
public import proofs.«01_k».proof.Proof.Gen.DwRefIdeal.Run
public import proofs.«01_k».proof.Defs
public import Idealize.ShloMosaic.Lib.Pipeline.ValueKit
public import Idealize.ShloMosaic.Lib.Pointwise
public import Idealize.ShloMosaic.Lib.IdealHost
public import Idealize.ShloMosaic.Lib.StableHlo.RunRead
public import Idealize.ShloMosaic.Lib.Claim

/-! A weight's gradient, in the eight pieces that the devices exchange: a plain product, and it is the reference's. -/

@[expose] public section

set_option maxRecDepth 16384

noncomputable section

open Idealize.ShloMosaic Idealize.ShloMosaic.TcCoe Idealize.SL.Sem
open Idealize.ShloMosaic.Pipeline (Dat)

namespace Cert.DwIdeal.Value

open Cert.DwIdeal Cert.DwIdeal.Gen

variable (m : (ℓ : Loc nD τ sig) → Buf (Elt Ideal) ℓ)

/-- Every window's block index, by the grid point's number. -/
theorem idx : ∀ t : Fin cfg0.N, win0_0.index t = ![0, 0] ∧ win0_1.index t = ![0, t.val] ∧ win0_2.index t = ![t.val, 0, 0] :=
  (by decide +kernel : ∀ t : Fin grid0.N, _)

/-- A column of a piece as a column of the whole gradient. -/
def col (d : Fin 8) (x : Fin 512) : Fin 4096 := ⟨d.val * 512 + x.val, by omega⟩

/-- The gradient, piece by piece. -/
abbrev PIECES (p : FVec Ideal S4096x1024 .f32) (q : FVec Ideal S4096x4096 .f32) : FVec Ideal S8x1024x512 .bf16 :=
  fun i => ∑ r : Fin 4096, p (ix2 r (i 1)) * q (ix2 r (col (i 0) (i 2)))

variable (c : Dev nD)

abbrev acts : FVec Ideal S4096x1024 .f32 := m ((c : Thread nD τ).loc main_arg0)
abbrev grads : FVec Ideal S4096x4096 .f32 := m ((c : Thread nD τ).loc main_arg1)

theorem V_v0 : V m c main_v0 = truncf (F := Ideal) .bf16 (acts m c) bitsLt_bf16_f32 := by
  unfold V; after_reads_simp
theorem V_v1 : V m c main_v1 = truncf (F := Ideal) .bf16 (grads m c) bitsLt_bf16_f32 := by
  unfold V; after_reads_simp

theorem pay1_apply (p : FVec Ideal S4096x1024 .bf16) (q : FVec Ideal S4096x512 .bf16) (k : Fin 1024) (x : Fin 512) :
    (k0_pay1 (F := Ideal) p q : _ → EReal) (ix3 0 k x) = ∑ r : Fin 4096, p (ix2 r k) * q (ix2 r x) := by
  unfold k0_pay1
  pointwise

/-! ### The blocks -/

variable (t : Fin cfg0.N)

/-- The piece that a grid point computes. -/
def piece (t : Fin cfg0.N) : Fin 8 := ⟨t.val, by have := t.isLt; have : cfg0.N = 8 := N_0; omega⟩

theorem blk0 (r : Fin 4096) (k : Fin 1024) : (iblk m c 0 t : _ → EReal) (ix2 r k) = acts m c (ix2 r k) := by
  blk_point [iblk, idx t, V_v0]
theorem blk1 (r : Fin 4096) (x : Fin 512) : (iblk m c 1 t : _ → EReal) (ix2 r x) = grads m c (ix2 r (col (piece t) x)) := by
  blk_point [iblk, idx t, col, piece, V_v1]
theorem blk2 (k : Fin 1024) (x : Fin 512) (X : FVec Ideal S8x1024x512 .bf16) :
    X (((View.whole main_v2).slice (win0_2.rect t)).emb (ix3 0 k x)) = X (ix3 (piece t) k x) := by
  blk_point [idx t, piece]

theorem final2 : (dats m 0 c).arrAt 2 cfg0.N = PIECES (acts m c) (grads m c) := by
  refine (dats m 0 c).arrAt_eq_of_covers 2 _ (by decide +kernel) fun t _ y => ?_
  have h : out0_2 (iblk m c 0 t) (iblk m c 1 t) = k0_pay1 (iblk m c 0 t) (iblk m c 1 t) := by frame_out
  blk_simp
  rw [after0_2, h]
  obtain ⟨z, k, x, rfl⟩ : ∃ (z : Fin 1) (k : Fin 1024) (x : Fin 512), y = ix3 z k x := ⟨y 0, y 1, y 2, eq_ix3 y⟩
  obtain rfl : z = 0 := Subsingleton.elim _ _
  refine Eq.trans ?_ (blk2 t k x (PIECES (acts m c) (grads m c))).symm
  rw [pay1_apply]
  simp only [blk0, blk1]
  rfl

end Cert.DwIdeal.Value

namespace Cert.DwRefIdeal.Value

open Cert.DwRefIdeal Cert.DwRefIdeal.Gen
open Cert.DwIdeal.Value (col)

/-- The gradient, as the reference writes it: the whole product, then its cut into pieces. -/
def piecesL (p : FVec Ideal S4096x1024 .f32) (q : FVec Ideal S4096x4096 .f32) : FVec Ideal S8x1024x512 .bf16 :=
  truncf .bf16 (transpose S8x1024x512 [1, 0, 2] (shapeCast S1024x8x512 (transpose S1024x4096 [1, 0]
    (Host.dotGeneral dot_S4096x4096_S4096x1024_S4096x1024_0_0_1_1_n_n none q p) transposes_S4096x1024_S1024x4096_1_0)
    shapeCasts_S1024x4096_S1024x8x512) transposes_S1024x8x512_S8x1024x512_1_0_2) bitsLt_bf16_f32

theorem piecesL_apply (p : FVec Ideal S4096x1024 .f32) (q : FVec Ideal S4096x4096 .f32) (d : Fin 8) (k : Fin 1024) (x : Fin 512) :
    piecesL p q (ix3 d k x) = ∑ r : Fin 4096, q (ix2 r (col d x)) * p (ix2 r k) := by
  unfold piecesL
  pointwise [col]

end Cert.DwRefIdeal.Value

namespace Cert

open Cert.DwIdeal.Value Cert.DwRefIdeal.Value

/-- The kernel's result is the reference's. -/
theorem dw_algebraic : algebraic_DwIdeal_DwRefIdeal := by
  intro m g m' g' _ hag
  refine ⟨fun c => PIECES (acts m c) (grads m c), ?_, ?_⟩
  · refine (θ_run _ _ _).mono (fun r hr c => ?_) (DwIdeal.Value.run_blocks m g)
    obtain ⟨h2, hu⟩ := hr c
    exact ⟨h2.trans (DwIdeal.Value.final2 m c), hu⟩
  · refine (θ_run _ _ _).mono (fun r hr c => ?_) (DwRefIdeal.Value.run m' g')
    obtain ⟨h0, hu⟩ := hr c
    obtain ⟨e0, e1⟩ := hag c
    refine ⟨h0.trans (funext fun i => ?_), hu⟩
    obtain ⟨d, k, x, rfl⟩ : ∃ (d : Fin 8) (k : Fin 1024) (x : Fin 512), i = ix3 d k x := ⟨i 0, i 1, i 2, eq_ix3 i⟩
    show piecesL _ _ (ix3 d k x) = _
    rw [e0, e1, piecesL_apply]
    exact Finset.sum_congr rfl fun r _ => mul_comm _ _

end Cert

end
-- ==== Proof.MladoGrad.lean ====
module

public import proofs.«01_k».proof.Proof.Gen.MladoIdeal.Value
public import proofs.«01_k».proof.Proof.Gen.MladoRefIdeal.Run
public import proofs.«01_k».proof.Proof.NormLines
public import proofs.«01_k».proof.Defs
public import Idealize.ShloMosaic.Lib.Pipeline.ValueKit
public import Idealize.ShloMosaic.Lib.Pointwise
public import Idealize.ShloMosaic.Lib.IdealHost
public import Idealize.ShloMosaic.Lib.StableHlo.RunRead
public import Idealize.ShloMosaic.Lib.Claim
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.MladoIdeal.Value

open Cert.MladoIdeal Cert.MladoIdeal.Gen Cert.Reals Cert.NormMath

variable (m : (ℓ : Loc nD τ sig) → Buf (Elt Ideal) ℓ)

/-- Every window's block index, by the grid point's number. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_7.index t = ![t.val, 0] ∧ win0_8.index t = ![0, t.val] :=
  (by decide +kernel : ∀ t : Fin grid0.N, _)

/-! ### The product that the norm takes, and the results -/

def outer (o : FVec Ideal S4096x1024 .f32) (w : FVec Ideal S1024x1024 .f32) (a : Fin 4096) (k : Fin 1024) : EReal :=
  ∑ x : Fin 1024, o (ix2 a x) * w (ix2 x k)

/-- One row of the norm's gradient. -/
def slid (o : FVec Ideal S4096x1024 .f32) (g : FVec Ideal S1024 .f32) (w : FVec Ideal S1024x1024 .f32) (d : FVec Ideal S4096x1024 .f32)
    (a : Fin 4096) (k : Fin 1024) : EReal :=
  pulled ((1024 : ℝ) : EReal) (outer o w a) (fun k => g (ix1 k)) (fun k => d (ix2 a k)) k

/-- One row of the product's gradient. -/
def back (o : FVec Ideal S4096x1024 .f32) (g : FVec Ideal S1024 .f32) (w : FVec Ideal S1024x1024 .f32) (d : FVec Ideal S4096x1024 .f32)
    (a : Fin 4096) (k : Fin 1024) : EReal :=
  ∑ x : Fin 1024, slid o g w d a x * w (ix2 k x)

/-- One row's share of the gain's gradient. -/
def gainTerm (o : FVec Ideal S4096x1024 .f32) (w : FVec Ideal S1024x1024 .f32) (d : FVec Ideal S4096x1024 .f32) (a : Fin 4096) (k : Fin 1024) : EReal :=
  d (ix2 a k) * (outer o w a k * root ((1024 : ℝ) : EReal) (outer o w a))

/-- A column of a head. -/
def column (h : Fin 8) (e : Fin 128) : Fin 1024 := ⟨h.val * 128 + e.val, by have := h.isLt; have := e.isLt; omega⟩

section
variable (o : FVec Ideal S4096x1024 .f32) (g : FVec Ideal S1024 .f32) (w : FVec Ideal S1024x1024 .f32) (d : FVec Ideal S4096x1024 .f32)

abbrev SLID : FVec Ideal S4096x1024 .f32 := fun i => slid o g w d (i 0) (i 1)
abbrev GAIN : FVec Ideal S1x1024 .f32 := fun i => ∑ a : Fin 4096, gainTerm o w d a (i 1)
abbrev BACK : FVec Ideal S4096x1024 .f32 := fun i => back o g w d (i 0) (i 1)
abbrev DELTA : FVec Ideal S8x4096 .f32 := fun i => ∑ e : Fin 128, back o g w d (i 1) (column (i 0) e) * o (ix2 (i 1) (column (i 0) e))
end

/-! ### The arrays before the call -/

variable (c : Dev nD)

theorem V_v2 : V m c main_v2 = Host.dotGeneral (φ₂ := .bf16) dot_S4096x1024_S1024x1024_S4096x1024_1_0_0_1_n_n none
    (truncf (F := Ideal) .bf16 (m ((c : Thread nD τ).loc main_arg0) : FVec Ideal S4096x1024 .f32) bitsLt_bf16_f32)
    (truncf (F := Ideal) .bf16 (m ((c : Thread nD τ).loc main_arg2) : FVec Ideal S1024x1024 .f32) bitsLt_bf16_f32) := by
  unfold V; after_reads_simp
theorem V_v3 : V m c main_v3 = shapeCast S1x1024 (m ((c : Thread nD τ).loc main_arg1)) shapeCasts_S1024_S1x1024 := by
  unfold V; after_reads_simp; rfl
theorem V_v4 : V m c main_v4 = truncf (F := Ideal) .bf16 (m ((c : Thread nD τ).loc main_arg2) : FVec Ideal S1024x1024 .f32) bitsLt_bf16_f32 := by
  unfold V; after_reads_simp
theorem V_arg0 : V m c main_arg0 = m ((c : Thread nD τ).loc main_arg0) := by
  unfold V; after_reads_simp
theorem V_arg3 : V m c main_arg3 = m ((c : Thread nD τ).loc main_arg3) := by
  unfold V; after_reads_simp

theorem V_v2_apply (a : Fin 4096) (k : Fin 1024) :
    (V m c main_v2 : _ → EReal) (ix2 a k) = outer (m ((c : Thread nD τ).loc main_arg0)) (m ((c : Thread nD τ).loc main_arg2)) a k := by
  rw [V_v2]
  unfold outer
  pointwise

/-! ### The stored values -/

theorem pay3_apply (h : FVec Ideal S512x1024 .f32) (a : Fin 512) (k : Fin 1024) : (k0_pay3 (F := Ideal) h : _ → EReal) (ix2 a k) = h (ix2 a k) := by
  unfold k0_pay3
  pointwise

theorem pay4_apply (h : FVec Ideal S512x1024 .f32) (a : Fin 512) :
    (k0_pay4 (F := Ideal) h : _ → EReal) (ix2 a 0) = root ((1024 : ℝ) : EReal) (fun k : Fin 1024 => h (ix2 a k)) := by
  unfold k0_pay4 root
  pointwise [row_f32, eps_f32, pay3_apply]

theorem pay5_apply (h : FVec Ideal S512x1024 .f32) (a : Fin 512) (k : Fin 1024) :
    (k0_pay5 (F := Ideal) h : _ → EReal) (ix2 a k) = h (ix2 a k) * root ((1024 : ℝ) : EReal) (fun k : Fin 1024 => h (ix2 a k)) := by
  unfold k0_pay5
  pointwise [pay4_apply, pay3_apply]

theorem pay6_apply (h : FVec Ideal S512x1024 .f32) (g : FVec Ideal S1x1024 .f32) (d : FVec Ideal S512x1024 .f32) (a : Fin 512) (k : Fin 1024) :
    (k0_pay6 (F := Ideal) h g d : _ → EReal) (ix2 a k)
      = pulled ((1024 : ℝ) : EReal) (fun k : Fin 1024 => h (ix2 a k)) (fun k => g (ix2 0 k)) (fun k => d (ix2 a k)) k := by
  unfold k0_pay6 pulled
  pointwise [pay4_apply, pay5_apply, row_f32]

theorem pay7_apply (h d : FVec Ideal S512x1024 .f32) (y : FVec Ideal S1x1024 .f32) (k : Fin 1024) :
    (k0_pay7 (F := Ideal) h d y : _ → EReal) (ix2 0 k)
      = y (ix2 0 k) + ∑ a : Fin 512, d (ix2 a k) * (h (ix2 a k) * root ((1024 : ℝ) : EReal) (fun k : Fin 1024 => h (ix2 a k))) := by
  unfold k0_pay7
  pointwise [pay5_apply]

theorem pay8_apply (x : FVec Ideal S512x1024 .bf16) (w : FVec Ideal S1024x1024 .bf16) (a : Fin 512) (k : Fin 1024) :
    (k0_pay8 (F := Ideal) x w : _ → EReal) (ix2 a k) = ∑ j : Fin 1024, x (ix2 a j) * w (ix2 k j) := by
  unfold k0_pay8
  pointwise

/-- A column's head, as the kernel computes it. -/
theorem head_word (h : Fin 8) (k : Fin 1024) : k0_pay9 (ix2 h k) = BitVec.ofNat 32 (k.val / 128) := by
  unfold k0_pay9
  pointwise
  revert k
  decide +kernel

abbrev heads : IVec S8x1024 32 := iota .tc S8x1024 32 [0] iota_S8x1024_d0_w32

theorem heads_word (h : Fin 8) (k : Fin 1024) : heads (ix2 h k) = BitVec.ofNat 32 h.val := by
  unfold heads
  pointwise

theorem chosen : ∀ (h : Fin 8) (q : Fin 8), (IntOp.cmpi .eq (BitVec.ofNat 32 q.val) (BitVec.ofNat 32 h.val) = 1#1) = (q = h) := by
  decide

/-- The columns of a head, added. -/
theorem own_columns (z : Fin 1024 → EReal) (h : Fin 8) :
    ∑ k : Fin 1024, (if IntOp.cmpi .eq (BitVec.ofNat 32 (k.val / 128)) (BitVec.ofNat 32 h.val) = 1#1 then z k else 0)
      = ∑ e : Fin 128, z (column h e) := by
  refine (Fin.sum_mul_add_fin 8 128 (fun k : Fin 1024 => (if IntOp.cmpi .eq (BitVec.ofNat 32 (k.val / 128)) (BitVec.ofNat 32 h.val) = 1#1
    then z k else 0))).symm.trans ((Finset.sum_eq_single h (fun q _ hq => ?_) (fun hn => absurd (Finset.mem_univ _) hn)).trans ?_)
  · refine Finset.sum_eq_zero fun e _ => ?_
    have : (q.val * 128 + e.val) / 128 = q.val := by have := e.isLt; omega
    simp only [this, chosen, hq, if_false]
  · refine Finset.sum_congr rfl fun e _ => ?_
    have : (h.val * 128 + e.val) / 128 = h.val := by have := e.isLt; omega
    simp only [this, chosen, if_true]
    rfl

theorem pay1_apply (x o : FVec Ideal S512x1024 .f32) (h : Fin 8) (a : Fin 512) (r : Fin 1024 → ℝ)
    (hr : ∀ k, x (ix2 a k) * o (ix2 a k) = (r k : EReal)) :
    (k0_pay1 (F := Ideal) x k0_pay9 heads o : _ → EReal) (ix2 h a) = ∑ e : Fin 128, x (ix2 a (column h e)) * o (ix2 a (column h e)) := by
  unfold k0_pay1
  pointwise [head_word, heads_word]
  simp only [hr, ← EReal.coe_sub, sub_self]
  simp only [EReal.coe_zero, Scalar.select, ite_self, Finset.sum_const_zero, add_zero]
  refine (own_columns (fun k => (r k : EReal)) h)

/-! ### The blocks -/

/-- A row of a block as a row of the array. -/
def row (t : Fin cfg0.N) (a : Fin 512) : Fin 4096 := ⟨t.val * 512 + a.val, by have := t.isLt; have : cfg0.N = 8 := N_0; have := a.isLt; omega⟩

theorem blk0 (t : Fin cfg0.N) (a : Fin 512) (k : Fin 1024) : (iblk m c 0 t : _ → EReal) (ix2 a k)
    = outer (m ((c : Thread nD τ).loc main_arg0)) (m ((c : Thread nD τ).loc main_arg2)) (row t a) k := by
  refine Eq.trans ?_ (V_v2_apply m c (row t a) k)
  blk_point [iblk, idx t, row]
theorem blk1 (t : Fin cfg0.N) (k : Fin 1024) : (iblk m c 1 t : _ → EReal) (ix2 0 k) = m ((c : Thread nD τ).loc main_arg1) (ix1 k) := by
  blk_point [iblk, idx t, row, V_v3]
theorem blk2 (t : Fin cfg0.N) (a : Fin 512) (k : Fin 1024) : (iblk m c 2 t : _ → EReal) (ix2 a k) = m ((c : Thread nD τ).loc main_arg3) (ix2 (row t a) k) := by
  blk_point [iblk, idx t, row, V_arg3]
theorem blk3 (t : Fin cfg0.N) (k : Fin 1024) (x : Fin 1024) : (iblk m c 3 t : _ → EReal) (ix2 k x) = m ((c : Thread nD τ).loc main_arg2) (ix2 k x) := by
  blk_point [iblk, idx t, row, V_v4]
theorem blk4 (t : Fin cfg0.N) (a : Fin 512) (k : Fin 1024) : (iblk m c 4 t : _ → EReal) (ix2 a k) = m ((c : Thread nD τ).loc main_arg0) (ix2 (row t a) k) := by
  blk_point [iblk, idx t, row, V_arg0]

theorem blk5 (t : Fin cfg0.N) (a : Fin 512) (k : Fin 1024) (X : FVec Ideal S4096x1024 .bf16) :
    X (((View.whole main_v5_0).slice (win0_5.rect t)).emb (ix2 a k)) = X (ix2 (row t a) k) := by
  blk_point [idx t, row]
theorem blk7 (t : Fin cfg0.N) (a : Fin 512) (k : Fin 1024) (X : FVec Ideal S4096x1024 .f32) :
    X (((View.whole main_v5_2).slice (win0_7.rect t)).emb (ix2 a k)) = X (ix2 (row t a) k) := by
  blk_point [idx t, row]
theorem blk8 (t : Fin cfg0.N) (h : Fin 8) (a : Fin 512) (X : FVec Ideal S8x4096 .f32) :
    X (((View.whole main_v5_3).slice (win0_8.rect t)).emb (ix2 h a)) = X (ix2 h (row t a)) := by
  blk_point [idx t, row]

/-! ### The final arrays -/

/-- What every point leaves in the windows that no other point reads. -/
theorem outs (t : Fin cfg0.N) : (outsAt0 m c t.val t.isLt).1 = k0_pay6 (iblk m c 0 t) (iblk m c 1 t) (iblk m c 2 t)
    ∧ (outsAt0 m c t.val t.isLt).2.2.1 = k0_pay8 (k0_pay6 (iblk m c 0 t) (iblk m c 1 t) (iblk m c 2 t)) (iblk m c 3 t)
    ∧ (outsAt0 m c t.val t.isLt).2.2.2 = k0_pay1 (k0_pay8 (k0_pay6 (iblk m c 0 t) (iblk m c 1 t) (iblk m c 2 t)) (iblk m c 3 t)) k0_pay9 heads (iblk m c 4 t) := by
  by_cases h0 : t.val % 8 = 0
  · rw [outsAt0_A m c t h0]
    refine ⟨?_, ?_, ?_⟩ <;> frame_out
  · rw [outsAt0_B m c t h0]
    refine ⟨?_, ?_, ?_⟩ <;> frame_out

/-- The norm's gradient in a block. -/
theorem slid_blk (t : Fin cfg0.N) (a : Fin 512) (k : Fin 1024) :
    (k0_pay6 (F := Ideal) (iblk m c 0 t) (iblk m c 1 t) (iblk m c 2 t) : _ → EReal) (ix2 a k)
      = slid (m ((c : Thread nD τ).loc main_arg0)) (m ((c : Thread nD τ).loc main_arg1)) (m ((c : Thread nD τ).loc main_arg2))
        (m ((c : Thread nD τ).loc main_arg3)) (row t a) k := by
  rw [pay6_apply]
  simp only [blk0, blk1, blk2]
  rfl

theorem back_blk (t : Fin cfg0.N) (a : Fin 512) (k : Fin 1024) :
    (k0_pay8 (F := Ideal) (k0_pay6 (iblk m c 0 t) (iblk m c 1 t) (iblk m c 2 t)) (iblk m c 3 t) : _ → EReal) (ix2 a k)
      = back (m ((c : Thread nD τ).loc main_arg0)) (m ((c : Thread nD τ).loc main_arg1)) (m ((c : Thread nD τ).loc main_arg2))
        (m ((c : Thread nD τ).loc main_arg3)) (row t a) k := by
  rw [pay8_apply]
  simp only [slid_blk, blk3]
  rfl

theorem final5 : (dats m 0 c).arrAt 5 cfg0.N
    = SLID (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, (outs m c t).1]
  obtain ⟨a, k, rfl⟩ : ∃ (a : Fin 512) (k : Fin 1024), y = ix2 a k := ⟨y 0, y 1, eq_ix2 y⟩
  exact (slid_blk m c t a k).trans (blk5 t a k (SLID (m ((c : Thread nD τ).loc main_arg0)) (m ((c : Thread nD τ).loc main_arg1))
    (m ((c : Thread nD τ).loc main_arg2)) (m ((c : Thread nD τ).loc main_arg3)))).symm

theorem final7 : (dats m 0 c).arrAt 7 cfg0.N
    = BACK (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, (outs m c t).2.1]
  obtain ⟨a, k, rfl⟩ : ∃ (a : Fin 512) (k : Fin 1024), y = ix2 a k := ⟨y 0, y 1, eq_ix2 y⟩
  exact (back_blk m c t a k).trans (blk7 t a k (BACK (m ((c : Thread nD τ).loc main_arg0)) (m ((c : Thread nD τ).loc main_arg1))
    (m ((c : Thread nD τ).loc main_arg2)) (m ((c : Thread nD τ).loc main_arg3)))).symm

theorem final8 (r : Fin 4096 → Fin 1024 → ℝ) (hr : ∀ a k, back (m ((c : Thread nD τ).loc main_arg0)) (m ((c : Thread nD τ).loc main_arg1))
      (m ((c : Thread nD τ).loc main_arg2)) (m ((c : Thread nD τ).loc main_arg3)) a k * m ((c : Thread nD τ).loc main_arg0) (ix2 a k) = (r a k : EReal)) :
    (dats m 0 c).arrAt 8 cfg0.N
      = DELTA (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8, (outs m c t).2.2]
  obtain ⟨h, a, rfl⟩ : ∃ (h : Fin 8) (a : Fin 512), y = ix2 h a := ⟨y 0, y 1, eq_ix2 y⟩
  rw [pay1_apply _ _ h a (r (row t a)) (fun k => by rw [back_blk, blk4]; exact hr (row t a) k)]
  simp only [back_blk, blk4]
  exact (blk8 t h a (DELTA (m ((c : Thread nD τ).loc main_arg0)) (m ((c : Thread nD τ).loc main_arg1))
    (m ((c : Thread nD τ).loc main_arg2)) (m ((c : Thread nD τ).loc main_arg3)))).symm

/-- One block's share of the gain's gradient. -/
def share (t : Fin cfg0.N) (k : Fin 1024) : EReal :=
  ∑ a : Fin 512, gainTerm (m ((c : Thread nD τ).loc main_arg0)) (m ((c : Thread nD τ).loc main_arg2)) (m ((c : Thread nD τ).loc main_arg3)) (row t a) k

theorem share_blk (t : Fin cfg0.N) (y : FVec Ideal S1x1024 .f32) (k : Fin 1024) :
    (k0_pay7 (F := Ideal) (iblk m c 0 t) (iblk m c 2 t) y : _ → EReal) (ix2 0 k) = y (ix2 0 k) + share m c t k := by
  rw [pay7_apply]
  simp only [blk0, blk2]
  rfl

theorem final6 : (dats m 0 c).arrAt 6 cfg0.N
    = GAIN (m ((c : Thread nD τ).loc main_arg0)) (m ((c : Thread nD τ).loc main_arg2)) (m ((c : Thread nD τ).loc main_arg3)) := by
  refine (dats m 0 c).arrAt_eq_of_after_last 6 t0_7 (by decide +kernel) _ fun j => ?_
  blk_simp
  rw [after0_6]
  obtain ⟨k, rfl⟩ : ∃ (k : Fin 1024), j = ix2 0 k := ⟨j 1, by rw [eq_ix2 j]; congr 1; exact Subsingleton.elim _ _⟩
  refine (Pipeline.eq_sum_fin_of_reset_step_apply_last (fun n h (k : Fin 1024) => (outsAt0 m c n h).2.1 (ix2 0 k)) 8 (fun _ => (0 : EReal)) (share m c)
    (fun t h0 k => ?_) (fun t h0 k => ?_) (by decide) t0_7 rfl k).trans ?_
  · show (outsAt0 m c t.val t.isLt).2.1 (ix2 0 k) = _
    rw [outsAt0_A m c t h0]
    frame_out
    rw [share_blk]
    pointwise [k0_pay2]
  · show (outsAt0 m c t.val t.isLt).2.1 (ix2 0 k) = _
    rw [outsAt0_B m c t h0]
    frame_out
    rw [share_blk]
  · rw [zero_add]
    exact Fin.sum_mul_add_fin 8 512 (fun a : Fin 4096 => gainTerm (m ((c : Thread nD τ).loc main_arg0)) (m ((c : Thread nD τ).loc main_arg2)) (m ((c : Thread nD τ).loc main_arg3)) a k)

end Cert.MladoIdeal.Value

namespace Cert.MladoRefIdeal.Value

open Cert.MladoRefIdeal Cert.MladoRefIdeal.Gen Cert.Reals Cert.NormMath Cert.NormLines

theorem sides : NormLines.Sides :=
  ⟨reducesTo_S4096x1024_S4096_d1, h_S_, bcast_S4096_S4096x1_0, bcast_S_S4096x1, bcast_S4096x1_S4096x1024_0_1, bcast_S1024_S1x1024_1,
    bcast_S1x1024_S4096x1024_0_1, reducesTo_S4096x1024_S1024_d0, shapeCasts_S1024_S1x1024, reducesTo_S1x1024_S1024_d0, shapeCasts_S4096_S4096x1,
    reducesTo_S4096x1_S4096_d1, bcast_S4096_S4096x1024_0⟩

section
variable (o : FVec Ideal S4096x1024 .f32) (g : FVec Ideal S1024 .f32) (w : FVec Ideal S1024x1024 .f32) (d : FVec Ideal S4096x1024 .f32)

/-- The product that the norm takes. -/
def outerL : FVec Ideal S4096x1024 .f32 := Host.dotGeneral dot_S4096x1024_S1024x1024_S4096x1024_1_0_0_1_n_n none o w

theorem outerL_apply (a : Fin 4096) (k : Fin 1024) : outerL o w (ix2 a k) = MladoIdeal.Value.outer o w a k := by
  unfold outerL MladoIdeal.Value.outer
  pointwise

/-- The norm's gradient. -/
def slidL : FVec Ideal S4096x1024 .f32 :=
  have := sides
  addf (addf (mulf (gainedL g d) (rootL (outerL o w))) (mulf (outerL o w) (squareL (outerL o w) (gainedL g d))))
    (mulf (squareL (outerL o w) (gainedL g d)) (outerL o w))

/-- The product's gradient. -/
def backL (x : FVec Ideal S4096x1024 .f32) : FVec Ideal S4096x1024 .f32 :=
  Host.dotGeneral dot_S4096x1024_S1024x1024_S4096x1024_1_1_0_0_n_n none x w

theorem backL_apply (x : FVec Ideal S4096x1024 .f32) (a : Fin 4096) (k : Fin 1024) :
    backL w x (ix2 a k) = ∑ j : Fin 1024, x (ix2 a j) * w (ix2 k j) := by
  unfold backL
  pointwise

/-- Each head's row sum. -/
def deltaL (x : FVec Ideal S4096x1024 .f32) : FVec Ideal S8x4096 .f32 :=
  transpose S8x4096 [1, 0] (Host.reduceAdd (shapeCast S4096x8x128 (mulf x o) shapeCasts_S4096x1024_S4096x8x128) (constant S_ .f32 0x00000000#32)
    reducesTo_S4096x8x128_S4096x8_d2 h_S_) transposes_S4096x8_S8x4096_1_0

theorem deltaL_apply (x : FVec Ideal S4096x1024 .f32) (h : Fin 8) (a : Fin 4096) :
    deltaL o x (ix2 h a) = ∑ e : Fin 128, x (ix2 a (MladoIdeal.Value.column h e)) * o (ix2 a (MladoIdeal.Value.column h e)) := by
  unfold deltaL MladoIdeal.Value.column
  pointwise

variable (O : Fin 4096 → Fin 1024 → ℝ) (G : Fin 1024 → ℝ) (W : Fin 1024 → Fin 1024 → ℝ) (D : Fin 4096 → Fin 1024 → ℝ)
  (hO : ∀ a k, o (ix2 a k) = (O a k : EReal)) (hG : ∀ k, g (ix1 k) = (G k : EReal)) (hW : ∀ k j, w (ix2 k j) = (W k j : EReal))
  (hD : ∀ a k, d (ix2 a k) = (D a k : EReal))

include hO hW in
theorem outer_real (a : Fin 4096) (k : Fin 1024) : MladoIdeal.Value.outer o w a k = ((∑ x, O a x * W x k : ℝ) : EReal) := by
  unfold MladoIdeal.Value.outer
  simp only [hO, hW, ← EReal.coe_mul, coe_sum]

include hO hG hW hD in
theorem slidL_apply (a : Fin 4096) (k : Fin 1024) : slidL o g w d (ix2 a k) = MladoIdeal.Value.slid o g w d a k := by
  have := sides
  have e : slidL o g w d (ix2 a k) = gainedL g d (ix2 a k) * rootL (outerL o w) (ix2 a k) + outerL o w (ix2 a k) * squareL (outerL o w) (gainedL g d) (ix2 a k)
      + squareL (outerL o w) (gainedL g d) (ix2 a k) * outerL o w (ix2 a k) := by
    unfold slidL
    pointwise
  rw [e, pulled_lines _ _ _ (fun a k => ∑ x, O a x * W x k) D G (fun a k => by rw [outerL_apply, outer_real o w O W hO hW]) hD hG]
  simp only [outerL_apply]
  rfl

include hO hG hW hD in
theorem back_real (a : Fin 4096) (k : Fin 1024) : ∃ r : ℝ, MladoIdeal.Value.back o g w d a k * o (ix2 a k) = (r : EReal) := by
  unfold MladoIdeal.Value.back MladoIdeal.Value.slid
  have e : MladoIdeal.Value.outer o w a = fun k => ((∑ x, O a x * W x k : ℝ) : EReal) := funext fun k => outer_real o w O W hO hW a k
  simp only [e, hG, hD, hW, hO, pulled_real 1024 (by norm_num) (fun k => ∑ x, O a x * W x k) G (D a), ← EReal.coe_mul, coe_sum]
  exact ⟨_, rfl⟩
end

end Cert.MladoRefIdeal.Value

namespace Cert

open Cert.MladoIdeal.Value Cert.MladoRefIdeal.Value Cert.Reals Cert.NormMath Cert.NormLines

section
variable (x : FVec Ideal Pre_mlado_finite.S4096x1024 .f32) (y : FVec Ideal Pre_mlado_finite.S1024 .f32) (z : FVec Ideal Pre_mlado_finite.S1024x1024 .f32)
  (v : FVec Ideal Pre_mlado_finite.S4096x1024 .f32) [Pre_mlado_finite.Facts]

theorem mlado_real (p : Pre_mlado_finite.fn (F := Ideal) x y z v = (fun _ => 1#1, fun _ => 1#1, fun _ => 1#1, fun _ => 1#1)) :
    (∀ (a : Fin 4096) (k : Fin 1024), ∃ r : ℝ, x (ix2 a k) = (r : EReal)) ∧ (∀ k : Fin 1024, ∃ r : ℝ, y (ix1 k) = (r : EReal))
      ∧ (∀ k j : Fin 1024, ∃ r : ℝ, z (ix2 k j) = (r : EReal)) ∧ ∀ (a : Fin 4096) (k : Fin 1024), ∃ r : ℝ, v (ix2 a k) = (r : EReal) := by
  unfold Pre_mlado_finite.fn at p
  simp only [Prod.mk.injEq] at p
  obtain ⟨p0, p1, p2, p3⟩ := p
  refine ⟨fun a k => real_of_finite _ ?_, fun k => real_of_finite _ ?_, fun k j => real_of_finite _ ?_, fun a k => real_of_finite _ ?_⟩
  · have := congrFun p0 (ix2 a k)
    pointwise [top_f32] at this
    exact this
  · have := congrFun p1 (ix1 k)
    pointwise [top_f32] at this
    exact this
  · have := congrFun p2 (ix2 k j)
    pointwise [top_f32] at this
    exact this
  · have := congrFun p3 (ix2 a k)
    pointwise [top_f32] at this
    exact this
end

/-- The kernel's four results are the reference's, at finite arguments. -/
theorem mlado_algebraic [hPre : Pre_mlado_finite.Facts] : algebraic_MladoIdeal_MladoRefIdeal_pre_mlado_finite := by
  intro m g m' g' hpre hag
  let o (c : Dev MladoIdeal.nD) : FVec Ideal MladoIdeal.S4096x1024 .f32 := m ((c.tc : Thread MladoIdeal.nD MladoIdeal.τ).loc MladoIdeal.main_arg0)
  let y (c : Dev MladoIdeal.nD) : FVec Ideal MladoIdeal.S1024 .f32 := m ((c.tc : Thread MladoIdeal.nD MladoIdeal.τ).loc MladoIdeal.main_arg1)
  let w (c : Dev MladoIdeal.nD) : FVec Ideal MladoIdeal.S1024x1024 .f32 := m ((c.tc : Thread MladoIdeal.nD MladoIdeal.τ).loc MladoIdeal.main_arg2)
  let d (c : Dev MladoIdeal.nD) : FVec Ideal MladoIdeal.S4096x1024 .f32 := m ((c.tc : Thread MladoIdeal.nD MladoIdeal.τ).loc MladoIdeal.main_arg3)
  have real (c : Dev MladoIdeal.nD) := mlado_real (o c) (y c) (w c) (d c) (by
    obtain ⟨p0, p1, p2, p3⟩ := hpre c
    exact Prod.ext p0 (Prod.ext p1 (Prod.ext p2 p3)))
  refine ⟨fun c => SLID (o c) (y c) (w c) (d c), fun c => GAIN (o c) (w c) (d c), fun c => BACK (o c) (y c) (w c) (d c),
    fun c => DELTA (o c) (y c) (w c) (d c), ?_, ?_⟩
  · refine (θ_run _ _ _).mono (fun r h c => ?_) (MladoIdeal.Value.run_blocks m g)
    obtain ⟨h5, h6, h7, h8, hu⟩ := h c
    obtain ⟨r0, r1, r2, r3⟩ := real c
    choose O hO using r0
    choose G hG using r1
    choose W hW using r2
    choose D hD using r3
    choose R hR using back_real (o c) (y c) (w c) (d c) O G W D hO hG hW hD
    exact ⟨h5.trans (final5 m c), h6.trans (final6 m c), h7.trans (final7 m c), h8.trans (final8 m c R hR), hu⟩
  · refine (θ_run _ _ _).mono (fun r h c => ?_) (MladoRefIdeal.Value.run m' g')
    obtain ⟨h0, h1, h2, h3, hu⟩ := h c
    obtain ⟨e0, e1, e2, e3⟩ := hag c
    obtain ⟨r0, r1, r2, r3⟩ := real c
    choose O hO using r0
    choose G hG using r1
    choose W hW using r2
    choose D hD using r3
    have := MladoRefIdeal.Value.sides
    have hs := slidL_apply (o c) (y c) (w c) (d c) O G W D hO hG hW hD
    have hb (a : Fin 4096) (k : Fin 1024) : backL (w c) (slidL (o c) (y c) (w c) (d c)) (ix2 a k) = back (o c) (y c) (w c) (d c) a k := by
      rw [backL_apply]
      simp only [hs]
      rfl
    refine ⟨h0.trans (funext fun i => ?_), h1.trans (funext fun i => ?_), h2.trans (funext fun i => ?_), h3.trans (funext fun i => ?_), hu⟩
    · obtain ⟨a, k, rfl⟩ : ∃ (a : Fin 4096) (k : Fin 1024), i = ix2 a k := ⟨i 0, i 1, eq_ix2 i⟩
      show slidL _ _ _ _ (ix2 a k) = _
      rw [e0, e1, e2, e3]
      exact hs a k
    · obtain ⟨k, rfl⟩ : ∃ (k : Fin 1024), i = ix2 0 k := ⟨i 1, by rw [eq_ix2 i]; congr 1; exact Subsingleton.elim _ _⟩
      show gainL (outerL _ _) _ (ix2 0 k) = _
      rw [gainL_apply, e0, e2, e3]
      simp only [outerL_apply]
      rfl
    · obtain ⟨a, k, rfl⟩ : ∃ (a : Fin 4096) (k : Fin 1024), i = ix2 a k := ⟨i 0, i 1, eq_ix2 i⟩
      show backL _ (slidL _ _ _ _) (ix2 a k) = _
      rw [e0, e1, e2, e3]
      exact hb a k
    · obtain ⟨h, a, rfl⟩ : ∃ (h : Fin 8) (a : Fin 4096), i = ix2 h a := ⟨i 0, i 1, eq_ix2 i⟩
      show deltaL _ (backL _ (slidL _ _ _ _)) (ix2 h a) = _
      rw [e0, e1, e2, e3]
      exact (deltaL_apply (o c) _ h a).trans (Finset.sum_congr rfl fun e _ => congrArg (· * o c (ix2 a (column h e))) (hb a (column h e)))

end Cert

end
-- ==== Proof.HgdoGrad.lean ====
module

public import proofs.«01_k».proof.Proof.Gen.HgdoIdeal.Value
public import proofs.«01_k».proof.Proof.Gen.HgdoRefIdeal.Run
public import proofs.«01_k».proof.Proof.MladoGrad
public import proofs.«01_k».proof.Defs
public import Idealize.ShloMosaic.Lib.Pipeline.ValueKit
public import Idealize.ShloMosaic.Lib.Pointwise
public import Idealize.ShloMosaic.Lib.IdealHost
public import Idealize.ShloMosaic.Lib.StableHlo.RunRead
public import Idealize.ShloMosaic.Lib.Claim
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.HgdoIdeal.Value

open Cert.HgdoIdeal Cert.HgdoIdeal.Gen Cert.Reals Cert.NormMath
open Cert.MladoIdeal.Value (outer slid back gainTerm SLID GAIN BACK)

variable (m : (ℓ : Loc nD τ sig) → Buf (Elt Ideal) ℓ)

/-- Every window's block index, by the grid point's number. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_6.index t = ![t.val, 0] :=
  (by decide +kernel : ∀ t : Fin grid0.N, _)

/-! ### The arrays before the call -/

variable (c : Dev nD)

theorem V_v2 : V m c main_v2 = Host.dotGeneral (φ₂ := .bf16) dot_S4096x1024_S1024x1024_S4096x1024_1_0_0_1_n_n none
    (truncf (F := Ideal) .bf16 (m ((c : Thread nD τ).loc main_arg0) : FVec Ideal S4096x1024 .f32) bitsLt_bf16_f32)
    (truncf (F := Ideal) .bf16 (m ((c : Thread nD τ).loc main_arg2) : FVec Ideal S1024x1024 .f32) bitsLt_bf16_f32) := by
  unfold V; after_reads_simp
theorem V_v3 : V m c main_v3 = shapeCast S1x1024 (m ((c : Thread nD τ).loc main_arg1)) shapeCasts_S1024_S1x1024 := by
  unfold V; after_reads_simp; rfl
theorem V_v4 : V m c main_v4 = truncf (F := Ideal) .bf16 (m ((c : Thread nD τ).loc main_arg2) : FVec Ideal S1024x1024 .f32) bitsLt_bf16_f32 := by
  unfold V; after_reads_simp
theorem V_arg3 : V m c main_arg3 = m ((c : Thread nD τ).loc main_arg3) := by
  unfold V; after_reads_simp

theorem V_v2_apply (a : Fin 4096) (k : Fin 1024) :
    (V m c main_v2 : _ → EReal) (ix2 a k) = outer (m ((c : Thread nD τ).loc main_arg0)) (m ((c : Thread nD τ).loc main_arg2)) a k := by
  rw [V_v2]
  unfold outer
  pointwise

/-! ### The stored values -/

theorem pay2_apply (h : FVec Ideal S512x1024 .f32) (a : Fin 512) (k : Fin 1024) : (k0_pay2 (F := Ideal) h : _ → EReal) (ix2 a k) = h (ix2 a k) := by
  unfold k0_pay2
  pointwise

theorem pay3_apply (h : FVec Ideal S512x1024 .f32) (a : Fin 512) :
    (k0_pay3 (F := Ideal) h : _ → EReal) (ix2 a 0) = root ((1024 : ℝ) : EReal) (fun k : Fin 1024 => h (ix2 a k)) := by
  unfold k0_pay3 root
  pointwise [row_f32, eps_f32, pay2_apply]

theorem pay4_apply (h : FVec Ideal S512x1024 .f32) (a : Fin 512) (k : Fin 1024) :
    (k0_pay4 (F := Ideal) h : _ → EReal) (ix2 a k) = h (ix2 a k) * root ((1024 : ℝ) : EReal) (fun k : Fin 1024 => h (ix2 a k)) := by
  unfold k0_pay4
  pointwise [pay3_apply, pay2_apply]

theorem pay5_apply (h : FVec Ideal S512x1024 .f32) (g : FVec Ideal S1x1024 .f32) (d : FVec Ideal S512x1024 .f32) (a : Fin 512) (k : Fin 1024) :
    (k0_pay5 (F := Ideal) h g d : _ → EReal) (ix2 a k)
      = pulled ((1024 : ℝ) : EReal) (fun k : Fin 1024 => h (ix2 a k)) (fun k => g (ix2 0 k)) (fun k => d (ix2 a k)) k := by
  unfold k0_pay5 pulled
  pointwise [pay3_apply, pay4_apply, row_f32]

theorem pay6_apply (h d : FVec Ideal S512x1024 .f32) (y : FVec Ideal S1x1024 .f32) (k : Fin 1024) :
    (k0_pay6 (F := Ideal) h d y : _ → EReal) (ix2 0 k)
      = y (ix2 0 k) + ∑ a : Fin 512, d (ix2 a k) * (h (ix2 a k) * root ((1024 : ℝ) : EReal) (fun k : Fin 1024 => h (ix2 a k))) := by
  unfold k0_pay6
  pointwise [pay4_apply]

theorem pay7_apply (x : FVec Ideal S512x1024 .bf16) (w : FVec Ideal S1024x1024 .bf16) (a : Fin 512) (k : Fin 1024) :
    (k0_pay7 (F := Ideal) x w : _ → EReal) (ix2 a k) = ∑ j : Fin 1024, x (ix2 a j) * w (ix2 k j) := by
  unfold k0_pay7
  pointwise

/-! ### The blocks -/

/-- A row of a block as a row of the array. -/
def row (t : Fin cfg0.N) (a : Fin 512) : Fin 4096 := ⟨t.val * 512 + a.val, by have := t.isLt; have : cfg0.N = 8 := N_0; have := a.isLt; omega⟩

theorem blk0 (t : Fin cfg0.N) (a : Fin 512) (k : Fin 1024) : (iblk m c 0 t : _ → EReal) (ix2 a k)
    = outer (m ((c : Thread nD τ).loc main_arg0)) (m ((c : Thread nD τ).loc main_arg2)) (row t a) k := by
  refine Eq.trans ?_ (V_v2_apply m c (row t a) k)
  blk_point [iblk, idx t, row]
theorem blk1 (t : Fin cfg0.N) (k : Fin 1024) : (iblk m c 1 t : _ → EReal) (ix2 0 k) = m ((c : Thread nD τ).loc main_arg1) (ix1 k) := by
  blk_point [iblk, idx t, row, V_v3]
theorem blk2 (t : Fin cfg0.N) (a : Fin 512) (k : Fin 1024) : (iblk m c 2 t : _ → EReal) (ix2 a k) = m ((c : Thread nD τ).loc main_arg3) (ix2 (row t a) k) := by
  blk_point [iblk, idx t, row, V_arg3]
theorem blk3 (t : Fin cfg0.N) (k : Fin 1024) (x : Fin 1024) : (iblk m c 3 t : _ → EReal) (ix2 k x) = m ((c : Thread nD τ).loc main_arg2) (ix2 k x) := by
  blk_point [iblk, idx t, row, V_v4]
theorem blk4 (t : Fin cfg0.N) (a : Fin 512) (k : Fin 1024) (X : FVec Ideal S4096x1024 .bf16) :
    X (((View.whole main_v5_0).slice (win0_4.rect t)).emb (ix2 a k)) = X (ix2 (row t a) k) := by
  blk_point [idx t, row]
theorem blk6 (t : Fin cfg0.N) (a : Fin 512) (k : Fin 1024) (X : FVec Ideal S4096x1024 .f32) :
    X (((View.whole main_v5_2).slice (win0_6.rect t)).emb (ix2 a k)) = X (ix2 (row t a) k) := by
  blk_point [idx t, row]
/-! ### The final arrays -/

/-- What every point leaves in the windows that no other point reads. -/
theorem outs (t : Fin cfg0.N) : (outsAt0 m c t.val t.isLt).1 = k0_pay5 (iblk m c 0 t) (iblk m c 1 t) (iblk m c 2 t)
    ∧ (outsAt0 m c t.val t.isLt).2.2 = k0_pay7 (k0_pay5 (iblk m c 0 t) (iblk m c 1 t) (iblk m c 2 t)) (iblk m c 3 t) := by
  by_cases h0 : t.val % 8 = 0
  · rw [outsAt0_A m c t h0]
    refine ⟨?_, ?_⟩ <;> frame_out
  · rw [outsAt0_B m c t h0]
    refine ⟨?_, ?_⟩ <;> frame_out

/-- The norm's gradient in a block. -/
theorem slid_blk (t : Fin cfg0.N) (a : Fin 512) (k : Fin 1024) :
    (k0_pay5 (F := Ideal) (iblk m c 0 t) (iblk m c 1 t) (iblk m c 2 t) : _ → EReal) (ix2 a k)
      = slid (m ((c : Thread nD τ).loc main_arg0)) (m ((c : Thread nD τ).loc main_arg1)) (m ((c : Thread nD τ).loc main_arg2))
        (m ((c : Thread nD τ).loc main_arg3)) (row t a) k := by
  rw [pay5_apply]
  simp only [blk0, blk1, blk2]
  rfl

theorem back_blk (t : Fin cfg0.N) (a : Fin 512) (k : Fin 1024) :
    (k0_pay7 (F := Ideal) (k0_pay5 (iblk m c 0 t) (iblk m c 1 t) (iblk m c 2 t)) (iblk m c 3 t) : _ → EReal) (ix2 a k)
      = back (m ((c : Thread nD τ).loc main_arg0)) (m ((c : Thread nD τ).loc main_arg1)) (m ((c : Thread nD τ).loc main_arg2))
        (m ((c : Thread nD τ).loc main_arg3)) (row t a) k := by
  rw [pay7_apply]
  simp only [slid_blk, blk3]
  rfl

theorem final4 : (dats m 0 c).arrAt 4 cfg0.N
    = SLID (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, (outs m c t).1]
  obtain ⟨a, k, rfl⟩ : ∃ (a : Fin 512) (k : Fin 1024), y = ix2 a k := ⟨y 0, y 1, eq_ix2 y⟩
  exact (slid_blk m c t a k).trans (blk4 t a k (SLID (m ((c : Thread nD τ).loc main_arg0)) (m ((c : Thread nD τ).loc main_arg1))
    (m ((c : Thread nD τ).loc main_arg2)) (m ((c : Thread nD τ).loc main_arg3)))).symm

theorem final6 : (dats m 0 c).arrAt 6 cfg0.N
    = BACK (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6, (outs m c t).2]
  obtain ⟨a, k, rfl⟩ : ∃ (a : Fin 512) (k : Fin 1024), y = ix2 a k := ⟨y 0, y 1, eq_ix2 y⟩
  exact (back_blk m c t a k).trans (blk6 t a k (BACK (m ((c : Thread nD τ).loc main_arg0)) (m ((c : Thread nD τ).loc main_arg1))
    (m ((c : Thread nD τ).loc main_arg2)) (m ((c : Thread nD τ).loc main_arg3)))).symm

/-- One block's share of the gain's gradient. -/
def share (t : Fin cfg0.N) (k : Fin 1024) : EReal :=
  ∑ a : Fin 512, gainTerm (m ((c : Thread nD τ).loc main_arg0)) (m ((c : Thread nD τ).loc main_arg2)) (m ((c : Thread nD τ).loc main_arg3)) (row t a) k

theorem share_blk (t : Fin cfg0.N) (y : FVec Ideal S1x1024 .f32) (k : Fin 1024) :
    (k0_pay6 (F := Ideal) (iblk m c 0 t) (iblk m c 2 t) y : _ → EReal) (ix2 0 k) = y (ix2 0 k) + share m c t k := by
  rw [pay6_apply]
  simp only [blk0, blk2]
  rfl

theorem final5 : (dats m 0 c).arrAt 5 cfg0.N
    = GAIN (m ((c : Thread nD τ).loc main_arg0)) (m ((c : Thread nD τ).loc main_arg2)) (m ((c : Thread nD τ).loc main_arg3)) := by
  refine (dats m 0 c).arrAt_eq_of_after_last 5 t0_7 (by decide +kernel) _ fun j => ?_
  blk_simp
  rw [after0_5]
  obtain ⟨k, rfl⟩ : ∃ (k : Fin 1024), j = ix2 0 k := ⟨j 1, by rw [eq_ix2 j]; congr 1; exact Subsingleton.elim _ _⟩
  refine (Pipeline.eq_sum_fin_of_reset_step_apply_last (fun n h (k : Fin 1024) => (outsAt0 m c n h).2.1 (ix2 0 k)) 8 (fun _ => (0 : EReal)) (share m c)
    (fun t h0 k => ?_) (fun t h0 k => ?_) (by decide) t0_7 rfl k).trans ?_
  · show (outsAt0 m c t.val t.isLt).2.1 (ix2 0 k) = _
    rw [outsAt0_A m c t h0]
    frame_out
    rw [share_blk]
    pointwise [k0_pay1]
  · show (outsAt0 m c t.val t.isLt).2.1 (ix2 0 k) = _
    rw [outsAt0_B m c t h0]
    frame_out
    rw [share_blk]
  · rw [zero_add]
    exact Fin.sum_mul_add_fin 8 512 (fun a : Fin 4096 => gainTerm (m ((c : Thread nD τ).loc main_arg0)) (m ((c : Thread nD τ).loc main_arg2)) (m ((c : Thread nD τ).loc main_arg3)) a k)

end Cert.HgdoIdeal.Value

namespace Cert

open Cert.MladoIdeal.Value (outer slid back gainTerm SLID GAIN BACK)
open Cert.HgdoIdeal.Value Cert.MladoRefIdeal.Value Cert.Reals Cert.NormMath Cert.NormLines

section
variable (x : FVec Ideal Pre_hgdo_finite.S4096x1024 .f32) (y : FVec Ideal Pre_hgdo_finite.S1024 .f32) (z : FVec Ideal Pre_hgdo_finite.S1024x1024 .f32)
  (v : FVec Ideal Pre_hgdo_finite.S4096x1024 .f32) [Pre_hgdo_finite.Facts]

theorem hgdo_real (p : Pre_hgdo_finite.fn (F := Ideal) x y z v = (fun _ => 1#1, fun _ => 1#1, fun _ => 1#1, fun _ => 1#1)) :
    (∀ (a : Fin 4096) (k : Fin 1024), ∃ r : ℝ, x (ix2 a k) = (r : EReal)) ∧ (∀ k : Fin 1024, ∃ r : ℝ, y (ix1 k) = (r : EReal))
      ∧ (∀ k j : Fin 1024, ∃ r : ℝ, z (ix2 k j) = (r : EReal)) ∧ ∀ (a : Fin 4096) (k : Fin 1024), ∃ r : ℝ, v (ix2 a k) = (r : EReal) := by
  unfold Pre_hgdo_finite.fn at p
  simp only [Prod.mk.injEq] at p
  obtain ⟨p0, p1, p2, p3⟩ := p
  refine ⟨fun a k => real_of_finite _ ?_, fun k => real_of_finite _ ?_, fun k j => real_of_finite _ ?_, fun a k => real_of_finite _ ?_⟩
  · have := congrFun p0 (ix2 a k)
    pointwise [top_f32] at this
    exact this
  · have := congrFun p1 (ix1 k)
    pointwise [top_f32] at this
    exact this
  · have := congrFun p2 (ix2 k j)
    pointwise [top_f32] at this
    exact this
  · have := congrFun p3 (ix2 a k)
    pointwise [top_f32] at this
    exact this
end

/-- The kernel's three results are the reference's, at finite arguments. -/
theorem hgdo_algebraic [hPre : Pre_hgdo_finite.Facts] : algebraic_HgdoIdeal_HgdoRefIdeal_pre_hgdo_finite := by
  intro m g m' g' hpre hag
  let o (c : Dev HgdoIdeal.nD) : FVec Ideal HgdoIdeal.S4096x1024 .f32 := m ((c.tc : Thread HgdoIdeal.nD HgdoIdeal.τ).loc HgdoIdeal.main_arg0)
  let y (c : Dev HgdoIdeal.nD) : FVec Ideal HgdoIdeal.S1024 .f32 := m ((c.tc : Thread HgdoIdeal.nD HgdoIdeal.τ).loc HgdoIdeal.main_arg1)
  let w (c : Dev HgdoIdeal.nD) : FVec Ideal HgdoIdeal.S1024x1024 .f32 := m ((c.tc : Thread HgdoIdeal.nD HgdoIdeal.τ).loc HgdoIdeal.main_arg2)
  let d (c : Dev HgdoIdeal.nD) : FVec Ideal HgdoIdeal.S4096x1024 .f32 := m ((c.tc : Thread HgdoIdeal.nD HgdoIdeal.τ).loc HgdoIdeal.main_arg3)
  have real (c : Dev HgdoIdeal.nD) := hgdo_real (o c) (y c) (w c) (d c) (by
    obtain ⟨p0, p1, p2, p3⟩ := hpre c
    exact Prod.ext p0 (Prod.ext p1 (Prod.ext p2 p3)))
  refine ⟨fun c => SLID (o c) (y c) (w c) (d c), fun c => GAIN (o c) (w c) (d c), fun c => BACK (o c) (y c) (w c) (d c), ?_, ?_⟩
  · refine (θ_run _ _ _).mono (fun r h c => ?_) (HgdoIdeal.Value.run_blocks m g)
    obtain ⟨h4, h5, h6, hu⟩ := h c
    exact ⟨h4.trans (final4 m c), h5.trans (final5 m c), h6.trans (final6 m c), hu⟩
  · refine (θ_run _ _ _).mono (fun r h c => ?_) (HgdoRefIdeal.Value.run m' g')
    obtain ⟨h0, h1, h2, hu⟩ := h c
    obtain ⟨e0, e1, e2, e3⟩ := hag c
    obtain ⟨r0, r1, r2, r3⟩ := real c
    choose O hO using r0
    choose G hG using r1
    choose W hW using r2
    choose D hD using r3
    have := MladoRefIdeal.Value.sides
    have hs := slidL_apply (o c) (y c) (w c) (d c) O G W D hO hG hW hD
    have hb (a : Fin 4096) (k : Fin 1024) : backL (w c) (slidL (o c) (y c) (w c) (d c)) (ix2 a k) = back (o c) (y c) (w c) (d c) a k := by
      rw [backL_apply]
      simp only [hs]
      rfl
    refine ⟨h0.trans (funext fun i => ?_), h1.trans (funext fun i => ?_), h2.trans (funext fun i => ?_), hu⟩
    · obtain ⟨a, k, rfl⟩ : ∃ (a : Fin 4096) (k : Fin 1024), i = ix2 a k := ⟨i 0, i 1, eq_ix2 i⟩
      show slidL _ _ _ _ (ix2 a k) = _
      rw [e0, e1, e2, e3]
      exact hs a k
    · obtain ⟨k, rfl⟩ : ∃ (k : Fin 1024), i = ix2 0 k := ⟨i 1, by rw [eq_ix2 i]; congr 1; exact Subsingleton.elim _ _⟩
      show gainL (outerL _ _) _ (ix2 0 k) = _
      rw [gainL_apply, e0, e2, e3]
      simp only [outerL_apply]
      rfl
    · obtain ⟨a, k, rfl⟩ : ∃ (a : Fin 4096) (k : Fin 1024), i = ix2 a k := ⟨i 0, i 1, eq_ix2 i⟩
      show backL _ (slidL _ _ _ _) (ix2 a k) = _
      rw [e0, e1, e2, e3]
      exact hb a k

end Cert

end
-- ==== Proof.LossGrad.lean ====
module

public import proofs.«01_k».proof.Proof.Gen.LossIdeal.Value
public import proofs.«01_k».proof.Proof.Gen.LossRefIdeal.Run
public import proofs.«01_k».proof.Proof.Reals
public import proofs.«01_k».proof.Defs
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen Cert.Reals

variable (m : (ℓ : Loc nD τ sig) → Buf (Elt Ideal) ℓ)

/-- Every window's block index, by the grid point's number. -/
theorem idx : ∀ t : Fin cfg0.N, win0_0.index t = ![t.val, 0] ∧ win0_1.index t = ![t.val, 0] ∧ win0_3.index t = ![t.val, 0] :=
  (by decide +kernel : ∀ t : Fin grid0.N, _)

/-- The gradient as the reference writes it. -/
abbrev GRAD (Y T : FVec Ideal S4096x1024 .f32) : FVec Ideal S4096x1024 .f32 :=
  fun i => Ideal.div (((1 : ℝ) / 2 : ℝ) : EReal) ((1024 : ℝ) : EReal) * (((2 : ℝ) : EReal) * (Y i - T i))

/-- One row's share of the loss: the half of the mean of its squares. -/
def term (Y T : FVec Ideal S4096x1024 .f32) (r : Fin 4096) : EReal :=
  Ideal.div (∑ k : Fin 1024, (Y (ix2 r k) - T (ix2 r k)) * (Y (ix2 r k) - T (ix2 r k))) ((1024 : ℝ) : EReal)

/-- The loss of all the rows. -/
abbrev LOSS (Y T : FVec Ideal S4096x1024 .f32) : FVec Ideal S1x1 .f32 :=
  fun _ => (((1 : ℝ) / 2 : ℝ) : EReal) * ∑ r : Fin 4096, term Y T r

/-- An error over the row's length is the error times the reference's factors. -/
theorem div_row (e : EReal) : Ideal.div e ((1024 : ℝ) : EReal)
    = Ideal.div (((1 : ℝ) / 2 : ℝ) : EReal) ((1024 : ℝ) : EReal) * (((2 : ℝ) : EReal) * e) := by
  rw [Ideal.div_coe (by norm_num), Ideal.div_coe (by norm_num), ← mul_assoc, ← EReal.coe_mul, ← EReal.coe_mul, mul_comm]
  norm_num

/-- The gradient's array after the run. -/
theorem final3 (c : Dev nD) : (dats m 0 c).arrAt 3 cfg0.N
    = GRAD (m ((c : Thread nD τ).loc main_arg0)) (m ((c : Thread nD τ).loc main_arg1)) := by
  refine (dats m 0 c).arrAt_eq_of_covers 3 _ (by decide +kernel) fun t _ y => ?_
  have h : (outsAt0 m c t.val t.isLt).2 = k0_pay2 (iblk m c 0 t) (iblk m c 1 t) := by
    by_cases h0 : t.val % 8 = 0
    · rw [outsAt0_A m c t h0]; frame_out
    · rw [outsAt0_B m c t h0]; frame_out
  blk_simp
  rw [after0_3, h]
  unfold k0_pay2 k0_pay1
  pointwise [GRAD, row_f32]
  rw [div_row]
  blk_point [iblk, V, idx t]

/-- The sum of one block's row terms. -/
theorem point2 (c : Dev nD) (t : Fin cfg0.N) (x : FVec Ideal S1x1 .f32) (j : S1x1.Idx) :
    k0_pay4 (iblk m c 0 t) (iblk m c 1 t) x j
      = x j + (((1 : ℝ) / 2 : ℝ) : EReal) * ∑ k : Fin 512, term (m ((c : Thread nD τ).loc main_arg0)) (m ((c : Thread nD τ).loc main_arg1)) ⟨t.val * 512 + k.val, by have := t.isLt; have : cfg0.N = 8 := N_0; omega⟩ := by
  unfold k0_pay4 k0_pay1
  pointwise [row_f32, half_f32, term]
  blk_point [iblk, V, idx t]

/-- The loss's array after the run. -/
theorem final2 (c : Dev nD) : (dats m 0 c).arrAt 2 cfg0.N
    = LOSS (m ((c : Thread nD τ).loc main_arg0)) (m ((c : Thread nD τ).loc main_arg1)) := by
  refine (dats m 0 c).arrAt_eq_of_after_last 2 t0_7 (by decide +kernel) _ fun j => ?_
  blk_simp
  rw [after0_2]
  rw [Pipeline.eq_sum_fin_of_reset_step_apply_last (fun n h => (outsAt0 m c n h).1) 8 (fun _ => (0 : EReal)) _
    (fun t h0 j => by rw [outsAt0_A m c t h0]; frame_out; rw [point2]; pointwise [k0_pay3]; rfl)
    (fun t h0 j => by rw [outsAt0_B m c t h0]; frame_out; rw [point2]) (by decide) t0_7 rfl j]
  rw [zero_add, ← half_sum]
  refine congrArg ((((1 : ℝ) / 2 : ℝ) : EReal) * ·) ?_
  exact Fin.sum_mul_add_fin 8 512 (fun r : Fin 4096 => term (m ((c : Thread nD τ).loc main_arg0)) (m ((c : Thread nD τ).loc main_arg1)) r)

end Cert.LossIdeal.Value

namespace Cert

open Cert.LossIdeal.Value Cert.Reals in
/-- The kernel's loss and gradient are the reference's. -/
theorem loss_algebraic : algebraic_LossIdeal_LossRefIdeal := by
  intro m g m' g' _ hag
  refine ⟨fun c => LOSS (m ((c.tc : Thread LossIdeal.nD LossIdeal.τ).loc LossIdeal.main_arg0)) (m ((c.tc : Thread LossIdeal.nD LossIdeal.τ).loc LossIdeal.main_arg1)),
    fun c => GRAD (m ((c.tc : Thread LossIdeal.nD LossIdeal.τ).loc LossIdeal.main_arg0)) (m ((c.tc : Thread LossIdeal.nD LossIdeal.τ).loc LossIdeal.main_arg1)), ?_, ?_⟩
  · refine (θ_run _ _ _).mono (fun r h c => ?_) (run_blocks m g)
    obtain ⟨h2, h3, ha, hb⟩ := h c
    exact ⟨h2.trans (final2 m c), h3.trans (final3 m c), ha, hb⟩
  · refine (θ_run _ _ _).mono (fun r h c => ?_) (LossRefIdeal.Value.run m' g')
    obtain ⟨h2, h3, ha, hb⟩ := h c
    refine ⟨h2.trans ?_, h3.trans ?_, ha, hb⟩
    · rw [(hag c).1, (hag c).2]
      funext j
      pointwise [LOSS, term, half_f32, row_f32]
    · rw [(hag c).1, (hag c).2]
      funext j
      pointwise [GRAD, half_f32, row_f32, two_f32]

end Cert

end
-- ==== Proof.MidStores.lean ====
module

public import proofs.«01_k».proof.Proof.Gen.MidIdeal.Value
public import proofs.«01_k».proof.Proof.NormMath
public import Idealize.ShloMosaic.Lib.Pipeline.ValueKit
public import Idealize.ShloMosaic.Lib.Pointwise
public import Idealize.ShloMosaic.Lib.IdealHost
public import Idealize.ShloMosaic.Lib.StableHlo.RunRead
public import Idealize.ShloMosaic.Lib.Claim
public import Idealize.ShloMosaic.Lib.WordCmp

/-! What the kernel's body between the attention and its projections stores into the heads' two gradients. -/

@[expose] public section

set_option maxRecDepth 16384

noncomputable section

open Idealize.ShloMosaic Idealize.ShloMosaic.TcCoe Idealize.SL.Sem
open Idealize.ShloMosaic.Pipeline (Dat)

namespace Cert.MidIdeal.Value

open Cert.MidIdeal Cert.MidIdeal.Gen Cert.Reals Cert.NormMath

/-- A head's row with the rotation taken back: the columns up to 128 stay, the two halves of the others turn. -/
def turned (x : Fin 192 → EReal) (c s : Fin 32 → EReal) (e : Fin 192) : EReal :=
  if h₁ : e.val < 128 then x e
  else if h₂ : e.val < 160 then
    x e * c ⟨e.val - 128, by omega⟩ + x ⟨e.val + 32, by omega⟩ * s ⟨e.val - 128, by omega⟩
  else x e * c ⟨e.val - 160, by omega⟩ - x ⟨e.val - 32, by omega⟩ * s ⟨e.val - 160, by omega⟩

def cols (x : Fin 128 → EReal) (y : Fin 128 → EReal) (e : Fin 256) : EReal :=
  if h : e.val < 128 then x ⟨e.val, h⟩ else y ⟨e.val - 128, by omega⟩

def headQ (j : Fin 1536) : Fin 8 := ⟨j.val / 192, by omega⟩
def headV (j : Fin 2048) : Fin 8 := ⟨j.val / 256, by omega⟩
def placeQ (j : Fin 1536) : Fin 192 := ⟨j.val % 192, Nat.mod_lt _ (by norm_num)⟩
def placeV (j : Fin 2048) : Fin 256 := ⟨j.val % 256, Nat.mod_lt _ (by norm_num)⟩

section Heads
variable (x0 x1 : FVec Ideal S8x256x192 .bf16) (x2 : FVec Ideal S8x256x128 .bf16) (c s : FVec Ideal S256x32 .f32)

def DQE : FVec Ideal S256x1536 .bf16 := fun i =>
  turned (fun e => x0 (ix3 (headQ (i 1)) (i 0) e))
    (fun e => c (ix2 (i 0) e)) (fun e => s (ix2 (i 0) e)) (placeQ (i 1))

def DKVE : FVec Ideal S256x2048 .bf16 := fun i =>
  cols (fun e => x1 (ix3 (headV (i 1)) (i 0) ⟨e.val, by omega⟩))
    (fun e => x2 (ix3 (headV (i 1)) (i 0) e))
    (placeV (i 1))

abbrev rowQ (h : ℕ) (hh : h < 8) : Rect S8x256x192 :=
  Rect.unit (s := S8x256x192) ![h, 0, 0] S1x256x192.size (by intro a; match a with | 0 => show h + 1 ≤ 8; omega | 1 => exact le_refl 256 | 2 => exact le_refl 192)
abbrev rowV (h : ℕ) (hh : h < 8) : Rect S8x256x128 :=
  Rect.unit (s := S8x256x128) ![h, 0, 0] S1x256x128.size (by intro a; match a with | 0 => show h + 1 ≤ 8; omega | 1 => exact le_refl 256 | 2 => exact le_refl 128)

theorem tileQfar_inb (h : ℕ) (hh : h < 8) (a : Fin S256x1536.rank) : (![0, 192 * h + 160] : Fin 2 → ℕ) a + S256x32.size a ≤ S256x1536.size a := by
  match a with | 0 => exact le_refl 256 | 1 => show 192 * h + 160 + 32 ≤ 1536; omega
abbrev tileQfar (h : ℕ) (hh : h < 8) : Rect S256x1536 := Rect.unit (s := S256x1536) ![0, 192 * h + 160] S256x32.size (tileQfar_inb h hh)

theorem tileQnear_inb (h : ℕ) (hh : h < 8) (a : Fin S256x1536.rank) : (![0, 192 * h + 128] : Fin 2 → ℕ) a + S256x32.size a ≤ S256x1536.size a := by
  match a with | 0 => exact le_refl 256 | 1 => show 192 * h + 128 + 32 ≤ 1536; omega
abbrev tileQnear (h : ℕ) (hh : h < 8) : Rect S256x1536 := Rect.unit (s := S256x1536) ![0, 192 * h + 128] S256x32.size (tileQnear_inb h hh)

theorem tileQlow_inb (h : ℕ) (hh : h < 8) (a : Fin S256x1536.rank) : (![0, 192 * h] : Fin 2 → ℕ) a + S256x128.size a ≤ S256x1536.size a := by
  match a with | 0 => exact le_refl 256 | 1 => show 192 * h + 128 ≤ 1536; omega
abbrev tileQlow (h : ℕ) (hh : h < 8) : Rect S256x1536 := Rect.unit (s := S256x1536) ![0, 192 * h] S256x128.size (tileQlow_inb h hh)

theorem tileVhigh_inb (h : ℕ) (hh : h < 8) (a : Fin S256x2048.rank) : (![0, 256 * h + 128] : Fin 2 → ℕ) a + S256x128.size a ≤ S256x2048.size a := by
  match a with | 0 => exact le_refl 256 | 1 => show 256 * h + 128 + 128 ≤ 2048; omega
abbrev tileVhigh (h : ℕ) (hh : h < 8) : Rect S256x2048 := Rect.unit (s := S256x2048) ![0, 256 * h + 128] S256x128.size (tileVhigh_inb h hh)

theorem tileVlow_inb (h : ℕ) (hh : h < 8) (a : Fin S256x2048.rank) : (![0, 256 * h] : Fin 2 → ℕ) a + S256x128.size a ≤ S256x2048.size a := by
  match a with | 0 => exact le_refl 256 | 1 => show 256 * h + 128 ≤ 2048; omega
abbrev tileVlow (h : ℕ) (hh : h < 8) : Rect S256x2048 := Rect.unit (s := S256x2048) ![0, 256 * h] S256x128.size (tileVlow_inb h hh)

/-- One head's rows, as the body loads them. -/
def atQ (x : FVec Ideal S8x256x192 .bf16) (h : ℕ) (hh : h < 8) : FVec Ideal S1x256x192 .bf16 :=
  View.ld (Val := Elt Ideal) (e' := .bf16) (S := S8x256x192) x (rowQ h hh)
def atV (x : FVec Ideal S8x256x128 .bf16) (h : ℕ) (hh : h < 8) : FVec Ideal S1x256x128 .bf16 :=
  View.ld (Val := Elt Ideal) (e' := .bf16) (S := S8x256x128) x (rowV h hh)

theorem atQ_apply (x : FVec Ideal S8x256x192 .bf16) (h : ℕ) (hh : h < 8) (a : Fin 256) (e : Fin 192) :
    atQ x h hh (ix3 (0 : Fin 1) a e) = x (ix3 (⟨h, hh⟩ : Fin 8) a e) := by
  refine congrArg x (funext fun k => Fin.ext ?_)
  match k with
  | 0 => rfl
  | 1 => exact (Nat.zero_add _).trans (Nat.one_mul _)
  | 2 => exact (Nat.zero_add _).trans (Nat.one_mul _)

theorem atV_apply (x : FVec Ideal S8x256x128 .bf16) (h : ℕ) (hh : h < 8) (a : Fin 256) (e : Fin 128) :
    atV x h hh (ix3 (0 : Fin 1) a e) = x (ix3 (⟨h, hh⟩ : Fin 8) a e) := by
  refine congrArg x (funext fun k => Fin.ext ?_)
  match k with
  | 0 => rfl
  | 1 => exact (Nat.zero_add _).trans (Nat.one_mul _)
  | 2 => exact (Nat.zero_add _).trans (Nat.one_mul _)

theorem pay8_apply (v : FVec Ideal S1x256x192 .bf16) (a : Fin 256) (e : Fin 128) :
    (k0_pay8 (F := Ideal) v : _ → EReal) (ix2 a e) = v (ix3 0 a ⟨e.val, by omega⟩) := by
  unfold k0_pay8 k0_pay6
  pointwise

theorem pay11_apply (v : FVec Ideal S1x256x192 .bf16) (a : Fin 256) (e : Fin 32) :
    (k0_pay11 (F := Ideal) c s v : _ → EReal) (ix2 a e)
      = v (ix3 0 a ⟨128 + e.val, by omega⟩) * c (ix2 a e) + v (ix3 0 a ⟨160 + e.val, by omega⟩) * s (ix2 a e) := by
  unfold k0_pay11 k0_pay9 k0_pay10 k0_pay6 k0_pay2 k0_pay3
  pointwise

theorem pay12_apply (v : FVec Ideal S1x256x192 .bf16) (a : Fin 256) (e : Fin 32) :
    (k0_pay12 (F := Ideal) c s v : _ → EReal) (ix2 a e)
      = v (ix3 0 a ⟨160 + e.val, by omega⟩) * c (ix2 a e) - v (ix3 0 a ⟨128 + e.val, by omega⟩) * s (ix2 a e) := by
  unfold k0_pay12 k0_pay9 k0_pay10 k0_pay6 k0_pay2 k0_pay3
  pointwise

theorem pay13_apply (v : FVec Ideal S1x256x192 .bf16) (a : Fin 256) (e : Fin 128) :
    (k0_pay13 (F := Ideal) v : _ → EReal) (ix2 a e) = v (ix3 0 a ⟨e.val, by omega⟩) := by
  unfold k0_pay13 k0_pay7
  pointwise

theorem pay14_apply (v : FVec Ideal S1x256x128 .bf16) (a : Fin 256) (e : Fin 128) :
    (k0_pay14 (F := Ideal) v : _ → EReal) (ix2 a e) = v (ix3 0 a e) := by
  unfold k0_pay14
  pointwise

/-- A head's three stores. -/
def storesQ (h : ℕ) (hh : h < 8) : List (View.Piece (Elt Ideal) S256x1536 .bf16) :=
  [⟨tileQfar h hh,
      k0_pay12 (F := Ideal) c s (atQ x0 h hh)⟩,
    ⟨tileQnear h hh,
      k0_pay11 (F := Ideal) c s (atQ x0 h hh)⟩,
    ⟨tileQlow h hh,
      k0_pay8 (F := Ideal) (atQ x0 h hh)⟩]

def allQ : List (View.Piece (Elt Ideal) S256x1536 .bf16) :=
  storesQ x0 c s 7 (by omega) ++ (storesQ x0 c s 6 (by omega) ++ (storesQ x0 c s 5 (by omega) ++ (storesQ x0 c s 4 (by omega)
    ++ (storesQ x0 c s 3 (by omega) ++ (storesQ x0 c s 2 (by omega) ++ (storesQ x0 c s 1 (by omega) ++ storesQ x0 c s 0 (by omega)))))))

theorem mem_allQ (p : View.Piece (Elt Ideal) S256x1536 .bf16) :
    p ∈ allQ x0 c s ↔ ∃ (h : ℕ) (hh : h < 8), p ∈ storesQ x0 c s h hh := by
  unfold allQ
  simp only [List.mem_append]
  constructor
  · rintro (h | h | h | h | h | h | h | h) <;> exact ⟨_, _, h⟩
  · rintro ⟨h, hh, hp⟩
    interval_cases h <;> simp only [hp, true_or, or_true]

theorem DQE_at (i : S256x1536.Idx) (a : Fin 256) (h : ℕ) (hh : h < 8) (e : Fin 192) (h0 : (i 0).val = a.val)
    (h1 : (i 1).val = 192 * h + e.val) :
    DQE x0 c s i = turned (fun e => x0 (ix3 (⟨h, hh⟩ : Fin 8) a e)) (fun e => c (ix2 a e)) (fun e => s (ix2 a e)) e := by
  have e0 : i 0 = a := Fin.ext h0
  have e1 : headQ (i 1) = ⟨h, hh⟩ := Fin.ext (by show (i 1).val / 192 = h; omega)
  have e2 : placeQ (i 1) = e := Fin.ext (by show (i 1).val % 192 = e.val; omega)
  unfold DQE
  rw [e0, e1, e2]

theorem turned_low (x : Fin 192 → EReal) (c s : Fin 32 → EReal) (e : Fin 128) :
    turned x c s ⟨e.val, by omega⟩ = x ⟨e.val, by omega⟩ := by
  unfold turned
  exact dif_pos e.isLt

theorem turned_near (x : Fin 192 → EReal) (c s : Fin 32 → EReal) (e : Fin 32) :
    turned x c s ⟨128 + e.val, by omega⟩ = x ⟨128 + e.val, by omega⟩ * c e + x ⟨160 + e.val, by omega⟩ * s e := by
  unfold turned
  rw [dif_neg (show ¬ 128 + e.val < 128 by omega), dif_pos (show 128 + e.val < 160 by omega)]
  refine congrArg₂ _ (congrArg₂ _ rfl (congrArg c (Fin.ext ?_))) (congrArg₂ _ (congrArg x (Fin.ext ?_)) (congrArg s (Fin.ext ?_)))
  · exact Nat.add_sub_cancel_left _ _
  · show 128 + e.val + 32 = 160 + e.val
    omega
  · exact Nat.add_sub_cancel_left _ _

theorem turned_far (x : Fin 192 → EReal) (c s : Fin 32 → EReal) (e : Fin 32) :
    turned x c s ⟨160 + e.val, by omega⟩ = x ⟨160 + e.val, by omega⟩ * c e - x ⟨128 + e.val, by omega⟩ * s e := by
  unfold turned
  rw [dif_neg (show ¬ 160 + e.val < 128 by omega), dif_neg (show ¬ 160 + e.val < 160 by omega)]
  refine congrArg₂ _ (congrArg₂ _ rfl (congrArg c (Fin.ext ?_))) (congrArg₂ _ (congrArg x (Fin.ext ?_)) (congrArg s (Fin.ext ?_)))
  · exact Nat.add_sub_cancel_left _ _
  · show 160 + e.val - 32 = 128 + e.val
    omega
  · exact Nat.add_sub_cancel_left _ _

theorem storesQ_spec (h : ℕ) (hh : h < 8) : ∀ p ∈ storesQ x0 c s h hh, ∀ x : p.1.shape.Idx, p.2 x = DQE x0 c s (p.1.emb x) := by
  unfold storesQ
  simp only [List.forall_mem_cons]
  refine ⟨fun x => ?_, fun x => ?_, fun x => ?_, fun p hp => absurd hp (List.not_mem_nil)⟩
  · let a : Fin 256 := x 0
    let e : Fin 32 := x 1
    have hx : x = ix2 a e := (eq_ix2 _)
    refine Eq.trans ?_ (DQE_at x0 c s _ a h hh ⟨160 + e.val, by omega⟩ ?_ ?_).symm
    · rw [turned_far, hx]
      refine (pay12_apply c s (atQ x0 h hh) a e).trans ?_
      rw [atQ_apply, atQ_apply]
    · exact (Nat.zero_add _).trans (Nat.one_mul _)
    · show 192 * h + 160 + 1 * e.val = 192 * h + (160 + e.val)
      omega
  · let a : Fin 256 := x 0
    let e : Fin 32 := x 1
    have hx : x = ix2 a e := (eq_ix2 _)
    refine Eq.trans ?_ (DQE_at x0 c s _ a h hh ⟨128 + e.val, by omega⟩ ?_ ?_).symm
    · rw [turned_near, hx]
      refine (pay11_apply c s (atQ x0 h hh) a e).trans ?_
      rw [atQ_apply, atQ_apply]
    · exact (Nat.zero_add _).trans (Nat.one_mul _)
    · show 192 * h + 128 + 1 * e.val = 192 * h + (128 + e.val)
      omega
  · let a : Fin 256 := x 0
    let e : Fin 128 := x 1
    have hx : x = ix2 a e := (eq_ix2 _)
    refine Eq.trans ?_ (DQE_at x0 c s _ a h hh ⟨e.val, by omega⟩ ?_ ?_).symm
    · rw [turned_low, hx]
      refine (pay8_apply (atQ x0 h hh) a e).trans ?_
      rw [atQ_apply]
    · exact (Nat.zero_add _).trans (Nat.one_mul _)
    · show 192 * h + 1 * e.val = 192 * h + e.val
      omega

theorem coverQ (y : S256x1536.Idx) : ∃ p ∈ allQ x0 c s, y ∈ p.1.set := by
  have hj : (y 1).val < 1536 := (show Fin 1536 from y 1).isLt
  have hr : (y 0).val < 256 := (show Fin 256 from y 0).isLt
  have hh : (y 1).val / 192 < 8 := by omega
  rcases lt_or_ge ((y 1).val % 192) 128 with h1 | h1
  · refine ⟨_, (mem_allQ x0 c s _).mpr ⟨_, hh, List.mem_cons_of_mem _ (List.mem_cons_of_mem _ List.mem_cons_self)⟩, ?_⟩
    refine (Rect.mem_set_unit (inb := (tileQlow_inb _ hh))).mpr fun a => ?_
    match a with
    | 0 => exact ⟨Nat.zero_le _, by show (y 0).val < 0 + 256; omega⟩
    | 1 => exact ⟨by show 192 * ((y 1).val / 192) ≤ (y 1).val; omega, by show (y 1).val < 192 * ((y 1).val / 192) + 128; omega⟩
  rcases lt_or_ge ((y 1).val % 192) 160 with h2 | h2
  · refine ⟨_, (mem_allQ x0 c s _).mpr ⟨_, hh, List.mem_cons_of_mem _ List.mem_cons_self⟩, ?_⟩
    refine (Rect.mem_set_unit (inb := (tileQnear_inb _ hh))).mpr fun a => ?_
    match a with
    | 0 => exact ⟨Nat.zero_le _, by show (y 0).val < 0 + 256; omega⟩
    | 1 => exact ⟨by show 192 * ((y 1).val / 192) + 128 ≤ (y 1).val; omega, by show (y 1).val < 192 * ((y 1).val / 192) + 128 + 32; omega⟩
  · refine ⟨_, (mem_allQ x0 c s _).mpr ⟨_, hh, List.mem_cons_self⟩, ?_⟩
    refine (Rect.mem_set_unit (inb := (tileQfar_inb _ hh))).mpr fun a => ?_
    match a with
    | 0 => exact ⟨Nat.zero_le _, by show (y 0).val < 0 + 256; omega⟩
    | 1 => exact ⟨by show 192 * ((y 1).val / 192) + 160 ≤ (y 1).val; omega, by show (y 1).val < 192 * ((y 1).val / 192) + 160 + 32; omega⟩

/-- The stores of all heads together leave the rotated gradient. -/
theorem canonQ : View.canon (allQ x0 c s) = DQE x0 c s := funext fun y =>
  View.canon_apply_of_pieces (DQE x0 c s) _ (fun p hp => by
    obtain ⟨h, hh, hp⟩ := (mem_allQ x0 c s p).mp hp
    exact storesQ_spec x0 c s h hh p hp) y (coverQ x0 c s y)

/-- A head's two stores of keys and values. -/
def storesV (h : ℕ) (hh : h < 8) : List (View.Piece (Elt Ideal) S256x2048 .bf16) :=
  [⟨tileVhigh h hh,
      k0_pay14 (F := Ideal) (atV x2 h hh)⟩,
    ⟨tileVlow h hh,
      k0_pay13 (F := Ideal) (atQ x1 h hh)⟩]

def allV : List (View.Piece (Elt Ideal) S256x2048 .bf16) :=
  storesV x1 x2 7 (by omega) ++ (storesV x1 x2 6 (by omega) ++ (storesV x1 x2 5 (by omega) ++ (storesV x1 x2 4 (by omega)
    ++ (storesV x1 x2 3 (by omega) ++ (storesV x1 x2 2 (by omega) ++ (storesV x1 x2 1 (by omega) ++ storesV x1 x2 0 (by omega)))))))

theorem mem_allV (p : View.Piece (Elt Ideal) S256x2048 .bf16) :
    p ∈ allV x1 x2 ↔ ∃ (h : ℕ) (hh : h < 8), p ∈ storesV x1 x2 h hh := by
  unfold allV
  simp only [List.mem_append]
  constructor
  · rintro (h | h | h | h | h | h | h | h) <;> exact ⟨_, _, h⟩
  · rintro ⟨h, hh, hp⟩
    interval_cases h <;> simp only [hp, true_or, or_true]

theorem DKVE_at (i : S256x2048.Idx) (a : Fin 256) (h : ℕ) (hh : h < 8) (e : Fin 256) (h0 : (i 0).val = a.val)
    (h1 : (i 1).val = 256 * h + e.val) :
    DKVE x1 x2 i = cols (fun e => x1 (ix3 (⟨h, hh⟩ : Fin 8) a ⟨e.val, by omega⟩)) (fun e => x2 (ix3 (⟨h, hh⟩ : Fin 8) a e)) e := by
  have e0 : i 0 = a := Fin.ext h0
  have e1 : headV (i 1) = ⟨h, hh⟩ := Fin.ext (by show (i 1).val / 256 = h; omega)
  have e2 : placeV (i 1) = e := Fin.ext (by show (i 1).val % 256 = e.val; omega)
  unfold DKVE
  rw [e0, e1, e2]

theorem cols_low (x y : Fin 128 → EReal) (e : Fin 128) : cols x y ⟨e.val, by omega⟩ = x e := by
  unfold cols
  exact dif_pos e.isLt

theorem cols_high (x y : Fin 128 → EReal) (e : Fin 128) : cols x y ⟨128 + e.val, by omega⟩ = y e := by
  unfold cols
  rw [dif_neg (show ¬ 128 + e.val < 128 by omega)]
  exact congrArg y (Fin.ext (by show 128 + e.val - 128 = e.val; omega))

theorem pay13_head (h : ℕ) (hh : h < 8) (a : Fin 256) (e : Fin 128) :
    (k0_pay13 (F := Ideal) (atQ x1 h hh) : _ → EReal) (ix2 a e) = x1 (ix3 (⟨h, hh⟩ : Fin 8) a ⟨e.val, by omega⟩) :=
  (pay13_apply (atQ x1 h hh) a e).trans (atQ_apply x1 h hh a _)

theorem storesV_spec (h : ℕ) (hh : h < 8) : ∀ p ∈ storesV x1 x2 h hh, ∀ x : p.1.shape.Idx, p.2 x = DKVE x1 x2 (p.1.emb x) := by
  unfold storesV
  simp only [List.forall_mem_cons]
  refine ⟨fun x => ?_, fun x => ?_, fun p hp => absurd hp (List.not_mem_nil)⟩
  · let a : Fin 256 := x 0
    let e : Fin 128 := x 1
    have hx : x = ix2 a e := (eq_ix2 _)
    refine Eq.trans ?_ (DKVE_at x1 x2 _ a h hh ⟨128 + e.val, by omega⟩ ?_ ?_).symm
    · rw [cols_high, hx]
      exact (pay14_apply (atV x2 h hh) a e).trans (atV_apply x2 h hh a e)
    · exact (Nat.zero_add _).trans (Nat.one_mul _)
    · show 256 * h + 128 + 1 * e.val = 256 * h + (128 + e.val)
      omega
  · let a : Fin 256 := x 0
    let e : Fin 128 := x 1
    have hx : x = ix2 a e := (eq_ix2 _)
    refine Eq.trans ?_ (DKVE_at x1 x2 _ a h hh ⟨e.val, by omega⟩ ?_ ?_).symm
    · rw [cols_low]
      refine (congrArg (k0_pay13 (F := Ideal) (atQ x1 h hh) : _ → EReal) hx).trans ?_
      exact pay13_head x1 h hh a e
    · exact (Nat.zero_add _).trans (Nat.one_mul _)
    · show 256 * h + 1 * e.val = 256 * h + e.val
      omega

theorem coverV (y : S256x2048.Idx) : ∃ p ∈ allV x1 x2, y ∈ p.1.set := by
  have hj : (y 1).val < 2048 := (show Fin 2048 from y 1).isLt
  have hr : (y 0).val < 256 := (show Fin 256 from y 0).isLt
  have hh : (y 1).val / 256 < 8 := by omega
  rcases lt_or_ge ((y 1).val % 256) 128 with h1 | h1
  · refine ⟨_, (mem_allV x1 x2 _).mpr ⟨_, hh, List.mem_cons_of_mem _ List.mem_cons_self⟩, ?_⟩
    refine (Rect.mem_set_unit (inb := (tileVlow_inb _ hh))).mpr fun a => ?_
    match a with
    | 0 => exact ⟨Nat.zero_le _, by show (y 0).val < 0 + 256; omega⟩
    | 1 => exact ⟨by show 256 * ((y 1).val / 256) ≤ (y 1).val; omega, by show (y 1).val < 256 * ((y 1).val / 256) + 128; omega⟩
  · refine ⟨_, (mem_allV x1 x2 _).mpr ⟨_, hh, List.mem_cons_self⟩, ?_⟩
    refine (Rect.mem_set_unit (inb := (tileVhigh_inb _ hh))).mpr fun a => ?_
    match a with
    | 0 => exact ⟨Nat.zero_le _, by show (y 0).val < 0 + 256; omega⟩
    | 1 => exact ⟨by show 256 * ((y 1).val / 256) + 128 ≤ (y 1).val; omega, by show (y 1).val < 256 * ((y 1).val / 256) + 128 + 128; omega⟩

theorem canonV : View.canon (allV x1 x2) = DKVE x1 x2 := funext fun y =>
  View.canon_apply_of_pieces (DKVE x1 x2) _ (fun p hp => by
    obtain ⟨h, hh, hp⟩ := (mem_allV x1 x2 p).mp hp
    exact storesV_spec x1 x2 h hh p hp) y (coverV x1 x2 y)

theorem first_B (m : (ℓ : Loc nD τ sig) → Buf (Elt Ideal) ℓ) (d : Dev nD) (t : Fin cfg0.N) (h : t.val % 16 ≠ 0) :
    (outsAt0 m d t.val t.isLt).1 = View.canon (allQ (iblk m d 0 t) (iblk m d 3 t) (iblk m d 4 t)) := by
  rw [outsAt0_B m d t h]; frame_out
  rfl

theorem first_run (m : (ℓ : Loc nD τ sig) → Buf (Elt Ideal) ℓ) (d : Dev nD) (t : Fin cfg0.N) (h : t.val % 16 = 0) :
    (outsAt0 m d t.val t.isLt).1 = View.canon (allQ (iblk m d 0 t) (iblk m d 3 t) (iblk m d 4 t)) := by
  rw [outsAt0_A m d t h]; frame_out
  rfl

theorem second_run (m : (ℓ : Loc nD τ sig) → Buf (Elt Ideal) ℓ) (d : Dev nD) (t : Fin cfg0.N) :
    (outsAt0 m d t.val t.isLt).2.1 = View.canon (allV (iblk m d 1 t) (iblk m d 2 t)) := by
  by_cases h : t.val % 16 = 0
  · rw [outsAt0_A m d t h]; frame_out
    rfl
  · rw [outsAt0_B m d t h]; frame_out
    rfl

end Heads
end Cert.MidIdeal.Value
-- ==== Proof.MidBlocks.lean ====
module

public import proofs.«01_k».proof.Proof.MidStores

/-! What the body stores into the projection's gradient, and what it adds to the two gains' gradients. -/

@[expose] public section

set_option maxRecDepth 16384

noncomputable section

open Idealize.ShloMosaic Idealize.ShloMosaic.TcCoe Idealize.SL.Sem
open Idealize.ShloMosaic.Pipeline (Dat)

namespace Cert.MidIdeal.Value

open Cert.MidIdeal Cert.MidIdeal.Gen Cert.Reals Cert.NormMath

abbrev allOfQ : Rect S256x1536 := Rect.unit (s := S256x1536) ![0, 0] ![256, 1536] inb_S256x1536_S256x1536_0_0
abbrev allOfV : Rect S256x2048 := Rect.unit (s := S256x2048) ![0, 0] ![256, 2048] inb_S256x2048_S256x2048_0_0

theorem back_Q {κ : Kind} {sp : Space} (v : View sig κ sp S256x1536 .bf16) (x0 : FVec Ideal S8x256x192 .bf16) (c s : FVec Ideal S256x32 .f32) :
    v.readCov (allQ x0 c s) allOfQ.toLoadRect = DQE x0 c s := by
  refine (View.readCov_eq_canon_ld v (allQ x0 c s) allOfQ (coverQ x0 c s)).trans ?_
  rw [canonQ]
  exact View.ld_unit_zero (by funext a; match a with | 0 => rfl | 1 => rfl) _ _

theorem back_V {κ : Kind} {sp : Space} (v : View sig κ sp S256x2048 .bf16) (x1 : FVec Ideal S8x256x192 .bf16) (x2 : FVec Ideal S8x256x128 .bf16) :
    v.readCov (allV x1 x2) allOfV.toLoadRect = DKVE x1 x2 := by
  refine (View.readCov_eq_canon_ld v (allV x1 x2) allOfV (coverV x1 x2)).trans ?_
  rw [canonV]
  exact View.ld_unit_zero (by funext a; match a with | 0 => rfl | 1 => rfl) _ _

section Rows
variable (x1 : FVec Ideal S8x256x192 .bf16) (c s : FVec Ideal S256x32 .f32) (p : FVec Ideal S256x832 .f32)
  (gq : FVec Ideal S1x512 .f32) (gk : FVec Ideal S1x256 .f32) (wq : FVec Ideal S512x1536 .bf16) (wk : FVec Ideal S256x2048 .bf16)
  (Q : FVec Ideal S256x1536 .bf16) (V : FVec Ideal S256x2048 .bf16)

/-- The heads before the last one, added up: the near and the far half of their rotated columns. -/
def near7 : FVec Ideal S256x32 .f32 :=
  k0_pay92 (k0_pay92 (k0_pay92 (k0_pay92 (k0_pay92 (k0_pay92 (k0_pay92 (k0_pay4 (F := Ideal)) (atQ x1 0 (by omega))) (atQ x1 1 (by omega)))
    (atQ x1 2 (by omega))) (atQ x1 3 (by omega))) (atQ x1 4 (by omega))) (atQ x1 5 (by omega))) (atQ x1 6 (by omega))
def far7 : FVec Ideal S256x32 .f32 :=
  k0_pay93 (k0_pay93 (k0_pay93 (k0_pay93 (k0_pay93 (k0_pay93 (k0_pay93 (k0_pay5 (F := Ideal)) (atQ x1 0 (by omega))) (atQ x1 1 (by omega)))
    (atQ x1 2 (by omega))) (atQ x1 3 (by omega))) (atQ x1 4 (by omega))) (atQ x1 5 (by omega))) (atQ x1 6 (by omega))

abbrev tileFar : Rect S256x832 := Rect.unit (s := S256x832) ![0, 800] S256x32.size inb_S256x832_S256x32_0_800
abbrev tileNear : Rect S256x832 := Rect.unit (s := S256x832) ![0, 768] S256x32.size inb_S256x832_S256x32_0_768
abbrev tileKV : Rect S256x832 := Rect.unit (s := S256x832) ![0, 512] S256x256.size inb_S256x832_S256x256_0_512
abbrev tileQQ : Rect S256x832 := Rect.unit (s := S256x832) ![0, 0] S256x512.size inb_S256x832_S256x512_0_0

def projL : List (View.Piece (Elt Ideal) S256x832 .bf16) :=
  [⟨tileFar, k0_pay113 (F := Ideal) (k0_pay95 (k0_pay2 c) (k0_pay3 s) (near7 x1) (far7 x1) (atQ x1 7 (by omega)))⟩,
    ⟨tileNear, k0_pay112 (F := Ideal) (k0_pay94 (k0_pay2 c) (k0_pay3 s) (near7 x1) (far7 x1) (atQ x1 7 (by omega)))⟩,
    ⟨tileKV, k0_pay111 (F := Ideal) (k0_pay98 V wk) (k0_pay104 p) (k0_pay105 gk) (k0_pay106 p)⟩,
    ⟨tileQQ, k0_pay110 (F := Ideal) (k0_pay102 (k0_pay96 Q) wq p gq)⟩]

end Rows

variable (m : (ℓ : Loc nD τ sig) → Buf (Elt Ideal) ℓ) (d : Dev nD) (t : Fin cfg0.N)

theorem third : (outsAt0 m d t.val t.isLt).2.2.1 = View.canon (projL (iblk m d 1 t) (iblk m d 3 t) (iblk m d 4 t) (iblk m d 5 t) (iblk m d 6 t) (iblk m d 7 t)
    (iblk m d 8 t) (iblk m d 9 t) (DQE (iblk m d 0 t) (iblk m d 3 t) (iblk m d 4 t)) (DKVE (iblk m d 1 t) (iblk m d 2 t))) := by
  rw [← back_Q (ms0_10 t).view, ← back_V (ms0_11 t).view]
  by_cases h : t.val % 16 = 0
  · rw [outsAt0_A m d t h]; frame_out
    rfl
  · rw [outsAt0_B m d t h]; frame_out
    rfl

theorem fourth_A (h : t.val % 16 = 0) : (outsAt0 m d t.val t.isLt).2.2.2.1
    = k0_pay116 (k0_pay103 (k0_pay96 (F := Ideal) (DQE (iblk m d 0 t) (iblk m d 3 t) (iblk m d 4 t))) (iblk m d 8 t) (iblk m d 5 t)) (k0_pay114 (F := Ideal)) := by
  rw [← back_Q (ms0_10 t).view, outsAt0_A m d t h]; frame_out
  rfl
theorem fourth_B (h : ¬ t.val % 16 = 0) : (outsAt0 m d t.val t.isLt).2.2.2.1
    = k0_pay116 (k0_pay103 (k0_pay96 (F := Ideal) (DQE (iblk m d 0 t) (iblk m d 3 t) (iblk m d 4 t))) (iblk m d 8 t) (iblk m d 5 t))
      (outsAt0 m d (t.val - 1) (by have := t.isLt; omega)).2.2.2.1 := by
  rw [← back_Q (ms0_10 t).view, outsAt0_B m d t h]; frame_out
  rfl
theorem fifth_A (h : t.val % 16 = 0) : (outsAt0 m d t.val t.isLt).2.2.2.2
    = k0_pay1 (k0_pay109 (F := Ideal) (k0_pay98 (F := Ideal) (DKVE (iblk m d 1 t) (iblk m d 2 t)) (iblk m d 9 t)) (k0_pay104 (iblk m d 5 t)) (k0_pay106 (iblk m d 5 t)))
      (k0_pay115 (F := Ideal)) := by
  rw [← back_V (ms0_11 t).view, outsAt0_A m d t h]; frame_out
  rfl
theorem fifth_B (h : ¬ t.val % 16 = 0) : (outsAt0 m d t.val t.isLt).2.2.2.2
    = k0_pay1 (k0_pay109 (F := Ideal) (k0_pay98 (F := Ideal) (DKVE (iblk m d 1 t) (iblk m d 2 t)) (iblk m d 9 t)) (k0_pay104 (iblk m d 5 t)) (k0_pay106 (iblk m d 5 t)))
      (outsAt0 m d (t.val - 1) (by have := t.isLt; omega)).2.2.2.2 := by
  rw [← back_V (ms0_11 t).view, outsAt0_B m d t h]; frame_out
  rfl

end Cert.MidIdeal.Value
-- ==== Proof.MidRows.lean ====
module

public import proofs.«01_k».proof.Proof.MidBlocks

/-! The body's arithmetic, read at an index. -/

@[expose] public section

set_option maxRecDepth 16384

noncomputable section

open Idealize.ShloMosaic Idealize.ShloMosaic.TcCoe Idealize.SL.Sem
open Idealize.ShloMosaic.Pipeline (Dat)

namespace Cert.MidIdeal.Value

open Cert.MidIdeal Cert.MidIdeal.Gen Cert.Reals Cert.NormMath

theorem n512_f32 : Ideal.ofBits .f32 0x44000000#32 = ((512 : ℝ) : EReal) := by
  simp [Ideal.ofBits, Ideal.ieee, -EReal.coe_mul]; norm_num
theorem n256_f32 : Ideal.ofBits .f32 0x43800000#32 = ((256 : ℝ) : EReal) := by
  simp [Ideal.ofBits, Ideal.ieee, -EReal.coe_mul]; norm_num

section Rows
variable (x1 : FVec Ideal S8x256x192 .bf16) (c s : FVec Ideal S256x32 .f32) (p : FVec Ideal S256x832 .f32)
  (gq : FVec Ideal S1x512 .f32) (gk : FVec Ideal S1x256 .f32) (wq : FVec Ideal S512x1536 .bf16) (wk : FVec Ideal S256x2048 .bf16)
  (Q : FVec Ideal S256x1536 .bf16) (V : FVec Ideal S256x2048 .bf16)

/-! #### The keys' rotated columns, added over the heads -/

theorem pay92_apply (v : FVec Ideal S1x256x192 .bf16) (a : Fin 256) (e : Fin 32) :
    (k0_pay92 (F := Ideal) c v : _ → EReal) (ix2 a e) = c (ix2 a e) + v (ix3 0 a ⟨128 + e.val, by omega⟩) := by
  unfold k0_pay92 k0_pay84
  pointwise
theorem pay93_apply (v : FVec Ideal S1x256x192 .bf16) (a : Fin 256) (e : Fin 32) :
    (k0_pay93 (F := Ideal) c v : _ → EReal) (ix2 a e) = c (ix2 a e) + v (ix3 0 a ⟨160 + e.val, by omega⟩) := by
  unfold k0_pay93 k0_pay84
  pointwise
theorem pay4_apply (a : Fin 256) (e : Fin 32) : (k0_pay4 (F := Ideal) : _ → EReal) (ix2 a e) = 0 := by
  unfold k0_pay4
  pointwise
theorem pay5_apply (a : Fin 256) (e : Fin 32) : (k0_pay5 (F := Ideal) : _ → EReal) (ix2 a e) = 0 := by
  unfold k0_pay5
  pointwise

def near (a : Fin 256) (e : Fin 32) : EReal := ∑ h : Fin 8, x1 (ix3 h a ⟨128 + e.val, by omega⟩)
def far (a : Fin 256) (e : Fin 32) : EReal := ∑ h : Fin 8, x1 (ix3 h a ⟨160 + e.val, by omega⟩)

theorem near_apply (a : Fin 256) (e : Fin 32) : (k0_pay92 (F := Ideal) (near7 x1) (atQ x1 7 (by omega)) : _ → EReal) (ix2 a e) = near x1 a e := by
  unfold near7 near
  simp only [pay92_apply, pay4_apply, atQ_apply, zero_add]
  rw [Fin.sum_univ_eight]
  rfl
theorem far_apply (a : Fin 256) (e : Fin 32) : (k0_pay93 (F := Ideal) (far7 x1) (atQ x1 7 (by omega)) : _ → EReal) (ix2 a e) = far x1 a e := by
  unfold far7 far
  simp only [pay93_apply, pay5_apply, atQ_apply, zero_add]
  rw [Fin.sum_univ_eight]
  rfl

theorem turn_near (a : Fin 256) (e : Fin 32) :
    (k0_pay112 (F := Ideal) (k0_pay94 (k0_pay2 c) (k0_pay3 s) (near7 x1) (far7 x1) (atQ x1 7 (by omega))) : _ → EReal) (ix2 a e)
      = near x1 a e * c (ix2 a e) + far x1 a e * s (ix2 a e) := by
  unfold k0_pay112 k0_pay94 k0_pay2 k0_pay3
  pointwise [near_apply, far_apply]
theorem turn_far (a : Fin 256) (e : Fin 32) :
    (k0_pay113 (F := Ideal) (k0_pay95 (k0_pay2 c) (k0_pay3 s) (near7 x1) (far7 x1) (atQ x1 7 (by omega))) : _ → EReal) (ix2 a e)
      = far x1 a e * c (ix2 a e) - near x1 a e * s (ix2 a e) := by
  unfold k0_pay113 k0_pay95 k0_pay2 k0_pay3
  pointwise [near_apply, far_apply]

/-! #### The two inner norms -/

/-- A row of each inner norm, and the gradient that reaches it. -/
def rowQQ (a : Fin 256) (k : Fin 512) : EReal := p (ix2 a ⟨k.val, by omega⟩)
def rowKV (a : Fin 256) (k : Fin 256) : EReal := p (ix2 a ⟨512 + k.val, by omega⟩)
def gradQQ (a : Fin 256) (k : Fin 512) : EReal := ∑ j : Fin 1536, Q (ix2 a j) * wq (ix2 k j)
def gradKV (a : Fin 256) (k : Fin 256) : EReal := ∑ j : Fin 2048, V (ix2 a j) * wk (ix2 k j)

theorem pay97_apply (a : Fin 256) (k : Fin 512) : (k0_pay97 (F := Ideal) Q wq : _ → EReal) (ix2 a k) = gradQQ wq Q a k := by
  unfold k0_pay97 gradQQ
  pointwise
theorem pay98_apply (a : Fin 256) (k : Fin 256) : (k0_pay98 (F := Ideal) V wk : _ → EReal) (ix2 a k) = gradKV wk V a k := by
  unfold k0_pay98 gradKV
  pointwise
theorem pay99_apply (a : Fin 256) (k : Fin 512) : (k0_pay99 (F := Ideal) p : _ → EReal) (ix2 a k) = rowQQ p a k := by
  unfold k0_pay99 rowQQ
  pointwise
theorem pay104_apply (a : Fin 256) (k : Fin 256) : (k0_pay104 (F := Ideal) p : _ → EReal) (ix2 a k) = rowKV p a k := by
  unfold k0_pay104 rowKV
  pointwise
theorem pay100_apply (a : Fin 256) : (k0_pay100 (F := Ideal) p : _ → EReal) (ix2 a 0) = root ((512 : ℝ) : EReal) (rowQQ p a) := by
  unfold k0_pay100 root
  pointwise [n512_f32, eps_f32, pay99_apply]
theorem pay107_apply (a : Fin 256) : (k0_pay107 (F := Ideal) (k0_pay106 p) : _ → EReal) (ix2 a 0) = root ((256 : ℝ) : EReal) (rowKV p a) := by
  unfold k0_pay107 k0_pay106 root
  pointwise [n256_f32, eps_f32, pay104_apply]
theorem pay101_apply (a : Fin 256) (k : Fin 512) :
    (k0_pay101 (F := Ideal) p : _ → EReal) (ix2 a k) = rowQQ p a k * root ((512 : ℝ) : EReal) (rowQQ p a) := by
  unfold k0_pay101
  pointwise [pay99_apply, pay100_apply]
theorem pay108_apply (a : Fin 256) (k : Fin 256) :
    (k0_pay108 (F := Ideal) (k0_pay104 p) (k0_pay106 p) : _ → EReal) (ix2 a k) = rowKV p a k * root ((256 : ℝ) : EReal) (rowKV p a) := by
  unfold k0_pay108
  pointwise [pay104_apply, pay107_apply]

theorem norm_QQ (a : Fin 256) (k : Fin 512) : (k0_pay110 (F := Ideal) (k0_pay102 (k0_pay96 Q) wq p gq) : _ → EReal) (ix2 a k)
    = pulled ((512 : ℝ) : EReal) (rowQQ p a) (fun k => gq (ix2 0 k)) (gradQQ wq Q a) k := by
  unfold k0_pay110 k0_pay102 pulled k0_pay96
  pointwise [n512_f32, pay97_apply, pay100_apply, pay101_apply]
theorem norm_KV (a : Fin 256) (k : Fin 256) :
    (k0_pay111 (F := Ideal) (k0_pay98 V wk) (k0_pay104 p) (k0_pay105 gk) (k0_pay106 p) : _ → EReal) (ix2 a k)
      = pulled ((256 : ℝ) : EReal) (rowKV p a) (fun k => gk (ix2 0 k)) (gradKV wk V a) k := by
  unfold k0_pay111 pulled k0_pay105
  pointwise [n256_f32, pay98_apply, pay107_apply, pay108_apply]

theorem gain_QQ (y : FVec Ideal S1x512 .f32) (k : Fin 512) : (k0_pay116 (F := Ideal) (k0_pay103 (k0_pay96 Q) wq p) y : _ → EReal) (ix2 0 k)
    = y (ix2 0 k) + ∑ a : Fin 256, gradQQ wq Q a k * (rowQQ p a k * root ((512 : ℝ) : EReal) (rowQQ p a)) := by
  unfold k0_pay116 k0_pay103 k0_pay96
  pointwise [pay97_apply, pay101_apply]
theorem gain_KV (y : FVec Ideal S1x256 .f32) (k : Fin 256) :
    (k0_pay1 (F := Ideal) (k0_pay109 (k0_pay98 V wk) (k0_pay104 p) (k0_pay106 p)) y : _ → EReal) (ix2 0 k)
      = y (ix2 0 k) + ∑ a : Fin 256, gradKV wk V a k * (rowKV p a k * root ((256 : ℝ) : EReal) (rowKV p a)) := by
  unfold k0_pay1 k0_pay109
  pointwise [pay98_apply, pay108_apply]

/-! #### The projection's gradient, a block of its rows -/

/-- The three parts of a row side by side. -/
def beside (u : Fin 512 → EReal) (v : Fin 256 → EReal) (n f : Fin 32 → EReal) (j : Fin 832) : EReal :=
  if h₁ : j.val < 512 then u ⟨j.val, h₁⟩
  else if h₂ : j.val < 768 then v ⟨j.val - 512, by omega⟩
  else if h₃ : j.val < 800 then n ⟨j.val - 768, by omega⟩
  else f ⟨j.val - 800, by omega⟩

def projB : FVec Ideal S256x832 .bf16 := fun i =>
  beside (pulled ((512 : ℝ) : EReal) (rowQQ p (i 0)) (fun k => gq (ix2 0 k)) (gradQQ wq Q (i 0)))
    (pulled ((256 : ℝ) : EReal) (rowKV p (i 0)) (fun k => gk (ix2 0 k)) (gradKV wk V (i 0)))
    (fun e => near x1 (i 0) e * c (ix2 (i 0) e) + far x1 (i 0) e * s (ix2 (i 0) e))
    (fun e => far x1 (i 0) e * c (ix2 (i 0) e) - near x1 (i 0) e * s (ix2 (i 0) e)) (i 1)

theorem projB_at (i : S256x832.Idx) (a : Fin 256) (j : Fin 832) (h0 : (i 0).val = a.val) (h1 : (i 1).val = j.val) :
    projB x1 c s p gq gk wq wk Q V i = projB x1 c s p gq gk wq wk Q V (ix2 a j) :=
  congrArg _ (funext fun b => Fin.ext (by
    match b with
    | 0 => exact h0
    | 1 => exact h1))

theorem beside_u (u : Fin 512 → EReal) (v : Fin 256 → EReal) (n f : Fin 32 → EReal) (k : Fin 512) : beside u v n f ⟨k.val, by omega⟩ = u k := by
  unfold beside
  exact dif_pos k.isLt
theorem beside_v (u : Fin 512 → EReal) (v : Fin 256 → EReal) (n f : Fin 32 → EReal) (k : Fin 256) : beside u v n f ⟨512 + k.val, by omega⟩ = v k := by
  unfold beside
  rw [dif_neg (show ¬ 512 + k.val < 512 by omega), dif_pos (show 512 + k.val < 768 by omega)]
  exact congrArg v (Fin.ext (Nat.add_sub_cancel_left _ _))
theorem beside_n (u : Fin 512 → EReal) (v : Fin 256 → EReal) (n f : Fin 32 → EReal) (k : Fin 32) : beside u v n f ⟨768 + k.val, by omega⟩ = n k := by
  unfold beside
  rw [dif_neg (show ¬ 768 + k.val < 512 by omega), dif_neg (show ¬ 768 + k.val < 768 by omega), dif_pos (show 768 + k.val < 800 by omega)]
  exact congrArg n (Fin.ext (Nat.add_sub_cancel_left _ _))
theorem beside_f (u : Fin 512 → EReal) (v : Fin 256 → EReal) (n f : Fin 32 → EReal) (k : Fin 32) : beside u v n f ⟨800 + k.val, by omega⟩ = f k := by
  unfold beside
  rw [dif_neg (show ¬ 800 + k.val < 512 by omega), dif_neg (show ¬ 800 + k.val < 768 by omega), dif_neg (show ¬ 800 + k.val < 800 by omega)]
  exact congrArg f (Fin.ext (Nat.add_sub_cancel_left _ _))

theorem projL_spec : ∀ q ∈ projL x1 c s p gq gk wq wk Q V, ∀ x : q.1.shape.Idx, q.2 x = projB x1 c s p gq gk wq wk Q V (q.1.emb x) := by
  unfold projL
  simp only [List.forall_mem_cons]
  refine ⟨fun x => ?_, fun x => ?_, fun x => ?_, fun x => ?_, fun p hp => absurd hp (List.not_mem_nil)⟩
  · obtain ⟨a, e, rfl⟩ : ∃ (a : Fin 256) (e : Fin 32), x = ix2 a e := ⟨x 0, x 1, eq_ix2 _⟩
    refine Eq.trans ?_ (projB_at x1 c s p gq gk wq wk Q V _ a ⟨800 + e.val, by omega⟩ ((Nat.zero_add _).trans (Nat.one_mul _)) ?_).symm
    · exact (turn_far x1 c s a e).trans (beside_f _ _ _ (fun e => far x1 a e * c (ix2 a e) - near x1 a e * s (ix2 a e)) e).symm
    · show 800 + 1 * e.val = 800 + e.val
      omega
  · obtain ⟨a, e, rfl⟩ : ∃ (a : Fin 256) (e : Fin 32), x = ix2 a e := ⟨x 0, x 1, eq_ix2 _⟩
    refine Eq.trans ?_ (projB_at x1 c s p gq gk wq wk Q V _ a ⟨768 + e.val, by omega⟩ ((Nat.zero_add _).trans (Nat.one_mul _)) ?_).symm
    · exact (turn_near x1 c s a e).trans (beside_n _ _ (fun e => near x1 a e * c (ix2 a e) + far x1 a e * s (ix2 a e)) _ e).symm
    · show 768 + 1 * e.val = 768 + e.val
      omega
  · obtain ⟨a, k, rfl⟩ : ∃ (a : Fin 256) (k : Fin 256), x = ix2 a k := ⟨x 0, x 1, eq_ix2 _⟩
    refine Eq.trans ?_ (projB_at x1 c s p gq gk wq wk Q V _ a ⟨512 + k.val, by omega⟩ ((Nat.zero_add _).trans (Nat.one_mul _)) ?_).symm
    · exact (norm_KV p gk wk V a k).trans (beside_v _ _ _ _ k).symm
    · show 512 + 1 * k.val = 512 + k.val
      omega
  · obtain ⟨a, k, rfl⟩ : ∃ (a : Fin 256) (k : Fin 512), x = ix2 a k := ⟨x 0, x 1, eq_ix2 _⟩
    refine Eq.trans ?_ (projB_at x1 c s p gq gk wq wk Q V _ a ⟨k.val, by omega⟩ ((Nat.zero_add _).trans (Nat.one_mul _)) ?_).symm
    · exact (norm_QQ p gq wq Q a k).trans (beside_u _ _ _ _ k).symm
    · show 0 + 1 * k.val = k.val
      omega

theorem cover_proj (y : S256x832.Idx) : ∃ q ∈ projL x1 c s p gq gk wq wk Q V, y ∈ q.1.set := by
  have hj : (y 1).val < 832 := (show Fin 832 from y 1).isLt
  have hr : (y 0).val < 256 := (show Fin 256 from y 0).isLt
  have inside (o n : ℕ) (inb : ∀ a, (![0, o] : Fin 2 → ℕ) a + (![256, n] : Fin 2 → ℕ) a ≤ S256x832.size a) (h : o ≤ (y 1).val ∧ (y 1).val < o + n) :
      y ∈ (Rect.unit (s := S256x832) ![0, o] ![256, n] inb).set := by
    refine (Rect.mem_set_unit (inb := inb)).mpr fun a => ?_
    match a with
    | 0 => exact ⟨Nat.zero_le _, by show (y 0).val < 0 + 256; omega⟩
    | 1 => exact h
  rcases lt_or_ge (y 1).val 512 with h1 | h1
  · exact ⟨_, List.mem_cons_of_mem _ (List.mem_cons_of_mem _ (List.mem_cons_of_mem _ List.mem_cons_self)), inside 0 512 inb_S256x832_S256x512_0_0 ⟨Nat.zero_le _, by omega⟩⟩
  rcases lt_or_ge (y 1).val 768 with h2 | h2
  · exact ⟨_, List.mem_cons_of_mem _ (List.mem_cons_of_mem _ List.mem_cons_self), inside 512 256 inb_S256x832_S256x256_0_512 ⟨h1, by omega⟩⟩
  rcases lt_or_ge (y 1).val 800 with h3 | h3
  · exact ⟨_, List.mem_cons_of_mem _ List.mem_cons_self, inside 768 32 inb_S256x832_S256x32_0_768 ⟨h2, by omega⟩⟩
  · exact ⟨_, List.mem_cons_self, inside 800 32 inb_S256x832_S256x32_0_800 ⟨h3, by omega⟩⟩

theorem canon_proj : View.canon (projL x1 c s p gq gk wq wk Q V) = projB x1 c s p gq gk wq wk Q V := funext fun y =>
  View.canon_apply_of_pieces _ _ (projL_spec x1 c s p gq gk wq wk Q V) y (cover_proj x1 c s p gq gk wq wk Q V y)

end Rows
end Cert.MidIdeal.Value
-- ==== Proof.MidReference.lean ====
module

public import proofs.«01_k».proof.Proof.MidRows
public import proofs.«01_k».proof.Proof.Gen.MidRefIdeal.Run

/-! The reference's lines between the attention and its projections, read at an index. -/

@[expose] public section

set_option maxRecDepth 16384

noncomputable section

open Idealize.ShloMosaic Idealize.ShloMosaic.TcCoe Idealize.SL.Sem

namespace Cert.MidRefIdeal.Value

open Cert.MidRefIdeal Cert.MidRefIdeal.Gen Cert.Reals Cert.NormMath Cert.MidIdeal.Value

/-- The terms that the reference adds up for a norm's row. -/
def underE {n : ℕ} (r : EReal) (X : Fin n → EReal) : EReal := Ideal.div (∑ k, X k * X k) r + (eps : EReal)
def squareE {n : ℕ} (r : EReal) (X G D : Fin n → EReal) : EReal :=
  Ideal.div ((∑ k, X k * (D k * G k)) * (((-(1 / 2) : ℝ) : EReal) * Ideal.div (root r X) (underE r X))) r

theorem terms_pulled {n : ℕ} (r : ℝ) (hr : 0 < r) (X G D : Fin n → EReal) (x g d : Fin n → ℝ) (hx : ∀ k, X k = (x k : EReal))
    (hg : ∀ k, G k = (g k : EReal)) (hd : ∀ k, D k = (d k : EReal)) (k : Fin n) :
    D k * G k * root (r : EReal) X + X k * squareE (r : EReal) X G D + squareE (r : EReal) X G D * X k = pulled (r : EReal) X G D k := by
  obtain rfl : X = fun k => (x k : EReal) := funext hx
  obtain rfl : G = fun k => (g k : EReal) := funext hg
  obtain rfl : D = fun k => (d k : EReal) := funext hd
  have hu : underE (r : EReal) (fun k => (x k : EReal)) = (under r x : EReal) := by
    unfold underE under
    simp only [← EReal.coe_mul, coe_sum, div_real _ hr.ne', ← EReal.coe_add]
  have hs : squareE (r : EReal) (fun k => (x k : EReal)) (fun k => (g k : EReal)) (fun k => (d k : EReal)) = (squareR r x g d : EReal) := by
    unfold squareE squareR
    rw [hu, root_real r hr]
    simp only [← EReal.coe_mul, coe_sum, div_real _ (under_pos r hr x).ne', div_real _ hr.ne']
  rw [hs, root_real r hr, pulled_real r hr, ← pulled_ref r hr]
  simp only [← EReal.coe_mul, ← EReal.coe_add]

variable (V0 : Valuation τ sig (Elt Ideal))

/-- The arguments. -/
abbrev proj : FVec Ideal S4096x832 .f32 := V0 (Proc.devRef .tc main_arg1)
abbrev gainQ : FVec Ideal S512 .f32 := V0 (Proc.devRef .tc main_arg2)
abbrev gainK : FVec Ideal S256 .f32 := V0 (Proc.devRef .tc main_arg3)
abbrev upQ : FVec Ideal S512x1536 .f32 := V0 (Proc.devRef .tc main_arg4)
abbrev upK : FVec Ideal S256x2048 .f32 := V0 (Proc.devRef .tc main_arg5)
abbrev dq : FVec Ideal S8x4096x192 .f32 := V0 (Proc.devRef .tc main_arg6)
abbrev dk : FVec Ideal S8x4096x192 .f32 := V0 (Proc.devRef .tc main_arg7)
abbrev dv : FVec Ideal S8x4096x128 .f32 := V0 (Proc.devRef .tc main_arg8)
abbrev cosine : FVec Ideal S4096x32 .f32 := res_main_v16 V0
abbrev sine : FVec Ideal S4096x32 .f32 := res_main_v17 V0

theorem v95_apply (a : Fin 4096) (h : Fin 8) (e : Fin 192) : (res_main_v95 V0 : FVec Ideal S4096x8x192 .f32) (ix3 a h e) = dq V0 (ix3 h a e) := by
  unfold res_main_v95
  pointwise
theorem v94_apply (a : Fin 4096) (h : Fin 8) (e : Fin 192) : (res_main_v94 V0 : FVec Ideal S4096x8x192 .f32) (ix3 a h e) = dk V0 (ix3 h a e) := by
  unfold res_main_v94
  pointwise
theorem v116_apply (a : Fin 4096) (h : Fin 8) (e : Fin 32) :
    (res_main_v116 V0 : FVec Ideal S4096x8x32 .f32) (ix3 a h e) = dq V0 (ix3 h a ⟨128 + e.val, by omega⟩) := by
  unfold res_main_v116 res_main_v101
  pointwise [v95_apply]
theorem v117_apply (a : Fin 4096) (h : Fin 8) (e : Fin 32) :
    (res_main_v117 V0 : FVec Ideal S4096x8x32 .f32) (ix3 a h e) = dq V0 (ix3 h a ⟨160 + e.val, by omega⟩) := by
  unfold res_main_v117 res_main_v101
  pointwise [v95_apply]
  exact congrArg (dq V0) (congrArg (ix3 h a) (Fin.ext (by show 128 + (32 + e.val) = 160 + e.val; omega)))
theorem v58_apply (a : Fin 4096) (e : Fin 32) : (res_main_v58 V0 : FVec Ideal S4096x1x32 .f32) (ix3 a 0 e) = cosine V0 (ix2 a e) := by
  unfold res_main_v58
  pointwise
theorem v59_apply (a : Fin 4096) (e : Fin 32) : (res_main_v59 V0 : FVec Ideal S4096x1x32 .f32) (ix3 a 0 e) = sine V0 (ix2 a e) := by
  unfold res_main_v59
  pointwise

/-- The padded pieces of a head's row are the row. -/
theorem pieces_q (x : Fin 8 → Fin 192 → EReal) (c s : Fin 32 → EReal) (j : Fin 1536) :
    ((if h : j.val / 192 < 8 ∧ j.val % 192 < 128 then x ⟨j.val / 192, h.1⟩ ⟨j.val % 192, by omega⟩ else 0) +
      if h : j.val / 192 < 8 ∧ 128 ≤ j.val % 192 ∧ j.val % 192 - 128 < 64 then
        if h' : j.val % 192 - 128 < 32 then
          x ⟨j.val / 192, h.1⟩ ⟨160 + (j.val % 192 - 128), by omega⟩ * s ⟨j.val % 192 - 128, h'⟩ +
            x ⟨j.val / 192, h.1⟩ ⟨128 + (j.val % 192 - 128), by omega⟩ * c ⟨j.val % 192 - 128, h'⟩
        else
          x ⟨j.val / 192, h.1⟩ ⟨160 + (j.val % 192 - 128 - 32), by omega⟩ * c ⟨j.val % 192 - 128 - 32, by omega⟩ +
            -x ⟨j.val / 192, h.1⟩ ⟨128 + (j.val % 192 - 128 - 32), by omega⟩ * s ⟨j.val % 192 - 128 - 32, by omega⟩
      else 0) = turned (x (headQ j)) c s (placeQ j) := by
  have hh : j.val / 192 < 8 := by omega
  have hm : j.val % 192 < 192 := Nat.mod_lt _ (by norm_num)
  unfold turned
  rcases lt_or_ge (j.val % 192) 128 with h1 | h1
  · rw [dif_pos ⟨hh, h1⟩, dif_neg (fun h => absurd h.2.1 (by omega)), add_zero, dif_pos (show (placeQ j).val < 128 from h1)]
    rfl
  · rw [dif_neg (fun h => absurd h.2 (by omega)), dif_pos ⟨hh, h1, by omega⟩, zero_add, dif_neg (show ¬ (placeQ j).val < 128 from not_lt.mpr h1)]
    rcases lt_or_ge (j.val % 192) 160 with h2 | h2
    · rw [dif_pos (show j.val % 192 - 128 < 32 by omega), dif_pos (show (placeQ j).val < 160 from h2),
        show (⟨160 + (j.val % 192 - 128), by omega⟩ : Fin 192) = ⟨(placeQ j).val + 32, by show j.val % 192 + 32 < 192; omega⟩
          from Fin.ext (by show 160 + (j.val % 192 - 128) = j.val % 192 + 32; omega),
        show (⟨128 + (j.val % 192 - 128), by omega⟩ : Fin 192) = placeQ j from Fin.ext (by show 128 + (j.val % 192 - 128) = j.val % 192; omega), add_comm]
      rfl
    · rw [dif_neg (show ¬ j.val % 192 - 128 < 32 by omega), dif_neg (show ¬ (placeQ j).val < 160 from not_lt.mpr h2),
        show (⟨160 + (j.val % 192 - 128 - 32), by omega⟩ : Fin 192) = placeQ j from Fin.ext (by show 160 + (j.val % 192 - 128 - 32) = j.val % 192; omega),
        show (⟨128 + (j.val % 192 - 128 - 32), by omega⟩ : Fin 192) = ⟨(placeQ j).val - 32, by omega⟩
          from Fin.ext (by show 128 + (j.val % 192 - 128 - 32) = j.val % 192 - 32; omega),
        show (⟨j.val % 192 - 128 - 32, by omega⟩ : Fin 32) = ⟨(placeQ j).val - 160, by omega⟩
          from Fin.ext (by show j.val % 192 - 128 - 32 = j.val % 192 - 160; omega), EReal.neg_mul, ← sub_eq_add_neg]
      rfl

theorem pieces_kv (x y : Fin 8 → Fin 128 → EReal) (j : Fin 2048) :
    ((if h : j.val / 256 < 8 ∧ 128 ≤ j.val % 256 ∧ j.val % 256 - 128 < 128 then y ⟨j.val / 256, h.1⟩ ⟨j.val % 256 - 128, h.2.2⟩ else 0) +
      if h : j.val / 256 < 8 ∧ j.val % 256 < 128 then x ⟨j.val / 256, h.1⟩ ⟨j.val % 256, h.2⟩ else 0) = cols (x (headV j)) (y (headV j)) (placeV j) := by
  have hh : j.val / 256 < 8 := by omega
  have hm : j.val % 256 < 256 := Nat.mod_lt _ (by norm_num)
  unfold cols
  rcases lt_or_ge (j.val % 256) 128 with h1 | h1
  · rw [dif_neg (fun h => absurd h.2.1 (by omega)), dif_pos ⟨hh, h1⟩, zero_add, dif_pos (show (placeV j).val < 128 from h1)]
    rfl
  · rw [dif_pos ⟨hh, h1, by omega⟩, dif_neg (fun h => absurd h.2 (by omega)), add_zero, dif_neg (show ¬ (placeV j).val < 128 from not_lt.mpr h1)]
    rfl

theorem v133_apply (a : Fin 4096) (j : Fin 1536) : (res_main_v133 V0 : FVec Ideal S4096x1536 .f32) (ix2 a j)
    = turned (fun e => dq V0 (ix3 (headQ j) a e)) (fun e => cosine V0 (ix2 a e)) (fun e => sine V0 (ix2 a e)) (placeQ j) := by
  unfold res_main_v133
  pointwise [v95_apply, v116_apply, v117_apply, v58_apply, v59_apply]
  exact pieces_q (fun h e => dq V0 (ix3 h a e)) (fun e => cosine V0 (ix2 a e)) (fun e => sine V0 (ix2 a e)) j

theorem v132_apply (a : Fin 4096) (j : Fin 2048) : (res_main_v132 V0 : FVec Ideal S4096x2048 .f32) (ix2 a j)
    = cols (fun e => dk V0 (ix3 (headV j) a ⟨e.val, by omega⟩)) (fun e => dv V0 (ix3 (headV j) a e)) (placeV j) := by
  unfold res_main_v132
  pointwise [v94_apply]
  exact pieces_kv (fun h e => dk V0 (ix3 h a ⟨e.val, by omega⟩)) (fun h e => dv V0 (ix3 h a e)) j

/-! #### The shared keys' columns -/

def nearL (a : Fin 4096) (e : Fin 32) : EReal := ∑ h : Fin 8, dk V0 (ix3 h a ⟨128 + e.val, by omega⟩)
def farL (a : Fin 4096) (e : Fin 32) : EReal := ∑ h : Fin 8, dk V0 (ix3 h a ⟨160 + e.val, by omega⟩)

theorem v105_apply (a : Fin 4096) (e : Fin 64) :
    (res_main_v105 V0 : FVec Ideal S4096x64 .f32) (ix2 a e) = ∑ h : Fin 8, dk V0 (ix3 h a ⟨128 + e.val, by omega⟩) := by
  unfold res_main_v105
  pointwise [v94_apply]
  exact Fin.sum_univ_one (M := EReal) _
theorem v106_apply (a : Fin 4096) (e : Fin 32) : (res_main_v106 V0 : FVec Ideal S4096x32 .f32) (ix2 a e) = nearL V0 a e := by
  unfold res_main_v106 nearL
  pointwise [v105_apply]
theorem v107_apply (a : Fin 4096) (e : Fin 32) : (res_main_v107 V0 : FVec Ideal S4096x32 .f32) (ix2 a e) = farL V0 a e := by
  unfold res_main_v107 farL
  pointwise [v105_apply]
  exact Finset.sum_congr (M := EReal) rfl fun h _ => congrArg (dk V0) (congrArg (ix3 h a) (Fin.ext (by show 128 + (32 + e.val) = 160 + e.val; omega)))

/-! #### The two inner norms -/

theorem minus_half_f32 : Ideal.ofBits .f32 0xBF000000#32 = ((-(1 / 2) : ℝ) : EReal) := by
  simp [Ideal.ofBits, Ideal.ieee, -EReal.coe_mul]; norm_num

def rowQL (a : Fin 4096) (k : Fin 512) : EReal := proj V0 (ix2 a ⟨k.val, by omega⟩)
def rowKL (a : Fin 4096) (k : Fin 256) : EReal := proj V0 (ix2 a ⟨512 + k.val, by omega⟩)
def gradQL (a : Fin 4096) (k : Fin 512) : EReal :=
  ∑ j : Fin 1536, turned (fun e => dq V0 (ix3 (headQ j) a e)) (fun e => cosine V0 (ix2 a e)) (fun e => sine V0 (ix2 a e)) (placeQ j) * upQ V0 (ix2 k j)
def gradKL (a : Fin 4096) (k : Fin 256) : EReal :=
  ∑ j : Fin 2048, cols (fun e => dk V0 (ix3 (headV j) a ⟨e.val, by omega⟩)) (fun e => dv V0 (ix3 (headV j) a e)) (placeV j) * upK V0 (ix2 k j)

theorem v155_apply (a : Fin 4096) (k : Fin 512) : (res_main_v155 V0 : FVec Ideal S4096x512 .f32) (ix2 a k) = gradQL V0 a k := by
  unfold res_main_v155 gradQL
  pointwise [v133_apply]
theorem v134_apply (a : Fin 4096) (k : Fin 256) : (res_main_v134 V0 : FVec Ideal S4096x256 .f32) (ix2 a k) = gradKL V0 a k := by
  unfold res_main_v134 gradKL
  pointwise [v132_apply]
theorem v18_apply (a : Fin 4096) (k : Fin 512) : (res_main_v18 V0 : FVec Ideal S4096x512 .f32) (ix2 a k) = rowQL V0 a k := by
  unfold res_main_v18 rowQL
  pointwise
theorem v19_apply (a : Fin 4096) (k : Fin 256) : (res_main_v19 V0 : FVec Ideal S4096x256 .f32) (ix2 a k) = rowKL V0 a k := by
  unfold res_main_v19 rowKL
  pointwise
theorem v27_apply (a : Fin 4096) : (res_main_v27 V0 : FVec Ideal S4096x1 .f32) (ix2 a 0) = underE ((512 : ℝ) : EReal) (rowQL V0 a) := by
  unfold res_main_v27 underE
  pointwise [n512_f32, eps_f32, v18_apply]
theorem v44_apply (a : Fin 4096) : (res_main_v44 V0 : FVec Ideal S4096x1 .f32) (ix2 a 0) = underE ((256 : ℝ) : EReal) (rowKL V0 a) := by
  unfold res_main_v44 underE
  pointwise [n256_f32, eps_f32, v19_apply]
theorem v28_apply (a : Fin 4096) : (res_main_v28 V0 : FVec Ideal S4096x1 .f32) (ix2 a 0) = root ((512 : ℝ) : EReal) (rowQL V0 a) := by
  unfold res_main_v28
  pointwise [v27_apply]
  rfl
theorem v45_apply (a : Fin 4096) : (res_main_v45 V0 : FVec Ideal S4096x1 .f32) (ix2 a 0) = root ((256 : ℝ) : EReal) (rowKL V0 a) := by
  unfold res_main_v45
  pointwise [v44_apply]
  rfl
theorem v160_apply (a : Fin 4096) (k : Fin 512) : (res_main_v160 V0 : FVec Ideal S4096x512 .f32) (ix2 a k) = gradQL V0 a k * gainQ V0 (ix1 k) := by
  unfold res_main_v160 res_main_v34
  pointwise [v155_apply]
theorem v139_apply (a : Fin 4096) (k : Fin 256) : (res_main_v139 V0 : FVec Ideal S4096x256 .f32) (ix2 a k) = gradKL V0 a k * gainK V0 (ix1 k) := by
  unfold res_main_v139 res_main_v51
  pointwise [v134_apply]
theorem v150_apply (a : Fin 4096) (k : Fin 256) : (res_main_v150 V0 : FVec Ideal S4096x256 .f32) (ix2 a k)
    = squareE ((256 : ℝ) : EReal) (rowKL V0 a) (fun k => gainK V0 (ix1 k)) (gradKL V0 a) := by
  unfold res_main_v150 squareE
  pointwise [n256_f32, minus_half_f32, v19_apply, v139_apply, v44_apply, v45_apply]
  refine (Fin.sum_univ_one (M := EReal) _).trans ?_
  beta_reduce
  rw [v44_apply, v45_apply]
theorem v171_apply (a : Fin 4096) (k : Fin 512) : (res_main_v171 V0 : FVec Ideal S4096x512 .f32) (ix2 a k)
    = squareE ((512 : ℝ) : EReal) (rowQL V0 a) (fun k => gainQ V0 (ix1 k)) (gradQL V0 a) := by
  unfold res_main_v171 squareE
  pointwise [n512_f32, minus_half_f32, v18_apply, v160_apply, v27_apply, v28_apply]
  refine (Fin.sum_univ_one (M := EReal) _).trans ?_
  beta_reduce
  rw [v27_apply, v28_apply]

/-! #### The results -/

def projLines : FVec Ideal S4096x832 .bf16 :=
  truncf .bf16 ((concatenate S4096x832 1 [⟨S4096x512, ((addf (addf (mulf (res_main_v160 V0) (broadcastInDim S4096x512 ![0, 1] bcast_S4096x1_S4096x512_0_1 (res_main_v28 V0))) (mulf (res_main_v18 V0) (res_main_v171 V0))) (mulf (res_main_v171 V0) (res_main_v18 V0))) : FVec Ideal S4096x512 .f32)⟩, ⟨S4096x256, ((addf (addf (mulf (res_main_v139 V0) (broadcastInDim S4096x256 ![0, 1] bcast_S4096x1_S4096x256_0_1 (res_main_v45 V0))) (mulf (res_main_v19 V0) (res_main_v150 V0))) (mulf (res_main_v150 V0) (res_main_v19 V0))) : FVec Ideal S4096x256 .f32)⟩, ⟨S4096x64, ((concatenate S4096x64 1 [⟨S4096x32, (addf (mulf (res_main_v107 V0) (res_main_v17 V0)) (mulf (res_main_v106 V0) (res_main_v16 V0)))⟩, ⟨S4096x32, (addf (mulf (res_main_v107 V0) (res_main_v16 V0)) (mulf (Host.negf (res_main_v106 V0)) (res_main_v17 V0)))⟩] concatenates_S4096x32_S4096x32_S4096x64_d1) : FVec Ideal S4096x64 .f32)⟩] concatenates_S4096x512_S4096x256_S4096x64_S4096x832_d1 : FVec Ideal S4096x832 .f32)) bitsLt_bf16_f32

def gainQLines : FVec Ideal S1x512 .f32 :=
  shapeCast _ (Host.reduceAdd (shapeCast _ (Host.reduceAdd (mulf (res_main_v33 V0) (res_main_v155 V0)) (constant S_ .f32 0x00000000#32) reducesTo_S4096x512_S512_d0 h_S_) shapeCasts_S512_S1x512) (constant S_ .f32 0x00000000#32) reducesTo_S1x512_S512_d0 h_S_) shapeCasts_S512_S1x512

def gainKLines : FVec Ideal S1x256 .f32 :=
  shapeCast _ (Host.reduceAdd (shapeCast _ (Host.reduceAdd (mulf (res_main_v50 V0) (res_main_v134 V0)) (constant S_ .f32 0x00000000#32) reducesTo_S4096x256_S256_d0 h_S_) shapeCasts_S256_S1x256) (constant S_ .f32 0x00000000#32) reducesTo_S1x256_S256_d0 h_S_) shapeCasts_S256_S1x256

theorem gainQLines_apply (k : Fin 512) : (gainQLines V0 : _ → EReal) (ix2 0 k)
    = ∑ a : Fin 4096, gradQL V0 a k * (rowQL V0 a k * root ((512 : ℝ) : EReal) (rowQL V0 a)) := by
  unfold gainQLines res_main_v33
  pointwise [v18_apply, v28_apply, v155_apply]
  refine (Fin.sum_univ_one (M := EReal) _).trans ?_
  exact Finset.sum_congr (M := EReal) rfl fun a _ => mul_comm _ _

theorem gainKLines_apply (k : Fin 256) : (gainKLines V0 : _ → EReal) (ix2 0 k)
    = ∑ a : Fin 4096, gradKL V0 a k * (rowKL V0 a k * root ((256 : ℝ) : EReal) (rowKL V0 a)) := by
  unfold gainKLines res_main_v50
  pointwise [v19_apply, v45_apply, v134_apply]
  refine (Fin.sum_univ_one (M := EReal) _).trans ?_
  exact Finset.sum_congr (M := EReal) rfl fun a _ => mul_comm _ _

/-- The concatenated parts are the parts side by side. -/
theorem parts_row (u : Fin 512 → EReal) (v : Fin 256 → EReal) (n f : Fin 32 → EReal) (j : Fin 832) :
    (if h : j.val < 512 then u ⟨j.val, h⟩ else if h' : j.val - 512 < 256 then v ⟨j.val - 512, h'⟩
      else if h'' : j.val - 512 - 256 < 32 then n ⟨j.val - 512 - 256, h''⟩ else f ⟨j.val - 512 - 256 - 32, by omega⟩) = beside u v n f j := by
  unfold beside
  rcases lt_or_ge j.val 512 with h1 | h1
  · rw [dif_pos h1, dif_pos h1]
  rw [dif_neg (not_lt.mpr h1), dif_neg (not_lt.mpr h1)]
  rcases lt_or_ge j.val 768 with h2 | h2
  · rw [dif_pos h2, dif_pos (show j.val - 512 < 256 by omega)]
  rw [dif_neg (not_lt.mpr h2), dif_neg (show ¬ j.val - 512 < 256 by omega)]
  rcases lt_or_ge j.val 800 with h3 | h3
  · rw [dif_pos h3, dif_pos (show j.val - 512 - 256 < 32 by omega)]
    exact congrArg n (Fin.ext (by show j.val - 512 - 256 = j.val - 768; omega))
  · rw [dif_neg (not_lt.mpr h3), dif_neg (show ¬ j.val - 512 - 256 < 32 by omega)]
    exact congrArg f (Fin.ext (by show j.val - 512 - 256 - 32 = j.val - 800; omega))

theorem projLines_apply (a : Fin 4096) (j : Fin 832) : (projLines V0 : _ → EReal) (ix2 a j)
    = beside (fun k => gradQL V0 a k * gainQ V0 (ix1 k) * root ((512 : ℝ) : EReal) (rowQL V0 a)
        + rowQL V0 a k * squareE ((512 : ℝ) : EReal) (rowQL V0 a) (fun k => gainQ V0 (ix1 k)) (gradQL V0 a)
        + squareE ((512 : ℝ) : EReal) (rowQL V0 a) (fun k => gainQ V0 (ix1 k)) (gradQL V0 a) * rowQL V0 a k)
      (fun k => gradKL V0 a k * gainK V0 (ix1 k) * root ((256 : ℝ) : EReal) (rowKL V0 a)
        + rowKL V0 a k * squareE ((256 : ℝ) : EReal) (rowKL V0 a) (fun k => gainK V0 (ix1 k)) (gradKL V0 a)
        + squareE ((256 : ℝ) : EReal) (rowKL V0 a) (fun k => gainK V0 (ix1 k)) (gradKL V0 a) * rowKL V0 a k)
      (fun e => farL V0 a e * sine V0 (ix2 a e) + nearL V0 a e * cosine V0 (ix2 a e))
      (fun e => farL V0 a e * cosine V0 (ix2 a e) + -nearL V0 a e * sine V0 (ix2 a e)) j := by
  unfold projLines
  pointwise [v18_apply, v19_apply, v28_apply, v45_apply, v160_apply, v139_apply, v171_apply, v150_apply, v106_apply, v107_apply]
  rw [← parts_row]
end Cert.MidRefIdeal.Value
-- ==== Proof.MidFinals.lean ====
module

public import proofs.«01_k».proof.Proof.Gen.MidIdeal.Value
public import proofs.«01_k».proof.Proof.MidRows
public import proofs.«01_k».proof.Proof.MidReference
public import proofs.«01_k».proof.Proof.NormLines
public import proofs.«01_k».proof.Defs
public import Idealize.ShloMosaic.Lib.Pipeline.ValueKit
public import Idealize.ShloMosaic.Lib.Pointwise
public import Idealize.ShloMosaic.Lib.IdealHost
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MidIdeal.Value

open Cert.MidIdeal Cert.MidIdeal.Gen Cert.Reals Cert.NormMath

/-! ### The results as functions of whole arrays -/

section Whole
variable (p : FVec Ideal S4096x832 .f32) (gq : FVec Ideal S512 .f32) (gk : FVec Ideal S256 .f32) (wq : FVec Ideal S512x1536 .f32)
  (wk : FVec Ideal S256x2048 .f32) (dq dk : FVec Ideal S8x4096x192 .f32) (dv : FVec Ideal S8x4096x128 .f32) (c s : FVec Ideal S4096x32 .f32)

/-- The angle of each position and pair, as the host computes it. -/
def angle (pos : IVec S4096 32) : FVec Ideal S4096x32 .f32 :=
  mulf (broadcastInDim S4096x32 ![0, 1] bcast_S4096x1_S4096x32_0_1 (broadcastInDim S4096x1 ![0] bcast_S4096_S4096x1_0 (sitofp .f32 pos))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

def turnedAt (a : Fin 4096) (j : Fin 1536) : EReal :=
  turned (fun e => dq (ix3 (headQ j) a e)) (fun e => c (ix2 a e)) (fun e => s (ix2 a e)) (placeQ j)
def colsAt (a : Fin 4096) (j : Fin 2048) : EReal :=
  cols (fun e => dk (ix3 (headV j) a ⟨e.val, by omega⟩)) (fun e => dv (ix3 (headV j) a e)) (placeV j)
def rowQA (a : Fin 4096) (k : Fin 512) : EReal := p (ix2 a ⟨k.val, by omega⟩)
def rowKA (a : Fin 4096) (k : Fin 256) : EReal := p (ix2 a ⟨512 + k.val, by omega⟩)
def gradQA (a : Fin 4096) (k : Fin 512) : EReal := ∑ j : Fin 1536, turnedAt dq c s a j * wq (ix2 k j)
def gradKA (a : Fin 4096) (k : Fin 256) : EReal := ∑ j : Fin 2048, colsAt dk dv a j * wk (ix2 k j)
def nearA (a : Fin 4096) (e : Fin 32) : EReal := ∑ h : Fin 8, dk (ix3 h a ⟨128 + e.val, by omega⟩)
def farA (a : Fin 4096) (e : Fin 32) : EReal := ∑ h : Fin 8, dk (ix3 h a ⟨160 + e.val, by omega⟩)

def QUERIES : FVec Ideal S4096x1536 .bf16 := fun i => turnedAt dq c s (i 0) (i 1)
def KEYS : FVec Ideal S4096x2048 .bf16 := fun i => colsAt dk dv (i 0) (i 1)

/-- One row of the projection's gradient. -/
def projAt (a : Fin 4096) : Fin 832 → EReal :=
  beside (pulled ((512 : ℝ) : EReal) (rowQA p a) (fun k => gq (ix1 k)) (gradQA wq dq c s a))
    (pulled ((256 : ℝ) : EReal) (rowKA p a) (fun k => gk (ix1 k)) (gradKA wk dk dv a))
    (fun e => nearA dk a e * c (ix2 a e) + farA dk a e * s (ix2 a e))
    (fun e => farA dk a e * c (ix2 a e) - nearA dk a e * s (ix2 a e))
def PROJ : FVec Ideal S4096x832 .bf16 := fun i => projAt p gq gk wq wk dq dk dv c s (i 0) (i 1)

def gainTermQ (k : Fin 512) (a : Fin 4096) : EReal := gradQA wq dq c s a k * (rowQA p a k * root ((512 : ℝ) : EReal) (rowQA p a))
def gainTermK (k : Fin 256) (a : Fin 4096) : EReal := gradKA wk dk dv a k * (rowKA p a k * root ((256 : ℝ) : EReal) (rowKA p a))
def GAINQ : FVec Ideal S1x512 .f32 := fun i => ∑ a : Fin 4096, gainTermQ p wq dq c s (i 1) a
def GAINK : FVec Ideal S1x256 .f32 := fun i => ∑ a : Fin 4096, gainTermK p wk dk dv (i 1) a
end Whole

variable (m : (ℓ : Loc nD τ sig) → Buf (Elt Ideal) ℓ)

/-- Every window's block index, by the grid point's number. -/
theorem idx : ∀ t : Fin cfg0.N, win0_0.index t = ![0, t.val, 0] ∧ win0_1.index t = ![0, t.val, 0] ∧ win0_2.index t = ![0, t.val, 0]
    ∧ win0_3.index t = ![t.val, 0] ∧ win0_4.index t = ![t.val, 0] ∧ win0_5.index t = ![t.val, 0] ∧ win0_6.index t = ![0, 0] ∧ win0_7.index t = ![0, 0]
    ∧ win0_8.index t = ![0, 0] ∧ win0_9.index t = ![0, 0] ∧ win0_10.index t = ![t.val, 0] ∧ win0_11.index t = ![t.val, 0] ∧ win0_12.index t = ![t.val, 0] :=
  (by decide +kernel : ∀ t : Fin grid0.N, _)

/-! ### The arrays before the call -/

variable (d : Dev nD)

abbrev aProj : FVec Ideal S4096x832 .f32 := m ((d : Thread nD τ).loc main_arg1)
abbrev aGainQ : FVec Ideal S512 .f32 := m ((d : Thread nD τ).loc main_arg2)
abbrev aGainK : FVec Ideal S256 .f32 := m ((d : Thread nD τ).loc main_arg3)
abbrev aUpQ : FVec Ideal S512x1536 .f32 := m ((d : Thread nD τ).loc main_arg4)
abbrev aUpK : FVec Ideal S256x2048 .f32 := m ((d : Thread nD τ).loc main_arg5)
abbrev aDq : FVec Ideal S8x4096x192 .f32 := m ((d : Thread nD τ).loc main_arg6)
abbrev aDk : FVec Ideal S8x4096x192 .f32 := m ((d : Thread nD τ).loc main_arg7)
abbrev aDv : FVec Ideal S8x4096x128 .f32 := m ((d : Thread nD τ).loc main_arg8)
abbrev aCos : FVec Ideal S4096x32 .f32 := Host.cos (angle (m ((d : Thread nD τ).loc main_arg0)))
abbrev aSin : FVec Ideal S4096x32 .f32 := Host.sin (angle (m ((d : Thread nD τ).loc main_arg0)))

theorem V_v16 : V m d main_v16 = aCos m d := by
  unfold V; after_reads_simp; rfl
theorem V_v17 : V m d main_v17 = aSin m d := by
  unfold V; after_reads_simp; rfl
theorem V_v18 : V m d main_v18 = truncf (F := Ideal) .bf16 (aDq m d) bitsLt_bf16_f32 := by
  unfold V; after_reads_simp
theorem V_v19 : V m d main_v19 = truncf (F := Ideal) .bf16 (aDk m d) bitsLt_bf16_f32 := by
  unfold V; after_reads_simp
theorem V_v20 : V m d main_v20 = truncf (F := Ideal) .bf16 (aDv m d) bitsLt_bf16_f32 := by
  unfold V; after_reads_simp
theorem V_v21 : V m d main_v21 = shapeCast S1x512 (aGainQ m d) shapeCasts_S512_S1x512 := by
  unfold V; after_reads_simp; rfl
theorem V_v22 : V m d main_v22 = shapeCast S1x256 (aGainK m d) shapeCasts_S256_S1x256 := by
  unfold V; after_reads_simp; rfl
theorem V_v23 : V m d main_v23 = truncf (F := Ideal) .bf16 (aUpQ m d) bitsLt_bf16_f32 := by
  unfold V; after_reads_simp
theorem V_v24 : V m d main_v24 = truncf (F := Ideal) .bf16 (aUpK m d) bitsLt_bf16_f32 := by
  unfold V; after_reads_simp
theorem V_arg1 : V m d main_arg1 = aProj m d := by
  unfold V; after_reads_simp

/-! ### The blocks -/

/-- A row of a block as a row of the array. -/
def row (t : Fin cfg0.N) (a : Fin 256) : Fin 4096 := ⟨t.val * 256 + a.val, by have := t.isLt; have : cfg0.N = 16 := N_0; have := a.isLt; omega⟩

theorem blk0 (t : Fin cfg0.N) (h : Fin 8) (a : Fin 256) (e : Fin 192) : (iblk m d 0 t : _ → EReal) (ix3 h a e) = aDq m d (ix3 h (row t a) e) := by
  blk_point [iblk, idx t, row, V_v18]
theorem blk1 (t : Fin cfg0.N) (h : Fin 8) (a : Fin 256) (e : Fin 192) : (iblk m d 1 t : _ → EReal) (ix3 h a e) = aDk m d (ix3 h (row t a) e) := by
  blk_point [iblk, idx t, row, V_v19]
theorem blk2 (t : Fin cfg0.N) (h : Fin 8) (a : Fin 256) (e : Fin 128) : (iblk m d 2 t : _ → EReal) (ix3 h a e) = aDv m d (ix3 h (row t a) e) := by
  blk_point [iblk, idx t, row, V_v20]
theorem blk3 (t : Fin cfg0.N) (a : Fin 256) (e : Fin 32) : (iblk m d 3 t : _ → EReal) (ix2 a e) = aCos m d (ix2 (row t a) e) := by
  blk_point [iblk, idx t, row, V_v16]
theorem blk4 (t : Fin cfg0.N) (a : Fin 256) (e : Fin 32) : (iblk m d 4 t : _ → EReal) (ix2 a e) = aSin m d (ix2 (row t a) e) := by
  blk_point [iblk, idx t, row, V_v17]
theorem blk5 (t : Fin cfg0.N) (a : Fin 256) (j : Fin 832) : (iblk m d 5 t : _ → EReal) (ix2 a j) = aProj m d (ix2 (row t a) j) := by
  blk_point [iblk, idx t, row, V_arg1]
theorem blk6 (t : Fin cfg0.N) (k : Fin 512) : (iblk m d 6 t : _ → EReal) (ix2 0 k) = aGainQ m d (ix1 k) := by
  blk_point [iblk, idx t, row, V_v21]
theorem blk7 (t : Fin cfg0.N) (k : Fin 256) : (iblk m d 7 t : _ → EReal) (ix2 0 k) = aGainK m d (ix1 k) := by
  blk_point [iblk, idx t, row, V_v22]
theorem blk8 (t : Fin cfg0.N) (k : Fin 512) (j : Fin 1536) : (iblk m d 8 t : _ → EReal) (ix2 k j) = aUpQ m d (ix2 k j) := by
  blk_point [iblk, idx t, row, V_v23]
theorem blk9 (t : Fin cfg0.N) (k : Fin 256) (j : Fin 2048) : (iblk m d 9 t : _ → EReal) (ix2 k j) = aUpK m d (ix2 k j) := by
  blk_point [iblk, idx t, row, V_v24]

theorem blk10 (t : Fin cfg0.N) (a : Fin 256) (j : Fin 1536) (X : FVec Ideal S4096x1536 .bf16) :
    X (((View.whole main_v25_0).slice (win0_10.rect t)).emb (ix2 a j)) = X (ix2 (row t a) j) := by
  blk_point [idx t, row]
theorem blk11 (t : Fin cfg0.N) (a : Fin 256) (j : Fin 2048) (X : FVec Ideal S4096x2048 .bf16) :
    X (((View.whole main_v25_1).slice (win0_11.rect t)).emb (ix2 a j)) = X (ix2 (row t a) j) := by
  blk_point [idx t, row]
theorem blk12 (t : Fin cfg0.N) (a : Fin 256) (j : Fin 832) (X : FVec Ideal S4096x832 .bf16) :
    X (((View.whole main_v25_2).slice (win0_12.rect t)).emb (ix2 a j)) = X (ix2 (row t a) j) := by
  blk_point [idx t, row]

abbrev bDQ (t : Fin cfg0.N) : FVec Ideal S256x1536 .bf16 := DQE (iblk m d 0 t) (iblk m d 3 t) (iblk m d 4 t)
abbrev bDKV (t : Fin cfg0.N) : FVec Ideal S256x2048 .bf16 := DKVE (iblk m d 1 t) (iblk m d 2 t)

theorem queries_row (t : Fin cfg0.N) (a : Fin 256) (j : Fin 1536) : (bDQ m d t : _ → EReal) (ix2 a j) = turnedAt (aDq m d) (aCos m d) (aSin m d) (row t a) j := by
  show turned (fun e => iblk m d 0 t (ix3 (headQ j) a e)) (fun e => iblk m d 3 t (ix2 a e)) (fun e => iblk m d 4 t (ix2 a e)) (placeQ j) = _
  simp only [blk0, blk3, blk4]
  rfl
theorem keys_row (t : Fin cfg0.N) (a : Fin 256) (j : Fin 2048) : (bDKV m d t : _ → EReal) (ix2 a j) = colsAt (aDk m d) (aDv m d) (row t a) j := by
  show cols (fun e => iblk m d 1 t (ix3 (headV j) a ⟨e.val, by omega⟩)) (fun e => iblk m d 2 t (ix3 (headV j) a e)) (placeV j) = _
  simp only [blk1, blk2]
  rfl
theorem rowQ_row (t : Fin cfg0.N) (a : Fin 256) : rowQQ (iblk m d 5 t) a = rowQA (aProj m d) (row t a) :=
  funext fun k => blk5 m d t a _
theorem rowK_row (t : Fin cfg0.N) (a : Fin 256) : rowKV (iblk m d 5 t) a = rowKA (aProj m d) (row t a) :=
  funext fun k => blk5 m d t a _
theorem gradQ_row (t : Fin cfg0.N) (a : Fin 256) : gradQQ (iblk m d 8 t) (bDQ m d t) a = gradQA (aUpQ m d) (aDq m d) (aCos m d) (aSin m d) (row t a) :=
  funext fun k => Finset.sum_congr rfl fun j _ => congrArg₂ (· * ·) (queries_row m d t a j) (blk8 m d t k j)
theorem gradK_row (t : Fin cfg0.N) (a : Fin 256) : gradKV (iblk m d 9 t) (bDKV m d t) a = gradKA (aUpK m d) (aDk m d) (aDv m d) (row t a) :=
  funext fun k => Finset.sum_congr rfl fun j _ => congrArg₂ (· * ·) (keys_row m d t a j) (blk9 m d t k j)
theorem near_row (t : Fin cfg0.N) (a : Fin 256) (e : Fin 32) : near (iblk m d 1 t) a e = nearA (aDk m d) (row t a) e :=
  Finset.sum_congr rfl fun h _ => blk1 m d t h a _
theorem far_row (t : Fin cfg0.N) (a : Fin 256) (e : Fin 32) : far (iblk m d 1 t) a e = farA (aDk m d) (row t a) e :=
  Finset.sum_congr rfl fun h _ => blk1 m d t h a _

/-! ### The results -/

theorem final10 : (dats m 0 d).arrAt 10 cfg0.N = QUERIES (aDq m d) (aCos m d) (aSin m d) := by
  refine (dats m 0 d).arrAt_eq_of_covers 10 _ (by decide +kernel) fun t _ y => ?_
  have h : (outsAt0 m d t.val t.isLt).1 = bDQ m d t := by
    by_cases h0 : t.val % 16 = 0
    · exact (first_run m d t h0).trans (canonQ _ _ _)
    · exact (first_B m d t h0).trans (canonQ _ _ _)
  blk_simp
  rw [after0_10, h]
  obtain ⟨a, k, rfl⟩ : ∃ (a : Fin 256) (k : Fin 1536), y = ix2 a k := ⟨y 0, y 1, eq_ix2 y⟩
  exact (queries_row m d t a k).trans (blk10 t a k (QUERIES (aDq m d) (aCos m d) (aSin m d))).symm

theorem final11 : (dats m 0 d).arrAt 11 cfg0.N = KEYS (aDk m d) (aDv m d) := by
  refine (dats m 0 d).arrAt_eq_of_covers 11 _ (by decide +kernel) fun t _ y => ?_
  blk_simp
  rw [after0_11, (second_run m d t).trans (canonV _ _)]
  obtain ⟨a, k, rfl⟩ : ∃ (a : Fin 256) (k : Fin 2048), y = ix2 a k := ⟨y 0, y 1, eq_ix2 y⟩
  exact (keys_row m d t a k).trans (blk11 t a k (KEYS (aDk m d) (aDv m d))).symm

abbrev aPROJ : FVec Ideal S4096x832 .bf16 :=
  PROJ (aProj m d) (aGainQ m d) (aGainK m d) (aUpQ m d) (aUpK m d) (aDq m d) (aDk m d) (aDv m d) (aCos m d) (aSin m d)

theorem final12 : (dats m 0 d).arrAt 12 cfg0.N = aPROJ m d := by
  refine (dats m 0 d).arrAt_eq_of_covers 12 _ (by decide +kernel) fun t _ y => ?_
  blk_simp
  rw [after0_12, (third m d t).trans (canon_proj _ _ _ _ _ _ _ _ _ _)]
  obtain ⟨a, k, rfl⟩ : ∃ (a : Fin 256) (k : Fin 832), y = ix2 a k := ⟨y 0, y 1, eq_ix2 y⟩
  refine Eq.trans ?_ (blk12 t a k (aPROJ m d)).symm
  show beside (pulled ((512 : ℝ) : EReal) (rowQQ (iblk m d 5 t) a) (fun k => iblk m d 6 t (ix2 0 k)) (gradQQ (iblk m d 8 t) (bDQ m d t) a))
    (pulled ((256 : ℝ) : EReal) (rowKV (iblk m d 5 t) a) (fun k => iblk m d 7 t (ix2 0 k)) (gradKV (iblk m d 9 t) (bDKV m d t) a))
    (fun e => near (iblk m d 1 t) a e * iblk m d 3 t (ix2 a e) + far (iblk m d 1 t) a e * iblk m d 4 t (ix2 a e))
    (fun e => far (iblk m d 1 t) a e * iblk m d 3 t (ix2 a e) - near (iblk m d 1 t) a e * iblk m d 4 t (ix2 a e)) k = _
  simp only [rowQ_row, rowK_row, gradQ_row, gradK_row, near_row, far_row, blk3, blk4, blk6, blk7]
  rfl

/-- One block's share of the gains' gradients. -/
def shareQ (t : Fin cfg0.N) (k : Fin 512) : EReal := ∑ a : Fin 256, gainTermQ (aProj m d) (aUpQ m d) (aDq m d) (aCos m d) (aSin m d) k (row t a)
def shareK (t : Fin cfg0.N) (k : Fin 256) : EReal := ∑ a : Fin 256, gainTermK (aProj m d) (aUpK m d) (aDk m d) (aDv m d) k (row t a)

theorem step_Q (t : Fin cfg0.N) (y : FVec Ideal S1x512 .f32) (k : Fin 512) :
    (k0_pay116 (F := Ideal) (k0_pay103 (k0_pay96 (F := Ideal) (bDQ m d t)) (iblk m d 8 t) (iblk m d 5 t)) y : _ → EReal) (ix2 0 k) = y (ix2 0 k) + shareQ m d t k := by
  rw [gain_QQ]
  simp only [gradQ_row, rowQ_row]
  rfl
theorem step_K (t : Fin cfg0.N) (y : FVec Ideal S1x256 .f32) (k : Fin 256) :
    (k0_pay1 (F := Ideal) (k0_pay109 (k0_pay98 (bDKV m d t) (iblk m d 9 t)) (k0_pay104 (iblk m d 5 t)) (k0_pay106 (iblk m d 5 t))) y : _ → EReal) (ix2 0 k)
      = y (ix2 0 k) + shareK m d t k := by
  rw [gain_KV]
  simp only [gradK_row, rowK_row]
  rfl

theorem pay114_apply (k : Fin 512) : (k0_pay114 (F := Ideal) : _ → EReal) (ix2 0 k) = 0 := by
  unfold k0_pay114
  pointwise
theorem pay115_apply (k : Fin 256) : (k0_pay115 (F := Ideal) : _ → EReal) (ix2 0 k) = 0 := by
  unfold k0_pay115
  pointwise

theorem final13 : (dats m 0 d).arrAt 13 cfg0.N = GAINQ (aProj m d) (aUpQ m d) (aDq m d) (aCos m d) (aSin m d) := by
  refine (dats m 0 d).arrAt_eq_of_after_last 13 t0_15 (by decide +kernel) _ fun j => ?_
  blk_simp
  rw [after0_13]
  obtain ⟨k, rfl⟩ : ∃ (k : Fin 512), j = ix2 0 k := ⟨j 1, by rw [eq_ix2 j]; congr 1; exact Subsingleton.elim _ _⟩
  refine (Pipeline.eq_sum_fin_of_reset_step_apply_last (fun n h (k : Fin 512) => (outsAt0 m d n h).2.2.2.1 (ix2 0 k)) 16 (fun _ => (0 : EReal)) (shareQ m d)
    (fun t h0 k => ?_) (fun t h0 k => ?_) (by decide) t0_15 rfl k).trans ?_
  · show (outsAt0 m d t.val t.isLt).2.2.2.1 (ix2 0 k) = _
    rw [fourth_A m d t h0]
    exact (step_Q m d t _ k).trans (congrArg (· + shareQ m d t k) (pay114_apply k))
  · show (outsAt0 m d t.val t.isLt).2.2.2.1 (ix2 0 k) = _
    rw [fourth_B m d t h0]
    exact step_Q m d t _ k
  · rw [zero_add]
    exact Fin.sum_mul_add_fin 16 256 (fun a : Fin 4096 => gainTermQ (aProj m d) (aUpQ m d) (aDq m d) (aCos m d) (aSin m d) k a)

theorem final14 : (dats m 0 d).arrAt 14 cfg0.N = GAINK (aProj m d) (aUpK m d) (aDk m d) (aDv m d) := by
  refine (dats m 0 d).arrAt_eq_of_after_last 14 t0_15 (by decide +kernel) _ fun j => ?_
  blk_simp
  rw [after0_14]
  obtain ⟨k, rfl⟩ : ∃ (k : Fin 256), j = ix2 0 k := ⟨j 1, by rw [eq_ix2 j]; congr 1; exact Subsingleton.elim _ _⟩
  refine (Pipeline.eq_sum_fin_of_reset_step_apply_last (fun n h (k : Fin 256) => (outsAt0 m d n h).2.2.2.2 (ix2 0 k)) 16 (fun _ => (0 : EReal)) (shareK m d)
    (fun t h0 k => ?_) (fun t h0 k => ?_) (by decide) t0_15 rfl k).trans ?_
  · show (outsAt0 m d t.val t.isLt).2.2.2.2 (ix2 0 k) = _
    rw [fifth_A m d t h0]
    exact (step_K m d t _ k).trans (congrArg (· + shareK m d t k) (pay115_apply k))
  · show (outsAt0 m d t.val t.isLt).2.2.2.2 (ix2 0 k) = _
    rw [fifth_B m d t h0]
    exact step_K m d t _ k
  · rw [zero_add]
    exact Fin.sum_mul_add_fin 16 256 (fun a : Fin 4096 => gainTermK (aProj m d) (aUpK m d) (aDk m d) (aDv m d) k a)

end Cert.MidIdeal.Value

end
-- ==== Proof.MidGrad.lean ====
module

public import proofs.«01_k».proof.Proof.MidFinals

@[expose] public section

set_option maxRecDepth 16384

noncomputable section

open Idealize.ShloMosaic Idealize.ShloMosaic.TcCoe Idealize.SL.Sem

namespace Cert.MidMath

open Cert.MidIdeal Cert.MidIdeal.Gen Cert.MidIdeal.Value Cert.Reals Cert.NormMath

/-! ### Real arguments give real gradients -/

theorem product_real {n : ℕ} (f g : Fin n → EReal) (hf : ∀ j, ∃ r : ℝ, f j = (r : EReal)) (hg : ∀ j, ∃ r : ℝ, g j = (r : EReal)) :
    ∃ r : ℝ, ∑ j, f j * g j = (r : EReal) := by
  choose x hx using hf
  choose y hy using hg
  exact ⟨∑ j, x j * y j, by simp only [hx, hy, ← EReal.coe_mul, coe_sum]⟩

theorem turned_real (x : Fin 192 → EReal) (c s : Fin 32 → EReal) (hx : ∀ e, ∃ r : ℝ, x e = (r : EReal)) (hc : ∀ e, ∃ r : ℝ, c e = (r : EReal))
    (hs : ∀ e, ∃ r : ℝ, s e = (r : EReal)) (e : Fin 192) : ∃ r : ℝ, turned x c s e = (r : EReal) := by
  choose x' hx using hx
  choose c' hc using hc
  choose s' hs using hs
  unfold turned
  simp only [hx, hc, hs, ← EReal.coe_mul, ← EReal.coe_add, ← EReal.coe_sub]
  split_ifs
  exacts [⟨_, rfl⟩, ⟨_, rfl⟩, ⟨_, rfl⟩]

theorem cols_real (x y : Fin 128 → EReal) (hx : ∀ e, ∃ r : ℝ, x e = (r : EReal)) (hy : ∀ e, ∃ r : ℝ, y e = (r : EReal)) (e : Fin 256) :
    ∃ r : ℝ, cols x y e = (r : EReal) := by
  unfold cols
  split_ifs
  exacts [hx _, hy _]

theorem base_f32 : Ideal.ofBits .f32 0x461C4000#32 = ((10000 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem width_f32 : Ideal.ofBits .f32 0x42800000#32 = ((64 : ℝ) : EReal) := by
  simp [Ideal.ofBits, Ideal.ieee, -EReal.coe_mul]; norm_num

theorem angle_real (pos : IVec S4096 32) (a : Fin 4096) (e : Fin 32) : ∃ r : ℝ, angle pos (ix2 a e) = (r : EReal) := by
  unfold angle
  pointwise [base_f32, two_f32, width_f32]
  show ∃ r : ℝ, (((pos (ix1 a)).toInt : ℝ) : EReal) * Ideal.pow ((10000 : ℝ) : EReal)
    (Ideal.div (-(((2 : ℝ) : EReal) * ((((BitVec.ofNat 32 e.val).toInt : ℝ)) : EReal))) ((64 : ℝ) : EReal)) = (r : EReal)
  rw [← EReal.coe_mul, ← EReal.coe_neg, div_real _ (by norm_num)]
  exact ⟨_, (EReal.coe_mul _ _).symm⟩

theorem cos_real (pos : IVec S4096 32) (a : Fin 4096) (e : Fin 32) :
    ∃ r : ℝ, (Host.cos (angle pos) : FVec Ideal S4096x32 .f32) (ix2 a e) = (r : EReal) := by
  obtain ⟨x, hx⟩ := angle_real pos a e
  exact ⟨Real.cos x, congrArg Ideal.cos hx⟩
theorem sin_real (pos : IVec S4096 32) (a : Fin 4096) (e : Fin 32) :
    ∃ r : ℝ, (Host.sin (angle pos) : FVec Ideal S4096x32 .f32) (ix2 a e) = (r : EReal) := by
  obtain ⟨x, hx⟩ := angle_real pos a e
  exact ⟨Real.sin x, congrArg Ideal.sin hx⟩

theorem beside_congr {u u' : Fin 512 → EReal} {v v' : Fin 256 → EReal} {n n' f f' : Fin 32 → EReal} (hu : ∀ k, u k = u' k) (hv : ∀ k, v k = v' k)
    (hn : ∀ k, n k = n' k) (hf : ∀ k, f k = f' k) (j : Fin 832) : beside u v n f j = beside u' v' n' f' j := by
  rw [funext hu, funext hv, funext hn, funext hf]

end Cert.MidMath

namespace Cert

open Cert.MidIdeal.Value Cert.MidRefIdeal.Value Cert.MidMath Cert.Reals Cert.NormMath

section
variable (x0 : IVec Pre_mid_finite.S4096 32) (x1 : FVec Ideal Pre_mid_finite.S4096x832 .f32) (x2 : FVec Ideal Pre_mid_finite.S512 .f32) (x3 : FVec Ideal Pre_mid_finite.S256 .f32) (x4 : FVec Ideal Pre_mid_finite.S512x1536 .f32) (x5 : FVec Ideal Pre_mid_finite.S256x2048 .f32) (x6 : FVec Ideal Pre_mid_finite.S8x4096x192 .f32) (x7 : FVec Ideal Pre_mid_finite.S8x4096x192 .f32) (x8 : FVec Ideal Pre_mid_finite.S8x4096x128 .f32)
  [Pre_mid_finite.Facts]

theorem mid_projection_real (p : (Pre_mid_finite.fn (F := Ideal) x0 x1 x2 x3 x4 x5 x6 x7 x8).1 = fun _ => 1#1) (a : Fin 4096) (b : Fin 832) : ∃ r : ℝ, x1 (ix2 a b) = (r : EReal) := by
  refine real_of_finite _ ?_
  have := congrFun p (ix2 a b)
  unfold Pre_mid_finite.fn Pre_mid_finite.fn_part1 at this
  pointwise [top_f32] at this
  exact this

theorem mid_query_gain_real (p : (Pre_mid_finite.fn (F := Ideal) x0 x1 x2 x3 x4 x5 x6 x7 x8).2.1 = fun _ => 1#1) (a : Fin 512) : ∃ r : ℝ, x2 (ix1 a) = (r : EReal) := by
  refine real_of_finite _ ?_
  have := congrFun p (ix1 a)
  unfold Pre_mid_finite.fn Pre_mid_finite.fn_part1 at this
  pointwise [top_f32] at this
  exact this

theorem mid_key_gain_real (p : (Pre_mid_finite.fn (F := Ideal) x0 x1 x2 x3 x4 x5 x6 x7 x8).2.2.1 = fun _ => 1#1) (a : Fin 256) : ∃ r : ℝ, x3 (ix1 a) = (r : EReal) := by
  refine real_of_finite _ ?_
  have := congrFun p (ix1 a)
  unfold Pre_mid_finite.fn Pre_mid_finite.fn_part1 at this
  pointwise [top_f32] at this
  exact this

theorem mid_query_weight_real (p : (Pre_mid_finite.fn (F := Ideal) x0 x1 x2 x3 x4 x5 x6 x7 x8).2.2.2.1 = fun _ => 1#1) (a : Fin 512) (b : Fin 1536) : ∃ r : ℝ, x4 (ix2 a b) = (r : EReal) := by
  refine real_of_finite _ ?_
  have := congrFun p (ix2 a b)
  unfold Pre_mid_finite.fn Pre_mid_finite.fn_part1 at this
  pointwise [top_f32] at this
  exact this

theorem mid_key_weight_real (p : (Pre_mid_finite.fn (F := Ideal) x0 x1 x2 x3 x4 x5 x6 x7 x8).2.2.2.2.1 = fun _ => 1#1) (a : Fin 256) (b : Fin 2048) : ∃ r : ℝ, x5 (ix2 a b) = (r : EReal) := by
  refine real_of_finite _ ?_
  have := congrFun p (ix2 a b)
  unfold Pre_mid_finite.fn Pre_mid_finite.fn_part1 at this
  pointwise [top_f32] at this
  exact this

theorem mid_queries_real (p : (Pre_mid_finite.fn (F := Ideal) x0 x1 x2 x3 x4 x5 x6 x7 x8).2.2.2.2.2.1 = fun _ => 1#1) (a : Fin 8) (b : Fin 4096) (c : Fin 192) : ∃ r : ℝ, x6 (ix3 a b c) = (r : EReal) := by
  refine real_of_finite _ ?_
  have := congrFun p (ix3 a b c)
  unfold Pre_mid_finite.fn Pre_mid_finite.fn_part1 at this
  pointwise [top_f32] at this
  exact this

theorem mid_keys_real (p : (Pre_mid_finite.fn (F := Ideal) x0 x1 x2 x3 x4 x5 x6 x7 x8).2.2.2.2.2.2.1 = fun _ => 1#1) (a : Fin 8) (b : Fin 4096) (c : Fin 192) : ∃ r : ℝ, x7 (ix3 a b c) = (r : EReal) := by
  refine real_of_finite _ ?_
  have := congrFun p (ix3 a b c)
  unfold Pre_mid_finite.fn Pre_mid_finite.fn_part1 at this
  pointwise [top_f32] at this
  exact this

theorem mid_values_real (p : (Pre_mid_finite.fn (F := Ideal) x0 x1 x2 x3 x4 x5 x6 x7 x8).2.2.2.2.2.2.2 = fun _ => 1#1) (a : Fin 8) (b : Fin 4096) (c : Fin 128) : ∃ r : ℝ, x8 (ix3 a b c) = (r : EReal) := by
  refine real_of_finite _ ?_
  have := congrFun p (ix3 a b c)
  unfold Pre_mid_finite.fn Pre_mid_finite.fn_part1 at this
  pointwise [top_f32] at this
  exact this
end

/-- The kernel's five gradients are the reference's, at finite arguments. -/
theorem mid_algebraic [hPre : Pre_mid_finite.Facts] : algebraic_MidIdeal_MidRefIdeal_pre_mid_finite := by
  intro m g m' g' hpre hag
  refine ⟨fun c => QUERIES (aDq m c) (aCos m c) (aSin m c), fun c => KEYS (aDk m c) (aDv m c), fun c => aPROJ m c,
    fun c => GAINQ (aProj m c) (aUpQ m c) (aDq m c) (aCos m c) (aSin m c), fun c => GAINK (aProj m c) (aUpK m c) (aDk m c) (aDv m c), ?_, ?_⟩
  · refine (θ_run _ _ _).mono (fun r h c => ?_) (MidIdeal.Value.run_blocks m g)
    obtain ⟨h0, h1, h2, h3, h4, hu⟩ := h c
    exact ⟨h0.trans (final10 m c), h1.trans (final11 m c), h2.trans (final12 m c), h3.trans (final13 m c), h4.trans (final14 m c), hu⟩
  · refine (θ_run _ _ _).mono (fun r h c => ?_) (MidRefIdeal.Value.run m' g')
    obtain ⟨h0, h1, h2, h3, h4, hu⟩ := h c
    obtain ⟨p1, p2, p3, p4, p5, p6, p7, p8⟩ := hpre c
    obtain ⟨e0, e1, e2, e3, e4, e5, e6, e7, e8⟩ := hag c
    let V0 := Idealize.ShloMosaic.StableHlo.launchContents m' c
    have E1 : proj V0 = aProj m c := e1
    have E2 : gainQ V0 = aGainQ m c := e2
    have E3 : gainK V0 = aGainK m c := e3
    have E4 : upQ V0 = aUpQ m c := e4
    have E5 : upK V0 = aUpK m c := e5
    have E6 : dq V0 = aDq m c := e6
    have E7 : dk V0 = aDk m c := e7
    have E8 : dv V0 = aDv m c := e8
    have EC : cosine V0 = aCos m c := congrArg (fun pos => Host.cos (angle pos)) e0
    have ES : sine V0 = aSin m c := congrArg (fun pos => Host.sin (angle pos)) e0
    have RQ : ∀ a, rowQL V0 a = rowQA (aProj m c) a := fun a => by rw [← E1]; rfl
    have RK : ∀ a, rowKL V0 a = rowKA (aProj m c) a := fun a => by rw [← E1]; rfl
    have GQ : ∀ a, gradQL V0 a = gradQA (aUpQ m c) (aDq m c) (aCos m c) (aSin m c) a := fun a => by rw [← E4, ← E6, ← EC, ← ES]; rfl
    have GK : ∀ a, gradKL V0 a = gradKA (aUpK m c) (aDk m c) (aDv m c) a := fun a => by rw [← E5, ← E7, ← E8]; rfl
    have N : ∀ a e, nearL V0 a e = nearA (aDk m c) a e := fun a e => by rw [← E7]; rfl
    have F : ∀ a e, farL V0 a e = farA (aDk m c) a e := fun a e => by rw [← E7]; rfl
    refine ⟨h0.trans (funext fun i => ?_), h1.trans (funext fun i => ?_), h2.trans (funext fun i => ?_), h3.trans (funext fun i => ?_),
      h4.trans (funext fun i => ?_), hu⟩
    · obtain ⟨a, j, rfl⟩ : ∃ (a : Fin 4096) (j : Fin 1536), i = ix2 a j := ⟨i 0, i 1, eq_ix2 i⟩
      refine (v133_apply V0 a j).trans ?_
      rw [E6, EC, ES]
      rfl
    · obtain ⟨a, j, rfl⟩ : ∃ (a : Fin 4096) (j : Fin 2048), i = ix2 a j := ⟨i 0, i 1, eq_ix2 i⟩
      refine (v132_apply V0 a j).trans ?_
      rw [E7, E8]
      rfl
    · obtain ⟨a, j, rfl⟩ : ∃ (a : Fin 4096) (j : Fin 832), i = ix2 a j := ⟨i 0, i 1, eq_ix2 i⟩
      refine (projLines_apply V0 a j).trans ?_
      simp only [RQ, RK, GQ, GK, N, F, E2, E3, EC, ES]
      have GQr : ∀ k, ∃ r : ℝ, gradQA (aUpQ m c) (aDq m c) (aCos m c) (aSin m c) a k = (r : EReal) := fun k =>
        product_real _ _ (fun j => turned_real _ _ _ (fun e => mid_queries_real _ _ _ _ _ _ _ _ _ p6 _ _ _) (fun e => cos_real _ a e) (fun e => sin_real _ a e) _)
          (fun j => mid_query_weight_real _ _ _ _ _ _ _ _ _ p4 k j)
      have GKr : ∀ k, ∃ r : ℝ, gradKA (aUpK m c) (aDk m c) (aDv m c) a k = (r : EReal) := fun k =>
        product_real _ _ (fun j => cols_real _ _ (fun e => mid_keys_real _ _ _ _ _ _ _ _ _ p7 _ _ _) (fun e => mid_values_real _ _ _ _ _ _ _ _ _ p8 _ _ _) _)
          (fun j => mid_key_weight_real _ _ _ _ _ _ _ _ _ p5 k j)
      have RQr : ∀ k, ∃ r : ℝ, rowQA (aProj m c) a k = (r : EReal) := fun k => mid_projection_real _ _ _ _ _ _ _ _ _ p1 a _
      have RKr : ∀ k, ∃ r : ℝ, rowKA (aProj m c) a k = (r : EReal) := fun k => mid_projection_real _ _ _ _ _ _ _ _ _ p1 a _
      have Qr : ∀ k : Fin 512, ∃ r : ℝ, aGainQ m c (ix1 k) = (r : EReal) := fun k => mid_query_gain_real _ _ _ _ _ _ _ _ _ p2 k
      have Kr : ∀ k : Fin 256, ∃ r : ℝ, aGainK m c (ix1 k) = (r : EReal) := fun k => mid_key_gain_real _ _ _ _ _ _ _ _ _ p3 k
      choose gq hgq using GQr
      choose gk hgk using GKr
      choose rq hrq using RQr
      choose rk hrk using RKr
      choose q hq using Qr
      choose k hk using Kr
      show _ = projAt (aProj m c) (aGainQ m c) (aGainK m c) (aUpQ m c) (aUpK m c) (aDq m c) (aDk m c) (aDv m c) (aCos m c) (aSin m c) a j
      unfold projAt
      refine beside_congr (fun i => ?_) (fun i => ?_) (fun e => add_comm _ _) (fun e => ?_) j
      · exact terms_pulled 512 (by norm_num) _ _ _ rq q gq hrq hq hgq i
      · exact terms_pulled 256 (by norm_num) _ _ _ rk k gk hrk hk hgk i
      rw [EReal.neg_mul, ← sub_eq_add_neg]
    · obtain ⟨k, rfl⟩ : ∃ (k : Fin 512), i = ix2 0 k := ⟨i 1, by rw [eq_ix2 i]; congr 1; exact Subsingleton.elim _ _⟩
      refine (gainQLines_apply V0 k).trans ?_
      simp only [RQ, GQ]
      rfl
    · obtain ⟨k, rfl⟩ : ∃ (k : Fin 256), i = ix2 0 k := ⟨i 1, by rw [eq_ix2 i]; congr 1; exact Subsingleton.elim _ _⟩
      refine (gainKLines_apply V0 k).trans ?_
      simp only [RK, GK]
      rfl

end Cert

end
-- ==== Proof.UpIdealRun.lean ====
module

public import proofs.«01_k».proof.Proof.Gen.UpIdeal.Frame
public import proofs.«01_k».proof.Proof.Gen.UpIdeal.Skeleton
public import Idealize.ShloMosaic.Lib.Pipeline.ValueKit

/-! The body of the channel mixer's first call, on any buffers: what it leaves in its two outputs at a row block's first
column step and at every other step. -/

@[expose] public section

set_option maxRecDepth 16384
set_option Elab.async false

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

abbrev Res {F : FTy → Type} := MT nD τ sig Unit (Elt F) ℕ (UR sig nD τ) ℕ

section
variable (c : Dev nD) (i : grid0.Coords)
  (a0 : Memref sig .tc .vmem S2048x1024 .f32) (h0 : a0.IsWhole) (a1 : Memref sig .tc .vmem S1x1024 .f32) (h1 : a1.IsWhole)
  (a2 : Memref sig .tc .vmem S1024x1024 .bf16) (h2 : a2.IsWhole) (a3 : Memref sig .tc .vmem S2048x1024 .bf16) (h3 : a3.IsWhole)
  (a4 : Memref sig .tc .vmem S2048x1024 .bf16) (h4 : a4.IsWhole)
  (x0 : Vec F S2048x1024 .f32) (x1 : Vec F S1x1024 .f32) (x2 : Vec F S1024x1024 .bf16)

/-- The inputs' buffers, at their blocks. -/
abbrev inputs : sProp (Res (F := F)) :=
  iprop(owns (c : Thread nD τ) a0 fullShare x0 ∗ owns (c : Thread nD τ) a1 fullShare x1 ∗ owns (c : Thread nD τ) a2 fullShare x2)
/-- The outputs' buffers, at given contents. -/
abbrev outputs (y3 y4 : Vec F S2048x1024 .bf16) : sProp (Res (F := F)) :=
  iprop(owns (c : Thread nD τ) a3 fullShare y3 ∗ owns (c : Thread nD τ) a4 fullShare y4)

set_option maxHeartbeats 1000000 in
/-- A row block's first step: its norm is stored, then the squares. -/
theorem runA (hc : k0_cond1 i = 1#1) (E : Set ℕ) (K : PUnit → sProp (Res (F := F))) :
    iprop(inputs c a0 a1 a2 x0 x1 x2 ∗ (∃ d, owns (c : Thread nD τ) a3 fullShare d) ∗ (∃ d, owns (c : Thread nD τ) a4 fullShare d)
        ∗ (iprop(inputs c a0 a1 a2 x0 x1 x2 ∗ outputs c a3 a4 (k0_pay1 x0 x1) (k0_pay2 (k0_pay1 x0 x1) x2)) -∗ K ⟨⟩))
      ⊢ wp frame (wpE (defs₀ (F := F)) Variants.none c none) E (cc0_up i a0 h0 a1 h1 a2 h2 a3 h3 a4 h4) K := by
  simp only [cc0_up_eq_skeleton]; unfold cc0_up_skel
  unfold inputs outputs owns
  iintro ⟨⟨⟨%f0, %e0, H0⟩, ⟨%f1, %e1, H1⟩, ⟨%f2, %e2, H2⟩⟩, ⟨%d3, %f3, -, H3⟩, ⟨%d4, %f4, -, H4⟩, Hk⟩
  obtain rfl := h0.eq_unread e0; obtain rfl := h1.eq_unread e1; obtain rfl := h2.eq_unread e2
  sl_exec (disch := sl_exact hc)
  sl_step
  iapply Hk
  isplitl [H0 H1 H2]
  · isplitl [H0]
    · iexists _; isplitr; · ipureintro; exact h0.read_unread _
      iexact H0
    isplitl [H1]
    · iexists _; isplitr; · ipureintro; exact h1.read_unread _
      iexact H1
    iexists _; isplitr; · ipureintro; exact h2.read_unread _
    iexact H2
  isplitl [H3]
  · iexists _; isplitr; swap; · iexact H3
    ipureintro
    refine (View.read_writes_eq_canon _ _ _ (fun y => View.cover_of_tiledL _ S2048x1024.size (by sl_kernel_rfl) y)).trans ?_
    frame_out
  iexists _; isplitr; swap; · iexact H4
  ipureintro
  refine (View.read_writes_eq_canon _ _ _ (fun y => View.cover_of_tiledL _ S2048x1024.size (by sl_kernel_rfl) y)).trans ?_
  frame_out

set_option maxHeartbeats 1000000 in
/-- Every other step: the norm is read back, the squares are stored. -/
theorem runB (hc : ¬k0_cond1 i = 1#1) (y3 : Vec F S2048x1024 .bf16) (E : Set ℕ) (K : PUnit → sProp (Res (F := F))) :
    iprop(inputs c a0 a1 a2 x0 x1 x2 ∗ owns (c : Thread nD τ) a3 fullShare y3 ∗ (∃ d, owns (c : Thread nD τ) a4 fullShare d)
        ∗ (iprop(inputs c a0 a1 a2 x0 x1 x2 ∗ outputs c a3 a4 y3 (k0_pay2 y3 x2)) -∗ K ⟨⟩))
      ⊢ wp frame (wpE (defs₀ (F := F)) Variants.none c none) E (cc0_up i a0 h0 a1 h1 a2 h2 a3 h3 a4 h4) K := by
  simp only [cc0_up_eq_skeleton]; unfold cc0_up_skel
  unfold inputs outputs owns
  iintro ⟨⟨⟨%f0, %e0, H0⟩, ⟨%f1, %e1, H1⟩, ⟨%f2, %e2, H2⟩⟩, ⟨%f3, %e3, H3⟩, ⟨%d4, %f4, -, H4⟩, Hk⟩
  obtain rfl := h0.eq_unread e0; obtain rfl := h1.eq_unread e1; obtain rfl := h2.eq_unread e2; obtain rfl := h3.eq_unread e3
  sl_exec (disch := sl_exact hc)
  sl_step
  iapply Hk
  isplitl [H0 H1 H2]
  · isplitl [H0]
    · iexists _; isplitr; · ipureintro; exact h0.read_unread _
      iexact H0
    isplitl [H1]
    · iexists _; isplitr; · ipureintro; exact h1.read_unread _
      iexact H1
    iexists _; isplitr; · ipureintro; exact h2.read_unread _
    iexact H2
  isplitl [H3]
  · iexists _; isplitr; · ipureintro; exact h3.read_unread _
    iexact H3
  iexists _; isplitr; swap; · iexact H4
  ipureintro
  refine (View.read_writes_eq_canon _ _ _ (fun y => View.cover_of_tiledL _ S2048x1024.size (by sl_kernel_rfl) y)).trans ?_
  frame_out

end

end Cert.UpIdeal.Gen

end
-- ==== Proof.UpIdealFrame.lean ====
module

public import proofs.«01_k».proof.Proof.UpIdealRun
public import Idealize.ShloMosaic.Lib.Pipeline.TableIdle
public import Idealize.ShloMosaic.Lib.Claim

/-! The channel mixer's first call from launch to end: what its buffers hold after each step, and the run of the whole program
from any memory. A row block's norm is stored at its first step and read back at the three after it. -/

@[expose] public section

set_option maxRecDepth 16384
set_option Elab.async false

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

theorem row_step : ∀ t : Fin cfg0.N, k0_cond1 (cfg0.grid.coords t) = 1#1 ↔ t.val % 4 = 0 :=
  (by decide +kernel : ∀ t : Fin grid0.N, k0_cond1 (grid0.coords t) = 1#1 ↔ t.val % 4 = 0)
theorem idle3 : ∀ t : Fin cfg0.N, cfg0.idle 3 (cfg0.grid.coords t) = !decide (t.val % 4 = 0) :=
  (by decide +kernel : ∀ t : Fin grid0.N, cfg0.idle 3 (grid0.coords t) = !decide (t.val % 4 = 0))
theorem fresh3 (t : Fin cfg0.N) : cfg0.fresh 3 t.val = decide (t.val % 4 = 0) :=
  Pipeline.Cfg.fresh_tab cfg0 3 (fun n => decide (n % 4 = 0)) rfl
    (by decide +kernel : ∀ t : Fin cfg0.N, decide ((t.val + 1) % 4 = 0)
      = ((cfg0.win 3).flush t || (cfg0.idle 3 (cfg0.grid.coords t) && decide (t.val % 4 = 0)))) t.val (Nat.le_of_lt t.isLt)

/-- The first step of row block `n`. -/
def head (n : ℕ) : Fin cfg0.N := ⟨4 * n % 8, lt_of_lt_of_eq (Nat.mod_lt _ (by decide)) N_0.symm⟩

theorem head_of (t : Fin cfg0.N) (h : t.val % 4 = 0) : head (t.val / 4) = t := by
  have : t.val < 8 := lt_of_lt_of_eq t.isLt N_0
  apply Fin.ext; show 4 * (t.val / 4) % 8 = t.val; omega

/-- A row block's norm. -/
def normOut (c : Dev nD) (n : ℕ) : Vec F S2048x1024 .bf16 := k0_pay1 (iblk m c 0 (head n)) (iblk m c 1 (head n))
/-- A step's block of the squares. -/
def squareOut (c : Dev nD) (t : Fin cfg0.N) : Vec F S2048x1024 .bf16 := k0_pay2 (normOut m c (t.val / 4)) (iblk m c 2 t)

/-- The data of the call's steps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => normOut m c (t.val / 4)
    | ⟨4, _⟩ => squareOut m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = normOut m c (t.val / 4) := by dsimp only [dats]
theorem after4 (c : Dev nD) (t : Fin cfg0.N) : (dats m 0 c).after 4 t = squareOut m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Within a row block the norm is still there. -/
theorem before3 (c : Dev nD) (t : Fin cfg0.N) (h : t.val % 4 ≠ 0) (d) : (dats m 0 c).before 3 t d = normOut m c (t.val / 4) := by
  rw [Dat.before_out_traj _ 3 rfl (fun _ _ => rfl) (fun t h0 hi _ => by
      rw [idle3] at hi
      have h4 : t.val % 4 ≠ 0 := by simpa using hi
      rw [after3, after3]; congr 1; show t.val / 4 = (t.val - 1) / 4; omega) t.val t rfl d,
    fresh3, decide_eq_false h, if_neg Bool.false_ne_true, after3]
  congr 1; show (t.val - 1) / 4 = t.val / 4; omega

/-- Held before a step. -/
def stepPre (c : Dev nD) (t : Fin cfg0.N) : sProp (Res (F := F)) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- Held after it. -/
def stepPost (c : Dev nD) (t : Fin cfg0.N) : sProp (Res (F := F)) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)
/-- The buffers with every window at its recorded contents. -/
def held (c : Dev nD) (t : Fin cfg0.N) : sProp (Res (F := F)) :=
  iprop((dats m 0 c).Φ t.castSucc ∗ (dats m 0 c).owesAt () t.castSucc
    ∗ inputs c (st0_0 t) (st0_1 t) (st0_2 t) (iblk m c 0 t) (iblk m c 1 t) (iblk m c 2 t)
    ∗ outputs c (st0_3 t) (st0_4 t) (normOut m c (t.val / 4)) (squareOut m c t))

/-- The norm's buffer at its recorded contents is what the step owes, stored to or not. -/
theorem leaves3 (c : Dev nD) (t : Fin cfg0.N) : owns (c : Thread nD τ) (st0_3 t) fullShare (normOut m c (t.val / 4)) ⊢ (dats m 0 c).leavesExact 3 t := by
  by_cases h : t.val % 4 = 0
  · unfold Dat.leavesExact; rw [idle3 t, decide_eq_true h]; exact .of_eq (by rw [← after3]; rfl)
  · cases hf : (cfg0.win 3).flush t with
    | false =>
      rw [Dat.leavesExact_idle _ 3 t (by rw [idle3, decide_eq_false h]; rfl) hf]
      iintro H; iexists (normOut m c 0); rw [before3 m c t h]; iexact H
    | true => unfold Dat.leavesExact; rw [idle3 t, decide_eq_false h]; simp only [Bool.not_false, hf]; exact .of_eq (by rw [← after3])

theorem post_of_held (c : Dev nD) (t : Fin cfg0.N) : held m c t ⊢ stepPost m c t := by
  unfold held stepPost inputs outputs
  rw [show (dats m 0 c).Φ t.succ = (dats m 0 c).Φ t.castSucc from rfl, show (dats m 0 c).owesAt () t.succ = (dats m 0 c).owesAt () t.castSucc from rfl]
  iintro ⟨HΦ, Ho, ⟨H0, H1, H2⟩, H3, H4⟩
  isplitl [HΦ]; · iexact HΦ
  isplitl [Ho]; · iexact Ho
  isplitl [H0]; · iexact H0
  isplitl [H1]; · iexact H1
  isplitl [H2]; · iexact H2
  isplitl [H3]; · iapply (leaves3 m c t); iexact H3
  iexact H4

theorem sound_body (c : Dev nD) (t : Fin cfg0.N) :
    stepPre m c t ⊢ wp frame (wpE (defs₀ (F := F)) Variants.none c none) Set.univ (bodyAt0 t) (fun _ => stepPost m c t) := by
  refine BI.BIBase.Entails.trans ?_ ((wp frame (wpE (defs₀ (F := F)) Variants.none c none) Set.univ (bodyAt0 t)).mono fun _ => post_of_held m c t)
  unfold stepPre held bodyAt0
  simp only [before0, before1, before2]
  iintro ⟨HΦ, Ho, ⟨%d0, H0⟩, ⟨%d1, H1⟩, ⟨%d2, H2⟩, ⟨%d3, H3⟩, ⟨%d4, H4⟩⟩
  by_cases h : t.val % 4 = 0
  · have hr : normOut m c (t.val / 4) = k0_pay1 (iblk m c 0 t) (iblk m c 1 t) := by unfold normOut; rw [head_of t h]
    unfold squareOut
    rw [hr]
    iapply (runA c (cfg0.grid.coords t) _ _ _ _ _ _ _ _ _ _ (iblk m c 0 t) (iblk m c 1 t) (iblk m c 2 t) ((row_step t).mpr h) Set.univ _)
    isplitl [H0 H1 H2]
    · unfold inputs
      isplitl [H0]; · iexact H0
      isplitl [H1]; · iexact H1
      iexact H2
    isplitl [H3]; · iexists _; iexact H3
    isplitl [H4]; · iexists _; iexact H4
    iintro ⟨HI, HO⟩
    isplitl [HΦ]; · iexact HΦ
    isplitl [Ho]; · iexact Ho
    isplitl [HI]; · iexact HI
    iexact HO
  · unfold squareOut
    rw [before3 m c t h]
    iapply (runB c (cfg0.grid.coords t) _ _ _ _ _ _ _ _ _ _ (iblk m c 0 t) (iblk m c 1 t) (iblk m c 2 t) (fun h' => h ((row_step t).mp h')) _ Set.univ _)
    isplitl [H0 H1 H2]
    · unfold inputs
      isplitl [H0]; · iexact H0
      isplitl [H1]; · iexact H1
      iexact H2
    isplitl [H3]; · iexact H3
    isplitl [H4]; · iexists _; iexact H4
    iintro ⟨HI, HO⟩
    isplitl [HΦ]; · iexact HΦ
    isplitl [Ho]; · iexact Ho
    isplitl [HI]; · iexact HI
    iexact HO

theorem row_of_body (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, row_of_body]
  exact triple_restated (sound_body m c t) rfl .rfl fun _ => .rfl

/-! ## The whole program's run -/

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every array of the call at what the steps leave, every other buffer as the host lines left it. -/
theorem run_main : θ_run defs (onTc (τ := τ) (main (F := F))) (s₀ m ρ) (Pipeline.FramePost cfgs (dats m) 0 (V m)) :=
  (θ_run defs _ _).mono (fun _ h => h.1) (run_main_quiescent m ρ)

/-- The program runs to its end from any memory, its arguments unchanged and no signal pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.UpIdeal.Gen

end
-- ==== Proof.UpForward.lean ====
module

public import proofs.«01_k».proof.Proof.UpIdealFrame
public import proofs.«01_k».proof.Proof.Gen.UpRefIdeal.Run
public import proofs.«01_k».proof.Proof.DownForward
public import proofs.«01_k».proof.Defs
public import Idealize.ShloMosaic.Lib.Pipeline.ValueKit
public import Idealize.ShloMosaic.Lib.Pointwise
public import Idealize.ShloMosaic.Lib.IdealHost
public import Idealize.ShloMosaic.Lib.StableHlo.RunRead
public import Idealize.ShloMosaic.Lib.Claim

/-! The norm before the channel mixer with the mixer's first product, forwards: the norm and the squares are the reference's. -/

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen Cert.Reals Cert.NormMath

variable (m : (ℓ : Loc nD τ sig) → Buf (Elt Ideal) ℓ)

/-- Every window's block index, by the grid point's number. -/
theorem idx : ∀ t : Fin cfg0.N, win0_0.index t = ![t.val / 4, 0] ∧ win0_1.index t = ![0, 0] ∧ win0_2.index t = ![0, t.val % 4]
    ∧ win0_3.index t = ![t.val / 4, 0] ∧ win0_4.index t = ![t.val / 4, t.val % 4] :=
  (by decide +kernel : ∀ t : Fin grid0.N, _)

section
variable (h : FVec Ideal S4096x1024 .f32) (g : FVec Ideal S1024 .f32) (w : FVec Ideal S1024x4096 .f32)

/-- A row's norm, with its gain. -/
def normed (a : Fin 4096) (k : Fin 1024) : EReal := h (ix2 a k) * root ((1024 : ℝ) : EReal) (fun k : Fin 1024 => h (ix2 a k)) * g (ix1 k)
/-- The square of the product's positive part. -/
def squared (a x : Fin 4096) : EReal :=
  max (∑ k : Fin 1024, normed h g a k * w (ix2 k x)) 0 * max (∑ k : Fin 1024, normed h g a k * w (ix2 k x)) 0
abbrev NORM : FVec Ideal S4096x1024 .bf16 := fun i => normed h g (i 0) (i 1)
abbrev SQUARE : FVec Ideal S4096x4096 .bf16 := fun i => squared h g w (i 0) (i 1)
end

variable (c : Dev nD)

theorem V_v0 : V m c main_v0 = shapeCast S1x1024 (m ((c : Thread nD τ).loc main_arg1)) shapeCasts_S1024_S1x1024 := by
  unfold V; after_reads_simp; rfl
theorem V_v1 : V m c main_v1 = truncf (F := Ideal) .bf16 (m ((c : Thread nD τ).loc main_arg2) : FVec Ideal S1024x4096 .f32) bitsLt_bf16_f32 := by
  unfold V; after_reads_simp

/-! ### The stored values -/

theorem pay1_apply (x : FVec Ideal S2048x1024 .f32) (g : FVec Ideal S1x1024 .f32) (a : Fin 2048) (k : Fin 1024) :
    (k0_pay1 (F := Ideal) x g : _ → EReal) (ix2 a k) = x (ix2 a k) * root ((1024 : ℝ) : EReal) (fun k : Fin 1024 => x (ix2 a k)) * g (ix2 0 k) := by
  unfold k0_pay1 root
  pointwise [row_f32, eps_f32]

theorem pay2_apply (x : FVec Ideal S2048x1024 .bf16) (w : FVec Ideal S1024x1024 .bf16) (a : Fin 2048) (j : Fin 1024) :
    (k0_pay2 (F := Ideal) x w : _ → EReal) (ix2 a j)
      = max (∑ k : Fin 1024, x (ix2 a k) * w (ix2 k j)) 0 * max (∑ k : Fin 1024, x (ix2 a k) * w (ix2 k j)) 0 := by
  unfold k0_pay2
  pointwise

/-! ### The blocks -/

/-- A row and a column of a block as those of the array. -/
def row (n : ℕ) (hn : n < 2) (a : Fin 2048) : Fin 4096 := ⟨n * 2048 + a.val, by have := a.isLt; omega⟩
def col (t : Fin cfg0.N) (x : Fin 1024) : Fin 4096 := ⟨t.val % 4 * 1024 + x.val, by have := x.isLt; omega⟩
theorem lt2 (t : Fin cfg0.N) : t.val / 4 < 2 := by have : t.val < 8 := lt_of_lt_of_eq t.isLt N_0; omega

theorem blk0 (t : Fin cfg0.N) (a : Fin 2048) (k : Fin 1024) : (iblk m c 0 t : _ → EReal) (ix2 a k)
    = m ((c : Thread nD τ).loc main_arg0) (ix2 (row (t.val / 4) (lt2 t) a) k) := by
  blk_point [iblk, idx t, row, V_main_arg0]
theorem blk1 (t : Fin cfg0.N) (k : Fin 1024) : (iblk m c 1 t : _ → EReal) (ix2 0 k) = m ((c : Thread nD τ).loc main_arg1) (ix1 k) := by
  blk_point [iblk, idx t, V_v0]
theorem blk2 (t : Fin cfg0.N) (k x : Fin 1024) : (iblk m c 2 t : _ → EReal) (ix2 k x) = m ((c : Thread nD τ).loc main_arg2) (ix2 k (col t x)) := by
  blk_point [iblk, idx t, col, V_v1]
theorem blk3 (t : Fin cfg0.N) (a : Fin 2048) (k : Fin 1024) (X : FVec Ideal S4096x1024 .bf16) :
    X (((View.whole main_v2_0).slice (win0_3.rect t)).emb (ix2 a k)) = X (ix2 (row (t.val / 4) (lt2 t) a) k) := by
  blk_point [idx t, row]
theorem blk4 (t : Fin cfg0.N) (a : Fin 2048) (x : Fin 1024) (X : FVec Ideal S4096x4096 .bf16) :
    X (((View.whole main_v2_1).slice (win0_4.rect t)).emb (ix2 a x)) = X (ix2 (row (t.val / 4) (lt2 t) a) (col t x)) := by
  blk_point [idx t, row, col]

/-! ### The final arrays -/

theorem norm_blk (t : Fin cfg0.N) (a : Fin 2048) (k : Fin 1024) : (normOut m c (t.val / 4) : _ → EReal) (ix2 a k)
    = normed (m ((c : Thread nD τ).loc main_arg0)) (m ((c : Thread nD τ).loc main_arg1)) (row (t.val / 4) (lt2 t) a) k := by
  have e : (head (t.val / 4)).val / 4 = t.val / 4 := by
    have := lt2 t
    show 4 * (t.val / 4) % 8 / 4 = t.val / 4; omega
  have r : ∀ b : Fin 2048, row ((head (t.val / 4)).val / 4) (lt2 _) b = row (t.val / 4) (lt2 t) b := fun b => Fin.ext (by unfold row; simp only [e])
  unfold normOut
  rw [pay1_apply]
  simp only [blk0, blk1, r]
  rfl

theorem square_blk (t : Fin cfg0.N) (a : Fin 2048) (x : Fin 1024) : (squareOut m c t : _ → EReal) (ix2 a x)
    = squared (m ((c : Thread nD τ).loc main_arg0)) (m ((c : Thread nD τ).loc main_arg1)) (m ((c : Thread nD τ).loc main_arg2))
      (row (t.val / 4) (lt2 t) a) (col t x) := by
  unfold squareOut
  rw [pay2_apply]
  simp only [norm_blk, blk2]
  rfl

theorem final3 : (dats m 0 c).arrAt 3 cfg0.N = NORM (m ((c : Thread nD τ).loc main_arg0)) (m ((c : Thread nD τ).loc main_arg1)) := by
  refine (dats m 0 c).arrAt_eq_of_covers 3 _ (by decide +kernel) fun t _ y => ?_
  blk_simp
  rw [after3]
  obtain ⟨a, k, rfl⟩ : ∃ (a : Fin 2048) (k : Fin 1024), y = ix2 a k := ⟨y 0, y 1, eq_ix2 y⟩
  exact (norm_blk m c t a k).trans (blk3 t a k (NORM (m ((c : Thread nD τ).loc main_arg0)) (m ((c : Thread nD τ).loc main_arg1)))).symm

theorem final4 : (dats m 0 c).arrAt 4 cfg0.N
    = SQUARE (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after4]
  obtain ⟨a, x, rfl⟩ : ∃ (a : Fin 2048) (x : Fin 1024), y = ix2 a x := ⟨y 0, y 1, eq_ix2 y⟩
  exact (square_blk m c t a x).trans (blk4 t a x (SQUARE (m ((c : Thread nD τ).loc main_arg0)) (m ((c : Thread nD τ).loc main_arg1))
    (m ((c : Thread nD τ).loc main_arg2)))).symm

theorem run_blocks (ρ : Dev nD → PrngReg) : θ_run defs (onTc (τ := τ) (main (F := Ideal))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, (h.1 c).1 4, h.2 c⟩)
    (θ_run_and (run_main m ρ) (frame_of m ρ (dats m) (A_eq m) (run_main m ρ)))

end Cert.UpIdeal.Value

namespace Cert.UpRefIdeal.Value

open Cert.UpRefIdeal Cert.UpRefIdeal.Gen Cert.NormLines Cert.DownRefIdeal.Value
open Cert.UpIdeal.Value (normed squared)

section
variable (h : FVec Ideal S4096x1024 .f32) (g : FVec Ideal S1024 .f32) (w : FVec Ideal S1024x4096 .f32)

/-- The product's positive part, as the reference's lines write it. -/
def positiveL (x : FVec Ideal S4096x1024 .f32) : FVec Ideal S4096x4096 .f32 :=
  maximumf (Host.dotGeneral dot_S4096x1024_S1024x4096_S4096x4096_1_0_0_1_n_n none x w)
    (broadcastInDim S4096x4096 ![] bcast_S_S4096x4096 (constant (F := Ideal) S_ .f32 0x00000000#32))

theorem positiveL_apply (X : FVec Ideal S4096x1024 .f32) (a x : Fin 4096) : positiveL w X (ix2 a x) = max (∑ k : Fin 1024, X (ix2 a k) * w (ix2 k x)) 0 := by
  unfold positiveL
  pointwise

theorem squareL_apply (X : FVec Ideal S4096x4096 .f32) (a x : Fin 4096) :
    (truncf (F := Ideal) .bf16 (mulf X X) bitsLt_bf16_f32 : _ → EReal) (ix2 a x) = X (ix2 a x) * X (ix2 a x) := by
  pointwise

theorem squared_eq (a x : Fin 4096) :
    (truncf (F := Ideal) .bf16 (mulf (positiveL w (normedL h g)) (positiveL w (normedL h g))) bitsLt_bf16_f32 : _ → EReal) (ix2 a x) = squared h g w a x := by
  rw [squareL_apply, positiveL_apply]
  simp only [normedL_apply]
  rfl
end

end Cert.UpRefIdeal.Value

namespace Cert

open Cert.UpIdeal.Value Cert.UpRefIdeal.Value Cert.DownRefIdeal.Value

/-- The kernel's two results are the reference's. -/
theorem up_algebraic : algebraic_UpIdeal_UpRefIdeal := by
  intro m g m' g' _ hag
  let h (c : Dev UpIdeal.nD) : FVec Ideal UpIdeal.S4096x1024 .f32 := m ((c.tc : Thread UpIdeal.nD UpIdeal.τ).loc UpIdeal.main_arg0)
  let y (c : Dev UpIdeal.nD) : FVec Ideal UpIdeal.S1024 .f32 := m ((c.tc : Thread UpIdeal.nD UpIdeal.τ).loc UpIdeal.main_arg1)
  let w (c : Dev UpIdeal.nD) : FVec Ideal UpIdeal.S1024x4096 .f32 := m ((c.tc : Thread UpIdeal.nD UpIdeal.τ).loc UpIdeal.main_arg2)
  refine ⟨fun c => NORM (h c) (y c), fun c => SQUARE (h c) (y c) (w c), ?_, ?_⟩
  · refine (θ_run _ _ _).mono (fun r hr c => ?_) (UpIdeal.Value.run_blocks m g)
    obtain ⟨h3, h4, hu⟩ := hr c
    exact ⟨h3.trans (final3 m c), h4.trans (final4 m c), hu⟩
  · refine (θ_run _ _ _).mono (fun r hr c => ?_) (UpRefIdeal.Value.run m' g')
    obtain ⟨h0, h1, hu⟩ := hr c
    obtain ⟨e0, e1, e2⟩ := hag c
    refine ⟨h0.trans (funext fun i => ?_), h1.trans (funext fun i => ?_), hu⟩
    · obtain ⟨a, k, rfl⟩ : ∃ (a : Fin 4096) (k : Fin 1024), i = ix2 a k := ⟨i 0, i 1, eq_ix2 i⟩
      show normedL _ _ (ix2 a k) = _
      rw [e0, e1]
      exact normedL_apply (h c) (y c) a k
    · obtain ⟨a, x, rfl⟩ : ∃ (a x : Fin 4096), i = ix2 a x := ⟨i 0, i 1, eq_ix2 i⟩
      rw [e0, e1, e2]
      exact squared_eq (h c) (y c) (w c) a x

end Cert

end
-- ==== Proof.MinForward.lean ====
module

public import proofs.«01_k».proof.Proof.Gen.MinIdeal.Value
public import proofs.«01_k».proof.Proof.Gen.MinRefIdeal.Run
public import proofs.«01_k».proof.Proof.UpForward
public import proofs.«01_k».proof.Defs
public import Idealize.ShloMosaic.Lib.Pipeline.ValueKit
public import Idealize.ShloMosaic.Lib.Pointwise
public import Idealize.ShloMosaic.Lib.IdealHost
public import Idealize.ShloMosaic.Lib.StableHlo.RunRead
public import Idealize.ShloMosaic.Lib.Claim

/-! The norm before the attention and its first product, forwards: both results are the reference's. -/

@[expose] public section

set_option maxRecDepth 16384

noncomputable section

open Idealize.ShloMosaic Idealize.ShloMosaic.TcCoe Idealize.SL.Sem
open Idealize.ShloMosaic.Pipeline (Dat)

namespace Cert.MinIdeal.Value

open Cert.MinIdeal Cert.MinIdeal.Gen Cert.Reals Cert.NormMath
open Cert.UpIdeal.Value (normed NORM)

variable (m : (ℓ : Loc nD τ sig) → Buf (Elt Ideal) ℓ)

/-- Every window's block index, by the grid point's number. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The product's row. -/
def product (h : FVec Ideal S4096x1024 .f32) (g : FVec Ideal S1024 .f32) (w : FVec Ideal S1024x832 .f32) (a : Fin 4096) (x : Fin 832) : EReal :=
  ∑ k : Fin 1024, normed h g a k * w (ix2 k x)
abbrev PRODUCT (h : FVec Ideal S4096x1024 .f32) (g : FVec Ideal S1024 .f32) (w : FVec Ideal S1024x832 .f32) : FVec Ideal S4096x832 .f32 :=
  fun i => product h g w (i 0) (i 1)

variable (c : Dev nD)

abbrev rows : FVec Ideal S4096x1024 .f32 := m ((c : Thread nD τ).loc main_arg0)
abbrev gain : FVec Ideal S1024 .f32 := m ((c : Thread nD τ).loc main_arg1)
abbrev weight : FVec Ideal S1024x832 .f32 := m ((c : Thread nD τ).loc main_arg2)

theorem V_v0 : V m c main_v0 = shapeCast S1x1024 (gain m c) shapeCasts_S1024_S1x1024 := by
  unfold V; after_reads_simp; rfl
theorem V_v1 : V m c main_v1 = truncf (F := Ideal) .bf16 (weight m c) bitsLt_bf16_f32 := by
  unfold V; after_reads_simp

theorem pay1_apply (x : FVec Ideal S512x1024 .f32) (g : FVec Ideal S1x1024 .f32) (a : Fin 512) (k : Fin 1024) :
    (k0_pay1 (F := Ideal) x g : _ → EReal) (ix2 a k) = x (ix2 a k) * root ((1024 : ℝ) : EReal) (fun k : Fin 1024 => x (ix2 a k)) * g (ix2 0 k) := by
  unfold k0_pay1 root
  pointwise [row_f32, eps_f32]

theorem pay2_apply (x : FVec Ideal S512x1024 .bf16) (w : FVec Ideal S1024x832 .bf16) (a : Fin 512) (j : Fin 832) :
    (k0_pay2 (F := Ideal) x w : _ → EReal) (ix2 a j) = ∑ k : Fin 1024, x (ix2 a k) * w (ix2 k j) := by
  unfold k0_pay2
  pointwise

/-! ### The blocks -/

/-- A row of a block as a row of the array. -/
def row (t : Fin cfg0.N) (a : Fin 512) : Fin 4096 := ⟨t.val * 512 + a.val, by have := t.isLt; have : cfg0.N = 8 := N_0; have := a.isLt; omega⟩

variable (t : Fin cfg0.N)

theorem blk0 (a : Fin 512) (k : Fin 1024) : (iblk m c 0 t : _ → EReal) (ix2 a k) = rows m c (ix2 (row t a) k) := by
  blk_point [iblk, idx t, row, V_main_arg0]
theorem blk1 (k : Fin 1024) : (iblk m c 1 t : _ → EReal) (ix2 0 k) = gain m c (ix1 k) := by
  blk_point [iblk, idx t, V_v0]
theorem blk2 (k : Fin 1024) (x : Fin 832) : (iblk m c 2 t : _ → EReal) (ix2 k x) = weight m c (ix2 k x) := by
  blk_point [iblk, idx t, V_v1]
theorem blk3 (a : Fin 512) (k : Fin 1024) (X : FVec Ideal S4096x1024 .bf16) :
    X (((View.whole main_v2_0).slice (win0_3.rect t)).emb (ix2 a k)) = X (ix2 (row t a) k) := by
  blk_point [idx t, row]
theorem blk4 (a : Fin 512) (x : Fin 832) (X : FVec Ideal S4096x832 .f32) :
    X (((View.whole main_v2_1).slice (win0_4.rect t)).emb (ix2 a x)) = X (ix2 (row t a) x) := by
  blk_point [idx t, row]

theorem run3 : (outsAt0 m c t).1 = k0_pay1 (iblk m c 0 t) (iblk m c 1 t) := by
  unfold outsAt0
  frame_out
theorem run4 : (outsAt0 m c t).2 = k0_pay2 (k0_pay1 (iblk m c 0 t) (iblk m c 1 t)) (iblk m c 2 t) := by
  unfold outsAt0
  frame_out

theorem norm_blk (a : Fin 512) (k : Fin 1024) :
    (k0_pay1 (F := Ideal) (iblk m c 0 t) (iblk m c 1 t) : _ → EReal) (ix2 a k) = normed (rows m c) (gain m c) (row t a) k := by
  rw [pay1_apply]
  simp only [blk0, blk1]
  rfl
theorem product_blk (a : Fin 512) (x : Fin 832) :
    (k0_pay2 (F := Ideal) (k0_pay1 (iblk m c 0 t) (iblk m c 1 t)) (iblk m c 2 t) : _ → EReal) (ix2 a x)
      = product (rows m c) (gain m c) (weight m c) (row t a) x := by
  rw [pay2_apply]
  simp only [norm_blk, blk2]
  rfl

/-! ### The final arrays -/

theorem final3 : (dats m 0 c).arrAt 3 cfg0.N = NORM (rows m c) (gain m c) := by
  refine (dats m 0 c).arrAt_eq_of_covers 3 _ (by decide +kernel) fun t _ y => ?_
  blk_simp
  rw [after0_3, run3]
  obtain ⟨a, k, rfl⟩ : ∃ (a : Fin 512) (k : Fin 1024), y = ix2 a k := ⟨y 0, y 1, eq_ix2 y⟩
  exact (norm_blk m c t a k).trans (blk3 t a k (NORM (rows m c) (gain m c))).symm
theorem final4 : (dats m 0 c).arrAt 4 cfg0.N = PRODUCT (rows m c) (gain m c) (weight m c) := by
  refine (dats m 0 c).arrAt_eq_of_covers 4 _ (by decide +kernel) fun t _ y => ?_
  blk_simp
  rw [after0_4, run4]
  obtain ⟨a, x, rfl⟩ : ∃ (a : Fin 512) (x : Fin 832), y = ix2 a x := ⟨y 0, y 1, eq_ix2 y⟩
  exact (product_blk m c t a x).trans (blk4 t a x (PRODUCT (rows m c) (gain m c) (weight m c))).symm

end Cert.MinIdeal.Value

namespace Cert.MinRefIdeal.Value

open Cert.MinRefIdeal Cert.MinRefIdeal.Gen

/-- The product, as the reference's line writes it. -/
def productL (x : FVec Ideal S4096x1024 .f32) (w : FVec Ideal S1024x832 .f32) : FVec Ideal S4096x832 .f32 :=
  Host.dotGeneral dot_S4096x1024_S1024x832_S4096x832_1_0_0_1_n_n none x w

theorem productL_apply (x : FVec Ideal S4096x1024 .f32) (w : FVec Ideal S1024x832 .f32) (a : Fin 4096) (j : Fin 832) :
    productL x w (ix2 a j) = ∑ k : Fin 1024, x (ix2 a k) * w (ix2 k j) := by
  unfold productL
  pointwise

end Cert.MinRefIdeal.Value

namespace Cert

open Cert.MinIdeal.Value Cert.MinRefIdeal.Value Cert.UpIdeal.Value Cert.DownRefIdeal.Value

/-- The kernel's two results are the reference's. -/
theorem min_algebraic : algebraic_MinIdeal_MinRefIdeal := by
  intro m g m' g' _ hag
  refine ⟨fun c => NORM (rows m c) (gain m c), fun c => PRODUCT (rows m c) (gain m c) (weight m c), ?_, ?_⟩
  · refine (θ_run _ _ _).mono (fun r hr c => ?_) (MinIdeal.Value.run_blocks m g)
    obtain ⟨h3, h4, hu⟩ := hr c
    exact ⟨h3.trans (MinIdeal.Value.final3 m c), h4.trans (MinIdeal.Value.final4 m c), hu⟩
  · refine (θ_run _ _ _).mono (fun r hr c => ?_) (MinRefIdeal.Value.run m' g')
    obtain ⟨h0, h1, hu⟩ := hr c
    obtain ⟨e0, e1, e2⟩ := hag c
    refine ⟨h0.trans (funext fun i => ?_), h1.trans (funext fun i => ?_), hu⟩
    · obtain ⟨a, k, rfl⟩ : ∃ (a : Fin 4096) (k : Fin 1024), i = ix2 a k := ⟨i 0, i 1, eq_ix2 i⟩
      show normedL _ _ (ix2 a k) = _
      rw [e0, e1]
      exact normedL_apply (rows m c) (gain m c) a k
    · obtain ⟨a, x, rfl⟩ : ∃ (a : Fin 4096) (x : Fin 832), i = ix2 a x := ⟨i 0, i 1, eq_ix2 i⟩
      show productL (normedL _ _) _ (ix2 a x) = _
      rw [e0, e1, e2, productL_apply]
      simp only [normedL_apply]
      rfl

end Cert

end
-- ==== Proof.OutRuns.lean ====
module

public import proofs.«01_k».proof.Proof.Gen.Out.Skeleton
public import proofs.«01_k».proof.Proof.Gen.Out.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! The body of the attention's call, run once on each of its three paths: the diagonal block of the first half of the
rows (`runA`), the block below the diagonal (`runB`) and the diagonal block of the second half (`runC`). -/

@[expose] public section

set_option maxRecDepth 16384
set_option Elab.async false

noncomputable section

namespace Cert.Out.Gen

open Cert.Out
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources of the proof. -/
abbrev Res := MT nD τ sig Unit (Elt Bits) ℕ (UR sig nD τ) ℕ

/-- The two tables; the rows' maxima, the rows' sums, and the values with a column block of ones beside them. -/
abbrev tabI : Memref sig .tc .smem S3 .i32 := Memref.whole main_c
abbrev tabJ : Memref sig .tc .smem S3 .i32 := Memref.whole main_c_0
abbrev bufM : Memref sig .tc .vmem S2048x1 .f32 := Memref.whole cc0_scratch0
abbrev bufS : Memref sig .tc .vmem S2048x256 .f32 := Memref.whole cc0_scratch1
abbrev bufV : Memref sig .tc .vmem S2048x256 .bf16 := Memref.whole cc0_scratch2

/-- What a device's buffers hold. -/
abbrev HoldM (c : Dev nD) := Buf (Elt Bits) ((c : Thread nD τ).loc cc0_scratch0)
abbrev HoldS (c : Dev nD) := Buf (Elt Bits) ((c : Thread nD τ).loc cc0_scratch1)
abbrev HoldV (c : Dev nD) := Buf (Elt Bits) ((c : Thread nD τ).loc cc0_scratch2)

/-- The words the body reads of the two tables: the row block and the column block of the step. -/
abbrev wordI (i : grid0.Coords) (T : S3.Idx → BitVec 32) : BitVec 32 :=
  View.readAt (Elt Bits) tabI.view (Rect.unit (s := S3) (k0_off1 i) S1.size (k0_off1_inb i)).toLoadRect T
    (Shape.Idx.first (numel1_S1.symm ▸ Nat.one_pos))
abbrev wordJ (i : grid0.Coords) (T : S3.Idx → BitVec 32) : BitVec 32 :=
  View.readAt (Elt Bits) tabJ.view (Rect.unit (s := S3) (k0_off1 i) S1.size (k0_off1_inb i)).toLoadRect T
    (Shape.Idx.first (numel1_S1.symm ▸ Nat.one_pos))

/-- The column block is the first; the block is below the diagonal; the block is on the diagonal. -/
abbrev AtFirst (i : grid0.Coords) (T : S3.Idx → BitVec 32) : Prop :=
  (Scalar.cmpi .ne (Scalar.extui (Scalar.cmpi .eq (wordJ i T) 0#32)) 0#32) = 1#1
abbrev Below (i : grid0.Coords) (T T' : S3.Idx → BitVec 32) : Prop :=
  (Scalar.cmpi .ne (Scalar.extui (Scalar.cmpi .slt (wordJ i T') (wordI i T))) 0#32) = 1#1
abbrev OnDiag (i : grid0.Coords) (T T' : S3.Idx → BitVec 32) : Prop := k0_cond3 (wordI i T) (wordJ i T') = 1#1

variable (c : Dev nD) (i : grid0.Coords)
  {a4 : Memref sig .tc .vmem S1x2048x192 .bf16} (h4 : a4.IsWhole)
  {a5 : Memref sig .tc .vmem S1x2048x192 .bf16} (h5 : a5.IsWhole)
  {a6 : Memref sig .tc .vmem S1x2048x128 .bf16} (h6 : a6.IsWhole)
  {a7 : Memref sig .tc .vmem S2048x128 .f32} (h7 : a7.IsWhole)
  {a8 : Memref sig .tc .vmem S1x2048x1 .f32} (h8 : a8.IsWhole)
  (TI TJ : S3.Idx → BitVec 32)
  (q k : S1x2048x192.Idx → Elt Bits .bf16) (v : S1x2048x128.Idx → Elt Bits .bf16)

/-- The inputs' blocks and the tables, held. -/
def heldIn (a4 a5 : Memref sig .tc .vmem S1x2048x192 .bf16) (a6 : Memref sig .tc .vmem S1x2048x128 .bf16) : sProp Res :=
  iprop((a4.view.loc (c : Thread nD τ) ↦[a4.view.set]{fullShare} a4.view.rep q)
    ∗ (a5.view.loc (c : Thread nD τ) ↦[a5.view.set]{fullShare} a5.view.rep k)
    ∗ (a6.view.loc (c : Thread nD τ) ↦[a6.view.set]{fullShare} a6.view.rep v)
    ∗ (tabI.view.loc (c : Thread nD τ) ↦{fullShare.right} TI)
    ∗ (tabJ.view.loc (c : Thread nD τ) ↦{fullShare.right} TJ))

/-- The three scratch buffers, held. -/
def heldAcc (sm : HoldM c) (ss : HoldS c) (sv : HoldV c) : sProp Res :=
  iprop((bufM.view.loc (c : Thread nD τ) ↦{fullShare} sm) ∗ (bufS.view.loc (c : Thread nD τ) ↦{fullShare} ss)
    ∗ (bufV.view.loc (c : Thread nD τ) ↦{fullShare} sv))

/-- The body on the step's buffers. -/
abbrev body (h4 : a4.IsWhole) (h5 : a5.IsWhole) (h6 : a6.IsWhole) (h7 : a7.IsWhole) (h8 : a8.IsWhole) :
    Prog (TpuEff nD τ sig (Elt Bits) Λ₀ .tc) PUnit :=
  cc0_attn i tabI (Memref.isWhole_whole _) tabJ (Memref.isWhole_whole _) a4 h4 a5 h5 a6 h6 a7 h7 a8 h8
    bufM (Memref.isWhole_whole _) bufS (Memref.isWhole_whole _) bufV (Memref.isWhole_whole _)

set_option backward.proofsInPublic true in
set_option maxHeartbeats 16000000 in
/-- The diagonal block of the first half: the scratch buffers are set up and filled, both outputs are stored. -/
def runA (e1 : AtFirst i TJ) (e2 : ¬Below i TI TJ) (e3 : OnDiag i TI TJ) :
    Σ' (o7 : List (View.Piece (Elt Bits) S2048x128 .f32))
        (o8 : List (View.Piece (Elt Bits) S1x2048x1 .f32))
        (rm : HoldM c) (rs : HoldS c) (rv : HoldV c),
      ∀ (sm : HoldM c) (ss : HoldS c) (sv : HoldV c) (K : PUnit → sProp Res),
      iprop(heldIn c TI TJ q k v a4 a5 a6 ∗ (∃ y, owns (c : Thread nD τ) a7 fullShare y)
          ∗ (∃ y, owns (c : Thread nD τ) a8 fullShare y)
          ∗ heldAcc c sm ss sv
          ∗ (iprop(heldIn c TI TJ q k v a4 a5 a6
            ∗ (∃ f, a7.view.loc (c : Thread nD τ) ↦[a7.view.set]{fullShare} a7.view.writes (Elt Bits) f o7)
            ∗ (∃ f, a8.view.loc (c : Thread nD τ) ↦[a8.view.set]{fullShare} a8.view.writes (Elt Bits) f o8)
            ∗ heldAcc c rm rs rv) -∗ K ⟨⟩))
        ⊢ wp frame (wpE (defs₀ (F := Bits)) Variants.none c none) Set.univ (body i h4 h5 h6 h7 h8) K :=
  ⟨_, _, _, _, _, fun sm ss sv K => by
    unfold heldIn heldAcc owns body
    rw [cc0_attn_eq_skeleton]; unfold cc0_attn_skel
    iintro ⟨⟨H0, H1, H2, HTI, HTJ⟩, ⟨%d7, %f7, -, HO7⟩, ⟨%d8, %f8, -, HO8⟩, ⟨HS0, HS1, HS2⟩, Hk⟩
    have hS0 : bufM.IsWhole := Memref.isWhole_whole _
    have hS1 : bufS.IsWhole := Memref.isWhole_whole _
    have hS2 : bufV.IsWhole := Memref.isWhole_whole _
    have hT0 : tabI.IsWhole := Memref.isWhole_whole _
    have hT1 : tabJ.IsWhole := Memref.isWhole_whole _
    sl_exec! (disch := first | exact e1 | exact e2 | exact e3)
    sl_step
    iapply Hk
    isplitl [H0 H1 H2 HTI HTJ]
    · isplitl [H0]; · iexact H0
      isplitl [H1]; · iexact H1
      isplitl [H2]; · iexact H2
      isplitl [HTI]; · iexact HTI
      iexact HTJ
    isplitl [HO7]; · iexists _; iexact HO7
    isplitl [HO8]; · iexists _; iexact HO8
    isplitl [HS0]; · iexact HS0
    isplitl [HS1]; · iexact HS1
    iexact HS2⟩

set_option backward.proofsInPublic true in
set_option maxHeartbeats 16000000 in
/-- The block below the diagonal: the scratch buffers are set up and filled, no output is stored. -/
def runB (e1 : AtFirst i TJ) (e2 : Below i TI TJ) (e3 : ¬OnDiag i TI TJ) :
    Σ' (rm : HoldM c) (rs : HoldS c) (rv : HoldV c),
      ∀ (sm : HoldM c) (ss : HoldS c) (sv : HoldV c)
        (y7 : S2048x128.Idx → Elt Bits .f32) (y8 : S1x2048x1.Idx → Elt Bits .f32) (K : PUnit → sProp Res),
      iprop(heldIn c TI TJ q k v a4 a5 a6 ∗ owns (c : Thread nD τ) a7 fullShare y7 ∗ owns (c : Thread nD τ) a8 fullShare y8
          ∗ heldAcc c sm ss sv
          ∗ (iprop(heldIn c TI TJ q k v a4 a5 a6
            ∗ owns (c : Thread nD τ) a7 fullShare y7 ∗ owns (c : Thread nD τ) a8 fullShare y8
            ∗ heldAcc c rm rs rv) -∗ K ⟨⟩))
        ⊢ wp frame (wpE (defs₀ (F := Bits)) Variants.none c none) Set.univ (body i h4 h5 h6 h7 h8) K :=
  ⟨_, _, _, fun sm ss sv y7 y8 K => by
    unfold heldIn heldAcc owns body
    rw [cc0_attn_eq_skeleton]; unfold cc0_attn_skel
    iintro ⟨⟨H0, H1, H2, HTI, HTJ⟩, ⟨%f7, %hf7, HO7⟩, ⟨%f8, %hf8, HO8⟩, ⟨HS0, HS1, HS2⟩, Hk⟩
    obtain rfl := h7.eq_unread hf7
    obtain rfl := h8.eq_unread hf8
    have hS0 : bufM.IsWhole := Memref.isWhole_whole _
    have hS1 : bufS.IsWhole := Memref.isWhole_whole _
    have hS2 : bufV.IsWhole := Memref.isWhole_whole _
    have hT0 : tabI.IsWhole := Memref.isWhole_whole _
    have hT1 : tabJ.IsWhole := Memref.isWhole_whole _
    sl_exec! (disch := first | exact e1 | exact e2 | exact e3)
    sl_step
    iapply Hk
    isplitl [H0 H1 H2 HTI HTJ]
    · isplitl [H0]; · iexact H0
      isplitl [H1]; · iexact H1
      isplitl [H2]; · iexact H2
      isplitl [HTI]; · iexact HTI
      iexact HTJ
    isplitl [HO7]
    · iexists _; isplitr; · ipureintro; exact h7.read_unread _
      iexact HO7
    isplitl [HO8]
    · iexists _; isplitr; · ipureintro; exact h8.read_unread _
      iexact HO8
    isplitl [HS0]; · iexact HS0
    isplitl [HS1]; · iexact HS1
    iexact HS2⟩

set_option backward.proofsInPublic true in
set_option maxHeartbeats 16000000 in
/-- The diagonal block of the second half: the sums go on from the block below the diagonal, both outputs are stored. -/
def runC (sm : HoldM c) (ss : HoldS c) (sv : HoldV c) (e1 : ¬AtFirst i TJ) (e2 : ¬Below i TI TJ) (e3 : OnDiag i TI TJ) :
    Σ' (o7 : List (View.Piece (Elt Bits) S2048x128 .f32))
        (o8 : List (View.Piece (Elt Bits) S1x2048x1 .f32))
        (rm : HoldM c) (rs : HoldS c) (rv : HoldV c),
      ∀ (K : PUnit → sProp Res),
      iprop(heldIn c TI TJ q k v a4 a5 a6 ∗ (∃ y, owns (c : Thread nD τ) a7 fullShare y)
          ∗ (∃ y, owns (c : Thread nD τ) a8 fullShare y)
          ∗ heldAcc c sm ss sv
          ∗ (iprop(heldIn c TI TJ q k v a4 a5 a6
            ∗ (∃ f, a7.view.loc (c : Thread nD τ) ↦[a7.view.set]{fullShare} a7.view.writes (Elt Bits) f o7)
            ∗ (∃ f, a8.view.loc (c : Thread nD τ) ↦[a8.view.set]{fullShare} a8.view.writes (Elt Bits) f o8)
            ∗ heldAcc c rm rs rv) -∗ K ⟨⟩))
        ⊢ wp frame (wpE (defs₀ (F := Bits)) Variants.none c none) Set.univ (body i h4 h5 h6 h7 h8) K :=
  ⟨_, _, _, _, _, fun K => by
    unfold heldIn heldAcc owns body
    rw [cc0_attn_eq_skeleton]; unfold cc0_attn_skel
    iintro ⟨⟨H0, H1, H2, HTI, HTJ⟩, ⟨%d7, %f7, -, HO7⟩, ⟨%d8, %f8, -, HO8⟩, ⟨HS0, HS1, HS2⟩, Hk⟩
    have hS0 : bufM.IsWhole := Memref.isWhole_whole _
    have hS1 : bufS.IsWhole := Memref.isWhole_whole _
    have hS2 : bufV.IsWhole := Memref.isWhole_whole _
    have hT0 : tabI.IsWhole := Memref.isWhole_whole _
    have hT1 : tabJ.IsWhole := Memref.isWhole_whole _
    sl_exec! (disch := first | exact e1 | exact e2 | exact e3)
    sl_step
    iapply Hk
    isplitl [H0 H1 H2 HTI HTJ]
    · isplitl [H0]; · iexact H0
      isplitl [H1]; · iexact H1
      isplitl [H2]; · iexact H2
      isplitl [HTI]; · iexact HTI
      iexact HTJ
    isplitl [HO7]; · iexists _; iexact HO7
    isplitl [HO8]; · iexists _; iexact HO8
    isplitl [HS0]; · iexact HS0
    isplitl [HS1]; · iexact HS1
    iexact HS2⟩

end Cert.Out.Gen

end
-- ==== Proof.OutIdealRuns.lean ====
module

public import proofs.«01_k».proof.Proof.Gen.OutIdeal.Skeleton
public import proofs.«01_k».proof.Proof.Gen.OutIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! The body of the attention's call, run once on each of its three paths: the diagonal block of the first half of the
rows (`runA`), the block below the diagonal (`runB`) and the diagonal block of the second half (`runC`). -/

@[expose] public section

set_option maxRecDepth 16384
set_option Elab.async false

noncomputable section

namespace Cert.OutIdeal.Gen

open Cert.OutIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources of the proof. -/
abbrev Res := MT nD τ sig Unit (Elt Ideal) ℕ (UR sig nD τ) ℕ

/-- The two tables; the rows' maxima, the rows' sums, and the values with a column block of ones beside them. -/
abbrev tabI : Memref sig .tc .smem S3 .i32 := Memref.whole main_c
abbrev tabJ : Memref sig .tc .smem S3 .i32 := Memref.whole main_c_0
abbrev bufM : Memref sig .tc .vmem S2048x1 .f32 := Memref.whole cc0_scratch0
abbrev bufS : Memref sig .tc .vmem S2048x256 .f32 := Memref.whole cc0_scratch1
abbrev bufV : Memref sig .tc .vmem S2048x256 .bf16 := Memref.whole cc0_scratch2

/-- What a device's buffers hold. -/
abbrev HoldM (c : Dev nD) := Buf (Elt Ideal) ((c : Thread nD τ).loc cc0_scratch0)
abbrev HoldS (c : Dev nD) := Buf (Elt Ideal) ((c : Thread nD τ).loc cc0_scratch1)
abbrev HoldV (c : Dev nD) := Buf (Elt Ideal) ((c : Thread nD τ).loc cc0_scratch2)

/-- The words the body reads of the two tables: the row block and the column block of the step. -/
abbrev wordI (i : grid0.Coords) (T : S3.Idx → BitVec 32) : BitVec 32 :=
  View.readAt (Elt Ideal) tabI.view (Rect.unit (s := S3) (k0_off1 i) S1.size (k0_off1_inb i)).toLoadRect T
    (Shape.Idx.first (numel1_S1.symm ▸ Nat.one_pos))
abbrev wordJ (i : grid0.Coords) (T : S3.Idx → BitVec 32) : BitVec 32 :=
  View.readAt (Elt Ideal) tabJ.view (Rect.unit (s := S3) (k0_off1 i) S1.size (k0_off1_inb i)).toLoadRect T
    (Shape.Idx.first (numel1_S1.symm ▸ Nat.one_pos))

/-- The column block is the first; the block is below the diagonal; the block is on the diagonal. -/
abbrev AtFirst (i : grid0.Coords) (T : S3.Idx → BitVec 32) : Prop :=
  (Scalar.cmpi .ne (Scalar.extui (Scalar.cmpi .eq (wordJ i T) 0#32)) 0#32) = 1#1
abbrev Below (i : grid0.Coords) (T T' : S3.Idx → BitVec 32) : Prop :=
  (Scalar.cmpi .ne (Scalar.extui (Scalar.cmpi .slt (wordJ i T') (wordI i T))) 0#32) = 1#1
abbrev OnDiag (i : grid0.Coords) (T T' : S3.Idx → BitVec 32) : Prop := k0_cond3 (wordI i T) (wordJ i T') = 1#1

variable (c : Dev nD) (i : grid0.Coords)
  {a4 : Memref sig .tc .vmem S1x2048x192 .bf16} (h4 : a4.IsWhole)
  {a5 : Memref sig .tc .vmem S1x2048x192 .bf16} (h5 : a5.IsWhole)
  {a6 : Memref sig .tc .vmem S1x2048x128 .bf16} (h6 : a6.IsWhole)
  {a7 : Memref sig .tc .vmem S2048x128 .f32} (h7 : a7.IsWhole)
  {a8 : Memref sig .tc .vmem S1x2048x1 .f32} (h8 : a8.IsWhole)
  (TI TJ : S3.Idx → BitVec 32)
  (q k : S1x2048x192.Idx → Elt Ideal .bf16) (v : S1x2048x128.Idx → Elt Ideal .bf16)

/-- The inputs' blocks and the tables, held. -/
def heldIn (a4 a5 : Memref sig .tc .vmem S1x2048x192 .bf16) (a6 : Memref sig .tc .vmem S1x2048x128 .bf16) : sProp Res :=
  iprop((a4.view.loc (c : Thread nD τ) ↦[a4.view.set]{fullShare} a4.view.rep q)
    ∗ (a5.view.loc (c : Thread nD τ) ↦[a5.view.set]{fullShare} a5.view.rep k)
    ∗ (a6.view.loc (c : Thread nD τ) ↦[a6.view.set]{fullShare} a6.view.rep v)
    ∗ (tabI.view.loc (c : Thread nD τ) ↦{fullShare.right} TI)
    ∗ (tabJ.view.loc (c : Thread nD τ) ↦{fullShare.right} TJ))

/-- The three scratch buffers, held. -/
def heldAcc (sm : HoldM c) (ss : HoldS c) (sv : HoldV c) : sProp Res :=
  iprop((bufM.view.loc (c : Thread nD τ) ↦{fullShare} sm) ∗ (bufS.view.loc (c : Thread nD τ) ↦{fullShare} ss)
    ∗ (bufV.view.loc (c : Thread nD τ) ↦{fullShare} sv))

/-- The body on the step's buffers. -/
abbrev body (h4 : a4.IsWhole) (h5 : a5.IsWhole) (h6 : a6.IsWhole) (h7 : a7.IsWhole) (h8 : a8.IsWhole) :
    Prog (TpuEff nD τ sig (Elt Ideal) Λ₀ .tc) PUnit :=
  cc0_attn i tabI (Memref.isWhole_whole _) tabJ (Memref.isWhole_whole _) a4 h4 a5 h5 a6 h6 a7 h7 a8 h8
    bufM (Memref.isWhole_whole _) bufS (Memref.isWhole_whole _) bufV (Memref.isWhole_whole _)

set_option backward.proofsInPublic true in
set_option maxHeartbeats 16000000 in
/-- The diagonal block of the first half: the scratch buffers are set up and filled, both outputs are stored. -/
def runA (e1 : AtFirst i TJ) (e2 : ¬Below i TI TJ) (e3 : OnDiag i TI TJ) :
    Σ' (o7 : List (View.Piece (Elt Ideal) S2048x128 .f32))
        (o8 : List (View.Piece (Elt Ideal) S1x2048x1 .f32))
        (rm : HoldM c) (rs : HoldS c) (rv : HoldV c),
      ∀ (sm : HoldM c) (ss : HoldS c) (sv : HoldV c) (K : PUnit → sProp Res),
      iprop(heldIn c TI TJ q k v a4 a5 a6 ∗ (∃ y, owns (c : Thread nD τ) a7 fullShare y)
          ∗ (∃ y, owns (c : Thread nD τ) a8 fullShare y)
          ∗ heldAcc c sm ss sv
          ∗ (iprop(heldIn c TI TJ q k v a4 a5 a6
            ∗ (∃ f, a7.view.loc (c : Thread nD τ) ↦[a7.view.set]{fullShare} a7.view.writes (Elt Ideal) f o7)
            ∗ (∃ f, a8.view.loc (c : Thread nD τ) ↦[a8.view.set]{fullShare} a8.view.writes (Elt Ideal) f o8)
            ∗ heldAcc c rm rs rv) -∗ K ⟨⟩))
        ⊢ wp frame (wpE (defs₀ (F := Ideal)) Variants.none c none) Set.univ (body i h4 h5 h6 h7 h8) K :=
  ⟨_, _, _, _, _, fun sm ss sv K => by
    unfold heldIn heldAcc owns body
    rw [cc0_attn_eq_skeleton]; unfold cc0_attn_skel
    iintro ⟨⟨H0, H1, H2, HTI, HTJ⟩, ⟨%d7, %f7, -, HO7⟩, ⟨%d8, %f8, -, HO8⟩, ⟨HS0, HS1, HS2⟩, Hk⟩
    have hS0 : bufM.IsWhole := Memref.isWhole_whole _
    have hS1 : bufS.IsWhole := Memref.isWhole_whole _
    have hS2 : bufV.IsWhole := Memref.isWhole_whole _
    have hT0 : tabI.IsWhole := Memref.isWhole_whole _
    have hT1 : tabJ.IsWhole := Memref.isWhole_whole _
    sl_exec! (disch := first | exact e1 | exact e2 | exact e3)
    sl_step
    iapply Hk
    isplitl [H0 H1 H2 HTI HTJ]
    · isplitl [H0]; · iexact H0
      isplitl [H1]; · iexact H1
      isplitl [H2]; · iexact H2
      isplitl [HTI]; · iexact HTI
      iexact HTJ
    isplitl [HO7]; · iexists _; iexact HO7
    isplitl [HO8]; · iexists _; iexact HO8
    isplitl [HS0]; · iexact HS0
    isplitl [HS1]; · iexact HS1
    iexact HS2⟩

set_option backward.proofsInPublic true in
set_option maxHeartbeats 16000000 in
/-- The block below the diagonal: the scratch buffers are set up and filled, no output is stored. -/
def runB (e1 : AtFirst i TJ) (e2 : Below i TI TJ) (e3 : ¬OnDiag i TI TJ) :
    Σ' (rm : HoldM c) (rs : HoldS c) (rv : HoldV c),
      ∀ (sm : HoldM c) (ss : HoldS c) (sv : HoldV c)
        (y7 : S2048x128.Idx → Elt Ideal .f32) (y8 : S1x2048x1.Idx → Elt Ideal .f32) (K : PUnit → sProp Res),
      iprop(heldIn c TI TJ q k v a4 a5 a6 ∗ owns (c : Thread nD τ) a7 fullShare y7 ∗ owns (c : Thread nD τ) a8 fullShare y8
          ∗ heldAcc c sm ss sv
          ∗ (iprop(heldIn c TI TJ q k v a4 a5 a6
            ∗ owns (c : Thread nD τ) a7 fullShare y7 ∗ owns (c : Thread nD τ) a8 fullShare y8
            ∗ heldAcc c rm rs rv) -∗ K ⟨⟩))
        ⊢ wp frame (wpE (defs₀ (F := Ideal)) Variants.none c none) Set.univ (body i h4 h5 h6 h7 h8) K :=
  ⟨_, _, _, fun sm ss sv y7 y8 K => by
    unfold heldIn heldAcc owns body
    rw [cc0_attn_eq_skeleton]; unfold cc0_attn_skel
    iintro ⟨⟨H0, H1, H2, HTI, HTJ⟩, ⟨%f7, %hf7, HO7⟩, ⟨%f8, %hf8, HO8⟩, ⟨HS0, HS1, HS2⟩, Hk⟩
    obtain rfl := h7.eq_unread hf7
    obtain rfl := h8.eq_unread hf8
    have hS0 : bufM.IsWhole := Memref.isWhole_whole _
    have hS1 : bufS.IsWhole := Memref.isWhole_whole _
    have hS2 : bufV.IsWhole := Memref.isWhole_whole _
    have hT0 : tabI.IsWhole := Memref.isWhole_whole _
    have hT1 : tabJ.IsWhole := Memref.isWhole_whole _
    sl_exec! (disch := first | exact e1 | exact e2 | exact e3)
    sl_step
    iapply Hk
    isplitl [H0 H1 H2 HTI HTJ]
    · isplitl [H0]; · iexact H0
      isplitl [H1]; · iexact H1
      isplitl [H2]; · iexact H2
      isplitl [HTI]; · iexact HTI
      iexact HTJ
    isplitl [HO7]
    · iexists _; isplitr; · ipureintro; exact h7.read_unread _
      iexact HO7
    isplitl [HO8]
    · iexists _; isplitr; · ipureintro; exact h8.read_unread _
      iexact HO8
    isplitl [HS0]; · iexact HS0
    isplitl [HS1]; · iexact HS1
    iexact HS2⟩

set_option backward.proofsInPublic true in
set_option maxHeartbeats 16000000 in
/-- The diagonal block of the second half: the sums go on from the block below the diagonal, both outputs are stored. -/
def runC (sm : HoldM c) (ss : HoldS c) (sv : HoldV c) (e1 : ¬AtFirst i TJ) (e2 : ¬Below i TI TJ) (e3 : OnDiag i TI TJ) :
    Σ' (o7 : List (View.Piece (Elt Ideal) S2048x128 .f32))
        (o8 : List (View.Piece (Elt Ideal) S1x2048x1 .f32))
        (rm : HoldM c) (rs : HoldS c) (rv : HoldV c),
      ∀ (K : PUnit → sProp Res),
      iprop(heldIn c TI TJ q k v a4 a5 a6 ∗ (∃ y, owns (c : Thread nD τ) a7 fullShare y)
          ∗ (∃ y, owns (c : Thread nD τ) a8 fullShare y)
          ∗ heldAcc c sm ss sv
          ∗ (iprop(heldIn c TI TJ q k v a4 a5 a6
            ∗ (∃ f, a7.view.loc (c : Thread nD τ) ↦[a7.view.set]{fullShare} a7.view.writes (Elt Ideal) f o7)
            ∗ (∃ f, a8.view.loc (c : Thread nD τ) ↦[a8.view.set]{fullShare} a8.view.writes (Elt Ideal) f o8)
            ∗ heldAcc c rm rs rv) -∗ K ⟨⟩))
        ⊢ wp frame (wpE (defs₀ (F := Ideal)) Variants.none c none) Set.univ (body i h4 h5 h6 h7 h8) K :=
  ⟨_, _, _, _, _, fun K => by
    unfold heldIn heldAcc owns body
    rw [cc0_attn_eq_skeleton]; unfold cc0_attn_skel
    iintro ⟨⟨H0, H1, H2, HTI, HTJ⟩, ⟨%d7, %f7, -, HO7⟩, ⟨%d8, %f8, -, HO8⟩, ⟨HS0, HS1, HS2⟩, Hk⟩
    have hS0 : bufM.IsWhole := Memref.isWhole_whole _
    have hS1 : bufS.IsWhole := Memref.isWhole_whole _
    have hS2 : bufV.IsWhole := Memref.isWhole_whole _
    have hT0 : tabI.IsWhole := Memref.isWhole_whole _
    have hT1 : tabJ.IsWhole := Memref.isWhole_whole _
    sl_exec! (disch := first | exact e1 | exact e2 | exact e3)
    sl_step
    iapply Hk
    isplitl [H0 H1 H2 HTI HTJ]
    · isplitl [H0]; · iexact H0
      isplitl [H1]; · iexact H1
      isplitl [H2]; · iexact H2
      isplitl [HTI]; · iexact HTI
      iexact HTJ
    isplitl [HO7]; · iexists _; iexact HO7
    isplitl [HO8]; · iexists _; iexact HO8
    isplitl [HS0]; · iexact HS0
    isplitl [HS1]; · iexact HS1
    iexact HS2⟩

end Cert.OutIdeal.Gen

end
-- ==== Proof.OutIdealTiles.lean ====
module

public import proofs.«01_k».proof.Proof.OutIdealRuns
import all proofs.«01_k».proof.Proof.OutIdealRuns
public import Idealize.ShloMosaic.Lib.Pipeline.ValueKit
public import Idealize.ShloMosaic.Lib.Pointwise
public import Idealize.ShloMosaic.Lib.IdealHost

/-! The tiles of the attention's body as functions of their place: each path's stores are the same two functions of 256
queries and 1024 keys, so what a path leaves in the two accumulators is told once for a tile. -/

@[expose] public section

set_option maxRecDepth 16384

noncomputable section

namespace Cert.OutIdeal.Gen.Tile

open Cert.OutIdeal Cert.OutIdeal.Gen
open Idealize.ShloMosaic Idealize.ShloMosaic.TcCoe Idealize.ShloMosaic.Tactic

/-! ### One tile -/

section Cell

variable (q : Fin 8 → Vec Ideal S1x256x192 .bf16) (k : Fin 2 → Vec Ideal S1x1024x192 .bf16) (v : Fin 2 → Vec Ideal S1024x256 .bf16)

/-- The products of a tile's queries with its keys. -/
def dots (q0 : Fin 8) (k0 : Fin 2) : FVec Ideal S256x1024 .f32 :=
  matmul dot_S256x192_S1024x192_S256x1024_1_1_0_0_n_n none
    (shapeCast S256x192 (q q0) shapeCasts_S1x256x192_S256x192 : FVec Ideal S256x192 .bf16)
    (shapeCast S1024x192 (k k0) shapeCasts_S1x1024x192_S1024x192 : FVec Ideal S1024x192 .bf16)
    (constant S256x1024 .f32 0x00000000#32)

/-- The products with the later keys left out. -/
def cut (q0 : Fin 8) (k0 : Fin 2) (x : FVec Ideal S256x1024 .f32) : FVec Ideal S256x1024 .f32 :=
  select (cmpi .sge (addi (broadcast S256x1024 (BitVec.ofNat 32 (256 * q0.val))) (iota .tc S256x1024 32 [0] iota_S256x1024_d0_w32))
    (addi (broadcast S256x1024 (BitVec.ofNat 32 (1024 * k0.val))) (iota .tc S256x1024 32 [1] iota_S256x1024_d1_w32)))
    x (broadcast S256x1024 (Scalar.ofBits .f32 0xFF800000#32 : Ideal .f32))

/-- The products as a path uses them: on the diagonal block `tri` holds. -/
def cell (tri : Bool) (q0 : Fin 8) (k0 : Fin 2) : FVec Ideal S256x1024 .f32 :=
  bif tri && (q0.val / 4 == k0.val) then cut q0 k0 (dots q k q0 k0) else dots q k q0 k0

/-- The rows' largest product so far, with those of a tile. -/
def newM (tri : Bool) (q0 : Fin 8) (k0 : Fin 2) (x : Vec Ideal S256x1 .f32) : FVec Ideal S256x1 .f32 :=
  maximumf x (shapeCast S256x1 (multiReduction .maximumf [1] S256 (cell q k tri q0 k0) 0xFF800000#32 reduces_S256x1024_S256
    (.inl rfl) rfl) shapeCasts_S256_S256x1)

abbrev keepM (tri : Bool) (q0 : Fin 8) (k0 : Fin 2) (x : Vec Ideal S256x1 .f32) : FVec Ideal S256x1 .f32 :=
  shapeCast S256x1 (newM q k tri q0 k0 x) shapeCasts_S256x1_S256x1

/-- The weighted sums so far, brought to the new largest product, and those of a tile. -/
def addS (tri : Bool) (q0 : Fin 8) (k0 : Fin 2) (x : Vec Ideal S256x1 .f32) (y : Vec Ideal S256x256 .f32) : FVec Ideal S256x256 .f32 :=
  shapeCast S256x256 (addf (mulf (broadcastTo S256x256 (exp2 (mulf (subf x (newM q k tri q0 k0 x))
      (broadcast S256x1 (Named.named κ "scale_log2e" 0x3DD53B95#32 : Ideal .f32)))) broadcasts_S256x1_S256x256) y)
    (matmul (φ₂ := .bf16) dot_S256x1024_S1024x256_S256x256_1_0_0_1_n_n none
      (truncf .bf16 (exp2 (mulf (subf (cell q k tri q0 k0) (broadcastTo S256x1024 (newM q k tri q0 k0 x) broadcasts_S256x1_S256x1024))
        (broadcast S256x1024 (Named.named κ "scale_log2e" 0x3DD53B95#32 : Ideal .f32)))) bitsLt_bf16_f32) (v k0 : FVec Ideal S1024x256 .bf16)
      (constant S256x256 .f32 0x00000000#32))) shapeCasts_S256x256_S256x256

end Cell

/-! ### The stores, one after another -/

/-- The rows of a tile in the two accumulators. -/
abbrev rowsM (j : Fin 8) : Rect S2048x1 := Rect.unit (s := S2048x1) ![256 * j.val, 0] S256x1.size
  (by intro a; have := j.isLt; fin_cases a <;> simp <;> omega)
abbrev rowsS (j : Fin 8) : Rect S2048x256 := Rect.unit (s := S2048x256) ![256 * j.val, 0] S256x256.size
  (by intro a; have := j.isLt; fin_cases a <;> simp <;> omega)

section Steps

variable (q : Fin 8 → Vec Ideal S1x256x192 .bf16) (k : Fin 2 → Vec Ideal S1x1024x192 .bf16) (v : Fin 2 → Vec Ideal S1024x256 .bf16)

abbrev PieceM := View.Piece (Elt Ideal) S2048x1 .f32
abbrev PieceS := View.Piece (Elt Ideal) S2048x256 .f32

/-- A tile after those whose stores are listed. -/
def visit (tri : Bool) (L : List PieceM × List PieceS) (t : Fin 8 × Fin 2) : List PieceM × List PieceS :=
  (⟨rowsM t.1, keepM q k tri t.1 t.2 (bufM.view.readCov L.1 (rowsM t.1).toLoadRect)⟩ :: L.1,
   ⟨rowsS t.1, addS q k v tri t.1 t.2 (bufM.view.readCov L.1 (rowsM t.1).toLoadRect) (bufS.view.readCov L.2 (rowsS t.1).toLoadRect)⟩ :: L.2)

/-- A tile that is its rows' first of a block which goes on from an earlier one. -/
def resume {c : Dev nD} (sm : HoldM c) (ss : HoldS c) (tri : Bool) (L : List PieceM × List PieceS) (j : Fin 8) : List PieceM × List PieceS :=
  (⟨rowsM j, keepM q k tri j 0 (View.readAt (Elt Ideal) bufM.view (rowsM j).toLoadRect sm)⟩ :: L.1,
   ⟨rowsS j, addS q k v tri j 0 (View.readAt (Elt Ideal) bufM.view (rowsM j).toLoadRect sm)
      (View.readAt (Elt Ideal) bufS.view (rowsS j).toLoadRect ss)⟩ :: L.2)

/-- What the accumulators hold at the start. -/
abbrev start : List PieceM × List PieceS :=
  ([⟨Rect.unit ![0, 0] S2048x1.size inb_S2048x1_S2048x1_0_0, (k0_pay1 : FVec Ideal S2048x1 .f32)⟩],
   [⟨Rect.unit ![0, 0] S2048x256.size inb_S2048x256_S2048x256_0_0, (k0_pay2 : FVec Ideal S2048x256 .f32)⟩])

/-- The tiles of the first half of a block's keys, and of the second half's, below the diagonal and on it. -/
abbrev left : List (Fin 8 × Fin 2) := [(0, 0), (1, 0), (2, 0), (3, 0), (4, 0), (5, 0), (6, 0), (7, 0)]
abbrev right : List (Fin 8 × Fin 2) := [(0, 1), (1, 1), (2, 1), (3, 1), (4, 1), (5, 1), (6, 1), (7, 1)]
abbrev corner : List (Fin 8 × Fin 2) := [(4, 1), (5, 1), (6, 1), (7, 1)]

abbrev afterA : List PieceM × List PieceS := corner.foldl (visit q k v true) (left.foldl (visit q k v true) start)
abbrev afterB : List PieceM × List PieceS := right.foldl (visit q k v false) (left.foldl (visit q k v false) start)
abbrev afterC {c : Dev nD} (sm : HoldM c) (ss : HoldS c) : List PieceM × List PieceS :=
  corner.foldl (visit q k v true) (([0, 1, 2, 3, 4, 5, 6, 7] : List (Fin 8)).foldl (resume q k v sm ss true) ([], []))

end Steps

/-! ### The three paths -/

section Paths

variable (c : Dev nD) (i : grid0.Coords)
  {a4 : Memref sig .tc .vmem S1x2048x192 .bf16} (h4 : a4.IsWhole)
  {a5 : Memref sig .tc .vmem S1x2048x192 .bf16} (h5 : a5.IsWhole)
  {a6 : Memref sig .tc .vmem S1x2048x128 .bf16} (h6 : a6.IsWhole)
  {a7 : Memref sig .tc .vmem S2048x128 .f32} (h7 : a7.IsWhole)
  {a8 : Memref sig .tc .vmem S1x2048x1 .f32} (h8 : a8.IsWhole)
  (TI TJ : S3.Idx → BitVec 32)
  (q k : S1x2048x192.Idx → Elt Ideal .bf16) (v : S1x2048x128.Idx → Elt Ideal .bf16)

/-- The loads of a tile's operands from the blocks. -/
def getQ (a : Memref sig .tc .vmem S1x2048x192 .bf16) (x : S1x2048x192.Idx → Elt Ideal .bf16) (j : Fin 8) : Vec Ideal S1x256x192 .bf16 :=
  View.readAt (Elt Ideal) a.view (Rect.unit (s := S1x2048x192) ![0, 256 * j.val, 0] S1x256x192.size
    (by intro a; have := j.isLt; fin_cases a <;> simp <;> omega)).toLoadRect (a.view.rep x)
def getK (a : Memref sig .tc .vmem S1x2048x192 .bf16) (x : S1x2048x192.Idx → Elt Ideal .bf16) (j : Fin 2) : Vec Ideal S1x1024x192 .bf16 :=
  View.readAt (Elt Ideal) a.view (Rect.unit (s := S1x2048x192) ![0, 1024 * j.val, 0] S1x1024x192.size
    (by intro a; have := j.isLt; fin_cases a <;> simp <;> omega)).toLoadRect (a.view.rep x)

/-- The values' columns of the values' buffer. -/
abbrev valuesPiece (x : FVec Ideal S2048x128 .bf16) : View.Piece (Elt Ideal) S2048x256 .bf16 :=
  ⟨Rect.unit ![0, 0] S2048x128.size inb_S2048x256_S2048x128_0_0, x⟩
abbrev onesPiece : View.Piece (Elt Ideal) S2048x256 .bf16 :=
  ⟨Rect.unit ![0, 128] S2048x128.size inb_S2048x256_S2048x128_0_128, (k0_pay3 : FVec Ideal S2048x128 .bf16)⟩
abbrev keysV (j : Fin 2) : Rect S2048x256 := Rect.unit (s := S2048x256) ![1024 * j.val, 0] S1024x256.size
  (by intro a; have := j.isLt; fin_cases a <;> simp <;> omega)
def getV (L : List (View.Piece (Elt Ideal) S2048x256 .bf16)) (j : Fin 2) : Vec Ideal S1024x256 .bf16 :=
  bufV.view.readCov L (keysV j).toLoadRect
def getV' {c : Dev nD} (sv : HoldV c) (L : List (View.Piece (Elt Ideal) S2048x256 .bf16)) (j : Fin 2) : Vec Ideal S1024x256 .bf16 :=
  View.readAt (Elt Ideal) bufV.view (keysV j).toLoadRect (bufV.view.writes (Elt Ideal) sv L)

/-- The block of values as a path stores it. -/
abbrev block (a : Memref sig .tc .vmem S1x2048x128 .bf16) (x : S1x2048x128.Idx → Elt Ideal .bf16) : FVec Ideal S2048x128 .bf16 :=
  k0_pay87 (View.readAt (Elt Ideal) a.view (Rect.unit ![0, 0, 0] S1x2048x128.size inb_S1x2048x128_S1x2048x128_0_0_0).toLoadRect (a.view.rep x))

section A

variable (e1 : AtFirst i TJ) (e2 : ¬Below i TI TJ) (e3 : OnDiag i TI TJ)

theorem runA_m : (runA c i h4 h5 h6 h7 h8 TI TJ q k v e1 e2 e3).2.2.1
    = bufM.view.writes (Elt Ideal) bufM.view.junk
      (afterA (getQ a4 q) (getK a5 k) (getV [valuesPiece (block a6 v), onesPiece])).1 := by sl_kernel_rfl

theorem runA_s : (runA c i h4 h5 h6 h7 h8 TI TJ q k v e1 e2 e3).2.2.2.1
    = bufS.view.writes (Elt Ideal) bufS.view.junk
      (afterA (getQ a4 q) (getK a5 k) (getV [valuesPiece (block a6 v), onesPiece])).2 := by sl_kernel_rfl

theorem runA_v : (runA c i h4 h5 h6 h7 h8 TI TJ q k v e1 e2 e3).2.2.2.2.1
    = bufV.view.writes (Elt Ideal) bufV.view.junk [valuesPiece (block a6 v), onesPiece] := by sl_kernel_rfl

theorem runA_o : (runA c i h4 h5 h6 h7 h8 TI TJ q k v e1 e2 e3).1
    = [⟨Rect.unit ![0, 0] S2048x128.size inb_S2048x128_S2048x128_0_0, k0_pay11
      (bufS.view.readCov (afterA (getQ a4 q) (getK a5 k) (getV [valuesPiece (block a6 v), onesPiece])).2
        (Rect.unit ![0, 0] S2048x256.size inb_S2048x256_S2048x256_0_0).toLoadRect)⟩] := by sl_kernel_rfl

theorem runA_l : (runA c i h4 h5 h6 h7 h8 TI TJ q k v e1 e2 e3).2.1
    = [⟨Rect.unit ![0, 0, 0] S1x2048x1.size inb_S1x2048x1_S1x2048x1_0_0_0, k0_pay12
      (bufS.view.readCov (afterA (getQ a4 q) (getK a5 k) (getV [valuesPiece (block a6 v), onesPiece])).2
        (Rect.unit ![0, 0] S2048x256.size inb_S2048x256_S2048x256_0_0).toLoadRect)
      (bufM.view.readCov (afterA (getQ a4 q) (getK a5 k) (getV [valuesPiece (block a6 v), onesPiece])).1
        (Rect.unit ![0, 0] S2048x1.size inb_S2048x1_S2048x1_0_0).toLoadRect)⟩] := by sl_kernel_rfl

end A

section B

variable (e1 : AtFirst i TJ) (e2 : Below i TI TJ) (e3 : ¬OnDiag i TI TJ)

theorem runB_m : (runB c i h4 h5 h6 h7 h8 TI TJ q k v e1 e2 e3).1
    = bufM.view.writes (Elt Ideal) bufM.view.junk
      (afterB (getQ a4 q) (getK a5 k) (getV [valuesPiece (block a6 v), onesPiece])).1 := by sl_kernel_rfl

theorem runB_s : (runB c i h4 h5 h6 h7 h8 TI TJ q k v e1 e2 e3).2.1
    = bufS.view.writes (Elt Ideal) bufS.view.junk
      (afterB (getQ a4 q) (getK a5 k) (getV [valuesPiece (block a6 v), onesPiece])).2 := by sl_kernel_rfl

theorem runB_v : (runB c i h4 h5 h6 h7 h8 TI TJ q k v e1 e2 e3).2.2.1
    = bufV.view.writes (Elt Ideal) bufV.view.junk [valuesPiece (block a6 v), onesPiece] := by sl_kernel_rfl

end B

section C

variable (sm : HoldM c) (ss : HoldS c) (sv : HoldV c) (e1 : ¬AtFirst i TJ) (e2 : ¬Below i TI TJ) (e3 : OnDiag i TI TJ)

theorem runC_o : (runC c i h4 h5 h6 h7 h8 TI TJ q k v sm ss sv e1 e2 e3).1
    = [⟨Rect.unit ![0, 0] S2048x128.size inb_S2048x128_S2048x128_0_0, k0_pay11
      (bufS.view.readCov (afterC (getQ a4 q) (getK a5 k) (getV' sv [valuesPiece (block a6 v)]) sm ss).2
        (Rect.unit ![0, 0] S2048x256.size inb_S2048x256_S2048x256_0_0).toLoadRect)⟩] := by sl_kernel_rfl

theorem runC_l : (runC c i h4 h5 h6 h7 h8 TI TJ q k v sm ss sv e1 e2 e3).2.1
    = [⟨Rect.unit ![0, 0, 0] S1x2048x1.size inb_S1x2048x1_S1x2048x1_0_0_0, k0_pay12
      (bufS.view.readCov (afterC (getQ a4 q) (getK a5 k) (getV' sv [valuesPiece (block a6 v)]) sm ss).2
        (Rect.unit ![0, 0] S2048x256.size inb_S2048x256_S2048x256_0_0).toLoadRect)
      (bufM.view.readCov (afterC (getQ a4 q) (getK a5 k) (getV' sv [valuesPiece (block a6 v)]) sm ss).1
        (Rect.unit ![0, 0] S2048x1.size inb_S2048x1_S2048x1_0_0).toLoadRect)⟩] := by sl_kernel_rfl

end C

end Paths

end Cert.OutIdeal.Gen.Tile
-- ==== Proof.OutMath.lean ====
module

public import proofs.«01_k».proof.Proof.AttnMath

/-! Causal attention over the reals, a few keys at a time: what a row's largest product and weighted sums are after each
tile, and what they come to at the row's end, whichever number was taken off its products. -/

@[expose] public section

noncomputable section

namespace Cert.OutMath

open Idealize.ShloMosaic Cert.Reals Cert.AttnMath

/-- A weight: a power of two of the scaled distance of a product from `μ`. -/
def wt (κ : ℝ) (s : ℕ → ℝ) (μ : ℝ) (b : ℕ) : ℝ := Real.rpow 2 ((s b - μ) * κ)

theorem wt_shift (κ : ℝ) (s : ℕ → ℝ) (μ μ' : ℝ) (b : ℕ) : Real.rpow 2 ((μ - μ') * κ) * wt κ s μ b = wt κ s μ' b := by
  unfold wt
  change (2 : ℝ) ^ (_ : ℝ) * (2 : ℝ) ^ (_ : ℝ) = (2 : ℝ) ^ (_ : ℝ)
  rw [← Real.rpow_add two_pos]
  ring_nf

/-- What row `i` holds after `n` tiles of 1024 keys: nothing yet, or some number and the sums of the weighted values so far. -/
def Good {C : Type} (κ : ℝ) (s : ℕ → ℝ) (V : ℕ → C → ℝ) (i n : ℕ) (m : EReal) (acc : C → EReal) : Prop :=
  (n = 0 ∧ m = ⊥ ∧ ∀ e, acc e = 0) ∨
  (∃ μ : ℝ, m = (μ : EReal) ∧ ∀ e, acc e = ((∑ b ∈ Finset.range (min (1024 * n) (i + 1)), wt κ s μ b * V b e : ℝ) : EReal))

/-- A tile's keys join those before. -/
theorem sum_tile (f : ℕ → ℝ) (n i : ℕ) (h : n ≤ i) :
    ∑ b ∈ Finset.range n, f b + ∑ a : Fin 1024, (if n + a.val ≤ i then f (n + a.val) else 0)
      = ∑ b ∈ Finset.range (min (n + 1024) (i + 1)), f b := by
  rw [Fin.sum_univ_eq_sum_range (fun a => if n + a ≤ i then f (n + a) else 0), ← Finset.sum_filter,
    show min (n + 1024) (i + 1) = n + min 1024 (i + 1 - n) by omega, Finset.sum_range_add]
  congr 1
  refine Finset.sum_congr (Finset.ext fun a => ?_) fun _ _ => rfl
  simp only [Finset.mem_filter, Finset.mem_range]
  omega

/-- A tile's products, those of later keys left out. -/
def tile (s : ℕ → ℝ) (i lo : ℕ) (a : Fin 1024) : EReal := if lo + a.val ≤ i then (s (lo + a.val) : EReal) else ⊥

theorem tile_largest (s : ℕ → ℝ) (i lo : ℕ) (h : lo ≤ i) : ∃ M : ℝ, Finset.fold max (⊥ : EReal) (tile s i lo) Finset.univ = M := by
  refine fold_real _ (fun a => ?_) 0 ?_
  · unfold tile; split
    · exact EReal.coe_ne_top _
    · exact bot_ne_top
  · unfold tile; rw [if_pos (by simpa using h)]; exact EReal.coe_ne_bot _

theorem tile_weight (κ : ℝ) (hκ : 0 < κ) (s : ℕ → ℝ) (i lo : ℕ) (μ : ℝ) (a : Fin 1024) :
    Ideal.exp2 ((tile s i lo a - (μ : EReal)) * (κ : EReal)) = ((if lo + a.val ≤ i then wt κ s μ (lo + a.val) else 0 : ℝ) : EReal) := by
  unfold tile
  split
  · rw [← EReal.coe_sub, ← EReal.coe_mul, Ideal.exp2_coe]; rfl
  · rw [EReal.bot_sub, EReal.bot_mul_coe_of_pos hκ, Ideal.exp2_bot, EReal.coe_zero]

theorem Good.step {C : Type} {κ : ℝ} (hκ : 0 < κ) {s : ℕ → ℝ} {V : ℕ → C → ℝ} {i n : ℕ} {m : EReal} {acc : C → EReal}
    (hg : Good κ s V i n m acc) (h : 1024 * n ≤ i) {m' : EReal}
    (hm : m' = max m (Finset.fold max (⊥ : EReal) (tile s i (1024 * n)) Finset.univ)) {acc' : C → EReal}
    (ha : ∀ e, acc' e = Ideal.exp2 ((m - m') * (κ : EReal)) * acc e
      + ∑ a : Fin 1024, Ideal.exp2 ((tile s i (1024 * n) a - m') * (κ : EReal)) * (V (1024 * n + a.val) e : EReal)) :
    Good κ s V i (n + 1) m' acc' := by
  obtain ⟨M, hM⟩ := tile_largest s i (1024 * n) h
  rw [hM] at hm
  have key (μ : ℝ) (e : C) : ∑ a : Fin 1024, Ideal.exp2 ((tile s i (1024 * n) a - (μ : EReal)) * (κ : EReal)) * (V (1024 * n + a.val) e : EReal)
      = ((∑ a : Fin 1024, (if 1024 * n + a.val ≤ i then wt κ s μ (1024 * n + a.val) * V (1024 * n + a.val) e else 0) : ℝ) : EReal) := by
    rw [← coe_sum]
    refine Finset.sum_congr rfl fun a _ => ?_
    rw [tile_weight κ hκ, ← EReal.coe_mul, ite_mul, zero_mul]
  have hn : min (1024 * (n + 1)) (i + 1) = min (1024 * n + 1024) (i + 1) := by rw [Nat.mul_succ]
  refine .inr ?_
  rcases hg with ⟨rfl, rfl, h0⟩ | ⟨μ, rfl, hs⟩
  · rw [max_eq_right bot_le] at hm
    subst hm
    refine ⟨M, rfl, fun e => ?_⟩
    rw [ha, h0, mul_zero, zero_add, key, hn, ← sum_tile _ _ _ h]
    simp
  · rw [coe_max] at hm
    subst hm
    refine ⟨max μ M, rfl, fun e => ?_⟩
    rw [ha, hs, key, ← EReal.coe_sub, ← EReal.coe_mul, Ideal.exp2_coe, ← EReal.coe_mul, ← EReal.coe_add, hn, ← sum_tile _ _ _ h,
      Finset.mul_sum]
    rw [show min (1024 * n) (i + 1) = 1024 * n by omega]
    simp only [← mul_assoc, wt_shift]

/-! ### A whole row -/

variable (Q K : Fin 4096 → Fin 192 → ℝ) (W : Fin 4096 → Fin 128 → ℝ)

/-- The kernel's factor for a product before its power of two is taken. -/
abbrev factor : ℝ := (Real.sqrt 192)⁻¹ * (Real.log 2)⁻¹

theorem factor_pos : 0 < factor := mul_pos (inv_pos.mpr (Real.sqrt_pos.mpr (by norm_num))) (inv_pos.mpr (Real.log_pos one_lt_two))

/-- A query's products by the keys' places. -/
def prods (a : Fin 4096) (b : ℕ) : ℝ := if h : b < 4096 then ∑ x, Q a x * K ⟨b, h⟩ x else 0

/-- The values, and ones beside them. -/
def vals (b : ℕ) (e : Fin 256) : ℝ := if h : b < 4096 then if h' : e.val < 128 then W ⟨b, h⟩ ⟨e.val, h'⟩ else 1 else 1

theorem sum_row (f : ℕ → ℝ) (a : Fin 4096) : ∑ b ∈ Finset.range (a.val + 1), f b = ∑ b : Fin 4096, if b ≤ a then f b.val else 0 := by
  have := a.isLt
  rw [show (∑ b : Fin 4096, if b ≤ a then f b.val else 0) = ∑ b : Fin 4096, if b.val ≤ a.val then f b.val else 0 from rfl,
    Fin.sum_univ_eq_sum_range (fun b => if b ≤ a.val then f b else 0), ← Finset.sum_filter]
  refine Finset.sum_congr (Finset.ext fun b => ?_) fun _ _ => rfl
  simp only [Finset.mem_filter, Finset.mem_range]
  omega

theorem wt_expo (a b : Fin 4096) (μ : ℝ) : (if b ≤ a then wt factor (prods Q K a) μ b.val else 0)
    = expo Q K a b * Real.exp (top Q K a - μ / Real.sqrt 192) := by
  unfold expo
  split
  · unfold wt prods
    rw [dif_pos b.isLt, ← Real.exp_add]
    change (2 : ℝ) ^ (_ : ℝ) = _
    rw [Real.rpow_def_of_pos two_pos]
    have hl : Real.log 2 ≠ 0 := (Real.log_pos one_lt_two).ne'
    congr 1
    unfold score
    simp only [Fin.eta]
    field_simp
    ring
  · rw [zero_mul]

theorem sums_row (a : Fin 4096) (μ : ℝ) (e : Fin 256) : ∑ b ∈ Finset.range (a.val + 1), wt factor (prods Q K a) μ b * vals W b e
    = (∑ b, expo Q K a b * vals W b.val e) * Real.exp (top Q K a - μ / Real.sqrt 192) := by
  rw [sum_row, Finset.sum_mul]
  refine Finset.sum_congr rfl fun b _ => ?_
  have := wt_expo Q K a b μ
  rw [show (if b ≤ a then wt factor (prods Q K a) μ b.val * vals W b.val e else 0)
    = (if b ≤ a then wt factor (prods Q K a) μ b.val else 0) * vals W b.val e by rw [ite_mul, zero_mul], this]
  ring

/-- A row's output: its probabilities times the values. -/
def outp (a : Fin 4096) (x : Fin 128) : ℝ := ∑ b, prob Q K a b * W b x

/-- The logarithm of a row's sum of exponentials. -/
def logSum (a : Fin 4096) : ℝ := top Q K a + Real.log (total Q K a)

variable {Q K W} {a : Fin 4096} {n : ℕ} {m : EReal} {acc : Fin 256 → EReal}

/-- At a row's end the number taken off no longer matters: -/
theorem Good.finish (hg : Good factor (prods Q K a) (vals W) a.val n m acc) (h : a.val < 1024 * n) :
    (∀ x : Fin 128, Ideal.div (acc ⟨x.val, by omega⟩) (acc 128) = (outp Q K W a x : EReal)) ∧
    m * (((Real.sqrt 192)⁻¹ : ℝ) : EReal) + Ideal.log (acc 128) = (logSum Q K a : EReal) := by
  rcases hg with ⟨rfl, -, -⟩ | ⟨μ, rfl, hs⟩
  · simp at h
  rw [show min (1024 * n) (a.val + 1) = a.val + 1 by omega] at hs
  simp only [sums_row] at hs
  have hE := Real.exp_pos (top Q K a - μ / Real.sqrt 192)
  have hT := total_pos Q K a
  have h1 : ∑ b, expo Q K a b * vals W b.val 128 = total Q K a := by
    refine Finset.sum_congr rfl fun b _ => ?_
    unfold vals
    rw [dif_pos b.isLt, dif_neg (by decide), mul_one]
  have hz : acc 128 = ((total Q K a * Real.exp (top Q K a - μ / Real.sqrt 192) : ℝ) : EReal) := by rw [hs, h1]
  refine ⟨fun x => ?_, ?_⟩
  · rw [hz, hs, div_real _ (mul_pos hT hE).ne']
    congr 1
    rw [mul_div_mul_right _ _ hE.ne', outp, Finset.sum_div]
    refine Finset.sum_congr rfl fun b _ => ?_
    unfold vals prob
    rw [dif_pos b.isLt, dif_pos x.isLt]
    simp only [Fin.eta]
    ring
  · rw [hz, Ideal.log_coe, if_neg (not_le.mpr (mul_pos hT hE)), Real.log_mul hT.ne' hE.ne', Real.log_exp, ← EReal.coe_mul, ← EReal.coe_add]
    congr 1
    unfold logSum
    ring

end Cert.OutMath
-- ==== Proof.OutIdealSums.lean ====
module

public import proofs.«01_k».proof.Proof.OutIdealTiles
public import proofs.«01_k».proof.Proof.OutMath
public import Idealize.ShloMosaic.Lib.WordCmp

/-! What the tiles leave, row by row, where the products are real. -/

@[expose] public section

set_option maxRecDepth 16384

noncomputable section

namespace Cert.OutIdeal.Gen.Tile

open Cert.OutIdeal Cert.OutIdeal.Gen Cert.Reals Cert.OutMath
open Idealize.ShloMosaic Idealize.ShloMosaic.TcCoe Idealize.ShloMosaic.Tactic

/-- The row of a block by its tile and its place there, and a key's row. -/
def row (j : Fin 8) (a : Fin 256) : Fin 2048 := ⟨256 * j.val + a.val, by have := j.isLt; have := a.isLt; omega⟩
def keyRow (j : Fin 2) (b : Fin 1024) : Fin 2048 := ⟨1024 * j.val + b.val, by have := j.isLt; have := b.isLt; omega⟩

/-- The kernel's two named constants. -/
abbrev scaleLog : EReal := (Named.named κ "scale_log2e" 0x3DD53B95#32 : Ideal .f32)
abbrev scale : EReal := (Named.named κ "scale" 0x3D93CD3A#32 : Ideal .f32)
theorem scaleLog_eq : scaleLog = (factor : EReal) := IdealRules.named_const.ideal_named_scalar κ _ _ _ rfl
theorem scale_eq : scale = (((Real.sqrt 192)⁻¹ : ℝ) : EReal) := IdealRules.named_const.ideal_named_scalar κ _ _ _ rfl

section

variable (q : Fin 8 → Vec Ideal S1x256x192 .bf16) (k : Fin 2 → Vec Ideal S1x1024x192 .bf16) (v : Fin 2 → Vec Ideal S1024x256 .bf16)

theorem dots_apply (q0 : Fin 8) (k0 : Fin 2) (a : Fin 256) (b : Fin 1024) : dots q k q0 k0 (ix2 a b)
    = ∑ x : Fin 192, q q0 (ix3 0 a x) * k k0 (ix3 0 b x) := by
  unfold dots
  pointwise

theorem cut_apply (q0 : Fin 8) (k0 : Fin 2) (x : FVec Ideal S256x1024 .f32) (a : Fin 256) (b : Fin 1024) :
    cut q0 k0 x (ix2 a b) = if 1024 * k0.val + b.val ≤ 256 * q0.val + a.val then x (ix2 a b) else ⊥ := by
  have hq := q0.isLt
  have hk := k0.isLt
  have ha := a.isLt
  have hb := b.isLt
  unfold cut
  pointwise
  simp only [IntOp.addi, ← BitVec.ofNat_add]
  simp (disch := word_cmp_side) only [hlo_ix]
  simp only [bot_f32]

theorem newM_apply (tri : Bool) (q0 : Fin 8) (k0 : Fin 2) (x : Vec Ideal S256x1 .f32) (a : Fin 256) :
    newM q k tri q0 k0 x (ix2 a 0) = max (x (ix2 a 0)) (Finset.fold max (⊥ : EReal) (fun b : Fin 1024 => cell q k tri q0 k0 (ix2 a b)) Finset.univ) := by
  unfold newM
  pointwise
  simp only [bot_f32]

theorem addS_apply (tri : Bool) (q0 : Fin 8) (k0 : Fin 2) (x : Vec Ideal S256x1 .f32) (y : Vec Ideal S256x256 .f32) (a : Fin 256) (e : Fin 256) :
    addS q k v tri q0 k0 x y (ix2 a e)
      = Ideal.exp2 ((x (ix2 a 0) - newM q k tri q0 k0 x (ix2 a 0)) * scaleLog) * y (ix2 a e)
        + ∑ b : Fin 1024, Ideal.exp2 ((cell q k tri q0 k0 (ix2 a b) - newM q k tri q0 k0 x (ix2 a 0)) * scaleLog) * v k0 (ix2 b e) := by
  unfold addS
  pointwise
  rfl

end

/-! ### Blocks of rows -/

theorem rowsM_emb (j : Fin 8) (a : Fin 256) : (rowsM j).emb (ix2 a 0) = ix2 (row j a) 0 := by
  funext x; refine Fin.ext ?_
  change (rowsM j).off x + (rowsM j).stride x * _ = _
  fin_cases x <;> simp [row]

theorem rowsS_emb (j : Fin 8) (a : Fin 256) (e : Fin 256) : (rowsS j).emb (ix2 a e) = ix2 (row j a) e := by
  funext x; refine Fin.ext ?_
  change (rowsS j).off x + (rowsS j).stride x * _ = _
  fin_cases x <;> simp [row]

theorem rowsM_out {j j' : Fin 8} (h : j' ≠ j) (a : Fin 256) : (ix2 (row j' a) 0 : S2048x1.Idx) ∉ (rowsM j).set := by
  intro hm
  have h0 := Rect.mem_set_unit.mp hm 0
  have := a.isLt
  simp [row] at h0
  exact h (Fin.ext (by omega))

theorem rowsS_out {j j' : Fin 8} (h : j' ≠ j) (a : Fin 256) (e : Fin 256) : (ix2 (row j' a) e : S2048x256.Idx) ∉ (rowsS j).set := by
  intro hm
  have h0 := Rect.mem_set_unit.mp hm 0
  have := a.isLt
  simp [row] at h0
  exact h (Fin.ext (by omega))

theorem canonM_cons (j j' : Fin 8) (w : Vec Ideal S256x1 .f32) (L : List PieceM) (a : Fin 256) :
    View.canon (⟨rowsM j, w⟩ :: L) (ix2 (row j' a) 0) = if j' = j then w (ix2 a 0) else View.canon L (ix2 (row j' a) 0) := by
  split
  · next h => subst h; rw [← rowsM_emb]; exact View.canon_cons_emb ..
  · next h => exact View.canon_cons_of_not_mem _ _ (rowsM_out h a)

theorem canonS_cons (j j' : Fin 8) (w : Vec Ideal S256x256 .f32) (L : List PieceS) (a : Fin 256) (e : Fin 256) :
    View.canon (⟨rowsS j, w⟩ :: L) (ix2 (row j' a) e) = if j' = j then w (ix2 a e) else View.canon L (ix2 (row j' a) e) := by
  split
  · next h => subst h; rw [← rowsS_emb]; exact View.canon_cons_emb ..
  · next h => exact View.canon_cons_of_not_mem _ _ (rowsS_out h a e)

theorem readM_apply (L : List PieceM) (j : Fin 8) (a : Fin 256) :
    bufM.view.readCov L (rowsM j).toLoadRect (ix2 a 0) = View.canon L (ix2 (row j a) 0) := by
  rw [View.readCov_eq_canon']; exact congrArg (View.canon L) (rowsM_emb j a)

theorem readS_apply (L : List PieceS) (j : Fin 8) (a : Fin 256) (e : Fin 256) :
    bufS.view.readCov L (rowsS j).toLoadRect (ix2 a e) = View.canon L (ix2 (row j a) e) := by
  rw [View.readCov_eq_canon']; exact congrArg (View.canon L) (rowsS_emb j a e)

/-! ### One tile over the reals -/

section Real

variable {q : Fin 8 → Vec Ideal S1x256x192 .bf16} {k : Fin 2 → Vec Ideal S1x1024x192 .bf16} {v : Fin 2 → Vec Ideal S1024x256 .bf16}
  {Q K : Fin 4096 → Fin 192 → ℝ} {W : Fin 4096 → Fin 128 → ℝ} {it jt : Fin 2}

/-- A row among all the rows, by its block. -/
def glob (b : Fin 2) (r : Fin 2048) : Fin 4096 := ⟨2048 * b.val + r.val, by have := b.isLt; have := r.isLt; omega⟩

/-- The operands of a block's tiles are those rows of the reals. -/
def Operands (q : Fin 8 → Vec Ideal S1x256x192 .bf16) (k : Fin 2 → Vec Ideal S1x1024x192 .bf16) (v : Fin 2 → Vec Ideal S1024x256 .bf16)
    (Q K : Fin 4096 → Fin 192 → ℝ) (W : Fin 4096 → Fin 128 → ℝ) (it jt : Fin 2) : Prop :=
  (∀ j a x, q j (ix3 0 a x) = (Q (glob it (row j a)) x : EReal)) ∧
  (∀ j b x, k j (ix3 0 b x) = (K (glob jt (keyRow j b)) x : EReal)) ∧
  (∀ j b e, v j (ix2 b e) = (vals W (glob jt (keyRow j b)).val e : EReal))

/-- A tile that is taken: none of its rows is before all of its keys, and off the diagonal none before any. -/
def Taken (tri : Bool) (it jt : Fin 2) (t : Fin 8 × Fin 2) : Prop :=
  2048 * jt.val + 1024 * t.2.val ≤ 2048 * it.val + 256 * t.1.val ∧
  if tri = true ∧ t.1.val / 4 = t.2.val then it = jt else 2048 * jt.val + 1024 * t.2.val + 1024 ≤ 2048 * it.val + 256 * t.1.val

instance (tri : Bool) (it jt : Fin 2) (t : Fin 8 × Fin 2) : Decidable (Taken tri it jt t) := by unfold Taken; infer_instance

theorem cell_tile (ho : Operands q k v Q K W it jt) {tri : Bool} {q0 : Fin 8} {k0 : Fin 2} (ht : Taken tri it jt (q0, k0)) (a : Fin 256) (b : Fin 1024) :
    cell q k tri q0 k0 (ix2 a b)
      = tile (prods Q K (glob it (row q0 a))) (glob it (row q0 a)).val (1024 * (2 * jt.val + k0.val)) b := by
  obtain ⟨h1, h2⟩ := ht
  have := a.isLt; have := b.isLt; have := k0.isLt; have := jt.isLt
  have hd : dots q k q0 k0 (ix2 a b) = (prods Q K (glob it (row q0 a)) (1024 * (2 * jt.val + k0.val) + b.val) : EReal) := by
    rw [dots_apply]
    simp only [ho.1, ho.2.1, ← EReal.coe_mul, coe_sum]
    unfold prods
    rw [dif_pos (by omega)]
    congr 1
    refine Finset.sum_congr rfl fun x _ => ?_
    congr 2
    refine Fin.ext ?_
    simp only [glob, keyRow]
    omega
  unfold cell tile
  by_cases hc : tri = true ∧ q0.val / 4 = k0.val
  · rw [if_pos hc] at h2
    subst h2
    rw [show (tri && (q0.val / 4 == k0.val)) = true by simp [hc], cond_true, cut_apply, hd]
    refine if_congr ?_ rfl rfl
    simp only [glob, row]
    omega
  · rw [if_neg hc] at h2
    rw [show (tri && (q0.val / 4 == k0.val)) = false by simpa using hc, cond_false, hd, if_pos]
    simp only [glob, row] at h1 h2 ⊢
    omega

theorem tile_good (ho : Operands q k v Q K W it jt) {tri : Bool} {q0 : Fin 8} {k0 : Fin 2} (ht : Taken tri it jt (q0, k0)) (a : Fin 256)
    {x : Vec Ideal S256x1 .f32} {y : Vec Ideal S256x256 .f32} {m : EReal} {acc : Fin 256 → EReal}
    (hg : Good factor (prods Q K (glob it (row q0 a))) (vals W) (glob it (row q0 a)).val (2 * jt.val + k0.val) m acc)
    (hx : x (ix2 a 0) = m) (hy : ∀ e, y (ix2 a e) = acc e) :
    Good factor (prods Q K (glob it (row q0 a))) (vals W) (glob it (row q0 a)).val (2 * jt.val + k0.val + 1)
      (keepM q k tri q0 k0 x (ix2 a 0)) fun e => addS q k v tri q0 k0 x y (ix2 a e) := by
  subst hx
  obtain rfl : (fun e => y (ix2 a e)) = acc := funext hy
  have hm : keepM q k tri q0 k0 x (ix2 a 0) = newM q k tri q0 k0 x (ix2 a 0) := by unfold keepM; pointwise
  rw [hm]
  refine hg.step factor_pos ?_ ?_ fun e => ?_
  · have := ht.1
    simp only [glob, row] at this ⊢
    omega
  · rw [newM_apply]
    exact congrArg (fun f => max (x (ix2 a 0)) (Finset.fold max (⊥ : EReal) f Finset.univ)) (funext fun b => cell_tile ho ht a b)
  · rw [addS_apply, scaleLog_eq]
    congr 1
    refine Finset.sum_congr rfl fun b _ => ?_
    rw [cell_tile ho ht, ho.2.2]
    congr 3
    simp only [glob, keyRow]
    omega

/-! ### The tiles one after another -/

/-- What is known of the rows after some tiles: of the rows of tile `j`, if `f j` is a number, that so many tiles of keys are in. -/
def Known (Q K : Fin 4096 → Fin 192 → ℝ) (W : Fin 4096 → Fin 128 → ℝ) (it : Fin 2) (f : Fin 8 → Option ℕ) (L : List PieceM × List PieceS) : Prop :=
  ∀ j n, f j = some n → ∀ a : Fin 256, Good factor (prods Q K (glob it (row j a))) (vals W) (glob it (row j a)).val n
    (View.canon L.1 (ix2 (row j a) 0)) fun e => View.canon L.2 (ix2 (row j a) e)

/-- A tile may be next, and what is known after it. -/
def Next (tri : Bool) (it jt : Fin 2) (f : Fin 8 → Option ℕ) (t : Fin 8 × Fin 2) : Prop :=
  Taken tri it jt t ∧ f t.1 = some (2 * jt.val + t.2.val)
def bump (jt : Fin 2) (f : Fin 8 → Option ℕ) (t : Fin 8 × Fin 2) : Fin 8 → Option ℕ :=
  fun j => if j = t.1 then some (2 * jt.val + t.2.val + 1) else f j

theorem Known.visit (ho : Operands q k v Q K W it jt) {tri : Bool} {f : Fin 8 → Option ℕ} {L : List PieceM × List PieceS}
    (hL : Known Q K W it f L) {t : Fin 8 × Fin 2} (ht : Next tri it jt f t) :
    Known Q K W it (bump jt f t) (Tile.visit q k v tri L t) := by
  intro j n hn a
  simp only [Tile.visit, canonM_cons, canonS_cons]
  unfold bump at hn
  split at hn
  · next h =>
    subst h
    obtain rfl := (Option.some.inj hn).symm
    simp only [if_true]
    exact tile_good ho ht.1 a (hL _ _ ht.2 a) (readM_apply ..) (readS_apply _ _ _)
  · next h =>
    simp only [if_neg h]
    exact hL j n hn a

/-- A list of tiles may be next. -/
def Nexts (tri : Bool) (it jt : Fin 2) : (Fin 8 → Option ℕ) → List (Fin 8 × Fin 2) → Prop
  | _, [] => True
  | f, t :: ts => Next tri it jt f t ∧ Nexts tri it jt (bump jt f t) ts

theorem Known.visits (ho : Operands q k v Q K W it jt) {tri : Bool} (ts : List (Fin 8 × Fin 2)) : ∀ {f : Fin 8 → Option ℕ}
    {L : List PieceM × List PieceS}, Known Q K W it f L → Nexts tri it jt f ts →
    Known Q K W it (ts.foldl (bump jt) f) (ts.foldl (Tile.visit q k v tri) L) := by
  induction ts with
  | nil => exact fun h _ => h
  | cons t ts ih => exact fun h hn => ih (h.visit ho hn.1) hn.2

/-- Rows that go on from an earlier block. -/
theorem Known.resume (ho : Operands q k v Q K W it jt) {tri : Bool} {c : Dev nD} {sm : HoldM c} {ss : HoldS c}
    (hs : ∀ (j : Fin 8) (a : Fin 256), Good factor (prods Q K (glob it (row j a))) (vals W) (glob it (row j a)).val (2 * jt.val)
      (bufM.view.read (Elt Ideal) sm (ix2 (row j a) 0)) fun e => bufS.view.read (Elt Ideal) ss (ix2 (row j a) e))
    {f : Fin 8 → Option ℕ} {L : List PieceM × List PieceS} (hL : Known Q K W it f L) {i : Fin 8} (ht : Taken tri it jt (i, 0)) :
    Known Q K W it (bump jt f (i, 0)) (Tile.resume q k v sm ss tri L i) := by
  intro j n hn a
  simp only [Tile.resume, canonM_cons, canonS_cons]
  unfold bump at hn
  split at hn
  · next h =>
    have h' : j = i := h
    subst h'
    obtain rfl := (Option.some.inj hn).symm
    simp only [if_true]
    exact tile_good ho ht a (hs j a) (congrArg (bufM.view.read (Elt Ideal) sm) (rowsM_emb j a))
      fun e => congrArg (bufS.view.read (Elt Ideal) ss) (rowsS_emb j a e)
  · next h =>
    have h' : ¬ j = i := h
    simp only [if_neg h']
    exact hL j n hn a

end Real

end Cert.OutIdeal.Gen.Tile
-- ==== Proof.OutIdealFacts.lean ====
module

public import proofs.«01_k».proof.Proof.OutIdealRuns

/-! The schedule of the attention's call at its two tables: eight heads of three steps each, the steps of a head
on the paths `runA`, `runB` and `runC` in turn. -/

@[expose] public section

set_option maxRecDepth 16384
set_option Elab.async false

noncomputable section

namespace Cert.OutIdeal.Gen

open Cert.OutIdeal
open Idealize.ShloMosaic Idealize.ShloMosaic.TcCoe Idealize.ShloMosaic.Tactic

/-- The row blocks and the column blocks of a head's three steps. -/
def rows : S3.Idx → BitVec 32 := fun x => ([0#32, 1#32, 1#32] : List (BitVec 32)).getD (x 0).val 0#32
def cols : S3.Idx → BitVec 32 := fun x => ([0#32, 0#32, 1#32] : List (BitVec 32)).getD (x 0).val 0#32

set_option backward.proofsInPublic true in
def tables : pre0.Contents (Elt Ideal) := fun | ⟨0, _⟩ => rows | ⟨1, _⟩ => cols | ⟨_ + 2, h⟩ => absurd h (by simp)

theorem inside0 : ∀ i : grid0.Coords, ∀ a, (cc0_transform_0 k0_off1_inb numel1_S1 tables i a + 1) * S1x2048x192.size a
    ≤ S8x4096x192.size a := by decide +kernel
theorem inside1 : ∀ i : grid0.Coords, ∀ a, (cc0_transform_1 k0_off1_inb numel1_S1 tables i a + 1) * S1x2048x192.size a
    ≤ S8x4096x192.size a := by decide +kernel
theorem inside2 : ∀ i : grid0.Coords, ∀ a, (cc0_transform_2 k0_off1_inb numel1_S1 tables i a + 1) * S1x2048x128.size a
    ≤ S8x4096x128.size a := by decide +kernel
theorem inside3 : ∀ i : grid0.Coords, ∀ a, (cc0_transform_3 k0_off1_inb numel1_S1 tables i a + 1) * S2048x128.size a
    ≤ S4096x1024.size a := by decide +kernel
theorem inside4 : ∀ i : grid0.Coords, ∀ a, (cc0_transform_4 k0_off1_inb numel1_S1 tables i a + 1) * S1x2048x1.size a
    ≤ S8x4096x1.size a := by decide +kernel

theorem tables_ok : ok0 (F := Ideal) tables :=
  ⟨fun i => ⟨inside0 i, .inr (Affine.block_words_dvd (s := S8x4096x192) (p := EltTy.packing .bf16) (by decide) (by decide))⟩,
   fun i => ⟨inside1 i, .inr (Affine.block_words_dvd (s := S8x4096x192) (p := EltTy.packing .bf16) (by decide) (by decide))⟩,
   fun i => ⟨inside2 i, .inr (Affine.block_words_dvd (s := S8x4096x128) (p := EltTy.packing .bf16) (by decide) (by decide))⟩,
   fun i => ⟨inside3 i, .inl rfl⟩, fun i => ⟨inside4 i, .inl rfl⟩⟩

/-- The call at its tables. -/
def adm : (pcfg0 (F := Ideal)).Adm := ⟨tables, tables_ok⟩
abbrev cfgA : Pipeline.Cfg sig Λ₀ := cfg0 (F := Ideal) adm
abbrev pcs : Fin 1 → Pipeline.Cfg sig Λ₀ := Pipeline.pin (pcfgs (F := Ideal)) fun _ => adm
abbrev crd (t : Fin cfgA.N) : cfgA.grid.Coords := cfgA.grid.coords t

/-- Each window's current staging buffer at step `t`. -/
abbrev st0 (t : Fin cfgA.N) : Memref sig .tc .vmem S1x2048x192 .bf16 := spec0_0.stage (cfgA.slots t (0 : Fin 5))
abbrev st1 (t : Fin cfgA.N) : Memref sig .tc .vmem S1x2048x192 .bf16 := spec0_1.stage (cfgA.slots t (1 : Fin 5))
abbrev st2 (t : Fin cfgA.N) : Memref sig .tc .vmem S1x2048x128 .bf16 := spec0_2.stage (cfgA.slots t (2 : Fin 5))
abbrev st3 (t : Fin cfgA.N) : Memref sig .tc .vmem S2048x128 .f32 := spec0_3.stage (cfgA.slots t (3 : Fin 5))
abbrev st4 (t : Fin cfgA.N) : Memref sig .tc .vmem S1x2048x1 .f32 := spec0_4.stage (cfgA.slots t (4 : Fin 5))
abbrev wh0 (t : Fin cfgA.N) : (st0 t).IsWhole := hstage0_0 ((cfgA.slots t (0 : Fin 5)).cast nbuf0_0)
abbrev wh1 (t : Fin cfgA.N) : (st1 t).IsWhole := hstage0_1 ((cfgA.slots t (1 : Fin 5)).cast nbuf0_1)
abbrev wh2 (t : Fin cfgA.N) : (st2 t).IsWhole := hstage0_2 ((cfgA.slots t (2 : Fin 5)).cast nbuf0_2)
abbrev wh3 (t : Fin cfgA.N) : (st3 t).IsWhole := hstage0_3 ((cfgA.slots t (3 : Fin 5)).cast nbuf0_3)
abbrev wh4 (t : Fin cfgA.N) : (st4 t).IsWhole := hstage0_4 ((cfgA.slots t (4 : Fin 5)).cast nbuf0_4)

/-- The branches a head's first, second and third step take. -/
theorem pathA : ∀ t : Fin cfgA.N, t.val % 3 = 0 → AtFirst (crd t) cols ∧ ¬Below (crd t) rows cols ∧ OnDiag (crd t) rows cols := by
  decide +kernel
theorem pathB : ∀ t : Fin cfgA.N, t.val % 3 = 1 → AtFirst (crd t) cols ∧ Below (crd t) rows cols ∧ ¬OnDiag (crd t) rows cols := by
  decide +kernel
theorem pathC : ∀ t : Fin cfgA.N, t.val % 3 = 2 → ¬AtFirst (crd t) cols ∧ ¬Below (crd t) rows cols ∧ OnDiag (crd t) rows cols := by
  decide +kernel

/-- Both outputs are stored and written back at a head's first and third step, and at no other. -/
theorem storesAC : ∀ t : Fin cfgA.N, t.val % 3 ≠ 1 →
    cfgA.idle (3 : Fin 5) (crd t) = false ∧ (cfgA.win (3 : Fin 5)).flush t = true
    ∧ cfgA.idle (4 : Fin 5) (crd t) = false ∧ (cfgA.win (4 : Fin 5)).flush t = true := by decide +kernel
theorem storesB : ∀ t : Fin cfgA.N, t.val % 3 = 1 →
    cfgA.idle (3 : Fin 5) (crd t) = true ∧ (cfgA.win (3 : Fin 5)).flush t = false
    ∧ cfgA.idle (4 : Fin 5) (crd t) = true ∧ (cfgA.win (4 : Fin 5)).flush t = false := by decide +kernel

/-- An output that a step stores is written back by that step. -/
theorem stored_or_idle : ∀ t : Fin cfgA.N, ∀ w : Fin 5, 3 ≤ w.val →
    ((cfgA.win w).flush t || cfgA.idle w (crd t)) = true := by
  intro t w hw
  have hs : w = 3 ∨ w = 4 := by omega
  by_cases h : t.val % 3 = 1
  · obtain ⟨a, -, b, -⟩ := storesB t h
    rcases hs with rfl | rfl
    · exact Bool.or_eq_true_iff.mpr (.inr a)
    · exact Bool.or_eq_true_iff.mpr (.inr b)
  · obtain ⟨-, a, -, b⟩ := storesAC t h
    rcases hs with rfl | rfl
    · exact Bool.or_eq_true_iff.mpr (.inl a)
    · exact Bool.or_eq_true_iff.mpr (.inl b)

theorem fresh_all (w : Fin 5) (hw : 3 ≤ w.val) : ∀ n, n ≤ cfgA.N → cfgA.fresh w n = true
  | 0, _ => Pipeline.Cfg.fresh_zero _ _
  | n + 1, h => by
    rw [Pipeline.Cfg.fresh_succ cfgA w n h, fresh_all w hw n (Nat.le_of_succ_le h), Bool.and_true]
    exact stored_or_idle ⟨n, h⟩ w hw

end Cert.OutIdeal.Gen

end
-- ==== Proof.OutIdealFrame.lean ====
module

public import proofs.«01_k».proof.Proof.OutIdealFacts

/-! The attention's call from launch to end: what its buffers hold after each step, and the run of the whole
program from any memory. -/

@[expose] public section

set_option maxRecDepth 16384
set_option Elab.async false

noncomputable section

namespace Cert.OutIdeal.Gen

open Cert.OutIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- What the buffers hold once the host lines before the call have run. -/
def V (c : Dev nD) (b : Ref sig .tc) : Buf (Elt Ideal) ((c : Thread nD τ).loc b) := StableHlo.after hostOps0 (fun b => m (c, b)) b

/-- Window `w`'s block at step `t`. -/
def iblk (c : Dev nD) (w : Fin cfgA.W) (t : Fin cfgA.N) : ((cfgA.win w).xblock (crd t)).Idx → Elt Ideal (cfgA.win w).elt :=
  ((cfgA.win w).blk t).view.read (Elt Ideal) (V m c (Pipeline.arrRef cfgA.spec w))

/-- The three scratch buffers' contents. -/
structure Acc (c : Dev nD) where
  m : HoldM c
  s : HoldS c
  v : HoldV c

/-- The body's run at a head's first, second and third step. -/
abbrev atA (c : Dev nD) (t : Fin cfgA.N) (h : t.val % 3 = 0) :=
  runA c (crd t) (wh0 t) (wh1 t) (wh2 t) (wh3 t) (wh4 t) rows cols (iblk m c (0 : Fin 5) t)
    (iblk m c (1 : Fin 5) t) (iblk m c (2 : Fin 5) t) (pathA t h).1 (pathA t h).2.1 (pathA t h).2.2
abbrev atB (c : Dev nD) (t : Fin cfgA.N) (h : t.val % 3 = 1) :=
  runB c (crd t) (wh0 t) (wh1 t) (wh2 t) (wh3 t) (wh4 t) rows cols (iblk m c (0 : Fin 5) t)
    (iblk m c (1 : Fin 5) t) (iblk m c (2 : Fin 5) t) (pathB t h).1 (pathB t h).2.1 (pathB t h).2.2
abbrev atC (c : Dev nD) (t : Fin cfgA.N) (h : t.val % 3 = 2) (p : Acc c) :=
  runC c (crd t) (wh0 t) (wh1 t) (wh2 t) (wh3 t) (wh4 t) rows cols (iblk m c (0 : Fin 5) t)
    (iblk m c (1 : Fin 5) t) (iblk m c (2 : Fin 5) t) p.m p.s p.v (pathC t h).1 (pathC t h).2.1 (pathC t h).2.2

/-- The scratch buffers after step `t`, from those before it. -/
def accStep (c : Dev nD) (t : Fin cfgA.N) (p : Acc c) : Acc c :=
  if h : t.val % 3 = 0 then ⟨(atA m c t h).2.2.1, (atA m c t h).2.2.2.1, (atA m c t h).2.2.2.2.1⟩
  else if h : t.val % 3 = 1 then ⟨(atB m c t h).1, (atB m c t h).2.1, (atB m c t h).2.2.1⟩
  else if h : t.val % 3 = 2 then ⟨(atC m c t h p).2.2.1, (atC m c t h p).2.2.2.1, (atC m c t h p).2.2.2.2.1⟩
  else p

/-- The scratch buffers before step `n`. -/
def acc (c : Dev nD) : ℕ → Acc c
  | 0 => ⟨bufM.view.junk, bufS.view.junk, bufV.view.junk⟩
  | n + 1 => if h : n < cfgA.N then accStep m c ⟨n, h⟩ (acc c n) else acc c n

theorem acc_succ (c : Dev nD) (t : Fin cfgA.N) : acc m c (t.val + 1) = accStep m c t (acc m c t.val) := dif_pos t.isLt

theorem accStep_A (c : Dev nD) (t : Fin cfgA.N) (p : Acc c) (h : t.val % 3 = 0) :
    accStep m c t p = ⟨(atA m c t h).2.2.1, (atA m c t h).2.2.2.1, (atA m c t h).2.2.2.2.1⟩ := dif_pos h
theorem accStep_B (c : Dev nD) (t : Fin cfgA.N) (p : Acc c) (h : t.val % 3 = 1) :
    accStep m c t p = ⟨(atB m c t h).1, (atB m c t h).2.1, (atB m c t h).2.2.1⟩ :=
  (dif_neg (by omega)).trans (dif_pos h)
theorem accStep_C (c : Dev nD) (t : Fin cfgA.N) (p : Acc c) (h : t.val % 3 = 2) :
    accStep m c t p = ⟨(atC m c t h p).2.2.1, (atC m c t h p).2.2.2.1, (atC m c t h p).2.2.2.2.1⟩ :=
  (dif_neg (by omega)).trans ((dif_neg (by omega)).trans (dif_pos h))

/-- The two outputs' blocks after step `t`. -/
def out3 (c : Dev nD) (t : Fin cfgA.N) : S2048x128.Idx → Elt Ideal .f32 :=
  if h : t.val % 3 = 0 then View.canon (atA m c t h).1
  else if h : t.val % 3 = 2 then View.canon (atC m c t h (acc m c t.val)).1 else View.canon []
def out4 (c : Dev nD) (t : Fin cfgA.N) : S1x2048x1.Idx → Elt Ideal .f32 :=
  if h : t.val % 3 = 0 then View.canon (atA m c t h).2.1
  else if h : t.val % 3 = 2 then View.canon (atC m c t h (acc m c t.val)).2.1 else View.canon []

theorem out3_A (c : Dev nD) (t : Fin cfgA.N) (h : t.val % 3 = 0) : out3 m c t = View.canon (atA m c t h).1 := dif_pos h
theorem out4_A (c : Dev nD) (t : Fin cfgA.N) (h : t.val % 3 = 0) : out4 m c t = View.canon (atA m c t h).2.1 := dif_pos h
theorem out3_C (c : Dev nD) (t : Fin cfgA.N) (h : t.val % 3 = 2) : out3 m c t = View.canon (atC m c t h (acc m c t.val)).1 :=
  (dif_neg (by omega)).trans (dif_pos h)
theorem out4_C (c : Dev nD) (t : Fin cfgA.N) (h : t.val % 3 = 2) : out4 m c t = View.canon (atC m c t h (acc m c t.val)).2.1 :=
  (dif_neg (by omega)).trans (dif_pos h)

/-- An output's stores fill its block. -/
theorem coverA3 (c : Dev nD) (t : Fin cfgA.N) (h : t.val % 3 = 0) (y : S2048x128.Idx) :
    ∃ s ∈ (atA m c t h).1, y ∈ s.1.set := View.cover_of_tiledL _ S2048x128.size (by sl_kernel_rfl) y
theorem coverA4 (c : Dev nD) (t : Fin cfgA.N) (h : t.val % 3 = 0) (y : S1x2048x1.Idx) :
    ∃ s ∈ (atA m c t h).2.1, y ∈ s.1.set := View.cover_of_tiledL _ S1x2048x1.size (by sl_kernel_rfl) y
theorem coverC3 (c : Dev nD) (t : Fin cfgA.N) (h : t.val % 3 = 2) (p : Acc c) (y : S2048x128.Idx) :
    ∃ s ∈ (atC m c t h p).1, y ∈ s.1.set := View.cover_of_tiledL _ S2048x128.size (by sl_kernel_rfl) y
theorem coverC4 (c : Dev nD) (t : Fin cfgA.N) (h : t.val % 3 = 2) (p : Acc c) (y : S1x2048x1.Idx) :
    ∃ s ∈ (atC m c t h p).2.1, y ∈ s.1.set := View.cover_of_tiledL _ S1x2048x1.size (by sl_kernel_rfl) y

/-- Held before step `n`: the scratch buffers, at their contents once a step has run, the tables and the random state. -/
def Phi (c : Dev nD) (n : ℕ) : sProp Res :=
  iprop((∃ a, ⌜n ≠ 0 → a = (acc m c n).m⌝ ∗ (bufM.view.loc (c : Thread nD τ) ↦{fullShare} a))
    ∗ (∃ a, ⌜n ≠ 0 → a = (acc m c n).s⌝ ∗ (bufS.view.loc (c : Thread nD τ) ↦{fullShare} a))
    ∗ (∃ a, ⌜n ≠ 0 → a = (acc m c n).v⌝ ∗ (bufV.view.loc (c : Thread nD τ) ↦{fullShare} a))
    ∗ (tabI.view.loc (c : Thread nD τ) ↦{fullShare.right} rows) ∗ (tabJ.view.loc (c : Thread nD τ) ↦{fullShare.right} cols)
    ∗ ∃ r, prngReg c r)

/-- The data of the call's steps. -/
def dats (_ : Fin 1) (c : Dev nD) : Dat τ (Elt Ideal) Unit ℕ (UR sig nD τ) ℕ cfgA c where
  A w := V m c (Pipeline.arrRef cfgA.spec w)
  after w t := match w with
    | ⟨0, _⟩ => iblk m c (0 : Fin 5) t
    | ⟨1, _⟩ => iblk m c (1 : Fin 5) t
    | ⟨2, _⟩ => iblk m c (2 : Fin 5) t
    | ⟨3, _⟩ => out3 m c t
    | ⟨4, _⟩ => out4 m c t
  Φ t := Phi m c t.val
  q _ := fullShare
  owed _ := 0

theorem after0 (c : Dev nD) (t : Fin cfgA.N) : (dats m 0 c).after (0 : Fin 5) t = iblk m c (0 : Fin 5) t := rfl
theorem after1 (c : Dev nD) (t : Fin cfgA.N) : (dats m 0 c).after (1 : Fin 5) t = iblk m c (1 : Fin 5) t := rfl
theorem after2 (c : Dev nD) (t : Fin cfgA.N) : (dats m 0 c).after (2 : Fin 5) t = iblk m c (2 : Fin 5) t := rfl
theorem after3 (c : Dev nD) (t : Fin cfgA.N) : (dats m 0 c).after (3 : Fin 5) t = out3 m c t := rfl
theorem after4 (c : Dev nD) (t : Fin cfgA.N) : (dats m 0 c).after (4 : Fin 5) t = out4 m c t := rfl

/-- Before a step an input's buffer holds its block. -/
theorem before0 (c : Dev nD) (t : Fin cfgA.N) (d) : (dats m 0 c).before (0 : Fin 5) t d = iblk m c (0 : Fin 5) t :=
  ((dats m 0 c).before_in_eq_fetched (0 : Fin 5) rfl (fun _ => rfl) (fun _ _ _ => rfl)
    (fun t => by rw [after0]; unfold Dat.blockOf iblk; rfl) t d).trans (by unfold Dat.fetched Dat.blockOf iblk; rfl)
theorem before1 (c : Dev nD) (t : Fin cfgA.N) (d) : (dats m 0 c).before (1 : Fin 5) t d = iblk m c (1 : Fin 5) t :=
  ((dats m 0 c).before_in_eq_fetched (1 : Fin 5) rfl (fun _ => rfl) (fun _ _ _ => rfl)
    (fun t => by rw [after1]; unfold Dat.blockOf iblk; rfl) t d).trans (by unfold Dat.fetched Dat.blockOf iblk; rfl)
theorem before2 (c : Dev nD) (t : Fin cfgA.N) (d) : (dats m 0 c).before (2 : Fin 5) t d = iblk m c (2 : Fin 5) t :=
  ((dats m 0 c).before_in_eq_fetched (2 : Fin 5) rfl (fun _ => rfl) (fun _ _ _ => rfl)
    (fun t => by rw [after2]; unfold Dat.blockOf iblk; rfl) t d).trans (by unfold Dat.fetched Dat.blockOf iblk; rfl)

/-- Before a step an output's buffer may hold anything. -/
theorem before_out (c : Dev nD) (w : Fin 5) (hw : 3 ≤ w.val) (ho : (cfgA.win w).isOut = true)
    (hc : ∀ (i : cfgA.grid.Coords) a, (cfgA.win w).clip i a = none) (t : Fin cfgA.N) (d) : (dats m 0 c).before w t d = d := by
  rw [(dats m 0 c).before_out_traj w ho hc (fun t _ _ hf => by
    rw [fresh_all w hw t.val t.isLt.le] at hf; cases hf) t.val t rfl d, if_pos (fresh_all w hw t.val t.isLt.le)]
theorem before3 (c : Dev nD) (t : Fin cfgA.N) (d) : (dats m 0 c).before (3 : Fin 5) t d = d :=
  before_out m c 3 (by decide) rfl (fun _ _ => rfl) t d
theorem before4 (c : Dev nD) (t : Fin cfgA.N) (d) : (dats m 0 c).before (4 : Fin 5) t d = d :=
  before_out m c 4 (by decide) rfl (fun _ _ => rfl) t d

/-- Held before a step: what is carried and each window's buffer. -/
abbrev stepPre (c : Dev nD) (t : Fin cfgA.N) : sProp Res :=
  iprop((dats m 0 c).Φ t.castSucc ∗ (dats m 0 c).owesAt () t.castSucc
    ∗ (∃ d, owns (c : Thread nD τ) (st0 t) fullShare ((dats m 0 c).before (0 : Fin 5) t d))
    ∗ (∃ d, owns (c : Thread nD τ) (st1 t) fullShare ((dats m 0 c).before (1 : Fin 5) t d))
    ∗ (∃ d, owns (c : Thread nD τ) (st2 t) fullShare ((dats m 0 c).before (2 : Fin 5) t d))
    ∗ (∃ d, owns (c : Thread nD τ) (st3 t) fullShare ((dats m 0 c).before (3 : Fin 5) t d))
    ∗ (∃ d, owns (c : Thread nD τ) (st4 t) fullShare ((dats m 0 c).before (4 : Fin 5) t d)))

/-- Held after it. -/
abbrev stepPost (c : Dev nD) (t : Fin cfgA.N) : sProp Res :=
  iprop((dats m 0 c).Φ t.succ ∗ (dats m 0 c).owesAt () t.succ
    ∗ bigSep Finset.univ fun w : Fin cfgA.W =>
        match cfgA.idle w (cfgA.grid.coords t) with
        | true =>
          match (cfgA.win w).flush t with
          | false => iprop(∃ d, owns (c : Thread nD τ) ((cfgA.win w).stage (cfgA.slots t w)) fullShare ((dats m 0 c).before w t d))
          | true => owns (c : Thread nD τ) ((cfgA.win w).stage (cfgA.slots t w)) fullShare ((dats m 0 c).after w t)
        | false => owns (c : Thread nD τ) ((cfgA.win w).stage (cfgA.slots t w)) fullShare ((dats m 0 c).after w t))

/-- A buffer that its stores fill holds what they leave. -/
theorem held_canon (c : Dev nD) {sh : Shape} (a : Memref sig .tc .vmem sh .f32)
    {L : List (View.Piece (Elt Ideal) sh .f32)} (hL : ∀ y, ∃ p ∈ L, y ∈ p.1.set) {g} :
    (iprop(a.view.loc (c : Thread nD τ) ↦[a.view.set]{fullShare} a.view.writes (Elt Ideal) g L) : sProp Res)
      ⊢ owns (c : Thread nD τ) a fullShare (View.canon L) := by
  unfold owns
  iintro H
  iexists _; isplitr; swap
  · iexact H
  · ipureintro; exact View.read_writes_eq_canon _ _ _ hL

set_option maxHeartbeats 4800000 in
theorem soundA (c : Dev nD) (t : Fin cfgA.N) (h : t.val % 3 = 0) :
    stepPre m c t ⊢ wp frame (wpE (defs₀ (F := Ideal)) Variants.none c none) Set.univ
      (body (crd t) (wh0 t) (wh1 t) (wh2 t) (wh3 t) (wh4 t)) fun _ => stepPost m c t := by
  unfold stepPre stepPost
  rw [bigSep_W0]
  obtain ⟨i3, f3, i4, f4⟩ := storesAC t (by omega)
  rewrite [i3]
  simp only [before0, before1, before2, before3, before4, after0, after1, after2, after3, after4, f3, f4]
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  rw [acc_succ, accStep_A m c t _ h, out3_A m c t h, out4_A m c t h]
  simp only [exists_held (Nat.succ_ne_zero t.val)]
  iintro ⟨⟨⟨%s0, -, HS0⟩, ⟨%s1, -, HS1⟩, ⟨%s2, -, HS2⟩, HT0, HT1, Hr⟩, Ho, ⟨%d0, H0⟩, ⟨%d1, H1⟩, ⟨%d2, H2⟩, ⟨%d3, H3⟩, ⟨%d4, H4⟩⟩
  iapply ((atA m c t h).2.2.2.2.2 s0 s1 s2)
  unfold heldIn heldAcc
  isplitl [H0 H1 H2 HT0 HT1]
  · isplitl [H0]; · iapply rep_of_owns; iexact H0
    isplitl [H1]; · iapply rep_of_owns; iexact H1
    isplitl [H2]; · iapply rep_of_owns; iexact H2
    isplitl [HT0]; · iexact HT0
    iexact HT1
  isplitl [H3]; · iexists d3; iexact H3
  isplitl [H4]; · iexists d4; iexact H4
  isplitl [HS0 HS1 HS2]
  · isplitl [HS0]; · iexact HS0
    isplitl [HS1]; · iexact HS1
    iexact HS2
  iintro ⟨⟨H0, H1, H2, HT0, HT1⟩, ⟨%g3, H3⟩, ⟨%g4, H4⟩, HS0, HS1, HS2⟩
  isplitl [HS0 HS1 HS2 HT0 HT1 Hr]
  · isplitl [HS0]; · iexact HS0
    isplitl [HS1]; · iexact HS1
    isplitl [HS2]; · iexact HS2
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]
  · iapply (held_canon c (st3 t) (coverA3 m c t h)); iexact H3
  iapply (held_canon c (st4 t) (coverA4 m c t h)); iexact H4

set_option maxHeartbeats 4800000 in
theorem soundB (c : Dev nD) (t : Fin cfgA.N) (h : t.val % 3 = 1) :
    stepPre m c t ⊢ wp frame (wpE (defs₀ (F := Ideal)) Variants.none c none) Set.univ
      (body (crd t) (wh0 t) (wh1 t) (wh2 t) (wh3 t) (wh4 t)) fun _ => stepPost m c t := by
  unfold stepPre stepPost
  rw [bigSep_W0]
  obtain ⟨i3, f3, i4, f4⟩ := storesB t h
  rewrite [i3]
  simp only [before0, before1, before2, before3, before4, after0, after1, after2, f3, f4]
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  rw [acc_succ, accStep_B m c t _ h]
  simp only [exists_held (Nat.succ_ne_zero t.val)]
  iintro ⟨⟨⟨%s0, -, HS0⟩, ⟨%s1, -, HS1⟩, ⟨%s2, -, HS2⟩, HT0, HT1, Hr⟩, Ho, ⟨%d0, H0⟩, ⟨%d1, H1⟩, ⟨%d2, H2⟩, ⟨%d3, H3⟩, ⟨%d4, H4⟩⟩
  iapply ((atB m c t h).2.2.2 s0 s1 s2 d3 d4)
  unfold heldIn heldAcc
  isplitl [H0 H1 H2 HT0 HT1]
  · isplitl [H0]; · iapply rep_of_owns; iexact H0
    isplitl [H1]; · iapply rep_of_owns; iexact H1
    isplitl [H2]; · iapply rep_of_owns; iexact H2
    isplitl [HT0]; · iexact HT0
    iexact HT1
  isplitl [H3]; · iexact H3
  isplitl [H4]; · iexact H4
  isplitl [HS0 HS1 HS2]
  · isplitl [HS0]; · iexact HS0
    isplitl [HS1]; · iexact HS1
    iexact HS2
  iintro ⟨⟨H0, H1, H2, HT0, HT1⟩, H3, H4, HS0, HS1, HS2⟩
  isplitl [HS0 HS1 HS2 HT0 HT1 Hr]
  · isplitl [HS0]; · iexact HS0
    isplitl [HS1]; · iexact HS1
    isplitl [HS2]; · iexact HS2
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iexists d3; iexact H3
  iexists d4; iexact H4

set_option maxHeartbeats 4800000 in
theorem soundC (c : Dev nD) (t : Fin cfgA.N) (h : t.val % 3 = 2) :
    stepPre m c t ⊢ wp frame (wpE (defs₀ (F := Ideal)) Variants.none c none) Set.univ
      (body (crd t) (wh0 t) (wh1 t) (wh2 t) (wh3 t) (wh4 t)) fun _ => stepPost m c t := by
  unfold stepPre stepPost
  rw [bigSep_W0]
  obtain ⟨i3, f3, i4, f4⟩ := storesAC t (by omega)
  have ht : t.val ≠ 0 := fun h0 => by rw [h0] at h; cases h
  rewrite [i3]
  simp only [before0, before1, before2, before3, before4, after0, after1, after2, after3, after4, f3, f4]
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  rw [acc_succ, accStep_C m c t _ h, out3_C m c t h, out4_C m c t h]
  simp only [exists_held ht, exists_held (Nat.succ_ne_zero t.val)]
  iintro ⟨⟨HS0, HS1, HS2, HT0, HT1, Hr⟩, Ho, ⟨%d0, H0⟩, ⟨%d1, H1⟩, ⟨%d2, H2⟩, ⟨%d3, H3⟩, ⟨%d4, H4⟩⟩
  iapply ((atC m c t h (acc m c t.val)).2.2.2.2.2)
  unfold heldIn heldAcc
  isplitl [H0 H1 H2 HT0 HT1]
  · isplitl [H0]; · iapply rep_of_owns; iexact H0
    isplitl [H1]; · iapply rep_of_owns; iexact H1
    isplitl [H2]; · iapply rep_of_owns; iexact H2
    isplitl [HT0]; · iexact HT0
    iexact HT1
  isplitl [H3]; · iexists d3; iexact H3
  isplitl [H4]; · iexists d4; iexact H4
  isplitl [HS0 HS1 HS2]
  · isplitl [HS0]; · iexact HS0
    isplitl [HS1]; · iexact HS1
    iexact HS2
  iintro ⟨⟨H0, H1, H2, HT0, HT1⟩, ⟨%g3, H3⟩, ⟨%g4, H4⟩, HS0, HS1, HS2⟩
  isplitl [HS0 HS1 HS2 HT0 HT1 Hr]
  · isplitl [HS0]; · iexact HS0
    isplitl [HS1]; · iexact HS1
    isplitl [HS2]; · iexact HS2
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]
  · iapply (held_canon c (st3 t) (coverC3 m c t h _)); iexact H3
  iapply (held_canon c (st4 t) (coverC4 m c t h _)); iexact H4

theorem sound_body (c : Dev nD) (t : Fin cfgA.N) :
    stepPre m c t ⊢ wp frame (wpE (defs₀ (F := Ideal)) Variants.none c none) Set.univ
      (body (crd t) (wh0 t) (wh1 t) (wh2 t) (wh3 t) (wh4 t)) fun _ => stepPost m c t := by
  rcases (by omega : t.val % 3 = 0 ∨ t.val % 3 = 1 ∨ t.val % 3 = 2) with h | h | h
  · exact soundA m c t h
  · exact soundB m c t h
  · exact soundC m c t h

theorem body_step (c : Dev nD) : BodyObligation (dats m 0 c) (defs₀ (F := Ideal)) Variants.none () Set.univ := fun t => by
  rw [bigSep_W0]; exact sound_body m c t

theorem body_obligation (c : Dev nD) : BodyObligationLoose (dats m 0 c) (defs₀ (F := Ideal)) Variants.none () Set.univ :=
  (body_step m c).loose

end Cert.OutIdeal.Gen

end
-- ==== Proof.OutIdealWhole.lean ====
module

public import proofs.«01_k».proof.Proof.OutIdealFrame
public import Idealize.ShloMosaic.Lib.StableHlo.RunRead
public import Idealize.ShloMosaic.Lib.Claim

/-! The attention's whole program: the host lines, then the call, run from any memory. -/

@[expose] public section

set_option maxRecDepth 16384
set_option Elab.async false

noncomputable section

namespace Cert.OutIdeal.Gen

open Cert.OutIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The whole program's run -/

/-- The buffers the host lines write, in order. -/
def written : List (Ref sig .tc) :=
  [main_c, main_c_0, main_v0, main_v1, main_v2]

theorem hostOps0_writes : (hostOps0 : List (HloOp τ sig (Elt Ideal))).map HloOp.writes = written.map fun r => {Proc.devRef (τ := τ) .tc r} := rfl
theorem hostOps0_fresh : (hostOps0 : List (HloOp τ sig (Elt Ideal))).Forall fun op => op.fresh = ∅ :=
  StableHlo.forall_fresh_of_map rfl

/-- A buffer that no host line writes is as it was. -/
theorem V_kept (c : Dev nD) (b : Ref sig .tc) (hb : b ∉ written) : V m c b = m ((c : Thread nD τ).loc b) :=
  StableHlo.after_of_writes_sub hostOps0 _ (StableHlo.forall_writes_sub_of_map hostOps0_writes) hb

theorem V_rows (c : Dev nD) : V m c main_c = rows := by
  have h := StableHlo.after_last_write (ops := (hostOps0 : List (HloOp τ sig (Elt Ideal)))) (i := 0) (written.drop 1) (r := main_c) rfl rfl
    (by decide) (fun b => m (c, b))
  refine h.trans ?_
  refine (StableHlo.nullary_result ..).trans ?_
  funext x; revert x; decide +kernel
theorem V_cols (c : Dev nD) : V m c main_c_0 = cols := by
  have h := StableHlo.after_last_write (ops := (hostOps0 : List (HloOp τ sig (Elt Ideal)))) (i := 1) (written.drop 2) (r := main_c_0) rfl rfl
    (by decide) (fun b => m (c, b))
  refine h.trans ?_
  refine (StableHlo.nullary_result ..).trans ?_
  funext x; revert x; decide +kernel

theorem V_tables (c : Dev nD) : ∀ k : Fin 2, V m c (pre0.ref k) = tables k
  | 0 => V_rows m c
  | 1 => V_cols m c

/-- The two tables as the steps hold them. -/
theorem held_tables (c : Dev nD) : (Pipeline.ΦT (U := UR sig nD τ) pre0 (tables) c : sProp Res)
    = iprop((tabI.view.loc (c : Thread nD τ) ↦{fullShare.right} rows) ∗ (tabJ.view.loc (c : Thread nD τ) ↦{fullShare.right} cols)) := by
  unfold Pipeline.ΦT Pipeline.prefHeld
  rw [show (Finset.univ : Finset (Fin pre0.K)) = insert (0 : Fin 2) {(1 : Fin 2)} from by decide, bigSep_insert (by decide), bigSep_singleton]
  rfl

/-- At the start nothing is said of the scratch buffers. -/
theorem phi_intro (c : Dev nD) :
    iprop(Pipeline.ΦA (U := UR sig nD τ) (Val := Elt Ideal) cfgA.spec c ∗ Pipeline.ΦT pre0 tables c) ⊢ (dats m 0 c).Φ 0 := by
  rewrite [show (dats m 0 c).Φ 0 = Phi m c 0 from rfl]
  rw [held_tables]
  unfold Pipeline.ΦA Phi
  rw [show Pipeline.scopedRest cfgA.spec c = _ from scopedRest0_eq c]
  iintro ⟨⟨⟨⟨%a, HA⟩, ⟨%b, HB⟩, ⟨%d, HD⟩⟩, Hr⟩, HI, HJ⟩
  isplitl [HA]
  · iexists a; isplitr
    · ipureintro; exact fun h => absurd rfl h
    · iexact HA
  isplitl [HB]
  · iexists b; isplitr
    · ipureintro; exact fun h => absurd rfl h
    · iexact HB
  isplitl [HD]
  · iexists d; isplitr
    · ipureintro; exact fun h => absurd rfl h
    · iexact HD
  isplitl [HI]; · iexact HI
  isplitl [HJ]; · iexact HJ
  iexact Hr

/-- At the end the scratch buffers' contents are forgotten. -/
theorem phi_exit (c : Dev nD) : (dats m 0 c).Φ (Fin.last cfgA.N) ⊢ Pipeline.ΦA (U := UR sig nD τ) (Val := Elt Ideal) cfgA.spec c := by
  rewrite [show (dats m 0 c).Φ (Fin.last cfgA.N) = Phi m c cfgA.N from rfl]
  unfold Pipeline.ΦA Phi
  rw [show Pipeline.scopedRest cfgA.spec c = _ from scopedRest0_eq c]
  iintro ⟨⟨%a, -, HA⟩, ⟨%b, -, HB⟩, ⟨%d, -, HD⟩, -, -, Hr⟩
  isplitl [HA HB HD]
  · isplitl [HA]; · iexists a; iexact HA
    isplitl [HB]; · iexists b; iexact HB
    iexists d; iexact HD
  iexact Hr

theorem run_main_quiescent : θ_run (defs (F := Ideal)) (onTc (τ := τ) (main (F := Ideal))) (s₀ m ρ)
    (fun r => Pipeline.FramePost pcs (dats m) 0 (V m) r ∧ r.2.sem = fun _ => 0) :=
  Pipeline.θ_run_frameP_track (Q' := _) (pcfgs (F := Ideal)) (fun _ => adm) (dats m) (0 : Fin 1) launch0 defs₀ Variants.none m ρ main
    (hbody := body_obligation m) (hshare := fun c => (dats m 0 c).share_full fun _ => rfl) (howed := fun _ _ => rfl)
    (V := V m) (hmain := Pipeline.hmainP_prefix pcfgs 0 defs₀ Variants.none m main hostOps0 hostOps0_sub hostOps0_fresh main_chain)
    (hA := fun _ _ => rfl) (hpf := V_tables m) (hin := phi_intro m) (hout := phi_exit m)

/-- Every array of the call at what the steps leave, every other buffer as the host lines left it. -/
theorem run_main : θ_run (defs (F := Ideal)) (onTc (τ := τ) (main (F := Ideal))) (s₀ m ρ) (Pipeline.FramePost pcs (dats m) 0 (V m)) :=
  (θ_run defs _ _).mono (fun _ h => h.1) (run_main_quiescent m ρ)

theorem unchanged : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of _ rfl (by decide))).trans (V_kept m c _ (by decide)),
     ((h c).2 main_arg1 (Pipeline.mem_restRefs_of _ rfl (by decide))).trans (V_kept m c _ (by decide)),
     ((h c).2 main_arg2 (Pipeline.mem_restRefs_of _ rfl (by decide))).trans (V_kept m c _ (by decide))⟩) (run_main m ρ)

/-- The program runs to its end from any memory, its arguments unchanged and no signal pending. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.OutIdeal.Gen

end
-- ==== Proof.OutIdealValue.lean ====
module

public import proofs.«01_k».proof.Proof.OutIdealSums
public import proofs.«01_k».proof.Proof.OutIdealWhole

/-! The output's and the log sums' arrays after the attention's call, where the arguments are real. -/

@[expose] public section

set_option maxRecDepth 16384

noncomputable section

namespace Cert.OutIdeal.Gen

open Cert.OutIdeal Cert.OutIdeal.Gen.Tile Cert.Reals Cert.OutMath
open Idealize.ShloMosaic Idealize.ShloMosaic.TcCoe Idealize.ShloMosaic.Tactic
open Idealize.ShloMosaic.Pipeline (Dat)

/-! ### What a block leaves -/

section Blocks

variable {q : Fin 8 → Vec Ideal S1x256x192 .bf16} {k : Fin 2 → Vec Ideal S1x1024x192 .bf16} {v : Fin 2 → Vec Ideal S1024x256 .bf16}
  {Q K : Fin 4096 → Fin 192 → ℝ} {W : Fin 4096 → Fin 128 → ℝ}

instance (tri : Bool) (it jt : Fin 2) (f : Fin 8 → Option ℕ) (t : Fin 8 × Fin 2) : Decidable (Next tri it jt f t) := by
  unfold Next; infer_instance
instance decNexts (tri : Bool) (it jt : Fin 2) : ∀ (f : Fin 8 → Option ℕ) (ts : List (Fin 8 × Fin 2)), Decidable (Nexts tri it jt f ts)
  | _, [] => .isTrue trivial
  | f, t :: ts => by have := decNexts tri it jt (bump jt f t) ts; unfold Nexts; infer_instance

/-- A row as the accumulators hold it. -/
abbrev GoodRow (Q K : Fin 4096 → Fin 192 → ℝ) (W : Fin 4096 → Fin 128 → ℝ) (it : Fin 2) (r : Fin 2048) (n : ℕ) (x : EReal) (y : Fin 256 → EReal) : Prop :=
  Good factor (prods Q K (glob it r)) (vals W) (glob it r).val n x y

theorem exists_row (r : Fin 2048) : ∃ j a, r = row j a :=
  ⟨⟨r.val / 256, by have := r.isLt; omega⟩, ⟨r.val % 256, by omega⟩, Fin.ext (by simp [row]; omega)⟩

theorem known_start (it : Fin 2) : Known Q K W it (fun _ => some 0) start := by
  intro j n hn a
  obtain rfl := (Option.some.inj hn).symm
  refine .inl ⟨rfl, ?_, fun e => ?_⟩
  · rw [View.canon_cons_unit_lit _ _ _ (by decide)]; unfold k0_pay1; pointwise [bot_f32]
  · rw [View.canon_cons_unit_lit _ _ _ (by decide)]; unfold k0_pay2; pointwise

theorem afterA_good (ho : Operands q k v Q K W 0 0) (r : Fin 2048) : ∃ n, (glob 0 r).val < 1024 * n ∧
    GoodRow Q K W 0 r n (View.canon (afterA q k v).1 (ix2 r 0)) fun e => View.canon (afterA q k v).2 (ix2 r e) := by
  obtain ⟨j, a, rfl⟩ := exists_row r
  have h := ((known_start 0).visits ho left (tri := true) (by decide +kernel)).visits ho corner (tri := true) (by decide +kernel)
  have hn : ∀ j, (corner.foldl (bump 0) (left.foldl (bump 0) (fun _ => some 0))) j = some (j.val / 4 + 1) := by decide +kernel
  exact ⟨_, by have := a.isLt; simp only [glob, row]; simp; omega, h j _ (hn j) a⟩

theorem afterB_good (ho : Operands q k v Q K W 1 0) (r : Fin 2048) :
    GoodRow Q K W 1 r 2 (View.canon (afterB q k v).1 (ix2 r 0)) fun e => View.canon (afterB q k v).2 (ix2 r e) := by
  obtain ⟨j, a, rfl⟩ := exists_row r
  have h := ((known_start 1).visits ho left (tri := false) (by decide +kernel)).visits ho right (tri := false) (by decide +kernel)
  have hn : ∀ j, (right.foldl (bump 0) (left.foldl (bump 0) (fun _ => some 0))) j = some 2 := by decide +kernel
  exact h j _ (hn j) a

theorem afterC_good (ho : Operands q k v Q K W 1 1) {c : Dev nD} {sm : HoldM c} {ss : HoldS c}
    (hs : ∀ r : Fin 2048, GoodRow Q K W 1 r 2 (bufM.view.read (Elt Ideal) sm (ix2 r 0)) fun e => bufS.view.read (Elt Ideal) ss (ix2 r e))
    (r : Fin 2048) : ∃ n, (glob 1 r).val < 1024 * n ∧
    GoodRow Q K W 1 r n (View.canon (afterC q k v sm ss).1 (ix2 r 0)) fun e => View.canon (afterC q k v sm ss).2 (ix2 r e) := by
  obtain ⟨j, a, rfl⟩ := exists_row r
  have step {f : Fin 8 → Option ℕ} {L} (h : Known Q K W 1 f L) (i : Fin 8) := h.resume ho (tri := true) (fun j a => hs (row j a)) (i := i)
    (by revert i; decide +kernel)
  have h0 : Known Q K W 1 (fun _ => none) ([], []) := fun j n hn => by cases hn
  have h := (step (step (step (step (step (step (step (step h0 0) 1) 2) 3) 4) 5) 6) 7).visits ho corner (tri := true) (by decide +kernel)
  have hn : ∀ j, (corner.foldl (bump 1) (left.foldl (bump 1) (fun _ => none))) j = some (j.val / 4 + 3) := by decide +kernel
  exact ⟨_, by have := a.isLt; simp only [glob, row]; simp; omega, h j _ (hn j) a⟩

end Blocks

/-! ### The operands -/

theorem getQ_apply (q : S1x2048x192.Idx → EReal) (a : Memref sig .tc .vmem S1x2048x192 .bf16) (j : Fin 8) (b : Fin 256) (e : Fin 192) :
    getQ a q j (ix3 0 b e) = q (ix3 0 (row j b) e) := by
  unfold getQ
  rw [View.readAt_rep]
  refine congrArg q (funext fun x => Fin.ext ?_)
  fin_cases x <;> simp [row]

theorem getK_apply (q : S1x2048x192.Idx → EReal) (a : Memref sig .tc .vmem S1x2048x192 .bf16) (j : Fin 2) (b : Fin 1024) (e : Fin 192) :
    getK a q j (ix3 0 b e) = q (ix3 0 (keyRow j b) e) := by
  unfold getK
  rw [View.readAt_rep]
  refine congrArg q (funext fun x => Fin.ext ?_)
  fin_cases x <;> simp [keyRow]

theorem block_apply (v : S1x2048x128.Idx → EReal) (a : Memref sig .tc .vmem S1x2048x128 .bf16) (r : Fin 2048) (e : Fin 128) :
    block a v (ix2 r e) = v (ix3 0 r e) := by
  unfold block k0_pay87
  pointwise
  rw [View.readAt_rep]
  refine congrArg v (funext fun x => Fin.ext ?_)
  fin_cases x <;> simp

theorem keysV_emb (j : Fin 2) (b : Fin 1024) (e : Fin 256) : (keysV j).emb (ix2 b e) = ix2 (keyRow j b) e := by
  funext x; refine Fin.ext ?_
  change (keysV j).off x + (keysV j).stride x * _ = _
  fin_cases x <;> simp [keyRow]

/-- A row of the values' buffer: the values, then ones. -/
def rowV (v : S1x2048x128.Idx → EReal) (r : Fin 2048) (e : Fin 256) : EReal := if h : e.val < 128 then v (ix3 0 r ⟨e.val, h⟩) else 1

theorem values_emb (r : Fin 2048) (e : Fin 128) : (Rect.unit (s := S2048x256) ![0, 0] S2048x128.size inb_S2048x256_S2048x128_0_0).emb (ix2 r e)
    = ix2 r (⟨e.val, by omega⟩ : Fin 256) := by
  funext x; refine Fin.ext ?_
  change (![0, 0] : Fin 2 → ℕ) x + 1 * _ = _
  fin_cases x <;> simp
theorem ones_emb (r : Fin 2048) (e : Fin 128) : (Rect.unit (s := S2048x256) ![0, 128] S2048x128.size inb_S2048x256_S2048x128_0_128).emb (ix2 r e)
    = ix2 r (⟨128 + e.val, by omega⟩ : Fin 256) := by
  funext x; refine Fin.ext ?_
  change (![0, 128] : Fin 2 → ℕ) x + 1 * _ = _
  fin_cases x <;> simp

theorem values_out (r : Fin 2048) (e : Fin 256) (h : ¬ e.val < 128) :
    (ix2 r e : S2048x256.Idx) ∉ (Rect.unit (s := S2048x256) ![0, 0] S2048x128.size inb_S2048x256_S2048x128_0_0).set := by
  intro hm
  have h0 := Rect.mem_set_unit.mp hm 1
  simp at h0
  omega

theorem ones_apply (r : Fin 2048) (e : Fin 128) : (k0_pay3 (F := Ideal) : _ → EReal) (ix2 r e) = 1 := by
  unfold k0_pay3
  pointwise

theorem canon_left (w : FVec Ideal S2048x128 .bf16) (L : List (View.Piece (Elt Ideal) S2048x256 .bf16)) (r : Fin 2048) (e : Fin 128) :
    View.canon (valuesPiece w :: L) (ix2 r (⟨e.val, by omega⟩ : Fin 256)) = w (ix2 r e) := by
  rw [← values_emb]; exact View.canon_cons_emb ..
theorem canon_right (w : FVec Ideal S2048x128 .bf16) (L : List (View.Piece (Elt Ideal) S2048x256 .bf16)) (r : Fin 2048) (e : Fin 256)
    (h : ¬ e.val < 128) : View.canon (valuesPiece w :: L) (ix2 r e) = View.canon L (ix2 r e) :=
  View.canon_cons_of_not_mem _ _ (values_out r e h)
theorem canon_ones (r : Fin 2048) (e : Fin 128) : View.canon [onesPiece] (ix2 r (⟨128 + e.val, by omega⟩ : Fin 256)) = (1 : EReal) := by
  rw [← ones_emb]; exact (View.canon_cons_emb ..).trans (ones_apply r e)

theorem read_left {c : Dev nD} (sv : HoldV c) (w : FVec Ideal S2048x128 .bf16) (r : Fin 2048) (e : Fin 128) :
    bufV.view.read (Elt Ideal) (bufV.view.writes (Elt Ideal) sv [valuesPiece w]) (ix2 r (⟨e.val, by omega⟩ : Fin 256)) = w (ix2 r e) := by
  rw [← values_emb]; exact View.read_writes_cons_emb ..
theorem read_right {c : Dev nD} (sv : HoldV c) (w : FVec Ideal S2048x128 .bf16) (r : Fin 2048) (e : Fin 256) (h : ¬ e.val < 128) :
    bufV.view.read (Elt Ideal) (bufV.view.writes (Elt Ideal) sv [valuesPiece w]) (ix2 r e) = bufV.view.read (Elt Ideal) sv (ix2 r e) := by
  refine View.read_writes_cons_miss _ _ _ _ _ ?_
  exact values_out r e h

theorem canon_values (v : S1x2048x128.Idx → EReal) (a : Memref sig .tc .vmem S1x2048x128 .bf16) (r : Fin 2048) (e : Fin 256) :
    View.canon [valuesPiece (block a v), onesPiece] (ix2 r e) = rowV v r e := by
  unfold rowV
  split
  · next h => exact (canon_left (block a v) _ r ⟨e.val, h⟩).trans (block_apply v a r _)
  · next h =>
    rw [canon_right _ _ _ _ h]
    exact (congrArg (fun z : Fin 256 => View.canon [onesPiece] (ix2 r z)) (Fin.ext (by simp; omega))).trans (canon_ones r ⟨e.val - 128, by omega⟩)

theorem getV_apply (v : S1x2048x128.Idx → EReal) (a : Memref sig .tc .vmem S1x2048x128 .bf16) (j : Fin 2) (b : Fin 1024) (e : Fin 256) :
    getV [valuesPiece (block a v), onesPiece] j (ix2 b e) = rowV v (keyRow j b) e := by
  unfold getV
  rw [View.readCov_eq_canon', ← canon_values v a]
  exact congrArg (View.canon _) (keysV_emb j b e)

theorem getV'_apply (v : S1x2048x128.Idx → EReal) (a : Memref sig .tc .vmem S1x2048x128 .bf16) {c : Dev nD} (sv : HoldV c)
    (hv : ∀ (r : Fin 2048) (e : Fin 256), ¬ e.val < 128 → bufV.view.read (Elt Ideal) sv (ix2 r e) = 1) (j : Fin 2) (b : Fin 1024) (e : Fin 256) :
    getV' sv [valuesPiece (block a v)] j (ix2 b e) = rowV v (keyRow j b) e := by
  unfold getV'
  have h : View.readAt (Elt Ideal) bufV.view (keysV j).toLoadRect (bufV.view.writes (Elt Ideal) sv [valuesPiece (block a v)]) (ix2 b e)
      = bufV.view.read (Elt Ideal) (bufV.view.writes (Elt Ideal) sv [valuesPiece (block a v)]) (ix2 (keyRow j b) e) :=
    congrArg (bufV.view.read (Elt Ideal) _) (keysV_emb j b e)
  refine h.trans ?_
  unfold rowV
  split
  · next h => exact (read_left sv _ _ ⟨e.val, h⟩).trans (block_apply v a _ _)
  · next h => exact (read_right sv _ _ _ h).trans (hv _ e h)

end Cert.OutIdeal.Gen
-- ==== Proof.OutIdealFinal.lean ====
module

public import proofs.«01_k».proof.Proof.OutIdealValue

/-! The two arrays at their elements. -/

@[expose] public section

set_option maxRecDepth 16384

noncomputable section

namespace Cert.OutIdeal.Gen

open Cert.OutIdeal Cert.OutIdeal.Gen.Tile Cert.Reals Cert.OutMath
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- The head, the queries' half and the keys' half of a step. -/
theorem steps : cfgA.N = 24 := by decide +kernel
def headAt (t : Fin cfgA.N) : Fin 8 := ⟨t.val / 3, by have := t.isLt; have := steps; omega⟩
def halfI (t : Fin cfgA.N) : Fin 2 := if t.val % 3 = 0 then 0 else 1
def halfJ (t : Fin cfgA.N) : Fin 2 := if t.val % 3 = 2 then 1 else 0

theorem index0 : ∀ t : Fin cfgA.N, (cfgA.win (0 : Fin 5)).index t = ![(headAt t).val, (halfI t).val, 0] := by decide +kernel
theorem index1 : ∀ t : Fin cfgA.N, (cfgA.win (1 : Fin 5)).index t = ![(headAt t).val, (halfJ t).val, 0] := by decide +kernel
theorem index2 : ∀ t : Fin cfgA.N, (cfgA.win (2 : Fin 5)).index t = ![(headAt t).val, (halfJ t).val, 0] := by decide +kernel
theorem index3 : ∀ t : Fin cfgA.N, (cfgA.win (3 : Fin 5)).index t = ![(halfI t).val, (headAt t).val] := by decide +kernel
theorem index4 : ∀ t : Fin cfgA.N, (cfgA.win (4 : Fin 5)).index t = ![(headAt t).val, (halfI t).val, 0] := by decide +kernel

abbrev arrQ : S8x4096x192.Idx → EReal := V m c main_v0
abbrev arrK : S8x4096x192.Idx → EReal := V m c main_v1
abbrev arrV : S8x4096x128.Idx → EReal := V m c main_v2

theorem arrQ_eq (i) : arrQ m c i = m ((c : Thread nD τ).loc main_arg0) i := by
  unfold arrQ V
  after_reads_simp
  rfl
theorem arrK_eq (i) : arrK m c i = m ((c : Thread nD τ).loc main_arg1) i := by
  unfold arrK V
  after_reads_simp
  rfl
theorem arrV_eq (i) : arrV m c i = m ((c : Thread nD τ).loc main_arg2) i := by
  unfold arrV V
  after_reads_simp
  rfl

/-- A column of the heads' outputs by its head and its place there. -/
def colH (h : Fin 8) (e : Fin 128) : Fin 1024 := ⟨128 * h.val + e.val, by have := h.isLt; have := e.isLt; omega⟩

theorem blkQ (t : Fin cfgA.N) (r : Fin 2048) (e : Fin 192) :
    iblk m c (0 : Fin 5) t (ix3 0 r e) = arrQ m c (ix3 (headAt t) (glob (halfI t) r) e) := by
  unfold iblk
  blk_simp
  refine congrArg (V m c main_v0) (funext fun x => Fin.ext ?_)
  have h := index0 t
  fin_cases x <;> blk_simp [h] <;> first | (simp [glob, colH] <;> omega) | simp [glob, colH]

theorem blkK (t : Fin cfgA.N) (r : Fin 2048) (e : Fin 192) :
    iblk m c (1 : Fin 5) t (ix3 0 r e) = arrK m c (ix3 (headAt t) (glob (halfJ t) r) e) := by
  unfold iblk
  blk_simp
  refine congrArg (V m c main_v1) (funext fun x => Fin.ext ?_)
  have h := index1 t
  fin_cases x <;> blk_simp [h] <;> first | (simp [glob, colH] <;> omega) | simp [glob, colH]

theorem blkV (t : Fin cfgA.N) (r : Fin 2048) (e : Fin 128) :
    iblk m c (2 : Fin 5) t (ix3 0 r e) = arrV m c (ix3 (headAt t) (glob (halfJ t) r) e) := by
  unfold iblk
  blk_simp
  refine congrArg (V m c main_v2) (funext fun x => Fin.ext ?_)
  have h := index2 t
  fin_cases x <;> blk_simp [h] <;> first | (simp [glob, colH] <;> omega) | simp [glob, colH]

variable (Q K : Fin 8 → Fin 4096 → Fin 192 → ℝ) (W : Fin 8 → Fin 4096 → Fin 128 → ℝ)
  (hQ : ∀ h a x, m ((c : Thread nD τ).loc main_arg0) (ix3 h a x) = (Q h a x : EReal))
  (hK : ∀ h a x, m ((c : Thread nD τ).loc main_arg1) (ix3 h a x) = (K h a x : EReal))
  (hW : ∀ h a x, m ((c : Thread nD τ).loc main_arg2) (ix3 h a x) = (W h a x : EReal))

include hW in
theorem rowV_vals (t : Fin cfgA.N) (r : Fin 2048) (e : Fin 256) :
    rowV (iblk m c (2 : Fin 5) t) r e = (vals (W (headAt t)) (glob (halfJ t) r).val e : EReal) := by
  unfold rowV vals
  rw [dif_pos (glob (halfJ t) r).isLt]
  split
  · rw [blkV, arrV_eq, hW]
  · rw [EReal.coe_one]

include hQ hK hW in
/-- The operands at a step. -/
theorem operands (t : Fin cfgA.N) (v : Fin 2 → Vec Ideal S1024x256 .bf16)
    (hv : ∀ (j : Fin 2) (b : Fin 1024) (e : Fin 256), v j (ix2 b e) = rowV (iblk m c (2 : Fin 5) t) (keyRow j b) e)
    (a4 a5 : Memref sig .tc .vmem S1x2048x192 .bf16) :
    Operands (getQ a4 (iblk m c (0 : Fin 5) t)) (getK a5 (iblk m c (1 : Fin 5) t)) v
      (Q (headAt t)) (K (headAt t)) (W (headAt t)) (halfI t) (halfJ t) := by
  refine ⟨fun j a x => ?_, fun j b x => ?_, fun j b e => ?_⟩
  · rw [getQ_apply, blkQ, arrQ_eq, hQ]
  · rw [getK_apply, blkK, arrK_eq, hK]
  · rw [hv, rowV_vals m c W hW]

/-! ### The accumulators after a full block -/

theorem accB_v (t : Fin cfgA.N) (h : t.val % 3 = 1) (r : Fin 2048) (e : Fin 256) (he : ¬ e.val < 128) :
    bufV.view.read (Elt Ideal) (acc m c (t.val + 1)).v (ix2 r e) = 1 := by
  rw [acc_succ, accStep_B m c t _ h]
  dsimp only
  rw [runB_v, View.read_writes_junk_eq_canon, canon_values, rowV, dif_neg he]

theorem accB_m (t : Fin cfgA.N) (h : t.val % 3 = 1) (i : S2048x1.Idx) : bufM.view.read (Elt Ideal) (acc m c (t.val + 1)).m i
    = View.canon (afterB (getQ (st0 t) (iblk m c (0 : Fin 5) t)) (getK (st1 t) (iblk m c (1 : Fin 5) t))
      (getV [valuesPiece (block (st2 t) (iblk m c (2 : Fin 5) t)), onesPiece])).1 i := by
  rw [acc_succ, accStep_B m c t _ h]
  dsimp only
  rw [runB_m, View.read_writes_junk_eq_canon]

theorem accB_s (t : Fin cfgA.N) (h : t.val % 3 = 1) (i : S2048x256.Idx) : bufS.view.read (Elt Ideal) (acc m c (t.val + 1)).s i
    = View.canon (afterB (getQ (st0 t) (iblk m c (0 : Fin 5) t)) (getK (st1 t) (iblk m c (1 : Fin 5) t))
      (getV [valuesPiece (block (st2 t) (iblk m c (2 : Fin 5) t)), onesPiece])).2 i := by
  rw [acc_succ, accStep_B m c t _ h]
  dsimp only
  rw [runB_s, View.read_writes_junk_eq_canon]

include hQ hK hW in
theorem accB_good (t : Fin cfgA.N) (h : t.val % 3 = 1) (r : Fin 2048) :
    GoodRow (Q (headAt t)) (K (headAt t)) (W (headAt t)) 1 r 2 (bufM.view.read (Elt Ideal) (acc m c (t.val + 1)).m (ix2 r 0))
      fun e => bufS.view.read (Elt Ideal) (acc m c (t.val + 1)).s (ix2 r e) := by
  have hI : halfI t = 1 := if_neg (by omega)
  have hJ : halfJ t = 0 := if_neg (by omega)
  have ho := operands m c Q K W hQ hK hW t _ (getV_apply (iblk m c (2 : Fin 5) t) (st2 t)) (st0 t) (st1 t)
  rw [hI, hJ] at ho
  have hg := afterB_good ho r
  rw [accB_m m c t h, funext fun e => accB_s m c t h (ix2 r e)]
  exact hg

/-! ### The outputs' blocks -/

theorem idxS (y : S2048x256.Idx) : (Rect.unit ![0, 0] S2048x256.size inb_S2048x256_S2048x256_0_0).toLoadRect.idx y = y := by
  funext x; refine Fin.ext ?_; change ![0, 0] x + 1 * (y x).val = (y x).val; fin_cases x <;> simp
theorem idxM (y : S2048x1.Idx) : (Rect.unit ![0, 0] S2048x1.size inb_S2048x1_S2048x1_0_0).toLoadRect.idx y = y := by
  funext x; refine Fin.ext ?_; change ![0, 0] x + 1 * (y x).val = (y x).val; fin_cases x <;> simp

theorem pay10_apply (x : FVec Ideal S2048x256 .f32) (r : Fin 2048) : (k0_pay10 (F := Ideal) x : _ → EReal) (ix2 r 0) = x (ix2 r 128) := by
  unfold k0_pay10; pointwise
theorem pay11_apply (x : FVec Ideal S2048x256 .f32) (r : Fin 2048) (e : Fin 128) :
    (k0_pay11 (F := Ideal) x : _ → EReal) (ix2 r e) = Ideal.div (x (ix2 r (⟨e.val, by omega⟩ : Fin 256))) (x (ix2 r 128)) := by
  rw [← pay10_apply x]; unfold k0_pay11; pointwise
theorem pay12_apply (x : FVec Ideal S2048x256 .f32) (y : FVec Ideal S2048x1 .f32) (r : Fin 2048) :
    (k0_pay12 (F := Ideal) x y : _ → EReal) (ix3 0 r 0) = y (ix2 r 0) * scale + Ideal.log (x (ix2 r 128)) := by
  rw [← pay10_apply x]; unfold k0_pay12; pointwise

/-- What a last step of a row's blocks stores, from what the tiles leave. -/
theorem stored (h : Fin 8) (it : Fin 2) (L : List PieceM × List PieceS) (r : Fin 2048) {n : ℕ} (hn : (glob it r).val < 1024 * n)
    (hg : GoodRow (Q h) (K h) (W h) it r n (View.canon L.1 (ix2 r 0)) fun e => View.canon L.2 (ix2 r e)) :
    (∀ e : Fin 128, (k0_pay11 (F := Ideal) (bufS.view.readCov L.2 (Rect.unit ![0, 0] S2048x256.size inb_S2048x256_S2048x256_0_0).toLoadRect) : _ → EReal)
      (ix2 r e) = (outp (Q h) (K h) (W h) (glob it r) e : EReal)) ∧
    (k0_pay12 (F := Ideal) (bufS.view.readCov L.2 (Rect.unit ![0, 0] S2048x256.size inb_S2048x256_S2048x256_0_0).toLoadRect)
      (bufM.view.readCov L.1 (Rect.unit ![0, 0] S2048x1.size inb_S2048x1_S2048x1_0_0).toLoadRect) : _ → EReal) (ix3 0 r 0)
      = (logSum (Q h) (K h) (glob it r) : EReal) := by
  obtain ⟨h1, h2⟩ := hg.finish hn
  have hs (e : Fin 256) : bufS.view.readCov L.2 (Rect.unit ![0, 0] S2048x256.size inb_S2048x256_S2048x256_0_0).toLoadRect (ix2 r e)
      = View.canon L.2 (ix2 r e) := by rw [View.readCov_eq_canon']; exact congrArg (View.canon L.2) (idxS _)
  have hm : bufM.view.readCov L.1 (Rect.unit ![0, 0] S2048x1.size inb_S2048x1_S2048x1_0_0).toLoadRect (ix2 r 0)
      = View.canon L.1 (ix2 r 0) := by rw [View.readCov_eq_canon']; exact congrArg (View.canon L.1) (idxM _)
  refine ⟨fun e => ?_, ?_⟩
  · refine (pay11_apply _ r e).trans ?_
    refine (congrArg₂ Ideal.div (hs _) (hs _)).trans (h1 e)
  · refine (pay12_apply _ _ r).trans ?_
    rw [scale_eq]
    exact (congrArg₂ (fun a b => a * (((Real.sqrt 192)⁻¹ : ℝ) : EReal) + Ideal.log b) hm (hs _)).trans h2

/-- The step before another of the same head. -/
theorem pred_step (t : Fin cfgA.N) (h : t.val % 3 ≠ 0) :
    ∃ s : Fin cfgA.N, s.val + 1 = t.val ∧ s.val % 3 + 1 = t.val % 3 ∧ headAt s = headAt t := by
  refine ⟨⟨t.val - 1, by have := t.isLt; omega⟩, ?_, ?_, Fin.ext ?_⟩ <;> simp only [headAt] <;> omega

include hQ hK hW in
theorem outs (t : Fin cfgA.N) (h : t.val % 3 ≠ 1) (r : Fin 2048) :
    (∀ e : Fin 128, out3 m c t (ix2 r e) = (outp (Q (headAt t)) (K (headAt t)) (W (headAt t)) (glob (halfI t) r) e : EReal)) ∧
    out4 m c t (ix3 0 r 0) = (logSum (Q (headAt t)) (K (headAt t)) (glob (halfI t) r) : EReal) := by
  by_cases h0 : t.val % 3 = 0
  · have hI : halfI t = 0 := if_pos h0
    have hJ : halfJ t = 0 := if_neg (by omega)
    have ho := operands m c Q K W hQ hK hW t _ (getV_apply (iblk m c (2 : Fin 5) t) (st2 t)) (st0 t) (st1 t)
    rw [hI, hJ] at ho
    obtain ⟨n, hn, hg⟩ := afterA_good ho r
    obtain ⟨s1, s2⟩ := stored Q K W (headAt t) 0 _ r hn hg
    rw [hI]
    refine ⟨fun e => ?_, ?_⟩
    · rw [out3_A m c t h0, runA_o, View.canon_cons_unit_lit _ _ _ (by decide)]
      exact s1 e
    · rw [out4_A m c t h0, runA_l, View.canon_cons_unit_lit _ _ _ (by decide)]
      exact s2
  · have h2 : t.val % 3 = 2 := by omega
    have hI : halfI t = 1 := if_neg (by omega)
    have hJ : halfJ t = 1 := if_pos h2
    obtain ⟨s, hs, hm, hh⟩ := pred_step t (by omega)
    have hb : s.val % 3 = 1 := by omega
    have ho := operands m c Q K W hQ hK hW t _ (getV'_apply (iblk m c (2 : Fin 5) t) (st2 t) (acc m c t.val).v
      (fun r e he => by rw [← hs]; exact accB_v m c s hb r e he)) (st0 t) (st1 t)
    rw [hI, hJ] at ho
    obtain ⟨n, hn, hg⟩ := afterC_good ho (sm := (acc m c t.val).m) (ss := (acc m c t.val).s)
      (fun r => by have := accB_good m c Q K W hQ hK hW s hb r; rwa [hs, hh] at this) r
    obtain ⟨s1, s2⟩ := stored Q K W (headAt t) 1 _ r hn hg
    rw [hI]
    refine ⟨fun e => ?_, ?_⟩
    · rw [out3_C m c t h2, runC_o, View.canon_cons_unit_lit _ _ _ (by decide)]
      exact s1 e
    · rw [out4_C m c t h2, runC_l, View.canon_cons_unit_lit _ _ _ (by decide)]
      exact s2

/-- The head and the place there of a column. -/
def hCol (x : Fin 1024) : Fin 8 := ⟨x.val / 128, by omega⟩
def eCol (x : Fin 1024) : Fin 128 := ⟨x.val % 128, by omega⟩

include hQ hK hW in
theorem final3 : (dats m 0 c).arrAt (3 : Fin 5) cfgA.N
    = fun i : S4096x1024.Idx => (outp (Q (hCol (i 1))) (K (hCol (i 1))) (W (hCol (i 1))) (i 0) (eCol (i 1)) : EReal) := by
  refine (dats m 0 c).arrAt_eq_of_covers (3 : Fin 5) _ (by decide +kernel) fun t hf y => ?_
  have h : t.val % 3 ≠ 1 := fun h => by rw [(storesB t h).2.1] at hf; cases hf
  blk_simp
  rw [after3]
  obtain ⟨r, e, rfl⟩ : ∃ (r : Fin 2048) (e : Fin 128), y = ix2 r e := ⟨y 0, y 1, by funext x; fin_cases x <;> rfl⟩
  refine ((outs m c Q K W hQ hK hW t h r).1 e).trans ?_
  have hx := index3 t
  have e1 : headAt t = hCol (((cfgA.win (3 : Fin 5)).blk t).view.emb (ix2 r e) 1) := by
    refine Fin.ext ?_; unfold hCol; blk_simp [hx]; simp; omega
  have e2 : glob (halfI t) r = ((cfgA.win (3 : Fin 5)).blk t).view.emb (ix2 r e) 0 := by
    refine Fin.ext ?_; blk_simp [hx]; simp [glob, mul_comm]
  have e3 : e = eCol (((cfgA.win (3 : Fin 5)).blk t).view.emb (ix2 r e) 1) := by
    refine Fin.ext ?_; unfold eCol; blk_simp [hx]; simp; omega
  rw [← e1, ← e2, ← e3]

include hQ hK hW in
theorem final4 : (dats m 0 c).arrAt (4 : Fin 5) cfgA.N
    = fun i : S8x4096x1.Idx => (logSum (Q (i 0)) (K (i 0)) (i 1) : EReal) := by
  refine (dats m 0 c).arrAt_eq_of_covers (4 : Fin 5) _ (by decide +kernel) fun t hf y => ?_
  have h : t.val % 3 ≠ 1 := fun h => by rw [(storesB t h).2.2.2] at hf; cases hf
  blk_simp
  rw [after4]
  obtain ⟨z, r, z', rfl⟩ : ∃ (z : Fin 1) (r : Fin 2048) (z' : Fin 1), y = ix3 z r z' := ⟨y 0, y 1, y 2, by funext x; fin_cases x <;> rfl⟩
  obtain rfl := Subsingleton.elim 0 z
  obtain rfl := Subsingleton.elim 0 z'
  refine ((outs m c Q K W hQ hK hW t h r).2).trans ?_
  have hx := index4 t
  have e1 : headAt t = ((cfgA.win (4 : Fin 5)).blk t).view.emb (ix3 0 r 0) 0 := by
    refine Fin.ext ?_; blk_simp [hx]; simp
  have e2 : glob (halfI t) r = ((cfgA.win (4 : Fin 5)).blk t).view.emb (ix3 0 r 0) 1 := by
    refine Fin.ext ?_; blk_simp [hx]; simp [glob, mul_comm]
  rw [← e1, ← e2]

end Cert.OutIdeal.Gen
-- ==== Proof.OutReference.lean ====
module

public import proofs.«01_k».proof.Proof.Gen.OutRefIdeal.Run
public import proofs.«01_k».proof.Proof.OutMath
public import Idealize.ShloMosaic.Lib.Pipeline.ValueKit
public import Idealize.ShloMosaic.Lib.Pointwise
public import Idealize.ShloMosaic.Lib.IdealHost
public import Idealize.ShloMosaic.Lib.WordCmp

/-! The reference's two results over the reals, where the arguments are real. -/

@[expose] public section

set_option maxRecDepth 16384

noncomputable section

namespace Cert.OutRefIdeal.Value

open Cert.OutRefIdeal Cert.OutRefIdeal.Gen Cert.Reals Cert.AttnMath Cert.OutMath
open Idealize.ShloMosaic Idealize.ShloMosaic.TcCoe

/-! ### The reference's lines, by name -/

def mask : IVec S8x4096x4096 1 :=
  broadcastInDim S8x4096x4096 ![1, 2] bcast_S4096x4096_S8x4096x4096_1_2
    (cmpi .sge
      (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0))))

def widthRoot : FVec Ideal S8x4096x4096 .f32 :=
  broadcastInDim S8x4096x4096 ![] bcast_S_S8x4096x4096 (Host.sqrt (constant S_ .f32 0x43400000#32))

def maskedScores (q k : FVec Ideal S8x4096x192 .f32) : FVec Ideal S8x4096x4096 .f32 :=
  select mask (Host.divf (Host.dotGeneral dot_S8x4096x192_S8x4096x192_S8x4096x4096_2_2_1_1_0_0 none q k) widthRoot)
    (broadcastInDim S8x4096x4096 ![] bcast_S_S8x4096x4096 (id (constant S_ .f32 0xFF800000#32)))

def rowLargest (s : FVec Ideal S8x4096x4096 .f32) : FVec Ideal S8x4096 .f32 :=
  Host.reduce FloatOps.maximumf s (constant S_ .f32 0xFF800000#32) reducesTo_S8x4096x4096_S8x4096_d2 h_S_

/-- The larger of nothing and a row's largest. -/
def rowTop (s : FVec Ideal S8x4096x4096 .f32) : FVec Ideal S8x4096x1 .f32 :=
  broadcastInDim S8x4096x1 ![0, 1] bcast_S8x4096_S8x4096x1_0_1
    (maximumf (broadcastInDim S8x4096 ![] bcast_S_S8x4096 (constant S_ .f32 0xFF800000#32)) (rowLargest s))

def along (x : FVec Ideal S8x4096x1 .f32) : FVec Ideal S8x4096x4096 .f32 :=
  broadcastInDim S8x4096x4096 ![0, 1, 2] bcast_S8x4096x1_S8x4096x4096_0_1_2 x

def rowExps (s : FVec Ideal S8x4096x4096 .f32) : FVec Ideal S8x4096x4096 .f32 := Host.exp (subf s (along (rowTop s)))

def rowSum (x : FVec Ideal S8x4096x4096 .f32) : FVec Ideal S8x4096x1 .f32 :=
  broadcastInDim S8x4096x1 ![0, 1] bcast_S8x4096_S8x4096x1_0_1
    (Host.reduceAdd x (constant S_ .f32 0x00000000#32) reducesTo_S8x4096x4096_S8x4096_d2 h_S_)

/-- A row's largest, as a column. -/
def rowBase (s : FVec Ideal S8x4096x4096 .f32) : FVec Ideal S8x4096x1 .f32 :=
  broadcastInDim S8x4096x1 ![0, 1] bcast_S8x4096_S8x4096x1_0_1 (rowLargest s)

/-- The rows' outputs, a head's next to another's. -/
def laid (z : FVec Ideal S8x128x4096 .f32) : FVec Ideal S4096x1024 .f32 :=
  shapeCast S4096x1024 (transpose S4096x8x128 [2, 0, 1] z transposes_S8x128x4096_S4096x8x128_2_0_1) shapeCasts_S4096x8x128_S4096x1024

def mixed (v : FVec Ideal S8x4096x128 .f32) (p : FVec Ideal S8x4096x4096 .f32) : FVec Ideal S8x128x4096 .f32 :=
  Host.dotGeneral dot_S8x4096x128_S8x4096x4096_S8x128x4096_1_2_2_1_0_0 none v p

variable (m : (ℓ : Loc nD τ sig) → Buf (Elt Ideal) ℓ) (c : Dev nD)

abbrev ss : FVec Ideal S8x4096x4096 .f32 := maskedScores (m ((c.tc : Thread nD τ).loc main_arg0)) (m ((c.tc : Thread nD τ).loc main_arg1))
abbrev xs : FVec Ideal S8x4096x4096 .f32 :=
  rowExps (maskedScores (m ((c.tc : Thread nD τ).loc main_arg0)) (m ((c.tc : Thread nD τ).loc main_arg1)))

theorem out0_eq : res_out0 m c = laid (mixed (m ((c.tc : Thread nD τ).loc main_arg2)) (Host.divf (xs m c) (along (rowSum (xs m c))))) := rfl
/-- The second result, as the program writes it. -/
def logs : FVec Ideal S8x4096x1 .f32 :=
  addf (rowBase (ss m c)) (Host.log (rowSum (Host.exp (subf (ss m c) (along (rowBase (ss m c)))))))

/-! ### Read at an index -/

theorem widthRoot_apply (i) : widthRoot i = ((Real.sqrt 192 : ℝ) : EReal) := by
  unfold widthRoot
  pointwise [width_f32]
  rw [Ideal.sqrt_coe, if_neg (show ¬ (192 : ℝ) < 0 by norm_num)]

theorem select_mask (x y : FVec Ideal S8x4096x4096 .f32) (h : Fin 8) (a b : Fin 4096) :
    select mask x y (ix3 h a b) = if b ≤ a then x (ix3 h a b) else y (ix3 h a b) := by
  have ha := a.isLt
  have hb := b.isLt
  unfold mask
  pointwise
  simp (disch := word_cmp_side) only [hlo_ix]
  simp only [Fin.val_fin_le]

theorem maskedScores_apply (q k : FVec Ideal S8x4096x192 .f32) (h : Fin 8) (a b : Fin 4096) :
    maskedScores q k (ix3 h a b) = if b ≤ a then Ideal.div (∑ x : Fin 192, q (ix3 h a x) * k (ix3 h b x)) ((Real.sqrt 192 : ℝ) : EReal) else ⊥ := by
  unfold maskedScores
  rw [select_mask]
  pointwise [widthRoot_apply, id]
  rw [bot_f32]

theorem rowLargest_apply (s : FVec Ideal S8x4096x4096 .f32) (h : Fin 8) (a : Fin 4096) :
    rowLargest s (ix2 h a) = Finset.fold max (⊥ : EReal) (fun b => s (ix3 h a b)) Finset.univ := by
  unfold rowLargest
  pointwise [bot_f32]

theorem column_apply (x : FVec Ideal S8x4096 .f32) (h : Fin 8) (a : Fin 4096) :
    broadcastInDim S8x4096x1 ![0, 1] bcast_S8x4096_S8x4096x1_0_1
      (maximumf (broadcastInDim S8x4096 ![] bcast_S_S8x4096 (constant S_ .f32 0xFF800000#32)) x) (ix3 h a 0) = max (⊥ : EReal) (x (ix2 h a)) := by
  pointwise [bot_f32]

theorem rowTop_apply (s : FVec Ideal S8x4096x4096 .f32) (h : Fin 8) (a : Fin 4096) :
    rowTop s (ix3 h a 0) = Finset.fold max (⊥ : EReal) (fun b => s (ix3 h a b)) Finset.univ := by
  rw [← rowLargest_apply, ← max_eq_right (bot_le (a := rowLargest s (ix2 h a))), ← column_apply]
  rfl

theorem along_apply (x : FVec Ideal S8x4096x1 .f32) (h : Fin 8) (a b : Fin 4096) : along x (ix3 h a b) = x (ix3 h a 0) := by
  unfold along
  pointwise

theorem exp_sub_apply (s t : FVec Ideal S8x4096x4096 .f32) (h : Fin 8) (a b : Fin 4096) :
    Host.exp (subf s t) (ix3 h a b) = Ideal.exp (s (ix3 h a b) - t (ix3 h a b)) := by
  pointwise

theorem rowExps_apply (s : FVec Ideal S8x4096x4096 .f32) (h : Fin 8) (a b : Fin 4096) :
    rowExps s (ix3 h a b) = Ideal.exp (s (ix3 h a b) - rowTop s (ix3 h a 0)) := by
  rw [← along_apply (rowTop s) h a b]
  exact exp_sub_apply _ _ h a b

theorem rowSum_apply (x : FVec Ideal S8x4096x4096 .f32) (h : Fin 8) (a : Fin 4096) : rowSum x (ix3 h a 0) = ∑ b, x (ix3 h a b) := by
  unfold rowSum
  pointwise

theorem quot_apply (x y : FVec Ideal S8x4096x4096 .f32) (i) : Host.divf x y i = Ideal.div (x i) (y i) := by
  pointwise

theorem laid_apply (z : FVec Ideal S8x128x4096 .f32) (a : Fin 4096) (x : Fin 1024) :
    laid z (ix2 a x) = z (ix3 (⟨x.val / 128, by have := x.isLt; omega⟩ : Fin 8) (⟨x.val % 128, Nat.mod_lt _ (by norm_num)⟩ : Fin 128) a) := by
  unfold laid
  pointwise

theorem mixed_apply (v : FVec Ideal S8x4096x128 .f32) (p : FVec Ideal S8x4096x4096 .f32) (h : Fin 8) (e : Fin 128) (a : Fin 4096) :
    mixed v p (ix3 h e a) = ∑ b, v (ix3 h b e) * p (ix3 h a b) := by
  unfold mixed
  pointwise

theorem base_apply (x : FVec Ideal S8x4096 .f32) (h : Fin 8) (a : Fin 4096) :
    broadcastInDim S8x4096x1 ![0, 1] bcast_S8x4096_S8x4096x1_0_1 x (ix3 h a 0) = x (ix2 h a) := by
  pointwise

theorem rowBase_apply (s : FVec Ideal S8x4096x4096 .f32) (h : Fin 8) (a : Fin 4096) :
    rowBase s (ix3 h a 0) = Finset.fold max (⊥ : EReal) (fun b => s (ix3 h a b)) Finset.univ :=
  (base_apply _ h a).trans (rowLargest_apply s h a)

theorem logs_apply (y t : FVec Ideal S8x4096x1 .f32) (i) : addf t (Host.log y) i = t i + Ideal.log (y i) := by
  pointwise

/-! ### Over the reals -/

variable (Q K : Fin 8 → Fin 4096 → Fin 192 → ℝ) (W : Fin 8 → Fin 4096 → Fin 128 → ℝ)
  (hQ : ∀ h a x, m ((c.tc : Thread nD τ).loc main_arg0) (ix3 h a x) = (Q h a x : EReal))
  (hK : ∀ h a x, m ((c.tc : Thread nD τ).loc main_arg1) (ix3 h a x) = (K h a x : EReal))
  (hW : ∀ h a x, m ((c.tc : Thread nD τ).loc main_arg2) (ix3 h a x) = (W h a x : EReal))

theorem root_ne : Real.sqrt 192 ≠ 0 := (Real.sqrt_pos.mpr (by norm_num)).ne'

include hQ hK in
theorem scores_real (h : Fin 8) (a b : Fin 4096) :
    maskedScores (m ((c.tc : Thread nD τ).loc main_arg0)) (m ((c.tc : Thread nD τ).loc main_arg1)) (ix3 h a b) = masked (Q h) (K h) a b := by
  rw [maskedScores_apply]
  simp only [hQ, hK, ← EReal.coe_mul, coe_sum, div_real _ root_ne]
  rfl

include hQ hK in
theorem xs_real (h : Fin 8) (a b : Fin 4096) : xs m c (ix3 h a b) = (expo (Q h) (K h) a b : EReal) := by
  unfold xs
  rw [rowExps_apply, scores_real m c Q K hQ hK, rowTop_apply, ← expo_eq, ← top_eq]
  exact congrArg (fun f => Ideal.exp (_ - Finset.fold max (⊥ : EReal) f Finset.univ)) (funext fun b => scores_real m c Q K hQ hK h a b)

include hQ hK in
theorem sums_real (h : Fin 8) (a : Fin 4096) : rowSum (xs m c) (ix3 h a 0) = (total (Q h) (K h) a : EReal) := by
  rw [rowSum_apply]
  simp only [xs_real m c Q K hQ hK, coe_sum]
  rfl

include hQ hK hW in
theorem out0_real (a : Fin 4096) (x : Fin 1024) :
    res_out0 m c (ix2 a x) = (outp (Q ⟨x.val / 128, by have := x.isLt; omega⟩) (K ⟨x.val / 128, by have := x.isLt; omega⟩)
      (W ⟨x.val / 128, by have := x.isLt; omega⟩) a ⟨x.val % 128, Nat.mod_lt _ (by norm_num)⟩ : EReal) := by
  rw [out0_eq, laid_apply, mixed_apply]
  simp only [quot_apply, along_apply, hW, xs_real m c Q K hQ hK, sums_real m c Q K hQ hK, div_real _ (total_pos _ _ _).ne', ← EReal.coe_mul, coe_sum]
  exact congrArg _ (Finset.sum_congr rfl fun b _ => mul_comm _ _)

include hQ hK in
theorem base_real (h : Fin 8) (a : Fin 4096) : rowBase (ss m c) (ix3 h a 0) = (top (Q h) (K h) a : EReal) := by
  rw [rowBase_apply, ← top_eq]
  exact congrArg (fun f => Finset.fold max (⊥ : EReal) f Finset.univ) (funext fun b => scores_real m c Q K hQ hK h a b)

include hQ hK in
theorem logs_real (h : Fin 8) (a : Fin 4096) : logs m c (ix3 h a 0) = (logSum (Q h) (K h) a : EReal) := by
  have hs : rowSum (Host.exp (subf (ss m c) (along (rowBase (ss m c))))) (ix3 h a 0) = (total (Q h) (K h) a : EReal) := by
    rw [rowSum_apply]
    simp only [exp_sub_apply, along_apply, base_real m c Q K hQ hK, scores_real m c Q K hQ hK, expo_eq, coe_sum]
    rfl
  unfold logs
  rw [logs_apply, hs, base_real m c Q K hQ hK, Ideal.log_coe, if_neg (not_le.mpr (total_pos (Q h) (K h) a)), ← EReal.coe_add]
  rfl

end Cert.OutRefIdeal.Value
-- ==== Proof.OutWhole.lean ====
module

public import proofs.«01_k».proof.Proof.OutFrame
public import Idealize.ShloMosaic.Lib.StableHlo.RunRead
public import Idealize.ShloMosaic.Lib.Claim

/-! The attention's whole program: the host lines, then the call, run from any memory. -/

@[expose] public section

set_option maxRecDepth 16384
set_option Elab.async false

noncomputable section

namespace Cert.Out.Gen

open Cert.Out
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Bits) ℓ) (ρ : Dev nD → PrngReg)

/-! ## The whole program's run -/

/-- The buffers the host lines write, in order. -/
def written : List (Ref sig .tc) :=
  [main_c, main_c_0, main_v0, main_v1, main_v2]

theorem hostOps0_writes : (hostOps0 : List (HloOp τ sig (Elt Bits))).map HloOp.writes = written.map fun r => {Proc.devRef (τ := τ) .tc r} := rfl
theorem hostOps0_fresh : (hostOps0 : List (HloOp τ sig (Elt Bits))).Forall fun op => op.fresh = ∅ :=
  StableHlo.forall_fresh_of_map rfl

/-- A buffer that no host line writes is as it was. -/
theorem V_kept (c : Dev nD) (b : Ref sig .tc) (hb : b ∉ written) : V m c b = m ((c : Thread nD τ).loc b) :=
  StableHlo.after_of_writes_sub hostOps0 _ (StableHlo.forall_writes_sub_of_map hostOps0_writes) hb

theorem V_rows (c : Dev nD) : V m c main_c = rows := by
  have h := StableHlo.after_last_write (ops := (hostOps0 : List (HloOp τ sig (Elt Bits)))) (i := 0) (written.drop 1) (r := main_c) rfl rfl
    (by decide) (fun b => m (c, b))
  refine h.trans ?_
  refine (StableHlo.nullary_result ..).trans ?_
  funext x; revert x; decide +kernel
theorem V_cols (c : Dev nD) : V m c main_c_0 = cols := by
  have h := StableHlo.after_last_write (ops := (hostOps0 : List (HloOp τ sig (Elt Bits)))) (i := 1) (written.drop 2) (r := main_c_0) rfl rfl
    (by decide) (fun b => m (c, b))
  refine h.trans ?_
  refine (StableHlo.nullary_result ..).trans ?_
  funext x; revert x; decide +kernel

theorem V_tables (c : Dev nD) : ∀ k : Fin 2, V m c (pre0.ref k) = tables k
  | 0 => V_rows m c
  | 1 => V_cols m c

/-- The two tables as the steps hold them. -/
theorem held_tables (c : Dev nD) : (Pipeline.ΦT (U := UR sig nD τ) pre0 (tables) c : sProp Res)
    = iprop((tabI.view.loc (c : Thread nD τ) ↦{fullShare.right} rows) ∗ (tabJ.view.loc (c : Thread nD τ) ↦{fullShare.right} cols)) := by
  unfold Pipeline.ΦT Pipeline.prefHeld
  rw [show (Finset.univ : Finset (Fin pre0.K)) = insert (0 : Fin 2) {(1 : Fin 2)} from by decide, bigSep_insert (by decide), bigSep_singleton]
  rfl

/-- At the start nothing is said of the scratch buffers. -/
theorem phi_intro (c : Dev nD) :
    iprop(Pipeline.ΦA (U := UR sig nD τ) (Val := Elt Bits) cfgA.spec c ∗ Pipeline.ΦT pre0 tables c) ⊢ (dats m 0 c).Φ 0 := by
  rewrite [show (dats m 0 c).Φ 0 = Phi m c 0 from rfl]
  rw [held_tables]
  unfold Pipeline.ΦA Phi
  rw [show Pipeline.scopedRest cfgA.spec c = _ from scopedRest0_eq c]
  iintro ⟨⟨⟨⟨%a, HA⟩, ⟨%b, HB⟩, ⟨%d, HD⟩⟩, Hr⟩, HI, HJ⟩
  isplitl [HA]
  · iexists a; isplitr
    · ipureintro; exact fun h => absurd rfl h
    · iexact HA
  isplitl [HB]
  · iexists b; isplitr
    · ipureintro; exact fun h => absurd rfl h
    · iexact HB
  isplitl [HD]
  · iexists d; isplitr
    · ipureintro; exact fun h => absurd rfl h
    · iexact HD
  isplitl [HI]; · iexact HI
  isplitl [HJ]; · iexact HJ
  iexact Hr

/-- At the end the scratch buffers' contents are forgotten. -/
theorem phi_exit (c : Dev nD) : (dats m 0 c).Φ (Fin.last cfgA.N) ⊢ Pipeline.ΦA (U := UR sig nD τ) (Val := Elt Bits) cfgA.spec c := by
  rewrite [show (dats m 0 c).Φ (Fin.last cfgA.N) = Phi m c cfgA.N from rfl]
  unfold Pipeline.ΦA Phi
  rw [show Pipeline.scopedRest cfgA.spec c = _ from scopedRest0_eq c]
  iintro ⟨⟨%a, -, HA⟩, ⟨%b, -, HB⟩, ⟨%d, -, HD⟩, -, -, Hr⟩
  isplitl [HA HB HD]
  · isplitl [HA]; · iexists a; iexact HA
    isplitl [HB]; · iexists b; iexact HB
    iexists d; iexact HD
  iexact Hr

theorem run_main_quiescent : θ_run (defs (F := Bits)) (onTc (τ := τ) (main (F := Bits))) (s₀ m ρ)
    (fun r => Pipeline.FramePost pcs (dats m) 0 (V m) r ∧ r.2.sem = fun _ => 0) :=
  Pipeline.θ_run_frameP_track (Q' := _) (pcfgs (F := Bits)) (fun _ => adm) (dats m) (0 : Fin 1) launch0 defs₀ Variants.none m ρ main
    (hbody := body_obligation m) (hshare := fun c => (dats m 0 c).share_full fun _ => rfl) (howed := fun _ _ => rfl)
    (V := V m) (hmain := Pipeline.hmainP_prefix pcfgs 0 defs₀ Variants.none m main hostOps0 hostOps0_sub hostOps0_fresh main_chain)
    (hA := fun _ _ => rfl) (hpf := V_tables m) (hin := phi_intro m) (hout := phi_exit m)

/-- Every array of the call at what the steps leave, every other buffer as the host lines left it. -/
theorem run_main : θ_run (defs (F := Bits)) (onTc (τ := τ) (main (F := Bits))) (s₀ m ρ) (Pipeline.FramePost pcs (dats m) 0 (V m)) :=
  (θ_run defs _ _).mono (fun _ h => h.1) (run_main_quiescent m ρ)

theorem unchanged : θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of _ rfl (by decide))).trans (V_kept m c _ (by decide)),
     ((h c).2 main_arg1 (Pipeline.mem_restRefs_of _ rfl (by decide))).trans (V_kept m c _ (by decide)),
     ((h c).2 main_arg2 (Pipeline.mem_restRefs_of _ rfl (by decide))).trans (V_kept m c _ (by decide))⟩) (run_main m ρ)

/-- The program runs to its end from any memory, its arguments unchanged and no signal pending. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Out.Gen

end
-- ==== Proof.OutGrad.lean ====
module

public import proofs.«01_k».proof.Proof.OutIdealFinal
public import proofs.«01_k».proof.Proof.OutReference
public import proofs.«01_k».proof.Proof.OutIdealWhole
public import proofs.«01_k».proof.Proof.OutWhole
public import proofs.«01_k».proof.Defs
public import Idealize.ShloMosaic.Lib.Claim

/-! The attention's outputs and the logarithms of its rows' sums: the kernel's are the reference's at finite arguments. -/

@[expose] public section

set_option maxRecDepth 16384

noncomputable section

namespace Cert

open Idealize.ShloMosaic Idealize.ShloMosaic.TcCoe
open Cert.Reals

namespace OutGrad
variable (x : FVec Ideal Pre_out_finite.S8x4096x192 .f32) (y : FVec Ideal Pre_out_finite.S8x4096x192 .f32)
  (z : FVec Ideal Pre_out_finite.S8x4096x128 .f32) [Pre_out_finite.Facts]

theorem queries_real (p : (Pre_out_finite.fn (F := Ideal) x y z).1 = fun _ => 1#1) (h : Fin 8) (a : Fin 4096) (e : Fin 192) :
    ∃ r : ℝ, x (ix3 h a e) = (r : EReal) := by
  refine real_of_finite _ ?_
  have := congrFun p (ix3 h a e)
  unfold Pre_out_finite.fn at this
  pointwise [top_f32] at this
  exact this

theorem keys_real (p : (Pre_out_finite.fn (F := Ideal) x y z).2.1 = fun _ => 1#1) (h : Fin 8) (a : Fin 4096) (e : Fin 192) :
    ∃ r : ℝ, y (ix3 h a e) = (r : EReal) := by
  refine real_of_finite _ ?_
  have := congrFun p (ix3 h a e)
  unfold Pre_out_finite.fn at this
  pointwise [top_f32] at this
  exact this

theorem values_real (p : (Pre_out_finite.fn (F := Ideal) x y z).2.2 = fun _ => 1#1) (h : Fin 8) (a : Fin 4096) (e : Fin 128) :
    ∃ r : ℝ, z (ix3 h a e) = (r : EReal) := by
  refine real_of_finite _ ?_
  have := congrFun p (ix3 h a e)
  unfold Pre_out_finite.fn at this
  pointwise [top_f32] at this
  exact this
end OutGrad

open Cert.OutIdeal.Gen in
/-- The kernel's outputs and logarithms are the reference's, at finite arguments. -/
theorem out_algebraic [hPre : Pre_out_finite.Facts] : algebraic_OutIdeal_OutRefIdeal_pre_out_finite := by
  intro m g m' g' hpre hag
  refine ⟨fun c => (dats m 0 c).arrAt (3 : Fin 5) cfgA.N, fun c => (dats m 0 c).arrAt (4 : Fin 5) cfgA.N, ?_, ?_⟩
  · refine (θ_run _ _ _).mono (fun r h c => ?_) (θ_run_and (run_main m g) (unchanged m g))
    obtain ⟨hf, hu⟩ := h
    exact ⟨(hf c).1 3, (hf c).1 4, hu c⟩
  · refine (θ_run _ _ _).mono (fun r h c => ?_) (OutRefIdeal.Value.run m' g')
    obtain ⟨h0, h1, hu⟩ := h c
    obtain ⟨p0, p1, p2⟩ := hpre c
    obtain ⟨e0, e1, e2⟩ := hag c
    choose Q hQ using OutGrad.queries_real _ _ _ p0
    choose K hK using OutGrad.keys_real _ _ _ p1
    choose W hW using OutGrad.values_real _ _ _ p2
    refine ⟨h0.trans (.trans (funext fun i => ?_) (final3 m c Q K W hQ hK hW).symm),
      h1.trans (.trans (funext fun i => ?_) (final4 m c Q K W hQ hK hW).symm), hu⟩
    · obtain ⟨a, x, rfl⟩ : ∃ (a : Fin 4096) (x : Fin 1024), i = ix2 a x := ⟨i 0, i 1, eq_ix2 i⟩
      refine (OutRefIdeal.Value.out0_real m' c Q K W ?_ ?_ ?_ a x).trans rfl
      · rw [e0]; exact hQ
      · rw [e1]; exact hK
      · rw [e2]; exact hW
    · obtain ⟨h, a, rfl⟩ : ∃ (h : Fin 8) (a : Fin 4096), i = ix3 h a 0 :=
        ⟨i 0, i 1, (eq_ix3 i).trans (congrArg (ix3 (i 0) (i 1)) (Fin.fin_one_eq_zero (show Fin 1 from i 2)))⟩
      refine (OutRefIdeal.Value.logs_real m' c Q K ?_ ?_ h a).trans rfl
      · rw [e0]; exact hQ
      · rw [e1]; exact hK

/-- The kernel's two constants are the named ones. -/
theorem out_preserves : preserves_Out_OutIdeal :=
  ⟨IdealRules.named_const.statement OutIdeal.κ _ _ _ _ rfl, IdealRules.named_const.statement OutIdeal.κ _ _ _ _ rfl⟩

end Cert

end
-- ==== Proof.PostForward.lean ====
module

public import proofs.«01_k».proof.Proof.Gen.PostIdeal.Value
public import proofs.«01_k».proof.Proof.Gen.PostRefIdeal.Run
public import proofs.«01_k».proof.Proof.MladoGrad
public import proofs.«01_k».proof.Proof.DownForward
public import proofs.«01_k».proof.Defs
public import Idealize.ShloMosaic.Lib.Pipeline.ValueKit
public import Idealize.ShloMosaic.Lib.Pointwise
public import Idealize.ShloMosaic.Lib.IdealHost
public import Idealize.ShloMosaic.Lib.StableHlo.RunRead
public import Idealize.ShloMosaic.Lib.Claim

/-! The output product of attention and recurrence with the norm after it and the residual's sum, forwards: both results are the reference's. -/

@[expose] public section

set_option maxRecDepth 16384

noncomputable section

open Idealize.ShloMosaic Idealize.ShloMosaic.TcCoe Idealize.SL.Sem
open Idealize.ShloMosaic.Pipeline (Dat)

namespace Cert.PostIdeal.Value

open Cert.PostIdeal Cert.PostIdeal.Gen Cert.Reals Cert.NormMath
open Cert.MladoIdeal.Value (outer)

variable (m : (ℓ : Loc nD τ sig) → Buf (Elt Ideal) ℓ)

/-- Every window's block index, by the grid point's number. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- One row of the sum. -/
def summed (h : FVec Ideal S4096x1024 .f32) (u : FVec Ideal S4096x1024 .f32) (g : FVec Ideal S1024 .f32) (w : FVec Ideal S1024x1024 .f32)
    (a : Fin 4096) (k : Fin 1024) : EReal :=
  h (ix2 a k) + outer u w a k * root ((1024 : ℝ) : EReal) (outer u w a) * g (ix1 k)

section
variable (h : FVec Ideal S4096x1024 .f32) (u : FVec Ideal S4096x1024 .f32) (g : FVec Ideal S1024 .f32) (w : FVec Ideal S1024x1024 .f32)
abbrev PROD : FVec Ideal S4096x1024 .f32 := fun i => outer u w (i 0) (i 1)
abbrev SUMMED : FVec Ideal S4096x1024 .f32 := fun i => summed h u g w (i 0) (i 1)
end

/-! ### The arrays before the call -/

variable (c : Dev nD)

theorem V_v0 : V m c main_v0 = truncf (F := Ideal) .bf16 (m ((c : Thread nD τ).loc main_arg1) : FVec Ideal S4096x1024 .f32) bitsLt_bf16_f32 := by
  unfold V; after_reads_simp
theorem V_v1 : V m c main_v1 = truncf (F := Ideal) .bf16 (m ((c : Thread nD τ).loc main_arg3) : FVec Ideal S1024x1024 .f32) bitsLt_bf16_f32 := by
  unfold V; after_reads_simp
theorem V_v2 : V m c main_v2 = shapeCast S1x1024 (m ((c : Thread nD τ).loc main_arg2)) shapeCasts_S1024_S1x1024 := by
  unfold V; after_reads_simp; rfl
theorem V_arg0 : V m c main_arg0 = m ((c : Thread nD τ).loc main_arg0) := by
  unfold V; after_reads_simp

/-! ### The stored values -/

theorem pay1_apply (x : FVec Ideal S512x1024 .bf16) (w : FVec Ideal S1024x1024 .bf16) (a : Fin 512) (k : Fin 1024) :
    (k0_pay1 (F := Ideal) x w : _ → EReal) (ix2 a k) = ∑ j : Fin 1024, x (ix2 a j) * w (ix2 j k) := by
  unfold k0_pay1
  pointwise

theorem pay2_apply (x : FVec Ideal S512x1024 .bf16) (w : FVec Ideal S1024x1024 .bf16) (h : FVec Ideal S512x1024 .f32) (g : FVec Ideal S1x1024 .f32)
    (a : Fin 512) (k : Fin 1024) :
    (k0_pay2 (F := Ideal) x w h g : _ → EReal) (ix2 a k)
      = h (ix2 a k) + (k0_pay1 (F := Ideal) x w : _ → EReal) (ix2 a k)
        * root ((1024 : ℝ) : EReal) (fun k : Fin 1024 => (k0_pay1 (F := Ideal) x w : _ → EReal) (ix2 a k)) * g (ix2 0 k) := by
  unfold k0_pay2 root
  pointwise [row_f32, eps_f32]

/-! ### The blocks -/

/-- A row of a block as a row of the array. -/
def row (t : Fin cfg0.N) (a : Fin 512) : Fin 4096 := ⟨t.val * 512 + a.val, by have := t.isLt; have : cfg0.N = 8 := N_0; have := a.isLt; omega⟩

theorem blk0 (t : Fin cfg0.N) (a : Fin 512) (x : Fin 1024) : (iblk m c 0 t : _ → EReal) (ix2 a x) = m ((c : Thread nD τ).loc main_arg1) (ix2 (row t a) x) := by
  blk_point [iblk, idx t, row, V_v0]
theorem blk1 (t : Fin cfg0.N) (x : Fin 1024) (k : Fin 1024) : (iblk m c 1 t : _ → EReal) (ix2 x k) = m ((c : Thread nD τ).loc main_arg3) (ix2 x k) := by
  blk_point [iblk, idx t, V_v1]
theorem blk2 (t : Fin cfg0.N) (k : Fin 1024) : (iblk m c 2 t : _ → EReal) (ix2 0 k) = m ((c : Thread nD τ).loc main_arg2) (ix1 k) := by
  blk_point [iblk, idx t, V_v2]
theorem blk3 (t : Fin cfg0.N) (a : Fin 512) (k : Fin 1024) : (iblk m c 3 t : _ → EReal) (ix2 a k) = m ((c : Thread nD τ).loc main_arg0) (ix2 (row t a) k) := by
  blk_point [iblk, idx t, row, V_arg0]
theorem blk4 (t : Fin cfg0.N) (a : Fin 512) (k : Fin 1024) (X : FVec Ideal S4096x1024 .f32) :
    X (((View.whole main_v3_0).slice (win0_4.rect t)).emb (ix2 a k)) = X (ix2 (row t a) k) := by
  blk_point [idx t, row]
theorem blk5 (t : Fin cfg0.N) (a : Fin 512) (k : Fin 1024) (X : FVec Ideal S4096x1024 .f32) :
    X (((View.whole main_v3_1).slice (win0_5.rect t)).emb (ix2 a k)) = X (ix2 (row t a) k) := by
  blk_point [idx t, row]

/-! ### The final arrays -/

theorem prod_blk (t : Fin cfg0.N) (a : Fin 512) (k : Fin 1024) : (k0_pay1 (F := Ideal) (iblk m c 0 t) (iblk m c 1 t) : _ → EReal) (ix2 a k)
    = outer (m ((c : Thread nD τ).loc main_arg1)) (m ((c : Thread nD τ).loc main_arg3)) (row t a) k := by
  rw [pay1_apply]
  simp only [blk0, blk1]
  rfl

theorem sum_blk (t : Fin cfg0.N) (a : Fin 512) (k : Fin 1024) :
    (k0_pay2 (F := Ideal) (iblk m c 0 t) (iblk m c 1 t) (iblk m c 3 t) (iblk m c 2 t) : _ → EReal) (ix2 a k)
      = summed (m ((c : Thread nD τ).loc main_arg0)) (m ((c : Thread nD τ).loc main_arg1)) (m ((c : Thread nD τ).loc main_arg2))
        (m ((c : Thread nD τ).loc main_arg3)) (row t a) k := by
  rw [pay2_apply]
  simp only [prod_blk, blk2, blk3]
  rfl

theorem final4 : (dats m 0 c).arrAt 4 cfg0.N = PROD (m ((c : Thread nD τ).loc main_arg1)) (m ((c : Thread nD τ).loc main_arg3)) := by
  refine (dats m 0 c).arrAt_eq_of_covers 4 _ (by decide +kernel) fun t _ y => ?_
  have h : out0_4 (iblk m c 0 t) (iblk m c 1 t) (iblk m c 2 t) (iblk m c 3 t) = k0_pay1 (iblk m c 0 t) (iblk m c 1 t) := by frame_out
  blk_simp
  rw [after0_4, h]
  obtain ⟨a, k, rfl⟩ : ∃ (a : Fin 512) (k : Fin 1024), y = ix2 a k := ⟨y 0, y 1, eq_ix2 y⟩
  exact (prod_blk m c t a k).trans (blk4 t a k (PROD (m ((c : Thread nD τ).loc main_arg1)) (m ((c : Thread nD τ).loc main_arg3)))).symm

theorem final5 : (dats m 0 c).arrAt 5 cfg0.N
    = SUMMED (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have h : out0_5 (iblk m c 0 t) (iblk m c 1 t) (iblk m c 2 t) (iblk m c 3 t) = k0_pay2 (iblk m c 0 t) (iblk m c 1 t) (iblk m c 3 t) (iblk m c 2 t) := by frame_out
  blk_simp
  rw [after0_5, h]
  obtain ⟨a, k, rfl⟩ : ∃ (a : Fin 512) (k : Fin 1024), y = ix2 a k := ⟨y 0, y 1, eq_ix2 y⟩
  exact (sum_blk m c t a k).trans (blk5 t a k (SUMMED (m ((c : Thread nD τ).loc main_arg0)) (m ((c : Thread nD τ).loc main_arg1))
    (m ((c : Thread nD τ).loc main_arg2)) (m ((c : Thread nD τ).loc main_arg3)))).symm

end Cert.PostIdeal.Value

namespace Cert

open Cert.PostIdeal.Value Cert.MladoRefIdeal.Value Cert.DownRefIdeal.Value

/-- The kernel's two results are the reference's. -/
theorem post_algebraic : algebraic_PostIdeal_PostRefIdeal := by
  intro m g m' g' _ hag
  let h (c : Dev PostIdeal.nD) : FVec Ideal PostIdeal.S4096x1024 .f32 := m ((c.tc : Thread PostIdeal.nD PostIdeal.τ).loc PostIdeal.main_arg0)
  let u (c : Dev PostIdeal.nD) : FVec Ideal PostIdeal.S4096x1024 .f32 := m ((c.tc : Thread PostIdeal.nD PostIdeal.τ).loc PostIdeal.main_arg1)
  let y (c : Dev PostIdeal.nD) : FVec Ideal PostIdeal.S1024 .f32 := m ((c.tc : Thread PostIdeal.nD PostIdeal.τ).loc PostIdeal.main_arg2)
  let w (c : Dev PostIdeal.nD) : FVec Ideal PostIdeal.S1024x1024 .f32 := m ((c.tc : Thread PostIdeal.nD PostIdeal.τ).loc PostIdeal.main_arg3)
  refine ⟨fun c => PROD (u c) (w c), fun c => SUMMED (h c) (u c) (y c) (w c), ?_, ?_⟩
  · refine (θ_run _ _ _).mono (fun r hr c => ?_) (PostIdeal.Value.run_blocks m g)
    obtain ⟨h4, h5, hu⟩ := hr c
    exact ⟨h4.trans (final4 m c), h5.trans (final5 m c), hu⟩
  · refine (θ_run _ _ _).mono (fun r hr c => ?_) (PostRefIdeal.Value.run m' g')
    obtain ⟨h0, h1, hu⟩ := hr c
    obtain ⟨e0, e1, e2, e3⟩ := hag c
    refine ⟨h0.trans (funext fun i => ?_), h1.trans (funext fun i => ?_), hu⟩
    · obtain ⟨a, k, rfl⟩ : ∃ (a : Fin 4096) (k : Fin 1024), i = ix2 a k := ⟨i 0, i 1, eq_ix2 i⟩
      show outerL _ _ (ix2 a k) = _
      rw [e1, e3]
      exact outerL_apply (u c) (w c) a k
    · obtain ⟨a, k, rfl⟩ : ∃ (a : Fin 4096) (k : Fin 1024), i = ix2 a k := ⟨i 0, i 1, eq_ix2 i⟩
      show addf _ (normedL (outerL _ _) _) (ix2 a k) = _
      rw [e0, e1, e2, e3]
      have e : addf (h c) (normedL (outerL (u c) (w c)) (y c)) (ix2 a k) = h c (ix2 a k) + normedL (outerL (u c) (w c)) (y c) (ix2 a k) := by pointwise
      refine e.trans ?_
      rw [normedL_apply]
      simp only [outerL_apply]
      rfl

end Cert

end
-- ==== Proof.QkvForward.lean ====
module

public import proofs.«01_k».proof.Proof.Gen.QkvIdeal.Value
public import proofs.«01_k».proof.Proof.Gen.QkvRefIdeal.Run
public import proofs.«01_k».proof.Proof.MidFinals
public import proofs.«01_k».proof.Defs
public import Idealize.ShloMosaic.Lib.Pipeline.ValueKit
public import Idealize.ShloMosaic.Lib.Pointwise
public import Idealize.ShloMosaic.Lib.IdealHost
public import Idealize.ShloMosaic.Lib.StableHlo.RunRead
public import Idealize.ShloMosaic.Lib.Claim

/-! The two inner norms, the low-rank products and the rotation, forwards: all five results are the reference's. -/

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen Cert.Reals Cert.NormMath
open Cert.MidIdeal.Value (n512_f32 n256_f32 angle rowQA rowKA rowQQ rowKV)

/-! ### What a body's stores leave in a block of heads -/

/-- A head's row: the plain columns, then the rotated ones, near and far. -/
def join (l : Fin 128 → EReal) (n f : Fin 32 → EReal) (e : Fin 192) : EReal :=
  if h₁ : e.val < 128 then l ⟨e.val, h₁⟩
  else if h₂ : e.val < 160 then n ⟨e.val - 128, by omega⟩
  else f ⟨e.val - 160, by omega⟩

section
variable (l : Fin 128 → EReal) (n f : Fin 32 → EReal)

theorem join_low (e : Fin 128) : join l n f ⟨e.val, by omega⟩ = l e := by
  unfold join
  exact dif_pos e.isLt
theorem join_near (e : Fin 32) : join l n f ⟨128 + e.val, by omega⟩ = n e := by
  unfold join
  rw [dif_neg (show ¬ 128 + e.val < 128 by omega), dif_pos (show 128 + e.val < 160 by omega)]
  exact congrArg n (Fin.ext (Nat.add_sub_cancel_left _ _))
theorem join_far (e : Fin 32) : join l n f ⟨160 + e.val, by omega⟩ = f e := by
  unfold join
  rw [dif_neg (show ¬ 160 + e.val < 128 by omega), dif_neg (show ¬ 160 + e.val < 160 by omega)]
  exact congrArg f (Fin.ext (Nat.add_sub_cancel_left _ _))
end

/-- A stored tile of one head: 256 rows of `w` columns from column `o` on. -/
theorem tile_inb (o w : ℕ) (ho : o + w ≤ 192) (h : ℕ) (hh : h < 8) (a : Fin S8x256x192.rank) :
    (![h, 0, o] : Fin 3 → ℕ) a + (![1, 256, w] : Fin 3 → ℕ) a ≤ S8x256x192.size a := by
  match a with
  | 0 => show h + 1 ≤ 8; omega
  | 1 => exact le_refl 256
  | 2 => exact ho
abbrev tile (o w : ℕ) (ho : o + w ≤ 192) (h : ℕ) (hh : h < 8) : Rect S8x256x192 := Rect.unit (s := S8x256x192) ![h, 0, o] ![1, 256, w] (tile_inb o w ho h hh)

section Stores
variable (l : (h : ℕ) → h < 8 → FVec Ideal S1x256x128 .bf16) (n f : (h : ℕ) → h < 8 → FVec Ideal S1x256x32 .bf16)

def stores (h : ℕ) (hh : h < 8) : List (View.Piece (Elt Ideal) S8x256x192 .bf16) :=
  [⟨tile 160 32 (by omega) h hh, f h hh⟩, ⟨tile 128 32 (by omega) h hh, n h hh⟩, ⟨tile 0 128 (by omega) h hh, l h hh⟩]

def allHeads {S : Shape} (p : (h : ℕ) → h < 8 → List (View.Piece (Elt Ideal) S .bf16)) : List (View.Piece (Elt Ideal) S .bf16) :=
  p 7 (by omega) ++ (p 6 (by omega) ++ (p 5 (by omega) ++ (p 4 (by omega) ++ (p 3 (by omega) ++ (p 2 (by omega) ++ (p 1 (by omega) ++ p 0 (by omega)))))))

theorem mem_allHeads {S : Shape} (p : (h : ℕ) → h < 8 → List (View.Piece (Elt Ideal) S .bf16)) (q : View.Piece (Elt Ideal) S .bf16) :
    q ∈ allHeads p ↔ ∃ (h : ℕ) (hh : h < 8), q ∈ p h hh := by
  unfold allHeads
  simp only [List.mem_append]
  constructor
  · rintro (h | h | h | h | h | h | h | h) <;> exact ⟨_, _, h⟩
  · rintro ⟨h, hh, hp⟩
    interval_cases h <;> simp only [hp, true_or, or_true]

def JOINED : FVec Ideal S8x256x192 .bf16 := fun i =>
  join (fun e => l (i 0).val (i 0).isLt (ix3 0 (i 1) e)) (fun e => n (i 0).val (i 0).isLt (ix3 0 (i 1) e)) (fun e => f (i 0).val (i 0).isLt (ix3 0 (i 1) e)) (i 2)

theorem JOINED_at (i : S8x256x192.Idx) (h : ℕ) (hh : h < 8) (a : Fin 256) (e : Fin 192) (h0 : (i 0).val = h) (h1 : (i 1).val = a.val) (h2 : (i 2).val = e.val) :
    JOINED l n f i = join (fun e => l h hh (ix3 0 a e)) (fun e => n h hh (ix3 0 a e)) (fun e => f h hh (ix3 0 a e)) e := by
  subst h0
  obtain rfl : i 1 = a := Fin.ext h1
  obtain rfl : i 2 = e := Fin.ext h2
  rfl

theorem row3 {w : ℕ} (x : Shape.Idx ⟨3, ![1, 256, w]⟩) : ∃ (a : Fin 256) (e : Fin w), x = ix3 0 a e :=
  ⟨x 1, x 2, by rw [eq_ix3 x]; congr 1; exact Subsingleton.elim _ _⟩

theorem stores_spec (h : ℕ) (hh : h < 8) : ∀ p ∈ stores l n f h hh, ∀ x : p.1.shape.Idx, p.2 x = JOINED l n f (p.1.emb x) := by
  unfold stores
  simp only [List.forall_mem_cons]
  refine ⟨fun x => ?_, fun x => ?_, fun x => ?_, fun p hp => absurd hp List.not_mem_nil⟩
  · obtain ⟨a, e, rfl⟩ := row3 x
    exact (join_far (fun e => l h hh (ix3 0 a e)) (fun e => n h hh (ix3 0 a e)) (fun e => f h hh (ix3 0 a e)) e).symm.trans
      (JOINED_at l n f _ h hh a ⟨160 + e.val, by omega⟩ rfl ((Nat.zero_add _).trans (Nat.one_mul _)) (congrArg (160 + ·) (Nat.one_mul _))).symm
  · obtain ⟨a, e, rfl⟩ := row3 x
    exact (join_near (fun e => l h hh (ix3 0 a e)) (fun e => n h hh (ix3 0 a e)) (fun e => f h hh (ix3 0 a e)) e).symm.trans
      (JOINED_at l n f _ h hh a ⟨128 + e.val, by omega⟩ rfl ((Nat.zero_add _).trans (Nat.one_mul _)) (congrArg (128 + ·) (Nat.one_mul _))).symm
  · obtain ⟨a, e, rfl⟩ := row3 x
    exact (join_low (fun e => l h hh (ix3 0 a e)) (fun e => n h hh (ix3 0 a e)) (fun e => f h hh (ix3 0 a e)) e).symm.trans
      (JOINED_at l n f _ h hh a ⟨e.val, by omega⟩ rfl ((Nat.zero_add _).trans (Nat.one_mul _)) ((Nat.zero_add _).trans (Nat.one_mul _))).symm

theorem inside (o w : ℕ) (ho : o + w ≤ 192) (y : S8x256x192.Idx) (h : o ≤ (y 2).val ∧ (y 2).val < o + w) : y ∈ (tile o w ho (y 0).val (y 0).isLt).set := by
  refine (Rect.mem_set_unit (inb := tile_inb o w ho _ (y 0).isLt)).mpr fun a => ?_
  match a with
  | 0 => exact ⟨le_refl _, Nat.lt_succ_self _⟩
  | 1 => exact ⟨Nat.zero_le _, by have : (y 1).val < 256 := (y 1).isLt; show (y 1).val < 0 + 256; omega⟩
  | 2 => exact h

theorem cover (y : S8x256x192.Idx) : ∃ p ∈ allHeads (stores l n f), y ∈ p.1.set := by
  have hj : (y 2).val < 192 := (y 2).isLt
  rcases lt_or_ge (y 2).val 128 with h1 | h1
  · exact ⟨_, (mem_allHeads _ _).mpr ⟨_, (y 0).isLt, List.mem_cons_of_mem _ (List.mem_cons_of_mem _ List.mem_cons_self)⟩, inside 0 128 (by omega) y ⟨Nat.zero_le _, by omega⟩⟩
  rcases lt_or_ge (y 2).val 160 with h2 | h2
  · exact ⟨_, (mem_allHeads _ _).mpr ⟨_, (y 0).isLt, List.mem_cons_of_mem _ List.mem_cons_self⟩, inside 128 32 (by omega) y ⟨h1, by omega⟩⟩
  · exact ⟨_, (mem_allHeads _ _).mpr ⟨_, (y 0).isLt, List.mem_cons_self⟩, inside 160 32 (by omega) y ⟨h2, by omega⟩⟩

theorem canon_heads : View.canon (allHeads (stores l n f)) = JOINED l n f := funext fun y =>
  View.canon_apply_of_pieces (JOINED l n f) _ (fun p hp => by
    obtain ⟨h, hh, hp⟩ := (mem_allHeads _ p).mp hp
    exact stores_spec l n f h hh p hp) y (cover l n f y)

theorem whole_inb (h : ℕ) (hh : h < 8) (a : Fin S8x256x128.rank) : (![h, 0, 0] : Fin 3 → ℕ) a + (![1, 256, 128] : Fin 3 → ℕ) a ≤ S8x256x128.size a := by
  match a with
  | 0 => show h + 1 ≤ 8; omega
  | 1 => exact le_refl 256
  | 2 => exact le_refl 128

def storesV (h : ℕ) (hh : h < 8) : List (View.Piece (Elt Ideal) S8x256x128 .bf16) :=
  [⟨Rect.unit (s := S8x256x128) ![h, 0, 0] ![1, 256, 128] (whole_inb h hh), l h hh⟩]

def STACKED : FVec Ideal S8x256x128 .bf16 := fun i => l (i 0).val (i 0).isLt (ix3 0 (i 1) (i 2))

theorem storesV_spec (h : ℕ) (hh : h < 8) : ∀ p ∈ storesV l h hh, ∀ x : p.1.shape.Idx, p.2 x = STACKED l (p.1.emb x) := by
  unfold storesV
  simp only [List.forall_mem_cons]
  refine ⟨fun x => ?_, fun p hp => absurd hp List.not_mem_nil⟩
  obtain ⟨a, e, rfl⟩ := row3 x
  refine congrArg (l h hh) (funext fun b => Fin.ext ?_)
  match b with
  | 0 => rfl
  | 1 => exact ((Nat.zero_add _).trans (Nat.one_mul _)).symm
  | 2 => exact ((Nat.zero_add _).trans (Nat.one_mul _)).symm

theorem coverV (y : S8x256x128.Idx) : ∃ p ∈ allHeads (storesV l), y ∈ p.1.set := by
  refine ⟨_, (mem_allHeads _ _).mpr ⟨_, (y 0).isLt, List.mem_cons_self⟩, (Rect.mem_set_unit (inb := whole_inb _ (y 0).isLt)).mpr fun a => ?_⟩
  match a with
  | 0 => exact ⟨le_refl _, Nat.lt_succ_self _⟩
  | 1 => exact ⟨Nat.zero_le _, by have : (y 1).val < 256 := (y 1).isLt; show (y 1).val < 0 + 256; omega⟩
  | 2 => exact ⟨Nat.zero_le _, by have : (y 2).val < 128 := (y 2).isLt; show (y 2).val < 0 + 128; omega⟩

theorem canon_values : View.canon (allHeads (storesV l)) = STACKED l := funext fun y =>
  View.canon_apply_of_pieces (STACKED l) _ (fun p hp => by
    obtain ⟨h, hh, hp⟩ := (mem_allHeads _ p).mp hp
    exact storesV_spec l h hh p hp) y (coverV l y)
end Stores

/-! ### What the body computes -/

/-- One entry of a norm's row, with its gain. -/
def normedAt {n : ℕ} (r : EReal) (X G : Fin n → EReal) (k : Fin n) : EReal := X k * root r X * G k

section Body
variable (p : FVec Ideal S256x832 .f32) (gq : FVec Ideal S1x512 .f32) (gk : FVec Ideal S1x256 .f32) (wq : FVec Ideal S512x1536 .bf16)
  (wk : FVec Ideal S256x2048 .bf16) (c s : FVec Ideal S256x32 .f32) (Q : FVec Ideal S256x1536 .f32) (K : FVec Ideal S256x2048 .f32)

abbrev productQ : FVec Ideal S256x1536 .f32 := k0_pay6 (k0_pay3 p gq) (k0_pay5 wq) (constant S256x1536 .f32 0x00000000#32)
abbrev productK : FVec Ideal S256x2048 .f32 := k0_pay7 (k0_pay4 p gk) wk

theorem cut_inb {w n : ℕ} (o : ℕ) (h : o + n ≤ w) : (⟨2, ![256, w]⟩ : Shape).Slices ![0, o] ⟨2, ![256, n]⟩ :=
  ⟨rfl, fun a => by
    match a with
    | 0 => exact le_refl 256
    | 1 => exact h⟩

/-- The columns from `o` on. -/
def cut {w : ℕ} (x : FVec Ideal ⟨2, ![256, w]⟩ .f32) (o n : ℕ) (h : o + n ≤ w) : FVec Ideal ⟨2, ![256, n]⟩ .f32 :=
  extractStridedSlice ⟨2, ![256, n]⟩ ![0, o] x (cut_inb o h)

theorem cut_apply {w : ℕ} (x : FVec Ideal ⟨2, ![256, w]⟩ .f32) (o n : ℕ) (h : o + n ≤ w) (a : Fin 256) (e : Fin n) :
    cut x o n h (ix2 a e) = x (ix2 a ⟨o + e.val, by omega⟩) :=
  congrArg x (funext fun b => Fin.ext (by
    match b with
    | 0 => exact Nat.zero_add _
    | 1 => rfl))

/-- A head's plain columns, and its rotated columns, as the body stores them. -/
def plain {w : ℕ} (x : FVec Ideal ⟨2, ![256, w]⟩ .f32) (o : ℕ) (h : o + 128 ≤ w) : FVec Ideal S1x256x128 .bf16 :=
  shapeCast S1x256x128 (truncf .bf16 (cut x o 128 h : FVec Ideal S256x128 .f32) bitsLt_bf16_f32) shapeCasts_S256x128_S1x256x128
def near (x y c s : FVec Ideal S256x32 .f32) : FVec Ideal S1x256x32 .bf16 :=
  shapeCast S1x256x32 (truncf .bf16 (subf (mulf x (k0_pay8 c)) (mulf y (k0_pay9 s))) bitsLt_bf16_f32) shapeCasts_S256x32_S1x256x32
def far (x y c s : FVec Ideal S256x32 .f32) : FVec Ideal S1x256x32 .bf16 :=
  shapeCast S1x256x32 (truncf .bf16 (addf (mulf x (k0_pay9 s)) (mulf y (k0_pay8 c))) bitsLt_bf16_f32) shapeCasts_S256x32_S1x256x32

theorem plain_apply {w : ℕ} (x : FVec Ideal ⟨2, ![256, w]⟩ .f32) (o : ℕ) (h : o + 128 ≤ w) (a : Fin 256) (e : Fin 128) :
    (plain x o h : _ → EReal) (ix3 0 a e) = x (ix2 a ⟨o + e.val, by omega⟩) := by
  rw [← cut_apply x o 128 h a e]
  unfold plain
  pointwise
theorem near_apply (x y : FVec Ideal S256x32 .f32) (a : Fin 256) (e : Fin 32) :
    (near x y c s : _ → EReal) (ix3 0 a e) = x (ix2 a e) * c (ix2 a e) - y (ix2 a e) * s (ix2 a e) := by
  unfold near k0_pay8 k0_pay9
  pointwise
theorem far_apply (x y : FVec Ideal S256x32 .f32) (a : Fin 256) (e : Fin 32) :
    (far x y c s : _ → EReal) (ix3 0 a e) = x (ix2 a e) * s (ix2 a e) + y (ix2 a e) * c (ix2 a e) := by
  unfold far k0_pay8 k0_pay9
  pointwise

def headQ : List (View.Piece (Elt Ideal) S8x256x192 .bf16) :=
  allHeads (stores (fun h hh => plain Q (192 * h) (by omega))
    (fun h hh => near (cut Q (192 * h + 128) 32 (by omega)) (cut Q (192 * h + 160) 32 (by omega)) c s)
    (fun h hh => far (cut Q (192 * h + 128) 32 (by omega)) (cut Q (192 * h + 160) 32 (by omega)) c s))
def headK : List (View.Piece (Elt Ideal) S8x256x192 .bf16) :=
  allHeads (stores (fun h hh => plain K (256 * h) (by omega)) (fun _ _ => near (k0_pay10 (k0_pay2 p)) (k0_pay11 (k0_pay2 p)) c s)
    (fun _ _ => far (k0_pay10 (k0_pay2 p)) (k0_pay11 (k0_pay2 p)) c s))
def headV : List (View.Piece (Elt Ideal) S8x256x128 .bf16) := allHeads (storesV fun h hh => plain K (256 * h + 128) (by omega))

theorem pay3_apply (a : Fin 256) (k : Fin 512) :
    (k0_pay3 (F := Ideal) p gq : _ → EReal) (ix2 a k) = normedAt ((512 : ℝ) : EReal) (rowQQ p a) (fun k => gq (ix2 0 k)) k := by
  unfold k0_pay3 normedAt rowQQ root
  pointwise [n512_f32, eps_f32]
theorem pay4_apply (a : Fin 256) (k : Fin 256) :
    (k0_pay4 (F := Ideal) p gk : _ → EReal) (ix2 a k) = normedAt ((256 : ℝ) : EReal) (rowKV p a) (fun k => gk (ix2 0 k)) k := by
  unfold k0_pay4 normedAt rowKV root
  pointwise [n256_f32, eps_f32]
theorem productQ_apply (a : Fin 256) (j : Fin 1536) : (productQ p gq wq : _ → EReal) (ix2 a j)
    = ∑ k : Fin 512, normedAt ((512 : ℝ) : EReal) (rowQQ p a) (fun k => gq (ix2 0 k)) k * wq (ix2 k j) := by
  unfold productQ k0_pay6 k0_pay5
  pointwise [pay3_apply]
theorem productK_apply (a : Fin 256) (j : Fin 2048) : (productK p gk wk : _ → EReal) (ix2 a j)
    = ∑ k : Fin 256, normedAt ((256 : ℝ) : EReal) (rowKV p a) (fun k => gk (ix2 0 k)) k * wk (ix2 k j) := by
  unfold productK k0_pay7
  pointwise [pay4_apply]
theorem pay10_apply (a : Fin 256) (e : Fin 32) : (k0_pay10 (F := Ideal) (k0_pay2 p) : _ → EReal) (ix2 a e) = p (ix2 a ⟨768 + e.val, by omega⟩) := by
  unfold k0_pay10 k0_pay2
  pointwise
theorem pay11_apply (a : Fin 256) (e : Fin 32) : (k0_pay11 (F := Ideal) (k0_pay2 p) : _ → EReal) (ix2 a e) = p (ix2 a ⟨800 + e.val, by omega⟩) := by
  unfold k0_pay11 k0_pay2
  pointwise
  exact congrArg (fun j : Fin 832 => p (ix2 a j)) (Fin.ext (by show 768 + (32 + e.val) = 800 + e.val; omega))
end Body

/-! ### The results as whole arrays -/

section Whole
variable (p : FVec Ideal S4096x832 .f32) (gq : FVec Ideal S512 .f32) (gk : FVec Ideal S256 .f32) (wq : FVec Ideal S512x1536 .f32)
  (wk : FVec Ideal S256x2048 .f32) (c s : FVec Ideal S4096x32 .f32)

def normedQA (a : Fin 4096) (k : Fin 512) : EReal := normedAt ((512 : ℝ) : EReal) (rowQA p a) (fun k => gq (ix1 k)) k
def normedKA (a : Fin 4096) (k : Fin 256) : EReal := normedAt ((256 : ℝ) : EReal) (rowKA p a) (fun k => gk (ix1 k)) k
def upQA (a : Fin 4096) (j : Fin 1536) : EReal := ∑ k : Fin 512, normedQA p gq a k * wq (ix2 k j)
def upKA (a : Fin 4096) (j : Fin 2048) : EReal := ∑ k : Fin 256, normedKA p gk a k * wk (ix2 k j)

/-- A head's row from its plain columns and the two halves to rotate. -/
def turnedRow (l : Fin 128 → EReal) (x y c s : Fin 32 → EReal) : Fin 192 → EReal :=
  join l (fun e => x e * c e - y e * s e) (fun e => x e * s e + y e * c e)

def queryAt (h : Fin 8) (a : Fin 4096) : Fin 192 → EReal :=
  turnedRow (fun e => upQA p gq wq a ⟨192 * h.val + e.val, by omega⟩) (fun e => upQA p gq wq a ⟨192 * h.val + 128 + e.val, by omega⟩)
    (fun e => upQA p gq wq a ⟨192 * h.val + 160 + e.val, by omega⟩) (fun e => c (ix2 a e)) (fun e => s (ix2 a e))
def keyAt (h : Fin 8) (a : Fin 4096) : Fin 192 → EReal :=
  turnedRow (fun e => upKA p gk wk a ⟨256 * h.val + e.val, by omega⟩) (fun e => p (ix2 a ⟨768 + e.val, by omega⟩))
    (fun e => p (ix2 a ⟨800 + e.val, by omega⟩)) (fun e => c (ix2 a e)) (fun e => s (ix2 a e))
def valueAt (h : Fin 8) (a : Fin 4096) (e : Fin 128) : EReal := upKA p gk wk a ⟨256 * h.val + 128 + e.val, by omega⟩

abbrev NORMQ : FVec Ideal S4096x512 .bf16 := fun i => normedQA p gq (i 0) (i 1)
abbrev NORMK : FVec Ideal S4096x256 .bf16 := fun i => normedKA p gk (i 0) (i 1)
abbrev QUERIES : FVec Ideal S8x4096x192 .bf16 := fun i => queryAt p gq wq c s (i 0) (i 1) (i 2)
abbrev KEYS : FVec Ideal S8x4096x192 .bf16 := fun i => keyAt p gk wk c s (i 0) (i 1) (i 2)
abbrev VALUES : FVec Ideal S8x4096x128 .bf16 := fun i => valueAt p gk wk (i 0) (i 1) (i 2)
end Whole

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] ∧ win0_7.index t = ![t.val, 0]
    ∧ win0_8.index t = ![t.val, 0] ∧ win0_9.index t = ![0, t.val, 0] ∧ win0_10.index t = ![0, t.val, 0] ∧ win0_11.index t = ![0, t.val, 0] :=
  (by decide +kernel : ∀ t : Fin grid0.N, _)

section Runs
variable (m : (ℓ : Loc nD τ sig) → Buf (Elt Ideal) ℓ) (d : Dev nD) (t : Fin cfg0.N)

abbrev aPos : IVec S4096 32 := m ((d : Thread nD τ).loc main_arg0)
abbrev aProj : FVec Ideal S4096x832 .f32 := m ((d : Thread nD τ).loc main_arg1)
abbrev aGainQ : FVec Ideal S512 .f32 := m ((d : Thread nD τ).loc main_arg2)
abbrev aGainK : FVec Ideal S256 .f32 := m ((d : Thread nD τ).loc main_arg3)
abbrev aUpQ : FVec Ideal S512x1536 .f32 := m ((d : Thread nD τ).loc main_arg4)
abbrev aUpK : FVec Ideal S256x2048 .f32 := m ((d : Thread nD τ).loc main_arg5)
abbrev aCos : FVec Ideal S4096x32 .f32 := Host.cos (angle (aPos m d))
abbrev aSin : FVec Ideal S4096x32 .f32 := Host.sin (angle (aPos m d))

theorem V_v16 : V m d main_v16 = aCos m d := by
  unfold V; after_reads_simp; rfl
theorem V_v17 : V m d main_v17 = aSin m d := by
  unfold V; after_reads_simp; rfl
theorem V_v18 : V m d main_v18 = shapeCast S1x512 (aGainQ m d) shapeCasts_S512_S1x512 := by
  unfold V; after_reads_simp; rfl
theorem V_v19 : V m d main_v19 = shapeCast S1x256 (aGainK m d) shapeCasts_S256_S1x256 := by
  unfold V; after_reads_simp; rfl
theorem V_v20 : V m d main_v20 = truncf (F := Ideal) .bf16 (aUpQ m d) bitsLt_bf16_f32 := by
  unfold V; after_reads_simp
theorem V_v21 : V m d main_v21 = truncf (F := Ideal) .bf16 (aUpK m d) bitsLt_bf16_f32 := by
  unfold V; after_reads_simp
theorem V_arg1 : V m d main_arg1 = aProj m d := by
  unfold V; after_reads_simp

/-- A row of a block as a row of the array. -/
def row (a : Fin 256) : Fin 4096 := ⟨t.val * 256 + a.val, by have := t.isLt; have : cfg0.N = 16 := N_0; have := a.isLt; omega⟩

theorem blk0 (a : Fin 256) (j : Fin 832) : (iblk m d 0 t : _ → EReal) (ix2 a j) = aProj m d (ix2 (row t a) j) := by
  blk_point [iblk, idx t, row, V_arg1]
theorem blk1 (k : Fin 512) : (iblk m d 1 t : _ → EReal) (ix2 0 k) = aGainQ m d (ix1 k) := by
  blk_point [iblk, idx t, row, V_v18]
theorem blk2 (k : Fin 256) : (iblk m d 2 t : _ → EReal) (ix2 0 k) = aGainK m d (ix1 k) := by
  blk_point [iblk, idx t, row, V_v19]
theorem blk3 (k : Fin 512) (j : Fin 1536) : (iblk m d 3 t : _ → EReal) (ix2 k j) = aUpQ m d (ix2 k j) := by
  blk_point [iblk, idx t, row, V_v20]
theorem blk4 (k : Fin 256) (j : Fin 2048) : (iblk m d 4 t : _ → EReal) (ix2 k j) = aUpK m d (ix2 k j) := by
  blk_point [iblk, idx t, row, V_v21]
theorem blk5 (a : Fin 256) (e : Fin 32) : (iblk m d 5 t : _ → EReal) (ix2 a e) = aCos m d (ix2 (row t a) e) := by
  blk_point [iblk, idx t, row, V_v16]
theorem blk6 (a : Fin 256) (e : Fin 32) : (iblk m d 6 t : _ → EReal) (ix2 a e) = aSin m d (ix2 (row t a) e) := by
  blk_point [iblk, idx t, row, V_v17]

theorem blk7 (a : Fin 256) (k : Fin 512) (X : FVec Ideal S4096x512 .bf16) :
    X (((View.whole main_v22_0).slice (win0_7.rect t)).emb (ix2 a k)) = X (ix2 (row t a) k) := by
  blk_point [idx t, row]
theorem blk8 (a : Fin 256) (k : Fin 256) (X : FVec Ideal S4096x256 .bf16) :
    X (((View.whole main_v22_1).slice (win0_8.rect t)).emb (ix2 a k)) = X (ix2 (row t a) k) := by
  blk_point [idx t, row]
theorem blk9 (h : Fin 8) (a : Fin 256) (e : Fin 192) (X : FVec Ideal S8x4096x192 .bf16) :
    X (((View.whole main_v22_2).slice (win0_9.rect t)).emb (ix3 h a e)) = X (ix3 h (row t a) e) := by
  blk_point [idx t, row]
theorem blk10 (h : Fin 8) (a : Fin 256) (e : Fin 192) (X : FVec Ideal S8x4096x192 .bf16) :
    X (((View.whole main_v22_3).slice (win0_10.rect t)).emb (ix3 h a e)) = X (ix3 h (row t a) e) := by
  blk_point [idx t, row]
theorem blk11 (h : Fin 8) (a : Fin 256) (e : Fin 128) (X : FVec Ideal S8x4096x128 .bf16) :
    X (((View.whole main_v22_4).slice (win0_11.rect t)).emb (ix3 h a e)) = X (ix3 h (row t a) e) := by
  blk_point [idx t, row]

/-! ### The blocks the body leaves -/

abbrev upQ : FVec Ideal S256x1536 .f32 := productQ (iblk m d 0 t) (iblk m d 1 t) (iblk m d 3 t)
abbrev upK : FVec Ideal S256x2048 .f32 := productK (iblk m d 0 t) (iblk m d 2 t) (iblk m d 4 t)

theorem run7 : (outsAt0 m d t).1 = k0_pay3 (iblk m d 0 t) (iblk m d 1 t) := by
  unfold outsAt0
  frame_out
theorem run8 : (outsAt0 m d t).2.1 = k0_pay4 (iblk m d 0 t) (iblk m d 2 t) := by
  unfold outsAt0
  frame_out
theorem run9 : (outsAt0 m d t).2.2.1 = View.canon (headQ (iblk m d 5 t) (iblk m d 6 t) (upQ m d t)) := by
  unfold outsAt0
  frame_out
  rfl
theorem run10 : (outsAt0 m d t).2.2.2.1 = View.canon (headK (iblk m d 0 t) (iblk m d 5 t) (iblk m d 6 t) (upK m d t)) := by
  unfold outsAt0
  frame_out
  rfl
theorem run11 : (outsAt0 m d t).2.2.2.2 = View.canon (headV (upK m d t)) := by
  unfold outsAt0
  frame_out
  rfl

theorem rowQ_row (a : Fin 256) : rowQQ (iblk m d 0 t) a = rowQA (aProj m d) (row t a) := funext fun k => blk0 m d t a _
theorem rowK_row (a : Fin 256) : rowKV (iblk m d 0 t) a = rowKA (aProj m d) (row t a) := funext fun k => blk0 m d t a _

theorem normQ_blk (a : Fin 256) (k : Fin 512) :
    (k0_pay3 (F := Ideal) (iblk m d 0 t) (iblk m d 1 t) : _ → EReal) (ix2 a k) = normedQA (aProj m d) (aGainQ m d) (row t a) k := by
  rw [pay3_apply, rowQ_row]
  simp only [blk1]
  rfl
theorem normK_blk (a : Fin 256) (k : Fin 256) :
    (k0_pay4 (F := Ideal) (iblk m d 0 t) (iblk m d 2 t) : _ → EReal) (ix2 a k) = normedKA (aProj m d) (aGainK m d) (row t a) k := by
  rw [pay4_apply, rowK_row]
  simp only [blk2]
  rfl
theorem upQ_blk (a : Fin 256) (j : Fin 1536) : (upQ m d t : _ → EReal) (ix2 a j) = upQA (aProj m d) (aGainQ m d) (aUpQ m d) (row t a) j := by
  refine (productQ_apply _ _ _ a j).trans ?_
  rw [rowQ_row]
  simp only [blk1, blk3]
  rfl
theorem upK_blk (a : Fin 256) (j : Fin 2048) : (upK m d t : _ → EReal) (ix2 a j) = upKA (aProj m d) (aGainK m d) (aUpK m d) (row t a) j := by
  refine (productK_apply _ _ _ a j).trans ?_
  rw [rowK_row]
  simp only [blk2, blk4]
  rfl

theorem queries_blk (h : Fin 8) (a : Fin 256) (e : Fin 192) :
    (View.canon (headQ (iblk m d 5 t) (iblk m d 6 t) (upQ m d t)) : S8x256x192.Idx → EReal) (ix3 h a e)
      = queryAt (aProj m d) (aGainQ m d) (aUpQ m d) (aCos m d) (aSin m d) h (row t a) e := by
  unfold headQ
  rw [canon_heads, JOINED_at _ _ _ _ h.val h.isLt a e rfl rfl rfl]
  simp only [plain_apply, near_apply, far_apply, cut_apply, upQ_blk, blk5, blk6]
  rfl
theorem keys_blk (h : Fin 8) (a : Fin 256) (e : Fin 192) :
    (View.canon (headK (iblk m d 0 t) (iblk m d 5 t) (iblk m d 6 t) (upK m d t)) : S8x256x192.Idx → EReal) (ix3 h a e)
      = keyAt (aProj m d) (aGainK m d) (aUpK m d) (aCos m d) (aSin m d) h (row t a) e := by
  unfold headK
  rw [canon_heads, JOINED_at _ _ _ _ h.val h.isLt a e rfl rfl rfl]
  simp only [plain_apply, near_apply, far_apply, pay10_apply, pay11_apply, upK_blk, blk0, blk5, blk6]
  rfl
theorem values_blk (h : Fin 8) (a : Fin 256) (e : Fin 128) :
    (View.canon (headV (upK m d t)) : S8x256x128.Idx → EReal) (ix3 h a e) = valueAt (aProj m d) (aGainK m d) (aUpK m d) h (row t a) e := by
  unfold headV
  rw [canon_values]
  exact (plain_apply (upK m d t) (256 * h.val + 128) (by omega) a e).trans (upK_blk m d t a _)

/-! ### The final arrays -/

theorem final7 : (dats m 0 d).arrAt 7 cfg0.N = NORMQ (aProj m d) (aGainQ m d) := by
  refine (dats m 0 d).arrAt_eq_of_covers 7 _ (by decide +kernel) fun t _ y => ?_
  blk_simp
  rw [after0_7, run7]
  obtain ⟨a, k, rfl⟩ : ∃ (a : Fin 256) (k : Fin 512), y = ix2 a k := ⟨y 0, y 1, eq_ix2 y⟩
  exact (normQ_blk m d t a k).trans (blk7 t a k (NORMQ (aProj m d) (aGainQ m d))).symm
theorem final8 : (dats m 0 d).arrAt 8 cfg0.N = NORMK (aProj m d) (aGainK m d) := by
  refine (dats m 0 d).arrAt_eq_of_covers 8 _ (by decide +kernel) fun t _ y => ?_
  blk_simp
  rw [after0_8, run8]
  obtain ⟨a, k, rfl⟩ : ∃ (a : Fin 256) (k : Fin 256), y = ix2 a k := ⟨y 0, y 1, eq_ix2 y⟩
  exact (normK_blk m d t a k).trans (blk8 t a k (NORMK (aProj m d) (aGainK m d))).symm
theorem final9 : (dats m 0 d).arrAt 9 cfg0.N = QUERIES (aProj m d) (aGainQ m d) (aUpQ m d) (aCos m d) (aSin m d) := by
  refine (dats m 0 d).arrAt_eq_of_covers 9 _ (by decide +kernel) fun t _ y => ?_
  blk_simp
  rw [after0_9, run9]
  obtain ⟨h, a, e, rfl⟩ : ∃ (h : Fin 8) (a : Fin 256) (e : Fin 192), y = ix3 h a e := ⟨y 0, y 1, y 2, eq_ix3 y⟩
  exact (queries_blk m d t h a e).trans (blk9 t h a e (QUERIES (aProj m d) (aGainQ m d) (aUpQ m d) (aCos m d) (aSin m d))).symm
theorem final10 : (dats m 0 d).arrAt 10 cfg0.N = KEYS (aProj m d) (aGainK m d) (aUpK m d) (aCos m d) (aSin m d) := by
  refine (dats m 0 d).arrAt_eq_of_covers 10 _ (by decide +kernel) fun t _ y => ?_
  blk_simp
  rw [after0_10, run10]
  obtain ⟨h, a, e, rfl⟩ : ∃ (h : Fin 8) (a : Fin 256) (e : Fin 192), y = ix3 h a e := ⟨y 0, y 1, y 2, eq_ix3 y⟩
  exact (keys_blk m d t h a e).trans (blk10 t h a e (KEYS (aProj m d) (aGainK m d) (aUpK m d) (aCos m d) (aSin m d))).symm
theorem final11 : (dats m 0 d).arrAt 11 cfg0.N = VALUES (aProj m d) (aGainK m d) (aUpK m d) := by
  refine (dats m 0 d).arrAt_eq_of_covers 11 _ (by decide +kernel) fun t _ y => ?_
  blk_simp
  rw [after0_11, run11]
  obtain ⟨h, a, e, rfl⟩ : ∃ (h : Fin 8) (a : Fin 256) (e : Fin 128), y = ix3 h a e := ⟨y 0, y 1, y 2, eq_ix3 y⟩
  exact (values_blk m d t h a e).trans (blk11 t h a e (VALUES (aProj m d) (aGainK m d) (aUpK m d))).symm
end Runs

end Cert.QkvIdeal.Value

/-! ### The reference's lines -/

namespace Cert.QkvRefIdeal.Value

open Cert.QkvRefIdeal Cert.QkvRefIdeal.Gen Cert.Reals Cert.NormMath
open Cert.MidIdeal.Value (n512_f32 n256_f32 angle rowQA rowKA)
open Cert.QkvIdeal.Value (normedAt normedQA normedKA upQA upKA join turnedRow join_low join_near join_far queryAt keyAt valueAt)

section
variable (p : FVec Ideal S4096x832 .f32) (gq : FVec Ideal S512 .f32) (gk : FVec Ideal S256 .f32) (wq : FVec Ideal S512x1536 .f32)
  (wk : FVec Ideal S256x2048 .f32) (c s : FVec Ideal S4096x32 .f32) (Q : FVec Ideal S4096x1536 .f32) (K : FVec Ideal S4096x2048 .f32)

def normQL : FVec Ideal S4096x512 .f32 := (mulf (mulf (extractStridedSlice S4096x512 ![0, 0] p slices_S4096x832_S4096x512_0_0) (broadcastInDim S4096x512 ![0, 1] bcast_S4096x1_S4096x512_0_1 (Host.rsqrt (addf (Host.divf (broadcastInDim S4096x1 ![0] bcast_S4096_S4096x1_0 (Host.reduceAdd (mulf (extractStridedSlice S4096x512 ![0, 0] p slices_S4096x832_S4096x512_0_0) (extractStridedSlice S4096x512 ![0, 0] p slices_S4096x832_S4096x512_0_0)) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 (broadcastInDim S1x512 ![1] bcast_S512_S1x512_1 gq)))
def normKL : FVec Ideal S4096x256 .f32 := (mulf (mulf (extractStridedSlice S4096x256 ![0, 512] p slices_S4096x832_S4096x256_0_512) (broadcastInDim S4096x256 ![0, 1] bcast_S4096x1_S4096x256_0_1 (Host.rsqrt (addf (Host.divf (broadcastInDim S4096x1 ![0] bcast_S4096_S4096x1_0 (Host.reduceAdd (mulf (extractStridedSlice S4096x256 ![0, 512] p slices_S4096x832_S4096x256_0_512) (extractStridedSlice S4096x256 ![0, 512] p slices_S4096x832_S4096x256_0_512)) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x358637BD#32)))))) (broadcastInDim S4096x256 ![0, 1] bcast_S1x256_S4096x256_0_1 (broadcastInDim S1x256 ![1] bcast_S256_S1x256_1 gk)))
def upQL : FVec Ideal S4096x1536 .f32 := Host.dotGeneral dot_S4096x512_S512x1536_S4096x1536_1_0_0_1_n_n none (normQL p gq) wq
def upKL : FVec Ideal S4096x2048 .f32 := Host.dotGeneral dot_S4096x256_S256x2048_S4096x2048_1_0_0_1_n_n none (normKL p gk) wk
def queriesL : FVec Ideal S8x4096x192 .bf16 := truncf .bf16 (transpose S8x4096x192 [1, 0, 2] (concatenate S4096x8x192 2 [⟨S4096x8x128, (extractStridedSlice S4096x8x128 ![0, 0, 0] (shapeCast _ Q shapeCasts_S4096x1536_S4096x8x192) slices_S4096x8x192_S4096x8x128_0_0_0)⟩, ⟨S4096x8x64, (concatenate S4096x8x64 2 [⟨S4096x8x32, (subf (mulf (extractStridedSlice S4096x8x32 ![0, 0, 0] (extractStridedSlice S4096x8x64 ![0, 0, 128] (shapeCast _ Q shapeCasts_S4096x1536_S4096x8x192) slices_S4096x8x192_S4096x8x64_0_0_128) slices_S4096x8x64_S4096x8x32_0_0_0) (broadcastInDim S4096x8x32 ![0, 1, 2] bcast_S4096x1x32_S4096x8x32_0_1_2 (broadcastInDim S4096x1x32 ![0, 2] bcast_S4096x32_S4096x1x32_0_2 c))) (mulf (extractStridedSlice S4096x8x32 ![0, 0, 32] (extractStridedSlice S4096x8x64 ![0, 0, 128] (shapeCast _ Q shapeCasts_S4096x1536_S4096x8x192) slices_S4096x8x192_S4096x8x64_0_0_128) slices_S4096x8x64_S4096x8x32_0_0_32) (broadcastInDim S4096x8x32 ![0, 1, 2] bcast_S4096x1x32_S4096x8x32_0_1_2 (broadcastInDim S4096x1x32 ![0, 2] bcast_S4096x32_S4096x1x32_0_2 s))))⟩, ⟨S4096x8x32, (addf (mulf (extractStridedSlice S4096x8x32 ![0, 0, 0] (extractStridedSlice S4096x8x64 ![0, 0, 128] (shapeCast _ Q shapeCasts_S4096x1536_S4096x8x192) slices_S4096x8x192_S4096x8x64_0_0_128) slices_S4096x8x64_S4096x8x32_0_0_0) (broadcastInDim S4096x8x32 ![0, 1, 2] bcast_S4096x1x32_S4096x8x32_0_1_2 (broadcastInDim S4096x1x32 ![0, 2] bcast_S4096x32_S4096x1x32_0_2 s))) (mulf (extractStridedSlice S4096x8x32 ![0, 0, 32] (extractStridedSlice S4096x8x64 ![0, 0, 128] (shapeCast _ Q shapeCasts_S4096x1536_S4096x8x192) slices_S4096x8x192_S4096x8x64_0_0_128) slices_S4096x8x64_S4096x8x32_0_0_32) (broadcastInDim S4096x8x32 ![0, 1, 2] bcast_S4096x1x32_S4096x8x32_0_1_2 (broadcastInDim S4096x1x32 ![0, 2] bcast_S4096x32_S4096x1x32_0_2 c))))⟩] concatenates_S4096x8x32_S4096x8x32_S4096x8x64_d2)⟩] concatenates_S4096x8x128_S4096x8x64_S4096x8x192_d2) transposes_S4096x8x192_S8x4096x192_1_0_2) bitsLt_bf16_f32
def keysL : FVec Ideal S8x4096x192 .bf16 := truncf .bf16 (transpose S8x4096x192 [1, 0, 2] (concatenate S4096x8x192 2 [⟨S4096x8x128, (extractStridedSlice S4096x8x128 ![0, 0, 0] (shapeCast _ K shapeCasts_S4096x2048_S4096x8x256) slices_S4096x8x256_S4096x8x128_0_0_0)⟩, ⟨S4096x8x64, (broadcastInDim S4096x8x64 ![0, 1, 2] bcast_S4096x1x64_S4096x8x64_0_1_2 (broadcastInDim S4096x1x64 ![0, 2] bcast_S4096x64_S4096x1x64_0_2 (concatenate S4096x64 1 [⟨S4096x32, (subf (mulf (extractStridedSlice S4096x32 ![0, 0] (extractStridedSlice S4096x64 ![0, 768] p slices_S4096x832_S4096x64_0_768) slices_S4096x64_S4096x32_0_0) c) (mulf (extractStridedSlice S4096x32 ![0, 32] (extractStridedSlice S4096x64 ![0, 768] p slices_S4096x832_S4096x64_0_768) slices_S4096x64_S4096x32_0_32) s))⟩, ⟨S4096x32, (addf (mulf (extractStridedSlice S4096x32 ![0, 0] (extractStridedSlice S4096x64 ![0, 768] p slices_S4096x832_S4096x64_0_768) slices_S4096x64_S4096x32_0_0) s) (mulf (extractStridedSlice S4096x32 ![0, 32] (extractStridedSlice S4096x64 ![0, 768] p slices_S4096x832_S4096x64_0_768) slices_S4096x64_S4096x32_0_32) c))⟩] concatenates_S4096x32_S4096x32_S4096x64_d1)))⟩] concatenates_S4096x8x128_S4096x8x64_S4096x8x192_d2) transposes_S4096x8x192_S8x4096x192_1_0_2) bitsLt_bf16_f32
def valuesL : FVec Ideal S8x4096x128 .bf16 := truncf .bf16 (transpose S8x4096x128 [1, 0, 2] (extractStridedSlice S4096x8x128 ![0, 0, 128] (shapeCast _ K shapeCasts_S4096x2048_S4096x8x256) slices_S4096x8x256_S4096x8x128_0_0_128) transposes_S4096x8x128_S8x4096x128_1_0_2) bitsLt_bf16_f32

theorem same {w : ℕ} (X : FVec Ideal ⟨2, ![4096, w]⟩ .f32) (a : Fin 4096) {j k : Fin w} (h : j.val = k.val) : X (ix2 a j) = X (ix2 a k) :=
  congrArg (fun j => X (ix2 a j)) (Fin.ext h)

theorem normQL_apply (a : Fin 4096) (k : Fin 512) : (normQL p gq : _ → EReal) (ix2 a k) = normedQA p gq a k := by
  unfold normQL normedQA normedAt rowQA root
  pointwise [n512_f32, eps_f32]
theorem normKL_apply (a : Fin 4096) (k : Fin 256) : (normKL p gk : _ → EReal) (ix2 a k) = normedKA p gk a k := by
  unfold normKL normedKA normedAt rowKA root
  pointwise [n256_f32, eps_f32]
theorem upQL_apply (a : Fin 4096) (j : Fin 1536) : (upQL p gq wq : _ → EReal) (ix2 a j) = upQA p gq wq a j := by
  unfold upQL upQA
  pointwise [normQL_apply]
theorem upKL_apply (a : Fin 4096) (j : Fin 2048) : (upKL p gk wk : _ → EReal) (ix2 a j) = upKA p gk wk a j := by
  unfold upKL upKA
  pointwise [normKL_apply]
theorem valuesL_apply (h : Fin 8) (a : Fin 4096) (e : Fin 128) : (valuesL K : _ → EReal) (ix3 h a e) = K (ix2 a ⟨256 * h.val + 128 + e.val, by omega⟩) := by
  unfold valuesL
  pointwise
  exact congrArg (fun j : Fin 2048 => K (ix2 a j)) (Fin.ext (by show h.val * 256 + (128 + e.val) = 256 * h.val + 128 + e.val; omega))
theorem queriesL_apply (h : Fin 8) (a : Fin 4096) (e : Fin 192) : (queriesL c s Q : _ → EReal) (ix3 h a e)
    = turnedRow (fun e => Q (ix2 a ⟨192 * h.val + e.val, by omega⟩)) (fun e => Q (ix2 a ⟨192 * h.val + 128 + e.val, by omega⟩))
    (fun e => Q (ix2 a ⟨192 * h.val + 160 + e.val, by omega⟩)) (fun e => c (ix2 a e)) (fun e => s (ix2 a e)) e := by
  unfold queriesL turnedRow join
  pointwise
  by_cases h₁ : e.val < 128
  · simp only [dif_pos h₁]
    exact same _ _ (by dsimp only <;> omega)
  · by_cases h₂ : e.val < 160
    · have h₃ : e.val - 128 < 32 := by omega
      simp only [dif_neg h₁, dif_pos h₂, dif_pos h₃]
      exact congrArg₂ (· - ·) (congrArg₂ (· * ·) (same _ _ (by dsimp only <;> omega)) rfl) (congrArg₂ (· * ·) (same _ _ (by dsimp only <;> omega)) rfl)
    · have h₃ : ¬ e.val - 128 < 32 := by omega
      simp only [dif_neg h₁, dif_neg h₂, dif_neg h₃]
      exact congrArg₂ (· + ·) (congrArg₂ (· * ·) (same _ _ (by dsimp only <;> omega)) (same _ _ (by dsimp only <;> omega)))
        (congrArg₂ (· * ·) (same _ _ (by dsimp only <;> omega)) (same _ _ (by dsimp only <;> omega)))
theorem keysL_apply (h : Fin 8) (a : Fin 4096) (e : Fin 192) : (keysL p c s K : _ → EReal) (ix3 h a e)
    = turnedRow (fun e => K (ix2 a ⟨256 * h.val + e.val, by omega⟩)) (fun e => p (ix2 a ⟨768 + e.val, by omega⟩))
    (fun e => p (ix2 a ⟨800 + e.val, by omega⟩)) (fun e => c (ix2 a e)) (fun e => s (ix2 a e)) e := by
  unfold keysL turnedRow join
  pointwise
  by_cases h₁ : e.val < 128
  · simp only [dif_pos h₁]
    exact same _ _ (by dsimp only <;> omega)
  · by_cases h₂ : e.val < 160
    · have h₃ : e.val - 128 < 32 := by omega
      simp only [dif_neg h₁, dif_pos h₂, dif_pos h₃]
      exact congrArg₂ (· - ·) (congrArg₂ (· * ·) (same _ _ (by dsimp only <;> omega)) rfl) (congrArg₂ (· * ·) (same _ _ (by dsimp only <;> omega)) rfl)
    · have h₃ : ¬ e.val - 128 < 32 := by omega
      simp only [dif_neg h₁, dif_neg h₂, dif_neg h₃]
      exact congrArg₂ (· + ·) (congrArg₂ (· * ·) (same _ _ (by dsimp only <;> omega)) (same _ _ (by dsimp only <;> omega)))
        (congrArg₂ (· * ·) (same _ _ (by dsimp only <;> omega)) (same _ _ (by dsimp only <;> omega)))
end

end Cert.QkvRefIdeal.Value

namespace Cert

open Cert.QkvIdeal Cert.QkvIdeal.Value Cert.QkvRefIdeal.Value in
theorem qkv_algebraic : algebraic_QkvIdeal_QkvRefIdeal := by
  intro m g m' g' _ hag
  refine ⟨fun c => NORMQ (aProj m c) (aGainQ m c), fun c => NORMK (aProj m c) (aGainK m c), fun c => QUERIES (aProj m c) (aGainQ m c) (aUpQ m c) (aCos m c) (aSin m c),
    fun c => KEYS (aProj m c) (aGainK m c) (aUpK m c) (aCos m c) (aSin m c), fun c => VALUES (aProj m c) (aGainK m c) (aUpK m c), ?_, ?_⟩
  · refine (θ_run _ _ _).mono (fun r h c => ?_) (QkvIdeal.Value.run_blocks m g)
    obtain ⟨h0, h1, h2, h3, h4, hu⟩ := h c
    exact ⟨h0.trans (final7 m c), h1.trans (final8 m c), h2.trans (final9 m c), h3.trans (final10 m c), h4.trans (final11 m c), hu⟩
  · refine (θ_run _ _ _).mono (fun r h c => ?_) (QkvRefIdeal.Value.run m' g')
    obtain ⟨h0, h1, h2, h3, h4, hu⟩ := h c
    obtain ⟨e0, e1, e2, e3, e4, e5⟩ := hag c
    refine ⟨h0.trans (funext fun i => ?_), h1.trans (funext fun i => ?_), h2.trans (funext fun i => ?_), h3.trans (funext fun i => ?_),
      h4.trans (funext fun i => ?_), hu⟩
    · obtain ⟨a, j, rfl⟩ : ∃ (a : Fin 4096) (j : Fin 512), i = ix2 a j := ⟨i 0, i 1, eq_ix2 i⟩
      rw [e1, e2]
      exact normQL_apply (aProj m c) (aGainQ m c) a j
    · obtain ⟨a, j, rfl⟩ : ∃ (a : Fin 4096) (j : Fin 256), i = ix2 a j := ⟨i 0, i 1, eq_ix2 i⟩
      rw [e1, e3]
      exact normKL_apply (aProj m c) (aGainK m c) a j
    · obtain ⟨b, a, e, rfl⟩ : ∃ (b : Fin 8) (a : Fin 4096) (e : Fin 192), i = ix3 b a e := ⟨i 0, i 1, i 2, eq_ix3 i⟩
      unfold QkvRefIdeal.Value.res_main_v88
      rw [e0, e1, e2, e4]
      refine (queriesL_apply (aCos m c) (aSin m c) (upQL (aProj m c) (aGainQ m c) (aUpQ m c)) b a e).trans ?_
      simp only [upQL_apply]
      rfl
    · obtain ⟨b, a, e, rfl⟩ : ∃ (b : Fin 8) (a : Fin 4096) (e : Fin 192), i = ix3 b a e := ⟨i 0, i 1, i 2, eq_ix3 i⟩
      unfold QkvRefIdeal.Value.res_main_v89
      rw [e0, e1, e3, e5]
      refine (keysL_apply (aProj m c) (aCos m c) (aSin m c) (upKL (aProj m c) (aGainK m c) (aUpK m c)) b a e).trans ?_
      simp only [upKL_apply]
      rfl
    · obtain ⟨b, a, e, rfl⟩ : ∃ (b : Fin 8) (a : Fin 4096) (e : Fin 128), i = ix3 b a e := ⟨i 0, i 1, i 2, eq_ix3 i⟩
      rw [e1, e3, e5]
      exact (valuesL_apply (upKL (aProj m c) (aGainK m c) (aUpK m c)) b a e).trans (upKL_apply (aProj m c) (aGainK m c) (aUpK m c) a _)

end Cert

end
-- ==== Proof.UpFrame.lean ====
module

public import proofs.«01_k».proof.Proof.UpIdealFrame
public import proofs.«01_k».proof.Proof.Gen.Up.Launch
public import proofs.«01_k».proof.Defs

/-! The same run over the machine's own floats: the two programs have one text. -/

@[expose] public section

set_option maxRecDepth 16384

namespace Cert.Up.Gen

open Idealize.ShloMosaic Idealize.ShloMosaic.TcCoe Idealize.SL.Sem

theorem one_table : Cert.Up.defs (F := Bits) = Cert.UpIdeal.defs (F := Bits) := by sl_kernel_rfl
theorem one_text : Cert.Up.main (F := Bits) = Cert.UpIdeal.main (F := Bits) := by sl_kernel_rfl

/-- The program runs to its end from any memory, its arguments unchanged and no signal pending. -/
theorem frame : Cert.quiescent_Up := fun m ρ _ => by
  rw [one_text, one_table]
  exact Cert.UpIdeal.Gen.frame (F := Bits) m ρ

end Cert.Up.Gen
-- ==== Proof.lean ====
module

public import proofs.«01_k».proof.Proof.AttnFacts
public import proofs.«01_k».proof.Proof.AttnFrame
public import proofs.«01_k».proof.Proof.AttnGrad
public import proofs.«01_k».proof.Proof.AttnIdealFacts
public import proofs.«01_k».proof.Proof.AttnIdealFinal
public import proofs.«01_k».proof.Proof.AttnIdealFrame
public import proofs.«01_k».proof.Proof.AttnIdealHost
public import proofs.«01_k».proof.Proof.AttnIdealReal
public import proofs.«01_k».proof.Proof.AttnIdealRuns
public import proofs.«01_k».proof.Proof.AttnIdealSums
public import proofs.«01_k».proof.Proof.AttnIdealTiles
public import proofs.«01_k».proof.Proof.AttnIdealValue
public import proofs.«01_k».proof.Proof.AttnIdealWhole
public import proofs.«01_k».proof.Proof.AttnMath
public import proofs.«01_k».proof.Proof.AttnReference
public import proofs.«01_k».proof.Proof.AttnRuns
public import proofs.«01_k».proof.Proof.AttnWhole
public import proofs.«01_k».proof.Proof.BoundsForward
public import proofs.«01_k».proof.Proof.DdownFrame
public import proofs.«01_k».proof.Proof.DdownGrad
public import proofs.«01_k».proof.Proof.DdownIdealFrame
public import proofs.«01_k».proof.Proof.DdownIdealRun
public import proofs.«01_k».proof.Proof.DinGrad
public import proofs.«01_k».proof.Proof.DownForward
public import proofs.«01_k».proof.Proof.DupGrad
public import proofs.«01_k».proof.Proof.DwGrad
public import proofs.«01_k».proof.Proof.HgdoGrad
public import proofs.«01_k».proof.Proof.LossGrad
public import proofs.«01_k».proof.Proof.LowerBound
public import proofs.«01_k».proof.Proof.MidBlocks
public import proofs.«01_k».proof.Proof.MidFinals
public import proofs.«01_k».proof.Proof.MidGrad
public import proofs.«01_k».proof.Proof.MidReference
public import proofs.«01_k».proof.Proof.MidRows
public import proofs.«01_k».proof.Proof.MidStores
public import proofs.«01_k».proof.Proof.MinForward
public import proofs.«01_k».proof.Proof.MladoGrad
public import proofs.«01_k».proof.Proof.NormLines
public import proofs.«01_k».proof.Proof.NormMath
public import proofs.«01_k».proof.Proof.OutFacts
public import proofs.«01_k».proof.Proof.OutFrame
public import proofs.«01_k».proof.Proof.OutGrad
public import proofs.«01_k».proof.Proof.OutIdealFacts
public import proofs.«01_k».proof.Proof.OutIdealFinal
public import proofs.«01_k».proof.Proof.OutIdealFrame
public import proofs.«01_k».proof.Proof.OutIdealRuns
public import proofs.«01_k».proof.Proof.OutIdealSums
public import proofs.«01_k».proof.Proof.OutIdealTiles
public import proofs.«01_k».proof.Proof.OutIdealValue
public import proofs.«01_k».proof.Proof.OutIdealWhole
public import proofs.«01_k».proof.Proof.OutMath
public import proofs.«01_k».proof.Proof.OutReference
public import proofs.«01_k».proof.Proof.OutRuns
public import proofs.«01_k».proof.Proof.OutWhole
public import proofs.«01_k».proof.Proof.PostForward
public import proofs.«01_k».proof.Proof.QkvForward
public import proofs.«01_k».proof.Proof.Reals
public import proofs.«01_k».proof.Proof.UpForward
public import proofs.«01_k».proof.Proof.UpFrame
public import proofs.«01_k».proof.Proof.UpIdealFrame
public import proofs.«01_k».proof.Proof.UpIdealRun
public import proofs.«01_k».proof.Proof.Gen.AttnRefIdeal.Run
public import proofs.«01_k».proof.Proof.Gen.Bounds.Frame
public import proofs.«01_k».proof.Proof.Gen.BoundsIdeal.Frame
public import proofs.«01_k».proof.Proof.Gen.BoundsRefIdeal.Run
public import proofs.«01_k».proof.Proof.Gen.Ddown.Frame
public import proofs.«01_k».proof.Proof.Gen.DdownIdeal.Frame
public import proofs.«01_k».proof.Proof.Gen.DdownRefIdeal.Run
public import proofs.«01_k».proof.Proof.Gen.Din.Frame
public import proofs.«01_k».proof.Proof.Gen.DinIdeal.Frame
public import proofs.«01_k».proof.Proof.Gen.DinRefIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.Dup.Frame
public import proofs.«01_k».proof.Proof.Gen.DupIdeal.Frame
public import proofs.«01_k».proof.Proof.Gen.DupRefIdeal.Run
public import proofs.«01_k».proof.Proof.Gen.Dw.Frame
public import proofs.«01_k».proof.Proof.Gen.DwIdeal.Frame
public import proofs.«01_k».proof.Proof.Gen.DwRefIdeal.Run
public import proofs.«01_k».proof.Proof.Gen.Hgdo.Frame
public import proofs.«01_k».proof.Proof.Gen.HgdoIdeal.Frame
public import proofs.«01_k».proof.Proof.Gen.HgdoRefIdeal.Run
public import proofs.«01_k».proof.Proof.Gen.Lb.Frame
public import proofs.«01_k».proof.Proof.Gen.LbIdeal.Frame
public import proofs.«01_k».proof.Proof.Gen.LbRefIdeal.Run
public import proofs.«01_k».proof.Proof.Gen.Loss.Frame
public import proofs.«01_k».proof.Proof.Gen.LossIdeal.Frame
public import proofs.«01_k».proof.Proof.Gen.LossRefIdeal.Run
public import proofs.«01_k».proof.Proof.Gen.Mid.Frame
public import proofs.«01_k».proof.Proof.Gen.MidIdeal.Frame
public import proofs.«01_k».proof.Proof.Gen.MidRefIdeal.Run
public import proofs.«01_k».proof.Proof.Gen.Min.Frame
public import proofs.«01_k».proof.Proof.Gen.MinIdeal.Frame
public import proofs.«01_k».proof.Proof.Gen.MinRefIdeal.Run
public import proofs.«01_k».proof.Proof.Gen.Mlado.Frame
public import proofs.«01_k».proof.Proof.Gen.MladoIdeal.Frame
public import proofs.«01_k».proof.Proof.Gen.MladoRefIdeal.Run
public import proofs.«01_k».proof.Proof.Gen.OutRefIdeal.Run
public import proofs.«01_k».proof.Proof.Gen.Post.Frame
public import proofs.«01_k».proof.Proof.Gen.PostIdeal.Frame
public import proofs.«01_k».proof.Proof.Gen.PostRefIdeal.Run
public import proofs.«01_k».proof.Proof.Gen.Qkv.Frame
public import proofs.«01_k».proof.Proof.Gen.QkvIdeal.Frame
public import proofs.«01_k».proof.Proof.Gen.QkvRefIdeal.Run
public import proofs.«01_k».proof.Proof.Gen.Up.Frame
public import proofs.«01_k».proof.Proof.Gen.UpIdeal.Frame
public import proofs.«01_k».proof.Proof.Gen.UpRefIdeal.Run
public import proofs.«01_k».proof.Defs
public import Idealize.ShloMosaic.Adequacy
public import Idealize.ShloMosaic.Init

@[expose] public section

noncomputable section

namespace Cert

open Idealize.ShloMosaic Idealize.SL.Sem

instance : Pre_lb_finite.Facts := ⟨by decide⟩

instance : Pre_attn_finite.Facts := ⟨by decide, by decide, by decide⟩

instance : Pre_out_finite.Facts := ⟨by decide, by decide⟩

instance : Pre_dup_finite.Facts := ⟨by decide, by decide, by decide, by decide⟩

instance : Pre_din_finite.Facts := ⟨by decide, by decide, by decide, by decide⟩

instance : Pre_ddown_finite.Facts := ⟨by decide, by decide, by decide⟩

instance : Pre_mlado_finite.Facts := ⟨by decide, by decide, by decide⟩

instance : Pre_hgdo_finite.Facts := ⟨by decide, by decide, by decide⟩

instance : Pre_mid_finite.Facts := ⟨by decide, by decide, by decide, by decide, by decide, by decide, by decide⟩

instance : Pre_bounds_finite.Facts := ⟨by decide⟩

/-- The reference runs, its arguments end unchanged and every counter is zero. -/
theorem AttnRefIdeal_frame : quiescent_AttnRefIdeal := fun m ρ _ =>
  (θ_run AttnRefIdeal.defs _ _).mono (fun r h => ⟨fun c => (h c).2.2.2, sem_eq_zero_of_no_sems (by decide) r.2⟩) (AttnRefIdeal.Value.run (F := Ideal) m ρ)

/-- The reference runs, its arguments end unchanged and every counter is zero. -/
theorem BoundsRefIdeal_frame : quiescent_BoundsRefIdeal := fun m ρ _ =>
  (θ_run BoundsRefIdeal.defs _ _).mono (fun r h => ⟨fun c => (h c).2, sem_eq_zero_of_no_sems (by decide) r.2⟩) (BoundsRefIdeal.Value.run (F := Ideal) m ρ)

/-- The reference runs, its arguments end unchanged and every counter is zero. -/
theorem DdownRefIdeal_frame : quiescent_DdownRefIdeal := fun m ρ _ =>
  (θ_run DdownRefIdeal.defs _ _).mono (fun r h => ⟨fun c => (h c).2.2.2, sem_eq_zero_of_no_sems (by decide) r.2⟩) (DdownRefIdeal.Value.run (F := Ideal) m ρ)

/-- The reference runs, its arguments end unchanged and every counter is zero. -/
theorem DinRefIdeal_frame : quiescent_DinRefIdeal := fun m ρ _ =>
  (θ_run DinRefIdeal.defs _ _).mono (fun r h => ⟨fun c => (h c).2.2, sem_eq_zero_of_no_sems (by decide) r.2⟩) (DinRefIdeal.Value.run (F := Ideal) m ρ)

/-- The reference runs, its arguments end unchanged and every counter is zero. -/
theorem DownRefIdeal_frame : quiescent_DownRefIdeal := fun m ρ _ =>
  (θ_run DownRefIdeal.defs _ _).mono (fun r h => ⟨fun c => (h c).2.2, sem_eq_zero_of_no_sems (by decide) r.2⟩) (DownRefIdeal.Value.run (F := Ideal) m ρ)

/-- The reference runs, its arguments end unchanged and every counter is zero. -/
theorem DupRefIdeal_frame : quiescent_DupRefIdeal := fun m ρ _ =>
  (θ_run DupRefIdeal.defs _ _).mono (fun r h => ⟨fun c => (h c).2.2, sem_eq_zero_of_no_sems (by decide) r.2⟩) (DupRefIdeal.Value.run (F := Ideal) m ρ)

/-- The reference runs, its arguments end unchanged and every counter is zero. -/
theorem DwRefIdeal_frame : quiescent_DwRefIdeal := fun m ρ _ =>
  (θ_run DwRefIdeal.defs _ _).mono (fun r h => ⟨fun c => (h c).2, sem_eq_zero_of_no_sems (by decide) r.2⟩) (DwRefIdeal.Value.run (F := Ideal) m ρ)

/-- The reference runs, its arguments end unchanged and every counter is zero. -/
theorem HgdoRefIdeal_frame : quiescent_HgdoRefIdeal := fun m ρ _ =>
  (θ_run HgdoRefIdeal.defs _ _).mono (fun r h => ⟨fun c => (h c).2.2.2, sem_eq_zero_of_no_sems (by decide) r.2⟩) (HgdoRefIdeal.Value.run (F := Ideal) m ρ)

/-- The reference runs, its arguments end unchanged and every counter is zero. -/
theorem LbRefIdeal_frame : quiescent_LbRefIdeal := fun m ρ _ =>
  (θ_run LbRefIdeal.defs _ _).mono (fun r h => ⟨fun c => (h c).2, sem_eq_zero_of_no_sems (by decide) r.2⟩) (LbRefIdeal.Value.run (F := Ideal) m ρ)

/-- The reference runs, its arguments end unchanged and every counter is zero. -/
theorem LossRefIdeal_frame : quiescent_LossRefIdeal := fun m ρ _ =>
  (θ_run LossRefIdeal.defs _ _).mono (fun r h => ⟨fun c => (h c).2.2, sem_eq_zero_of_no_sems (by decide) r.2⟩) (LossRefIdeal.Value.run (F := Ideal) m ρ)

/-- The reference runs, its arguments end unchanged and every counter is zero. -/
theorem MidRefIdeal_frame : quiescent_MidRefIdeal := fun m ρ _ =>
  (θ_run MidRefIdeal.defs _ _).mono (fun r h => ⟨fun c => (h c).2.2.2.2.2, sem_eq_zero_of_no_sems (by decide) r.2⟩) (MidRefIdeal.Value.run (F := Ideal) m ρ)

/-- The reference runs, its arguments end unchanged and every counter is zero. -/
theorem MinRefIdeal_frame : quiescent_MinRefIdeal := fun m ρ _ =>
  (θ_run MinRefIdeal.defs _ _).mono (fun r h => ⟨fun c => (h c).2.2, sem_eq_zero_of_no_sems (by decide) r.2⟩) (MinRefIdeal.Value.run (F := Ideal) m ρ)

/-- The reference runs, its arguments end unchanged and every counter is zero. -/
theorem MladoRefIdeal_frame : quiescent_MladoRefIdeal := fun m ρ _ =>
  (θ_run MladoRefIdeal.defs _ _).mono (fun r h => ⟨fun c => (h c).2.2.2.2, sem_eq_zero_of_no_sems (by decide) r.2⟩) (MladoRefIdeal.Value.run (F := Ideal) m ρ)

/-- The reference runs, its arguments end unchanged and every counter is zero. -/
theorem OutRefIdeal_frame : quiescent_OutRefIdeal := fun m ρ _ =>
  (θ_run OutRefIdeal.defs _ _).mono (fun r h => ⟨fun c => (h c).2.2, sem_eq_zero_of_no_sems (by decide) r.2⟩) (OutRefIdeal.Value.run (F := Ideal) m ρ)

/-- The reference runs, its arguments end unchanged and every counter is zero. -/
theorem PostRefIdeal_frame : quiescent_PostRefIdeal := fun m ρ _ =>
  (θ_run PostRefIdeal.defs _ _).mono (fun r h => ⟨fun c => (h c).2.2, sem_eq_zero_of_no_sems (by decide) r.2⟩) (PostRefIdeal.Value.run (F := Ideal) m ρ)

/-- The reference runs, its arguments end unchanged and every counter is zero. -/
theorem QkvRefIdeal_frame : quiescent_QkvRefIdeal := fun m ρ _ =>
  (θ_run QkvRefIdeal.defs _ _).mono (fun r h => ⟨fun c => (h c).2.2.2.2.2, sem_eq_zero_of_no_sems (by decide) r.2⟩) (QkvRefIdeal.Value.run (F := Ideal) m ρ)

/-- The reference runs, its arguments end unchanged and every counter is zero. -/
theorem UpRefIdeal_frame : quiescent_UpRefIdeal := fun m ρ _ =>
  (θ_run UpRefIdeal.defs _ _).mono (fun r h => ⟨fun c => (h c).2.2, sem_eq_zero_of_no_sems (by decide) r.2⟩) (UpRefIdeal.Value.run (F := Ideal) m ρ)

theorem claim : Claim :=
  ⟨Cert.Lb.Gen.facts,
    Cert.LbIdeal.Gen.facts,
    Cert.LbRefIdeal.Gen.facts,
    Cert.Loss.Gen.facts,
    Cert.LossIdeal.Gen.facts,
    Cert.LossRefIdeal.Gen.facts,
    Cert.Attn.Gen.facts,
    Cert.AttnIdeal.Gen.facts,
    Cert.AttnRefIdeal.Gen.facts,
    Cert.Out.Gen.facts,
    Cert.OutIdeal.Gen.facts,
    Cert.OutRefIdeal.Gen.facts,
    Cert.Dup.Gen.facts,
    Cert.DupIdeal.Gen.facts,
    Cert.DupRefIdeal.Gen.facts,
    Cert.Din.Gen.facts,
    Cert.DinIdeal.Gen.facts,
    Cert.DinRefIdeal.Gen.facts,
    Cert.Ddown.Gen.facts,
    Cert.DdownIdeal.Gen.facts,
    Cert.DdownRefIdeal.Gen.facts,
    Cert.Mlado.Gen.facts,
    Cert.MladoIdeal.Gen.facts,
    Cert.MladoRefIdeal.Gen.facts,
    Cert.Hgdo.Gen.facts,
    Cert.HgdoIdeal.Gen.facts,
    Cert.HgdoRefIdeal.Gen.facts,
    Cert.Mid.Gen.facts,
    Cert.MidIdeal.Gen.facts,
    Cert.MidRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Bounds.Gen.facts,
    Cert.BoundsIdeal.Gen.facts,
    Cert.BoundsRefIdeal.Gen.facts,
    Cert.Post.Gen.facts,
    Cert.PostIdeal.Gen.facts,
    Cert.PostRefIdeal.Gen.facts,
    Cert.Min.Gen.facts,
    Cert.MinIdeal.Gen.facts,
    Cert.MinRefIdeal.Gen.facts,
    Cert.Qkv.Gen.facts,
    Cert.QkvIdeal.Gen.facts,
    Cert.QkvRefIdeal.Gen.facts,
    Cert.Dw.Gen.facts,
    Cert.DwIdeal.Gen.facts,
    Cert.DwRefIdeal.Gen.facts,
    inferInstance,
    inferInstance,
    inferInstance,
    inferInstance,
    inferInstance,
    inferInstance,
    inferInstance,
    inferInstance,
    inferInstance,
    inferInstance,
    fun m ρ _ => Cert.Lb.Gen.frame m ρ,
    fun m ρ _ => Cert.LbIdeal.Gen.frame m ρ,
    fun m ρ _ => Cert.LbIdeal.Gen.frame m ρ,
    LbRefIdeal_frame,
    fun m ρ _ => LbRefIdeal_frame m ρ trivial,
    fun m ρ _ => Cert.Loss.Gen.frame m ρ,
    fun m ρ _ => Cert.LossIdeal.Gen.frame m ρ,
    LossRefIdeal_frame,
    fun m ρ _ => Cert.Attn.Gen.frame m ρ,
    fun m ρ _ => Cert.AttnIdeal.Gen.frame m ρ,
    fun m ρ _ => Cert.AttnIdeal.Gen.frame m ρ,
    AttnRefIdeal_frame,
    fun m ρ _ => AttnRefIdeal_frame m ρ trivial,
    fun m ρ _ => Cert.Out.Gen.frame m ρ,
    fun m ρ _ => Cert.OutIdeal.Gen.frame m ρ,
    fun m ρ _ => Cert.OutIdeal.Gen.frame m ρ,
    OutRefIdeal_frame,
    fun m ρ _ => OutRefIdeal_frame m ρ trivial,
    fun m ρ _ => Cert.Dup.Gen.frame m ρ,
    fun m ρ _ => Cert.DupIdeal.Gen.frame m ρ,
    fun m ρ _ => Cert.DupIdeal.Gen.frame m ρ,
    DupRefIdeal_frame,
    fun m ρ _ => DupRefIdeal_frame m ρ trivial,
    fun m ρ _ => Cert.Din.Gen.frame m ρ,
    fun m ρ _ => Cert.DinIdeal.Gen.frame m ρ,
    fun m ρ _ => Cert.DinIdeal.Gen.frame m ρ,
    DinRefIdeal_frame,
    fun m ρ _ => DinRefIdeal_frame m ρ trivial,
    Cert.Ddown.Gen.frame,
    fun m ρ _ => Cert.DdownIdeal.Gen.frame m ρ,
    fun m ρ _ => Cert.DdownIdeal.Gen.frame m ρ,
    DdownRefIdeal_frame,
    fun m ρ _ => DdownRefIdeal_frame m ρ trivial,
    fun m ρ _ => Cert.Mlado.Gen.frame m ρ,
    fun m ρ _ => Cert.MladoIdeal.Gen.frame m ρ,
    fun m ρ _ => Cert.MladoIdeal.Gen.frame m ρ,
    MladoRefIdeal_frame,
    fun m ρ _ => MladoRefIdeal_frame m ρ trivial,
    fun m ρ _ => Cert.Hgdo.Gen.frame m ρ,
    fun m ρ _ => Cert.HgdoIdeal.Gen.frame m ρ,
    fun m ρ _ => Cert.HgdoIdeal.Gen.frame m ρ,
    HgdoRefIdeal_frame,
    fun m ρ _ => HgdoRefIdeal_frame m ρ trivial,
    fun m ρ _ => Cert.Mid.Gen.frame m ρ,
    fun m ρ _ => Cert.MidIdeal.Gen.frame m ρ,
    fun m ρ _ => Cert.MidIdeal.Gen.frame m ρ,
    MidRefIdeal_frame,
    fun m ρ _ => MidRefIdeal_frame m ρ trivial,
    Cert.Up.Gen.frame,
    fun m ρ _ => Cert.UpIdeal.Gen.frame m ρ,
    UpRefIdeal_frame,
    fun m ρ _ => Cert.Down.Gen.frame m ρ,
    fun m ρ _ => Cert.DownIdeal.Gen.frame m ρ,
    DownRefIdeal_frame,
    fun m ρ _ => Cert.Bounds.Gen.frame m ρ,
    fun m ρ _ => Cert.BoundsIdeal.Gen.frame m ρ,
    fun m ρ _ => Cert.BoundsIdeal.Gen.frame m ρ,
    BoundsRefIdeal_frame,
    fun m ρ _ => BoundsRefIdeal_frame m ρ trivial,
    fun m ρ _ => Cert.Post.Gen.frame m ρ,
    fun m ρ _ => Cert.PostIdeal.Gen.frame m ρ,
    PostRefIdeal_frame,
    fun m ρ _ => Cert.Min.Gen.frame m ρ,
    fun m ρ _ => Cert.MinIdeal.Gen.frame m ρ,
    MinRefIdeal_frame,
    fun m ρ _ => Cert.Qkv.Gen.frame m ρ,
    fun m ρ _ => Cert.QkvIdeal.Gen.frame m ρ,
    QkvRefIdeal_frame,
    fun m ρ _ => Cert.Dw.Gen.frame m ρ,
    fun m ρ _ => Cert.DwIdeal.Gen.frame m ρ,
    DwRefIdeal_frame,
    trivial,
    lb_algebraic,
    trivial,
    loss_algebraic,
    attn_preserves,
    attn_algebraic,
    out_preserves,
    out_algebraic,
    trivial,
    dup_algebraic,
    trivial,
    din_algebraic,
    trivial,
    ddown_algebraic,
    trivial,
    mlado_algebraic,
    trivial,
    hgdo_algebraic,
    trivial,
    mid_algebraic,
    trivial,
    up_algebraic,
    trivial,
    down_algebraic,
    trivial,
    bounds_algebraic,
    trivial,
    post_algebraic,
    trivial,
    min_algebraic,
    trivial,
    qkv_algebraic,
    trivial,
    dw_algebraic⟩

end Cert

namespace Cert.Proof

/-- Everything the certificate claims. -/
theorem claim : Cert.Claim := Cert.claim

end Cert.Proof

end
